-- ==== Defs.lean ====
def Pre_Kernel [hPre_in_band : Cert.Pre_in_band.Facts] (m : (ℓ : Loc Cert.Kernel.nD Cert.Kernel.τ Cert.Kernel.sig) → Buf (Elt Bits) ℓ) : Prop :=
  ∀ c : Dev Cert.Kernel.nD,
    (Cert.Pre_in_band.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_band : Cert.Pre_in_band.Facts] (m : (ℓ : Loc Cert.KernelIdeal.nD Cert.KernelIdeal.τ Cert.KernelIdeal.sig) → Buf (Elt Ideal) ℓ) : Prop :=
  ∀ c : Dev Cert.KernelIdeal.nD,
    (Cert.Pre_in_band.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_band : Cert.Pre_in_band.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_band : Cert.Pre_in_band.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v214)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v214) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_band : Cert.Pre_in_band.Facts) (hPre_in_range : Cert.Pre_in_range.Facts),
    quiescent_Kernel (hKernel := hKernel) (hPre_in_band := hPre_in_band)
    ∧ quiescent_KernelIdeal (hKernelIdeal := hKernelIdeal) (hPre_in_band := hPre_in_band)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_band.lean ====
abbrev S4x96x96x96x2 : Shape := ⟨5, ![4, 96, 96, 96, 2]⟩
abbrev S4x3x4 : Shape := ⟨3, ![4, 3, 4]⟩
abbrev S4x12 : Shape := ⟨2, ![4, 12]⟩
abbrev S_ : Shape := ⟨0, ![]⟩
abbrev S4x4 : Shape := ⟨2, ![4, 4]⟩
abbrev S4x16 : Shape := ⟨2, ![4, 16]⟩
abbrev S95 : Shape := ⟨1, ![95]⟩
abbrev S1 : Shape := ⟨1, ![1]⟩
abbrev S96 : Shape := ⟨1, ![96]⟩
abbrev S16 : Shape := ⟨1, ![16]⟩
abbrev S112 : Shape := ⟨1, ![112]⟩
abbrev S4x3x1 : Shape := ⟨3, ![4, 3, 1]⟩
abbrev S4x3 : Shape := ⟨2, ![4, 3]⟩
abbrev S288 : Shape := ⟨1, ![288]⟩
abbrev S288x1 : Shape := ⟨2, ![288, 1]⟩
abbrev S288x2 : Shape := ⟨2, ![288, 2]⟩
abbrev S288x16 : Shape := ⟨2, ![288, 16]⟩
abbrev S32x9x16 : Shape := ⟨3, ![32, 9, 16]⟩
abbrev S32x9x1 : Shape := ⟨3, ![32, 9, 1]⟩
abbrev S32x9 : Shape := ⟨2, ![32, 9]⟩
abbrev S4x1 : Shape := ⟨2, ![4, 1]⟩
abbrev S1x96 : Shape := ⟨2, ![1, 96]⟩
abbrev S4x96 : Shape := ⟨2, ![4, 96]⟩
abbrev S4x1x1x96 : Shape := ⟨4, ![4, 1, 1, 96]⟩
abbrev S4x96x1x1 : Shape := ⟨4, ![4, 96, 1, 1]⟩
abbrev S4x96x1x96 : Shape := ⟨4, ![4, 96, 1, 96]⟩
abbrev S4x1x96x1 : Shape := ⟨4, ![4, 1, 96, 1]⟩
abbrev S4x96x96x96 : Shape := ⟨4, ![4, 96, 96, 96]⟩
abbrev S4 : Shape := ⟨1, ![4]⟩
abbrev S4x1x1x1 : Shape := ⟨4, ![4, 1, 1, 1]⟩
abbrev S4x12x6 : Shape := ⟨3, ![4, 12, 6]⟩
abbrev S4x12x8x6 : Shape := ⟨4, ![4, 12, 8, 6]⟩
abbrev S4x96x6 : Shape := ⟨3, ![4, 96, 6]⟩
abbrev S4x96x6x16 : Shape := ⟨4, ![4, 96, 6, 16]⟩
abbrev S4x96x96 : Shape := ⟨3, ![4, 96, 96]⟩
abbrev S4x96x96x1 : Shape := ⟨4, ![4, 96, 96, 1]⟩

class Facts : Prop where
  bitsLt_bf16_f32 : FTy.bits .bf16 < FTy.bits .f32
  shapeCasts_S4x3x4_S4x12 : S4x3x4.ShapeCasts S4x12
  bcast_S_S4x4 : S_.BroadcastsInDim S4x4 (![] : Fin 0 → Fin S4x4.rank)
  concatenates_S4x12_S4x4_S4x16_d1 : Shape.Concatenates [S4x12, S4x4] S4x16 1
  bcast_S_S95 : S_.BroadcastsInDim S95 (![] : Fin 0 → Fin S95.rank)
  shapeCasts_S_S1 : S_.ShapeCasts S1
  bcast_S1_S95_0 : S1.BroadcastsInDim S95 (![0] : Fin 1 → Fin S95.rank)
  bcast_S_S1 : S_.BroadcastsInDim S1 (![] : Fin 0 → Fin S1.rank)
  concatenates_S95_S1_S96_d0 : Shape.Concatenates [S95, S1] S96 0
  bcast_S_S16 : S_.BroadcastsInDim S16 (![] : Fin 0 → Fin S16.rank)
  concatenates_S96_S16_S112_d0 : Shape.Concatenates [S96, S16] S112 0
  slices_S4x3x4_S4x3x1_0_0_0 : S4x3x4.Slices ![0, 0, 0] S4x3x1
  shapeCasts_S4x3x1_S4x3 : S4x3x1.ShapeCasts S4x3
  bcast_S_S4x3 : S_.BroadcastsInDim S4x3 (![] : Fin 0 → Fin S4x3.rank)
  slices_S4x3x4_S4x3x1_0_0_1 : S4x3x4.Slices ![0, 0, 1] S4x3x1
  slices_S4x3x4_S4x3x1_0_0_2 : S4x3x4.Slices ![0, 0, 2] S4x3x1
  slices_S4x3x4_S4x3x1_0_0_3 : S4x3x4.Slices ![0, 0, 3] S4x3x1
  bcast_S_S288 : S_.BroadcastsInDim S288 (![] : Fin 0 → Fin S288.rank)
  bcast_S288_S288x1_0 : S288.BroadcastsInDim S288x1 (![0] : Fin 1 → Fin S288x1.rank)
  concatenates_S288x1_S288x1_S288x2_d1 : Shape.Concatenates [S288x1, S288x1] S288x2 1
  concatenates_S288x1_S288x1_S288x1_S288x1_S288x1_S288x1_S288x1_S288x1_S288x1_S288x1_S288x1_S288x1_S288x1_S288x1_S288x1_S288x1_S288x16_d1 : Shape.Concatenates [S288x1, S288x1, S288x1, S288x1, S288x1, S288x1, S288x1, S288x1, S288x1, S288x1, S288x1, S288x1, S288x1, S288x1, S288x1, S288x1] S288x16 1
  shapeCasts_S288x16_S32x9x16 : S288x16.ShapeCasts S32x9x16
  slices_S112_S96_0 : S112.Slices ![0] S96
  slices_S32x9x16_S32x9x1_0_0_3 : S32x9x16.Slices ![0, 0, 3] S32x9x1
  shapeCasts_S32x9x1_S32x9 : S32x9x1.ShapeCasts S32x9
  slices_S4x16_S4x1_0_8 : S4x16.Slices ![0, 8] S4x1
  bcast_S96_S1x96_1 : S96.BroadcastsInDim S1x96 (![1] : Fin 1 → Fin S1x96.rank)
  bcast_S1x96_S4x96_0_1 : S1x96.BroadcastsInDim S4x96 (![0, 1] : Fin 2 → Fin S4x96.rank)
  bcast_S4x1_S4x96_0_1 : S4x1.BroadcastsInDim S4x96 (![0, 1] : Fin 2 → Fin S4x96.rank)
  slices_S4x16_S4x1_0_9 : S4x16.Slices ![0, 9] S4x1
  slices_S4x16_S4x1_0_10 : S4x16.Slices ![0, 10] S4x1
  bcast_S4x96_S4x1x1x96_0_3 : S4x96.BroadcastsInDim S4x1x1x96 (![0, 3] : Fin 2 → Fin S4x1x1x96.rank)
  bcast_S4x96_S4x96x1x1_0_1 : S4x96.BroadcastsInDim S4x96x1x1 (![0, 1] : Fin 2 → Fin S4x96x1x1.rank)
  bcast_S4x1x1x96_S4x96x1x96_0_1_2_3 : S4x1x1x96.BroadcastsInDim S4x96x1x96 (![0, 1, 2, 3] : Fin 4 → Fin S4x96x1x96.rank)
  bcast_S4x96x1x1_S4x96x1x96_0_1_2_3 : S4x96x1x1.BroadcastsInDim S4x96x1x96 (![0, 1, 2, 3] : Fin 4 → Fin S4x96x1x96.rank)
  bcast_S4x96_S4x1x96x1_0_2 : S4x96.BroadcastsInDim S4x1x96x1 (![0, 2] : Fin 2 → Fin S4x1x96x1.rank)
  bcast_S4x96x1x96_S4x96x96x96_0_1_2_3 : S4x96x1x96.BroadcastsInDim S4x96x96x96 (![0, 1, 2, 3] : Fin 4 → Fin S4x96x96x96.rank)
  bcast_S4x1x96x1_S4x96x96x96_0_1_2_3 : S4x1x96x1.BroadcastsInDim S4x96x96x96 (![0, 1, 2, 3] : Fin 4 → Fin S4x96x96x96.rank)
  slices_S4x16_S4x1_0_11 : S4x16.Slices ![0, 11] S4x1
  shapeCasts_S4x1_S4 : S4x1.ShapeCasts S4
  bcast_S4_S4x1x1x1_0 : S4.BroadcastsInDim S4x1x1x1 (![0] : Fin 1 → Fin S4x1x1x1.rank)
  bcast_S4x1x1x1_S4x96x96x96_0_1_2_3 : S4x1x1x1.BroadcastsInDim S4x96x96x96 (![0, 1, 2, 3] : Fin 4 → Fin S4x96x96x96.rank)
  bcast_S_S4x96x96x96 : S_.BroadcastsInDim S4x96x96x96 (![] : Fin 0 → Fin S4x96x96x96.rank)
  natLt_1_32 : 1 < 32
  shapeCasts_S32x9_S4x12x6 : S32x9.ShapeCasts S4x12x6
  bcast_S4x12x6_S4x12x8x6_0_1_3 : S4x12x6.BroadcastsInDim S4x12x8x6 (![0, 1, 3] : Fin 3 → Fin S4x12x8x6.rank)
  shapeCasts_S4x12x8x6_S4x96x6 : S4x12x8x6.ShapeCasts S4x96x6
  bcast_S4x96x6_S4x96x6x16_0_1_2 : S4x96x6.BroadcastsInDim S4x96x6x16 (![0, 1, 2] : Fin 3 → Fin S4x96x6x16.rank)
  shapeCasts_S4x96x6x16_S4x96x96 : S4x96x6x16.ShapeCasts S4x96x96
  bcast_S4x96x96_S4x96x96x1_0_1_2 : S4x96x96.BroadcastsInDim S4x96x96x1 (![0, 1, 2] : Fin 3 → Fin S4x96x96x1.rank)
  bcast_S_S4x96x96x1 : S_.BroadcastsInDim S4x96x96x1 (![] : Fin 0 → Fin S4x96x96x1.rank)
  bcast_S4x96x96x1_S4x96x96x96_0_1_2_3 : S4x96x96x1.BroadcastsInDim S4x96x96x96 (![0, 1, 2, 3] : Fin 4 → Fin S4x96x96x96.rank)
  slices_S32x9x16_S32x9x1_0_0_4 : S32x9x16.Slices ![0, 0, 4] S32x9x1
  slices_S4x16_S4x1_0_4 : S4x16.Slices ![0, 4] S4x1
  slices_S4x16_S4x1_0_5 : S4x16.Slices ![0, 5] S4x1
  slices_S4x16_S4x1_0_6 : S4x16.Slices ![0, 6] S4x1
  slices_S4x16_S4x1_0_7 : S4x16.Slices ![0, 7] S4x1
  gather_S4x3_S288x2_S288_n_01_n_n_01_1_11_wf : GatherDims.WF S4x3 S288x2 S288 [] [0, 1] [] [0, 1] [] 1 ![1, 1]

variable [Facts]

def gather_S4x3_S288x2_S288_n_01_n_n_01_1_11 : GatherDims S4x3 S288x2 S288 where
  offsetDims := []
  collapsedSliceDims := [0, 1]
  operandBatchingDims := []
  startIndicesBatchingDims := []
  startIndexMap := [0, 1]
  indexVectorDim := 1
  sliceSizes := ![1, 1]
  wf := gather_S4x3_S288x2_S288_n_01_n_n_01_1_11_wf
def fn_linspace {F : FTy → Type} [FloatOps F] (arg0 : FVec F S_ .f32) (arg1 : FVec F S_ .f32) : FVec F S96 .f32 :=
  let v0 : FVec F S_ .f32 := id arg0
  let v1 : FVec F S_ .f32 := id arg1
  let v2 : FVec F S_ .f32 := subf v1 v0
  let cst : FVec F S_ .f32 := constant S_ .f32 0x42BE0000#32
  let v3 : FVec F S_ .f32 := Host.divf v2 cst
  let v4 : FVec F S95 .f32 := sitofp .f32 (iotaInDim S95 32 0)
  let cst_0 : FVec F S_ .f32 := constant S_ .f32 0x42BE0000#32
  let v5 : FVec F S95 .f32 := broadcastInDim S95 ![] bcast_S_S95 cst_0
  let v6 : FVec F S95 .f32 := Host.divf v4 v5
  let v7 : FVec F S1 .f32 := shapeCast S1 v0 shapeCasts_S_S1
  let cst_1 : FVec F S_ .f32 := constant S_ .f32 0x3F800000#32
  let v8 : FVec F S95 .f32 := broadcastInDim S95 ![] bcast_S_S95 cst_1
  let v9 : FVec F S95 .f32 := subf v8 v6
  let v10 : FVec F S95 .f32 := broadcastInDim S95 ![0] bcast_S1_S95_0 v7
  let v11 : FVec F S95 .f32 := mulf v10 v9
  let v12 : FVec F S1 .f32 := shapeCast S1 v1 shapeCasts_S_S1
  let v13 : FVec F S95 .f32 := broadcastInDim S95 ![0] bcast_S1_S95_0 v12
  let v14 : FVec F S95 .f32 := mulf v13 v6
  let v15 : FVec F S95 .f32 := addf v11 v14
  let v16 : FVec F S1 .f32 := broadcastInDim S1 ![] bcast_S_S1 v1
  let v17 : FVec F S96 .f32 := (fun a b => concatenate S96 0 [⟨S95, a⟩, ⟨S1, b⟩] concatenates_S95_S1_S96_d0) v15 v16
  v17

def fn_where {F : FTy → Type} [FloatOps F] (arg0 : IVec S288 1) (arg1 : IVec S288 32) (arg2 : IVec S288 32) : IVec S288 32 :=
  let v0 : IVec S288 32 := select arg0 arg1 arg2
  v0

def fn_floor_divide {F : FTy → Type} [FloatOps F] (arg0 : IVec S288 32) (arg1 : IVec S_ 32) : IVec S288 32 :=
  let v0 : IVec S_ 32 := id arg1
  let v1 : IVec S288 32 := broadcastInDim S288 ![] bcast_S_S288 v0
  let v2 : IVec S288 32 := Host.divsi arg0 v1
  let v3 : IVec S288 32 := signi arg0
  let v4 : IVec S_ 32 := signi v0
  let v5 : IVec S288 32 := broadcastInDim S288 ![] bcast_S_S288 v4
  let v6 : IVec S288 1 := cmpi .ne v3 v5
  let v7 : IVec S288 32 := broadcastInDim S288 ![] bcast_S_S288 v0
  let v8 : IVec S288 32 := Host.remsi arg0 v7
  let c : IVec S_ 32 := constantI S_ 32 0#32
  let v9 : IVec S288 32 := broadcastInDim S288 ![] bcast_S_S288 c
  let v10 : IVec S288 1 := cmpi .ne v8 v9
  let v11 : IVec S288 1 := andi v6 v10
  let c_0 : IVec S_ 32 := constantI S_ 32 1#32
  let v12 : IVec S288 32 := broadcastInDim S288 ![] bcast_S_S288 c_0
  let v13 : IVec S288 32 := subi v2 v12
  let v14 : IVec S288 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S288 32) (arg1 : IVec S_ 32) : IVec S288 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S288 32 := broadcastInDim S288 ![] bcast_S_S288 v2
  let v4 : IVec S288 32 := Host.remsi arg0 v3
  let c_1 : IVec S_ 32 := constantI S_ 32 0#32
  let v5 : IVec S288 32 := broadcastInDim S288 ![] bcast_S_S288 c_1
  let v6 : IVec S288 1 := cmpi .ne v4 v5
  let c_2 : IVec S_ 32 := constantI S_ 32 0#32
  let v7 : IVec S288 32 := broadcastInDim S288 ![] bcast_S_S288 c_2
  let v8 : IVec S288 1 := cmpi .slt v4 v7
  let c_3 : IVec S_ 32 := constantI S_ 32 0#32
  let v9 : IVec S_ 1 := cmpi .slt v2 c_3
  let v10 : IVec S288 1 := broadcastInDim S288 ![] bcast_S_S288 v9
  let v11 : IVec S288 1 := cmpi .ne v8 v10
  let v12 : IVec S288 1 := andi v11 v6
  let v13 : IVec S288 32 := broadcastInDim S288 ![] bcast_S_S288 v2
  let v14 : IVec S288 32 := addi v4 v13
  let v15 : IVec S288 32 := select v12 v14 v4
  v15

def fn_clip {F : FTy → Type} [FloatOps F] (arg0 : FVec F S288 .f32) (arg1 : IVec S_ 32) (arg2 : IVec S_ 32) : FVec F S288 .f32 :=
  let v0 : FVec F S_ .f32 := sitofp .f32 arg1
  let v1 : FVec F S288 .f32 := broadcastInDim S288 ![] bcast_S_S288 v0
  let v2 : FVec F S288 .f32 := maximumf v1 arg0
  let v3 : FVec F S_ .f32 := sitofp .f32 arg2
  let v4 : FVec F S288 .f32 := broadcastInDim S288 ![] bcast_S_S288 v3
  let v5 : FVec F S288 .f32 := minimumf v4 v2
  v5

def fn_part18 {F : FTy → Type} [FloatOps F] (main_v291 : IVec S4x96x96x96 1) (main_v337 : IVec S4x96x96x96 32) (main_v343 : IVec S4x96x96x96 32) (main_v349 : IVec S4x96x96x1 32) (main_v351 : IVec S4x96x96x1 1) (main_c_77 : IVec S_ 32) : IVec S4x96x96x96 1 :=
  let main_v352 : IVec S4x96x96x1 32 := broadcastInDim S4x96x96x1 ![] bcast_S_S4x96x96x1 main_c_77
  let main_v353 : IVec S4x96x96x1 1 := cmpi .sle main_v349 main_v352
  let main_v354 : IVec S4x96x96x1 1 := andi main_v351 main_v353
  let main_v355 : IVec S4x96x96x96 32 := broadcastInDim S4x96x96x96 ![0, 1, 2, 3] bcast_S4x96x96x1_S4x96x96x96_0_1_2_3 main_v349
  let main_v356 : IVec S4x96x96x96 1 := cmpi .sge main_v337 main_v355
  let main_v357 : IVec S4x96x96x96 1 := broadcastInDim S4x96x96x96 ![0, 1, 2, 3] bcast_S4x96x96x1_S4x96x96x96_0_1_2_3 main_v354
  let main_v358 : IVec S4x96x96x96 1 := andi main_v357 main_v356
  let main_c_78 : IVec S_ 32 := constantI S_ 32 20#32
  let main_v359 : IVec S4x96x96x1 32 := broadcastInDim S4x96x96x1 ![] bcast_S_S4x96x96x1 main_c_78
  let main_v360 : IVec S4x96x96x1 32 := addi main_v349 main_v359
  let main_v361 : IVec S4x96x96x96 32 := broadcastInDim S4x96x96x96 ![0, 1, 2, 3] bcast_S4x96x96x1_S4x96x96x96_0_1_2_3 main_v360
  let main_v362 : IVec S4x96x96x96 1 := cmpi .slt main_v337 main_v361
  let main_v363 : IVec S4x96x96x96 1 := andi main_v358 main_v362
  let main_v364 : IVec S4x96x96x96 32 := broadcastInDim S4x96x96x96 ![0, 1, 2, 3] bcast_S4x96x96x1_S4x96x96x96_0_1_2_3 main_v349
  let main_v365 : IVec S4x96x96x96 1 := cmpi .sge main_v343 main_v364
  let main_v366 : IVec S4x96x96x96 1 := andi main_v363 main_v365
  let main_c_79 : IVec S_ 32 := constantI S_ 32 20#32
  let main_v367 : IVec S4x96x96x1 32 := broadcastInDim S4x96x96x1 ![] bcast_S_S4x96x96x1 main_c_79
  let main_v368 : IVec S4x96x96x1 32 := addi main_v349 main_v367
  let main_v369 : IVec S4x96x96x96 32 := broadcastInDim S4x96x96x96 ![0, 1, 2, 3] bcast_S4x96x96x1_S4x96x96x96_0_1_2_3 main_v368
  let main_v370 : IVec S4x96x96x96 1 := cmpi .slt main_v343 main_v369
  let main_v371 : IVec S4x96x96x96 1 := andi main_v366 main_v370
  let main_v372 : IVec S4x96x96x96 1 := andi main_v291 main_v371
  main_v372

def fn_part17 {F : FTy → Type} [FloatOps F] (main_v291 : IVec S4x96x96x96 1) (main_v293 : IVec S32x9 32) (main_v333 : IVec S4x96x96x96 32) (main_c_71 : IVec S_ 32) : IVec S4x96x96x96 1 :=
  let main_v334 : IVec S4x96x96x96 32 := broadcastInDim S4x96x96x96 ![] bcast_S_S4x96x96x96 main_c_71
  let main_v335 : IVec S4x96x96x96 32 := maxsi main_v333 main_v334
  let main_c_72 : IVec S_ 32 := constantI S_ 32 95#32
  let main_v336 : IVec S4x96x96x96 32 := broadcastInDim S4x96x96x96 ![] bcast_S_S4x96x96x96 main_c_72
  let main_v337 : IVec S4x96x96x96 32 := minsi main_v335 main_v336
  let main_c_73 : IVec S_ 32 := constantI S_ 32 1#32
  let main_v338 : IVec S4x96x96x96 32 := broadcastInDim S4x96x96x96 ![] bcast_S_S4x96x96x96 main_c_73
  let main_v339 : IVec S4x96x96x96 32 := addi main_v333 main_v338
  let main_c_74 : IVec S_ 32 := constantI S_ 32 0#32
  let main_v340 : IVec S4x96x96x96 32 := broadcastInDim S4x96x96x96 ![] bcast_S_S4x96x96x96 main_c_74
  let main_v341 : IVec S4x96x96x96 32 := maxsi main_v339 main_v340
  let main_c_75 : IVec S_ 32 := constantI S_ 32 95#32
  let main_v342 : IVec S4x96x96x96 32 := broadcastInDim S4x96x96x96 ![] bcast_S_S4x96x96x96 main_c_75
  let main_v343 : IVec S4x96x96x96 32 := minsi main_v341 main_v342
  let main_v344 : IVec S4x12x6 32 := shapeCast S4x12x6 main_v293 shapeCasts_S32x9_S4x12x6
  let main_v345 : IVec S4x12x8x6 32 := broadcastInDim S4x12x8x6 ![0, 1, 3] bcast_S4x12x6_S4x12x8x6_0_1_3 main_v344
  let main_v346 : IVec S4x96x6 32 := shapeCast S4x96x6 main_v345 shapeCasts_S4x12x8x6_S4x96x6
  let main_v347 : IVec S4x96x6x16 32 := broadcastInDim S4x96x6x16 ![0, 1, 2] bcast_S4x96x6_S4x96x6x16_0_1_2 main_v346
  let main_v348 : IVec S4x96x96 32 := shapeCast S4x96x96 main_v347 shapeCasts_S4x96x6x16_S4x96x96
  let main_v349 : IVec S4x96x96x1 32 := broadcastInDim S4x96x96x1 ![0, 1, 2] bcast_S4x96x96_S4x96x96x1_0_1_2 main_v348
  let main_c_76 : IVec S_ 32 := constantI S_ 32 0#32
  let main_v350 : IVec S4x96x96x1 32 := broadcastInDim S4x96x96x1 ![] bcast_S_S4x96x96x1 main_c_76
  let main_v351 : IVec S4x96x96x1 1 := cmpi .sge main_v349 main_v350
  let main_c_77 : IVec S_ 32 := constantI S_ 32 76#32
  fn_part18 (F := F) main_v291 main_v337 main_v343 main_v349 main_v351 main_c_77

def fn_part16 {F : FTy → Type} [FloatOps F] (main_v4 : FVec F S4x16 .f32) (main_v291 : IVec S4x96x96x96 1) (main_v293 : IVec S32x9 32) (main_v308 : FVec F S4x96 .f32) (main_v313 : FVec F S4x96x1x96 .f32) : IVec S4x96x96x96 1 :=
  let main_v314 : FVec F S4x1x96x1 .f32 := broadcastInDim S4x1x96x1 ![0, 2] bcast_S4x96_S4x1x96x1_0_2 main_v308
  let main_v315 : FVec F S4x96x96x96 .f32 := broadcastInDim S4x96x96x96 ![0, 1, 2, 3] bcast_S4x96x1x96_S4x96x96x96_0_1_2_3 main_v313
  let main_v316 : FVec F S4x96x96x96 .f32 := broadcastInDim S4x96x96x96 ![0, 1, 2, 3] bcast_S4x1x96x1_S4x96x96x96_0_1_2_3 main_v314
  let main_v317 : FVec F S4x96x96x96 .f32 := addf main_v315 main_v316
  let main_v318 : FVec F S4x1 .f32 := (extractStridedSlice S4x1 ![0, 7] · slices_S4x16_S4x1_0_7) main_v4
  let main_v319 : FVec F S4 .f32 := shapeCast S4 main_v318 shapeCasts_S4x1_S4
  let main_v320 : FVec F S4x1x1x1 .f32 := broadcastInDim S4x1x1x1 ![0] bcast_S4_S4x1x1x1_0 main_v319
  let main_v321 : FVec F S4x96x96x96 .f32 := broadcastInDim S4x96x96x96 ![0, 1, 2, 3] bcast_S4x1x1x1_S4x96x96x96_0_1_2_3 main_v320
  let main_v322 : FVec F S4x96x96x96 .f32 := addf main_v317 main_v321
  let main_cst_68 : FVec F S_ .f32 := constant S_ .f32 0x3F800000#32
  let main_v323 : FVec F S4x96x96x96 .f32 := broadcastInDim S4x96x96x96 ![] bcast_S_S4x96x96x96 main_cst_68
  let main_v324 : FVec F S4x96x96x96 .f32 := addf main_v322 main_v323
  let main_cst_69 : FVec F S_ .f32 := constant S_ .f32 0x3F000000#32
  let main_v325 : FVec F S4x96x96x96 .f32 := broadcastInDim S4x96x96x96 ![] bcast_S_S4x96x96x96 main_cst_69
  let main_v326 : FVec F S4x96x96x96 .f32 := mulf main_v324 main_v325
  let main_cst_70 : FVec F S_ .f32 := constant S_ .f32 0x42C00000#32
  let main_v327 : FVec F S4x96x96x96 .f32 := broadcastInDim S4x96x96x96 ![] bcast_S_S4x96x96x96 main_cst_70
  let main_v328 : FVec F S4x96x96x96 .f32 := mulf main_v326 main_v327
  let main_v329 : IVec S4x96x96x96 32 := fptosi 32 main_v328
  let main_v330 : FVec F S4x96x96x96 .f32 := sitofp .f32 main_v329
  let main_v331 : IVec S4x96x96x96 1 := cmpf .ogt main_v330 main_v328
  let main_v332 : IVec S4x96x96x96 32 := (extui 32 · natLt_1_32) main_v331
  let main_v333 : IVec S4x96x96x96 32 := subi main_v329 main_v332
  let main_c_71 : IVec S_ 32 := constantI S_ 32 0#32
  fn_part17 (F := F) main_v291 main_v293 main_v333 main_c_71

def fn_part15 {F : FTy → Type} [FloatOps F] (main_v4 : FVec F S4x16 .f32) (main_v210 : IVec S32x9x16 32) (main_v211 : FVec F S96 .f32) (main_v263 : IVec S4x96x96x96 32) (main_v286 : IVec S4x96x96x96 1) (main_v289 : IVec S4x96x96x96 32) : IVec S4x96x96x96 1 :=
  let main_v290 : IVec S4x96x96x96 1 := cmpi .slt main_v263 main_v289
  let main_v291 : IVec S4x96x96x96 1 := andi main_v286 main_v290
  let main_v292 : IVec S32x9x1 32 := (extractStridedSlice S32x9x1 ![0, 0, 4] · slices_S32x9x16_S32x9x1_0_0_4) main_v210
  let main_v293 : IVec S32x9 32 := shapeCast S32x9 main_v292 shapeCasts_S32x9x1_S32x9
  let main_v294 : FVec F S4x1 .f32 := (extractStridedSlice S4x1 ![0, 4] · slices_S4x16_S4x1_0_4) main_v4
  let main_v295 : FVec F S1x96 .f32 := broadcastInDim S1x96 ![1] bcast_S96_S1x96_1 main_v211
  let main_v296 : FVec F S4x96 .f32 := broadcastInDim S4x96 ![0, 1] bcast_S1x96_S4x96_0_1 main_v295
  let main_v297 : FVec F S4x96 .f32 := broadcastInDim S4x96 ![0, 1] bcast_S4x1_S4x96_0_1 main_v294
  let main_v298 : FVec F S4x96 .f32 := mulf main_v296 main_v297
  let main_v299 : FVec F S4x1 .f32 := (extractStridedSlice S4x1 ![0, 5] · slices_S4x16_S4x1_0_5) main_v4
  let main_v300 : FVec F S1x96 .f32 := broadcastInDim S1x96 ![1] bcast_S96_S1x96_1 main_v211
  let main_v301 : FVec F S4x96 .f32 := broadcastInDim S4x96 ![0, 1] bcast_S4x1_S4x96_0_1 main_v299
  let main_v302 : FVec F S4x96 .f32 := broadcastInDim S4x96 ![0, 1] bcast_S1x96_S4x96_0_1 main_v300
  let main_v303 : FVec F S4x96 .f32 := mulf main_v301 main_v302
  let main_v304 : FVec F S4x1 .f32 := (extractStridedSlice S4x1 ![0, 6] · slices_S4x16_S4x1_0_6) main_v4
  let main_v305 : FVec F S1x96 .f32 := broadcastInDim S1x96 ![1] bcast_S96_S1x96_1 main_v211
  let main_v306 : FVec F S4x96 .f32 := broadcastInDim S4x96 ![0, 1] bcast_S4x1_S4x96_0_1 main_v304
  let main_v307 : FVec F S4x96 .f32 := broadcastInDim S4x96 ![0, 1] bcast_S1x96_S4x96_0_1 main_v305
  let main_v308 : FVec F S4x96 .f32 := mulf main_v306 main_v307
  let main_v309 : FVec F S4x1x1x96 .f32 := broadcastInDim S4x1x1x96 ![0, 3] bcast_S4x96_S4x1x1x96_0_3 main_v298
  let main_v310 : FVec F S4x96x1x1 .f32 := broadcastInDim S4x96x1x1 ![0, 1] bcast_S4x96_S4x96x1x1_0_1 main_v303
  let main_v311 : FVec F S4x96x1x96 .f32 := broadcastInDim S4x96x1x96 ![0, 1, 2, 3] bcast_S4x1x1x96_S4x96x1x96_0_1_2_3 main_v309
  let main_v312 : FVec F S4x96x1x96 .f32 := broadcastInDim S4x96x1x96 ![0, 1, 2, 3] bcast_S4x96x1x1_S4x96x1x96_0_1_2_3 main_v310
  let main_v313 : FVec F S4x96x1x96 .f32 := addf main_v311 main_v312
  fn_part16 (F := F) main_v4 main_v291 main_v293 main_v308 main_v313

def fn_part14 {F : FTy → Type} [FloatOps F] (main_v4 : FVec F S4x16 .f32) (main_v210 : IVec S32x9x16 32) (main_v211 : FVec F S96 .f32) (main_v257 : IVec S4x96x96x96 32) (main_v263 : IVec S4x96x96x96 32) (main_v269 : IVec S4x96x96x1 32) : IVec S4x96x96x96 1 :=
  let main_c_64 : IVec S_ 32 := constantI S_ 32 0#32
  let main_v270 : IVec S4x96x96x1 32 := broadcastInDim S4x96x96x1 ![] bcast_S_S4x96x96x1 main_c_64
  let main_v271 : IVec S4x96x96x1 1 := cmpi .sge main_v269 main_v270
  let main_c_65 : IVec S_ 32 := constantI S_ 32 68#32
  let main_v272 : IVec S4x96x96x1 32 := broadcastInDim S4x96x96x1 ![] bcast_S_S4x96x96x1 main_c_65
  let main_v273 : IVec S4x96x96x1 1 := cmpi .sle main_v269 main_v272
  let main_v274 : IVec S4x96x96x1 1 := andi main_v271 main_v273
  let main_v275 : IVec S4x96x96x96 32 := broadcastInDim S4x96x96x96 ![0, 1, 2, 3] bcast_S4x96x96x1_S4x96x96x96_0_1_2_3 main_v269
  let main_v276 : IVec S4x96x96x96 1 := cmpi .sge main_v257 main_v275
  let main_v277 : IVec S4x96x96x96 1 := broadcastInDim S4x96x96x96 ![0, 1, 2, 3] bcast_S4x96x96x1_S4x96x96x96_0_1_2_3 main_v274
  let main_v278 : IVec S4x96x96x96 1 := andi main_v277 main_v276
  let main_c_66 : IVec S_ 32 := constantI S_ 32 28#32
  let main_v279 : IVec S4x96x96x1 32 := broadcastInDim S4x96x96x1 ![] bcast_S_S4x96x96x1 main_c_66
  let main_v280 : IVec S4x96x96x1 32 := addi main_v269 main_v279
  let main_v281 : IVec S4x96x96x96 32 := broadcastInDim S4x96x96x96 ![0, 1, 2, 3] bcast_S4x96x96x1_S4x96x96x96_0_1_2_3 main_v280
  let main_v282 : IVec S4x96x96x96 1 := cmpi .slt main_v257 main_v281
  let main_v283 : IVec S4x96x96x96 1 := andi main_v278 main_v282
  let main_v284 : IVec S4x96x96x96 32 := broadcastInDim S4x96x96x96 ![0, 1, 2, 3] bcast_S4x96x96x1_S4x96x96x96_0_1_2_3 main_v269
  let main_v285 : IVec S4x96x96x96 1 := cmpi .sge main_v263 main_v284
  let main_v286 : IVec S4x96x96x96 1 := andi main_v283 main_v285
  let main_c_67 : IVec S_ 32 := constantI S_ 32 28#32
  let main_v287 : IVec S4x96x96x1 32 := broadcastInDim S4x96x96x1 ![] bcast_S_S4x96x96x1 main_c_67
  let main_v288 : IVec S4x96x96x1 32 := addi main_v269 main_v287
  let main_v289 : IVec S4x96x96x96 32 := broadcastInDim S4x96x96x96 ![0, 1, 2, 3] bcast_S4x96x96x1_S4x96x96x96_0_1_2_3 main_v288
  fn_part15 (F := F) main_v4 main_v210 main_v211 main_v263 main_v286 main_v289

def fn_part13 {F : FTy → Type} [FloatOps F] (main_v4 : FVec F S4x16 .f32) (main_v210 : IVec S32x9x16 32) (main_v211 : FVec F S96 .f32) (main_v213 : IVec S32x9 32) (main_v248 : FVec F S4x96x96x96 .f32) (main_v249 : IVec S4x96x96x96 32) (main_v250 : FVec F S4x96x96x96 .f32) : IVec S4x96x96x96 1 :=
  let main_v251 : IVec S4x96x96x96 1 := cmpf .ogt main_v250 main_v248
  let main_v252 : IVec S4x96x96x96 32 := (extui 32 · natLt_1_32) main_v251
  let main_v253 : IVec S4x96x96x96 32 := subi main_v249 main_v252
  let main_c_59 : IVec S_ 32 := constantI S_ 32 0#32
  let main_v254 : IVec S4x96x96x96 32 := broadcastInDim S4x96x96x96 ![] bcast_S_S4x96x96x96 main_c_59
  let main_v255 : IVec S4x96x96x96 32 := maxsi main_v253 main_v254
  let main_c_60 : IVec S_ 32 := constantI S_ 32 95#32
  let main_v256 : IVec S4x96x96x96 32 := broadcastInDim S4x96x96x96 ![] bcast_S_S4x96x96x96 main_c_60
  let main_v257 : IVec S4x96x96x96 32 := minsi main_v255 main_v256
  let main_c_61 : IVec S_ 32 := constantI S_ 32 1#32
  let main_v258 : IVec S4x96x96x96 32 := broadcastInDim S4x96x96x96 ![] bcast_S_S4x96x96x96 main_c_61
  let main_v259 : IVec S4x96x96x96 32 := addi main_v253 main_v258
  let main_c_62 : IVec S_ 32 := constantI S_ 32 0#32
  let main_v260 : IVec S4x96x96x96 32 := broadcastInDim S4x96x96x96 ![] bcast_S_S4x96x96x96 main_c_62
  let main_v261 : IVec S4x96x96x96 32 := maxsi main_v259 main_v260
  let main_c_63 : IVec S_ 32 := constantI S_ 32 95#32
  let main_v262 : IVec S4x96x96x96 32 := broadcastInDim S4x96x96x96 ![] bcast_S_S4x96x96x96 main_c_63
  let main_v263 : IVec S4x96x96x96 32 := minsi main_v261 main_v262
  let main_v264 : IVec S4x12x6 32 := shapeCast S4x12x6 main_v213 shapeCasts_S32x9_S4x12x6
  let main_v265 : IVec S4x12x8x6 32 := broadcastInDim S4x12x8x6 ![0, 1, 3] bcast_S4x12x6_S4x12x8x6_0_1_3 main_v264
  let main_v266 : IVec S4x96x6 32 := shapeCast S4x96x6 main_v265 shapeCasts_S4x12x8x6_S4x96x6
  let main_v267 : IVec S4x96x6x16 32 := broadcastInDim S4x96x6x16 ![0, 1, 2] bcast_S4x96x6_S4x96x6x16_0_1_2 main_v266
  let main_v268 : IVec S4x96x96 32 := shapeCast S4x96x96 main_v267 shapeCasts_S4x96x6x16_S4x96x96
  let main_v269 : IVec S4x96x96x1 32 := broadcastInDim S4x96x96x1 ![0, 1, 2] bcast_S4x96x96_S4x96x96x1_0_1_2 main_v268
  fn_part14 (F := F) main_v4 main_v210 main_v211 main_v257 main_v263 main_v269

def fn_part12 {F : FTy → Type} [FloatOps F] (main_v4 : FVec F S4x16 .f32) (main_v210 : IVec S32x9x16 32) (main_v211 : FVec F S96 .f32) (main_v213 : IVec S32x9 32) (main_v223 : FVec F S4x96 .f32) (main_v228 : FVec F S4x96 .f32) (main_v229 : FVec F S4x1x1x96 .f32) : IVec S4x96x96x96 1 :=
  let main_v230 : FVec F S4x96x1x1 .f32 := broadcastInDim S4x96x1x1 ![0, 1] bcast_S4x96_S4x96x1x1_0_1 main_v223
  let main_v231 : FVec F S4x96x1x96 .f32 := broadcastInDim S4x96x1x96 ![0, 1, 2, 3] bcast_S4x1x1x96_S4x96x1x96_0_1_2_3 main_v229
  let main_v232 : FVec F S4x96x1x96 .f32 := broadcastInDim S4x96x1x96 ![0, 1, 2, 3] bcast_S4x96x1x1_S4x96x1x96_0_1_2_3 main_v230
  let main_v233 : FVec F S4x96x1x96 .f32 := addf main_v231 main_v232
  let main_v234 : FVec F S4x1x96x1 .f32 := broadcastInDim S4x1x96x1 ![0, 2] bcast_S4x96_S4x1x96x1_0_2 main_v228
  let main_v235 : FVec F S4x96x96x96 .f32 := broadcastInDim S4x96x96x96 ![0, 1, 2, 3] bcast_S4x96x1x96_S4x96x96x96_0_1_2_3 main_v233
  let main_v236 : FVec F S4x96x96x96 .f32 := broadcastInDim S4x96x96x96 ![0, 1, 2, 3] bcast_S4x1x96x1_S4x96x96x96_0_1_2_3 main_v234
  let main_v237 : FVec F S4x96x96x96 .f32 := addf main_v235 main_v236
  let main_v238 : FVec F S4x1 .f32 := (extractStridedSlice S4x1 ![0, 11] · slices_S4x16_S4x1_0_11) main_v4
  let main_v239 : FVec F S4 .f32 := shapeCast S4 main_v238 shapeCasts_S4x1_S4
  let main_v240 : FVec F S4x1x1x1 .f32 := broadcastInDim S4x1x1x1 ![0] bcast_S4_S4x1x1x1_0 main_v239
  let main_v241 : FVec F S4x96x96x96 .f32 := broadcastInDim S4x96x96x96 ![0, 1, 2, 3] bcast_S4x1x1x1_S4x96x96x96_0_1_2_3 main_v240
  let main_v242 : FVec F S4x96x96x96 .f32 := addf main_v237 main_v241
  let main_cst_56 : FVec F S_ .f32 := constant S_ .f32 0x3F800000#32
  let main_v243 : FVec F S4x96x96x96 .f32 := broadcastInDim S4x96x96x96 ![] bcast_S_S4x96x96x96 main_cst_56
  let main_v244 : FVec F S4x96x96x96 .f32 := addf main_v242 main_v243
  let main_cst_57 : FVec F S_ .f32 := constant S_ .f32 0x3F000000#32
  let main_v245 : FVec F S4x96x96x96 .f32 := broadcastInDim S4x96x96x96 ![] bcast_S_S4x96x96x96 main_cst_57
  let main_v246 : FVec F S4x96x96x96 .f32 := mulf main_v244 main_v245
  let main_cst_58 : FVec F S_ .f32 := constant S_ .f32 0x42C00000#32
  let main_v247 : FVec F S4x96x96x96 .f32 := broadcastInDim S4x96x96x96 ![] bcast_S_S4x96x96x96 main_cst_58
  let main_v248 : FVec F S4x96x96x96 .f32 := mulf main_v246 main_v247
  let main_v249 : IVec S4x96x96x96 32 := fptosi 32 main_v248
  let main_v250 : FVec F S4x96x96x96 .f32 := sitofp .f32 main_v249
  fn_part13 (F := F) main_v4 main_v210 main_v211 main_v213 main_v248 main_v249 main_v250

def fn_part11 {F : FTy → Type} [FloatOps F] (main_v4 : FVec F S4x16 .f32) (main_v9 : FVec F S112 .f32) (main_v49 : IVec S288 32) (main_v193 : IVec S288x1 32) (main_v194 : IVec S288x1 32) (main_v195 : IVec S288x1 32) (main_v196 : IVec S288x1 32) (main_v197 : IVec S288x1 32) (main_v198 : IVec S288x1 32) (main_v199 : IVec S288x1 32) (main_v200 : IVec S288x1 32) (main_v201 : IVec S288x1 32) (main_v202 : IVec S288x1 32) (main_v203 : IVec S288x1 32) (main_v204 : IVec S288x1 32) (main_v205 : IVec S288x1 32) : IVec S4x96x96x96 1 :=
  let main_v206 : IVec S288x1 32 := broadcastInDim S288x1 ![0] bcast_S288_S288x1_0 main_v49
  let main_v207 : IVec S288x1 32 := broadcastInDim S288x1 ![0] bcast_S288_S288x1_0 main_v49
  let main_v208 : IVec S288x1 32 := broadcastInDim S288x1 ![0] bcast_S288_S288x1_0 main_v49
  let main_v209 : IVec S288x16 32 := concatenate S288x16 1 [⟨S288x1, main_v193⟩, ⟨S288x1, main_v194⟩, ⟨S288x1, main_v195⟩, ⟨S288x1, main_v196⟩, ⟨S288x1, main_v197⟩, ⟨S288x1, main_v198⟩, ⟨S288x1, main_v199⟩, ⟨S288x1, main_v200⟩, ⟨S288x1, main_v201⟩, ⟨S288x1, main_v202⟩, ⟨S288x1, main_v203⟩, ⟨S288x1, main_v204⟩, ⟨S288x1, main_v205⟩, ⟨S288x1, main_v206⟩, ⟨S288x1, main_v207⟩, ⟨S288x1, main_v208⟩] concatenates_S288x1_S288x1_S288x1_S288x1_S288x1_S288x1_S288x1_S288x1_S288x1_S288x1_S288x1_S288x1_S288x1_S288x1_S288x1_S288x1_S288x16_d1
  let main_v210 : IVec S32x9x16 32 := shapeCast S32x9x16 main_v209 shapeCasts_S288x16_S32x9x16
  let main_v211 : FVec F S96 .f32 := (extractStridedSlice S96 ![0] · slices_S112_S96_0) main_v9
  let main_v212 : IVec S32x9x1 32 := (extractStridedSlice S32x9x1 ![0, 0, 3] · slices_S32x9x16_S32x9x1_0_0_3) main_v210
  let main_v213 : IVec S32x9 32 := shapeCast S32x9 main_v212 shapeCasts_S32x9x1_S32x9
  let main_v214 : FVec F S4x1 .f32 := (extractStridedSlice S4x1 ![0, 8] · slices_S4x16_S4x1_0_8) main_v4
  let main_v215 : FVec F S1x96 .f32 := broadcastInDim S1x96 ![1] bcast_S96_S1x96_1 main_v211
  let main_v216 : FVec F S4x96 .f32 := broadcastInDim S4x96 ![0, 1] bcast_S1x96_S4x96_0_1 main_v215
  let main_v217 : FVec F S4x96 .f32 := broadcastInDim S4x96 ![0, 1] bcast_S4x1_S4x96_0_1 main_v214
  let main_v218 : FVec F S4x96 .f32 := mulf main_v216 main_v217
  let main_v219 : FVec F S4x1 .f32 := (extractStridedSlice S4x1 ![0, 9] · slices_S4x16_S4x1_0_9) main_v4
  let main_v220 : FVec F S1x96 .f32 := broadcastInDim S1x96 ![1] bcast_S96_S1x96_1 main_v211
  let main_v221 : FVec F S4x96 .f32 := broadcastInDim S4x96 ![0, 1] bcast_S4x1_S4x96_0_1 main_v219
  let main_v222 : FVec F S4x96 .f32 := broadcastInDim S4x96 ![0, 1] bcast_S1x96_S4x96_0_1 main_v220
  let main_v223 : FVec F S4x96 .f32 := mulf main_v221 main_v222
  let main_v224 : FVec F S4x1 .f32 := (extractStridedSlice S4x1 ![0, 10] · slices_S4x16_S4x1_0_10) main_v4
  let main_v225 : FVec F S1x96 .f32 := broadcastInDim S1x96 ![1] bcast_S96_S1x96_1 main_v211
  let main_v226 : FVec F S4x96 .f32 := broadcastInDim S4x96 ![0, 1] bcast_S4x1_S4x96_0_1 main_v224
  let main_v227 : FVec F S4x96 .f32 := broadcastInDim S4x96 ![0, 1] bcast_S1x96_S4x96_0_1 main_v225
  let main_v228 : FVec F S4x96 .f32 := mulf main_v226 main_v227
  let main_v229 : FVec F S4x1x1x96 .f32 := broadcastInDim S4x1x1x96 ![0, 3] bcast_S4x96_S4x1x1x96_0_3 main_v218
  fn_part12 (F := F) main_v4 main_v210 main_v211 main_v213 main_v223 main_v228 main_v229

def fn_part10 {F : FTy → Type} [FloatOps F] (main_v4 : FVec F S4x16 .f32) (main_v9 : FVec F S112 .f32) (main_v39 : IVec S288 32) (main_v43 : IVec S288 32) (main_v46 : IVec S288 32) (main_v49 : IVec S288 32) (main_v119 : IVec S288 32) (main_v184 : FVec F S288 .f32) (main_cst_52 : FVec F S_ .f32) : IVec S4x96x96x96 1 :=
  let main_v185 : FVec F S288 .f32 := broadcastInDim S288 ![] bcast_S_S288 main_cst_52
  let main_v186 : FVec F S288 .f32 := subf main_v184 main_v185
  let main_v187 : FVec F S288 .f32 := Host.floor main_v186
  let main_c_53 : IVec S_ 32 := constantI S_ 32 0#32
  let main_c_54 : IVec S_ 32 := constantI S_ 32 76#32
  let main_v188 : FVec F S288 .f32 := fn_clip (F := F) main_v187 main_c_53 main_c_54
  let main_v189 : IVec S288 32 := fptosi 32 main_v188
  let main_c_55 : IVec S_ 32 := constantI S_ 32 96#32
  let main_v190 : IVec S288 32 := broadcastInDim S288 ![] bcast_S_S288 main_c_55
  let main_v191 : IVec S288 32 := muli main_v39 main_v190
  let main_v192 : IVec S288 32 := addi main_v191 main_v43
  let main_v193 : IVec S288x1 32 := broadcastInDim S288x1 ![0] bcast_S288_S288x1_0 main_v39
  let main_v194 : IVec S288x1 32 := broadcastInDim S288x1 ![0] bcast_S288_S288x1_0 main_v43
  let main_v195 : IVec S288x1 32 := broadcastInDim S288x1 ![0] bcast_S288_S288x1_0 main_v46
  let main_v196 : IVec S288x1 32 := broadcastInDim S288x1 ![0] bcast_S288_S288x1_0 main_v119
  let main_v197 : IVec S288x1 32 := broadcastInDim S288x1 ![0] bcast_S288_S288x1_0 main_v189
  let main_v198 : IVec S288x1 32 := broadcastInDim S288x1 ![0] bcast_S288_S288x1_0 main_v192
  let main_v199 : IVec S288x1 32 := broadcastInDim S288x1 ![0] bcast_S288_S288x1_0 main_v49
  let main_v200 : IVec S288x1 32 := broadcastInDim S288x1 ![0] bcast_S288_S288x1_0 main_v49
  let main_v201 : IVec S288x1 32 := broadcastInDim S288x1 ![0] bcast_S288_S288x1_0 main_v49
  let main_v202 : IVec S288x1 32 := broadcastInDim S288x1 ![0] bcast_S288_S288x1_0 main_v49
  let main_v203 : IVec S288x1 32 := broadcastInDim S288x1 ![0] bcast_S288_S288x1_0 main_v49
  let main_v204 : IVec S288x1 32 := broadcastInDim S288x1 ![0] bcast_S288_S288x1_0 main_v49
  let main_v205 : IVec S288x1 32 := broadcastInDim S288x1 ![0] bcast_S288_S288x1_0 main_v49
  fn_part11 (F := F) main_v4 main_v9 main_v49 main_v193 main_v194 main_v195 main_v196 main_v197 main_v198 main_v199 main_v200 main_v201 main_v202 main_v203 main_v204 main_v205

def fn_part9 {F : FTy → Type} [FloatOps F] (main_v4 : FVec F S4x16 .f32) (main_v9 : FVec F S112 .f32) (main_v39 : IVec S288 32) (main_v43 : IVec S288 32) (main_v46 : IVec S288 32) (main_v47 : FVec F S288 .f32) (main_v48 : FVec F S288 .f32) (main_v49 : IVec S288 32) (main_v119 : IVec S288 32) (main_v141 : FVec F S288 .f32) (main_v152 : FVec F S288 .f32) (main_v163 : FVec F S288 .f32) (main_v165 : FVec F S288 .f32) (main_cst_47 : FVec F S_ .f32) : IVec S4x96x96x96 1 :=
  let main_v166 : FVec F S288 .f32 := broadcastInDim S288 ![] bcast_S_S288 main_cst_47
  let main_v167 : FVec F S288 .f32 := minimumf main_v166 main_v165
  let main_v168 : FVec F S288 .f32 := addf main_v163 main_v167
  let main_v169 : FVec F S288 .f32 := mulf main_v141 main_v48
  let main_cst_48 : FVec F S_ .f32 := constant S_ .f32 0x41800000#32
  let main_v170 : FVec F S288 .f32 := broadcastInDim S288 ![] bcast_S_S288 main_cst_48
  let main_v171 : FVec F S288 .f32 := addf main_v48 main_v170
  let main_cst_49 : FVec F S_ .f32 := constant S_ .f32 0x3F800000#32
  let main_v172 : FVec F S288 .f32 := broadcastInDim S288 ![] bcast_S_S288 main_cst_49
  let main_v173 : FVec F S288 .f32 := subf main_v171 main_v172
  let main_v174 : FVec F S288 .f32 := mulf main_v141 main_v173
  let main_v175 : FVec F S288 .f32 := minimumf main_v169 main_v174
  let main_v176 : FVec F S288 .f32 := addf main_v168 main_v175
  let main_v177 : FVec F S288 .f32 := mulf main_v152 main_v47
  let main_cst_50 : FVec F S_ .f32 := constant S_ .f32 0x41000000#32
  let main_v178 : FVec F S288 .f32 := broadcastInDim S288 ![] bcast_S_S288 main_cst_50
  let main_v179 : FVec F S288 .f32 := addf main_v47 main_v178
  let main_cst_51 : FVec F S_ .f32 := constant S_ .f32 0x3F800000#32
  let main_v180 : FVec F S288 .f32 := broadcastInDim S288 ![] bcast_S_S288 main_cst_51
  let main_v181 : FVec F S288 .f32 := subf main_v179 main_v180
  let main_v182 : FVec F S288 .f32 := mulf main_v152 main_v181
  let main_v183 : FVec F S288 .f32 := minimumf main_v177 main_v182
  let main_v184 : FVec F S288 .f32 := addf main_v176 main_v183
  let main_cst_52 : FVec F S_ .f32 := constant S_ .f32 0x3F4CCCCD#32
  fn_part10 (F := F) main_v4 main_v9 main_v39 main_v43 main_v46 main_v49 main_v119 main_v184 main_cst_52

def fn_part8 {F : FTy → Type} [FloatOps F] (main_v4 : FVec F S4x16 .f32) (main_v9 : FVec F S112 .f32) (main_v18 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v119 : IVec S288 32) (main_v130 : FVec F S288 .f32) (main_v141 : FVec F S288 .f32) (main_v146 : IVec S288 32) (main_c_42 : IVec S_ 32) : IVec S4x96x96x96 1 :=
  let main_v147 : IVec S288 32 := broadcastInDim S288 ![] bcast_S_S288 main_c_42
  let main_v148 : IVec S288 32 := id main_v147
  let main_v149 : IVec S288x1 32 := broadcastInDim S288x1 ![0] bcast_S288_S288x1_0 main_v146
  let main_v150 : IVec S288x1 32 := broadcastInDim S288x1 ![0] bcast_S288_S288x1_0 main_v148
  let main_v151 : IVec S288x2 32 := (fun a b => concatenate S288x2 1 [⟨S288x1, a⟩, ⟨S288x1, b⟩] concatenates_S288x1_S288x1_S288x2_d1) main_v149 main_v150
  let main_v152 : FVec F S288 .f32 := (fun x i => Host.gather gather_S4x3_S288x2_S288_n_01_n_n_01_1_11 x i) main_v18 main_v151
  let main_c_43 : IVec S_ 32 := constantI S_ 32 0#32
  let main_v153 : IVec S288 32 := broadcastInDim S288 ![] bcast_S_S288 main_c_43
  let main_v154 : IVec S288 1 := cmpi .slt main_v39 main_v153
  let main_c_44 : IVec S_ 32 := constantI S_ 32 4#32
  let main_v155 : IVec S288 32 := broadcastInDim S288 ![] bcast_S_S288 main_c_44
  let main_v156 : IVec S288 32 := addi main_v39 main_v155
  let main_v157 : IVec S288 32 := select main_v154 main_v156 main_v39
  let main_c_45 : IVec S_ 32 := constantI S_ 32 1#32
  let main_v158 : IVec S288 32 := broadcastInDim S288 ![] bcast_S_S288 main_c_45
  let main_v159 : IVec S288 32 := id main_v158
  let main_v160 : IVec S288x1 32 := broadcastInDim S288x1 ![0] bcast_S288_S288x1_0 main_v157
  let main_v161 : IVec S288x1 32 := broadcastInDim S288x1 ![0] bcast_S288_S288x1_0 main_v159
  let main_v162 : IVec S288x2 32 := (fun a b => concatenate S288x2 1 [⟨S288x1, a⟩, ⟨S288x1, b⟩] concatenates_S288x1_S288x1_S288x2_d1) main_v160 main_v161
  let main_v163 : FVec F S288 .f32 := (fun x i => Host.gather gather_S4x3_S288x2_S288_n_01_n_n_01_1_11 x i) main_v37 main_v162
  let main_cst_46 : FVec F S_ .f32 := constant S_ .f32 0x42BE0000#32
  let main_v164 : FVec F S288 .f32 := broadcastInDim S288 ![] bcast_S_S288 main_cst_46
  let main_v165 : FVec F S288 .f32 := mulf main_v164 main_v130
  let main_cst_47 : FVec F S_ .f32 := constant S_ .f32 0x00000000#32
  fn_part9 (F := F) main_v4 main_v9 main_v39 main_v43 main_v46 main_v47 main_v48 main_v49 main_v119 main_v141 main_v152 main_v163 main_v165 main_cst_47

def fn_part7 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v119 : IVec S288 32) (main_v127 : IVec S288x1 32) (main_v128 : IVec S288x1 32) : IVec S4x96x96x96 1 :=
  let main_v129 : IVec S288x2 32 := (fun a b => concatenate S288x2 1 [⟨S288x1, a⟩, ⟨S288x1, b⟩] concatenates_S288x1_S288x1_S288x2_d1) main_v127 main_v128
  let main_v130 : FVec F S288 .f32 := (fun x i => Host.gather gather_S4x3_S288x2_S288_n_01_n_n_01_1_11 x i) main_v14 main_v129
  let main_c_37 : IVec S_ 32 := constantI S_ 32 0#32
  let main_v131 : IVec S288 32 := broadcastInDim S288 ![] bcast_S_S288 main_c_37
  let main_v132 : IVec S288 1 := cmpi .slt main_v39 main_v131
  let main_c_38 : IVec S_ 32 := constantI S_ 32 4#32
  let main_v133 : IVec S288 32 := broadcastInDim S288 ![] bcast_S_S288 main_c_38
  let main_v134 : IVec S288 32 := addi main_v39 main_v133
  let main_v135 : IVec S288 32 := select main_v132 main_v134 main_v39
  let main_c_39 : IVec S_ 32 := constantI S_ 32 1#32
  let main_v136 : IVec S288 32 := broadcastInDim S288 ![] bcast_S_S288 main_c_39
  let main_v137 : IVec S288 32 := id main_v136
  let main_v138 : IVec S288x1 32 := broadcastInDim S288x1 ![0] bcast_S288_S288x1_0 main_v135
  let main_v139 : IVec S288x1 32 := broadcastInDim S288x1 ![0] bcast_S288_S288x1_0 main_v137
  let main_v140 : IVec S288x2 32 := (fun a b => concatenate S288x2 1 [⟨S288x1, a⟩, ⟨S288x1, b⟩] concatenates_S288x1_S288x1_S288x2_d1) main_v138 main_v139
  let main_v141 : FVec F S288 .f32 := (fun x i => Host.gather gather_S4x3_S288x2_S288_n_01_n_n_01_1_11 x i) main_v22 main_v140
  let main_c_40 : IVec S_ 32 := constantI S_ 32 0#32
  let main_v142 : IVec S288 32 := broadcastInDim S288 ![] bcast_S_S288 main_c_40
  let main_v143 : IVec S288 1 := cmpi .slt main_v39 main_v142
  let main_c_41 : IVec S_ 32 := constantI S_ 32 4#32
  let main_v144 : IVec S288 32 := broadcastInDim S288 ![] bcast_S_S288 main_c_41
  let main_v145 : IVec S288 32 := addi main_v39 main_v144
  let main_v146 : IVec S288 32 := select main_v143 main_v145 main_v39
  let main_c_42 : IVec S_ 32 := constantI S_ 32 1#32
  fn_part8 (F := F) main_v4 main_v9 main_v18 main_v37 main_v39 main_v43 main_v46 main_v47 main_v48 main_v49 main_v119 main_v130 main_v141 main_v146 main_c_42

def fn_part6 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v82 : FVec F S288 .f32) (main_v106 : FVec F S288 .f32) (main_v107 : FVec F S288 .f32) (main_v109 : FVec F S288 .f32) (main_v110 : FVec F S288 .f32) : IVec S4x96x96x96 1 :=
  let main_v111 : FVec F S288 .f32 := subf main_v109 main_v110
  let main_v112 : FVec F S288 .f32 := mulf main_v82 main_v111
  let main_v113 : FVec F S288 .f32 := minimumf main_v107 main_v112
  let main_v114 : FVec F S288 .f32 := addf main_v106 main_v113
  let main_cst_31 : FVec F S_ .f32 := constant S_ .f32 0x3F4CCCCD#32
  let main_v115 : FVec F S288 .f32 := broadcastInDim S288 ![] bcast_S_S288 main_cst_31
  let main_v116 : FVec F S288 .f32 := subf main_v114 main_v115
  let main_v117 : FVec F S288 .f32 := Host.floor main_v116
  let main_c_32 : IVec S_ 32 := constantI S_ 32 0#32
  let main_c_33 : IVec S_ 32 := constantI S_ 32 68#32
  let main_v118 : FVec F S288 .f32 := fn_clip (F := F) main_v117 main_c_32 main_c_33
  let main_v119 : IVec S288 32 := fptosi 32 main_v118
  let main_c_34 : IVec S_ 32 := constantI S_ 32 0#32
  let main_v120 : IVec S288 32 := broadcastInDim S288 ![] bcast_S_S288 main_c_34
  let main_v121 : IVec S288 1 := cmpi .slt main_v39 main_v120
  let main_c_35 : IVec S_ 32 := constantI S_ 32 4#32
  let main_v122 : IVec S288 32 := broadcastInDim S288 ![] bcast_S_S288 main_c_35
  let main_v123 : IVec S288 32 := addi main_v39 main_v122
  let main_v124 : IVec S288 32 := select main_v121 main_v123 main_v39
  let main_c_36 : IVec S_ 32 := constantI S_ 32 1#32
  let main_v125 : IVec S288 32 := broadcastInDim S288 ![] bcast_S_S288 main_c_36
  let main_v126 : IVec S288 32 := id main_v125
  let main_v127 : IVec S288x1 32 := broadcastInDim S288x1 ![0] bcast_S288_S288x1_0 main_v124
  let main_v128 : IVec S288x1 32 := broadcastInDim S288x1 ![0] bcast_S288_S288x1_0 main_v126
  fn_part7 (F := F) main_v4 main_v9 main_v14 main_v18 main_v22 main_v37 main_v39 main_v43 main_v46 main_v47 main_v48 main_v49 main_v119 main_v127 main_v128

def fn_part5 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v60 : FVec F S288 .f32) (main_v71 : FVec F S288 .f32) (main_v82 : FVec F S288 .f32) (main_v92 : IVec S288x2 32) : IVec S4x96x96x96 1 :=
  let main_v93 : FVec F S288 .f32 := (fun x i => Host.gather gather_S4x3_S288x2_S288_n_01_n_n_01_1_11 x i) main_v37 main_v92
  let main_cst_25 : FVec F S_ .f32 := constant S_ .f32 0x42BE0000#32
  let main_v94 : FVec F S288 .f32 := broadcastInDim S288 ![] bcast_S_S288 main_cst_25
  let main_v95 : FVec F S288 .f32 := mulf main_v94 main_v60
  let main_cst_26 : FVec F S_ .f32 := constant S_ .f32 0x00000000#32
  let main_v96 : FVec F S288 .f32 := broadcastInDim S288 ![] bcast_S_S288 main_cst_26
  let main_v97 : FVec F S288 .f32 := minimumf main_v96 main_v95
  let main_v98 : FVec F S288 .f32 := addf main_v93 main_v97
  let main_v99 : FVec F S288 .f32 := mulf main_v71 main_v48
  let main_cst_27 : FVec F S_ .f32 := constant S_ .f32 0x41800000#32
  let main_v100 : FVec F S288 .f32 := broadcastInDim S288 ![] bcast_S_S288 main_cst_27
  let main_v101 : FVec F S288 .f32 := addf main_v48 main_v100
  let main_cst_28 : FVec F S_ .f32 := constant S_ .f32 0x3F800000#32
  let main_v102 : FVec F S288 .f32 := broadcastInDim S288 ![] bcast_S_S288 main_cst_28
  let main_v103 : FVec F S288 .f32 := subf main_v101 main_v102
  let main_v104 : FVec F S288 .f32 := mulf main_v71 main_v103
  let main_v105 : FVec F S288 .f32 := minimumf main_v99 main_v104
  let main_v106 : FVec F S288 .f32 := addf main_v98 main_v105
  let main_v107 : FVec F S288 .f32 := mulf main_v82 main_v47
  let main_cst_29 : FVec F S_ .f32 := constant S_ .f32 0x41000000#32
  let main_v108 : FVec F S288 .f32 := broadcastInDim S288 ![] bcast_S_S288 main_cst_29
  let main_v109 : FVec F S288 .f32 := addf main_v47 main_v108
  let main_cst_30 : FVec F S_ .f32 := constant S_ .f32 0x3F800000#32
  let main_v110 : FVec F S288 .f32 := broadcastInDim S288 ![] bcast_S_S288 main_cst_30
  fn_part6 (F := F) main_v4 main_v9 main_v14 main_v18 main_v22 main_v37 main_v39 main_v43 main_v46 main_v47 main_v48 main_v49 main_v82 main_v106 main_v107 main_v109 main_v110

def fn_part4 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v60 : FVec F S288 .f32) (main_v71 : FVec F S288 .f32) (main_v73 : IVec S288 1) : IVec S4x96x96x96 1 :=
  let main_c_20 : IVec S_ 32 := constantI S_ 32 4#32
  let main_v74 : IVec S288 32 := broadcastInDim S288 ![] bcast_S_S288 main_c_20
  let main_v75 : IVec S288 32 := addi main_v39 main_v74
  let main_v76 : IVec S288 32 := select main_v73 main_v75 main_v39
  let main_c_21 : IVec S_ 32 := constantI S_ 32 2#32
  let main_v77 : IVec S288 32 := broadcastInDim S288 ![] bcast_S_S288 main_c_21
  let main_v78 : IVec S288 32 := id main_v77
  let main_v79 : IVec S288x1 32 := broadcastInDim S288x1 ![0] bcast_S288_S288x1_0 main_v76
  let main_v80 : IVec S288x1 32 := broadcastInDim S288x1 ![0] bcast_S288_S288x1_0 main_v78
  let main_v81 : IVec S288x2 32 := (fun a b => concatenate S288x2 1 [⟨S288x1, a⟩, ⟨S288x1, b⟩] concatenates_S288x1_S288x1_S288x2_d1) main_v79 main_v80
  let main_v82 : FVec F S288 .f32 := (fun x i => Host.gather gather_S4x3_S288x2_S288_n_01_n_n_01_1_11 x i) main_v18 main_v81
  let main_c_22 : IVec S_ 32 := constantI S_ 32 0#32
  let main_v83 : IVec S288 32 := broadcastInDim S288 ![] bcast_S_S288 main_c_22
  let main_v84 : IVec S288 1 := cmpi .slt main_v39 main_v83
  let main_c_23 : IVec S_ 32 := constantI S_ 32 4#32
  let main_v85 : IVec S288 32 := broadcastInDim S288 ![] bcast_S_S288 main_c_23
  let main_v86 : IVec S288 32 := addi main_v39 main_v85
  let main_v87 : IVec S288 32 := select main_v84 main_v86 main_v39
  let main_c_24 : IVec S_ 32 := constantI S_ 32 2#32
  let main_v88 : IVec S288 32 := broadcastInDim S288 ![] bcast_S_S288 main_c_24
  let main_v89 : IVec S288 32 := id main_v88
  let main_v90 : IVec S288x1 32 := broadcastInDim S288x1 ![0] bcast_S288_S288x1_0 main_v87
  let main_v91 : IVec S288x1 32 := broadcastInDim S288x1 ![0] bcast_S288_S288x1_0 main_v89
  let main_v92 : IVec S288x2 32 := (fun a b => concatenate S288x2 1 [⟨S288x1, a⟩, ⟨S288x1, b⟩] concatenates_S288x1_S288x1_S288x2_d1) main_v90 main_v91
  fn_part5 (F := F) main_v4 main_v9 main_v14 main_v18 main_v22 main_v37 main_v39 main_v43 main_v46 main_v47 main_v48 main_v49 main_v60 main_v71 main_v82 main_v92

def fn_part3 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v54 : IVec S288 32) : IVec S4x96x96x96 1 :=
  let main_c_15 : IVec S_ 32 := constantI S_ 32 2#32
  let main_v55 : IVec S288 32 := broadcastInDim S288 ![] bcast_S_S288 main_c_15
  let main_v56 : IVec S288 32 := id main_v55
  let main_v57 : IVec S288x1 32 := broadcastInDim S288x1 ![0] bcast_S288_S288x1_0 main_v54
  let main_v58 : IVec S288x1 32 := broadcastInDim S288x1 ![0] bcast_S288_S288x1_0 main_v56
  let main_v59 : IVec S288x2 32 := (fun a b => concatenate S288x2 1 [⟨S288x1, a⟩, ⟨S288x1, b⟩] concatenates_S288x1_S288x1_S288x2_d1) main_v57 main_v58
  let main_v60 : FVec F S288 .f32 := (fun x i => Host.gather gather_S4x3_S288x2_S288_n_01_n_n_01_1_11 x i) main_v14 main_v59
  let main_c_16 : IVec S_ 32 := constantI S_ 32 0#32
  let main_v61 : IVec S288 32 := broadcastInDim S288 ![] bcast_S_S288 main_c_16
  let main_v62 : IVec S288 1 := cmpi .slt main_v39 main_v61
  let main_c_17 : IVec S_ 32 := constantI S_ 32 4#32
  let main_v63 : IVec S288 32 := broadcastInDim S288 ![] bcast_S_S288 main_c_17
  let main_v64 : IVec S288 32 := addi main_v39 main_v63
  let main_v65 : IVec S288 32 := select main_v62 main_v64 main_v39
  let main_c_18 : IVec S_ 32 := constantI S_ 32 2#32
  let main_v66 : IVec S288 32 := broadcastInDim S288 ![] bcast_S_S288 main_c_18
  let main_v67 : IVec S288 32 := id main_v66
  let main_v68 : IVec S288x1 32 := broadcastInDim S288x1 ![0] bcast_S288_S288x1_0 main_v65
  let main_v69 : IVec S288x1 32 := broadcastInDim S288x1 ![0] bcast_S288_S288x1_0 main_v67
  let main_v70 : IVec S288x2 32 := (fun a b => concatenate S288x2 1 [⟨S288x1, a⟩, ⟨S288x1, b⟩] concatenates_S288x1_S288x1_S288x2_d1) main_v68 main_v69
  let main_v71 : FVec F S288 .f32 := (fun x i => Host.gather gather_S4x3_S288x2_S288_n_01_n_n_01_1_11 x i) main_v22 main_v70
  let main_c_19 : IVec S_ 32 := constantI S_ 32 0#32
  let main_v72 : IVec S288 32 := broadcastInDim S288 ![] bcast_S_S288 main_c_19
  let main_v73 : IVec S288 1 := cmpi .slt main_v39 main_v72
  fn_part4 (F := F) main_v4 main_v9 main_v14 main_v18 main_v22 main_v37 main_v39 main_v43 main_v46 main_v47 main_v48 main_v49 main_v60 main_v71 main_v73

def fn_part2 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v38 : IVec S288 32) (main_c : IVec S_ 32) : IVec S4x96x96x96 1 :=
  let main_v39 : IVec S288 32 := fn_floor_divide (F := F) main_v38 main_c
  let main_c_7 : IVec S_ 32 := constantI S_ 32 6#32
  let main_v40 : IVec S288 32 := fn_floor_divide (F := F) main_v38 main_c_7
  let main_c_8 : IVec S_ 32 := constantI S_ 32 12#32
  let main_v41 : IVec S288 32 := fn_remainder (F := F) main_v40 main_c_8
  let main_c_9 : IVec S_ 32 := constantI S_ 32 8#32
  let main_v42 : IVec S288 32 := broadcastInDim S288 ![] bcast_S_S288 main_c_9
  let main_v43 : IVec S288 32 := muli main_v41 main_v42
  let main_c_10 : IVec S_ 32 := constantI S_ 32 6#32
  let main_v44 : IVec S288 32 := fn_remainder (F := F) main_v38 main_c_10
  let main_c_11 : IVec S_ 32 := constantI S_ 32 16#32
  let main_v45 : IVec S288 32 := broadcastInDim S288 ![] bcast_S_S288 main_c_11
  let main_v46 : IVec S288 32 := muli main_v44 main_v45
  let main_v47 : FVec F S288 .f32 := sitofp .f32 main_v43
  let main_v48 : FVec F S288 .f32 := sitofp .f32 main_v46
  let main_c_12 : IVec S_ 32 := constantI S_ 32 0#32
  let main_v49 : IVec S288 32 := broadcastInDim S288 ![] bcast_S_S288 main_c_12
  let main_c_13 : IVec S_ 32 := constantI S_ 32 0#32
  let main_v50 : IVec S288 32 := broadcastInDim S288 ![] bcast_S_S288 main_c_13
  let main_v51 : IVec S288 1 := cmpi .slt main_v39 main_v50
  let main_c_14 : IVec S_ 32 := constantI S_ 32 4#32
  let main_v52 : IVec S288 32 := broadcastInDim S288 ![] bcast_S_S288 main_c_14
  let main_v53 : IVec S288 32 := addi main_v39 main_v52
  let main_v54 : IVec S288 32 := select main_v51 main_v53 main_v39
  fn_part3 (F := F) main_v4 main_v9 main_v14 main_v18 main_v22 main_v37 main_v39 main_v43 main_v46 main_v47 main_v48 main_v49 main_v54

def fn_part1 {F : FTy → Type} [FloatOps F] (main_arg1 : FVec F S4x3x4 .f32) (main_v4 : FVec F S4x16 .f32) (main_v9 : FVec F S112 .f32) (main_v10 : FVec F S_ .f32) (main_v14 : FVec F S4x3 .f32) (main_v16 : FVec F S4x3 .f32) (main_v17 : FVec F S4x3 .f32) : IVec S4x96x96x96 1 :=
  let main_v18 : FVec F S4x3 .f32 := mulf main_v17 main_v16
  let main_v19 : FVec F S4x3x1 .f32 := (extractStridedSlice S4x3x1 ![0, 0, 2] · slices_S4x3x4_S4x3x1_0_0_2) main_arg1
  let main_v20 : FVec F S4x3 .f32 := shapeCast S4x3 main_v19 shapeCasts_S4x3x1_S4x3
  let main_v21 : FVec F S4x3 .f32 := broadcastInDim S4x3 ![] bcast_S_S4x3 main_v10
  let main_v22 : FVec F S4x3 .f32 := mulf main_v21 main_v20
  let main_v23 : FVec F S4x3x1 .f32 := (extractStridedSlice S4x3x1 ![0, 0, 3] · slices_S4x3x4_S4x3x1_0_0_3) main_arg1
  let main_v24 : FVec F S4x3 .f32 := shapeCast S4x3 main_v23 shapeCasts_S4x3x1_S4x3
  let main_v25 : FVec F S4x3x1 .f32 := (extractStridedSlice S4x3x1 ![0, 0, 0] · slices_S4x3x4_S4x3x1_0_0_0) main_arg1
  let main_v26 : FVec F S4x3 .f32 := shapeCast S4x3 main_v25 shapeCasts_S4x3x1_S4x3
  let main_v27 : FVec F S4x3 .f32 := subf main_v24 main_v26
  let main_v28 : FVec F S4x3x1 .f32 := (extractStridedSlice S4x3x1 ![0, 0, 1] · slices_S4x3x4_S4x3x1_0_0_1) main_arg1
  let main_v29 : FVec F S4x3 .f32 := shapeCast S4x3 main_v28 shapeCasts_S4x3x1_S4x3
  let main_v30 : FVec F S4x3 .f32 := subf main_v27 main_v29
  let main_v31 : FVec F S4x3x1 .f32 := (extractStridedSlice S4x3x1 ![0, 0, 2] · slices_S4x3x4_S4x3x1_0_0_2) main_arg1
  let main_v32 : FVec F S4x3 .f32 := shapeCast S4x3 main_v31 shapeCasts_S4x3x1_S4x3
  let main_v33 : FVec F S4x3 .f32 := subf main_v30 main_v32
  let main_cst_5 : FVec F S_ .f32 := constant S_ .f32 0x42400000#32
  let main_v34 : FVec F S4x3 .f32 := broadcastInDim S4x3 ![] bcast_S_S4x3 main_cst_5
  let main_v35 : FVec F S4x3 .f32 := mulf main_v34 main_v33
  let main_cst_6 : FVec F S_ .f32 := constant S_ .f32 0x42400000#32
  let main_v36 : FVec F S4x3 .f32 := broadcastInDim S4x3 ![] bcast_S_S4x3 main_cst_6
  let main_v37 : FVec F S4x3 .f32 := addf main_v35 main_v36
  let main_v38 : IVec S288 32 := iotaInDim S288 32 0
  let main_c : IVec S_ 32 := constantI S_ 32 72#32
  fn_part2 (F := F) main_v4 main_v9 main_v14 main_v18 main_v22 main_v37 main_v38 main_c

def fn {F : FTy → Type} [FloatOps F] (main_arg0 : FVec F S4x96x96x96x2 .f32) (main_arg1 : FVec F S4x3x4 .f32) : IVec S4x96x96x96 1 :=
  let main_v0 : FVec F S4x3x4 .bf16 := (truncf .bf16 · bitsLt_bf16_f32) main_arg1
  let main_v1 : FVec F S4x3x4 .f32 := (extf .f32 · bitsLt_bf16_f32) main_v0
  let main_v2 : FVec F S4x12 .f32 := shapeCast S4x12 main_v1 shapeCasts_S4x3x4_S4x12
  let main_cst : FVec F S_ .f32 := constant S_ .f32 0x00000000#32
  let main_v3 : FVec F S4x4 .f32 := broadcastInDim S4x4 ![] bcast_S_S4x4 main_cst
  let main_v4 : FVec F S4x16 .f32 := (fun a b => concatenate S4x16 1 [⟨S4x12, a⟩, ⟨S4x4, b⟩] concatenates_S4x12_S4x4_S4x16_d1) main_v2 main_v3
  let main_cst_0 : FVec F S_ .f32 := constant S_ .f32 0xBF800000#32
  let main_cst_1 : FVec F S_ .f32 := constant S_ .f32 0x3F800000#32
  let main_v5 : FVec F S96 .f32 := fn_linspace (F := F) main_cst_0 main_cst_1
  let main_v6 : FVec F S96 .bf16 := (truncf .bf16 · bitsLt_bf16_f32) main_v5
  let main_v7 : FVec F S96 .f32 := (extf .f32 · bitsLt_bf16_f32) main_v6
  let main_cst_2 : FVec F S_ .f32 := constant S_ .f32 0x00000000#32
  let main_v8 : FVec F S16 .f32 := broadcastInDim S16 ![] bcast_S_S16 main_cst_2
  let main_v9 : FVec F S112 .f32 := (fun a b => concatenate S112 0 [⟨S96, a⟩, ⟨S16, b⟩] concatenates_S96_S16_S112_d0) main_v7 main_v8
  let main_cst_3 : FVec F S_ .f32 := constant S_ .f32 0x42C00000#32
  let main_cst_4 : FVec F S_ .f32 := constant S_ .f32 0x42BE0000#32
  let main_v10 : FVec F S_ .f32 := Host.divf main_cst_3 main_cst_4
  let main_v11 : FVec F S4x3x1 .f32 := (extractStridedSlice S4x3x1 ![0, 0, 0] · slices_S4x3x4_S4x3x1_0_0_0) main_arg1
  let main_v12 : FVec F S4x3 .f32 := shapeCast S4x3 main_v11 shapeCasts_S4x3x1_S4x3
  let main_v13 : FVec F S4x3 .f32 := broadcastInDim S4x3 ![] bcast_S_S4x3 main_v10
  let main_v14 : FVec F S4x3 .f32 := mulf main_v13 main_v12
  let main_v15 : FVec F S4x3x1 .f32 := (extractStridedSlice S4x3x1 ![0, 0, 1] · slices_S4x3x4_S4x3x1_0_0_1) main_arg1
  let main_v16 : FVec F S4x3 .f32 := shapeCast S4x3 main_v15 shapeCasts_S4x3x1_S4x3
  let main_v17 : FVec F S4x3 .f32 := broadcastInDim S4x3 ![] bcast_S_S4x3 main_v10
  fn_part1 (F := F) main_arg1 main_v4 main_v9 main_v10 main_v14 main_v16 main_v17
-- ==== Pre_in_range.lean ====
abbrev S4x96x96x96x2 : Shape := ⟨5, ![4, 96, 96, 96, 2]⟩
abbrev S4x3x4 : Shape := ⟨3, ![4, 3, 4]⟩
abbrev S4x12 : Shape := ⟨2, ![4, 12]⟩
abbrev S_ : Shape := ⟨0, ![]⟩
abbrev S4x4 : Shape := ⟨2, ![4, 4]⟩
abbrev S4x16 : Shape := ⟨2, ![4, 16]⟩
abbrev S95 : Shape := ⟨1, ![95]⟩
abbrev S1 : Shape := ⟨1, ![1]⟩
abbrev S96 : Shape := ⟨1, ![96]⟩
abbrev S16 : Shape := ⟨1, ![16]⟩
abbrev S112 : Shape := ⟨1, ![112]⟩
abbrev S4x3x1 : Shape := ⟨3, ![4, 3, 1]⟩
abbrev S4x3 : Shape := ⟨2, ![4, 3]⟩
abbrev S288 : Shape := ⟨1, ![288]⟩
abbrev S288x1 : Shape := ⟨2, ![288, 1]⟩
abbrev S288x2 : Shape := ⟨2, ![288, 2]⟩
abbrev S288x16 : Shape := ⟨2, ![288, 16]⟩
abbrev S32x9x16 : Shape := ⟨3, ![32, 9, 16]⟩
abbrev S32x9x1 : Shape := ⟨3, ![32, 9, 1]⟩
abbrev S32x9 : Shape := ⟨2, ![32, 9]⟩
abbrev S4x1 : Shape := ⟨2, ![4, 1]⟩
abbrev S1x96 : Shape := ⟨2, ![1, 96]⟩
abbrev S4x96 : Shape := ⟨2, ![4, 96]⟩
abbrev S4x1x1x96 : Shape := ⟨4, ![4, 1, 1, 96]⟩
abbrev S4x96x1x1 : Shape := ⟨4, ![4, 96, 1, 1]⟩
abbrev S4x96x1x96 : Shape := ⟨4, ![4, 96, 1, 96]⟩
abbrev S4x1x96x1 : Shape := ⟨4, ![4, 1, 96, 1]⟩
abbrev S4x96x96x96 : Shape := ⟨4, ![4, 96, 96, 96]⟩
abbrev S4 : Shape := ⟨1, ![4]⟩
abbrev S4x1x1x1 : Shape := ⟨4, ![4, 1, 1, 1]⟩
abbrev S4x12x6 : Shape := ⟨3, ![4, 12, 6]⟩
abbrev S4x12x8x6 : Shape := ⟨4, ![4, 12, 8, 6]⟩
abbrev S4x96x6 : Shape := ⟨3, ![4, 96, 6]⟩
abbrev S4x96x6x16 : Shape := ⟨4, ![4, 96, 6, 16]⟩
abbrev S4x96x96 : Shape := ⟨3, ![4, 96, 96]⟩
abbrev S4x96x96x1 : Shape := ⟨4, ![4, 96, 96, 1]⟩

class Facts : Prop where
  bitsLt_bf16_f32 : FTy.bits .bf16 < FTy.bits .f32
  shapeCasts_S4x3x4_S4x12 : S4x3x4.ShapeCasts S4x12
  bcast_S_S4x4 : S_.BroadcastsInDim S4x4 (![] : Fin 0 → Fin S4x4.rank)
  concatenates_S4x12_S4x4_S4x16_d1 : Shape.Concatenates [S4x12, S4x4] S4x16 1
  bcast_S_S95 : S_.BroadcastsInDim S95 (![] : Fin 0 → Fin S95.rank)
  shapeCasts_S_S1 : S_.ShapeCasts S1
  bcast_S1_S95_0 : S1.BroadcastsInDim S95 (![0] : Fin 1 → Fin S95.rank)
  bcast_S_S1 : S_.BroadcastsInDim S1 (![] : Fin 0 → Fin S1.rank)
  concatenates_S95_S1_S96_d0 : Shape.Concatenates [S95, S1] S96 0
  bcast_S_S16 : S_.BroadcastsInDim S16 (![] : Fin 0 → Fin S16.rank)
  concatenates_S96_S16_S112_d0 : Shape.Concatenates [S96, S16] S112 0
  slices_S4x3x4_S4x3x1_0_0_0 : S4x3x4.Slices ![0, 0, 0] S4x3x1
  shapeCasts_S4x3x1_S4x3 : S4x3x1.ShapeCasts S4x3
  bcast_S_S4x3 : S_.BroadcastsInDim S4x3 (![] : Fin 0 → Fin S4x3.rank)
  slices_S4x3x4_S4x3x1_0_0_1 : S4x3x4.Slices ![0, 0, 1] S4x3x1
  slices_S4x3x4_S4x3x1_0_0_2 : S4x3x4.Slices ![0, 0, 2] S4x3x1
  slices_S4x3x4_S4x3x1_0_0_3 : S4x3x4.Slices ![0, 0, 3] S4x3x1
  bcast_S_S288 : S_.BroadcastsInDim S288 (![] : Fin 0 → Fin S288.rank)
  bcast_S288_S288x1_0 : S288.BroadcastsInDim S288x1 (![0] : Fin 1 → Fin S288x1.rank)
  concatenates_S288x1_S288x1_S288x2_d1 : Shape.Concatenates [S288x1, S288x1] S288x2 1
  concatenates_S288x1_S288x1_S288x1_S288x1_S288x1_S288x1_S288x1_S288x1_S288x1_S288x1_S288x1_S288x1_S288x1_S288x1_S288x1_S288x1_S288x16_d1 : Shape.Concatenates [S288x1, S288x1, S288x1, S288x1, S288x1, S288x1, S288x1, S288x1, S288x1, S288x1, S288x1, S288x1, S288x1, S288x1, S288x1, S288x1] S288x16 1
  shapeCasts_S288x16_S32x9x16 : S288x16.ShapeCasts S32x9x16
  slices_S112_S96_0 : S112.Slices ![0] S96
  slices_S32x9x16_S32x9x1_0_0_3 : S32x9x16.Slices ![0, 0, 3] S32x9x1
  shapeCasts_S32x9x1_S32x9 : S32x9x1.ShapeCasts S32x9
  slices_S4x16_S4x1_0_8 : S4x16.Slices ![0, 8] S4x1
  bcast_S96_S1x96_1 : S96.BroadcastsInDim S1x96 (![1] : Fin 1 → Fin S1x96.rank)
  bcast_S1x96_S4x96_0_1 : S1x96.BroadcastsInDim S4x96 (![0, 1] : Fin 2 → Fin S4x96.rank)
  bcast_S4x1_S4x96_0_1 : S4x1.BroadcastsInDim S4x96 (![0, 1] : Fin 2 → Fin S4x96.rank)
  slices_S4x16_S4x1_0_9 : S4x16.Slices ![0, 9] S4x1
  slices_S4x16_S4x1_0_10 : S4x16.Slices ![0, 10] S4x1
  bcast_S4x96_S4x1x1x96_0_3 : S4x96.BroadcastsInDim S4x1x1x96 (![0, 3] : Fin 2 → Fin S4x1x1x96.rank)
  bcast_S4x96_S4x96x1x1_0_1 : S4x96.BroadcastsInDim S4x96x1x1 (![0, 1] : Fin 2 → Fin S4x96x1x1.rank)
  bcast_S4x1x1x96_S4x96x1x96_0_1_2_3 : S4x1x1x96.BroadcastsInDim S4x96x1x96 (![0, 1, 2, 3] : Fin 4 → Fin S4x96x1x96.rank)
  bcast_S4x96x1x1_S4x96x1x96_0_1_2_3 : S4x96x1x1.BroadcastsInDim S4x96x1x96 (![0, 1, 2, 3] : Fin 4 → Fin S4x96x1x96.rank)
  bcast_S4x96_S4x1x96x1_0_2 : S4x96.BroadcastsInDim S4x1x96x1 (![0, 2] : Fin 2 → Fin S4x1x96x1.rank)
  bcast_S4x96x1x96_S4x96x96x96_0_1_2_3 : S4x96x1x96.BroadcastsInDim S4x96x96x96 (![0, 1, 2, 3] : Fin 4 → Fin S4x96x96x96.rank)
  bcast_S4x1x96x1_S4x96x96x96_0_1_2_3 : S4x1x96x1.BroadcastsInDim S4x96x96x96 (![0, 1, 2, 3] : Fin 4 → Fin S4x96x96x96.rank)
  slices_S4x16_S4x1_0_11 : S4x16.Slices ![0, 11] S4x1
  shapeCasts_S4x1_S4 : S4x1.ShapeCasts S4
  bcast_S4_S4x1x1x1_0 : S4.BroadcastsInDim S4x1x1x1 (![0] : Fin 1 → Fin S4x1x1x1.rank)
  bcast_S4x1x1x1_S4x96x96x96_0_1_2_3 : S4x1x1x1.BroadcastsInDim S4x96x96x96 (![0, 1, 2, 3] : Fin 4 → Fin S4x96x96x96.rank)
  bcast_S_S4x96x96x96 : S_.BroadcastsInDim S4x96x96x96 (![] : Fin 0 → Fin S4x96x96x96.rank)
  natLt_1_32 : 1 < 32
  shapeCasts_S32x9_S4x12x6 : S32x9.ShapeCasts S4x12x6
  bcast_S4x12x6_S4x12x8x6_0_1_3 : S4x12x6.BroadcastsInDim S4x12x8x6 (![0, 1, 3] : Fin 3 → Fin S4x12x8x6.rank)
  shapeCasts_S4x12x8x6_S4x96x6 : S4x12x8x6.ShapeCasts S4x96x6
  bcast_S4x96x6_S4x96x6x16_0_1_2 : S4x96x6.BroadcastsInDim S4x96x6x16 (![0, 1, 2] : Fin 3 → Fin S4x96x6x16.rank)
  shapeCasts_S4x96x6x16_S4x96x96 : S4x96x6x16.ShapeCasts S4x96x96
  bcast_S4x96x96_S4x96x96x1_0_1_2 : S4x96x96.BroadcastsInDim S4x96x96x1 (![0, 1, 2] : Fin 3 → Fin S4x96x96x1.rank)
  bcast_S_S4x96x96x1 : S_.BroadcastsInDim S4x96x96x1 (![] : Fin 0 → Fin S4x96x96x1.rank)
  bcast_S4x96x96x1_S4x96x96x96_0_1_2_3 : S4x96x96x1.BroadcastsInDim S4x96x96x96 (![0, 1, 2, 3] : Fin 4 → Fin S4x96x96x96.rank)
  slices_S32x9x16_S32x9x1_0_0_4 : S32x9x16.Slices ![0, 0, 4] S32x9x1
  slices_S4x16_S4x1_0_4 : S4x16.Slices ![0, 4] S4x1
  slices_S4x16_S4x1_0_5 : S4x16.Slices ![0, 5] S4x1
  slices_S4x16_S4x1_0_6 : S4x16.Slices ![0, 6] S4x1
  slices_S4x16_S4x1_0_7 : S4x16.Slices ![0, 7] S4x1
  slices_S4x16_S4x1_0_0 : S4x16.Slices ![0, 0] S4x1
  slices_S4x16_S4x1_0_1 : S4x16.Slices ![0, 1] S4x1
  slices_S4x16_S4x1_0_2 : S4x16.Slices ![0, 2] S4x1
  slices_S4x16_S4x1_0_3 : S4x16.Slices ![0, 3] S4x1
  gather_S4x3_S288x2_S288_n_01_n_n_01_1_11_wf : GatherDims.WF S4x3 S288x2 S288 [] [0, 1] [] [0, 1] [] 1 ![1, 1]

variable [Facts]

def gather_S4x3_S288x2_S288_n_01_n_n_01_1_11 : GatherDims S4x3 S288x2 S288 where
  offsetDims := []
  collapsedSliceDims := [0, 1]
  operandBatchingDims := []
  startIndicesBatchingDims := []
  startIndexMap := [0, 1]
  indexVectorDim := 1
  sliceSizes := ![1, 1]
  wf := gather_S4x3_S288x2_S288_n_01_n_n_01_1_11_wf
def fn_linspace {F : FTy → Type} [FloatOps F] (arg0 : FVec F S_ .f32) (arg1 : FVec F S_ .f32) : FVec F S96 .f32 :=
  let v0 : FVec F S_ .f32 := id arg0
  let v1 : FVec F S_ .f32 := id arg1
  let v2 : FVec F S_ .f32 := subf v1 v0
  let cst : FVec F S_ .f32 := constant S_ .f32 0x42BE0000#32
  let v3 : FVec F S_ .f32 := Host.divf v2 cst
  let v4 : FVec F S95 .f32 := sitofp .f32 (iotaInDim S95 32 0)
  let cst_0 : FVec F S_ .f32 := constant S_ .f32 0x42BE0000#32
  let v5 : FVec F S95 .f32 := broadcastInDim S95 ![] bcast_S_S95 cst_0
  let v6 : FVec F S95 .f32 := Host.divf v4 v5
  let v7 : FVec F S1 .f32 := shapeCast S1 v0 shapeCasts_S_S1
  let cst_1 : FVec F S_ .f32 := constant S_ .f32 0x3F800000#32
  let v8 : FVec F S95 .f32 := broadcastInDim S95 ![] bcast_S_S95 cst_1
  let v9 : FVec F S95 .f32 := subf v8 v6
  let v10 : FVec F S95 .f32 := broadcastInDim S95 ![0] bcast_S1_S95_0 v7
  let v11 : FVec F S95 .f32 := mulf v10 v9
  let v12 : FVec F S1 .f32 := shapeCast S1 v1 shapeCasts_S_S1
  let v13 : FVec F S95 .f32 := broadcastInDim S95 ![0] bcast_S1_S95_0 v12
  let v14 : FVec F S95 .f32 := mulf v13 v6
  let v15 : FVec F S95 .f32 := addf v11 v14
  let v16 : FVec F S1 .f32 := broadcastInDim S1 ![] bcast_S_S1 v1
  let v17 : FVec F S96 .f32 := (fun a b => concatenate S96 0 [⟨S95, a⟩, ⟨S1, b⟩] concatenates_S95_S1_S96_d0) v15 v16
  v17

def fn_where {F : FTy → Type} [FloatOps F] (arg0 : IVec S288 1) (arg1 : IVec S288 32) (arg2 : IVec S288 32) : IVec S288 32 :=
  let v0 : IVec S288 32 := select arg0 arg1 arg2
  v0

def fn_floor_divide {F : FTy → Type} [FloatOps F] (arg0 : IVec S288 32) (arg1 : IVec S_ 32) : IVec S288 32 :=
  let v0 : IVec S_ 32 := id arg1
  let v1 : IVec S288 32 := broadcastInDim S288 ![] bcast_S_S288 v0
  let v2 : IVec S288 32 := Host.divsi arg0 v1
  let v3 : IVec S288 32 := signi arg0
  let v4 : IVec S_ 32 := signi v0
  let v5 : IVec S288 32 := broadcastInDim S288 ![] bcast_S_S288 v4
  let v6 : IVec S288 1 := cmpi .ne v3 v5
  let v7 : IVec S288 32 := broadcastInDim S288 ![] bcast_S_S288 v0
  let v8 : IVec S288 32 := Host.remsi arg0 v7
  let c : IVec S_ 32 := constantI S_ 32 0#32
  let v9 : IVec S288 32 := broadcastInDim S288 ![] bcast_S_S288 c
  let v10 : IVec S288 1 := cmpi .ne v8 v9
  let v11 : IVec S288 1 := andi v6 v10
  let c_0 : IVec S_ 32 := constantI S_ 32 1#32
  let v12 : IVec S288 32 := broadcastInDim S288 ![] bcast_S_S288 c_0
  let v13 : IVec S288 32 := subi v2 v12
  let v14 : IVec S288 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S288 32) (arg1 : IVec S_ 32) : IVec S288 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S288 32 := broadcastInDim S288 ![] bcast_S_S288 v2
  let v4 : IVec S288 32 := Host.remsi arg0 v3
  let c_1 : IVec S_ 32 := constantI S_ 32 0#32
  let v5 : IVec S288 32 := broadcastInDim S288 ![] bcast_S_S288 c_1
  let v6 : IVec S288 1 := cmpi .ne v4 v5
  let c_2 : IVec S_ 32 := constantI S_ 32 0#32
  let v7 : IVec S288 32 := broadcastInDim S288 ![] bcast_S_S288 c_2
  let v8 : IVec S288 1 := cmpi .slt v4 v7
  let c_3 : IVec S_ 32 := constantI S_ 32 0#32
  let v9 : IVec S_ 1 := cmpi .slt v2 c_3
  let v10 : IVec S288 1 := broadcastInDim S288 ![] bcast_S_S288 v9
  let v11 : IVec S288 1 := cmpi .ne v8 v10
  let v12 : IVec S288 1 := andi v11 v6
  let v13 : IVec S288 32 := broadcastInDim S288 ![] bcast_S_S288 v2
  let v14 : IVec S288 32 := addi v4 v13
  let v15 : IVec S288 32 := select v12 v14 v4
  v15

def fn_clip {F : FTy → Type} [FloatOps F] (arg0 : FVec F S288 .f32) (arg1 : IVec S_ 32) (arg2 : IVec S_ 32) : FVec F S288 .f32 :=
  let v0 : FVec F S_ .f32 := sitofp .f32 arg1
  let v1 : FVec F S288 .f32 := broadcastInDim S288 ![] bcast_S_S288 v0
  let v2 : FVec F S288 .f32 := maximumf v1 arg0
  let v3 : FVec F S_ .f32 := sitofp .f32 arg2
  let v4 : FVec F S288 .f32 := broadcastInDim S288 ![] bcast_S_S288 v3
  let v5 : FVec F S288 .f32 := minimumf v4 v2
  v5

def fn_part20 {F : FTy → Type} [FloatOps F] (main_v372 : IVec S4x96x96x96 1) (main_v396 : FVec F S4x96x96x96 .f32) (main_v397 : FVec F S4x1 .f32) : IVec S4x96x96x96 1 :=
  let main_v398 : FVec F S4 .f32 := shapeCast S4 main_v397 shapeCasts_S4x1_S4
  let main_v399 : FVec F S4x1x1x1 .f32 := broadcastInDim S4x1x1x1 ![0] bcast_S4_S4x1x1x1_0 main_v398
  let main_v400 : FVec F S4x96x96x96 .f32 := broadcastInDim S4x96x96x96 ![0, 1, 2, 3] bcast_S4x1x1x1_S4x96x96x96_0_1_2_3 main_v399
  let main_v401 : FVec F S4x96x96x96 .f32 := addf main_v396 main_v400
  let main_cst_80 : FVec F S_ .f32 := constant S_ .f32 0x3F800000#32
  let main_v402 : FVec F S4x96x96x96 .f32 := broadcastInDim S4x96x96x96 ![] bcast_S_S4x96x96x96 main_cst_80
  let main_v403 : FVec F S4x96x96x96 .f32 := addf main_v401 main_v402
  let main_cst_81 : FVec F S_ .f32 := constant S_ .f32 0x3F000000#32
  let main_v404 : FVec F S4x96x96x96 .f32 := broadcastInDim S4x96x96x96 ![] bcast_S_S4x96x96x96 main_cst_81
  let main_v405 : FVec F S4x96x96x96 .f32 := mulf main_v403 main_v404
  let main_cst_82 : FVec F S_ .f32 := constant S_ .f32 0x42C00000#32
  let main_v406 : FVec F S4x96x96x96 .f32 := broadcastInDim S4x96x96x96 ![] bcast_S_S4x96x96x96 main_cst_82
  let main_v407 : FVec F S4x96x96x96 .f32 := mulf main_v405 main_v406
  let main_cst_83 : FVec F S_ .f32 := constant S_ .f32 0xCF000000#32
  let main_v408 : FVec F S4x96x96x96 .f32 := broadcastInDim S4x96x96x96 ![] bcast_S_S4x96x96x96 main_cst_83
  let main_v409 : IVec S4x96x96x96 1 := cmpf .oge main_v407 main_v408
  let main_v410 : IVec S4x96x96x96 1 := andi main_v372 main_v409
  main_v410

def fn_part19 {F : FTy → Type} [FloatOps F] (main_v4 : FVec F S4x16 .f32) (main_v211 : FVec F S96 .f32) (main_v372 : IVec S4x96x96x96 1) (main_v373 : FVec F S4x1 .f32) : IVec S4x96x96x96 1 :=
  let main_v374 : FVec F S1x96 .f32 := broadcastInDim S1x96 ![1] bcast_S96_S1x96_1 main_v211
  let main_v375 : FVec F S4x96 .f32 := broadcastInDim S4x96 ![0, 1] bcast_S1x96_S4x96_0_1 main_v374
  let main_v376 : FVec F S4x96 .f32 := broadcastInDim S4x96 ![0, 1] bcast_S4x1_S4x96_0_1 main_v373
  let main_v377 : FVec F S4x96 .f32 := mulf main_v375 main_v376
  let main_v378 : FVec F S4x1 .f32 := (extractStridedSlice S4x1 ![0, 1] · slices_S4x16_S4x1_0_1) main_v4
  let main_v379 : FVec F S1x96 .f32 := broadcastInDim S1x96 ![1] bcast_S96_S1x96_1 main_v211
  let main_v380 : FVec F S4x96 .f32 := broadcastInDim S4x96 ![0, 1] bcast_S4x1_S4x96_0_1 main_v378
  let main_v381 : FVec F S4x96 .f32 := broadcastInDim S4x96 ![0, 1] bcast_S1x96_S4x96_0_1 main_v379
  let main_v382 : FVec F S4x96 .f32 := mulf main_v380 main_v381
  let main_v383 : FVec F S4x1 .f32 := (extractStridedSlice S4x1 ![0, 2] · slices_S4x16_S4x1_0_2) main_v4
  let main_v384 : FVec F S1x96 .f32 := broadcastInDim S1x96 ![1] bcast_S96_S1x96_1 main_v211
  let main_v385 : FVec F S4x96 .f32 := broadcastInDim S4x96 ![0, 1] bcast_S4x1_S4x96_0_1 main_v383
  let main_v386 : FVec F S4x96 .f32 := broadcastInDim S4x96 ![0, 1] bcast_S1x96_S4x96_0_1 main_v384
  let main_v387 : FVec F S4x96 .f32 := mulf main_v385 main_v386
  let main_v388 : FVec F S4x1x1x96 .f32 := broadcastInDim S4x1x1x96 ![0, 3] bcast_S4x96_S4x1x1x96_0_3 main_v377
  let main_v389 : FVec F S4x96x1x1 .f32 := broadcastInDim S4x96x1x1 ![0, 1] bcast_S4x96_S4x96x1x1_0_1 main_v382
  let main_v390 : FVec F S4x96x1x96 .f32 := broadcastInDim S4x96x1x96 ![0, 1, 2, 3] bcast_S4x1x1x96_S4x96x1x96_0_1_2_3 main_v388
  let main_v391 : FVec F S4x96x1x96 .f32 := broadcastInDim S4x96x1x96 ![0, 1, 2, 3] bcast_S4x96x1x1_S4x96x1x96_0_1_2_3 main_v389
  let main_v392 : FVec F S4x96x1x96 .f32 := addf main_v390 main_v391
  let main_v393 : FVec F S4x1x96x1 .f32 := broadcastInDim S4x1x96x1 ![0, 2] bcast_S4x96_S4x1x96x1_0_2 main_v387
  let main_v394 : FVec F S4x96x96x96 .f32 := broadcastInDim S4x96x96x96 ![0, 1, 2, 3] bcast_S4x96x1x96_S4x96x96x96_0_1_2_3 main_v392
  let main_v395 : FVec F S4x96x96x96 .f32 := broadcastInDim S4x96x96x96 ![0, 1, 2, 3] bcast_S4x1x96x1_S4x96x96x96_0_1_2_3 main_v393
  let main_v396 : FVec F S4x96x96x96 .f32 := addf main_v394 main_v395
  let main_v397 : FVec F S4x1 .f32 := (extractStridedSlice S4x1 ![0, 3] · slices_S4x16_S4x1_0_3) main_v4
  fn_part20 (F := F) main_v372 main_v396 main_v397

def fn_part18 {F : FTy → Type} [FloatOps F] (main_v4 : FVec F S4x16 .f32) (main_v211 : FVec F S96 .f32) (main_v291 : IVec S4x96x96x96 1) (main_v337 : IVec S4x96x96x96 32) (main_v343 : IVec S4x96x96x96 32) (main_v349 : IVec S4x96x96x1 32) (main_v351 : IVec S4x96x96x1 1) (main_c_77 : IVec S_ 32) : IVec S4x96x96x96 1 :=
  let main_v352 : IVec S4x96x96x1 32 := broadcastInDim S4x96x96x1 ![] bcast_S_S4x96x96x1 main_c_77
  let main_v353 : IVec S4x96x96x1 1 := cmpi .sle main_v349 main_v352
  let main_v354 : IVec S4x96x96x1 1 := andi main_v351 main_v353
  let main_v355 : IVec S4x96x96x96 32 := broadcastInDim S4x96x96x96 ![0, 1, 2, 3] bcast_S4x96x96x1_S4x96x96x96_0_1_2_3 main_v349
  let main_v356 : IVec S4x96x96x96 1 := cmpi .sge main_v337 main_v355
  let main_v357 : IVec S4x96x96x96 1 := broadcastInDim S4x96x96x96 ![0, 1, 2, 3] bcast_S4x96x96x1_S4x96x96x96_0_1_2_3 main_v354
  let main_v358 : IVec S4x96x96x96 1 := andi main_v357 main_v356
  let main_c_78 : IVec S_ 32 := constantI S_ 32 20#32
  let main_v359 : IVec S4x96x96x1 32 := broadcastInDim S4x96x96x1 ![] bcast_S_S4x96x96x1 main_c_78
  let main_v360 : IVec S4x96x96x1 32 := addi main_v349 main_v359
  let main_v361 : IVec S4x96x96x96 32 := broadcastInDim S4x96x96x96 ![0, 1, 2, 3] bcast_S4x96x96x1_S4x96x96x96_0_1_2_3 main_v360
  let main_v362 : IVec S4x96x96x96 1 := cmpi .slt main_v337 main_v361
  let main_v363 : IVec S4x96x96x96 1 := andi main_v358 main_v362
  let main_v364 : IVec S4x96x96x96 32 := broadcastInDim S4x96x96x96 ![0, 1, 2, 3] bcast_S4x96x96x1_S4x96x96x96_0_1_2_3 main_v349
  let main_v365 : IVec S4x96x96x96 1 := cmpi .sge main_v343 main_v364
  let main_v366 : IVec S4x96x96x96 1 := andi main_v363 main_v365
  let main_c_79 : IVec S_ 32 := constantI S_ 32 20#32
  let main_v367 : IVec S4x96x96x1 32 := broadcastInDim S4x96x96x1 ![] bcast_S_S4x96x96x1 main_c_79
  let main_v368 : IVec S4x96x96x1 32 := addi main_v349 main_v367
  let main_v369 : IVec S4x96x96x96 32 := broadcastInDim S4x96x96x96 ![0, 1, 2, 3] bcast_S4x96x96x1_S4x96x96x96_0_1_2_3 main_v368
  let main_v370 : IVec S4x96x96x96 1 := cmpi .slt main_v343 main_v369
  let main_v371 : IVec S4x96x96x96 1 := andi main_v366 main_v370
  let main_v372 : IVec S4x96x96x96 1 := andi main_v291 main_v371
  let main_v373 : FVec F S4x1 .f32 := (extractStridedSlice S4x1 ![0, 0] · slices_S4x16_S4x1_0_0) main_v4
  fn_part19 (F := F) main_v4 main_v211 main_v372 main_v373

def fn_part17 {F : FTy → Type} [FloatOps F] (main_v4 : FVec F S4x16 .f32) (main_v211 : FVec F S96 .f32) (main_v291 : IVec S4x96x96x96 1) (main_v293 : IVec S32x9 32) (main_v333 : IVec S4x96x96x96 32) (main_c_71 : IVec S_ 32) : IVec S4x96x96x96 1 :=
  let main_v334 : IVec S4x96x96x96 32 := broadcastInDim S4x96x96x96 ![] bcast_S_S4x96x96x96 main_c_71
  let main_v335 : IVec S4x96x96x96 32 := maxsi main_v333 main_v334
  let main_c_72 : IVec S_ 32 := constantI S_ 32 95#32
  let main_v336 : IVec S4x96x96x96 32 := broadcastInDim S4x96x96x96 ![] bcast_S_S4x96x96x96 main_c_72
  let main_v337 : IVec S4x96x96x96 32 := minsi main_v335 main_v336
  let main_c_73 : IVec S_ 32 := constantI S_ 32 1#32
  let main_v338 : IVec S4x96x96x96 32 := broadcastInDim S4x96x96x96 ![] bcast_S_S4x96x96x96 main_c_73
  let main_v339 : IVec S4x96x96x96 32 := addi main_v333 main_v338
  let main_c_74 : IVec S_ 32 := constantI S_ 32 0#32
  let main_v340 : IVec S4x96x96x96 32 := broadcastInDim S4x96x96x96 ![] bcast_S_S4x96x96x96 main_c_74
  let main_v341 : IVec S4x96x96x96 32 := maxsi main_v339 main_v340
  let main_c_75 : IVec S_ 32 := constantI S_ 32 95#32
  let main_v342 : IVec S4x96x96x96 32 := broadcastInDim S4x96x96x96 ![] bcast_S_S4x96x96x96 main_c_75
  let main_v343 : IVec S4x96x96x96 32 := minsi main_v341 main_v342
  let main_v344 : IVec S4x12x6 32 := shapeCast S4x12x6 main_v293 shapeCasts_S32x9_S4x12x6
  let main_v345 : IVec S4x12x8x6 32 := broadcastInDim S4x12x8x6 ![0, 1, 3] bcast_S4x12x6_S4x12x8x6_0_1_3 main_v344
  let main_v346 : IVec S4x96x6 32 := shapeCast S4x96x6 main_v345 shapeCasts_S4x12x8x6_S4x96x6
  let main_v347 : IVec S4x96x6x16 32 := broadcastInDim S4x96x6x16 ![0, 1, 2] bcast_S4x96x6_S4x96x6x16_0_1_2 main_v346
  let main_v348 : IVec S4x96x96 32 := shapeCast S4x96x96 main_v347 shapeCasts_S4x96x6x16_S4x96x96
  let main_v349 : IVec S4x96x96x1 32 := broadcastInDim S4x96x96x1 ![0, 1, 2] bcast_S4x96x96_S4x96x96x1_0_1_2 main_v348
  let main_c_76 : IVec S_ 32 := constantI S_ 32 0#32
  let main_v350 : IVec S4x96x96x1 32 := broadcastInDim S4x96x96x1 ![] bcast_S_S4x96x96x1 main_c_76
  let main_v351 : IVec S4x96x96x1 1 := cmpi .sge main_v349 main_v350
  let main_c_77 : IVec S_ 32 := constantI S_ 32 76#32
  fn_part18 (F := F) main_v4 main_v211 main_v291 main_v337 main_v343 main_v349 main_v351 main_c_77

def fn_part16 {F : FTy → Type} [FloatOps F] (main_v4 : FVec F S4x16 .f32) (main_v211 : FVec F S96 .f32) (main_v291 : IVec S4x96x96x96 1) (main_v293 : IVec S32x9 32) (main_v308 : FVec F S4x96 .f32) (main_v313 : FVec F S4x96x1x96 .f32) : IVec S4x96x96x96 1 :=
  let main_v314 : FVec F S4x1x96x1 .f32 := broadcastInDim S4x1x96x1 ![0, 2] bcast_S4x96_S4x1x96x1_0_2 main_v308
  let main_v315 : FVec F S4x96x96x96 .f32 := broadcastInDim S4x96x96x96 ![0, 1, 2, 3] bcast_S4x96x1x96_S4x96x96x96_0_1_2_3 main_v313
  let main_v316 : FVec F S4x96x96x96 .f32 := broadcastInDim S4x96x96x96 ![0, 1, 2, 3] bcast_S4x1x96x1_S4x96x96x96_0_1_2_3 main_v314
  let main_v317 : FVec F S4x96x96x96 .f32 := addf main_v315 main_v316
  let main_v318 : FVec F S4x1 .f32 := (extractStridedSlice S4x1 ![0, 7] · slices_S4x16_S4x1_0_7) main_v4
  let main_v319 : FVec F S4 .f32 := shapeCast S4 main_v318 shapeCasts_S4x1_S4
  let main_v320 : FVec F S4x1x1x1 .f32 := broadcastInDim S4x1x1x1 ![0] bcast_S4_S4x1x1x1_0 main_v319
  let main_v321 : FVec F S4x96x96x96 .f32 := broadcastInDim S4x96x96x96 ![0, 1, 2, 3] bcast_S4x1x1x1_S4x96x96x96_0_1_2_3 main_v320
  let main_v322 : FVec F S4x96x96x96 .f32 := addf main_v317 main_v321
  let main_cst_68 : FVec F S_ .f32 := constant S_ .f32 0x3F800000#32
  let main_v323 : FVec F S4x96x96x96 .f32 := broadcastInDim S4x96x96x96 ![] bcast_S_S4x96x96x96 main_cst_68
  let main_v324 : FVec F S4x96x96x96 .f32 := addf main_v322 main_v323
  let main_cst_69 : FVec F S_ .f32 := constant S_ .f32 0x3F000000#32
  let main_v325 : FVec F S4x96x96x96 .f32 := broadcastInDim S4x96x96x96 ![] bcast_S_S4x96x96x96 main_cst_69
  let main_v326 : FVec F S4x96x96x96 .f32 := mulf main_v324 main_v325
  let main_cst_70 : FVec F S_ .f32 := constant S_ .f32 0x42C00000#32
  let main_v327 : FVec F S4x96x96x96 .f32 := broadcastInDim S4x96x96x96 ![] bcast_S_S4x96x96x96 main_cst_70
  let main_v328 : FVec F S4x96x96x96 .f32 := mulf main_v326 main_v327
  let main_v329 : IVec S4x96x96x96 32 := fptosi 32 main_v328
  let main_v330 : FVec F S4x96x96x96 .f32 := sitofp .f32 main_v329
  let main_v331 : IVec S4x96x96x96 1 := cmpf .ogt main_v330 main_v328
  let main_v332 : IVec S4x96x96x96 32 := (extui 32 · natLt_1_32) main_v331
  let main_v333 : IVec S4x96x96x96 32 := subi main_v329 main_v332
  let main_c_71 : IVec S_ 32 := constantI S_ 32 0#32
  fn_part17 (F := F) main_v4 main_v211 main_v291 main_v293 main_v333 main_c_71

def fn_part15 {F : FTy → Type} [FloatOps F] (main_v4 : FVec F S4x16 .f32) (main_v210 : IVec S32x9x16 32) (main_v211 : FVec F S96 .f32) (main_v263 : IVec S4x96x96x96 32) (main_v286 : IVec S4x96x96x96 1) (main_v289 : IVec S4x96x96x96 32) : IVec S4x96x96x96 1 :=
  let main_v290 : IVec S4x96x96x96 1 := cmpi .slt main_v263 main_v289
  let main_v291 : IVec S4x96x96x96 1 := andi main_v286 main_v290
  let main_v292 : IVec S32x9x1 32 := (extractStridedSlice S32x9x1 ![0, 0, 4] · slices_S32x9x16_S32x9x1_0_0_4) main_v210
  let main_v293 : IVec S32x9 32 := shapeCast S32x9 main_v292 shapeCasts_S32x9x1_S32x9
  let main_v294 : FVec F S4x1 .f32 := (extractStridedSlice S4x1 ![0, 4] · slices_S4x16_S4x1_0_4) main_v4
  let main_v295 : FVec F S1x96 .f32 := broadcastInDim S1x96 ![1] bcast_S96_S1x96_1 main_v211
  let main_v296 : FVec F S4x96 .f32 := broadcastInDim S4x96 ![0, 1] bcast_S1x96_S4x96_0_1 main_v295
  let main_v297 : FVec F S4x96 .f32 := broadcastInDim S4x96 ![0, 1] bcast_S4x1_S4x96_0_1 main_v294
  let main_v298 : FVec F S4x96 .f32 := mulf main_v296 main_v297
  let main_v299 : FVec F S4x1 .f32 := (extractStridedSlice S4x1 ![0, 5] · slices_S4x16_S4x1_0_5) main_v4
  let main_v300 : FVec F S1x96 .f32 := broadcastInDim S1x96 ![1] bcast_S96_S1x96_1 main_v211
  let main_v301 : FVec F S4x96 .f32 := broadcastInDim S4x96 ![0, 1] bcast_S4x1_S4x96_0_1 main_v299
  let main_v302 : FVec F S4x96 .f32 := broadcastInDim S4x96 ![0, 1] bcast_S1x96_S4x96_0_1 main_v300
  let main_v303 : FVec F S4x96 .f32 := mulf main_v301 main_v302
  let main_v304 : FVec F S4x1 .f32 := (extractStridedSlice S4x1 ![0, 6] · slices_S4x16_S4x1_0_6) main_v4
  let main_v305 : FVec F S1x96 .f32 := broadcastInDim S1x96 ![1] bcast_S96_S1x96_1 main_v211
  let main_v306 : FVec F S4x96 .f32 := broadcastInDim S4x96 ![0, 1] bcast_S4x1_S4x96_0_1 main_v304
  let main_v307 : FVec F S4x96 .f32 := broadcastInDim S4x96 ![0, 1] bcast_S1x96_S4x96_0_1 main_v305
  let main_v308 : FVec F S4x96 .f32 := mulf main_v306 main_v307
  let main_v309 : FVec F S4x1x1x96 .f32 := broadcastInDim S4x1x1x96 ![0, 3] bcast_S4x96_S4x1x1x96_0_3 main_v298
  let main_v310 : FVec F S4x96x1x1 .f32 := broadcastInDim S4x96x1x1 ![0, 1] bcast_S4x96_S4x96x1x1_0_1 main_v303
  let main_v311 : FVec F S4x96x1x96 .f32 := broadcastInDim S4x96x1x96 ![0, 1, 2, 3] bcast_S4x1x1x96_S4x96x1x96_0_1_2_3 main_v309
  let main_v312 : FVec F S4x96x1x96 .f32 := broadcastInDim S4x96x1x96 ![0, 1, 2, 3] bcast_S4x96x1x1_S4x96x1x96_0_1_2_3 main_v310
  let main_v313 : FVec F S4x96x1x96 .f32 := addf main_v311 main_v312
  fn_part16 (F := F) main_v4 main_v211 main_v291 main_v293 main_v308 main_v313

def fn_part14 {F : FTy → Type} [FloatOps F] (main_v4 : FVec F S4x16 .f32) (main_v210 : IVec S32x9x16 32) (main_v211 : FVec F S96 .f32) (main_v257 : IVec S4x96x96x96 32) (main_v263 : IVec S4x96x96x96 32) (main_v269 : IVec S4x96x96x1 32) : IVec S4x96x96x96 1 :=
  let main_c_64 : IVec S_ 32 := constantI S_ 32 0#32
  let main_v270 : IVec S4x96x96x1 32 := broadcastInDim S4x96x96x1 ![] bcast_S_S4x96x96x1 main_c_64
  let main_v271 : IVec S4x96x96x1 1 := cmpi .sge main_v269 main_v270
  let main_c_65 : IVec S_ 32 := constantI S_ 32 68#32
  let main_v272 : IVec S4x96x96x1 32 := broadcastInDim S4x96x96x1 ![] bcast_S_S4x96x96x1 main_c_65
  let main_v273 : IVec S4x96x96x1 1 := cmpi .sle main_v269 main_v272
  let main_v274 : IVec S4x96x96x1 1 := andi main_v271 main_v273
  let main_v275 : IVec S4x96x96x96 32 := broadcastInDim S4x96x96x96 ![0, 1, 2, 3] bcast_S4x96x96x1_S4x96x96x96_0_1_2_3 main_v269
  let main_v276 : IVec S4x96x96x96 1 := cmpi .sge main_v257 main_v275
  let main_v277 : IVec S4x96x96x96 1 := broadcastInDim S4x96x96x96 ![0, 1, 2, 3] bcast_S4x96x96x1_S4x96x96x96_0_1_2_3 main_v274
  let main_v278 : IVec S4x96x96x96 1 := andi main_v277 main_v276
  let main_c_66 : IVec S_ 32 := constantI S_ 32 28#32
  let main_v279 : IVec S4x96x96x1 32 := broadcastInDim S4x96x96x1 ![] bcast_S_S4x96x96x1 main_c_66
  let main_v280 : IVec S4x96x96x1 32 := addi main_v269 main_v279
  let main_v281 : IVec S4x96x96x96 32 := broadcastInDim S4x96x96x96 ![0, 1, 2, 3] bcast_S4x96x96x1_S4x96x96x96_0_1_2_3 main_v280
  let main_v282 : IVec S4x96x96x96 1 := cmpi .slt main_v257 main_v281
  let main_v283 : IVec S4x96x96x96 1 := andi main_v278 main_v282
  let main_v284 : IVec S4x96x96x96 32 := broadcastInDim S4x96x96x96 ![0, 1, 2, 3] bcast_S4x96x96x1_S4x96x96x96_0_1_2_3 main_v269
  let main_v285 : IVec S4x96x96x96 1 := cmpi .sge main_v263 main_v284
  let main_v286 : IVec S4x96x96x96 1 := andi main_v283 main_v285
  let main_c_67 : IVec S_ 32 := constantI S_ 32 28#32
  let main_v287 : IVec S4x96x96x1 32 := broadcastInDim S4x96x96x1 ![] bcast_S_S4x96x96x1 main_c_67
  let main_v288 : IVec S4x96x96x1 32 := addi main_v269 main_v287
  let main_v289 : IVec S4x96x96x96 32 := broadcastInDim S4x96x96x96 ![0, 1, 2, 3] bcast_S4x96x96x1_S4x96x96x96_0_1_2_3 main_v288
  fn_part15 (F := F) main_v4 main_v210 main_v211 main_v263 main_v286 main_v289

def fn_part13 {F : FTy → Type} [FloatOps F] (main_v4 : FVec F S4x16 .f32) (main_v210 : IVec S32x9x16 32) (main_v211 : FVec F S96 .f32) (main_v213 : IVec S32x9 32) (main_v248 : FVec F S4x96x96x96 .f32) (main_v249 : IVec S4x96x96x96 32) (main_v250 : FVec F S4x96x96x96 .f32) : IVec S4x96x96x96 1 :=
  let main_v251 : IVec S4x96x96x96 1 := cmpf .ogt main_v250 main_v248
  let main_v252 : IVec S4x96x96x96 32 := (extui 32 · natLt_1_32) main_v251
  let main_v253 : IVec S4x96x96x96 32 := subi main_v249 main_v252
  let main_c_59 : IVec S_ 32 := constantI S_ 32 0#32
  let main_v254 : IVec S4x96x96x96 32 := broadcastInDim S4x96x96x96 ![] bcast_S_S4x96x96x96 main_c_59
  let main_v255 : IVec S4x96x96x96 32 := maxsi main_v253 main_v254
  let main_c_60 : IVec S_ 32 := constantI S_ 32 95#32
  let main_v256 : IVec S4x96x96x96 32 := broadcastInDim S4x96x96x96 ![] bcast_S_S4x96x96x96 main_c_60
  let main_v257 : IVec S4x96x96x96 32 := minsi main_v255 main_v256
  let main_c_61 : IVec S_ 32 := constantI S_ 32 1#32
  let main_v258 : IVec S4x96x96x96 32 := broadcastInDim S4x96x96x96 ![] bcast_S_S4x96x96x96 main_c_61
  let main_v259 : IVec S4x96x96x96 32 := addi main_v253 main_v258
  let main_c_62 : IVec S_ 32 := constantI S_ 32 0#32
  let main_v260 : IVec S4x96x96x96 32 := broadcastInDim S4x96x96x96 ![] bcast_S_S4x96x96x96 main_c_62
  let main_v261 : IVec S4x96x96x96 32 := maxsi main_v259 main_v260
  let main_c_63 : IVec S_ 32 := constantI S_ 32 95#32
  let main_v262 : IVec S4x96x96x96 32 := broadcastInDim S4x96x96x96 ![] bcast_S_S4x96x96x96 main_c_63
  let main_v263 : IVec S4x96x96x96 32 := minsi main_v261 main_v262
  let main_v264 : IVec S4x12x6 32 := shapeCast S4x12x6 main_v213 shapeCasts_S32x9_S4x12x6
  let main_v265 : IVec S4x12x8x6 32 := broadcastInDim S4x12x8x6 ![0, 1, 3] bcast_S4x12x6_S4x12x8x6_0_1_3 main_v264
  let main_v266 : IVec S4x96x6 32 := shapeCast S4x96x6 main_v265 shapeCasts_S4x12x8x6_S4x96x6
  let main_v267 : IVec S4x96x6x16 32 := broadcastInDim S4x96x6x16 ![0, 1, 2] bcast_S4x96x6_S4x96x6x16_0_1_2 main_v266
  let main_v268 : IVec S4x96x96 32 := shapeCast S4x96x96 main_v267 shapeCasts_S4x96x6x16_S4x96x96
  let main_v269 : IVec S4x96x96x1 32 := broadcastInDim S4x96x96x1 ![0, 1, 2] bcast_S4x96x96_S4x96x96x1_0_1_2 main_v268
  fn_part14 (F := F) main_v4 main_v210 main_v211 main_v257 main_v263 main_v269

def fn_part12 {F : FTy → Type} [FloatOps F] (main_v4 : FVec F S4x16 .f32) (main_v210 : IVec S32x9x16 32) (main_v211 : FVec F S96 .f32) (main_v213 : IVec S32x9 32) (main_v223 : FVec F S4x96 .f32) (main_v228 : FVec F S4x96 .f32) (main_v229 : FVec F S4x1x1x96 .f32) : IVec S4x96x96x96 1 :=
  let main_v230 : FVec F S4x96x1x1 .f32 := broadcastInDim S4x96x1x1 ![0, 1] bcast_S4x96_S4x96x1x1_0_1 main_v223
  let main_v231 : FVec F S4x96x1x96 .f32 := broadcastInDim S4x96x1x96 ![0, 1, 2, 3] bcast_S4x1x1x96_S4x96x1x96_0_1_2_3 main_v229
  let main_v232 : FVec F S4x96x1x96 .f32 := broadcastInDim S4x96x1x96 ![0, 1, 2, 3] bcast_S4x96x1x1_S4x96x1x96_0_1_2_3 main_v230
  let main_v233 : FVec F S4x96x1x96 .f32 := addf main_v231 main_v232
  let main_v234 : FVec F S4x1x96x1 .f32 := broadcastInDim S4x1x96x1 ![0, 2] bcast_S4x96_S4x1x96x1_0_2 main_v228
  let main_v235 : FVec F S4x96x96x96 .f32 := broadcastInDim S4x96x96x96 ![0, 1, 2, 3] bcast_S4x96x1x96_S4x96x96x96_0_1_2_3 main_v233
  let main_v236 : FVec F S4x96x96x96 .f32 := broadcastInDim S4x96x96x96 ![0, 1, 2, 3] bcast_S4x1x96x1_S4x96x96x96_0_1_2_3 main_v234
  let main_v237 : FVec F S4x96x96x96 .f32 := addf main_v235 main_v236
  let main_v238 : FVec F S4x1 .f32 := (extractStridedSlice S4x1 ![0, 11] · slices_S4x16_S4x1_0_11) main_v4
  let main_v239 : FVec F S4 .f32 := shapeCast S4 main_v238 shapeCasts_S4x1_S4
  let main_v240 : FVec F S4x1x1x1 .f32 := broadcastInDim S4x1x1x1 ![0] bcast_S4_S4x1x1x1_0 main_v239
  let main_v241 : FVec F S4x96x96x96 .f32 := broadcastInDim S4x96x96x96 ![0, 1, 2, 3] bcast_S4x1x1x1_S4x96x96x96_0_1_2_3 main_v240
  let main_v242 : FVec F S4x96x96x96 .f32 := addf main_v237 main_v241
  let main_cst_56 : FVec F S_ .f32 := constant S_ .f32 0x3F800000#32
  let main_v243 : FVec F S4x96x96x96 .f32 := broadcastInDim S4x96x96x96 ![] bcast_S_S4x96x96x96 main_cst_56
  let main_v244 : FVec F S4x96x96x96 .f32 := addf main_v242 main_v243
  let main_cst_57 : FVec F S_ .f32 := constant S_ .f32 0x3F000000#32
  let main_v245 : FVec F S4x96x96x96 .f32 := broadcastInDim S4x96x96x96 ![] bcast_S_S4x96x96x96 main_cst_57
  let main_v246 : FVec F S4x96x96x96 .f32 := mulf main_v244 main_v245
  let main_cst_58 : FVec F S_ .f32 := constant S_ .f32 0x42C00000#32
  let main_v247 : FVec F S4x96x96x96 .f32 := broadcastInDim S4x96x96x96 ![] bcast_S_S4x96x96x96 main_cst_58
  let main_v248 : FVec F S4x96x96x96 .f32 := mulf main_v246 main_v247
  let main_v249 : IVec S4x96x96x96 32 := fptosi 32 main_v248
  let main_v250 : FVec F S4x96x96x96 .f32 := sitofp .f32 main_v249
  fn_part13 (F := F) main_v4 main_v210 main_v211 main_v213 main_v248 main_v249 main_v250

def fn_part11 {F : FTy → Type} [FloatOps F] (main_v4 : FVec F S4x16 .f32) (main_v9 : FVec F S112 .f32) (main_v49 : IVec S288 32) (main_v193 : IVec S288x1 32) (main_v194 : IVec S288x1 32) (main_v195 : IVec S288x1 32) (main_v196 : IVec S288x1 32) (main_v197 : IVec S288x1 32) (main_v198 : IVec S288x1 32) (main_v199 : IVec S288x1 32) (main_v200 : IVec S288x1 32) (main_v201 : IVec S288x1 32) (main_v202 : IVec S288x1 32) (main_v203 : IVec S288x1 32) (main_v204 : IVec S288x1 32) (main_v205 : IVec S288x1 32) : IVec S4x96x96x96 1 :=
  let main_v206 : IVec S288x1 32 := broadcastInDim S288x1 ![0] bcast_S288_S288x1_0 main_v49
  let main_v207 : IVec S288x1 32 := broadcastInDim S288x1 ![0] bcast_S288_S288x1_0 main_v49
  let main_v208 : IVec S288x1 32 := broadcastInDim S288x1 ![0] bcast_S288_S288x1_0 main_v49
  let main_v209 : IVec S288x16 32 := concatenate S288x16 1 [⟨S288x1, main_v193⟩, ⟨S288x1, main_v194⟩, ⟨S288x1, main_v195⟩, ⟨S288x1, main_v196⟩, ⟨S288x1, main_v197⟩, ⟨S288x1, main_v198⟩, ⟨S288x1, main_v199⟩, ⟨S288x1, main_v200⟩, ⟨S288x1, main_v201⟩, ⟨S288x1, main_v202⟩, ⟨S288x1, main_v203⟩, ⟨S288x1, main_v204⟩, ⟨S288x1, main_v205⟩, ⟨S288x1, main_v206⟩, ⟨S288x1, main_v207⟩, ⟨S288x1, main_v208⟩] concatenates_S288x1_S288x1_S288x1_S288x1_S288x1_S288x1_S288x1_S288x1_S288x1_S288x1_S288x1_S288x1_S288x1_S288x1_S288x1_S288x1_S288x16_d1
  let main_v210 : IVec S32x9x16 32 := shapeCast S32x9x16 main_v209 shapeCasts_S288x16_S32x9x16
  let main_v211 : FVec F S96 .f32 := (extractStridedSlice S96 ![0] · slices_S112_S96_0) main_v9
  let main_v212 : IVec S32x9x1 32 := (extractStridedSlice S32x9x1 ![0, 0, 3] · slices_S32x9x16_S32x9x1_0_0_3) main_v210
  let main_v213 : IVec S32x9 32 := shapeCast S32x9 main_v212 shapeCasts_S32x9x1_S32x9
  let main_v214 : FVec F S4x1 .f32 := (extractStridedSlice S4x1 ![0, 8] · slices_S4x16_S4x1_0_8) main_v4
  let main_v215 : FVec F S1x96 .f32 := broadcastInDim S1x96 ![1] bcast_S96_S1x96_1 main_v211
  let main_v216 : FVec F S4x96 .f32 := broadcastInDim S4x96 ![0, 1] bcast_S1x96_S4x96_0_1 main_v215
  let main_v217 : FVec F S4x96 .f32 := broadcastInDim S4x96 ![0, 1] bcast_S4x1_S4x96_0_1 main_v214
  let main_v218 : FVec F S4x96 .f32 := mulf main_v216 main_v217
  let main_v219 : FVec F S4x1 .f32 := (extractStridedSlice S4x1 ![0, 9] · slices_S4x16_S4x1_0_9) main_v4
  let main_v220 : FVec F S1x96 .f32 := broadcastInDim S1x96 ![1] bcast_S96_S1x96_1 main_v211
  let main_v221 : FVec F S4x96 .f32 := broadcastInDim S4x96 ![0, 1] bcast_S4x1_S4x96_0_1 main_v219
  let main_v222 : FVec F S4x96 .f32 := broadcastInDim S4x96 ![0, 1] bcast_S1x96_S4x96_0_1 main_v220
  let main_v223 : FVec F S4x96 .f32 := mulf main_v221 main_v222
  let main_v224 : FVec F S4x1 .f32 := (extractStridedSlice S4x1 ![0, 10] · slices_S4x16_S4x1_0_10) main_v4
  let main_v225 : FVec F S1x96 .f32 := broadcastInDim S1x96 ![1] bcast_S96_S1x96_1 main_v211
  let main_v226 : FVec F S4x96 .f32 := broadcastInDim S4x96 ![0, 1] bcast_S4x1_S4x96_0_1 main_v224
  let main_v227 : FVec F S4x96 .f32 := broadcastInDim S4x96 ![0, 1] bcast_S1x96_S4x96_0_1 main_v225
  let main_v228 : FVec F S4x96 .f32 := mulf main_v226 main_v227
  let main_v229 : FVec F S4x1x1x96 .f32 := broadcastInDim S4x1x1x96 ![0, 3] bcast_S4x96_S4x1x1x96_0_3 main_v218
  fn_part12 (F := F) main_v4 main_v210 main_v211 main_v213 main_v223 main_v228 main_v229

def fn_part10 {F : FTy → Type} [FloatOps F] (main_v4 : FVec F S4x16 .f32) (main_v9 : FVec F S112 .f32) (main_v39 : IVec S288 32) (main_v43 : IVec S288 32) (main_v46 : IVec S288 32) (main_v49 : IVec S288 32) (main_v119 : IVec S288 32) (main_v184 : FVec F S288 .f32) (main_cst_52 : FVec F S_ .f32) : IVec S4x96x96x96 1 :=
  let main_v185 : FVec F S288 .f32 := broadcastInDim S288 ![] bcast_S_S288 main_cst_52
  let main_v186 : FVec F S288 .f32 := subf main_v184 main_v185
  let main_v187 : FVec F S288 .f32 := Host.floor main_v186
  let main_c_53 : IVec S_ 32 := constantI S_ 32 0#32
  let main_c_54 : IVec S_ 32 := constantI S_ 32 76#32
  let main_v188 : FVec F S288 .f32 := fn_clip (F := F) main_v187 main_c_53 main_c_54
  let main_v189 : IVec S288 32 := fptosi 32 main_v188
  let main_c_55 : IVec S_ 32 := constantI S_ 32 96#32
  let main_v190 : IVec S288 32 := broadcastInDim S288 ![] bcast_S_S288 main_c_55
  let main_v191 : IVec S288 32 := muli main_v39 main_v190
  let main_v192 : IVec S288 32 := addi main_v191 main_v43
  let main_v193 : IVec S288x1 32 := broadcastInDim S288x1 ![0] bcast_S288_S288x1_0 main_v39
  let main_v194 : IVec S288x1 32 := broadcastInDim S288x1 ![0] bcast_S288_S288x1_0 main_v43
  let main_v195 : IVec S288x1 32 := broadcastInDim S288x1 ![0] bcast_S288_S288x1_0 main_v46
  let main_v196 : IVec S288x1 32 := broadcastInDim S288x1 ![0] bcast_S288_S288x1_0 main_v119
  let main_v197 : IVec S288x1 32 := broadcastInDim S288x1 ![0] bcast_S288_S288x1_0 main_v189
  let main_v198 : IVec S288x1 32 := broadcastInDim S288x1 ![0] bcast_S288_S288x1_0 main_v192
  let main_v199 : IVec S288x1 32 := broadcastInDim S288x1 ![0] bcast_S288_S288x1_0 main_v49
  let main_v200 : IVec S288x1 32 := broadcastInDim S288x1 ![0] bcast_S288_S288x1_0 main_v49
  let main_v201 : IVec S288x1 32 := broadcastInDim S288x1 ![0] bcast_S288_S288x1_0 main_v49
  let main_v202 : IVec S288x1 32 := broadcastInDim S288x1 ![0] bcast_S288_S288x1_0 main_v49
  let main_v203 : IVec S288x1 32 := broadcastInDim S288x1 ![0] bcast_S288_S288x1_0 main_v49
  let main_v204 : IVec S288x1 32 := broadcastInDim S288x1 ![0] bcast_S288_S288x1_0 main_v49
  let main_v205 : IVec S288x1 32 := broadcastInDim S288x1 ![0] bcast_S288_S288x1_0 main_v49
  fn_part11 (F := F) main_v4 main_v9 main_v49 main_v193 main_v194 main_v195 main_v196 main_v197 main_v198 main_v199 main_v200 main_v201 main_v202 main_v203 main_v204 main_v205

def fn_part9 {F : FTy → Type} [FloatOps F] (main_v4 : FVec F S4x16 .f32) (main_v9 : FVec F S112 .f32) (main_v39 : IVec S288 32) (main_v43 : IVec S288 32) (main_v46 : IVec S288 32) (main_v47 : FVec F S288 .f32) (main_v48 : FVec F S288 .f32) (main_v49 : IVec S288 32) (main_v119 : IVec S288 32) (main_v141 : FVec F S288 .f32) (main_v152 : FVec F S288 .f32) (main_v163 : FVec F S288 .f32) (main_v165 : FVec F S288 .f32) (main_cst_47 : FVec F S_ .f32) : IVec S4x96x96x96 1 :=
  let main_v166 : FVec F S288 .f32 := broadcastInDim S288 ![] bcast_S_S288 main_cst_47
  let main_v167 : FVec F S288 .f32 := minimumf main_v166 main_v165
  let main_v168 : FVec F S288 .f32 := addf main_v163 main_v167
  let main_v169 : FVec F S288 .f32 := mulf main_v141 main_v48
  let main_cst_48 : FVec F S_ .f32 := constant S_ .f32 0x41800000#32
  let main_v170 : FVec F S288 .f32 := broadcastInDim S288 ![] bcast_S_S288 main_cst_48
  let main_v171 : FVec F S288 .f32 := addf main_v48 main_v170
  let main_cst_49 : FVec F S_ .f32 := constant S_ .f32 0x3F800000#32
  let main_v172 : FVec F S288 .f32 := broadcastInDim S288 ![] bcast_S_S288 main_cst_49
  let main_v173 : FVec F S288 .f32 := subf main_v171 main_v172
  let main_v174 : FVec F S288 .f32 := mulf main_v141 main_v173
  let main_v175 : FVec F S288 .f32 := minimumf main_v169 main_v174
  let main_v176 : FVec F S288 .f32 := addf main_v168 main_v175
  let main_v177 : FVec F S288 .f32 := mulf main_v152 main_v47
  let main_cst_50 : FVec F S_ .f32 := constant S_ .f32 0x41000000#32
  let main_v178 : FVec F S288 .f32 := broadcastInDim S288 ![] bcast_S_S288 main_cst_50
  let main_v179 : FVec F S288 .f32 := addf main_v47 main_v178
  let main_cst_51 : FVec F S_ .f32 := constant S_ .f32 0x3F800000#32
  let main_v180 : FVec F S288 .f32 := broadcastInDim S288 ![] bcast_S_S288 main_cst_51
  let main_v181 : FVec F S288 .f32 := subf main_v179 main_v180
  let main_v182 : FVec F S288 .f32 := mulf main_v152 main_v181
  let main_v183 : FVec F S288 .f32 := minimumf main_v177 main_v182
  let main_v184 : FVec F S288 .f32 := addf main_v176 main_v183
  let main_cst_52 : FVec F S_ .f32 := constant S_ .f32 0x3F4CCCCD#32
  fn_part10 (F := F) main_v4 main_v9 main_v39 main_v43 main_v46 main_v49 main_v119 main_v184 main_cst_52

def fn_part8 {F : FTy → Type} [FloatOps F] (main_v4 : FVec F S4x16 .f32) (main_v9 : FVec F S112 .f32) (main_v18 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v119 : IVec S288 32) (main_v130 : FVec F S288 .f32) (main_v141 : FVec F S288 .f32) (main_v146 : IVec S288 32) (main_c_42 : IVec S_ 32) : IVec S4x96x96x96 1 :=
  let main_v147 : IVec S288 32 := broadcastInDim S288 ![] bcast_S_S288 main_c_42
  let main_v148 : IVec S288 32 := id main_v147
  let main_v149 : IVec S288x1 32 := broadcastInDim S288x1 ![0] bcast_S288_S288x1_0 main_v146
  let main_v150 : IVec S288x1 32 := broadcastInDim S288x1 ![0] bcast_S288_S288x1_0 main_v148
  let main_v151 : IVec S288x2 32 := (fun a b => concatenate S288x2 1 [⟨S288x1, a⟩, ⟨S288x1, b⟩] concatenates_S288x1_S288x1_S288x2_d1) main_v149 main_v150
  let main_v152 : FVec F S288 .f32 := (fun x i => Host.gather gather_S4x3_S288x2_S288_n_01_n_n_01_1_11 x i) main_v18 main_v151
  let main_c_43 : IVec S_ 32 := constantI S_ 32 0#32
  let main_v153 : IVec S288 32 := broadcastInDim S288 ![] bcast_S_S288 main_c_43
  let main_v154 : IVec S288 1 := cmpi .slt main_v39 main_v153
  let main_c_44 : IVec S_ 32 := constantI S_ 32 4#32
  let main_v155 : IVec S288 32 := broadcastInDim S288 ![] bcast_S_S288 main_c_44
  let main_v156 : IVec S288 32 := addi main_v39 main_v155
  let main_v157 : IVec S288 32 := select main_v154 main_v156 main_v39
  let main_c_45 : IVec S_ 32 := constantI S_ 32 1#32
  let main_v158 : IVec S288 32 := broadcastInDim S288 ![] bcast_S_S288 main_c_45
  let main_v159 : IVec S288 32 := id main_v158
  let main_v160 : IVec S288x1 32 := broadcastInDim S288x1 ![0] bcast_S288_S288x1_0 main_v157
  let main_v161 : IVec S288x1 32 := broadcastInDim S288x1 ![0] bcast_S288_S288x1_0 main_v159
  let main_v162 : IVec S288x2 32 := (fun a b => concatenate S288x2 1 [⟨S288x1, a⟩, ⟨S288x1, b⟩] concatenates_S288x1_S288x1_S288x2_d1) main_v160 main_v161
  let main_v163 : FVec F S288 .f32 := (fun x i => Host.gather gather_S4x3_S288x2_S288_n_01_n_n_01_1_11 x i) main_v37 main_v162
  let main_cst_46 : FVec F S_ .f32 := constant S_ .f32 0x42BE0000#32
  let main_v164 : FVec F S288 .f32 := broadcastInDim S288 ![] bcast_S_S288 main_cst_46
  let main_v165 : FVec F S288 .f32 := mulf main_v164 main_v130
  let main_cst_47 : FVec F S_ .f32 := constant S_ .f32 0x00000000#32
  fn_part9 (F := F) main_v4 main_v9 main_v39 main_v43 main_v46 main_v47 main_v48 main_v49 main_v119 main_v141 main_v152 main_v163 main_v165 main_cst_47

def fn_part7 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v119 : IVec S288 32) (main_v127 : IVec S288x1 32) (main_v128 : IVec S288x1 32) : IVec S4x96x96x96 1 :=
  let main_v129 : IVec S288x2 32 := (fun a b => concatenate S288x2 1 [⟨S288x1, a⟩, ⟨S288x1, b⟩] concatenates_S288x1_S288x1_S288x2_d1) main_v127 main_v128
  let main_v130 : FVec F S288 .f32 := (fun x i => Host.gather gather_S4x3_S288x2_S288_n_01_n_n_01_1_11 x i) main_v14 main_v129
  let main_c_37 : IVec S_ 32 := constantI S_ 32 0#32
  let main_v131 : IVec S288 32 := broadcastInDim S288 ![] bcast_S_S288 main_c_37
  let main_v132 : IVec S288 1 := cmpi .slt main_v39 main_v131
  let main_c_38 : IVec S_ 32 := constantI S_ 32 4#32
  let main_v133 : IVec S288 32 := broadcastInDim S288 ![] bcast_S_S288 main_c_38
  let main_v134 : IVec S288 32 := addi main_v39 main_v133
  let main_v135 : IVec S288 32 := select main_v132 main_v134 main_v39
  let main_c_39 : IVec S_ 32 := constantI S_ 32 1#32
  let main_v136 : IVec S288 32 := broadcastInDim S288 ![] bcast_S_S288 main_c_39
  let main_v137 : IVec S288 32 := id main_v136
  let main_v138 : IVec S288x1 32 := broadcastInDim S288x1 ![0] bcast_S288_S288x1_0 main_v135
  let main_v139 : IVec S288x1 32 := broadcastInDim S288x1 ![0] bcast_S288_S288x1_0 main_v137
  let main_v140 : IVec S288x2 32 := (fun a b => concatenate S288x2 1 [⟨S288x1, a⟩, ⟨S288x1, b⟩] concatenates_S288x1_S288x1_S288x2_d1) main_v138 main_v139
  let main_v141 : FVec F S288 .f32 := (fun x i => Host.gather gather_S4x3_S288x2_S288_n_01_n_n_01_1_11 x i) main_v22 main_v140
  let main_c_40 : IVec S_ 32 := constantI S_ 32 0#32
  let main_v142 : IVec S288 32 := broadcastInDim S288 ![] bcast_S_S288 main_c_40
  let main_v143 : IVec S288 1 := cmpi .slt main_v39 main_v142
  let main_c_41 : IVec S_ 32 := constantI S_ 32 4#32
  let main_v144 : IVec S288 32 := broadcastInDim S288 ![] bcast_S_S288 main_c_41
  let main_v145 : IVec S288 32 := addi main_v39 main_v144
  let main_v146 : IVec S288 32 := select main_v143 main_v145 main_v39
  let main_c_42 : IVec S_ 32 := constantI S_ 32 1#32
  fn_part8 (F := F) main_v4 main_v9 main_v18 main_v37 main_v39 main_v43 main_v46 main_v47 main_v48 main_v49 main_v119 main_v130 main_v141 main_v146 main_c_42

def fn_part6 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v82 : FVec F S288 .f32) (main_v106 : FVec F S288 .f32) (main_v107 : FVec F S288 .f32) (main_v109 : FVec F S288 .f32) (main_v110 : FVec F S288 .f32) : IVec S4x96x96x96 1 :=
  let main_v111 : FVec F S288 .f32 := subf main_v109 main_v110
  let main_v112 : FVec F S288 .f32 := mulf main_v82 main_v111
  let main_v113 : FVec F S288 .f32 := minimumf main_v107 main_v112
  let main_v114 : FVec F S288 .f32 := addf main_v106 main_v113
  let main_cst_31 : FVec F S_ .f32 := constant S_ .f32 0x3F4CCCCD#32
  let main_v115 : FVec F S288 .f32 := broadcastInDim S288 ![] bcast_S_S288 main_cst_31
  let main_v116 : FVec F S288 .f32 := subf main_v114 main_v115
  let main_v117 : FVec F S288 .f32 := Host.floor main_v116
  let main_c_32 : IVec S_ 32 := constantI S_ 32 0#32
  let main_c_33 : IVec S_ 32 := constantI S_ 32 68#32
  let main_v118 : FVec F S288 .f32 := fn_clip (F := F) main_v117 main_c_32 main_c_33
  let main_v119 : IVec S288 32 := fptosi 32 main_v118
  let main_c_34 : IVec S_ 32 := constantI S_ 32 0#32
  let main_v120 : IVec S288 32 := broadcastInDim S288 ![] bcast_S_S288 main_c_34
  let main_v121 : IVec S288 1 := cmpi .slt main_v39 main_v120
  let main_c_35 : IVec S_ 32 := constantI S_ 32 4#32
  let main_v122 : IVec S288 32 := broadcastInDim S288 ![] bcast_S_S288 main_c_35
  let main_v123 : IVec S288 32 := addi main_v39 main_v122
  let main_v124 : IVec S288 32 := select main_v121 main_v123 main_v39
  let main_c_36 : IVec S_ 32 := constantI S_ 32 1#32
  let main_v125 : IVec S288 32 := broadcastInDim S288 ![] bcast_S_S288 main_c_36
  let main_v126 : IVec S288 32 := id main_v125
  let main_v127 : IVec S288x1 32 := broadcastInDim S288x1 ![0] bcast_S288_S288x1_0 main_v124
  let main_v128 : IVec S288x1 32 := broadcastInDim S288x1 ![0] bcast_S288_S288x1_0 main_v126
  fn_part7 (F := F) main_v4 main_v9 main_v14 main_v18 main_v22 main_v37 main_v39 main_v43 main_v46 main_v47 main_v48 main_v49 main_v119 main_v127 main_v128

def fn_part5 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v60 : FVec F S288 .f32) (main_v71 : FVec F S288 .f32) (main_v82 : FVec F S288 .f32) (main_v92 : IVec S288x2 32) : IVec S4x96x96x96 1 :=
  let main_v93 : FVec F S288 .f32 := (fun x i => Host.gather gather_S4x3_S288x2_S288_n_01_n_n_01_1_11 x i) main_v37 main_v92
  let main_cst_25 : FVec F S_ .f32 := constant S_ .f32 0x42BE0000#32
  let main_v94 : FVec F S288 .f32 := broadcastInDim S288 ![] bcast_S_S288 main_cst_25
  let main_v95 : FVec F S288 .f32 := mulf main_v94 main_v60
  let main_cst_26 : FVec F S_ .f32 := constant S_ .f32 0x00000000#32
  let main_v96 : FVec F S288 .f32 := broadcastInDim S288 ![] bcast_S_S288 main_cst_26
  let main_v97 : FVec F S288 .f32 := minimumf main_v96 main_v95
  let main_v98 : FVec F S288 .f32 := addf main_v93 main_v97
  let main_v99 : FVec F S288 .f32 := mulf main_v71 main_v48
  let main_cst_27 : FVec F S_ .f32 := constant S_ .f32 0x41800000#32
  let main_v100 : FVec F S288 .f32 := broadcastInDim S288 ![] bcast_S_S288 main_cst_27
  let main_v101 : FVec F S288 .f32 := addf main_v48 main_v100
  let main_cst_28 : FVec F S_ .f32 := constant S_ .f32 0x3F800000#32
  let main_v102 : FVec F S288 .f32 := broadcastInDim S288 ![] bcast_S_S288 main_cst_28
  let main_v103 : FVec F S288 .f32 := subf main_v101 main_v102
  let main_v104 : FVec F S288 .f32 := mulf main_v71 main_v103
  let main_v105 : FVec F S288 .f32 := minimumf main_v99 main_v104
  let main_v106 : FVec F S288 .f32 := addf main_v98 main_v105
  let main_v107 : FVec F S288 .f32 := mulf main_v82 main_v47
  let main_cst_29 : FVec F S_ .f32 := constant S_ .f32 0x41000000#32
  let main_v108 : FVec F S288 .f32 := broadcastInDim S288 ![] bcast_S_S288 main_cst_29
  let main_v109 : FVec F S288 .f32 := addf main_v47 main_v108
  let main_cst_30 : FVec F S_ .f32 := constant S_ .f32 0x3F800000#32
  let main_v110 : FVec F S288 .f32 := broadcastInDim S288 ![] bcast_S_S288 main_cst_30
  fn_part6 (F := F) main_v4 main_v9 main_v14 main_v18 main_v22 main_v37 main_v39 main_v43 main_v46 main_v47 main_v48 main_v49 main_v82 main_v106 main_v107 main_v109 main_v110

def fn_part4 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v60 : FVec F S288 .f32) (main_v71 : FVec F S288 .f32) (main_v73 : IVec S288 1) : IVec S4x96x96x96 1 :=
  let main_c_20 : IVec S_ 32 := constantI S_ 32 4#32
  let main_v74 : IVec S288 32 := broadcastInDim S288 ![] bcast_S_S288 main_c_20
  let main_v75 : IVec S288 32 := addi main_v39 main_v74
  let main_v76 : IVec S288 32 := select main_v73 main_v75 main_v39
  let main_c_21 : IVec S_ 32 := constantI S_ 32 2#32
  let main_v77 : IVec S288 32 := broadcastInDim S288 ![] bcast_S_S288 main_c_21
  let main_v78 : IVec S288 32 := id main_v77
  let main_v79 : IVec S288x1 32 := broadcastInDim S288x1 ![0] bcast_S288_S288x1_0 main_v76
  let main_v80 : IVec S288x1 32 := broadcastInDim S288x1 ![0] bcast_S288_S288x1_0 main_v78
  let main_v81 : IVec S288x2 32 := (fun a b => concatenate S288x2 1 [⟨S288x1, a⟩, ⟨S288x1, b⟩] concatenates_S288x1_S288x1_S288x2_d1) main_v79 main_v80
  let main_v82 : FVec F S288 .f32 := (fun x i => Host.gather gather_S4x3_S288x2_S288_n_01_n_n_01_1_11 x i) main_v18 main_v81
  let main_c_22 : IVec S_ 32 := constantI S_ 32 0#32
  let main_v83 : IVec S288 32 := broadcastInDim S288 ![] bcast_S_S288 main_c_22
  let main_v84 : IVec S288 1 := cmpi .slt main_v39 main_v83
  let main_c_23 : IVec S_ 32 := constantI S_ 32 4#32
  let main_v85 : IVec S288 32 := broadcastInDim S288 ![] bcast_S_S288 main_c_23
  let main_v86 : IVec S288 32 := addi main_v39 main_v85
  let main_v87 : IVec S288 32 := select main_v84 main_v86 main_v39
  let main_c_24 : IVec S_ 32 := constantI S_ 32 2#32
  let main_v88 : IVec S288 32 := broadcastInDim S288 ![] bcast_S_S288 main_c_24
  let main_v89 : IVec S288 32 := id main_v88
  let main_v90 : IVec S288x1 32 := broadcastInDim S288x1 ![0] bcast_S288_S288x1_0 main_v87
  let main_v91 : IVec S288x1 32 := broadcastInDim S288x1 ![0] bcast_S288_S288x1_0 main_v89
  let main_v92 : IVec S288x2 32 := (fun a b => concatenate S288x2 1 [⟨S288x1, a⟩, ⟨S288x1, b⟩] concatenates_S288x1_S288x1_S288x2_d1) main_v90 main_v91
  fn_part5 (F := F) main_v4 main_v9 main_v14 main_v18 main_v22 main_v37 main_v39 main_v43 main_v46 main_v47 main_v48 main_v49 main_v60 main_v71 main_v82 main_v92

def fn_part3 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v39 : IVec S288 32) (main_v43 : IVec S288 32) (main_v46 : IVec S288 32) (main_v47 : FVec F S288 .f32) (main_v48 : FVec F S288 .f32) (main_v49 : IVec S288 32) (main_v54 : IVec S288 32) : IVec S4x96x96x96 1 :=
  let main_c_15 : IVec S_ 32 := constantI S_ 32 2#32
  let main_v55 : IVec S288 32 := broadcastInDim S288 ![] bcast_S_S288 main_c_15
  let main_v56 : IVec S288 32 := id main_v55
  let main_v57 : IVec S288x1 32 := broadcastInDim S288x1 ![0] bcast_S288_S288x1_0 main_v54
  let main_v58 : IVec S288x1 32 := broadcastInDim S288x1 ![0] bcast_S288_S288x1_0 main_v56
  let main_v59 : IVec S288x2 32 := (fun a b => concatenate S288x2 1 [⟨S288x1, a⟩, ⟨S288x1, b⟩] concatenates_S288x1_S288x1_S288x2_d1) main_v57 main_v58
  let main_v60 : FVec F S288 .f32 := (fun x i => Host.gather gather_S4x3_S288x2_S288_n_01_n_n_01_1_11 x i) main_v14 main_v59
  let main_c_16 : IVec S_ 32 := constantI S_ 32 0#32
  let main_v61 : IVec S288 32 := broadcastInDim S288 ![] bcast_S_S288 main_c_16
  let main_v62 : IVec S288 1 := cmpi .slt main_v39 main_v61
  let main_c_17 : IVec S_ 32 := constantI S_ 32 4#32
  let main_v63 : IVec S288 32 := broadcastInDim S288 ![] bcast_S_S288 main_c_17
  let main_v64 : IVec S288 32 := addi main_v39 main_v63
  let main_v65 : IVec S288 32 := select main_v62 main_v64 main_v39
  let main_c_18 : IVec S_ 32 := constantI S_ 32 2#32
  let main_v66 : IVec S288 32 := broadcastInDim S288 ![] bcast_S_S288 main_c_18
  let main_v67 : IVec S288 32 := id main_v66
  let main_v68 : IVec S288x1 32 := broadcastInDim S288x1 ![0] bcast_S288_S288x1_0 main_v65
  let main_v69 : IVec S288x1 32 := broadcastInDim S288x1 ![0] bcast_S288_S288x1_0 main_v67
  let main_v70 : IVec S288x2 32 := (fun a b => concatenate S288x2 1 [⟨S288x1, a⟩, ⟨S288x1, b⟩] concatenates_S288x1_S288x1_S288x2_d1) main_v68 main_v69
  let main_v71 : FVec F S288 .f32 := (fun x i => Host.gather gather_S4x3_S288x2_S288_n_01_n_n_01_1_11 x i) main_v22 main_v70
  let main_c_19 : IVec S_ 32 := constantI S_ 32 0#32
  let main_v72 : IVec S288 32 := broadcastInDim S288 ![] bcast_S_S288 main_c_19
  let main_v73 : IVec S288 1 := cmpi .slt main_v39 main_v72
  fn_part4 (F := F) main_v4 main_v9 main_v14 main_v18 main_v22 main_v37 main_v39 main_v43 main_v46 main_v47 main_v48 main_v49 main_v60 main_v71 main_v73

def fn_part2 {F : FTy → Type} [FloatOps F] (main_v4 : FVec F S4x16 .f32) (main_v9 : FVec F S112 .f32) (main_v14 : FVec F S4x3 .f32) (main_v18 : FVec F S4x3 .f32) (main_v22 : FVec F S4x3 .f32) (main_v37 : FVec F S4x3 .f32) (main_v38 : IVec S288 32) (main_c : IVec S_ 32) : IVec S4x96x96x96 1 :=
  let main_v39 : IVec S288 32 := fn_floor_divide (F := F) main_v38 main_c
  let main_c_7 : IVec S_ 32 := constantI S_ 32 6#32
  let main_v40 : IVec S288 32 := fn_floor_divide (F := F) main_v38 main_c_7
  let main_c_8 : IVec S_ 32 := constantI S_ 32 12#32
  let main_v41 : IVec S288 32 := fn_remainder (F := F) main_v40 main_c_8
  let main_c_9 : IVec S_ 32 := constantI S_ 32 8#32
  let main_v42 : IVec S288 32 := broadcastInDim S288 ![] bcast_S_S288 main_c_9
  let main_v43 : IVec S288 32 := muli main_v41 main_v42
  let main_c_10 : IVec S_ 32 := constantI S_ 32 6#32
  let main_v44 : IVec S288 32 := fn_remainder (F := F) main_v38 main_c_10
  let main_c_11 : IVec S_ 32 := constantI S_ 32 16#32
  let main_v45 : IVec S288 32 := broadcastInDim S288 ![] bcast_S_S288 main_c_11
  let main_v46 : IVec S288 32 := muli main_v44 main_v45
  let main_v47 : FVec F S288 .f32 := sitofp .f32 main_v43
  let main_v48 : FVec F S288 .f32 := sitofp .f32 main_v46
  let main_c_12 : IVec S_ 32 := constantI S_ 32 0#32
  let main_v49 : IVec S288 32 := broadcastInDim S288 ![] bcast_S_S288 main_c_12
  let main_c_13 : IVec S_ 32 := constantI S_ 32 0#32
  let main_v50 : IVec S288 32 := broadcastInDim S288 ![] bcast_S_S288 main_c_13
  let main_v51 : IVec S288 1 := cmpi .slt main_v39 main_v50
  let main_c_14 : IVec S_ 32 := constantI S_ 32 4#32
  let main_v52 : IVec S288 32 := broadcastInDim S288 ![] bcast_S_S288 main_c_14
  let main_v53 : IVec S288 32 := addi main_v39 main_v52
  let main_v54 : IVec S288 32 := select main_v51 main_v53 main_v39
  fn_part3 (F := F) main_v4 main_v9 main_v14 main_v18 main_v22 main_v37 main_v39 main_v43 main_v46 main_v47 main_v48 main_v49 main_v54

def fn_part1 {F : FTy → Type} [FloatOps F] (main_arg1 : FVec F S4x3x4 .f32) (main_v4 : FVec F S4x16 .f32) (main_v9 : FVec F S112 .f32) (main_v10 : FVec F S_ .f32) (main_v14 : FVec F S4x3 .f32) (main_v16 : FVec F S4x3 .f32) (main_v17 : FVec F S4x3 .f32) : IVec S4x96x96x96 1 :=
  let main_v18 : FVec F S4x3 .f32 := mulf main_v17 main_v16
  let main_v19 : FVec F S4x3x1 .f32 := (extractStridedSlice S4x3x1 ![0, 0, 2] · slices_S4x3x4_S4x3x1_0_0_2) main_arg1
  let main_v20 : FVec F S4x3 .f32 := shapeCast S4x3 main_v19 shapeCasts_S4x3x1_S4x3
  let main_v21 : FVec F S4x3 .f32 := broadcastInDim S4x3 ![] bcast_S_S4x3 main_v10
  let main_v22 : FVec F S4x3 .f32 := mulf main_v21 main_v20
  let main_v23 : FVec F S4x3x1 .f32 := (extractStridedSlice S4x3x1 ![0, 0, 3] · slices_S4x3x4_S4x3x1_0_0_3) main_arg1
  let main_v24 : FVec F S4x3 .f32 := shapeCast S4x3 main_v23 shapeCasts_S4x3x1_S4x3
  let main_v25 : FVec F S4x3x1 .f32 := (extractStridedSlice S4x3x1 ![0, 0, 0] · slices_S4x3x4_S4x3x1_0_0_0) main_arg1
  let main_v26 : FVec F S4x3 .f32 := shapeCast S4x3 main_v25 shapeCasts_S4x3x1_S4x3
  let main_v27 : FVec F S4x3 .f32 := subf main_v24 main_v26
  let main_v28 : FVec F S4x3x1 .f32 := (extractStridedSlice S4x3x1 ![0, 0, 1] · slices_S4x3x4_S4x3x1_0_0_1) main_arg1
  let main_v29 : FVec F S4x3 .f32 := shapeCast S4x3 main_v28 shapeCasts_S4x3x1_S4x3
  let main_v30 : FVec F S4x3 .f32 := subf main_v27 main_v29
  let main_v31 : FVec F S4x3x1 .f32 := (extractStridedSlice S4x3x1 ![0, 0, 2] · slices_S4x3x4_S4x3x1_0_0_2) main_arg1
  let main_v32 : FVec F S4x3 .f32 := shapeCast S4x3 main_v31 shapeCasts_S4x3x1_S4x3
  let main_v33 : FVec F S4x3 .f32 := subf main_v30 main_v32
  let main_cst_5 : FVec F S_ .f32 := constant S_ .f32 0x42400000#32
  let main_v34 : FVec F S4x3 .f32 := broadcastInDim S4x3 ![] bcast_S_S4x3 main_cst_5
  let main_v35 : FVec F S4x3 .f32 := mulf main_v34 main_v33
  let main_cst_6 : FVec F S_ .f32 := constant S_ .f32 0x42400000#32
  let main_v36 : FVec F S4x3 .f32 := broadcastInDim S4x3 ![] bcast_S_S4x3 main_cst_6
  let main_v37 : FVec F S4x3 .f32 := addf main_v35 main_v36
  let main_v38 : IVec S288 32 := iotaInDim S288 32 0
  let main_c : IVec S_ 32 := constantI S_ 32 72#32
  fn_part2 (F := F) main_v4 main_v9 main_v14 main_v18 main_v22 main_v37 main_v38 main_c

def fn {F : FTy → Type} [FloatOps F] (main_arg0 : FVec F S4x96x96x96x2 .f32) (main_arg1 : FVec F S4x3x4 .f32) : IVec S4x96x96x96 1 :=
  let main_v0 : FVec F S4x3x4 .bf16 := (truncf .bf16 · bitsLt_bf16_f32) main_arg1
  let main_v1 : FVec F S4x3x4 .f32 := (extf .f32 · bitsLt_bf16_f32) main_v0
  let main_v2 : FVec F S4x12 .f32 := shapeCast S4x12 main_v1 shapeCasts_S4x3x4_S4x12
  let main_cst : FVec F S_ .f32 := constant S_ .f32 0x00000000#32
  let main_v3 : FVec F S4x4 .f32 := broadcastInDim S4x4 ![] bcast_S_S4x4 main_cst
  let main_v4 : FVec F S4x16 .f32 := (fun a b => concatenate S4x16 1 [⟨S4x12, a⟩, ⟨S4x4, b⟩] concatenates_S4x12_S4x4_S4x16_d1) main_v2 main_v3
  let main_cst_0 : FVec F S_ .f32 := constant S_ .f32 0xBF800000#32
  let main_cst_1 : FVec F S_ .f32 := constant S_ .f32 0x3F800000#32
  let main_v5 : FVec F S96 .f32 := fn_linspace (F := F) main_cst_0 main_cst_1
  let main_v6 : FVec F S96 .bf16 := (truncf .bf16 · bitsLt_bf16_f32) main_v5
  let main_v7 : FVec F S96 .f32 := (extf .f32 · bitsLt_bf16_f32) main_v6
  let main_cst_2 : FVec F S_ .f32 := constant S_ .f32 0x00000000#32
  let main_v8 : FVec F S16 .f32 := broadcastInDim S16 ![] bcast_S_S16 main_cst_2
  let main_v9 : FVec F S112 .f32 := (fun a b => concatenate S112 0 [⟨S96, a⟩, ⟨S16, b⟩] concatenates_S96_S16_S112_d0) main_v7 main_v8
  let main_cst_3 : FVec F S_ .f32 := constant S_ .f32 0x42C00000#32
  let main_cst_4 : FVec F S_ .f32 := constant S_ .f32 0x42BE0000#32
  let main_v10 : FVec F S_ .f32 := Host.divf main_cst_3 main_cst_4
  let main_v11 : FVec F S4x3x1 .f32 := (extractStridedSlice S4x3x1 ![0, 0, 0] · slices_S4x3x4_S4x3x1_0_0_0) main_arg1
  let main_v12 : FVec F S4x3 .f32 := shapeCast S4x3 main_v11 shapeCasts_S4x3x1_S4x3
  let main_v13 : FVec F S4x3 .f32 := broadcastInDim S4x3 ![] bcast_S_S4x3 main_v10
  let main_v14 : FVec F S4x3 .f32 := mulf main_v13 main_v12
  let main_v15 : FVec F S4x3x1 .f32 := (extractStridedSlice S4x3x1 ![0, 0, 1] · slices_S4x3x4_S4x3x1_0_0_1) main_arg1
  let main_v16 : FVec F S4x3 .f32 := shapeCast S4x3 main_v15 shapeCasts_S4x3x1_S4x3
  let main_v17 : FVec F S4x3 .f32 := broadcastInDim S4x3 ![] bcast_S_S4x3 main_v10
  fn_part1 (F := F) main_arg1 main_v4 main_v9 main_v10 main_v14 main_v16 main_v17
-- ==== Kernel.lean ====
abbrev S4x96x96x96x2 : Shape := ⟨5, ![4, 96, 96, 96, 2]⟩
abbrev S4x3x4 : Shape := ⟨3, ![4, 3, 4]⟩
abbrev S4x12 : Shape := ⟨2, ![4, 12]⟩
abbrev S_ : Shape := ⟨0, ![]⟩
abbrev S4x4 : Shape := ⟨2, ![4, 4]⟩
abbrev S4x16 : Shape := ⟨2, ![4, 16]⟩
abbrev S95 : Shape := ⟨1, ![95]⟩
abbrev S1 : Shape := ⟨1, ![1]⟩
abbrev S96 : Shape := ⟨1, ![96]⟩
abbrev S16 : Shape := ⟨1, ![16]⟩
abbrev S112 : Shape := ⟨1, ![112]⟩
abbrev S4x3x1 : Shape := ⟨3, ![4, 3, 1]⟩
abbrev S4x3 : Shape := ⟨2, ![4, 3]⟩
abbrev S288 : Shape := ⟨1, ![288]⟩
abbrev S288x1 : Shape := ⟨2, ![288, 1]⟩
abbrev S288x2 : Shape := ⟨2, ![288, 2]⟩
abbrev S288x16 : Shape := ⟨2, ![288, 16]⟩
abbrev S32x9x16 : Shape := ⟨3, ![32, 9, 16]⟩
abbrev S4x96x96x2x96 : Shape := ⟨5, ![4, 96, 96, 2, 96]⟩
abbrev S36864x2x96 : Shape := ⟨3, ![36864, 2, 96]⟩
abbrev S9x16 : Shape := ⟨2, ![9, 16]⟩
abbrev S18x16 : Shape := ⟨2, ![18, 16]⟩
abbrev S560x2x96 : Shape := ⟨3, ![560, 2, 96]⟩
abbrev S96x2x16 : Shape := ⟨3, ![96, 2, 16]⟩
abbrev S1x9x16 : Shape := ⟨3, ![1, 9, 16]⟩
abbrev S1x16 : Shape := ⟨2, ![1, 16]⟩
abbrev S20x2x96 : Shape := ⟨3, ![20, 2, 96]⟩
abbrev S1x1x20x2x96 : Shape := ⟨5, ![1, 1, 20, 2, 96]⟩

abbrev nBuf : Table → Nat
  | .hbm => 377
  | .local .scVector .vmem => 6
  | _ => 0

abbrev hbmTy0_0 (i : Nat) : BufTy := match i % 128 with
  | 0 => ⟨S4x96x96x96x2, .f32⟩
  | 1 => ⟨S4x3x4, .f32⟩
  | 2 => ⟨S4x3x4, .bf16⟩
  | 3 => ⟨S4x3x4, .f32⟩
  | 4 => ⟨S4x12, .f32⟩
  | 5 => ⟨S_, .f32⟩
  | 6 => ⟨S4x4, .f32⟩
  | 7 => ⟨S4x16, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S95, .f32⟩
  | 16 => ⟨S_, .f32⟩
  | 17 => ⟨S95, .f32⟩
  | 18 => ⟨S95, .f32⟩
  | 19 => ⟨S1, .f32⟩
  | 20 => ⟨S_, .f32⟩
  | 21 => ⟨S95, .f32⟩
  | 22 => ⟨S95, .f32⟩
  | 23 => ⟨S95, .f32⟩
  | 24 => ⟨S95, .f32⟩
  | 25 => ⟨S1, .f32⟩
  | 26 => ⟨S95, .f32⟩
  | 27 => ⟨S95, .f32⟩
  | 28 => ⟨S95, .f32⟩
  | 29 => ⟨S1, .f32⟩
  | 30 => ⟨S96, .f32⟩
  | 31 => ⟨S96, .bf16⟩
  | 32 => ⟨S96, .f32⟩
  | 33 => ⟨S_, .f32⟩
  | 34 => ⟨S16, .f32⟩
  | 35 => ⟨S112, .f32⟩
  | 36 => ⟨S_, .f32⟩
  | 37 => ⟨S_, .f32⟩
  | 38 => ⟨S_, .f32⟩
  | 39 => ⟨S4x3x1, .f32⟩
  | 40 => ⟨S4x3, .f32⟩
  | 41 => ⟨S4x3, .f32⟩
  | 42 => ⟨S4x3, .f32⟩
  | 43 => ⟨S4x3x1, .f32⟩
  | 44 => ⟨S4x3, .f32⟩
  | 45 => ⟨S4x3, .f32⟩
  | 46 => ⟨S4x3, .f32⟩
  | 47 => ⟨S4x3x1, .f32⟩
  | 48 => ⟨S4x3, .f32⟩
  | 49 => ⟨S4x3, .f32⟩
  | 50 => ⟨S4x3, .f32⟩
  | 51 => ⟨S4x3x1, .f32⟩
  | 52 => ⟨S4x3, .f32⟩
  | 53 => ⟨S4x3x1, .f32⟩
  | 54 => ⟨S4x3, .f32⟩
  | 55 => ⟨S4x3, .f32⟩
  | 56 => ⟨S4x3x1, .f32⟩
  | 57 => ⟨S4x3, .f32⟩
  | 58 => ⟨S4x3, .f32⟩
  | 59 => ⟨S4x3x1, .f32⟩
  | 60 => ⟨S4x3, .f32⟩
  | 61 => ⟨S4x3, .f32⟩
  | 62 => ⟨S_, .f32⟩
  | 63 => ⟨S4x3, .f32⟩
  | 64 => ⟨S4x3, .f32⟩
  | 65 => ⟨S_, .f32⟩
  | 66 => ⟨S4x3, .f32⟩
  | 67 => ⟨S4x3, .f32⟩
  | 68 => ⟨S288, .i32⟩
  | 69 => ⟨S_, .i32⟩
  | 70 => ⟨S_, .i32⟩
  | 71 => ⟨S288, .i32⟩
  | 72 => ⟨S288, .i32⟩
  | 73 => ⟨S288, .i32⟩
  | 74 => ⟨S_, .i32⟩
  | 75 => ⟨S288, .i32⟩
  | 76 => ⟨S288, .i1⟩
  | 77 => ⟨S288, .i32⟩
  | 78 => ⟨S288, .i32⟩
  | 79 => ⟨S_, .i32⟩
  | 80 => ⟨S288, .i32⟩
  | 81 => ⟨S288, .i1⟩
  | 82 => ⟨S288, .i1⟩
  | 83 => ⟨S_, .i32⟩
  | 84 => ⟨S288, .i32⟩
  | 85 => ⟨S288, .i32⟩
  | 86 => ⟨S288, .i32⟩
  | 87 => ⟨S_, .i32⟩
  | 88 => ⟨S_, .i32⟩
  | 89 => ⟨S288, .i32⟩
  | 90 => ⟨S288, .i32⟩
  | 91 => ⟨S288, .i32⟩
  | 92 => ⟨S_, .i32⟩
  | 93 => ⟨S288, .i32⟩
  | 94 => ⟨S288, .i1⟩
  | 95 => ⟨S288, .i32⟩
  | 96 => ⟨S288, .i32⟩
  | 97 => ⟨S_, .i32⟩
  | 98 => ⟨S288, .i32⟩
  | 99 => ⟨S288, .i1⟩
  | 100 => ⟨S288, .i1⟩
  | 101 => ⟨S_, .i32⟩
  | 102 => ⟨S288, .i32⟩
  | 103 => ⟨S288, .i32⟩
  | 104 => ⟨S288, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S288, .i32⟩
  | 112 => ⟨S288, .i32⟩
  | 113 => ⟨S_, .i32⟩
  | 114 => ⟨S288, .i32⟩
  | 115 => ⟨S288, .i1⟩
  | 116 => ⟨S_, .i32⟩
  | 117 => ⟨S288, .i32⟩
  | 118 => ⟨S288, .i1⟩
  | 119 => ⟨S_, .i32⟩
  | 120 => ⟨S_, .i1⟩
  | 121 => ⟨S288, .i1⟩
  | 122 => ⟨S288, .i1⟩
  | 123 => ⟨S288, .i1⟩
  | 124 => ⟨S288, .i32⟩
  | 125 => ⟨S288, .i32⟩
  | 126 => ⟨S288, .i32⟩
  | 127 => ⟨S_, .i32⟩
  | _ => ⟨S4x96x96x96x2, .f32⟩

abbrev hbmTy0_1 (i : Nat) : BufTy := match i % 128 with
  | 0 => ⟨S288, .i32⟩
  | 1 => ⟨S288, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S288, .i32⟩
  | 9 => ⟨S288, .i32⟩
  | 10 => ⟨S_, .i32⟩
  | 11 => ⟨S288, .i32⟩
  | 12 => ⟨S288, .i1⟩
  | 13 => ⟨S_, .i32⟩
  | 14 => ⟨S288, .i32⟩
  | 15 => ⟨S288, .i1⟩
  | 16 => ⟨S_, .i32⟩
  | 17 => ⟨S_, .i1⟩
  | 18 => ⟨S288, .i1⟩
  | 19 => ⟨S288, .i1⟩
  | 20 => ⟨S288, .i1⟩
  | 21 => ⟨S288, .i32⟩
  | 22 => ⟨S288, .i32⟩
  | 23 => ⟨S288, .i32⟩
  | 24 => ⟨S_, .i32⟩
  | 25 => ⟨S288, .i32⟩
  | 26 => ⟨S288, .i32⟩
  | 27 => ⟨S288, .f32⟩
  | 28 => ⟨S288, .f32⟩
  | 29 => ⟨S_, .i32⟩
  | 30 => ⟨S288, .i32⟩
  | 31 => ⟨S_, .i32⟩
  | 32 => ⟨S288, .i32⟩
  | 33 => ⟨S288, .i1⟩
  | 34 => ⟨S_, .i32⟩
  | 35 => ⟨S288, .i32⟩
  | 36 => ⟨S288, .i32⟩
  | 37 => ⟨S288, .i32⟩
  | 38 => ⟨S_, .i32⟩
  | 39 => ⟨S288, .i32⟩
  | 40 => ⟨S288, .i32⟩
  | 41 => ⟨S288x1, .i32⟩
  | 42 => ⟨S288x1, .i32⟩
  | 43 => ⟨S288x2, .i32⟩
  | 44 => ⟨S288, .f32⟩
  | 45 => ⟨S_, .i32⟩
  | 46 => ⟨S288, .i32⟩
  | 47 => ⟨S288, .i1⟩
  | 48 => ⟨S_, .i32⟩
  | 49 => ⟨S288, .i32⟩
  | 50 => ⟨S288, .i32⟩
  | 51 => ⟨S288, .i32⟩
  | 52 => ⟨S_, .i32⟩
  | 53 => ⟨S288, .i32⟩
  | 54 => ⟨S288, .i32⟩
  | 55 => ⟨S288x1, .i32⟩
  | 56 => ⟨S288x1, .i32⟩
  | 57 => ⟨S288x2, .i32⟩
  | 58 => ⟨S288, .f32⟩
  | 59 => ⟨S_, .i32⟩
  | 60 => ⟨S288, .i32⟩
  | 61 => ⟨S288, .i1⟩
  | 62 => ⟨S_, .i32⟩
  | 63 => ⟨S288, .i32⟩
  | 64 => ⟨S288, .i32⟩
  | 65 => ⟨S288, .i32⟩
  | 66 => ⟨S_, .i32⟩
  | 67 => ⟨S288, .i32⟩
  | 68 => ⟨S288, .i32⟩
  | 69 => ⟨S288x1, .i32⟩
  | 70 => ⟨S288x1, .i32⟩
  | 71 => ⟨S288x2, .i32⟩
  | 72 => ⟨S288, .f32⟩
  | 73 => ⟨S_, .i32⟩
  | 74 => ⟨S288, .i32⟩
  | 75 => ⟨S288, .i1⟩
  | 76 => ⟨S_, .i32⟩
  | 77 => ⟨S288, .i32⟩
  | 78 => ⟨S288, .i32⟩
  | 79 => ⟨S288, .i32⟩
  | 80 => ⟨S_, .i32⟩
  | 81 => ⟨S288, .i32⟩
  | 82 => ⟨S288, .i32⟩
  | 83 => ⟨S288x1, .i32⟩
  | 84 => ⟨S288x1, .i32⟩
  | 85 => ⟨S288x2, .i32⟩
  | 86 => ⟨S288, .f32⟩
  | 87 => ⟨S_, .f32⟩
  | 88 => ⟨S288, .f32⟩
  | 89 => ⟨S288, .f32⟩
  | 90 => ⟨S_, .f32⟩
  | 91 => ⟨S288, .f32⟩
  | 92 => ⟨S288, .f32⟩
  | 93 => ⟨S288, .f32⟩
  | 94 => ⟨S288, .f32⟩
  | 95 => ⟨S_, .f32⟩
  | 96 => ⟨S288, .f32⟩
  | 97 => ⟨S288, .f32⟩
  | 98 => ⟨S_, .f32⟩
  | 99 => ⟨S288, .f32⟩
  | 100 => ⟨S288, .f32⟩
  | 101 => ⟨S288, .f32⟩
  | 102 => ⟨S288, .f32⟩
  | 103 => ⟨S288, .f32⟩
  | 104 => ⟨S288, .f32⟩
  | 105 => ⟨S_, .f32⟩
  | 106 => ⟨S288, .f32⟩
  | 107 => ⟨S288, .f32⟩
  | 108 => ⟨S_, .f32⟩
  | 109 => ⟨S288, .f32⟩
  | 110 => ⟨S288, .f32⟩
  | 111 => ⟨S288, .f32⟩
  | 112 => ⟨S288, .f32⟩
  | 113 => ⟨S288, .f32⟩
  | 114 => ⟨S_, .f32⟩
  | 115 => ⟨S288, .f32⟩
  | 116 => ⟨S288, .f32⟩
  | 117 => ⟨S288, .f32⟩
  | 118 => ⟨S_, .i32⟩
  | 119 => ⟨S_, .i32⟩
  | 120 => ⟨S_, .f32⟩
  | 121 => ⟨S288, .f32⟩
  | 122 => ⟨S288, .f32⟩
  | 123 => ⟨S_, .f32⟩
  | 124 => ⟨S288, .f32⟩
  | 125 => ⟨S288, .f32⟩
  | 126 => ⟨S288, .i32⟩
  | 127 => ⟨S_, .i32⟩
  | _ => ⟨S4x96x96x96x2, .f32⟩

abbrev hbmTy0_2 (i : Nat) : BufTy := match i % 128 with
  | 0 => ⟨S288, .i32⟩
  | 1 => ⟨S288, .i1⟩
  | 2 => ⟨S_, .i32⟩
  | 3 => ⟨S288, .i32⟩
  | 4 => ⟨S288, .i32⟩
  | 5 => ⟨S288, .i32⟩
  | 6 => ⟨S_, .i32⟩
  | 7 => ⟨S288, .i32⟩
  | 8 => ⟨S288, .i32⟩
  | 9 => ⟨S288x1, .i32⟩
  | 10 => ⟨S288x1, .i32⟩
  | 11 => ⟨S288x2, .i32⟩
  | 12 => ⟨S288, .f32⟩
  | 13 => ⟨S_, .i32⟩
  | 14 => ⟨S288, .i32⟩
  | 15 => ⟨S288, .i1⟩
  | 16 => ⟨S_, .i32⟩
  | 17 => ⟨S288, .i32⟩
  | 18 => ⟨S288, .i32⟩
  | 19 => ⟨S288, .i32⟩
  | 20 => ⟨S_, .i32⟩
  | 21 => ⟨S288, .i32⟩
  | 22 => ⟨S288, .i32⟩
  | 23 => ⟨S288x1, .i32⟩
  | 24 => ⟨S288x1, .i32⟩
  | 25 => ⟨S288x2, .i32⟩
  | 26 => ⟨S288, .f32⟩
  | 27 => ⟨S_, .i32⟩
  | 28 => ⟨S288, .i32⟩
  | 29 => ⟨S288, .i1⟩
  | 30 => ⟨S_, .i32⟩
  | 31 => ⟨S288, .i32⟩
  | 32 => ⟨S288, .i32⟩
  | 33 => ⟨S288, .i32⟩
  | 34 => ⟨S_, .i32⟩
  | 35 => ⟨S288, .i32⟩
  | 36 => ⟨S288, .i32⟩
  | 37 => ⟨S288x1, .i32⟩
  | 38 => ⟨S288x1, .i32⟩
  | 39 => ⟨S288x2, .i32⟩
  | 40 => ⟨S288, .f32⟩
  | 41 => ⟨S_, .i32⟩
  | 42 => ⟨S288, .i32⟩
  | 43 => ⟨S288, .i1⟩
  | 44 => ⟨S_, .i32⟩
  | 45 => ⟨S288, .i32⟩
  | 46 => ⟨S288, .i32⟩
  | 47 => ⟨S288, .i32⟩
  | 48 => ⟨S_, .i32⟩
  | 49 => ⟨S288, .i32⟩
  | 50 => ⟨S288, .i32⟩
  | 51 => ⟨S288x1, .i32⟩
  | 52 => ⟨S288x1, .i32⟩
  | 53 => ⟨S288x2, .i32⟩
  | 54 => ⟨S288, .f32⟩
  | 55 => ⟨S_, .f32⟩
  | 56 => ⟨S288, .f32⟩
  | 57 => ⟨S288, .f32⟩
  | 58 => ⟨S_, .f32⟩
  | 59 => ⟨S288, .f32⟩
  | 60 => ⟨S288, .f32⟩
  | 61 => ⟨S288, .f32⟩
  | 62 => ⟨S288, .f32⟩
  | 63 => ⟨S_, .f32⟩
  | 64 => ⟨S288, .f32⟩
  | 65 => ⟨S288, .f32⟩
  | 66 => ⟨S_, .f32⟩
  | 67 => ⟨S288, .f32⟩
  | 68 => ⟨S288, .f32⟩
  | 69 => ⟨S288, .f32⟩
  | 70 => ⟨S288, .f32⟩
  | 71 => ⟨S288, .f32⟩
  | 72 => ⟨S288, .f32⟩
  | 73 => ⟨S_, .f32⟩
  | 74 => ⟨S288, .f32⟩
  | 75 => ⟨S288, .f32⟩
  | 76 => ⟨S_, .f32⟩
  | 77 => ⟨S288, .f32⟩
  | 78 => ⟨S288, .f32⟩
  | 79 => ⟨S288, .f32⟩
  | 80 => ⟨S288, .f32⟩
  | 81 => ⟨S288, .f32⟩
  | 82 => ⟨S_, .f32⟩
  | 83 => ⟨S288, .f32⟩
  | 84 => ⟨S288, .f32⟩
  | 85 => ⟨S288, .f32⟩
  | 86 => ⟨S_, .i32⟩
  | 87 => ⟨S_, .i32⟩
  | 88 => ⟨S_, .f32⟩
  | 89 => ⟨S288, .f32⟩
  | 90 => ⟨S288, .f32⟩
  | 91 => ⟨S_, .f32⟩
  | 92 => ⟨S288, .f32⟩
  | 93 => ⟨S288, .f32⟩
  | 94 => ⟨S288, .i32⟩
  | 95 => ⟨S_, .i32⟩
  | 96 => ⟨S288, .i32⟩
  | 97 => ⟨S288, .i32⟩
  | 98 => ⟨S288, .i32⟩
  | 99 => ⟨S288x1, .i32⟩
  | 100 => ⟨S288x1, .i32⟩
  | 101 => ⟨S288x1, .i32⟩
  | 102 => ⟨S288x1, .i32⟩
  | 103 => ⟨S288x1, .i32⟩
  | 104 => ⟨S288x1, .i32⟩
  | 105 => ⟨S288x1, .i32⟩
  | 106 => ⟨S288x1, .i32⟩
  | 107 => ⟨S288x1, .i32⟩
  | 108 => ⟨S288x1, .i32⟩
  | 109 => ⟨S288x1, .i32⟩
  | 110 => ⟨S288x1, .i32⟩
  | 111 => ⟨S288x1, .i32⟩
  | 112 => ⟨S288x1, .i32⟩
  | 113 => ⟨S288x1, .i32⟩
  | 114 => ⟨S288x1, .i32⟩
  | 115 => ⟨S288x16, .i32⟩
  | 116 => ⟨S32x9x16, .i32⟩
  | 117 => ⟨S4x96x96x2x96, .f32⟩
  | 118 => ⟨S36864x2x96, .f32⟩
  | 119 => ⟨S4x96x96x2x96, .f32⟩
  | 120 => ⟨S4x96x96x96x2, .f32⟩
  | _ => ⟨S4x96x96x96x2, .f32⟩

abbrev hbmTy (i : Nat) : BufTy := match i / 128 with
  | 0 => hbmTy0_0 i
  | 1 => hbmTy0_1 i
  | 2 => hbmTy0_2 i
  | _ => ⟨S4x96x96x96x2, .f32⟩

abbrev bufTy : (tb : Table) → Fin (nBuf tb) → BufTy
  | .hbm, ⟨i, _⟩ => hbmTy i
  | .local .scVector .vmem, ⟨0, _⟩ => ⟨S9x16, .i32⟩
  | .local .scVector .vmem, ⟨1, _⟩ => ⟨S16, .f32⟩
  | .local .scVector .vmem, ⟨2, _⟩ => ⟨S18x16, .f32⟩
  | .local .scVector .vmem, ⟨3, _⟩ => ⟨S112, .f32⟩
  | .local .scVector .vmem, ⟨4, _⟩ => ⟨S560x2x96, .f32⟩
  | .local .scVector .vmem, ⟨5, _⟩ => ⟨S96x2x16, .f32⟩
  | _, _ => ⟨S4x96x96x96x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_v9 : Ref sig .tc := ⟨.hbm, 35, rfl⟩
abbrev main_cst_3 : Ref sig .tc := ⟨.hbm, 36, rfl⟩
abbrev main_cst_4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_v39 : Ref sig .tc := ⟨.hbm, 86, rfl⟩
abbrev main_c_7 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_0 : Ref sig .tc := ⟨.hbm, 101, rfl⟩
abbrev main_call2_v12 : Ref sig .tc := ⟨.hbm, 102, rfl⟩
abbrev main_call2_v13 : Ref sig .tc := ⟨.hbm, 103, rfl⟩
abbrev main_v40 : Ref sig .tc := ⟨.hbm, 104, rfl⟩
abbrev main_c_8 : Ref sig .tc := ⟨.hbm, 105, rfl⟩
abbrev main_call3_v0 : Ref sig .tc := ⟨.hbm, 106, rfl⟩
abbrev main_call3_c : Ref sig .tc := ⟨.hbm, 107, rfl⟩
abbrev main_call3_v1 : Ref sig .tc := ⟨.hbm, 108, rfl⟩
abbrev main_call3_c_0 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_1 : Ref sig .tc := ⟨.hbm, 113, rfl⟩
abbrev main_call3_v5 : Ref sig .tc := ⟨.hbm, 114, rfl⟩
abbrev main_call3_v6 : Ref sig .tc := ⟨.hbm, 115, rfl⟩
abbrev main_call3_c_2 : Ref sig .tc := ⟨.hbm, 116, rfl⟩
abbrev main_call3_v7 : Ref sig .tc := ⟨.hbm, 117, rfl⟩
abbrev main_call3_v8 : Ref sig .tc := ⟨.hbm, 118, rfl⟩
abbrev main_call3_c_3 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_v12 : Ref sig .tc := ⟨.hbm, 123, rfl⟩
abbrev main_call3_v13 : Ref sig .tc := ⟨.hbm, 124, rfl⟩
abbrev main_call3_v14 : Ref sig .tc := ⟨.hbm, 125, rfl⟩
abbrev main_v41 : Ref sig .tc := ⟨.hbm, 126, rfl⟩
abbrev main_c_9 : Ref sig .tc := ⟨.hbm, 127, rfl⟩
abbrev main_v42 : Ref sig .tc := ⟨.hbm, 128, rfl⟩
abbrev main_v43 : Ref sig .tc := ⟨.hbm, 129, rfl⟩
abbrev main_c_10 : Ref sig .tc := ⟨.hbm, 130, rfl⟩
abbrev main_call4_v0 : Ref sig .tc := ⟨.hbm, 131, rfl⟩
abbrev main_call4_c : Ref sig .tc := ⟨.hbm, 132, rfl⟩
abbrev main_call4_v1 : Ref sig .tc := ⟨.hbm, 133, rfl⟩
abbrev main_call4_c_0 : Ref sig .tc := ⟨.hbm, 134, rfl⟩
abbrev main_call4_v2 : Ref sig .tc := ⟨.hbm, 135, rfl⟩
abbrev main_call4_v3 : Ref sig .tc := ⟨.hbm, 136, rfl⟩
abbrev main_call4_v4 : Ref sig .tc := ⟨.hbm, 137, rfl⟩
abbrev main_call4_c_1 : Ref sig .tc := ⟨.hbm, 138, rfl⟩
abbrev main_call4_v5 : Ref sig .tc := ⟨.hbm, 139, rfl⟩
abbrev main_call4_v6 : Ref sig .tc := ⟨.hbm, 140, rfl⟩
abbrev main_call4_c_2 : Ref sig .tc := ⟨.hbm, 141, rfl⟩
abbrev main_call4_v7 : Ref sig .tc := ⟨.hbm, 142, rfl⟩
abbrev main_call4_v8 : Ref sig .tc := ⟨.hbm, 143, rfl⟩
abbrev main_call4_c_3 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_v12 : Ref sig .tc := ⟨.hbm, 148, rfl⟩
abbrev main_call4_v13 : Ref sig .tc := ⟨.hbm, 149, rfl⟩
abbrev main_call4_v14 : Ref sig .tc := ⟨.hbm, 150, rfl⟩
abbrev main_v44 : Ref sig .tc := ⟨.hbm, 151, rfl⟩
abbrev main_c_11 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_c_12 : Ref sig .tc := ⟨.hbm, 157, rfl⟩
abbrev main_v49 : Ref sig .tc := ⟨.hbm, 158, rfl⟩
abbrev main_c_13 : Ref sig .tc := ⟨.hbm, 159, rfl⟩
abbrev main_v50 : Ref sig .tc := ⟨.hbm, 160, rfl⟩
abbrev main_v51 : Ref sig .tc := ⟨.hbm, 161, rfl⟩
abbrev main_c_14 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_c_15 : Ref sig .tc := ⟨.hbm, 166, rfl⟩
abbrev main_v55 : Ref sig .tc := ⟨.hbm, 167, rfl⟩
abbrev main_v56 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_c_16 : Ref sig .tc := ⟨.hbm, 173, rfl⟩
abbrev main_v61 : Ref sig .tc := ⟨.hbm, 174, rfl⟩
abbrev main_v62 : Ref sig .tc := ⟨.hbm, 175, rfl⟩
abbrev main_c_17 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_c_18 : Ref sig .tc := ⟨.hbm, 180, rfl⟩
abbrev main_v66 : Ref sig .tc := ⟨.hbm, 181, rfl⟩
abbrev main_v67 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_v71 : Ref sig .tc := ⟨.hbm, 186, rfl⟩
abbrev main_c_19 : Ref sig .tc := ⟨.hbm, 187, rfl⟩
abbrev main_v72 : Ref sig .tc := ⟨.hbm, 188, rfl⟩
abbrev main_v73 : Ref sig .tc := ⟨.hbm, 189, rfl⟩
abbrev main_c_20 : Ref sig .tc := ⟨.hbm, 190, rfl⟩
abbrev main_v74 : Ref sig .tc := ⟨.hbm, 191, rfl⟩
abbrev main_v75 : Ref sig .tc := ⟨.hbm, 192, rfl⟩
abbrev main_v76 : Ref sig .tc := ⟨.hbm, 193, rfl⟩
abbrev main_c_21 : Ref sig .tc := ⟨.hbm, 194, rfl⟩
abbrev main_v77 : Ref sig .tc := ⟨.hbm, 195, rfl⟩
abbrev main_v78 : Ref sig .tc := ⟨.hbm, 196, rfl⟩
abbrev main_v79 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_c_22 : Ref sig .tc := ⟨.hbm, 201, rfl⟩
abbrev main_v83 : Ref sig .tc := ⟨.hbm, 202, rfl⟩
abbrev main_v84 : Ref sig .tc := ⟨.hbm, 203, rfl⟩
abbrev main_c_23 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev main_c_24 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_v93 : Ref sig .tc := ⟨.hbm, 214, rfl⟩
abbrev main_cst_25 : Ref sig .tc := ⟨.hbm, 215, rfl⟩
abbrev main_v94 : Ref sig .tc := ⟨.hbm, 216, rfl⟩
abbrev main_v95 : Ref sig .tc := ⟨.hbm, 217, rfl⟩
abbrev main_cst_26 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_cst_27 : Ref sig .tc := ⟨.hbm, 223, rfl⟩
abbrev main_v100 : Ref sig .tc := ⟨.hbm, 224, rfl⟩
abbrev main_v101 : Ref sig .tc := ⟨.hbm, 225, rfl⟩
abbrev main_cst_28 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_v107 : Ref sig .tc := ⟨.hbm, 232, rfl⟩
abbrev main_cst_29 : Ref sig .tc := ⟨.hbm, 233, rfl⟩
abbrev main_v108 : Ref sig .tc := ⟨.hbm, 234, rfl⟩
abbrev main_v109 : Ref sig .tc := ⟨.hbm, 235, rfl⟩
abbrev main_cst_30 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_v114 : Ref sig .tc := ⟨.hbm, 241, rfl⟩
abbrev main_cst_31 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_c_32 : Ref sig .tc := ⟨.hbm, 246, rfl⟩
abbrev main_c_33 : Ref sig .tc := ⟨.hbm, 247, rfl⟩
abbrev main_call5_v0 : Ref sig .tc := ⟨.hbm, 248, rfl⟩
abbrev main_call5_v1 : Ref sig .tc := ⟨.hbm, 249, rfl⟩
abbrev main_call5_v2 : Ref sig .tc := ⟨.hbm, 250, rfl⟩
abbrev main_call5_v3 : Ref sig .tc := ⟨.hbm, 251, rfl⟩
abbrev main_call5_v4 : Ref sig .tc := ⟨.hbm, 252, rfl⟩
abbrev main_v118 : Ref sig .tc := ⟨.hbm, 253, rfl⟩
abbrev main_v119 : Ref sig .tc := ⟨.hbm, 254, rfl⟩
abbrev main_c_34 : Ref sig .tc := ⟨.hbm, 255, rfl⟩
abbrev main_v120 : Ref sig .tc := ⟨.hbm, 256, rfl⟩
abbrev main_v121 : Ref sig .tc := ⟨.hbm, 257, rfl⟩
abbrev main_c_35 : Ref sig .tc := ⟨.hbm, 258, rfl⟩
abbrev main_v122 : Ref sig .tc := ⟨.hbm, 259, rfl⟩
abbrev main_v123 : Ref sig .tc := ⟨.hbm, 260, rfl⟩
abbrev main_v124 : Ref sig .tc := ⟨.hbm, 261, rfl⟩
abbrev main_c_36 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_v128 : Ref sig .tc := ⟨.hbm, 266, rfl⟩
abbrev main_v129 : Ref sig .tc := ⟨.hbm, 267, rfl⟩
abbrev main_v130 : Ref sig .tc := ⟨.hbm, 268, rfl⟩
abbrev main_c_37 : Ref sig .tc := ⟨.hbm, 269, rfl⟩
abbrev main_v131 : Ref sig .tc := ⟨.hbm, 270, rfl⟩
abbrev main_v132 : Ref sig .tc := ⟨.hbm, 271, rfl⟩
abbrev main_c_38 : Ref sig .tc := ⟨.hbm, 272, rfl⟩
abbrev main_v133 : Ref sig .tc := ⟨.hbm, 273, rfl⟩
abbrev main_v134 : Ref sig .tc := ⟨.hbm, 274, rfl⟩
abbrev main_v135 : Ref sig .tc := ⟨.hbm, 275, rfl⟩
abbrev main_c_39 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_c_40 : Ref sig .tc := ⟨.hbm, 283, rfl⟩
abbrev main_v142 : Ref sig .tc := ⟨.hbm, 284, rfl⟩
abbrev main_v143 : Ref sig .tc := ⟨.hbm, 285, rfl⟩
abbrev main_c_41 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_c_42 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_v152 : Ref sig .tc := ⟨.hbm, 296, rfl⟩
abbrev main_c_43 : Ref sig .tc := ⟨.hbm, 297, rfl⟩
abbrev main_v153 : Ref sig .tc := ⟨.hbm, 298, rfl⟩
abbrev main_v154 : Ref sig .tc := ⟨.hbm, 299, rfl⟩
abbrev main_c_44 : Ref sig .tc := ⟨.hbm, 300, rfl⟩
abbrev main_v155 : Ref sig .tc := ⟨.hbm, 301, rfl⟩
abbrev main_v156 : Ref sig .tc := ⟨.hbm, 302, rfl⟩
abbrev main_v157 : Ref sig .tc := ⟨.hbm, 303, rfl⟩
abbrev main_c_45 : Ref sig .tc := ⟨.hbm, 304, rfl⟩
abbrev main_v158 : Ref sig .tc := ⟨.hbm, 305, rfl⟩
abbrev main_v159 : Ref sig .tc := ⟨.hbm, 306, rfl⟩
abbrev main_v160 : Ref sig .tc := ⟨.hbm, 307, rfl⟩
abbrev main_v161 : Ref sig .tc := ⟨.hbm, 308, rfl⟩
abbrev main_v162 : Ref sig .tc := ⟨.hbm, 309, rfl⟩
abbrev main_v163 : Ref sig .tc := ⟨.hbm, 310, rfl⟩
abbrev main_cst_46 : Ref sig .tc := ⟨.hbm, 311, rfl⟩
abbrev main_v164 : Ref sig .tc := ⟨.hbm, 312, rfl⟩
abbrev main_v165 : Ref sig .tc := ⟨.hbm, 313, rfl⟩
abbrev main_cst_47 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_cst_48 : Ref sig .tc := ⟨.hbm, 319, rfl⟩
abbrev main_v170 : Ref sig .tc := ⟨.hbm, 320, rfl⟩
abbrev main_v171 : Ref sig .tc := ⟨.hbm, 321, rfl⟩
abbrev main_cst_49 : Ref sig .tc := ⟨.hbm, 322, rfl⟩
abbrev main_v172 : Ref sig .tc := ⟨.hbm, 323, rfl⟩
abbrev main_v173 : Ref sig .tc := ⟨.hbm, 324, rfl⟩
abbrev main_v174 : Ref sig .tc := ⟨.hbm, 325, rfl⟩
abbrev main_v175 : Ref sig .tc := ⟨.hbm, 326, rfl⟩
abbrev main_v176 : Ref sig .tc := ⟨.hbm, 327, rfl⟩
abbrev main_v177 : Ref sig .tc := ⟨.hbm, 328, rfl⟩
abbrev main_cst_50 : Ref sig .tc := ⟨.hbm, 329, rfl⟩
abbrev main_v178 : Ref sig .tc := ⟨.hbm, 330, rfl⟩
abbrev main_v179 : Ref sig .tc := ⟨.hbm, 331, rfl⟩
abbrev main_cst_51 : Ref sig .tc := ⟨.hbm, 332, rfl⟩
abbrev main_v180 : Ref sig .tc := ⟨.hbm, 333, rfl⟩
abbrev main_v181 : Ref sig .tc := ⟨.hbm, 334, rfl⟩
abbrev main_v182 : Ref sig .tc := ⟨.hbm, 335, rfl⟩
abbrev main_v183 : Ref sig .tc := ⟨.hbm, 336, rfl⟩
abbrev main_v184 : Ref sig .tc := ⟨.hbm, 337, rfl⟩
abbrev main_cst_52 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_c_53 : Ref sig .tc := ⟨.hbm, 342, rfl⟩
abbrev main_c_54 : Ref sig .tc := ⟨.hbm, 343, rfl⟩
abbrev main_call6_v0 : Ref sig .tc := ⟨.hbm, 344, rfl⟩
abbrev main_call6_v1 : Ref sig .tc := ⟨.hbm, 345, rfl⟩
abbrev main_call6_v2 : Ref sig .tc := ⟨.hbm, 346, rfl⟩
abbrev main_call6_v3 : Ref sig .tc := ⟨.hbm, 347, rfl⟩
abbrev main_call6_v4 : Ref sig .tc := ⟨.hbm, 348, rfl⟩
abbrev main_v188 : Ref sig .tc := ⟨.hbm, 349, rfl⟩
abbrev main_v189 : Ref sig .tc := ⟨.hbm, 350, rfl⟩
abbrev main_c_55 : Ref sig .tc := ⟨.hbm, 351, rfl⟩
abbrev main_v190 : Ref sig .tc := ⟨.hbm, 352, rfl⟩
abbrev main_v191 : Ref sig .tc := ⟨.hbm, 353, rfl⟩
abbrev main_v192 : Ref sig .tc := ⟨.hbm, 354, rfl⟩
abbrev main_v193 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_v198 : Ref sig .tc := ⟨.hbm, 360, rfl⟩
abbrev main_v199 : Ref sig .tc := ⟨.hbm, 361, rfl⟩
abbrev main_v200 : Ref sig .tc := ⟨.hbm, 362, rfl⟩
abbrev main_v201 : Ref sig .tc := ⟨.hbm, 363, rfl⟩
abbrev main_v202 : Ref sig .tc := ⟨.hbm, 364, rfl⟩
abbrev main_v203 : Ref sig .tc := ⟨.hbm, 365, rfl⟩
abbrev main_v204 : Ref sig .tc := ⟨.hbm, 366, rfl⟩
abbrev main_v205 : Ref sig .tc := ⟨.hbm, 367, rfl⟩
abbrev main_v206 : Ref sig .tc := ⟨.hbm, 368, rfl⟩
abbrev main_v207 : Ref sig .tc := ⟨.hbm, 369, rfl⟩
abbrev main_v208 : Ref sig .tc := ⟨.hbm, 370, rfl⟩
abbrev main_v209 : Ref sig .tc := ⟨.hbm, 371, rfl⟩
abbrev main_v210 : Ref sig .tc := ⟨.hbm, 372, rfl⟩
abbrev main_v211 : Ref sig .tc := ⟨.hbm, 373, rfl⟩
abbrev main_v212 : Ref sig .tc := ⟨.hbm, 374, rfl⟩
abbrev main_v213 : Ref sig .tc := ⟨.hbm, 375, rfl⟩
abbrev main_v214 : Ref sig .tc := ⟨.hbm, 376, rfl⟩
abbrev main_v211_scv : Ref sig .scVector := ⟨.hbm, 373, rfl⟩
abbrev main_v4_scv : Ref sig .scVector := ⟨.hbm, 7, rfl⟩
abbrev main_v210_scv : Ref sig .scVector := ⟨.hbm, 372, rfl⟩
abbrev main_v9_scv : Ref sig .scVector := ⟨.hbm, 35, rfl⟩
abbrev main_v212_scv : Ref sig .scVector := ⟨.hbm, 374, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5_r0 : BitVec 32 := 0#32
  let c0_i32_6_r0 : BitVec 32 := 0#32
  ![v1.toNat, 0, 0]
@[reducible] def k0_t1_loop : Scf.Loop 32 :=
  let c0_i32_2 : BitVec 32 := 0#32
  let c9_i32 : BitVec 32 := 9#32
  let v17 : BitVec 32 := Scalar.addi c0_i32_2 c9_i32
  let c1_i32_3 : BitVec 32 := 1#32
  ⟨c0_i32_2, v17, c1_i32_3⟩
def k0_off2 (k0_t1 : Fin k0_t1_loop.trips) : Fin 2 → Nat :=
  let c0_i32_2 : BitVec 32 := 0#32
  let c1_i32_3 : BitVec 32 := 1#32
  let arg14 : BitVec 32 := Scf.iv c0_i32_2 c1_i32_3 k0_t1
  let v18 : Index := Scalar.indexCast arg14
  let c0 : Index := 0#32
  ![v18.toNat, 0]
def k0_mult1 (v25 : BitVec 32) : BitVec 32 :=
  v25

def k0_off3 (v21 : BitVec 32) : Fin 2 → Nat :=
  let c0_i32_588_r2 : BitVec 32 := 0#32
  ![v21.toNat, 0]

def k0_chk2 (v21 : BitVec 32) : Prop :=
  (∀ a, (k0_off3 v21) a + S1x16.size a ≤ S4x16.size a)
theorem k0_off3_inb : ∀ (v21 : BitVec 32) (k0_hw2 : k0_chk2 v21), ∀ a, (k0_off3 v21) a + S1x16.size a ≤ S4x16.size a := fun v21 k0_hw2 => k0_hw2

def k0_off4 (v21 : BitVec 32) (v28 : BitVec 32) (v30 : BitVec 32) (c0_i32_5 : BitVec 32) : Fin 5 → Nat :=
  let v33 : BitVec 32 := Scalar.addi v28 c0_i32_5
  let c0_i32_9 : BitVec 32 := 0#32
  let c0_i32_10 : BitVec 32 := 0#32
  ![v21.toNat, v33.toNat, v30.toNat, 0, 0]

def k0_chk3 (v21 : BitVec 32) (v28 : BitVec 32) (v30 : BitVec 32) : Prop :=
  (∀ (r : Fin 28), ∀ a, (k0_off4 v21 v28 v30 (BitVec.ofNat 32 r.val)) a + S1x1x20x2x96.size a ≤ S4x96x96x2x96.size a)
theorem k0_off4_inb : ∀ (v21 : BitVec 32) (v28 : BitVec 32) (v30 : BitVec 32) (k0_hw3 : k0_chk3 v21 v28 v30), ∀ (r : Fin 28), ∀ a, (k0_off4 v21 v28 v30 (BitVec.ofNat 32 r.val)) a + S1x1x20x2x96.size a ≤ S4x96x96x2x96.size a := fun v21 v28 v30 k0_hw3 r => k0_hw3 r

@[reducible] def k0_t2_loop : Scf.Loop 32 :=
  let c0_i32_584 : BitVec 32 := 0#32
  let c8_i32_585 : BitVec 32 := 8#32
  let v505 : BitVec 32 := Scalar.addi c0_i32_584 c8_i32_585
  let c1_i32_586 : BitVec 32 := 1#32
  ⟨c0_i32_584, v505, c1_i32_586⟩
def k0_off5 (v23 : BitVec 32) (k0_t2 : Fin k0_t2_loop.trips) : Fin 1 → Nat :=
  let c0_i32_584 : BitVec 32 := 0#32
  let c1_i32_586 : BitVec 32 := 1#32
  let arg15 : BitVec 32 := Scf.iv c0_i32_584 c1_i32_586 k0_t2
  let v506 : BitVec 32 := Scalar.addi v23 arg15
  let v507 : Index := Scalar.indexCast v506
  ![v507.toNat]

def k0_chk4 (v23 : BitVec 32) : Prop :=
  (∀ k0_t2 : Fin k0_t2_loop.trips, ∀ a, (k0_off5 v23 k0_t2) a + S16.size a ≤ S112.size a)
theorem k0_off5_inb : ∀ (v23 : BitVec 32) (k0_hw4 : k0_chk4 v23) (k0_t2 : Fin k0_t2_loop.trips), ∀ a, (k0_off5 v23 k0_t2) a + S16.size a ≤ S112.size a := fun v23 k0_hw4 k0_t2 => k0_hw4 k0_t2

@[reducible] def k0_t3_loop : Scf.Loop 32 :=
  let c0_i32_589 : BitVec 32 := 0#32
  let c16_i32_590 : BitVec 32 := 16#32
  let v517 : BitVec 32 := Scalar.addi c0_i32_589 c16_i32_590
  let c1_i32_591 : BitVec 32 := 1#32
  ⟨c0_i32_589, v517, c1_i32_591⟩
def k0_off6 (v25 : BitVec 32) (k0_t3 : Fin k0_t3_loop.trips) : Fin 1 → Nat :=
  let v26 : BitVec 32 := v25
  let c0_i32_589 : BitVec 32 := 0#32
  let c1_i32_591 : BitVec 32 := 1#32
  let arg16 : BitVec 32 := Scf.iv c0_i32_589 c1_i32_591 k0_t3
  let v520 : BitVec 32 := Scalar.addi v26 arg16
  let v521 : Index := Scalar.indexCast v520
  ![v521.toNat]

def k0_chk1 (v25 : BitVec 32) : Prop :=
  (16 ∣ (k0_mult1 v25).toNat) ∧
  (∀ k0_t3 : Fin k0_t3_loop.trips, ∀ a, (k0_off6 v25 k0_t3) a + S16.size a ≤ S112.size a)
theorem k0_mult1_dvd : ∀ (v25 : BitVec 32) (k0_hw1 : k0_chk1 v25), 16 ∣ (k0_mult1 v25).toNat := fun v25 k0_hw1 => k0_hw1.1
theorem k0_off6_inb : ∀ (v25 : BitVec 32) (k0_hw1 : k0_chk1 v25) (k0_t3 : Fin k0_t3_loop.trips), ∀ a, (k0_off6 v25 k0_t3) a + S16.size a ≤ S112.size a := fun v25 k0_hw1 k0_t3 => k0_hw1.2 k0_t3

def k0_chk5 (v3 : IVec S16 32) (v4 : IVec S16 32) (v583 : IVec S16 32) (v589 : IVec S16 32) (v634 : IVec S16 32) : Prop :=
  (∀ a x, ((![v634, v3, v583] : Fin 3 → IVec S16 32) a x).toNat < S560x2x96.size a) ∧
  (∀ a x, ((![v634, v3, v589] : Fin 3 → IVec S16 32) a x).toNat < S560x2x96.size a) ∧
  (∀ a x, ((![v634, v4, v583] : Fin 3 → IVec S16 32) a x).toNat < S560x2x96.size a) ∧
  (∀ a x, ((![v634, v4, v589] : Fin 3 → IVec S16 32) a x).toNat < S560x2x96.size a)
theorem k0_idx1_inb : ∀ (v3 : IVec S16 32) (v4 : IVec S16 32) (v583 : IVec S16 32) (v589 : IVec S16 32) (v634 : IVec S16 32) (k0_hw5 : k0_chk5 v3 v4 v583 v589 v634), ∀ a x, ((![v634, v3, v583] : Fin 3 → IVec S16 32) a x).toNat < S560x2x96.size a := fun v3 v4 v583 v589 v634 k0_hw5 => k0_hw5.1
theorem k0_idx3_inb : ∀ (v3 : IVec S16 32) (v4 : IVec S16 32) (v583 : IVec S16 32) (v589 : IVec S16 32) (v634 : IVec S16 32) (k0_hw5 : k0_chk5 v3 v4 v583 v589 v634), ∀ a x, ((![v634, v3, v589] : Fin 3 → IVec S16 32) a x).toNat < S560x2x96.size a := fun v3 v4 v583 v589 v634 k0_hw5 => k0_hw5.2.1
theorem k0_idx9_inb : ∀ (v3 : IVec S16 32) (v4 : IVec S16 32) (v583 : IVec S16 32) (v589 : IVec S16 32) (v634 : IVec S16 32) (k0_hw5 : k0_chk5 v3 v4 v583 v589 v634), ∀ a x, ((![v634, v4, v583] : Fin 3 → IVec S16 32) a x).toNat < S560x2x96.size a := fun v3 v4 v583 v589 v634 k0_hw5 => k0_hw5.2.2.1
theorem k0_idx11_inb : ∀ (v3 : IVec S16 32) (v4 : IVec S16 32) (v583 : IVec S16 32) (v589 : IVec S16 32) (v634 : IVec S16 32) (k0_hw5 : k0_chk5 v3 v4 v583 v589 v634), ∀ a x, ((![v634, v4, v589] : Fin 3 → IVec S16 32) a x).toNat < S560x2x96.size a := fun v3 v4 v583 v589 v634 k0_hw5 => k0_hw5.2.2.2

def k0_chk6 (v3 : IVec S16 32) (v4 : IVec S16 32) (v583 : IVec S16 32) (v589 : IVec S16 32) (v635 : IVec S16 32) : Prop :=
  (∀ a x, ((![v635, v3, v583] : Fin 3 → IVec S16 32) a x).toNat < S560x2x96.size a) ∧
  (∀ a x, ((![v635, v3, v589] : Fin 3 → IVec S16 32) a x).toNat < S560x2x96.size a) ∧
  (∀ a x, ((![v635, v4, v583] : Fin 3 → IVec S16 32) a x).toNat < S560x2x96.size a) ∧
  (∀ a x, ((![v635, v4, v589] : Fin 3 → IVec S16 32) a x).toNat < S560x2x96.size a)
theorem k0_idx2_inb : ∀ (v3 : IVec S16 32) (v4 : IVec S16 32) (v583 : IVec S16 32) (v589 : IVec S16 32) (v635 : IVec S16 32) (k0_hw6 : k0_chk6 v3 v4 v583 v589 v635), ∀ a x, ((![v635, v3, v583] : Fin 3 → IVec S16 32) a x).toNat < S560x2x96.size a := fun v3 v4 v583 v589 v635 k0_hw6 => k0_hw6.1
theorem k0_idx4_inb : ∀ (v3 : IVec S16 32) (v4 : IVec S16 32) (v583 : IVec S16 32) (v589 : IVec S16 32) (v635 : IVec S16 32) (k0_hw6 : k0_chk6 v3 v4 v583 v589 v635), ∀ a x, ((![v635, v3, v589] : Fin 3 → IVec S16 32) a x).toNat < S560x2x96.size a := fun v3 v4 v583 v589 v635 k0_hw6 => k0_hw6.2.1
theorem k0_idx10_inb : ∀ (v3 : IVec S16 32) (v4 : IVec S16 32) (v583 : IVec S16 32) (v589 : IVec S16 32) (v635 : IVec S16 32) (k0_hw6 : k0_chk6 v3 v4 v583 v589 v635), ∀ a x, ((![v635, v4, v583] : Fin 3 → IVec S16 32) a x).toNat < S560x2x96.size a := fun v3 v4 v583 v589 v635 k0_hw6 => k0_hw6.2.2.1
theorem k0_idx12_inb : ∀ (v3 : IVec S16 32) (v4 : IVec S16 32) (v583 : IVec S16 32) (v589 : IVec S16 32) (v635 : IVec S16 32) (k0_hw6 : k0_chk6 v3 v4 v583 v589 v635), ∀ a x, ((![v635, v4, v589] : Fin 3 → IVec S16 32) a x).toNat < S560x2x96.size a := fun v3 v4 v583 v589 v635 k0_hw6 => k0_hw6.2.2.2

def k0_chk7 (v3 : IVec S16 32) (v4 : IVec S16 32) (v583 : IVec S16 32) (v589 : IVec S16 32) (v636 : IVec S16 32) : Prop :=
  (∀ a x, ((![v636, v3, v583] : Fin 3 → IVec S16 32) a x).toNat < S560x2x96.size a) ∧
  (∀ a x, ((![v636, v3, v589] : Fin 3 → IVec S16 32) a x).toNat < S560x2x96.size a) ∧
  (∀ a x, ((![v636, v4, v583] : Fin 3 → IVec S16 32) a x).toNat < S560x2x96.size a) ∧
  (∀ a x, ((![v636, v4, v589] : Fin 3 → IVec S16 32) a x).toNat < S560x2x96.size a)
theorem k0_idx5_inb : ∀ (v3 : IVec S16 32) (v4 : IVec S16 32) (v583 : IVec S16 32) (v589 : IVec S16 32) (v636 : IVec S16 32) (k0_hw7 : k0_chk7 v3 v4 v583 v589 v636), ∀ a x, ((![v636, v3, v583] : Fin 3 → IVec S16 32) a x).toNat < S560x2x96.size a := fun v3 v4 v583 v589 v636 k0_hw7 => k0_hw7.1
theorem k0_idx7_inb : ∀ (v3 : IVec S16 32) (v4 : IVec S16 32) (v583 : IVec S16 32) (v589 : IVec S16 32) (v636 : IVec S16 32) (k0_hw7 : k0_chk7 v3 v4 v583 v589 v636), ∀ a x, ((![v636, v3, v589] : Fin 3 → IVec S16 32) a x).toNat < S560x2x96.size a := fun v3 v4 v583 v589 v636 k0_hw7 => k0_hw7.2.1
theorem k0_idx13_inb : ∀ (v3 : IVec S16 32) (v4 : IVec S16 32) (v583 : IVec S16 32) (v589 : IVec S16 32) (v636 : IVec S16 32) (k0_hw7 : k0_chk7 v3 v4 v583 v589 v636), ∀ a x, ((![v636, v4, v583] : Fin 3 → IVec S16 32) a x).toNat < S560x2x96.size a := fun v3 v4 v583 v589 v636 k0_hw7 => k0_hw7.2.2.1
theorem k0_idx15_inb : ∀ (v3 : IVec S16 32) (v4 : IVec S16 32) (v583 : IVec S16 32) (v589 : IVec S16 32) (v636 : IVec S16 32) (k0_hw7 : k0_chk7 v3 v4 v583 v589 v636), ∀ a x, ((![v636, v4, v589] : Fin 3 → IVec S16 32) a x).toNat < S560x2x96.size a := fun v3 v4 v583 v589 v636 k0_hw7 => k0_hw7.2.2.2

def k0_chk8 (v3 : IVec S16 32) (v4 : IVec S16 32) (v583 : IVec S16 32) (v589 : IVec S16 32) (v637 : IVec S16 32) : Prop :=
  (∀ a x, ((![v637, v3, v583] : Fin 3 → IVec S16 32) a x).toNat < S560x2x96.size a) ∧
  (∀ a x, ((![v637, v3, v589] : Fin 3 → IVec S16 32) a x).toNat < S560x2x96.size a) ∧
  (∀ a x, ((![v637, v4, v583] : Fin 3 → IVec S16 32) a x).toNat < S560x2x96.size a) ∧
  (∀ a x, ((![v637, v4, v589] : Fin 3 → IVec S16 32) a x).toNat < S560x2x96.size a)
theorem k0_idx6_inb : ∀ (v3 : IVec S16 32) (v4 : IVec S16 32) (v583 : IVec S16 32) (v589 : IVec S16 32) (v637 : IVec S16 32) (k0_hw8 : k0_chk8 v3 v4 v583 v589 v637), ∀ a x, ((![v637, v3, v583] : Fin 3 → IVec S16 32) a x).toNat < S560x2x96.size a := fun v3 v4 v583 v589 v637 k0_hw8 => k0_hw8.1
theorem k0_idx8_inb : ∀ (v3 : IVec S16 32) (v4 : IVec S16 32) (v583 : IVec S16 32) (v589 : IVec S16 32) (v637 : IVec S16 32) (k0_hw8 : k0_chk8 v3 v4 v583 v589 v637), ∀ a x, ((![v637, v3, v589] : Fin 3 → IVec S16 32) a x).toNat < S560x2x96.size a := fun v3 v4 v583 v589 v637 k0_hw8 => k0_hw8.2.1
theorem k0_idx14_inb : ∀ (v3 : IVec S16 32) (v4 : IVec S16 32) (v583 : IVec S16 32) (v589 : IVec S16 32) (v637 : IVec S16 32) (k0_hw8 : k0_chk8 v3 v4 v583 v589 v637), ∀ a x, ((![v637, v4, v583] : Fin 3 → IVec S16 32) a x).toNat < S560x2x96.size a := fun v3 v4 v583 v589 v637 k0_hw8 => k0_hw8.2.2.1
theorem k0_idx16_inb : ∀ (v3 : IVec S16 32) (v4 : IVec S16 32) (v583 : IVec S16 32) (v589 : IVec S16 32) (v637 : IVec S16 32) (k0_hw8 : k0_chk8 v3 v4 v583 v589 v637), ∀ a x, ((![v637, v4, v589] : Fin 3 → IVec S16 32) a x).toNat < S560x2x96.size a := fun v3 v4 v583 v589 v637 k0_hw8 => k0_hw8.2.2.2

def k0_chk10 (v3 : IVec S16 32) (v4 : IVec S16 32) (v743 : IVec S16 32) (v749 : IVec S16 32) (v794 : IVec S16 32) : Prop :=
  (∀ a x, ((![v794, v3, v743] : Fin 3 → IVec S16 32) a x).toNat < S560x2x96.size a) ∧
  (∀ a x, ((![v794, v3, v749] : Fin 3 → IVec S16 32) a x).toNat < S560x2x96.size a) ∧
  (∀ a x, ((![v794, v4, v743] : Fin 3 → IVec S16 32) a x).toNat < S560x2x96.size a) ∧
  (∀ a x, ((![v794, v4, v749] : Fin 3 → IVec S16 32) a x).toNat < S560x2x96.size a)
theorem k0_idx19_inb : ∀ (v3 : IVec S16 32) (v4 : IVec S16 32) (v743 : IVec S16 32) (v749 : IVec S16 32) (v794 : IVec S16 32) (k0_hw10 : k0_chk10 v3 v4 v743 v749 v794), ∀ a x, ((![v794, v3, v743] : Fin 3 → IVec S16 32) a x).toNat < S560x2x96.size a := fun v3 v4 v743 v749 v794 k0_hw10 => k0_hw10.1
theorem k0_idx21_inb : ∀ (v3 : IVec S16 32) (v4 : IVec S16 32) (v743 : IVec S16 32) (v749 : IVec S16 32) (v794 : IVec S16 32) (k0_hw10 : k0_chk10 v3 v4 v743 v749 v794), ∀ a x, ((![v794, v3, v749] : Fin 3 → IVec S16 32) a x).toNat < S560x2x96.size a := fun v3 v4 v743 v749 v794 k0_hw10 => k0_hw10.2.1
theorem k0_idx27_inb : ∀ (v3 : IVec S16 32) (v4 : IVec S16 32) (v743 : IVec S16 32) (v749 : IVec S16 32) (v794 : IVec S16 32) (k0_hw10 : k0_chk10 v3 v4 v743 v749 v794), ∀ a x, ((![v794, v4, v743] : Fin 3 → IVec S16 32) a x).toNat < S560x2x96.size a := fun v3 v4 v743 v749 v794 k0_hw10 => k0_hw10.2.2.1
theorem k0_idx29_inb : ∀ (v3 : IVec S16 32) (v4 : IVec S16 32) (v743 : IVec S16 32) (v749 : IVec S16 32) (v794 : IVec S16 32) (k0_hw10 : k0_chk10 v3 v4 v743 v749 v794), ∀ a x, ((![v794, v4, v749] : Fin 3 → IVec S16 32) a x).toNat < S560x2x96.size a := fun v3 v4 v743 v749 v794 k0_hw10 => k0_hw10.2.2.2

def k0_chk11 (v3 : IVec S16 32) (v4 : IVec S16 32) (v743 : IVec S16 32) (v749 : IVec S16 32) (v795 : IVec S16 32) : Prop :=
  (∀ a x, ((![v795, v3, v743] : Fin 3 → IVec S16 32) a x).toNat < S560x2x96.size a) ∧
  (∀ a x, ((![v795, v3, v749] : Fin 3 → IVec S16 32) a x).toNat < S560x2x96.size a) ∧
  (∀ a x, ((![v795, v4, v743] : Fin 3 → IVec S16 32) a x).toNat < S560x2x96.size a) ∧
  (∀ a x, ((![v795, v4, v749] : Fin 3 → IVec S16 32) a x).toNat < S560x2x96.size a)
theorem k0_idx20_inb : ∀ (v3 : IVec S16 32) (v4 : IVec S16 32) (v743 : IVec S16 32) (v749 : IVec S16 32) (v795 : IVec S16 32) (k0_hw11 : k0_chk11 v3 v4 v743 v749 v795), ∀ a x, ((![v795, v3, v743] : Fin 3 → IVec S16 32) a x).toNat < S560x2x96.size a := fun v3 v4 v743 v749 v795 k0_hw11 => k0_hw11.1
theorem k0_idx22_inb : ∀ (v3 : IVec S16 32) (v4 : IVec S16 32) (v743 : IVec S16 32) (v749 : IVec S16 32) (v795 : IVec S16 32) (k0_hw11 : k0_chk11 v3 v4 v743 v749 v795), ∀ a x, ((![v795, v3, v749] : Fin 3 → IVec S16 32) a x).toNat < S560x2x96.size a := fun v3 v4 v743 v749 v795 k0_hw11 => k0_hw11.2.1
theorem k0_idx28_inb : ∀ (v3 : IVec S16 32) (v4 : IVec S16 32) (v743 : IVec S16 32) (v749 : IVec S16 32) (v795 : IVec S16 32) (k0_hw11 : k0_chk11 v3 v4 v743 v749 v795), ∀ a x, ((![v795, v4, v743] : Fin 3 → IVec S16 32) a x).toNat < S560x2x96.size a := fun v3 v4 v743 v749 v795 k0_hw11 => k0_hw11.2.2.1
theorem k0_idx30_inb : ∀ (v3 : IVec S16 32) (v4 : IVec S16 32) (v743 : IVec S16 32) (v749 : IVec S16 32) (v795 : IVec S16 32) (k0_hw11 : k0_chk11 v3 v4 v743 v749 v795), ∀ a x, ((![v795, v4, v749] : Fin 3 → IVec S16 32) a x).toNat < S560x2x96.size a := fun v3 v4 v743 v749 v795 k0_hw11 => k0_hw11.2.2.2

def k0_chk12 (v3 : IVec S16 32) (v4 : IVec S16 32) (v743 : IVec S16 32) (v749 : IVec S16 32) (v796 : IVec S16 32) : Prop :=
  (∀ a x, ((![v796, v3, v743] : Fin 3 → IVec S16 32) a x).toNat < S560x2x96.size a) ∧
  (∀ a x, ((![v796, v3, v749] : Fin 3 → IVec S16 32) a x).toNat < S560x2x96.size a) ∧
  (∀ a x, ((![v796, v4, v743] : Fin 3 → IVec S16 32) a x).toNat < S560x2x96.size a) ∧
  (∀ a x, ((![v796, v4, v749] : Fin 3 → IVec S16 32) a x).toNat < S560x2x96.size a)
theorem k0_idx23_inb : ∀ (v3 : IVec S16 32) (v4 : IVec S16 32) (v743 : IVec S16 32) (v749 : IVec S16 32) (v796 : IVec S16 32) (k0_hw12 : k0_chk12 v3 v4 v743 v749 v796), ∀ a x, ((![v796, v3, v743] : Fin 3 → IVec S16 32) a x).toNat < S560x2x96.size a := fun v3 v4 v743 v749 v796 k0_hw12 => k0_hw12.1
theorem k0_idx25_inb : ∀ (v3 : IVec S16 32) (v4 : IVec S16 32) (v743 : IVec S16 32) (v749 : IVec S16 32) (v796 : IVec S16 32) (k0_hw12 : k0_chk12 v3 v4 v743 v749 v796), ∀ a x, ((![v796, v3, v749] : Fin 3 → IVec S16 32) a x).toNat < S560x2x96.size a := fun v3 v4 v743 v749 v796 k0_hw12 => k0_hw12.2.1
theorem k0_idx31_inb : ∀ (v3 : IVec S16 32) (v4 : IVec S16 32) (v743 : IVec S16 32) (v749 : IVec S16 32) (v796 : IVec S16 32) (k0_hw12 : k0_chk12 v3 v4 v743 v749 v796), ∀ a x, ((![v796, v4, v743] : Fin 3 → IVec S16 32) a x).toNat < S560x2x96.size a := fun v3 v4 v743 v749 v796 k0_hw12 => k0_hw12.2.2.1
theorem k0_idx33_inb : ∀ (v3 : IVec S16 32) (v4 : IVec S16 32) (v743 : IVec S16 32) (v749 : IVec S16 32) (v796 : IVec S16 32) (k0_hw12 : k0_chk12 v3 v4 v743 v749 v796), ∀ a x, ((![v796, v4, v749] : Fin 3 → IVec S16 32) a x).toNat < S560x2x96.size a := fun v3 v4 v743 v749 v796 k0_hw12 => k0_hw12.2.2.2

def k0_chk13 (v3 : IVec S16 32) (v4 : IVec S16 32) (v743 : IVec S16 32) (v749 : IVec S16 32) (v797 : IVec S16 32) : Prop :=
  (∀ a x, ((![v797, v3, v743] : Fin 3 → IVec S16 32) a x).toNat < S560x2x96.size a) ∧
  (∀ a x, ((![v797, v3, v749] : Fin 3 → IVec S16 32) a x).toNat < S560x2x96.size a) ∧
  (∀ a x, ((![v797, v4, v743] : Fin 3 → IVec S16 32) a x).toNat < S560x2x96.size a) ∧
  (∀ a x, ((![v797, v4, v749] : Fin 3 → IVec S16 32) a x).toNat < S560x2x96.size a)
theorem k0_idx24_inb : ∀ (v3 : IVec S16 32) (v4 : IVec S16 32) (v743 : IVec S16 32) (v749 : IVec S16 32) (v797 : IVec S16 32) (k0_hw13 : k0_chk13 v3 v4 v743 v749 v797), ∀ a x, ((![v797, v3, v743] : Fin 3 → IVec S16 32) a x).toNat < S560x2x96.size a := fun v3 v4 v743 v749 v797 k0_hw13 => k0_hw13.1
theorem k0_idx26_inb : ∀ (v3 : IVec S16 32) (v4 : IVec S16 32) (v743 : IVec S16 32) (v749 : IVec S16 32) (v797 : IVec S16 32) (k0_hw13 : k0_chk13 v3 v4 v743 v749 v797), ∀ a x, ((![v797, v3, v749] : Fin 3 → IVec S16 32) a x).toNat < S560x2x96.size a := fun v3 v4 v743 v749 v797 k0_hw13 => k0_hw13.2.1
theorem k0_idx32_inb : ∀ (v3 : IVec S16 32) (v4 : IVec S16 32) (v743 : IVec S16 32) (v749 : IVec S16 32) (v797 : IVec S16 32) (k0_hw13 : k0_chk13 v3 v4 v743 v749 v797), ∀ a x, ((![v797, v4, v743] : Fin 3 → IVec S16 32) a x).toNat < S560x2x96.size a := fun v3 v4 v743 v749 v797 k0_hw13 => k0_hw13.2.2.1
theorem k0_idx34_inb : ∀ (v3 : IVec S16 32) (v4 : IVec S16 32) (v743 : IVec S16 32) (v749 : IVec S16 32) (v797 : IVec S16 32) (k0_hw13 : k0_chk13 v3 v4 v743 v749 v797), ∀ a x, ((![v797, v4, v749] : Fin 3 → IVec S16 32) a x).toNat < S560x2x96.size a := fun v3 v4 v743 v749 v797 k0_hw13 => k0_hw13.2.2.2

def k0_chk14 (v3 : IVec S16 32) (v4 : IVec S16 32) (v903 : IVec S16 32) (v909 : IVec S16 32) (v954 : IVec S16 32) : Prop :=
  (∀ a x, ((![v954, v3, v903] : Fin 3 → IVec S16 32) a x).toNat < S560x2x96.size a) ∧
  (∀ a x, ((![v954, v3, v909] : Fin 3 → IVec S16 32) a x).toNat < S560x2x96.size a) ∧
  (∀ a x, ((![v954, v4, v903] : Fin 3 → IVec S16 32) a x).toNat < S560x2x96.size a) ∧
  (∀ a x, ((![v954, v4, v909] : Fin 3 → IVec S16 32) a x).toNat < S560x2x96.size a)
theorem k0_idx37_inb : ∀ (v3 : IVec S16 32) (v4 : IVec S16 32) (v903 : IVec S16 32) (v909 : IVec S16 32) (v954 : IVec S16 32) (k0_hw14 : k0_chk14 v3 v4 v903 v909 v954), ∀ a x, ((![v954, v3, v903] : Fin 3 → IVec S16 32) a x).toNat < S560x2x96.size a := fun v3 v4 v903 v909 v954 k0_hw14 => k0_hw14.1
theorem k0_idx39_inb : ∀ (v3 : IVec S16 32) (v4 : IVec S16 32) (v903 : IVec S16 32) (v909 : IVec S16 32) (v954 : IVec S16 32) (k0_hw14 : k0_chk14 v3 v4 v903 v909 v954), ∀ a x, ((![v954, v3, v909] : Fin 3 → IVec S16 32) a x).toNat < S560x2x96.size a := fun v3 v4 v903 v909 v954 k0_hw14 => k0_hw14.2.1
theorem k0_idx45_inb : ∀ (v3 : IVec S16 32) (v4 : IVec S16 32) (v903 : IVec S16 32) (v909 : IVec S16 32) (v954 : IVec S16 32) (k0_hw14 : k0_chk14 v3 v4 v903 v909 v954), ∀ a x, ((![v954, v4, v903] : Fin 3 → IVec S16 32) a x).toNat < S560x2x96.size a := fun v3 v4 v903 v909 v954 k0_hw14 => k0_hw14.2.2.1
theorem k0_idx47_inb : ∀ (v3 : IVec S16 32) (v4 : IVec S16 32) (v903 : IVec S16 32) (v909 : IVec S16 32) (v954 : IVec S16 32) (k0_hw14 : k0_chk14 v3 v4 v903 v909 v954), ∀ a x, ((![v954, v4, v909] : Fin 3 → IVec S16 32) a x).toNat < S560x2x96.size a := fun v3 v4 v903 v909 v954 k0_hw14 => k0_hw14.2.2.2

def k0_chk15 (v3 : IVec S16 32) (v4 : IVec S16 32) (v903 : IVec S16 32) (v909 : IVec S16 32) (v955 : IVec S16 32) : Prop :=
  (∀ a x, ((![v955, v3, v903] : Fin 3 → IVec S16 32) a x).toNat < S560x2x96.size a) ∧
  (∀ a x, ((![v955, v3, v909] : Fin 3 → IVec S16 32) a x).toNat < S560x2x96.size a) ∧
  (∀ a x, ((![v955, v4, v903] : Fin 3 → IVec S16 32) a x).toNat < S560x2x96.size a) ∧
  (∀ a x, ((![v955, v4, v909] : Fin 3 → IVec S16 32) a x).toNat < S560x2x96.size a)
theorem k0_idx38_inb : ∀ (v3 : IVec S16 32) (v4 : IVec S16 32) (v903 : IVec S16 32) (v909 : IVec S16 32) (v955 : IVec S16 32) (k0_hw15 : k0_chk15 v3 v4 v903 v909 v955), ∀ a x, ((![v955, v3, v903] : Fin 3 → IVec S16 32) a x).toNat < S560x2x96.size a := fun v3 v4 v903 v909 v955 k0_hw15 => k0_hw15.1
theorem k0_idx40_inb : ∀ (v3 : IVec S16 32) (v4 : IVec S16 32) (v903 : IVec S16 32) (v909 : IVec S16 32) (v955 : IVec S16 32) (k0_hw15 : k0_chk15 v3 v4 v903 v909 v955), ∀ a x, ((![v955, v3, v909] : Fin 3 → IVec S16 32) a x).toNat < S560x2x96.size a := fun v3 v4 v903 v909 v955 k0_hw15 => k0_hw15.2.1
theorem k0_idx46_inb : ∀ (v3 : IVec S16 32) (v4 : IVec S16 32) (v903 : IVec S16 32) (v909 : IVec S16 32) (v955 : IVec S16 32) (k0_hw15 : k0_chk15 v3 v4 v903 v909 v955), ∀ a x, ((![v955, v4, v903] : Fin 3 → IVec S16 32) a x).toNat < S560x2x96.size a := fun v3 v4 v903 v909 v955 k0_hw15 => k0_hw15.2.2.1
theorem k0_idx48_inb : ∀ (v3 : IVec S16 32) (v4 : IVec S16 32) (v903 : IVec S16 32) (v909 : IVec S16 32) (v955 : IVec S16 32) (k0_hw15 : k0_chk15 v3 v4 v903 v909 v955), ∀ a x, ((![v955, v4, v909] : Fin 3 → IVec S16 32) a x).toNat < S560x2x96.size a := fun v3 v4 v903 v909 v955 k0_hw15 => k0_hw15.2.2.2

def k0_chk16 (v3 : IVec S16 32) (v4 : IVec S16 32) (v903 : IVec S16 32) (v909 : IVec S16 32) (v956 : IVec S16 32) : Prop :=
  (∀ a x, ((![v956, v3, v903] : Fin 3 → IVec S16 32) a x).toNat < S560x2x96.size a) ∧
  (∀ a x, ((![v956, v3, v909] : Fin 3 → IVec S16 32) a x).toNat < S560x2x96.size a) ∧
  (∀ a x, ((![v956, v4, v903] : Fin 3 → IVec S16 32) a x).toNat < S560x2x96.size a) ∧
  (∀ a x, ((![v956, v4, v909] : Fin 3 → IVec S16 32) a x).toNat < S560x2x96.size a)
theorem k0_idx41_inb : ∀ (v3 : IVec S16 32) (v4 : IVec S16 32) (v903 : IVec S16 32) (v909 : IVec S16 32) (v956 : IVec S16 32) (k0_hw16 : k0_chk16 v3 v4 v903 v909 v956), ∀ a x, ((![v956, v3, v903] : Fin 3 → IVec S16 32) a x).toNat < S560x2x96.size a := fun v3 v4 v903 v909 v956 k0_hw16 => k0_hw16.1
theorem k0_idx43_inb : ∀ (v3 : IVec S16 32) (v4 : IVec S16 32) (v903 : IVec S16 32) (v909 : IVec S16 32) (v956 : IVec S16 32) (k0_hw16 : k0_chk16 v3 v4 v903 v909 v956), ∀ a x, ((![v956, v3, v909] : Fin 3 → IVec S16 32) a x).toNat < S560x2x96.size a := fun v3 v4 v903 v909 v956 k0_hw16 => k0_hw16.2.1
theorem k0_idx49_inb : ∀ (v3 : IVec S16 32) (v4 : IVec S16 32) (v903 : IVec S16 32) (v909 : IVec S16 32) (v956 : IVec S16 32) (k0_hw16 : k0_chk16 v3 v4 v903 v909 v956), ∀ a x, ((![v956, v4, v903] : Fin 3 → IVec S16 32) a x).toNat < S560x2x96.size a := fun v3 v4 v903 v909 v956 k0_hw16 => k0_hw16.2.2.1
theorem k0_idx51_inb : ∀ (v3 : IVec S16 32) (v4 : IVec S16 32) (v903 : IVec S16 32) (v909 : IVec S16 32) (v956 : IVec S16 32) (k0_hw16 : k0_chk16 v3 v4 v903 v909 v956), ∀ a x, ((![v956, v4, v909] : Fin 3 → IVec S16 32) a x).toNat < S560x2x96.size a := fun v3 v4 v903 v909 v956 k0_hw16 => k0_hw16.2.2.2

def k0_chk17 (v3 : IVec S16 32) (v4 : IVec S16 32) (v903 : IVec S16 32) (v909 : IVec S16 32) (v957 : IVec S16 32) : Prop :=
  (∀ a x, ((![v957, v3, v903] : Fin 3 → IVec S16 32) a x).toNat < S560x2x96.size a) ∧
  (∀ a x, ((![v957, v3, v909] : Fin 3 → IVec S16 32) a x).toNat < S560x2x96.size a) ∧
  (∀ a x, ((![v957, v4, v903] : Fin 3 → IVec S16 32) a x).toNat < S560x2x96.size a) ∧
  (∀ a x, ((![v957, v4, v909] : Fin 3 → IVec S16 32) a x).toNat < S560x2x96.size a)
theorem k0_idx42_inb : ∀ (v3 : IVec S16 32) (v4 : IVec S16 32) (v903 : IVec S16 32) (v909 : IVec S16 32) (v957 : IVec S16 32) (k0_hw17 : k0_chk17 v3 v4 v903 v909 v957), ∀ a x, ((![v957, v3, v903] : Fin 3 → IVec S16 32) a x).toNat < S560x2x96.size a := fun v3 v4 v903 v909 v957 k0_hw17 => k0_hw17.1
theorem k0_idx44_inb : ∀ (v3 : IVec S16 32) (v4 : IVec S16 32) (v903 : IVec S16 32) (v909 : IVec S16 32) (v957 : IVec S16 32) (k0_hw17 : k0_chk17 v3 v4 v903 v909 v957), ∀ a x, ((![v957, v3, v909] : Fin 3 → IVec S16 32) a x).toNat < S560x2x96.size a := fun v3 v4 v903 v909 v957 k0_hw17 => k0_hw17.2.1
theorem k0_idx50_inb : ∀ (v3 : IVec S16 32) (v4 : IVec S16 32) (v903 : IVec S16 32) (v909 : IVec S16 32) (v957 : IVec S16 32) (k0_hw17 : k0_chk17 v3 v4 v903 v909 v957), ∀ a x, ((![v957, v4, v903] : Fin 3 → IVec S16 32) a x).toNat < S560x2x96.size a := fun v3 v4 v903 v909 v957 k0_hw17 => k0_hw17.2.2.1
theorem k0_idx52_inb : ∀ (v3 : IVec S16 32) (v4 : IVec S16 32) (v903 : IVec S16 32) (v909 : IVec S16 32) (v957 : IVec S16 32) (k0_hw17 : k0_chk17 v3 v4 v903 v909 v957), ∀ a x, ((![v957, v4, v909] : Fin 3 → IVec S16 32) a x).toNat < S560x2x96.size a := fun v3 v4 v903 v909 v957 k0_hw17 => k0_hw17.2.2.2

def k0_chk18 (v3 : IVec S16 32) (v4 : IVec S16 32) (v1063 : IVec S16 32) (v1069 : IVec S16 32) (v1114 : IVec S16 32) : Prop :=
  (∀ a x, ((![v1114, v3, v1063] : Fin 3 → IVec S16 32) a x).toNat < S560x2x96.size a) ∧
  (∀ a x, ((![v1114, v3, v1069] : Fin 3 → IVec S16 32) a x).toNat < S560x2x96.size a) ∧
  (∀ a x, ((![v1114, v4, v1063] : Fin 3 → IVec S16 32) a x).toNat < S560x2x96.size a) ∧
  (∀ a x, ((![v1114, v4, v1069] : Fin 3 → IVec S16 32) a x).toNat < S560x2x96.size a)
theorem k0_idx55_inb : ∀ (v3 : IVec S16 32) (v4 : IVec S16 32) (v1063 : IVec S16 32) (v1069 : IVec S16 32) (v1114 : IVec S16 32) (k0_hw18 : k0_chk18 v3 v4 v1063 v1069 v1114), ∀ a x, ((![v1114, v3, v1063] : Fin 3 → IVec S16 32) a x).toNat < S560x2x96.size a := fun v3 v4 v1063 v1069 v1114 k0_hw18 => k0_hw18.1
theorem k0_idx57_inb : ∀ (v3 : IVec S16 32) (v4 : IVec S16 32) (v1063 : IVec S16 32) (v1069 : IVec S16 32) (v1114 : IVec S16 32) (k0_hw18 : k0_chk18 v3 v4 v1063 v1069 v1114), ∀ a x, ((![v1114, v3, v1069] : Fin 3 → IVec S16 32) a x).toNat < S560x2x96.size a := fun v3 v4 v1063 v1069 v1114 k0_hw18 => k0_hw18.2.1
theorem k0_idx63_inb : ∀ (v3 : IVec S16 32) (v4 : IVec S16 32) (v1063 : IVec S16 32) (v1069 : IVec S16 32) (v1114 : IVec S16 32) (k0_hw18 : k0_chk18 v3 v4 v1063 v1069 v1114), ∀ a x, ((![v1114, v4, v1063] : Fin 3 → IVec S16 32) a x).toNat < S560x2x96.size a := fun v3 v4 v1063 v1069 v1114 k0_hw18 => k0_hw18.2.2.1
theorem k0_idx65_inb : ∀ (v3 : IVec S16 32) (v4 : IVec S16 32) (v1063 : IVec S16 32) (v1069 : IVec S16 32) (v1114 : IVec S16 32) (k0_hw18 : k0_chk18 v3 v4 v1063 v1069 v1114), ∀ a x, ((![v1114, v4, v1069] : Fin 3 → IVec S16 32) a x).toNat < S560x2x96.size a := fun v3 v4 v1063 v1069 v1114 k0_hw18 => k0_hw18.2.2.2

def k0_chk19 (v3 : IVec S16 32) (v4 : IVec S16 32) (v1063 : IVec S16 32) (v1069 : IVec S16 32) (v1115 : IVec S16 32) : Prop :=
  (∀ a x, ((![v1115, v3, v1063] : Fin 3 → IVec S16 32) a x).toNat < S560x2x96.size a) ∧
  (∀ a x, ((![v1115, v3, v1069] : Fin 3 → IVec S16 32) a x).toNat < S560x2x96.size a) ∧
  (∀ a x, ((![v1115, v4, v1063] : Fin 3 → IVec S16 32) a x).toNat < S560x2x96.size a) ∧
  (∀ a x, ((![v1115, v4, v1069] : Fin 3 → IVec S16 32) a x).toNat < S560x2x96.size a)
theorem k0_idx56_inb : ∀ (v3 : IVec S16 32) (v4 : IVec S16 32) (v1063 : IVec S16 32) (v1069 : IVec S16 32) (v1115 : IVec S16 32) (k0_hw19 : k0_chk19 v3 v4 v1063 v1069 v1115), ∀ a x, ((![v1115, v3, v1063] : Fin 3 → IVec S16 32) a x).toNat < S560x2x96.size a := fun v3 v4 v1063 v1069 v1115 k0_hw19 => k0_hw19.1
theorem k0_idx58_inb : ∀ (v3 : IVec S16 32) (v4 : IVec S16 32) (v1063 : IVec S16 32) (v1069 : IVec S16 32) (v1115 : IVec S16 32) (k0_hw19 : k0_chk19 v3 v4 v1063 v1069 v1115), ∀ a x, ((![v1115, v3, v1069] : Fin 3 → IVec S16 32) a x).toNat < S560x2x96.size a := fun v3 v4 v1063 v1069 v1115 k0_hw19 => k0_hw19.2.1
theorem k0_idx64_inb : ∀ (v3 : IVec S16 32) (v4 : IVec S16 32) (v1063 : IVec S16 32) (v1069 : IVec S16 32) (v1115 : IVec S16 32) (k0_hw19 : k0_chk19 v3 v4 v1063 v1069 v1115), ∀ a x, ((![v1115, v4, v1063] : Fin 3 → IVec S16 32) a x).toNat < S560x2x96.size a := fun v3 v4 v1063 v1069 v1115 k0_hw19 => k0_hw19.2.2.1
theorem k0_idx66_inb : ∀ (v3 : IVec S16 32) (v4 : IVec S16 32) (v1063 : IVec S16 32) (v1069 : IVec S16 32) (v1115 : IVec S16 32) (k0_hw19 : k0_chk19 v3 v4 v1063 v1069 v1115), ∀ a x, ((![v1115, v4, v1069] : Fin 3 → IVec S16 32) a x).toNat < S560x2x96.size a := fun v3 v4 v1063 v1069 v1115 k0_hw19 => k0_hw19.2.2.2

def k0_chk20 (v3 : IVec S16 32) (v4 : IVec S16 32) (v1063 : IVec S16 32) (v1069 : IVec S16 32) (v1116 : IVec S16 32) : Prop :=
  (∀ a x, ((![v1116, v3, v1063] : Fin 3 → IVec S16 32) a x).toNat < S560x2x96.size a) ∧
  (∀ a x, ((![v1116, v3, v1069] : Fin 3 → IVec S16 32) a x).toNat < S560x2x96.size a) ∧
  (∀ a x, ((![v1116, v4, v1063] : Fin 3 → IVec S16 32) a x).toNat < S560x2x96.size a) ∧
  (∀ a x, ((![v1116, v4, v1069] : Fin 3 → IVec S16 32) a x).toNat < S560x2x96.size a)
theorem k0_idx59_inb : ∀ (v3 : IVec S16 32) (v4 : IVec S16 32) (v1063 : IVec S16 32) (v1069 : IVec S16 32) (v1116 : IVec S16 32) (k0_hw20 : k0_chk20 v3 v4 v1063 v1069 v1116), ∀ a x, ((![v1116, v3, v1063] : Fin 3 → IVec S16 32) a x).toNat < S560x2x96.size a := fun v3 v4 v1063 v1069 v1116 k0_hw20 => k0_hw20.1
theorem k0_idx61_inb : ∀ (v3 : IVec S16 32) (v4 : IVec S16 32) (v1063 : IVec S16 32) (v1069 : IVec S16 32) (v1116 : IVec S16 32) (k0_hw20 : k0_chk20 v3 v4 v1063 v1069 v1116), ∀ a x, ((![v1116, v3, v1069] : Fin 3 → IVec S16 32) a x).toNat < S560x2x96.size a := fun v3 v4 v1063 v1069 v1116 k0_hw20 => k0_hw20.2.1
theorem k0_idx67_inb : ∀ (v3 : IVec S16 32) (v4 : IVec S16 32) (v1063 : IVec S16 32) (v1069 : IVec S16 32) (v1116 : IVec S16 32) (k0_hw20 : k0_chk20 v3 v4 v1063 v1069 v1116), ∀ a x, ((![v1116, v4, v1063] : Fin 3 → IVec S16 32) a x).toNat < S560x2x96.size a := fun v3 v4 v1063 v1069 v1116 k0_hw20 => k0_hw20.2.2.1
theorem k0_idx69_inb : ∀ (v3 : IVec S16 32) (v4 : IVec S16 32) (v1063 : IVec S16 32) (v1069 : IVec S16 32) (v1116 : IVec S16 32) (k0_hw20 : k0_chk20 v3 v4 v1063 v1069 v1116), ∀ a x, ((![v1116, v4, v1069] : Fin 3 → IVec S16 32) a x).toNat < S560x2x96.size a := fun v3 v4 v1063 v1069 v1116 k0_hw20 => k0_hw20.2.2.2

def k0_chk21 (v3 : IVec S16 32) (v4 : IVec S16 32) (v1063 : IVec S16 32) (v1069 : IVec S16 32) (v1117 : IVec S16 32) : Prop :=
  (∀ a x, ((![v1117, v3, v1063] : Fin 3 → IVec S16 32) a x).toNat < S560x2x96.size a) ∧
  (∀ a x, ((![v1117, v3, v1069] : Fin 3 → IVec S16 32) a x).toNat < S560x2x96.size a) ∧
  (∀ a x, ((![v1117, v4, v1063] : Fin 3 → IVec S16 32) a x).toNat < S560x2x96.size a) ∧
  (∀ a x, ((![v1117, v4, v1069] : Fin 3 → IVec S16 32) a x).toNat < S560x2x96.size a)
theorem k0_idx60_inb : ∀ (v3 : IVec S16 32) (v4 : IVec S16 32) (v1063 : IVec S16 32) (v1069 : IVec S16 32) (v1117 : IVec S16 32) (k0_hw21 : k0_chk21 v3 v4 v1063 v1069 v1117), ∀ a x, ((![v1117, v3, v1063] : Fin 3 → IVec S16 32) a x).toNat < S560x2x96.size a := fun v3 v4 v1063 v1069 v1117 k0_hw21 => k0_hw21.1
theorem k0_idx62_inb : ∀ (v3 : IVec S16 32) (v4 : IVec S16 32) (v1063 : IVec S16 32) (v1069 : IVec S16 32) (v1117 : IVec S16 32) (k0_hw21 : k0_chk21 v3 v4 v1063 v1069 v1117), ∀ a x, ((![v1117, v3, v1069] : Fin 3 → IVec S16 32) a x).toNat < S560x2x96.size a := fun v3 v4 v1063 v1069 v1117 k0_hw21 => k0_hw21.2.1
theorem k0_idx68_inb : ∀ (v3 : IVec S16 32) (v4 : IVec S16 32) (v1063 : IVec S16 32) (v1069 : IVec S16 32) (v1117 : IVec S16 32) (k0_hw21 : k0_chk21 v3 v4 v1063 v1069 v1117), ∀ a x, ((![v1117, v4, v1063] : Fin 3 → IVec S16 32) a x).toNat < S560x2x96.size a := fun v3 v4 v1063 v1069 v1117 k0_hw21 => k0_hw21.2.2.1
theorem k0_idx70_inb : ∀ (v3 : IVec S16 32) (v4 : IVec S16 32) (v1063 : IVec S16 32) (v1069 : IVec S16 32) (v1117 : IVec S16 32) (k0_hw21 : k0_chk21 v3 v4 v1063 v1069 v1117), ∀ a x, ((![v1117, v4, v1069] : Fin 3 → IVec S16 32) a x).toNat < S560x2x96.size a := fun v3 v4 v1063 v1069 v1117 k0_hw21 => k0_hw21.2.2.2

def k0_chk22 (v3 : IVec S16 32) (v4 : IVec S16 32) (v1223 : IVec S16 32) (v1229 : IVec S16 32) (v1274 : IVec S16 32) : Prop :=
  (∀ a x, ((![v1274, v3, v1223] : Fin 3 → IVec S16 32) a x).toNat < S560x2x96.size a) ∧
  (∀ a x, ((![v1274, v3, v1229] : Fin 3 → IVec S16 32) a x).toNat < S560x2x96.size a) ∧
  (∀ a x, ((![v1274, v4, v1223] : Fin 3 → IVec S16 32) a x).toNat < S560x2x96.size a) ∧
  (∀ a x, ((![v1274, v4, v1229] : Fin 3 → IVec S16 32) a x).toNat < S560x2x96.size a)
theorem k0_idx73_inb : ∀ (v3 : IVec S16 32) (v4 : IVec S16 32) (v1223 : IVec S16 32) (v1229 : IVec S16 32) (v1274 : IVec S16 32) (k0_hw22 : k0_chk22 v3 v4 v1223 v1229 v1274), ∀ a x, ((![v1274, v3, v1223] : Fin 3 → IVec S16 32) a x).toNat < S560x2x96.size a := fun v3 v4 v1223 v1229 v1274 k0_hw22 => k0_hw22.1
theorem k0_idx75_inb : ∀ (v3 : IVec S16 32) (v4 : IVec S16 32) (v1223 : IVec S16 32) (v1229 : IVec S16 32) (v1274 : IVec S16 32) (k0_hw22 : k0_chk22 v3 v4 v1223 v1229 v1274), ∀ a x, ((![v1274, v3, v1229] : Fin 3 → IVec S16 32) a x).toNat < S560x2x96.size a := fun v3 v4 v1223 v1229 v1274 k0_hw22 => k0_hw22.2.1
theorem k0_idx81_inb : ∀ (v3 : IVec S16 32) (v4 : IVec S16 32) (v1223 : IVec S16 32) (v1229 : IVec S16 32) (v1274 : IVec S16 32) (k0_hw22 : k0_chk22 v3 v4 v1223 v1229 v1274), ∀ a x, ((![v1274, v4, v1223] : Fin 3 → IVec S16 32) a x).toNat < S560x2x96.size a := fun v3 v4 v1223 v1229 v1274 k0_hw22 => k0_hw22.2.2.1
theorem k0_idx83_inb : ∀ (v3 : IVec S16 32) (v4 : IVec S16 32) (v1223 : IVec S16 32) (v1229 : IVec S16 32) (v1274 : IVec S16 32) (k0_hw22 : k0_chk22 v3 v4 v1223 v1229 v1274), ∀ a x, ((![v1274, v4, v1229] : Fin 3 → IVec S16 32) a x).toNat < S560x2x96.size a := fun v3 v4 v1223 v1229 v1274 k0_hw22 => k0_hw22.2.2.2

def k0_chk23 (v3 : IVec S16 32) (v4 : IVec S16 32) (v1223 : IVec S16 32) (v1229 : IVec S16 32) (v1275 : IVec S16 32) : Prop :=
  (∀ a x, ((![v1275, v3, v1223] : Fin 3 → IVec S16 32) a x).toNat < S560x2x96.size a) ∧
  (∀ a x, ((![v1275, v3, v1229] : Fin 3 → IVec S16 32) a x).toNat < S560x2x96.size a) ∧
  (∀ a x, ((![v1275, v4, v1223] : Fin 3 → IVec S16 32) a x).toNat < S560x2x96.size a) ∧
  (∀ a x, ((![v1275, v4, v1229] : Fin 3 → IVec S16 32) a x).toNat < S560x2x96.size a)
theorem k0_idx74_inb : ∀ (v3 : IVec S16 32) (v4 : IVec S16 32) (v1223 : IVec S16 32) (v1229 : IVec S16 32) (v1275 : IVec S16 32) (k0_hw23 : k0_chk23 v3 v4 v1223 v1229 v1275), ∀ a x, ((![v1275, v3, v1223] : Fin 3 → IVec S16 32) a x).toNat < S560x2x96.size a := fun v3 v4 v1223 v1229 v1275 k0_hw23 => k0_hw23.1
theorem k0_idx76_inb : ∀ (v3 : IVec S16 32) (v4 : IVec S16 32) (v1223 : IVec S16 32) (v1229 : IVec S16 32) (v1275 : IVec S16 32) (k0_hw23 : k0_chk23 v3 v4 v1223 v1229 v1275), ∀ a x, ((![v1275, v3, v1229] : Fin 3 → IVec S16 32) a x).toNat < S560x2x96.size a := fun v3 v4 v1223 v1229 v1275 k0_hw23 => k0_hw23.2.1
theorem k0_idx82_inb : ∀ (v3 : IVec S16 32) (v4 : IVec S16 32) (v1223 : IVec S16 32) (v1229 : IVec S16 32) (v1275 : IVec S16 32) (k0_hw23 : k0_chk23 v3 v4 v1223 v1229 v1275), ∀ a x, ((![v1275, v4, v1223] : Fin 3 → IVec S16 32) a x).toNat < S560x2x96.size a := fun v3 v4 v1223 v1229 v1275 k0_hw23 => k0_hw23.2.2.1
theorem k0_idx84_inb : ∀ (v3 : IVec S16 32) (v4 : IVec S16 32) (v1223 : IVec S16 32) (v1229 : IVec S16 32) (v1275 : IVec S16 32) (k0_hw23 : k0_chk23 v3 v4 v1223 v1229 v1275), ∀ a x, ((![v1275, v4, v1229] : Fin 3 → IVec S16 32) a x).toNat < S560x2x96.size a := fun v3 v4 v1223 v1229 v1275 k0_hw23 => k0_hw23.2.2.2

def k0_chk24 (v3 : IVec S16 32) (v4 : IVec S16 32) (v1223 : IVec S16 32) (v1229 : IVec S16 32) (v1276 : IVec S16 32) : Prop :=
  (∀ a x, ((![v1276, v3, v1223] : Fin 3 → IVec S16 32) a x).toNat < S560x2x96.size a) ∧
  (∀ a x, ((![v1276, v3, v1229] : Fin 3 → IVec S16 32) a x).toNat < S560x2x96.size a) ∧
  (∀ a x, ((![v1276, v4, v1223] : Fin 3 → IVec S16 32) a x).toNat < S560x2x96.size a) ∧
  (∀ a x, ((![v1276, v4, v1229] : Fin 3 → IVec S16 32) a x).toNat < S560x2x96.size a)
theorem k0_idx77_inb : ∀ (v3 : IVec S16 32) (v4 : IVec S16 32) (v1223 : IVec S16 32) (v1229 : IVec S16 32) (v1276 : IVec S16 32) (k0_hw24 : k0_chk24 v3 v4 v1223 v1229 v1276), ∀ a x, ((![v1276, v3, v1223] : Fin 3 → IVec S16 32) a x).toNat < S560x2x96.size a := fun v3 v4 v1223 v1229 v1276 k0_hw24 => k0_hw24.1
theorem k0_idx79_inb : ∀ (v3 : IVec S16 32) (v4 : IVec S16 32) (v1223 : IVec S16 32) (v1229 : IVec S16 32) (v1276 : IVec S16 32) (k0_hw24 : k0_chk24 v3 v4 v1223 v1229 v1276), ∀ a x, ((![v1276, v3, v1229] : Fin 3 → IVec S16 32) a x).toNat < S560x2x96.size a := fun v3 v4 v1223 v1229 v1276 k0_hw24 => k0_hw24.2.1
theorem k0_idx85_inb : ∀ (v3 : IVec S16 32) (v4 : IVec S16 32) (v1223 : IVec S16 32) (v1229 : IVec S16 32) (v1276 : IVec S16 32) (k0_hw24 : k0_chk24 v3 v4 v1223 v1229 v1276), ∀ a x, ((![v1276, v4, v1223] : Fin 3 → IVec S16 32) a x).toNat < S560x2x96.size a := fun v3 v4 v1223 v1229 v1276 k0_hw24 => k0_hw24.2.2.1
theorem k0_idx87_inb : ∀ (v3 : IVec S16 32) (v4 : IVec S16 32) (v1223 : IVec S16 32) (v1229 : IVec S16 32) (v1276 : IVec S16 32) (k0_hw24 : k0_chk24 v3 v4 v1223 v1229 v1276), ∀ a x, ((![v1276, v4, v1229] : Fin 3 → IVec S16 32) a x).toNat < S560x2x96.size a := fun v3 v4 v1223 v1229 v1276 k0_hw24 => k0_hw24.2.2.2

def k0_chk25 (v3 : IVec S16 32) (v4 : IVec S16 32) (v1223 : IVec S16 32) (v1229 : IVec S16 32) (v1277 : IVec S16 32) : Prop :=
  (∀ a x, ((![v1277, v3, v1223] : Fin 3 → IVec S16 32) a x).toNat < S560x2x96.size a) ∧
  (∀ a x, ((![v1277, v3, v1229] : Fin 3 → IVec S16 32) a x).toNat < S560x2x96.size a) ∧
  (∀ a x, ((![v1277, v4, v1223] : Fin 3 → IVec S16 32) a x).toNat < S560x2x96.size a) ∧
  (∀ a x, ((![v1277, v4, v1229] : Fin 3 → IVec S16 32) a x).toNat < S560x2x96.size a)
theorem k0_idx78_inb : ∀ (v3 : IVec S16 32) (v4 : IVec S16 32) (v1223 : IVec S16 32) (v1229 : IVec S16 32) (v1277 : IVec S16 32) (k0_hw25 : k0_chk25 v3 v4 v1223 v1229 v1277), ∀ a x, ((![v1277, v3, v1223] : Fin 3 → IVec S16 32) a x).toNat < S560x2x96.size a := fun v3 v4 v1223 v1229 v1277 k0_hw25 => k0_hw25.1
theorem k0_idx80_inb : ∀ (v3 : IVec S16 32) (v4 : IVec S16 32) (v1223 : IVec S16 32) (v1229 : IVec S16 32) (v1277 : IVec S16 32) (k0_hw25 : k0_chk25 v3 v4 v1223 v1229 v1277), ∀ a x, ((![v1277, v3, v1229] : Fin 3 → IVec S16 32) a x).toNat < S560x2x96.size a := fun v3 v4 v1223 v1229 v1277 k0_hw25 => k0_hw25.2.1
theorem k0_idx86_inb : ∀ (v3 : IVec S16 32) (v4 : IVec S16 32) (v1223 : IVec S16 32) (v1229 : IVec S16 32) (v1277 : IVec S16 32) (k0_hw25 : k0_chk25 v3 v4 v1223 v1229 v1277), ∀ a x, ((![v1277, v4, v1223] : Fin 3 → IVec S16 32) a x).toNat < S560x2x96.size a := fun v3 v4 v1223 v1229 v1277 k0_hw25 => k0_hw25.2.2.1
theorem k0_idx88_inb : ∀ (v3 : IVec S16 32) (v4 : IVec S16 32) (v1223 : IVec S16 32) (v1229 : IVec S16 32) (v1277 : IVec S16 32) (k0_hw25 : k0_chk25 v3 v4 v1223 v1229 v1277), ∀ a x, ((![v1277, v4, v1229] : Fin 3 → IVec S16 32) a x).toNat < S560x2x96.size a := fun v3 v4 v1223 v1229 v1277 k0_hw25 => k0_hw25.2.2.2

def k0_chk26 (v3 : IVec S16 32) (v4 : IVec S16 32) (v1383 : IVec S16 32) (v1389 : IVec S16 32) (v1434 : IVec S16 32) : Prop :=
  (∀ a x, ((![v1434, v3, v1383] : Fin 3 → IVec S16 32) a x).toNat < S560x2x96.size a) ∧
  (∀ a x, ((![v1434, v3, v1389] : Fin 3 → IVec S16 32) a x).toNat < S560x2x96.size a) ∧
  (∀ a x, ((![v1434, v4, v1383] : Fin 3 → IVec S16 32) a x).toNat < S560x2x96.size a) ∧
  (∀ a x, ((![v1434, v4, v1389] : Fin 3 → IVec S16 32) a x).toNat < S560x2x96.size a)
theorem k0_idx91_inb : ∀ (v3 : IVec S16 32) (v4 : IVec S16 32) (v1383 : IVec S16 32) (v1389 : IVec S16 32) (v1434 : IVec S16 32) (k0_hw26 : k0_chk26 v3 v4 v1383 v1389 v1434), ∀ a x, ((![v1434, v3, v1383] : Fin 3 → IVec S16 32) a x).toNat < S560x2x96.size a := fun v3 v4 v1383 v1389 v1434 k0_hw26 => k0_hw26.1
theorem k0_idx93_inb : ∀ (v3 : IVec S16 32) (v4 : IVec S16 32) (v1383 : IVec S16 32) (v1389 : IVec S16 32) (v1434 : IVec S16 32) (k0_hw26 : k0_chk26 v3 v4 v1383 v1389 v1434), ∀ a x, ((![v1434, v3, v1389] : Fin 3 → IVec S16 32) a x).toNat < S560x2x96.size a := fun v3 v4 v1383 v1389 v1434 k0_hw26 => k0_hw26.2.1
theorem k0_idx99_inb : ∀ (v3 : IVec S16 32) (v4 : IVec S16 32) (v1383 : IVec S16 32) (v1389 : IVec S16 32) (v1434 : IVec S16 32) (k0_hw26 : k0_chk26 v3 v4 v1383 v1389 v1434), ∀ a x, ((![v1434, v4, v1383] : Fin 3 → IVec S16 32) a x).toNat < S560x2x96.size a := fun v3 v4 v1383 v1389 v1434 k0_hw26 => k0_hw26.2.2.1
theorem k0_idx101_inb : ∀ (v3 : IVec S16 32) (v4 : IVec S16 32) (v1383 : IVec S16 32) (v1389 : IVec S16 32) (v1434 : IVec S16 32) (k0_hw26 : k0_chk26 v3 v4 v1383 v1389 v1434), ∀ a x, ((![v1434, v4, v1389] : Fin 3 → IVec S16 32) a x).toNat < S560x2x96.size a := fun v3 v4 v1383 v1389 v1434 k0_hw26 => k0_hw26.2.2.2

def k0_chk27 (v3 : IVec S16 32) (v4 : IVec S16 32) (v1383 : IVec S16 32) (v1389 : IVec S16 32) (v1435 : IVec S16 32) : Prop :=
  (∀ a x, ((![v1435, v3, v1383] : Fin 3 → IVec S16 32) a x).toNat < S560x2x96.size a) ∧
  (∀ a x, ((![v1435, v3, v1389] : Fin 3 → IVec S16 32) a x).toNat < S560x2x96.size a) ∧
  (∀ a x, ((![v1435, v4, v1383] : Fin 3 → IVec S16 32) a x).toNat < S560x2x96.size a) ∧
  (∀ a x, ((![v1435, v4, v1389] : Fin 3 → IVec S16 32) a x).toNat < S560x2x96.size a)
theorem k0_idx92_inb : ∀ (v3 : IVec S16 32) (v4 : IVec S16 32) (v1383 : IVec S16 32) (v1389 : IVec S16 32) (v1435 : IVec S16 32) (k0_hw27 : k0_chk27 v3 v4 v1383 v1389 v1435), ∀ a x, ((![v1435, v3, v1383] : Fin 3 → IVec S16 32) a x).toNat < S560x2x96.size a := fun v3 v4 v1383 v1389 v1435 k0_hw27 => k0_hw27.1
theorem k0_idx94_inb : ∀ (v3 : IVec S16 32) (v4 : IVec S16 32) (v1383 : IVec S16 32) (v1389 : IVec S16 32) (v1435 : IVec S16 32) (k0_hw27 : k0_chk27 v3 v4 v1383 v1389 v1435), ∀ a x, ((![v1435, v3, v1389] : Fin 3 → IVec S16 32) a x).toNat < S560x2x96.size a := fun v3 v4 v1383 v1389 v1435 k0_hw27 => k0_hw27.2.1
theorem k0_idx100_inb : ∀ (v3 : IVec S16 32) (v4 : IVec S16 32) (v1383 : IVec S16 32) (v1389 : IVec S16 32) (v1435 : IVec S16 32) (k0_hw27 : k0_chk27 v3 v4 v1383 v1389 v1435), ∀ a x, ((![v1435, v4, v1383] : Fin 3 → IVec S16 32) a x).toNat < S560x2x96.size a := fun v3 v4 v1383 v1389 v1435 k0_hw27 => k0_hw27.2.2.1
theorem k0_idx102_inb : ∀ (v3 : IVec S16 32) (v4 : IVec S16 32) (v1383 : IVec S16 32) (v1389 : IVec S16 32) (v1435 : IVec S16 32) (k0_hw27 : k0_chk27 v3 v4 v1383 v1389 v1435), ∀ a x, ((![v1435, v4, v1389] : Fin 3 → IVec S16 32) a x).toNat < S560x2x96.size a := fun v3 v4 v1383 v1389 v1435 k0_hw27 => k0_hw27.2.2.2

def k0_chk28 (v3 : IVec S16 32) (v4 : IVec S16 32) (v1383 : IVec S16 32) (v1389 : IVec S16 32) (v1436 : IVec S16 32) : Prop :=
  (∀ a x, ((![v1436, v3, v1383] : Fin 3 → IVec S16 32) a x).toNat < S560x2x96.size a) ∧
  (∀ a x, ((![v1436, v3, v1389] : Fin 3 → IVec S16 32) a x).toNat < S560x2x96.size a) ∧
  (∀ a x, ((![v1436, v4, v1383] : Fin 3 → IVec S16 32) a x).toNat < S560x2x96.size a) ∧
  (∀ a x, ((![v1436, v4, v1389] : Fin 3 → IVec S16 32) a x).toNat < S560x2x96.size a)
theorem k0_idx95_inb : ∀ (v3 : IVec S16 32) (v4 : IVec S16 32) (v1383 : IVec S16 32) (v1389 : IVec S16 32) (v1436 : IVec S16 32) (k0_hw28 : k0_chk28 v3 v4 v1383 v1389 v1436), ∀ a x, ((![v1436, v3, v1383] : Fin 3 → IVec S16 32) a x).toNat < S560x2x96.size a := fun v3 v4 v1383 v1389 v1436 k0_hw28 => k0_hw28.1
theorem k0_idx97_inb : ∀ (v3 : IVec S16 32) (v4 : IVec S16 32) (v1383 : IVec S16 32) (v1389 : IVec S16 32) (v1436 : IVec S16 32) (k0_hw28 : k0_chk28 v3 v4 v1383 v1389 v1436), ∀ a x, ((![v1436, v3, v1389] : Fin 3 → IVec S16 32) a x).toNat < S560x2x96.size a := fun v3 v4 v1383 v1389 v1436 k0_hw28 => k0_hw28.2.1
theorem k0_idx103_inb : ∀ (v3 : IVec S16 32) (v4 : IVec S16 32) (v1383 : IVec S16 32) (v1389 : IVec S16 32) (v1436 : IVec S16 32) (k0_hw28 : k0_chk28 v3 v4 v1383 v1389 v1436), ∀ a x, ((![v1436, v4, v1383] : Fin 3 → IVec S16 32) a x).toNat < S560x2x96.size a := fun v3 v4 v1383 v1389 v1436 k0_hw28 => k0_hw28.2.2.1
theorem k0_idx105_inb : ∀ (v3 : IVec S16 32) (v4 : IVec S16 32) (v1383 : IVec S16 32) (v1389 : IVec S16 32) (v1436 : IVec S16 32) (k0_hw28 : k0_chk28 v3 v4 v1383 v1389 v1436), ∀ a x, ((![v1436, v4, v1389] : Fin 3 → IVec S16 32) a x).toNat < S560x2x96.size a := fun v3 v4 v1383 v1389 v1436 k0_hw28 => k0_hw28.2.2.2

def k0_chk29 (v3 : IVec S16 32) (v4 : IVec S16 32) (v1383 : IVec S16 32) (v1389 : IVec S16 32) (v1437 : IVec S16 32) : Prop :=
  (∀ a x, ((![v1437, v3, v1383] : Fin 3 → IVec S16 32) a x).toNat < S560x2x96.size a) ∧
  (∀ a x, ((![v1437, v3, v1389] : Fin 3 → IVec S16 32) a x).toNat < S560x2x96.size a) ∧
  (∀ a x, ((![v1437, v4, v1383] : Fin 3 → IVec S16 32) a x).toNat < S560x2x96.size a) ∧
  (∀ a x, ((![v1437, v4, v1389] : Fin 3 → IVec S16 32) a x).toNat < S560x2x96.size a)
theorem k0_idx96_inb : ∀ (v3 : IVec S16 32) (v4 : IVec S16 32) (v1383 : IVec S16 32) (v1389 : IVec S16 32) (v1437 : IVec S16 32) (k0_hw29 : k0_chk29 v3 v4 v1383 v1389 v1437), ∀ a x, ((![v1437, v3, v1383] : Fin 3 → IVec S16 32) a x).toNat < S560x2x96.size a := fun v3 v4 v1383 v1389 v1437 k0_hw29 => k0_hw29.1
theorem k0_idx98_inb : ∀ (v3 : IVec S16 32) (v4 : IVec S16 32) (v1383 : IVec S16 32) (v1389 : IVec S16 32) (v1437 : IVec S16 32) (k0_hw29 : k0_chk29 v3 v4 v1383 v1389 v1437), ∀ a x, ((![v1437, v3, v1389] : Fin 3 → IVec S16 32) a x).toNat < S560x2x96.size a := fun v3 v4 v1383 v1389 v1437 k0_hw29 => k0_hw29.2.1
theorem k0_idx104_inb : ∀ (v3 : IVec S16 32) (v4 : IVec S16 32) (v1383 : IVec S16 32) (v1389 : IVec S16 32) (v1437 : IVec S16 32) (k0_hw29 : k0_chk29 v3 v4 v1383 v1389 v1437), ∀ a x, ((![v1437, v4, v1383] : Fin 3 → IVec S16 32) a x).toNat < S560x2x96.size a := fun v3 v4 v1383 v1389 v1437 k0_hw29 => k0_hw29.2.2.1
theorem k0_idx106_inb : ∀ (v3 : IVec S16 32) (v4 : IVec S16 32) (v1383 : IVec S16 32) (v1389 : IVec S16 32) (v1437 : IVec S16 32) (k0_hw29 : k0_chk29 v3 v4 v1383 v1389 v1437), ∀ a x, ((![v1437, v4, v1389] : Fin 3 → IVec S16 32) a x).toNat < S560x2x96.size a := fun v3 v4 v1383 v1389 v1437 k0_hw29 => k0_hw29.2.2.2

def k0_chk9 (v3 : IVec S16 32) (v4 : IVec S16 32) (v6 : IVec S16 32) (v8 : IVec S16 32) (v10 : IVec S16 32) (v12 : IVec S16 32) (v14 : IVec S16 32) (v16 : IVec S16 32) (v531 : IVec S16 32) : Prop :=
  (∀ a x, ((![v6, v3, v531] : Fin 3 → IVec S16 32) a x).toNat < S96x2x16.size a) ∧
  (∀ a x, ((![v6, v4, v531] : Fin 3 → IVec S16 32) a x).toNat < S96x2x16.size a) ∧
  (∀ a x, ((![v8, v3, v531] : Fin 3 → IVec S16 32) a x).toNat < S96x2x16.size a) ∧
  (∀ a x, ((![v8, v4, v531] : Fin 3 → IVec S16 32) a x).toNat < S96x2x16.size a) ∧
  (∀ a x, ((![v10, v3, v531] : Fin 3 → IVec S16 32) a x).toNat < S96x2x16.size a) ∧
  (∀ a x, ((![v10, v4, v531] : Fin 3 → IVec S16 32) a x).toNat < S96x2x16.size a) ∧
  (∀ a x, ((![v12, v3, v531] : Fin 3 → IVec S16 32) a x).toNat < S96x2x16.size a) ∧
  (∀ a x, ((![v12, v4, v531] : Fin 3 → IVec S16 32) a x).toNat < S96x2x16.size a) ∧
  (∀ a x, ((![v14, v3, v531] : Fin 3 → IVec S16 32) a x).toNat < S96x2x16.size a) ∧
  (∀ a x, ((![v14, v4, v531] : Fin 3 → IVec S16 32) a x).toNat < S96x2x16.size a) ∧
  (∀ a x, ((![v16, v3, v531] : Fin 3 → IVec S16 32) a x).toNat < S96x2x16.size a) ∧
  (∀ a x, ((![v16, v4, v531] : Fin 3 → IVec S16 32) a x).toNat < S96x2x16.size a)
theorem k0_idx17_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v6, v3, v531] : Fin 3 → IVec S16 32) a x).toNat < S96x2x16.size a := fun v3 v4 v6 v8 v10 v12 v14 v16 v531 k0_hw9 => k0_hw9.1
theorem k0_idx18_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v6, v4, v531] : Fin 3 → IVec S16 32) a x).toNat < S96x2x16.size a := fun v3 v4 v6 v8 v10 v12 v14 v16 v531 k0_hw9 => k0_hw9.2.1
theorem k0_idx35_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v8, v3, v531] : Fin 3 → IVec S16 32) a x).toNat < S96x2x16.size a := fun v3 v4 v6 v8 v10 v12 v14 v16 v531 k0_hw9 => k0_hw9.2.2.1
theorem k0_idx36_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v8, v4, v531] : Fin 3 → IVec S16 32) a x).toNat < S96x2x16.size a := fun v3 v4 v6 v8 v10 v12 v14 v16 v531 k0_hw9 => k0_hw9.2.2.2.1
theorem k0_idx53_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v10, v3, v531] : Fin 3 → IVec S16 32) a x).toNat < S96x2x16.size a := fun v3 v4 v6 v8 v10 v12 v14 v16 v531 k0_hw9 => k0_hw9.2.2.2.2.1
theorem k0_idx54_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v10, v4, v531] : Fin 3 → IVec S16 32) a x).toNat < S96x2x16.size a := fun v3 v4 v6 v8 v10 v12 v14 v16 v531 k0_hw9 => k0_hw9.2.2.2.2.2.1
theorem k0_idx71_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v12, v3, v531] : Fin 3 → IVec S16 32) a x).toNat < S96x2x16.size a := fun v3 v4 v6 v8 v10 v12 v14 v16 v531 k0_hw9 => k0_hw9.2.2.2.2.2.2.1
theorem k0_idx72_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v12, v4, v531] : Fin 3 → IVec S16 32) a x).toNat < S96x2x16.size a := fun v3 v4 v6 v8 v10 v12 v14 v16 v531 k0_hw9 => k0_hw9.2.2.2.2.2.2.2.1
theorem k0_idx89_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v14, v3, v531] : Fin 3 → IVec S16 32) a x).toNat < S96x2x16.size a := fun v3 v4 v6 v8 v10 v12 v14 v16 v531 k0_hw9 => k0_hw9.2.2.2.2.2.2.2.2.1
theorem k0_idx90_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v14, v4, v531] : Fin 3 → IVec S16 32) a x).toNat < S96x2x16.size a := fun v3 v4 v6 v8 v10 v12 v14 v16 v531 k0_hw9 => k0_hw9.2.2.2.2.2.2.2.2.2.1
theorem k0_idx107_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v16, v3, v531] : Fin 3 → IVec S16 32) a x).toNat < S96x2x16.size a := fun v3 v4 v6 v8 v10 v12 v14 v16 v531 k0_hw9 => k0_hw9.2.2.2.2.2.2.2.2.2.2.1
theorem k0_idx108_inb : ∀ (v3 : IVec S16 32) (v4 : IVec S16 32) (v6 : IVec S16 32) (v8 : IVec S16 32) (v10 : IVec S16 32) (v12 : IVec S16 32) (v14 : IVec S16 32) (v16 : IVec S16 32) (v531 : IVec S16 32) (k0_hw9 : k0_chk9 v3 v4 v6 v8 v10 v12 v14 v16 v531), ∀ a x, ((![v16, v4, v531] : Fin 3 → IVec S16 32) a x).toNat < S96x2x16.size a := fun v3 v4 v6 v8 v10 v12 v14 v16 v531 k0_hw9 => k0_hw9.2.2.2.2.2.2.2.2.2.2.2
def k0_off7 (v25 : BitVec 32) (v32 : BitVec 32) (k0_t2 : Fin k0_t2_loop.trips) : Fin 3 → Nat :=
  let c0_i32_584 : BitVec 32 := 0#32
  let c1_i32_586 : BitVec 32 := 1#32
  let arg15 : BitVec 32 := Scf.iv c0_i32_584 c1_i32_586 k0_t2
  let v518 : BitVec 32 := Scalar.addi v32 arg15
  let c96_i32 : BitVec 32 := 96#32
  let v519 : BitVec 32 := Scalar.muli v518 c96_i32
  let c0_i32_593_r3 : BitVec 32 := 0#32
  let v26 : BitVec 32 := v25
  ![v519.toNat, 0, v26.toNat]

def k0_chk30 (v25 : BitVec 32) (v32 : BitVec 32) : Prop :=
  (∀ k0_t2 : Fin k0_t2_loop.trips, ∀ a, (k0_off7 v25 v32 k0_t2) a + S96x2x16.size a ≤ S36864x2x96.size a)
theorem k0_off7_inb : ∀ (v25 : BitVec 32) (v32 : BitVec 32) (k0_hw30 : k0_chk30 v25 v32) (k0_t2 : Fin k0_t2_loop.trips), ∀ a, (k0_off7 v25 v32 k0_t2) a + S96x2x16.size a ≤ S36864x2x96.size a := fun v25 v32 k0_hw30 k0_t2 => k0_hw30 k0_t2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x96x96x96x2 : Shape := ⟨5, ![4, 96, 96, 96, 2]⟩
abbrev S4x3x4 : Shape := ⟨3, ![4, 3, 4]⟩
abbrev S_ : Shape := ⟨0, ![]⟩
abbrev S95 : Shape := ⟨1, ![95]⟩
abbrev S1 : Shape := ⟨1, ![1]⟩
abbrev S96 : Shape := ⟨1, ![96]⟩
abbrev S96x96x96 : Shape := ⟨3, ![96, 96, 96]⟩
abbrev S884736 : Shape := ⟨1, ![884736]⟩
abbrev S3538944 : Shape := ⟨1, ![3538944]⟩
abbrev S1x3538944 : Shape := ⟨2, ![1, 3538944]⟩
abbrev S4x3538944 : Shape := ⟨2, ![4, 3538944]⟩
abbrev S14155776 : Shape := ⟨1, ![14155776]⟩
abbrev S4x4x884736 : Shape := ⟨3, ![4, 4, 884736]⟩
abbrev S4x3x884736 : Shape := ⟨3, ![4, 3, 884736]⟩
abbrev S4x1x884736 : Shape := ⟨3, ![4, 1, 884736]⟩
abbrev S4x884736 : Shape := ⟨2, ![4, 884736]⟩
abbrev S4 : Shape := ⟨1, ![4]⟩
abbrev S3538944x2 : Shape := ⟨2, ![3538944, 2]⟩
abbrev S3538944x1 : Shape := ⟨2, ![3538944, 1]⟩
abbrev S1x1 : Shape := ⟨2, ![1, 1]⟩

abbrev nBuf : Space → Nat
  | .hbm => 505
  | .vmem => 0
  | .smem => 0
  | _ => 0

abbrev hbmTy0_0 (i : Nat) : BufTy := match i % 128 with
  | 0 => ⟨S4x96x96x96x2, .f32⟩
  | 1 => ⟨S4x3x4, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S95, .f32⟩
  | 10 => ⟨S_, .f32⟩
  | 11 => ⟨S95, .f32⟩
  | 12 => ⟨S95, .f32⟩
  | 13 => ⟨S1, .f32⟩
  | 14 => ⟨S_, .f32⟩
  | 15 => ⟨S95, .f32⟩
  | 16 => ⟨S95, .f32⟩
  | 17 => ⟨S95, .f32⟩
  | 18 => ⟨S95, .f32⟩
  | 19 => ⟨S1, .f32⟩
  | 20 => ⟨S95, .f32⟩
  | 21 => ⟨S95, .f32⟩
  | 22 => ⟨S95, .f32⟩
  | 23 => ⟨S1, .f32⟩
  | 24 => ⟨S96, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S95, .f32⟩
  | 33 => ⟨S_, .f32⟩
  | 34 => ⟨S95, .f32⟩
  | 35 => ⟨S95, .f32⟩
  | 36 => ⟨S1, .f32⟩
  | 37 => ⟨S_, .f32⟩
  | 38 => ⟨S95, .f32⟩
  | 39 => ⟨S95, .f32⟩
  | 40 => ⟨S95, .f32⟩
  | 41 => ⟨S95, .f32⟩
  | 42 => ⟨S1, .f32⟩
  | 43 => ⟨S95, .f32⟩
  | 44 => ⟨S95, .f32⟩
  | 45 => ⟨S95, .f32⟩
  | 46 => ⟨S1, .f32⟩
  | 47 => ⟨S96, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S95, .f32⟩
  | 56 => ⟨S_, .f32⟩
  | 57 => ⟨S95, .f32⟩
  | 58 => ⟨S95, .f32⟩
  | 59 => ⟨S1, .f32⟩
  | 60 => ⟨S_, .f32⟩
  | 61 => ⟨S95, .f32⟩
  | 62 => ⟨S95, .f32⟩
  | 63 => ⟨S95, .f32⟩
  | 64 => ⟨S95, .f32⟩
  | 65 => ⟨S1, .f32⟩
  | 66 => ⟨S95, .f32⟩
  | 67 => ⟨S95, .f32⟩
  | 68 => ⟨S95, .f32⟩
  | 69 => ⟨S1, .f32⟩
  | 70 => ⟨S96, .f32⟩
  | 71 => ⟨S96x96x96, .f32⟩
  | 72 => ⟨S96x96x96, .f32⟩
  | 73 => ⟨S96x96x96, .f32⟩
  | 74 => ⟨S884736, .f32⟩
  | 75 => ⟨S884736, .f32⟩
  | 76 => ⟨S884736, .f32⟩
  | 77 => ⟨S_, .f32⟩
  | 78 => ⟨S884736, .f32⟩
  | 79 => ⟨S3538944, .f32⟩
  | 80 => ⟨S1x3538944, .f32⟩
  | 81 => ⟨S4x3538944, .f32⟩
  | 82 => ⟨S14155776, .f32⟩
  | 83 => ⟨S4x4x884736, .f32⟩
  | 84 => ⟨S4x3x884736, .f32⟩
  | 85 => ⟨S4x1x884736, .f32⟩
  | 86 => ⟨S4x884736, .f32⟩
  | 87 => ⟨S3538944, .f32⟩
  | 88 => ⟨S4x1x884736, .f32⟩
  | 89 => ⟨S4x884736, .f32⟩
  | 90 => ⟨S3538944, .f32⟩
  | 91 => ⟨S4x1x884736, .f32⟩
  | 92 => ⟨S4x884736, .f32⟩
  | 93 => ⟨S3538944, .f32⟩
  | 94 => ⟨S_, .f32⟩
  | 95 => ⟨S3538944, .f32⟩
  | 96 => ⟨S3538944, .f32⟩
  | 97 => ⟨S_, .f32⟩
  | 98 => ⟨S3538944, .f32⟩
  | 99 => ⟨S3538944, .f32⟩
  | 100 => ⟨S_, .f32⟩
  | 101 => ⟨S3538944, .f32⟩
  | 102 => ⟨S3538944, .f32⟩
  | 103 => ⟨S_, .f32⟩
  | 104 => ⟨S3538944, .f32⟩
  | 105 => ⟨S3538944, .f32⟩
  | 106 => ⟨S_, .f32⟩
  | 107 => ⟨S3538944, .f32⟩
  | 108 => ⟨S3538944, .f32⟩
  | 109 => ⟨S_, .f32⟩
  | 110 => ⟨S3538944, .f32⟩
  | 111 => ⟨S3538944, .f32⟩
  | 112 => ⟨S_, .f32⟩
  | 113 => ⟨S3538944, .f32⟩
  | 114 => ⟨S3538944, .f32⟩
  | 115 => ⟨S_, .f32⟩
  | 116 => ⟨S3538944, .f32⟩
  | 117 => ⟨S3538944, .f32⟩
  | 118 => ⟨S_, .f32⟩
  | 119 => ⟨S3538944, .f32⟩
  | 120 => ⟨S3538944, .f32⟩
  | 121 => ⟨S3538944, .f32⟩
  | 122 => ⟨S3538944, .i32⟩
  | 123 => ⟨S_, .i32⟩
  | 124 => ⟨S3538944, .i32⟩
  | 125 => ⟨S3538944, .i32⟩
  | 126 => ⟨S3538944, .f32⟩
  | 127 => ⟨S3538944, .i32⟩
  | _ => ⟨S4x96x96x96x2, .f32⟩

abbrev hbmTy0_1 (i : Nat) : BufTy := match i % 128 with
  | 0 => ⟨S_, .i32⟩
  | 1 => ⟨S3538944, .i32⟩
  | 2 => ⟨S3538944, .i32⟩
  | 3 => ⟨S3538944, .f32⟩
  | 4 => ⟨S3538944, .i32⟩
  | 5 => ⟨S_, .i32⟩
  | 6 => ⟨S3538944, .i32⟩
  | 7 => ⟨S3538944, .i32⟩
  | 8 => ⟨S_, .i32⟩
  | 9 => ⟨S_, .i32⟩
  | 10 => ⟨S_, .i32⟩
  | 11 => ⟨S3538944, .i32⟩
  | 12 => ⟨S3538944, .i32⟩
  | 13 => ⟨S_, .i32⟩
  | 14 => ⟨S3538944, .i32⟩
  | 15 => ⟨S3538944, .i32⟩
  | 16 => ⟨S_, .i32⟩
  | 17 => ⟨S_, .i32⟩
  | 18 => ⟨S_, .i32⟩
  | 19 => ⟨S3538944, .i32⟩
  | 20 => ⟨S3538944, .i32⟩
  | 21 => ⟨S_, .i32⟩
  | 22 => ⟨S3538944, .i32⟩
  | 23 => ⟨S3538944, .i32⟩
  | 24 => ⟨S_, .i32⟩
  | 25 => ⟨S_, .i32⟩
  | 26 => ⟨S_, .i32⟩
  | 27 => ⟨S3538944, .i32⟩
  | 28 => ⟨S3538944, .i32⟩
  | 29 => ⟨S_, .i32⟩
  | 30 => ⟨S3538944, .i32⟩
  | 31 => ⟨S3538944, .i32⟩
  | 32 => ⟨S_, .i32⟩
  | 33 => ⟨S_, .i32⟩
  | 34 => ⟨S_, .i32⟩
  | 35 => ⟨S3538944, .i32⟩
  | 36 => ⟨S3538944, .i32⟩
  | 37 => ⟨S_, .i32⟩
  | 38 => ⟨S3538944, .i32⟩
  | 39 => ⟨S3538944, .i32⟩
  | 40 => ⟨S_, .i32⟩
  | 41 => ⟨S_, .i32⟩
  | 42 => ⟨S_, .i32⟩
  | 43 => ⟨S3538944, .i32⟩
  | 44 => ⟨S3538944, .i32⟩
  | 45 => ⟨S_, .i32⟩
  | 46 => ⟨S3538944, .i32⟩
  | 47 => ⟨S3538944, .i32⟩
  | 48 => ⟨S_, .i32⟩
  | 49 => ⟨S_, .i32⟩
  | 50 => ⟨S_, .i32⟩
  | 51 => ⟨S3538944, .i32⟩
  | 52 => ⟨S3538944, .i32⟩
  | 53 => ⟨S_, .i32⟩
  | 54 => ⟨S3538944, .i32⟩
  | 55 => ⟨S3538944, .i32⟩
  | 56 => ⟨S4, .i32⟩
  | 57 => ⟨S_, .i32⟩
  | 58 => ⟨S4, .i32⟩
  | 59 => ⟨S4, .i32⟩
  | 60 => ⟨S4x884736, .i32⟩
  | 61 => ⟨S3538944, .i32⟩
  | 62 => ⟨S_, .i32⟩
  | 63 => ⟨S3538944, .i32⟩
  | 64 => ⟨S3538944, .i32⟩
  | 65 => ⟨S3538944, .i32⟩
  | 66 => ⟨S_, .i32⟩
  | 67 => ⟨S3538944, .i32⟩
  | 68 => ⟨S3538944, .i32⟩
  | 69 => ⟨S_, .i32⟩
  | 70 => ⟨S3538944, .i32⟩
  | 71 => ⟨S3538944, .i32⟩
  | 72 => ⟨S3538944, .i32⟩
  | 73 => ⟨S_, .i32⟩
  | 74 => ⟨S3538944, .i32⟩
  | 75 => ⟨S3538944, .i32⟩
  | 76 => ⟨S3538944, .i32⟩
  | 77 => ⟨S_, .i32⟩
  | 78 => ⟨S3538944, .i32⟩
  | 79 => ⟨S3538944, .i32⟩
  | 80 => ⟨S_, .i32⟩
  | 81 => ⟨S3538944, .i32⟩
  | 82 => ⟨S3538944, .i32⟩
  | 83 => ⟨S3538944, .i32⟩
  | 84 => ⟨S_, .i32⟩
  | 85 => ⟨S3538944, .i32⟩
  | 86 => ⟨S3538944, .i32⟩
  | 87 => ⟨S3538944, .i32⟩
  | 88 => ⟨S_, .i32⟩
  | 89 => ⟨S3538944, .i32⟩
  | 90 => ⟨S3538944, .i32⟩
  | 91 => ⟨S_, .i32⟩
  | 92 => ⟨S3538944, .i32⟩
  | 93 => ⟨S3538944, .i32⟩
  | 94 => ⟨S3538944, .i32⟩
  | 95 => ⟨S_, .i32⟩
  | 96 => ⟨S3538944, .i32⟩
  | 97 => ⟨S3538944, .i32⟩
  | 98 => ⟨S3538944, .i32⟩
  | 99 => ⟨S_, .i32⟩
  | 100 => ⟨S3538944, .i32⟩
  | 101 => ⟨S3538944, .i32⟩
  | 102 => ⟨S_, .i32⟩
  | 103 => ⟨S3538944, .i32⟩
  | 104 => ⟨S3538944, .i32⟩
  | 105 => ⟨S3538944, .i32⟩
  | 106 => ⟨S3538944, .i32⟩
  | 107 => ⟨S3538944, .i32⟩
  | 108 => ⟨S3538944, .i32⟩
  | 109 => ⟨S3538944, .i32⟩
  | 110 => ⟨S3538944, .i32⟩
  | 111 => ⟨S3538944, .i32⟩
  | 112 => ⟨S3538944, .i32⟩
  | 113 => ⟨S3538944, .i32⟩
  | 114 => ⟨S3538944x2, .f32⟩
  | 115 => ⟨S_, .i32⟩
  | 116 => ⟨S3538944, .i32⟩
  | 117 => ⟨S3538944, .i1⟩
  | 118 => ⟨S_, .i32⟩
  | 119 => ⟨S3538944, .i32⟩
  | 120 => ⟨S3538944, .i32⟩
  | 121 => ⟨S3538944, .i32⟩
  | 122 => ⟨S3538944x1, .i32⟩
  | 123 => ⟨S1, .i32⟩
  | 124 => ⟨S_, .i32⟩
  | 125 => ⟨S3538944x1, .i32⟩
  | 126 => ⟨S3538944x1, .i1⟩
  | 127 => ⟨S1x1, .i32⟩
  | _ => ⟨S4x96x96x96x2, .f32⟩

abbrev hbmTy0_2 (i : Nat) : BufTy := match i % 128 with
  | 0 => ⟨S3538944x1, .i32⟩
  | 1 => ⟨S3538944x1, .i1⟩
  | 2 => ⟨S3538944x1, .i1⟩
  | 3 => ⟨S_, .i1⟩
  | 4 => ⟨S3538944, .i1⟩
  | 5 => ⟨S3538944x2, .f32⟩
  | 6 => ⟨S3538944x2, .i1⟩
  | 7 => ⟨S_, .f32⟩
  | 8 => ⟨S3538944x2, .f32⟩
  | 9 => ⟨S3538944x2, .f32⟩
  | 10 => ⟨S_, .i32⟩
  | 11 => ⟨S3538944, .i32⟩
  | 12 => ⟨S3538944, .i1⟩
  | 13 => ⟨S_, .i32⟩
  | 14 => ⟨S3538944, .i32⟩
  | 15 => ⟨S3538944, .i32⟩
  | 16 => ⟨S3538944, .i32⟩
  | 17 => ⟨S3538944x1, .i32⟩
  | 18 => ⟨S1, .i32⟩
  | 19 => ⟨S_, .i32⟩
  | 20 => ⟨S3538944x1, .i32⟩
  | 21 => ⟨S3538944x1, .i1⟩
  | 22 => ⟨S1x1, .i32⟩
  | 23 => ⟨S3538944x1, .i32⟩
  | 24 => ⟨S3538944x1, .i1⟩
  | 25 => ⟨S3538944x1, .i1⟩
  | 26 => ⟨S_, .i1⟩
  | 27 => ⟨S3538944, .i1⟩
  | 28 => ⟨S3538944x2, .f32⟩
  | 29 => ⟨S3538944x2, .i1⟩
  | 30 => ⟨S_, .f32⟩
  | 31 => ⟨S3538944x2, .f32⟩
  | 32 => ⟨S3538944x2, .f32⟩
  | 33 => ⟨S_, .i32⟩
  | 34 => ⟨S3538944, .i32⟩
  | 35 => ⟨S3538944, .i1⟩
  | 36 => ⟨S_, .i32⟩
  | 37 => ⟨S3538944, .i32⟩
  | 38 => ⟨S3538944, .i32⟩
  | 39 => ⟨S3538944, .i32⟩
  | 40 => ⟨S3538944x1, .i32⟩
  | 41 => ⟨S1, .i32⟩
  | 42 => ⟨S_, .i32⟩
  | 43 => ⟨S3538944x1, .i32⟩
  | 44 => ⟨S3538944x1, .i1⟩
  | 45 => ⟨S1x1, .i32⟩
  | 46 => ⟨S3538944x1, .i32⟩
  | 47 => ⟨S3538944x1, .i1⟩
  | 48 => ⟨S3538944x1, .i1⟩
  | 49 => ⟨S_, .i1⟩
  | 50 => ⟨S3538944, .i1⟩
  | 51 => ⟨S3538944x2, .f32⟩
  | 52 => ⟨S3538944x2, .i1⟩
  | 53 => ⟨S_, .f32⟩
  | 54 => ⟨S3538944x2, .f32⟩
  | 55 => ⟨S3538944x2, .f32⟩
  | 56 => ⟨S_, .i32⟩
  | 57 => ⟨S3538944, .i32⟩
  | 58 => ⟨S3538944, .i1⟩
  | 59 => ⟨S_, .i32⟩
  | 60 => ⟨S3538944, .i32⟩
  | 61 => ⟨S3538944, .i32⟩
  | 62 => ⟨S3538944, .i32⟩
  | 63 => ⟨S3538944x1, .i32⟩
  | 64 => ⟨S1, .i32⟩
  | 65 => ⟨S_, .i32⟩
  | 66 => ⟨S3538944x1, .i32⟩
  | 67 => ⟨S3538944x1, .i1⟩
  | 68 => ⟨S1x1, .i32⟩
  | 69 => ⟨S3538944x1, .i32⟩
  | 70 => ⟨S3538944x1, .i1⟩
  | 71 => ⟨S3538944x1, .i1⟩
  | 72 => ⟨S_, .i1⟩
  | 73 => ⟨S3538944, .i1⟩
  | 74 => ⟨S3538944x2, .f32⟩
  | 75 => ⟨S3538944x2, .i1⟩
  | 76 => ⟨S_, .f32⟩
  | 77 => ⟨S3538944x2, .f32⟩
  | 78 => ⟨S3538944x2, .f32⟩
  | 79 => ⟨S_, .i32⟩
  | 80 => ⟨S3538944, .i32⟩
  | 81 => ⟨S3538944, .i1⟩
  | 82 => ⟨S_, .i32⟩
  | 83 => ⟨S3538944, .i32⟩
  | 84 => ⟨S3538944, .i32⟩
  | 85 => ⟨S3538944, .i32⟩
  | 86 => ⟨S3538944x1, .i32⟩
  | 87 => ⟨S1, .i32⟩
  | 88 => ⟨S_, .i32⟩
  | 89 => ⟨S3538944x1, .i32⟩
  | 90 => ⟨S3538944x1, .i1⟩
  | 91 => ⟨S1x1, .i32⟩
  | 92 => ⟨S3538944x1, .i32⟩
  | 93 => ⟨S3538944x1, .i1⟩
  | 94 => ⟨S3538944x1, .i1⟩
  | 95 => ⟨S_, .i1⟩
  | 96 => ⟨S3538944, .i1⟩
  | 97 => ⟨S3538944x2, .f32⟩
  | 98 => ⟨S3538944x2, .i1⟩
  | 99 => ⟨S_, .f32⟩
  | 100 => ⟨S3538944x2, .f32⟩
  | 101 => ⟨S3538944x2, .f32⟩
  | 102 => ⟨S_, .i32⟩
  | 103 => ⟨S3538944, .i32⟩
  | 104 => ⟨S3538944, .i1⟩
  | 105 => ⟨S_, .i32⟩
  | 106 => ⟨S3538944, .i32⟩
  | 107 => ⟨S3538944, .i32⟩
  | 108 => ⟨S3538944, .i32⟩
  | 109 => ⟨S3538944x1, .i32⟩
  | 110 => ⟨S1, .i32⟩
  | 111 => ⟨S_, .i32⟩
  | 112 => ⟨S3538944x1, .i32⟩
  | 113 => ⟨S3538944x1, .i1⟩
  | 114 => ⟨S1x1, .i32⟩
  | 115 => ⟨S3538944x1, .i32⟩
  | 116 => ⟨S3538944x1, .i1⟩
  | 117 => ⟨S3538944x1, .i1⟩
  | 118 => ⟨S_, .i1⟩
  | 119 => ⟨S3538944, .i1⟩
  | 120 => ⟨S3538944x2, .f32⟩
  | 121 => ⟨S3538944x2, .i1⟩
  | 122 => ⟨S_, .f32⟩
  | 123 => ⟨S3538944x2, .f32⟩
  | 124 => ⟨S3538944x2, .f32⟩
  | 125 => ⟨S_, .i32⟩
  | 126 => ⟨S3538944, .i32⟩
  | 127 => ⟨S3538944, .i1⟩
  | _ => ⟨S4x96x96x96x2, .f32⟩

abbrev hbmTy0_3 (i : Nat) : BufTy := match i % 128 with
  | 0 => ⟨S_, .i32⟩
  | 1 => ⟨S3538944, .i32⟩
  | 2 => ⟨S3538944, .i32⟩
  | 3 => ⟨S3538944, .i32⟩
  | 4 => ⟨S3538944x1, .i32⟩
  | 5 => ⟨S1, .i32⟩
  | 6 => ⟨S_, .i32⟩
  | 7 => ⟨S3538944x1, .i32⟩
  | 8 => ⟨S3538944x1, .i1⟩
  | 9 => ⟨S1x1, .i32⟩
  | 10 => ⟨S3538944x1, .i32⟩
  | 11 => ⟨S3538944x1, .i1⟩
  | 12 => ⟨S3538944x1, .i1⟩
  | 13 => ⟨S_, .i1⟩
  | 14 => ⟨S3538944, .i1⟩
  | 15 => ⟨S3538944x2, .f32⟩
  | 16 => ⟨S3538944x2, .i1⟩
  | 17 => ⟨S_, .f32⟩
  | 18 => ⟨S3538944x2, .f32⟩
  | 19 => ⟨S3538944x2, .f32⟩
  | 20 => ⟨S_, .i32⟩
  | 21 => ⟨S3538944, .i32⟩
  | 22 => ⟨S3538944, .i1⟩
  | 23 => ⟨S_, .i32⟩
  | 24 => ⟨S3538944, .i32⟩
  | 25 => ⟨S3538944, .i32⟩
  | 26 => ⟨S3538944, .i32⟩
  | 27 => ⟨S3538944x1, .i32⟩
  | 28 => ⟨S1, .i32⟩
  | 29 => ⟨S_, .i32⟩
  | 30 => ⟨S3538944x1, .i32⟩
  | 31 => ⟨S3538944x1, .i1⟩
  | 32 => ⟨S1x1, .i32⟩
  | 33 => ⟨S3538944x1, .i32⟩
  | 34 => ⟨S3538944x1, .i1⟩
  | 35 => ⟨S3538944x1, .i1⟩
  | 36 => ⟨S_, .i1⟩
  | 37 => ⟨S3538944, .i1⟩
  | 38 => ⟨S3538944x2, .f32⟩
  | 39 => ⟨S3538944x2, .i1⟩
  | 40 => ⟨S_, .f32⟩
  | 41 => ⟨S3538944x2, .f32⟩
  | 42 => ⟨S3538944x2, .f32⟩
  | 43 => ⟨S3538944, .f32⟩
  | 44 => ⟨S3538944, .f32⟩
  | 45 => ⟨S3538944, .f32⟩
  | 46 => ⟨S3538944, .f32⟩
  | 47 => ⟨S3538944, .f32⟩
  | 48 => ⟨S3538944, .f32⟩
  | 49 => ⟨S3538944, .f32⟩
  | 50 => ⟨S3538944, .f32⟩
  | 51 => ⟨S3538944, .f32⟩
  | 52 => ⟨S3538944, .f32⟩
  | 53 => ⟨S3538944, .f32⟩
  | 54 => ⟨S3538944x1, .f32⟩
  | 55 => ⟨S3538944, .f32⟩
  | 56 => ⟨S3538944, .f32⟩
  | 57 => ⟨S3538944, .f32⟩
  | 58 => ⟨S3538944, .f32⟩
  | 59 => ⟨S3538944, .f32⟩
  | 60 => ⟨S3538944x1, .f32⟩
  | 61 => ⟨S3538944, .f32⟩
  | 62 => ⟨S3538944, .f32⟩
  | 63 => ⟨S3538944, .f32⟩
  | 64 => ⟨S3538944, .f32⟩
  | 65 => ⟨S3538944, .f32⟩
  | 66 => ⟨S3538944x1, .f32⟩
  | 67 => ⟨S3538944, .f32⟩
  | 68 => ⟨S3538944, .f32⟩
  | 69 => ⟨S3538944, .f32⟩
  | 70 => ⟨S3538944, .f32⟩
  | 71 => ⟨S3538944, .f32⟩
  | 72 => ⟨S3538944x1, .f32⟩
  | 73 => ⟨S3538944, .f32⟩
  | 74 => ⟨S3538944, .f32⟩
  | 75 => ⟨S3538944, .f32⟩
  | 76 => ⟨S3538944, .f32⟩
  | 77 => ⟨S3538944, .f32⟩
  | 78 => ⟨S3538944x1, .f32⟩
  | 79 => ⟨S3538944, .f32⟩
  | 80 => ⟨S3538944, .f32⟩
  | 81 => ⟨S3538944, .f32⟩
  | 82 => ⟨S3538944, .f32⟩
  | 83 => ⟨S3538944, .f32⟩
  | 84 => ⟨S3538944x1, .f32⟩
  | 85 => ⟨S3538944, .f32⟩
  | 86 => ⟨S3538944, .f32⟩
  | 87 => ⟨S3538944, .f32⟩
  | 88 => ⟨S3538944, .f32⟩
  | 89 => ⟨S3538944, .f32⟩
  | 90 => ⟨S3538944x1, .f32⟩
  | 91 => ⟨S3538944, .f32⟩
  | 92 => ⟨S3538944, .f32⟩
  | 93 => ⟨S3538944, .f32⟩
  | 94 => ⟨S3538944, .f32⟩
  | 95 => ⟨S3538944, .f32⟩
  | 96 => ⟨S3538944x1, .f32⟩
  | 97 => ⟨S3538944x2, .f32⟩
  | 98 => ⟨S3538944x2, .f32⟩
  | 99 => ⟨S3538944x2, .f32⟩
  | 100 => ⟨S3538944x2, .f32⟩
  | 101 => ⟨S3538944x2, .f32⟩
  | 102 => ⟨S3538944x2, .f32⟩
  | 103 => ⟨S3538944x2, .f32⟩
  | 104 => ⟨S3538944x2, .f32⟩
  | 105 => ⟨S3538944x2, .f32⟩
  | 106 => ⟨S3538944x2, .f32⟩
  | 107 => ⟨S3538944x2, .f32⟩
  | 108 => ⟨S3538944x2, .f32⟩
  | 109 => ⟨S3538944x2, .f32⟩
  | 110 => ⟨S3538944x2, .f32⟩
  | 111 => ⟨S3538944x2, .f32⟩
  | 112 => ⟨S3538944x2, .f32⟩
  | 113 => ⟨S3538944x2, .f32⟩
  | 114 => ⟨S3538944x2, .f32⟩
  | 115 => ⟨S3538944x2, .f32⟩
  | 116 => ⟨S3538944x2, .f32⟩
  | 117 => ⟨S3538944x2, .f32⟩
  | 118 => ⟨S3538944x2, .f32⟩
  | 119 => ⟨S3538944x2, .f32⟩
  | 120 => ⟨S4x96x96x96x2, .f32⟩
  | _ => ⟨S4x96x96x96x2, .f32⟩

abbrev hbmTy (i : Nat) : BufTy := match i / 128 with
  | 0 => hbmTy0_0 i
  | 1 => hbmTy0_1 i
  | 2 => hbmTy0_2 i
  | 3 => hbmTy0_3 i
  | _ => ⟨S4x96x96x96x2, .f32⟩

abbrev bufTy : (tb : Table) → Fin (tcTables nBuf tb) → BufTy
  | .hbm, ⟨i, _⟩ => hbmTy i
  | _, _ => ⟨S4x96x96x96x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v1 : Ref sig .tc := ⟨.hbm, 47, rfl⟩
abbrev main_cst_3 : Ref sig .tc := ⟨.hbm, 48, rfl⟩
abbrev main_cst_4 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_cst : Ref sig .tc := ⟨.hbm, 53, rfl⟩
abbrev main_call2_v3 : Ref sig .tc := ⟨.hbm, 54, rfl⟩
abbrev main_call2_v4 : Ref sig .tc := ⟨.hbm, 55, rfl⟩
abbrev main_call2_cst_0 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_cst_1 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_v15 : Ref sig .tc := ⟨.hbm, 68, rfl⟩
abbrev main_call2_v16 : Ref sig .tc := ⟨.hbm, 69, rfl⟩
abbrev main_v2 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_v8 : Ref sig .tc := ⟨.hbm, 76, rfl⟩
abbrev main_cst_5 : Ref sig .tc := ⟨.hbm, 77, rfl⟩
abbrev main_v9 : Ref sig .tc := ⟨.hbm, 78, rfl⟩
abbrev main_v10 : Ref sig .tc := ⟨.hbm, 79, rfl⟩
abbrev main_v11 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_v15 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_v21 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_cst_6 : Ref sig .tc := ⟨.hbm, 94, rfl⟩
abbrev main_v25 : Ref sig .tc := ⟨.hbm, 95, rfl⟩
abbrev main_v26 : Ref sig .tc := ⟨.hbm, 96, rfl⟩
abbrev main_cst_7 : Ref sig .tc := ⟨.hbm, 97, rfl⟩
abbrev main_v27 : Ref sig .tc := ⟨.hbm, 98, rfl⟩
abbrev main_v28 : Ref sig .tc := ⟨.hbm, 99, rfl⟩
abbrev main_cst_8 : Ref sig .tc := ⟨.hbm, 100, rfl⟩
abbrev main_v29 : Ref sig .tc := ⟨.hbm, 101, rfl⟩
abbrev main_v30 : Ref sig .tc := ⟨.hbm, 102, rfl⟩
abbrev main_cst_9 : Ref sig .tc := ⟨.hbm, 103, rfl⟩
abbrev main_v31 : Ref sig .tc := ⟨.hbm, 104, rfl⟩
abbrev main_v32 : Ref sig .tc := ⟨.hbm, 105, rfl⟩
abbrev main_cst_10 : Ref sig .tc := ⟨.hbm, 106, rfl⟩
abbrev main_v33 : Ref sig .tc := ⟨.hbm, 107, rfl⟩
abbrev main_v34 : Ref sig .tc := ⟨.hbm, 108, rfl⟩
abbrev main_cst_11 : Ref sig .tc := ⟨.hbm, 109, rfl⟩
abbrev main_v35 : Ref sig .tc := ⟨.hbm, 110, rfl⟩
abbrev main_v36 : Ref sig .tc := ⟨.hbm, 111, rfl⟩
abbrev main_cst_12 : Ref sig .tc := ⟨.hbm, 112, rfl⟩
abbrev main_v37 : Ref sig .tc := ⟨.hbm, 113, rfl⟩
abbrev main_v38 : Ref sig .tc := ⟨.hbm, 114, rfl⟩
abbrev main_cst_13 : Ref sig .tc := ⟨.hbm, 115, rfl⟩
abbrev main_v39 : Ref sig .tc := ⟨.hbm, 116, rfl⟩
abbrev main_v40 : Ref sig .tc := ⟨.hbm, 117, rfl⟩
abbrev main_cst_14 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_c : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_c_15 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_c_16 : Ref sig .tc := ⟨.hbm, 133, rfl⟩
abbrev main_v53 : Ref sig .tc := ⟨.hbm, 134, rfl⟩
abbrev main_v54 : Ref sig .tc := ⟨.hbm, 135, rfl⟩
abbrev main_c_17 : Ref sig .tc := ⟨.hbm, 136, rfl⟩
abbrev main_c_18 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_v55 : Ref sig .tc := ⟨.hbm, 143, rfl⟩
abbrev main_c_19 : Ref sig .tc := ⟨.hbm, 144, rfl⟩
abbrev main_c_20 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v56 : Ref sig .tc := ⟨.hbm, 151, rfl⟩
abbrev main_c_21 : Ref sig .tc := ⟨.hbm, 152, rfl⟩
abbrev main_c_22 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_v57 : Ref sig .tc := ⟨.hbm, 159, rfl⟩
abbrev main_c_23 : Ref sig .tc := ⟨.hbm, 160, rfl⟩
abbrev main_c_24 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_v58 : Ref sig .tc := ⟨.hbm, 167, rfl⟩
abbrev main_c_25 : Ref sig .tc := ⟨.hbm, 168, rfl⟩
abbrev main_c_26 : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_v59 : Ref sig .tc := ⟨.hbm, 175, rfl⟩
abbrev main_c_27 : Ref sig .tc := ⟨.hbm, 176, rfl⟩
abbrev main_c_28 : Ref sig .tc := ⟨.hbm, 177, rfl⟩
abbrev main_call8_v0 : Ref sig .tc := ⟨.hbm, 178, rfl⟩
abbrev main_call8_v1 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_v60 : Ref sig .tc := ⟨.hbm, 183, rfl⟩
abbrev main_v61 : Ref sig .tc := ⟨.hbm, 184, rfl⟩
abbrev main_c_29 : Ref sig .tc := ⟨.hbm, 185, rfl⟩
abbrev main_v62 : Ref sig .tc := ⟨.hbm, 186, rfl⟩
abbrev main_v63 : Ref sig .tc := ⟨.hbm, 187, rfl⟩
abbrev main_v64 : Ref sig .tc := ⟨.hbm, 188, rfl⟩
abbrev main_v65 : Ref sig .tc := ⟨.hbm, 189, rfl⟩
abbrev main_c_30 : Ref sig .tc := ⟨.hbm, 190, rfl⟩
abbrev main_v66 : Ref sig .tc := ⟨.hbm, 191, rfl⟩
abbrev main_v67 : Ref sig .tc := ⟨.hbm, 192, rfl⟩
abbrev main_v68 : Ref sig .tc := ⟨.hbm, 193, rfl⟩
abbrev main_c_31 : Ref sig .tc := ⟨.hbm, 194, rfl⟩
abbrev main_v69 : Ref sig .tc := ⟨.hbm, 195, rfl⟩
abbrev main_v70 : Ref sig .tc := ⟨.hbm, 196, rfl⟩
abbrev main_c_32 : Ref sig .tc := ⟨.hbm, 197, rfl⟩
abbrev main_v71 : Ref sig .tc := ⟨.hbm, 198, rfl⟩
abbrev main_v72 : Ref sig .tc := ⟨.hbm, 199, rfl⟩
abbrev main_v73 : Ref sig .tc := ⟨.hbm, 200, rfl⟩
abbrev main_c_33 : Ref sig .tc := ⟨.hbm, 201, rfl⟩
abbrev main_v74 : Ref sig .tc := ⟨.hbm, 202, rfl⟩
abbrev main_v75 : Ref sig .tc := ⟨.hbm, 203, rfl⟩
abbrev main_v76 : Ref sig .tc := ⟨.hbm, 204, rfl⟩
abbrev main_c_34 : Ref sig .tc := ⟨.hbm, 205, rfl⟩
abbrev main_v77 : Ref sig .tc := ⟨.hbm, 206, rfl⟩
abbrev main_v78 : Ref sig .tc := ⟨.hbm, 207, rfl⟩
abbrev main_c_35 : Ref sig .tc := ⟨.hbm, 208, rfl⟩
abbrev main_v79 : Ref sig .tc := ⟨.hbm, 209, rfl⟩
abbrev main_v80 : Ref sig .tc := ⟨.hbm, 210, rfl⟩
abbrev main_v81 : Ref sig .tc := ⟨.hbm, 211, rfl⟩
abbrev main_c_36 : Ref sig .tc := ⟨.hbm, 212, rfl⟩
abbrev main_v82 : Ref sig .tc := ⟨.hbm, 213, rfl⟩
abbrev main_v83 : Ref sig .tc := ⟨.hbm, 214, rfl⟩
abbrev main_v84 : Ref sig .tc := ⟨.hbm, 215, rfl⟩
abbrev main_c_37 : Ref sig .tc := ⟨.hbm, 216, rfl⟩
abbrev main_v85 : Ref sig .tc := ⟨.hbm, 217, rfl⟩
abbrev main_v86 : Ref sig .tc := ⟨.hbm, 218, rfl⟩
abbrev main_c_38 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_c_39 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_c_40 : Ref sig .tc := ⟨.hbm, 227, rfl⟩
abbrev main_v93 : Ref sig .tc := ⟨.hbm, 228, rfl⟩
abbrev main_v94 : Ref sig .tc := ⟨.hbm, 229, rfl⟩
abbrev main_c_41 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_call9_c : Ref sig .tc := ⟨.hbm, 243, rfl⟩
abbrev main_call9_v0 : Ref sig .tc := ⟨.hbm, 244, rfl⟩
abbrev main_call9_v1 : Ref sig .tc := ⟨.hbm, 245, rfl⟩
abbrev main_call9_c_0 : Ref sig .tc := ⟨.hbm, 246, rfl⟩
abbrev main_call9_v2 : Ref sig .tc := ⟨.hbm, 247, rfl⟩
abbrev main_call9_v3 : Ref sig .tc := ⟨.hbm, 248, rfl⟩
abbrev main_call9_v4 : Ref sig .tc := ⟨.hbm, 249, rfl⟩
abbrev main_call9_v5 : Ref sig .tc := ⟨.hbm, 250, rfl⟩
abbrev main_call9_c_1 : Ref sig .tc := ⟨.hbm, 251, rfl⟩
abbrev main_call9_c_2 : Ref sig .tc := ⟨.hbm, 252, rfl⟩
abbrev main_call9_v6 : Ref sig .tc := ⟨.hbm, 253, rfl⟩
abbrev main_call9_v7 : Ref sig .tc := ⟨.hbm, 254, rfl⟩
abbrev main_call9_v8 : Ref sig .tc := ⟨.hbm, 255, rfl⟩
abbrev main_call9_v9 : Ref sig .tc := ⟨.hbm, 256, rfl⟩
abbrev main_call9_v10 : Ref sig .tc := ⟨.hbm, 257, rfl⟩
abbrev main_call9_v11 : Ref sig .tc := ⟨.hbm, 258, rfl⟩
abbrev main_call9_c_3 : Ref sig .tc := ⟨.hbm, 259, rfl⟩
abbrev main_call9_v12 : Ref sig .tc := ⟨.hbm, 260, rfl⟩
abbrev main_call9_v13 : Ref sig .tc := ⟨.hbm, 261, rfl⟩
abbrev main_call9_v14 : Ref sig .tc := ⟨.hbm, 262, rfl⟩
abbrev main_call9_cst : Ref sig .tc := ⟨.hbm, 263, rfl⟩
abbrev main_call9_v15 : Ref sig .tc := ⟨.hbm, 264, rfl⟩
abbrev main_v107 : Ref sig .tc := ⟨.hbm, 265, rfl⟩
abbrev main_call10_c : Ref sig .tc := ⟨.hbm, 266, rfl⟩
abbrev main_call10_v0 : Ref sig .tc := ⟨.hbm, 267, rfl⟩
abbrev main_call10_v1 : Ref sig .tc := ⟨.hbm, 268, rfl⟩
abbrev main_call10_c_0 : Ref sig .tc := ⟨.hbm, 269, rfl⟩
abbrev main_call10_v2 : Ref sig .tc := ⟨.hbm, 270, rfl⟩
abbrev main_call10_v3 : Ref sig .tc := ⟨.hbm, 271, rfl⟩
abbrev main_call10_v4 : Ref sig .tc := ⟨.hbm, 272, rfl⟩
abbrev main_call10_v5 : Ref sig .tc := ⟨.hbm, 273, rfl⟩
abbrev main_call10_c_1 : Ref sig .tc := ⟨.hbm, 274, rfl⟩
abbrev main_call10_c_2 : Ref sig .tc := ⟨.hbm, 275, rfl⟩
abbrev main_call10_v6 : Ref sig .tc := ⟨.hbm, 276, rfl⟩
abbrev main_call10_v7 : Ref sig .tc := ⟨.hbm, 277, rfl⟩
abbrev main_call10_v8 : Ref sig .tc := ⟨.hbm, 278, rfl⟩
abbrev main_call10_v9 : Ref sig .tc := ⟨.hbm, 279, rfl⟩
abbrev main_call10_v10 : Ref sig .tc := ⟨.hbm, 280, rfl⟩
abbrev main_call10_v11 : Ref sig .tc := ⟨.hbm, 281, rfl⟩
abbrev main_call10_c_3 : Ref sig .tc := ⟨.hbm, 282, rfl⟩
abbrev main_call10_v12 : Ref sig .tc := ⟨.hbm, 283, rfl⟩
abbrev main_call10_v13 : Ref sig .tc := ⟨.hbm, 284, rfl⟩
abbrev main_call10_v14 : Ref sig .tc := ⟨.hbm, 285, rfl⟩
abbrev main_call10_cst : Ref sig .tc := ⟨.hbm, 286, rfl⟩
abbrev main_call10_v15 : Ref sig .tc := ⟨.hbm, 287, rfl⟩
abbrev main_v108 : Ref sig .tc := ⟨.hbm, 288, rfl⟩
abbrev main_call11_c : Ref sig .tc := ⟨.hbm, 289, rfl⟩
abbrev main_call11_v0 : Ref sig .tc := ⟨.hbm, 290, rfl⟩
abbrev main_call11_v1 : Ref sig .tc := ⟨.hbm, 291, rfl⟩
abbrev main_call11_c_0 : Ref sig .tc := ⟨.hbm, 292, rfl⟩
abbrev main_call11_v2 : Ref sig .tc := ⟨.hbm, 293, rfl⟩
abbrev main_call11_v3 : Ref sig .tc := ⟨.hbm, 294, rfl⟩
abbrev main_call11_v4 : Ref sig .tc := ⟨.hbm, 295, rfl⟩
abbrev main_call11_v5 : Ref sig .tc := ⟨.hbm, 296, rfl⟩
abbrev main_call11_c_1 : Ref sig .tc := ⟨.hbm, 297, rfl⟩
abbrev main_call11_c_2 : Ref sig .tc := ⟨.hbm, 298, rfl⟩
abbrev main_call11_v6 : Ref sig .tc := ⟨.hbm, 299, rfl⟩
abbrev main_call11_v7 : Ref sig .tc := ⟨.hbm, 300, rfl⟩
abbrev main_call11_v8 : Ref sig .tc := ⟨.hbm, 301, rfl⟩
abbrev main_call11_v9 : Ref sig .tc := ⟨.hbm, 302, rfl⟩
abbrev main_call11_v10 : Ref sig .tc := ⟨.hbm, 303, rfl⟩
abbrev main_call11_v11 : Ref sig .tc := ⟨.hbm, 304, rfl⟩
abbrev main_call11_c_3 : Ref sig .tc := ⟨.hbm, 305, rfl⟩
abbrev main_call11_v12 : Ref sig .tc := ⟨.hbm, 306, rfl⟩
abbrev main_call11_v13 : Ref sig .tc := ⟨.hbm, 307, rfl⟩
abbrev main_call11_v14 : Ref sig .tc := ⟨.hbm, 308, rfl⟩
abbrev main_call11_cst : Ref sig .tc := ⟨.hbm, 309, rfl⟩
abbrev main_call11_v15 : Ref sig .tc := ⟨.hbm, 310, rfl⟩
abbrev main_v109 : Ref sig .tc := ⟨.hbm, 311, rfl⟩
abbrev main_call12_c : Ref sig .tc := ⟨.hbm, 312, rfl⟩
abbrev main_call12_v0 : Ref sig .tc := ⟨.hbm, 313, rfl⟩
abbrev main_call12_v1 : Ref sig .tc := ⟨.hbm, 314, rfl⟩
abbrev main_call12_c_0 : Ref sig .tc := ⟨.hbm, 315, rfl⟩
abbrev main_call12_v2 : Ref sig .tc := ⟨.hbm, 316, rfl⟩
abbrev main_call12_v3 : Ref sig .tc := ⟨.hbm, 317, rfl⟩
abbrev main_call12_v4 : Ref sig .tc := ⟨.hbm, 318, rfl⟩
abbrev main_call12_v5 : Ref sig .tc := ⟨.hbm, 319, rfl⟩
abbrev main_call12_c_1 : Ref sig .tc := ⟨.hbm, 320, rfl⟩
abbrev main_call12_c_2 : Ref sig .tc := ⟨.hbm, 321, rfl⟩
abbrev main_call12_v6 : Ref sig .tc := ⟨.hbm, 322, rfl⟩
abbrev main_call12_v7 : Ref sig .tc := ⟨.hbm, 323, rfl⟩
abbrev main_call12_v8 : Ref sig .tc := ⟨.hbm, 324, rfl⟩
abbrev main_call12_v9 : Ref sig .tc := ⟨.hbm, 325, rfl⟩
abbrev main_call12_v10 : Ref sig .tc := ⟨.hbm, 326, rfl⟩
abbrev main_call12_v11 : Ref sig .tc := ⟨.hbm, 327, rfl⟩
abbrev main_call12_c_3 : Ref sig .tc := ⟨.hbm, 328, rfl⟩
abbrev main_call12_v12 : Ref sig .tc := ⟨.hbm, 329, rfl⟩
abbrev main_call12_v13 : Ref sig .tc := ⟨.hbm, 330, rfl⟩
abbrev main_call12_v14 : Ref sig .tc := ⟨.hbm, 331, rfl⟩
abbrev main_call12_cst : Ref sig .tc := ⟨.hbm, 332, rfl⟩
abbrev main_call12_v15 : Ref sig .tc := ⟨.hbm, 333, rfl⟩
abbrev main_v110 : Ref sig .tc := ⟨.hbm, 334, rfl⟩
abbrev main_call13_c : Ref sig .tc := ⟨.hbm, 335, rfl⟩
abbrev main_call13_v0 : Ref sig .tc := ⟨.hbm, 336, rfl⟩
abbrev main_call13_v1 : Ref sig .tc := ⟨.hbm, 337, rfl⟩
abbrev main_call13_c_0 : Ref sig .tc := ⟨.hbm, 338, rfl⟩
abbrev main_call13_v2 : Ref sig .tc := ⟨.hbm, 339, rfl⟩
abbrev main_call13_v3 : Ref sig .tc := ⟨.hbm, 340, rfl⟩
abbrev main_call13_v4 : Ref sig .tc := ⟨.hbm, 341, rfl⟩
abbrev main_call13_v5 : Ref sig .tc := ⟨.hbm, 342, rfl⟩
abbrev main_call13_c_1 : Ref sig .tc := ⟨.hbm, 343, rfl⟩
abbrev main_call13_c_2 : Ref sig .tc := ⟨.hbm, 344, rfl⟩
abbrev main_call13_v6 : Ref sig .tc := ⟨.hbm, 345, rfl⟩
abbrev main_call13_v7 : Ref sig .tc := ⟨.hbm, 346, rfl⟩
abbrev main_call13_v8 : Ref sig .tc := ⟨.hbm, 347, rfl⟩
abbrev main_call13_v9 : Ref sig .tc := ⟨.hbm, 348, rfl⟩
abbrev main_call13_v10 : Ref sig .tc := ⟨.hbm, 349, rfl⟩
abbrev main_call13_v11 : Ref sig .tc := ⟨.hbm, 350, rfl⟩
abbrev main_call13_c_3 : Ref sig .tc := ⟨.hbm, 351, rfl⟩
abbrev main_call13_v12 : Ref sig .tc := ⟨.hbm, 352, rfl⟩
abbrev main_call13_v13 : Ref sig .tc := ⟨.hbm, 353, rfl⟩
abbrev main_call13_v14 : Ref sig .tc := ⟨.hbm, 354, rfl⟩
abbrev main_call13_cst : Ref sig .tc := ⟨.hbm, 355, rfl⟩
abbrev main_call13_v15 : Ref sig .tc := ⟨.hbm, 356, rfl⟩
abbrev main_v111 : Ref sig .tc := ⟨.hbm, 357, rfl⟩
abbrev main_call14_c : Ref sig .tc := ⟨.hbm, 358, rfl⟩
abbrev main_call14_v0 : Ref sig .tc := ⟨.hbm, 359, rfl⟩
abbrev main_call14_v1 : Ref sig .tc := ⟨.hbm, 360, rfl⟩
abbrev main_call14_c_0 : Ref sig .tc := ⟨.hbm, 361, rfl⟩
abbrev main_call14_v2 : Ref sig .tc := ⟨.hbm, 362, rfl⟩
abbrev main_call14_v3 : Ref sig .tc := ⟨.hbm, 363, rfl⟩
abbrev main_call14_v4 : Ref sig .tc := ⟨.hbm, 364, rfl⟩
abbrev main_call14_v5 : Ref sig .tc := ⟨.hbm, 365, rfl⟩
abbrev main_call14_c_1 : Ref sig .tc := ⟨.hbm, 366, rfl⟩
abbrev main_call14_c_2 : Ref sig .tc := ⟨.hbm, 367, rfl⟩
abbrev main_call14_v6 : Ref sig .tc := ⟨.hbm, 368, rfl⟩
abbrev main_call14_v7 : Ref sig .tc := ⟨.hbm, 369, rfl⟩
abbrev main_call14_v8 : Ref sig .tc := ⟨.hbm, 370, rfl⟩
abbrev main_call14_v9 : Ref sig .tc := ⟨.hbm, 371, rfl⟩
abbrev main_call14_v10 : Ref sig .tc := ⟨.hbm, 372, rfl⟩
abbrev main_call14_v11 : Ref sig .tc := ⟨.hbm, 373, rfl⟩
abbrev main_call14_c_3 : Ref sig .tc := ⟨.hbm, 374, rfl⟩
abbrev main_call14_v12 : Ref sig .tc := ⟨.hbm, 375, rfl⟩
abbrev main_call14_v13 : Ref sig .tc := ⟨.hbm, 376, rfl⟩
abbrev main_call14_v14 : Ref sig .tc := ⟨.hbm, 377, rfl⟩
abbrev main_call14_cst : Ref sig .tc := ⟨.hbm, 378, rfl⟩
abbrev main_call14_v15 : Ref sig .tc := ⟨.hbm, 379, rfl⟩
abbrev main_v112 : Ref sig .tc := ⟨.hbm, 380, rfl⟩
abbrev main_call15_c : Ref sig .tc := ⟨.hbm, 381, rfl⟩
abbrev main_call15_v0 : Ref sig .tc := ⟨.hbm, 382, rfl⟩
abbrev main_call15_v1 : Ref sig .tc := ⟨.hbm, 383, rfl⟩
abbrev main_call15_c_0 : Ref sig .tc := ⟨.hbm, 384, rfl⟩
abbrev main_call15_v2 : Ref sig .tc := ⟨.hbm, 385, rfl⟩
abbrev main_call15_v3 : Ref sig .tc := ⟨.hbm, 386, rfl⟩
abbrev main_call15_v4 : Ref sig .tc := ⟨.hbm, 387, rfl⟩
abbrev main_call15_v5 : Ref sig .tc := ⟨.hbm, 388, rfl⟩
abbrev main_call15_c_1 : Ref sig .tc := ⟨.hbm, 389, rfl⟩
abbrev main_call15_c_2 : Ref sig .tc := ⟨.hbm, 390, rfl⟩
abbrev main_call15_v6 : Ref sig .tc := ⟨.hbm, 391, rfl⟩
abbrev main_call15_v7 : Ref sig .tc := ⟨.hbm, 392, rfl⟩
abbrev main_call15_v8 : Ref sig .tc := ⟨.hbm, 393, rfl⟩
abbrev main_call15_v9 : Ref sig .tc := ⟨.hbm, 394, rfl⟩
abbrev main_call15_v10 : Ref sig .tc := ⟨.hbm, 395, rfl⟩
abbrev main_call15_v11 : Ref sig .tc := ⟨.hbm, 396, rfl⟩
abbrev main_call15_c_3 : Ref sig .tc := ⟨.hbm, 397, rfl⟩
abbrev main_call15_v12 : Ref sig .tc := ⟨.hbm, 398, rfl⟩
abbrev main_call15_v13 : Ref sig .tc := ⟨.hbm, 399, rfl⟩
abbrev main_call15_v14 : Ref sig .tc := ⟨.hbm, 400, rfl⟩
abbrev main_call15_cst : Ref sig .tc := ⟨.hbm, 401, rfl⟩
abbrev main_call15_v15 : Ref sig .tc := ⟨.hbm, 402, rfl⟩
abbrev main_v113 : Ref sig .tc := ⟨.hbm, 403, rfl⟩
abbrev main_call16_c : Ref sig .tc := ⟨.hbm, 404, rfl⟩
abbrev main_call16_v0 : Ref sig .tc := ⟨.hbm, 405, rfl⟩
abbrev main_call16_v1 : Ref sig .tc := ⟨.hbm, 406, rfl⟩
abbrev main_call16_c_0 : Ref sig .tc := ⟨.hbm, 407, rfl⟩
abbrev main_call16_v2 : Ref sig .tc := ⟨.hbm, 408, rfl⟩
abbrev main_call16_v3 : Ref sig .tc := ⟨.hbm, 409, rfl⟩
abbrev main_call16_v4 : Ref sig .tc := ⟨.hbm, 410, rfl⟩
abbrev main_call16_v5 : Ref sig .tc := ⟨.hbm, 411, rfl⟩
abbrev main_call16_c_1 : Ref sig .tc := ⟨.hbm, 412, rfl⟩
abbrev main_call16_c_2 : Ref sig .tc := ⟨.hbm, 413, rfl⟩
abbrev main_call16_v6 : Ref sig .tc := ⟨.hbm, 414, rfl⟩
abbrev main_call16_v7 : Ref sig .tc := ⟨.hbm, 415, rfl⟩
abbrev main_call16_v8 : Ref sig .tc := ⟨.hbm, 416, rfl⟩
abbrev main_call16_v9 : Ref sig .tc := ⟨.hbm, 417, rfl⟩
abbrev main_call16_v10 : Ref sig .tc := ⟨.hbm, 418, rfl⟩
abbrev main_call16_v11 : Ref sig .tc := ⟨.hbm, 419, rfl⟩
abbrev main_call16_c_3 : Ref sig .tc := ⟨.hbm, 420, rfl⟩
abbrev main_call16_v12 : Ref sig .tc := ⟨.hbm, 421, rfl⟩
abbrev main_call16_v13 : Ref sig .tc := ⟨.hbm, 422, rfl⟩
abbrev main_call16_v14 : Ref sig .tc := ⟨.hbm, 423, rfl⟩
abbrev main_call16_cst : Ref sig .tc := ⟨.hbm, 424, rfl⟩
abbrev main_call16_v15 : Ref sig .tc := ⟨.hbm, 425, rfl⟩
abbrev main_v114 : Ref sig .tc := ⟨.hbm, 426, rfl⟩
abbrev main_v115 : Ref sig .tc := ⟨.hbm, 427, rfl⟩
abbrev main_v116 : Ref sig .tc := ⟨.hbm, 428, rfl⟩
abbrev main_v117 : Ref sig .tc := ⟨.hbm, 429, rfl⟩
abbrev main_v118 : Ref sig .tc := ⟨.hbm, 430, rfl⟩
abbrev main_v119 : Ref sig .tc := ⟨.hbm, 431, rfl⟩
abbrev main_v120 : Ref sig .tc := ⟨.hbm, 432, rfl⟩
abbrev main_v121 : Ref sig .tc := ⟨.hbm, 433, rfl⟩
abbrev main_v122 : Ref sig .tc := ⟨.hbm, 434, rfl⟩
abbrev main_v123 : Ref sig .tc := ⟨.hbm, 435, rfl⟩
abbrev main_v124 : Ref sig .tc := ⟨.hbm, 436, rfl⟩
abbrev main_v125 : Ref sig .tc := ⟨.hbm, 437, rfl⟩
abbrev main_v126 : Ref sig .tc := ⟨.hbm, 438, rfl⟩
abbrev main_v127 : Ref sig .tc := ⟨.hbm, 439, rfl⟩
abbrev main_v128 : Ref sig .tc := ⟨.hbm, 440, rfl⟩
abbrev main_v129 : Ref sig .tc := ⟨.hbm, 441, rfl⟩
abbrev main_v130 : Ref sig .tc := ⟨.hbm, 442, rfl⟩
abbrev main_v131 : Ref sig .tc := ⟨.hbm, 443, rfl⟩
abbrev main_v132 : Ref sig .tc := ⟨.hbm, 444, rfl⟩
abbrev main_v133 : Ref sig .tc := ⟨.hbm, 445, rfl⟩
abbrev main_v134 : Ref sig .tc := ⟨.hbm, 446, rfl⟩
abbrev main_v135 : Ref sig .tc := ⟨.hbm, 447, rfl⟩
abbrev main_v136 : Ref sig .tc := ⟨.hbm, 448, rfl⟩
abbrev main_v137 : Ref sig .tc := ⟨.hbm, 449, rfl⟩
abbrev main_v138 : Ref sig .tc := ⟨.hbm, 450, rfl⟩
abbrev main_v139 : Ref sig .tc := ⟨.hbm, 451, rfl⟩
abbrev main_v140 : Ref sig .tc := ⟨.hbm, 452, rfl⟩
abbrev main_v141 : Ref sig .tc := ⟨.hbm, 453, rfl⟩
abbrev main_v142 : Ref sig .tc := ⟨.hbm, 454, rfl⟩
abbrev main_v143 : Ref sig .tc := ⟨.hbm, 455, rfl⟩
abbrev main_v144 : Ref sig .tc := ⟨.hbm, 456, rfl⟩
abbrev main_v145 : Ref sig .tc := ⟨.hbm, 457, rfl⟩
abbrev main_v146 : Ref sig .tc := ⟨.hbm, 458, rfl⟩
abbrev main_v147 : Ref sig .tc := ⟨.hbm, 459, rfl⟩
abbrev main_v148 : Ref sig .tc := ⟨.hbm, 460, rfl⟩
abbrev main_v149 : Ref sig .tc := ⟨.hbm, 461, rfl⟩
abbrev main_v150 : Ref sig .tc := ⟨.hbm, 462, rfl⟩
abbrev main_v151 : Ref sig .tc := ⟨.hbm, 463, rfl⟩
abbrev main_v152 : Ref sig .tc := ⟨.hbm, 464, rfl⟩
abbrev main_v153 : Ref sig .tc := ⟨.hbm, 465, rfl⟩
abbrev main_v154 : Ref sig .tc := ⟨.hbm, 466, rfl⟩
abbrev main_v155 : Ref sig .tc := ⟨.hbm, 467, rfl⟩
abbrev main_v156 : Ref sig .tc := ⟨.hbm, 468, rfl⟩
abbrev main_v157 : Ref sig .tc := ⟨.hbm, 469, rfl⟩
abbrev main_v158 : Ref sig .tc := ⟨.hbm, 470, rfl⟩
abbrev main_v159 : Ref sig .tc := ⟨.hbm, 471, rfl⟩
abbrev main_v160 : Ref sig .tc := ⟨.hbm, 472, rfl⟩
abbrev main_v161 : Ref sig .tc := ⟨.hbm, 473, rfl⟩
abbrev main_v162 : Ref sig .tc := ⟨.hbm, 474, rfl⟩
abbrev main_v163 : Ref sig .tc := ⟨.hbm, 475, rfl⟩
abbrev main_v164 : Ref sig .tc := ⟨.hbm, 476, rfl⟩
abbrev main_v165 : Ref sig .tc := ⟨.hbm, 477, rfl⟩
abbrev main_v166 : Ref sig .tc := ⟨.hbm, 478, rfl⟩
abbrev main_v167 : Ref sig .tc := ⟨.hbm, 479, rfl⟩
abbrev main_v168 : Ref sig .tc := ⟨.hbm, 480, rfl⟩
abbrev main_v169 : Ref sig .tc := ⟨.hbm, 481, rfl⟩
abbrev main_v170 : Ref sig .tc := ⟨.hbm, 482, rfl⟩
abbrev main_v171 : Ref sig .tc := ⟨.hbm, 483, rfl⟩
abbrev main_v172 : Ref sig .tc := ⟨.hbm, 484, rfl⟩
abbrev main_v173 : Ref sig .tc := ⟨.hbm, 485, rfl⟩
abbrev main_v174 : Ref sig .tc := ⟨.hbm, 486, rfl⟩
abbrev main_v175 : Ref sig .tc := ⟨.hbm, 487, rfl⟩
abbrev main_v176 : Ref sig .tc := ⟨.hbm, 488, rfl⟩
abbrev main_v177 : Ref sig .tc := ⟨.hbm, 489, rfl⟩
abbrev main_v178 : Ref sig .tc := ⟨.hbm, 490, rfl⟩
abbrev main_v179 : Ref sig .tc := ⟨.hbm, 491, rfl⟩
abbrev main_v180 : Ref sig .tc := ⟨.hbm, 492, rfl⟩
abbrev main_v181 : Ref sig .tc := ⟨.hbm, 493, rfl⟩
abbrev main_v182 : Ref sig .tc := ⟨.hbm, 494, rfl⟩
abbrev main_v183 : Ref sig .tc := ⟨.hbm, 495, rfl⟩
abbrev main_v184 : Ref sig .tc := ⟨.hbm, 496, rfl⟩
abbrev main_v185 : Ref sig .tc := ⟨.hbm, 497, rfl⟩
abbrev main_v186 : Ref sig .tc := ⟨.hbm, 498, rfl⟩
abbrev main_v187 : Ref sig .tc := ⟨.hbm, 499, rfl⟩
abbrev main_v188 : Ref sig .tc := ⟨.hbm, 500, rfl⟩
abbrev main_v189 : Ref sig .tc := ⟨.hbm, 501, rfl⟩
abbrev main_v190 : Ref sig .tc := ⟨.hbm, 502, rfl⟩
abbrev main_v191 : Ref sig .tc := ⟨.hbm, 503, rfl⟩
abbrev main_v192 : Ref sig .tc := ⟨.hbm, 504, rfl⟩

abbrev nD : Nat := 1
abbrev τ : Topo := Topo.v7x

variable {F : FTy → Type} [FloatOps F]
-- ==== Proof.Body.lean ====
/-
  The sampling task, rewritten: the printed body of the SparseCore task as loops over a few named pieces — the copy of
  one band row block, the three products one sixteen-lane group of the row table is made of, and the one sampling step
  every sixteen output columns repeat — with the arithmetic of a step named lane vector by lane vector. The printed
  body is this one, by definitional unfolding (`body_eq`).
-/
module

public import proofs.«01_k».proof.Defs
public import proofs.«01_k».proof.Proof.Gen.KernelIdeal
public import Idealize.ShloMosaic.Lib.SparseCore.Ops

@[expose] public section

noncomputable section

namespace Cert.KernelIdeal.Stn

open Cert.KernelIdeal Cert.KernelIdeal.Gen
open Idealize.ShloMosaic Idealize.SL.Sem

variable {F : FTy → Type} [FloatOps F]

/-! ## The arithmetic of one step, on sixteen lanes -/

/-- The normalised coordinate of sixteen points along one axis, from its four summands; and the pixel coordinate. -/
def sumV (jb sa sk s3 : FVec F S16 .f32) : FVec F S16 .f32 := addf (addf (addf jb sa) sk) s3

def pixV (n : FVec F S16 .f32) : FVec F S16 .f32 :=
  mulf (mulf (addf n (broadcast S16 (Scalar.ofBits .f32 0x3F800000#32))) (broadcast S16 (Scalar.ofBits .f32 0x3F000000#32)))
    (broadcast S16 (Scalar.ofBits .f32 0x42C00000#32))

/-- The floor of a coordinate: its truncation, one less where the truncation is above it. -/
def floV (p : FVec F S16 .f32) : IVec S16 32 :=
  subi (fptosi 32 p) (extui 32 (cmpf .ogt (sitofp .f32 (fptosi 32 p)) p) natLt_1_32)

def clipV (v : IVec S16 32) : IVec S16 32 := minsi (maxsi v (broadcast S16 0#32)) (broadcast S16 95#32)

/-- The lower and the upper grid line beside a coordinate, each clipped to the image. -/
def loV (p : FVec F S16 .f32) : IVec S16 32 := clipV (floV p)
def hiV (p : FVec F S16 .f32) : IVec S16 32 := clipV (addi (floV p) (broadcast S16 1#32))

/-- Twice-truncated distances to the lower and the upper grid line. -/
def belowV (p : FVec F S16 .f32) : FVec F S16 .f32 := subf p (sitofp .f32 (loV p))
def aboveV (p : FVec F S16 .f32) : FVec F S16 .f32 := subf (sitofp .f32 (hiV p)) p
/-- The distance of the two grid lines. -/
def gapV (p : FVec F S16 .f32) : FVec F S16 .f32 := sitofp .f32 (subi (hiV p) (loV p))

/-- The band row of a grid line pair: twenty rows a slab. -/
def rowV (z y zb yb : IVec S16 32) : IVec S16 32 := addi (muli (subi z zb) (broadcast S16 20#32)) (subi y yb)

/-- The eight weighted corners, summed in the task's order. -/
def blendV (xp yp zp A B C D E G H I : FVec F S16 .f32) : FVec F S16 .f32 :=
  addf (addf (addf (addf (addf (addf (addf
    (mulf (mulf (aboveV xp) (mulf (aboveV yp) (aboveV zp))) A)
    (mulf (mulf (aboveV xp) (mulf (belowV yp) (aboveV zp))) B))
    (mulf (mulf (belowV xp) (mulf (aboveV yp) (aboveV zp))) C))
    (mulf (mulf (belowV xp) (mulf (belowV yp) (aboveV zp))) D))
    (mulf (mulf (aboveV xp) (mulf (aboveV yp) (gapV zp))) E))
    (mulf (mulf (aboveV xp) (mulf (belowV yp) (gapV zp))) G))
    (mulf (mulf (belowV xp) (mulf (aboveV yp) (gapV zp))) H))
    (mulf (mulf (belowV xp) (mulf (belowV yp) (gapV zp))) I)

/-! ## The memory the task names -/

abbrev aX : Memref sig .scVector .hbm S4x96x96x2x96 .f32 := Memref.whole main_v211_scv
abbrev aC : Memref sig .scVector .hbm S4x16 .f32 := Memref.whole main_v4_scv
abbrev aP : Memref sig .scVector .hbm S32x9x16 .i32 := Memref.whole main_v210_scv
abbrev aL : Memref sig .scVector .hbm S112 .f32 := Memref.whole main_v9_scv
abbrev aO : Memref sig .scVector .hbm S36864x2x96 .f32 := Memref.whole main_v212_scv
abbrev sP : Memref sig .scVector .vmem S9x16 .i32 := Memref.whole cc0_scratch0
abbrev sC : Memref sig .scVector .vmem S16 .f32 := Memref.whole cc0_scratch1
abbrev sJ : Memref sig .scVector .vmem S18x16 .f32 := Memref.whole cc0_scratch2
abbrev sL : Memref sig .scVector .vmem S112 .f32 := Memref.whole cc0_scratch3
abbrev sB : Memref sig .scVector .vmem S560x2x96 .f32 := Memref.whole cc0_scratch4
abbrev sO : Memref sig .scVector .vmem S96x2x16 .f32 := Memref.whole cc0_scratch5

/-- The programs of one task. -/
abbrev TProg (i : grid0.Coords) (α : Type) : Type _ :=
  Prog (TpuEff nD τ sig (Elt F) Λ₀ (.scVector ((i 0).castLE hcore0) ((i 1).castLE hsub0))) α

variable (i : grid0.Coords)

/-! ## One sampling step -/

theorem jrow_inb (n : Fin 18) : ∀ a, (![n.val, 0] : Fin 2 → Nat) a + S1x16.size a ≤ S18x16.size a := by
  intro a; fin_cases a <;> simp [S1x16, S18x16] <;> omega

/-- Row `n` of the row table. -/
abbrev jrow (n : Fin 18) : Rect S18x16 := Rect.unit (s := S18x16) ![n.val, 0] S1x16.size (jrow_inb n)

/-- The gathers at one band row stay inside the band, at both channels and both grid lines along the third axis: the
    condition the step checks at each of its four rows. -/
abbrev bandOk (c0 c1 x0 x1 r : IVec S16 32) : Prop := k0_chk5 c0 c1 x0 x1 r

abbrev c0V : IVec S16 32 := broadcast S16 0#32
abbrev c1V : IVec S16 32 := broadcast S16 1#32

/-- The second half of a step, from the three pixel coordinates: the checks, the gathers of both channels, the two
    stores; then on. -/
def stepRest (jv kv : IVec S16 32) (xp yp zp : FVec F S16 .f32) (zb yb : IVec S16 32)
    (h0 : ∀ a x, ((![jv, c0V, kv] : Fin 3 → IVec S16 32) a x).toNat < S96x2x16.size a)
    (h1 : ∀ a x, ((![jv, c1V, kv] : Fin 3 → IVec S16 32) a x).toNat < S96x2x16.size a) (K : TProg (F := F) i PUnit) : TProg (F := F) i PUnit := do
  have ha : bandOk c0V c1V (loV xp) (hiV xp) (rowV (loV zp) (loV yp) zb yb) := (← Prog.lift (TpuEff.assume (bandOk c0V c1V (loV xp) (hiV xp) (rowV (loV zp) (loV yp) zb yb)) (k0_chk5.dec _ _ _ _ _))).down
  have hb : bandOk c0V c1V (loV xp) (hiV xp) (rowV (loV zp) (hiV yp) zb yb) := (← Prog.lift (TpuEff.assume (bandOk c0V c1V (loV xp) (hiV xp) (rowV (loV zp) (hiV yp) zb yb)) (k0_chk5.dec _ _ _ _ _))).down
  have he : bandOk c0V c1V (loV xp) (hiV xp) (rowV (hiV zp) (loV yp) zb yb) := (← Prog.lift (TpuEff.assume (bandOk c0V c1V (loV xp) (hiV xp) (rowV (hiV zp) (loV yp) zb yb)) (k0_chk5.dec _ _ _ _ _))).down
  have hf : bandOk c0V c1V (loV xp) (hiV xp) (rowV (hiV zp) (hiV yp) zb yb) := (← Prog.lift (TpuEff.assume (bandOk c0V c1V (loV xp) (hiV xp) (rowV (hiV zp) (hiV yp) zb yb)) (k0_chk5.dec _ _ _ _ _))).down
  let A0 : Vec F S16 .f32 ← SparseCore.vectorLoadIdx sB ![rowV (loV zp) (loV yp) zb yb, c0V, loV xp] ha.1 (View.loads_vmem h_S560x2x96)
  let B0 : Vec F S16 .f32 ← SparseCore.vectorLoadIdx sB ![rowV (loV zp) (hiV yp) zb yb, c0V, loV xp] hb.1 (View.loads_vmem h_S560x2x96)
  let C0 : Vec F S16 .f32 ← SparseCore.vectorLoadIdx sB ![rowV (loV zp) (loV yp) zb yb, c0V, hiV xp] ha.2.1 (View.loads_vmem h_S560x2x96)
  let D0 : Vec F S16 .f32 ← SparseCore.vectorLoadIdx sB ![rowV (loV zp) (hiV yp) zb yb, c0V, hiV xp] hb.2.1 (View.loads_vmem h_S560x2x96)
  let E0 : Vec F S16 .f32 ← SparseCore.vectorLoadIdx sB ![rowV (hiV zp) (loV yp) zb yb, c0V, loV xp] he.1 (View.loads_vmem h_S560x2x96)
  let G0 : Vec F S16 .f32 ← SparseCore.vectorLoadIdx sB ![rowV (hiV zp) (hiV yp) zb yb, c0V, loV xp] hf.1 (View.loads_vmem h_S560x2x96)
  let H0 : Vec F S16 .f32 ← SparseCore.vectorLoadIdx sB ![rowV (hiV zp) (loV yp) zb yb, c0V, hiV xp] he.2.1 (View.loads_vmem h_S560x2x96)
  let I0 : Vec F S16 .f32 ← SparseCore.vectorLoadIdx sB ![rowV (hiV zp) (hiV yp) zb yb, c0V, hiV xp] hf.2.1 (View.loads_vmem h_S560x2x96)
  let A1 : Vec F S16 .f32 ← SparseCore.vectorLoadIdx sB ![rowV (loV zp) (loV yp) zb yb, c1V, loV xp] ha.2.2.1 (View.loads_vmem h_S560x2x96)
  let B1 : Vec F S16 .f32 ← SparseCore.vectorLoadIdx sB ![rowV (loV zp) (hiV yp) zb yb, c1V, loV xp] hb.2.2.1 (View.loads_vmem h_S560x2x96)
  let C1 : Vec F S16 .f32 ← SparseCore.vectorLoadIdx sB ![rowV (loV zp) (loV yp) zb yb, c1V, hiV xp] ha.2.2.2 (View.loads_vmem h_S560x2x96)
  let D1 : Vec F S16 .f32 ← SparseCore.vectorLoadIdx sB ![rowV (loV zp) (hiV yp) zb yb, c1V, hiV xp] hb.2.2.2 (View.loads_vmem h_S560x2x96)
  let E1 : Vec F S16 .f32 ← SparseCore.vectorLoadIdx sB ![rowV (hiV zp) (loV yp) zb yb, c1V, loV xp] he.2.2.1 (View.loads_vmem h_S560x2x96)
  let G1 : Vec F S16 .f32 ← SparseCore.vectorLoadIdx sB ![rowV (hiV zp) (hiV yp) zb yb, c1V, loV xp] hf.2.2.1 (View.loads_vmem h_S560x2x96)
  let H1 : Vec F S16 .f32 ← SparseCore.vectorLoadIdx sB ![rowV (hiV zp) (loV yp) zb yb, c1V, hiV xp] he.2.2.2 (View.loads_vmem h_S560x2x96)
  let I1 : Vec F S16 .f32 ← SparseCore.vectorLoadIdx sB ![rowV (hiV zp) (hiV yp) zb yb, c1V, hiV xp] hf.2.2.2 (View.loads_vmem h_S560x2x96)
  SparseCore.vectorStoreIdx sO ![jv, c0V, kv] (blendV xp yp zp A0 B0 C0 D0 E0 G0 H0 I0) (fun _ => 1#1) false h0 (View.stores_vmem_bits_univ h_S96x2x16 rfl)
  SparseCore.vectorStoreIdx sO ![jv, c1V, kv] (blendV xp yp zp A1 B1 C1 D1 E1 G1 H1 I1) (fun _ => 1#1) false h1 (View.stores_vmem_bits_univ h_S96x2x16 rfl)
  K

/-- Load a row of the row table, then go on. -/
def loadRow (n : Fin 18) (K : FVec F S16 .f32 → TProg (F := F) i PUnit) : TProg (F := F) i PUnit := do
  let jx : Vec F S1x16 .f32 ← Prog.lift (.load sJ (jrow n).toLoadRect (View.loadsAt_vmem h_S1x16))
  K (shapeCast S16 jx shapeCasts_S1x16_S16)

/-- One step: sixteen consecutive output columns of one output row of the block, both channels; then on. -/
def stepJ (n0 n1 n2 : Fin 18) (jv kv : IVec S16 32) (sax say saz skx sky skz s3x s3y s3z : FVec F S16 .f32) (zb yb : IVec S16 32)
    (h0 : ∀ a x, ((![jv, c0V, kv] : Fin 3 → IVec S16 32) a x).toNat < S96x2x16.size a)
    (h1 : ∀ a x, ((![jv, c1V, kv] : Fin 3 → IVec S16 32) a x).toNat < S96x2x16.size a) (K : TProg (F := F) i PUnit) : TProg (F := F) i PUnit :=
  loadRow i n0 fun jx => loadRow i n1 fun jy => loadRow i n2 fun jz =>
    stepRest i jv kv (pixV (sumV jx sax skx s3x)) (pixV (sumV jy say sky s3y)) (pixV (sumV jz saz skz s3z)) zb yb h0 h1 K

/-- The lane numbers of column group `q`. -/
def jvV (q : BitVec 32) : IVec S16 32 := addi (iota .scVector S16 32 [0] iota_S16_d0_w32_scVector) (broadcast S16 q)

/-- The scalar in lane 0 of a lane vector. -/
def lane0 (v : FVec F S16 .f32) : F .f32 := extractAt ![0] (extractStridedSlice S1 ![0] v slices_S16_o0_S1) inpos_S1_p0

/-- All ninety-six output columns of one output row and one third coordinate of the block: six steps. -/
def body3 (v25 : BitVec 32) (hw1 : k0_chk1 v25) (sax say saz : FVec F S16 .f32) (tx ty tz : F .f32)
    (s3x s3y s3z : FVec F S16 .f32) (zb yb : IVec S16 32) (t3 : Fin k0_t3_loop.trips) : TProg (F := F) i PUnit := do
  let lv : Vec F S16 .f32 ← Prog.lift (.load sL (Rect.unit (s := S112) (k0_off6 v25 t3) S16.size (k0_off6_inb v25 hw1 t3)).toLoadRect (View.loadsAt_vmem h_S16))
  let kv : IVec S16 32 := broadcast S16 (Scf.iv 0#32 1#32 t3)
  have h : k0_chk9 c0V c1V (jvV 0#32) (jvV 16#32) (jvV 32#32) (jvV 48#32) (jvV 64#32) (jvV 80#32) kv := (← Prog.lift (TpuEff.assume (k0_chk9 c0V c1V (jvV 0#32) (jvV 16#32) (jvV 32#32) (jvV 48#32) (jvV 64#32) (jvV 80#32) kv) (k0_chk9.dec _ _ _ _ _ _ _ _ _))).down
  let skx : FVec F S16 .f32 := broadcast S16 (Scalar.mulf tx (lane0 lv))
  let sky : FVec F S16 .f32 := broadcast S16 (Scalar.mulf ty (lane0 lv))
  let skz : FVec F S16 .f32 := broadcast S16 (Scalar.mulf tz (lane0 lv))
  stepJ i 0 1 2 (jvV 0#32) kv sax say saz skx sky skz s3x s3y s3z zb yb h.1 h.2.1 <|
  stepJ i 3 4 5 (jvV 16#32) kv sax say saz skx sky skz s3x s3y s3z zb yb h.2.2.1 h.2.2.2.1 <|
  stepJ i 6 7 8 (jvV 32#32) kv sax say saz skx sky skz s3x s3y s3z zb yb h.2.2.2.2.1 h.2.2.2.2.2.1 <|
  stepJ i 9 10 11 (jvV 48#32) kv sax say saz skx sky skz s3x s3y s3z zb yb h.2.2.2.2.2.2.1 h.2.2.2.2.2.2.2.1 <|
  stepJ i 12 13 14 (jvV 64#32) kv sax say saz skx sky skz s3x s3y s3z zb yb h.2.2.2.2.2.2.2.2.1 h.2.2.2.2.2.2.2.2.2.1 <|
  stepJ i 15 16 17 (jvV 80#32) kv sax say saz skx sky skz s3x s3y s3z zb yb h.2.2.2.2.2.2.2.2.2.2.1 h.2.2.2.2.2.2.2.2.2.2.2 <|
  pure ⟨⟩

/-! ## One output row: the loop over the third coordinate and the write-out -/

/-- The block of the result one output row of the block fills. -/
abbrev oRow (v25 v32 : BitVec 32) (hw30 : k0_chk30 v25 v32) (t2 : Fin k0_t2_loop.trips) : Memref sig .scVector .hbm S96x2x16 .f32 :=
  aO.slice (Rect.unit (s := S36864x2x96) (k0_off7 v25 v32 t2) S96x2x16.size (k0_off7_inb v25 v32 hw30 t2)) (fun _ => rfl)

def body2 (v23 v25 v32 : BitVec 32) (hw4 : k0_chk4 v23) (hw1 : k0_chk1 v25) (hw30 : k0_chk30 v25 v32) (ux uy uz tx ty tz : F .f32)
    (s3x s3y s3z : FVec F S16 .f32) (zb yb : IVec S16 32) (t2 : Fin k0_t2_loop.trips) : TProg (F := F) i PUnit := do
  let la : Vec F S16 .f32 ← Prog.lift (.load sL (Rect.unit (s := S112) (k0_off5 v23 t2) S16.size (k0_off5_inb v23 hw4 t2)).toLoadRect (View.loadsAt_vmem h_S16))
  Scf.Loop.for k0_t3_loop k0_t3_ok ⟨⟩ fun t3 _ =>
    body3 i v25 hw1 (broadcast S16 (Scalar.mulf ux (lane0 la))) (broadcast S16 (Scalar.mulf uy (lane0 la))) (broadcast S16 (Scalar.mulf uz (lane0 la)))
      tx ty tz s3x s3y s3z zb yb t3
  Prog.lift (.enqueueDma sO (.here (oRow v25 v32 hw30 t2)) (.dma cc0_scoped3.sem) (Memref.isWhole_whole _).wordExact (View.wordExact_bits rfl) ⟨Or.inl rfl, trivial⟩)
  Prog.lift (.waitDma2 cc0_scoped3.sem sO (oRow v25 v32 hw30 t2) (Memref.isWhole_whole _).wordExact (View.wordExact_bits rfl))

/-! ## The band -/

theorem brow_inb (r : Fin 28) : ∀ a, (![20 * r.val, 0, 0] : Fin 3 → Nat) a + S20x2x96.size a ≤ S560x2x96.size a := by
  intro a; fin_cases a <;> simp [S20x2x96, S560x2x96] <;> omega

/-- Slab `r` of the band, and the slab of the image it is copied from. -/
abbrev bDst (r : Fin 28) : Memref sig .scVector .vmem S20x2x96 .f32 :=
  sB.slice (Rect.unit (s := S560x2x96) ![20 * r.val, 0, 0] S20x2x96.size (brow_inb r)) (fun _ => rfl)
abbrev bSrc (v21 v28 v30 : BitVec 32) (hw3 : k0_chk3 v21 v28 v30) (r : Fin 28) : Memref sig .scVector .hbm S20x2x96 .f32 :=
  (aX.slice (Rect.unit (s := S4x96x96x2x96) (k0_off4 v21 v28 v30 (BitVec.ofNat 32 r.val)) S1x1x20x2x96.size (k0_off4_inb v21 v28 v30 hw3 r))
    (fun _ => rfl)).squeeze S20x2x96 squeezes_S1x1x20x2x96_S20x2x96

/-- Issue the copies of the listed slabs, then go on. -/
def issue (v21 v28 v30 : BitVec 32) (hw3 : k0_chk3 v21 v28 v30) : List (Fin 28) → TProg (F := F) i PUnit → TProg (F := F) i PUnit
  | [], k => k
  | r :: rs, k => .op (.enqueueDma (bSrc v21 v28 v30 hw3 r) (.here (bDst r)) (.dma cc0_scratch6.sem) ((View.wordExact_bits rfl).reshape _ _) (View.wordExact_bits rfl) ⟨Or.inl rfl, trivial⟩)
      fun _ => issue v21 v28 v30 hw3 rs k

/-- Wait for the copies of the listed slabs, then go on. -/
def await (v21 v28 v30 : BitVec 32) (hw3 : k0_chk3 v21 v28 v30) : List (Fin 28) → TProg (F := F) i PUnit → TProg (F := F) i PUnit
  | [], k => k
  | r :: rs, k => .op (.waitDma2 cc0_scratch6.sem (bSrc v21 v28 v30 hw3 r) (bDst r) ((View.wordExact_bits rfl).reshape _ _) (View.wordExact_bits rfl))
      fun _ => await v21 v28 v30 hw3 rs k

abbrev slabs : List (Fin 28) := [0, 1, 2, 3, 4, 5, 6, 7, 8, 9, 10, 11, 12, 13, 14, 15, 16, 17, 18, 19, 20, 21, 22, 23, 24, 25, 26, 27]

/-! ## The row table -/

theorem lgrp_inb (q : Fin 6) : ∀ a, (![16 * q.val] : Fin 1 → Nat) a + S16.size a ≤ S112.size a := by
  intro a; fin_cases a; simp [S16, S112]; omega

/-- Store into row `n` of the row table the lattice's column group times one coefficient. -/
def putRow (n : Fin 18) (lv : FVec F S16 .f32) (t : F .f32) : TProg (F := F) i PUnit := do
  let _ ← Prog.lift (.load sJ (jrow n).toLoadRect (View.loadsAt_vmem h_S1x16))
  Prog.lift (.store sJ (jrow n) (shapeCast S1x16 (mulf lv (broadcast S16 t)) shapeCasts_S16_S1x16) Finset.univ (View.stores_vmem_bits_univ h_S1x16 rfl) (.inl rfl))

/-- The three rows of column group `q`. -/
def putGrp (q : Fin 6) (n0 n1 n2 : Fin 18) (tx ty tz : F .f32) : TProg (F := F) i PUnit := do
  let lv : Vec F S16 .f32 ← Prog.lift (.load sL (Rect.unit (s := S112) ![16 * q.val] S16.size (lgrp_inb q)).toLoadRect (View.loadsAt_vmem h_S16))
  putRow i n0 lv tx
  putRow i n1 lv ty
  putRow i n2 lv tz

/-! ## One item -/

theorem laneSl (n : Fin 16) : S16.Slices ![n.val] S1 := by
  have h : ∀ n : Fin 16, S16.Slices ![n.val] S1 := by decide
  exact h n

/-- The scalar in lane `n` of a lane vector. -/
def lane (n : Fin 16) (v : FVec F S16 .f32) : F .f32 := extractAt ![0] (extractStridedSlice S1 ![n.val] v (laneSl n)) inpos_S1_p0

/-- Word `n` of a row of item words. -/
def word (n : Fin 16) (v : Vec F S1x16 .i32) : BitVec 32 :=
  extractAt ![0] (extractStridedSlice S1 ![n.val] (shapeCast S16 v shapeCasts_S1x16_S16) (laneSl n)) inpos_S1_p0

abbrev cSrc (v21 : BitVec 32) (hw2 : k0_chk2 v21) : Memref sig .scVector .hbm S16 .f32 :=
  (aC.slice (Rect.unit (s := S4x16) (k0_off3 v21) S1x16.size (k0_off3_inb v21 hw2)) (fun _ => rfl)).squeeze S16 squeezes_S1x16_S16

/-- One item: eight output rows by sixteen third coordinates of one image. -/
def body1 (t1 : Fin k0_t1_loop.trips) : TProg (F := F) i PUnit := do
  let w : Vec F S1x16 .i32 ← Prog.lift (.load sP (Rect.unit (s := S9x16) (k0_off2 t1) S1x16.size (k0_off2_inb t1)).toLoadRect (View.loadsAt_vmem h_S1x16))
  have hw2 : k0_chk2 (word 0 w) := (← Prog.lift (TpuEff.assume (k0_chk2 (word 0 w)) (k0_chk2.dec _))).down
  have hw4 : k0_chk4 (word 1 w) := (← Prog.lift (TpuEff.assume (k0_chk4 (word 1 w)) (k0_chk4.dec _))).down
  have hw1 : k0_chk1 (word 2 w) := (← Prog.lift (TpuEff.assume (k0_chk1 (word 2 w)) (k0_chk1.dec _))).down
  have hw3 : k0_chk3 (word 0 w) (word 3 w) (word 4 w) := (← Prog.lift (TpuEff.assume (k0_chk3 (word 0 w) (word 3 w) (word 4 w)) (k0_chk3.dec _ _ _))).down
  have hw30 : k0_chk30 (word 2 w) (word 5 w) := (← Prog.lift (TpuEff.assume (k0_chk30 (word 2 w) (word 5 w)) (k0_chk30.dec _ _))).down
  Prog.lift (.enqueueDma (cSrc (word 0 w) hw2) (.here sC) (.dma cc0_scoped2.sem) ((View.wordExact_bits rfl).reshape _ _) (Memref.isWhole_whole _).wordExact ⟨Or.inl rfl, trivial⟩)
  Prog.lift (.waitDma2 cc0_scoped2.sem (cSrc (word 0 w) hw2) sC ((View.wordExact_bits rfl).reshape _ _) (Memref.isWhole_whole _).wordExact)
  issue i (word 0 w) (word 3 w) (word 4 w) hw3 slabs do
    let cf : Vec F S16 .f32 ← Prog.lift (.load sC (Rect.unit (s := S16) ![0] S16.size inb_S16_S16_0).toLoadRect (View.loadsAt_vmem h_S16))
    putGrp i 0 0 1 2 (lane 0 cf) (lane 4 cf) (lane 8 cf)
    putGrp i 1 3 4 5 (lane 0 cf) (lane 4 cf) (lane 8 cf)
    putGrp i 2 6 7 8 (lane 0 cf) (lane 4 cf) (lane 8 cf)
    putGrp i 3 9 10 11 (lane 0 cf) (lane 4 cf) (lane 8 cf)
    putGrp i 4 12 13 14 (lane 0 cf) (lane 4 cf) (lane 8 cf)
    putGrp i 5 15 16 17 (lane 0 cf) (lane 4 cf) (lane 8 cf)
    await i (word 0 w) (word 3 w) (word 4 w) hw3 slabs do
      Scf.Loop.for k0_t2_loop k0_t2_ok ⟨⟩ fun t2 _ =>
        body2 i (word 1 w) (word 2 w) (word 5 w) hw4 hw1 hw30 (lane 1 cf) (lane 5 cf) (lane 9 cf) (lane 2 cf) (lane 6 cf) (lane 10 cf)
          (broadcast S16 (lane 3 cf)) (broadcast S16 (lane 7 cf)) (broadcast S16 (lane 11 cf)) (broadcast S16 (word 3 w)) (broadcast S16 (word 4 w)) t2
      pure ⟨⟩

/-! ## The task -/

abbrev pSrc : Memref sig .scVector .hbm S9x16 .i32 :=
  (aP.slice (Rect.unit (s := S32x9x16) (k0_off1 i) S1x9x16.size (k0_off1_inb i)) (fun _ => rfl)).squeeze S9x16 squeezes_S1x9x16_S9x16

def task : TProg (F := F) i PUnit := do
  Prog.lift (.enqueueDma (pSrc i) (.here sP) (.dma cc0_scoped0.sem) ((View.wordExact_bits rfl).reshape _ _) (Memref.isWhole_whole _).wordExact ⟨Or.inl rfl, trivial⟩)
  Prog.lift (.waitDma2 cc0_scoped0.sem (pSrc i) sP ((View.wordExact_bits rfl).reshape _ _) (Memref.isWhole_whole _).wordExact)
  Prog.lift (.enqueueDma aL (.here sL) (.dma cc0_scoped1.sem) (Memref.isWhole_whole _).wordExact (Memref.isWhole_whole _).wordExact ⟨Or.inl rfl, trivial⟩)
  Prog.lift (.waitDma2 cc0_scoped1.sem aL sL (Memref.isWhole_whole _).wordExact (Memref.isWhole_whole _).wordExact)
  Scf.Loop.for k0_t1_loop k0_t1_ok ⟨⟩ fun t1 _ => body1 i t1
  pure ⟨⟩

/-- The printed body on the buffers the kernel gives it. -/
abbrev printed : TProg (F := F) i PUnit :=
  cc0__stn_body i aX (Memref.isWhole_whole _) aC (Memref.isWhole_whole _) aP (Memref.isWhole_whole _) aL (Memref.isWhole_whole _) aO (Memref.isWhole_whole _)
    sP (Memref.isWhole_whole _) sC (Memref.isWhole_whole _) sJ (Memref.isWhole_whole _) sL (Memref.isWhole_whole _) sB (Memref.isWhole_whole _) sO (Memref.isWhole_whole _)
    cc0_scratch6 cc0_scoped0 cc0_scoped1 cc0_scoped2 cc0_scoped3

end Cert.KernelIdeal.Stn
-- ==== Proof.Spec.lean ====
/-
  What the sampling task writes, point by point: the arithmetic of a step at one lane, the value of one output element
  from the image, the coefficients and the lattice, and how a band of the image, the row table and the gathers of a step
  give that value.
-/
module

public import proofs.«01_k».proof.Proof.Body
public import Idealize.ShloMosaic.Lib.Pointwise.Index

@[expose] public section

noncomputable section

namespace Cert.KernelIdeal.Stn

open Cert.KernelIdeal Cert.KernelIdeal.Gen
open Idealize.ShloMosaic Idealize.SL.Sem

variable {F : FTy → Type} [FloatOps F]

/-! ## One lane -/

/-- Lane 0. -/
def ln0 : S16.Idx := ix1 (0 : Fin 16)

def sum1 (jb sa sk s3 : F .f32) : F .f32 := sumV (fun _ => jb) (fun _ => sa) (fun _ => sk) (fun _ => s3) ln0
def pix1 (n : F .f32) : F .f32 := pixV (fun _ => n) ln0
def lo1 (p : F .f32) : BitVec 32 := loV (fun _ => p) ln0
def hi1 (p : F .f32) : BitVec 32 := hiV (fun _ => p) ln0
def mul1 (a b : F .f32) : F .f32 := mulf (s := S16) (fun _ => a) (fun _ => b) ln0
def blend1 (xp yp zp A B C D E G H I : F .f32) : F .f32 :=
  blendV (fun _ => xp) (fun _ => yp) (fun _ => zp) (fun _ => A) (fun _ => B) (fun _ => C) (fun _ => D) (fun _ => E) (fun _ => G)
    (fun _ => H) (fun _ => I) ln0

theorem sumV_at (jb sa sk s3 : FVec F S16 .f32) (l : S16.Idx) : sumV jb sa sk s3 l = sum1 (jb l) (sa l) (sk l) (s3 l) := rfl
theorem pixV_at (n : FVec F S16 .f32) (l : S16.Idx) : pixV n l = pix1 (n l) := rfl
theorem loV_at (p : FVec F S16 .f32) (l : S16.Idx) : loV p l = lo1 (p l) := rfl
theorem hiV_at (p : FVec F S16 .f32) (l : S16.Idx) : hiV p l = hi1 (p l) := rfl
theorem mulV_at (a b : FVec F S16 .f32) (l : S16.Idx) : mulf a b l = mul1 (a l) (b l) := rfl
theorem sitoV_at (v : IVec S16 32) (l : S16.Idx) : (sitofp .f32 v : FVec F S16 .f32) l = FloatOps.sitofp .f32 (v l) := rfl
theorem subV_at (a b : FVec F S16 .f32) (l : S16.Idx) : subf a b l = FloatOps.subf (a l) (b l) := rfl
theorem subiV_at (a b : IVec S16 32) (l : S16.Idx) : subi a b l = a l - b l := rfl
theorem aboveV_at (p : FVec F S16 .f32) (l : S16.Idx) : aboveV p l = FloatOps.subf (FloatOps.sitofp .f32 (hi1 (p l))) (p l) := by
  unfold aboveV; rw [subV_at, sitoV_at, hiV_at]
theorem belowV_at (p : FVec F S16 .f32) (l : S16.Idx) : belowV p l = FloatOps.subf (p l) (FloatOps.sitofp .f32 (lo1 (p l))) := by
  unfold belowV; rw [subV_at, sitoV_at, loV_at]
theorem gapV_at (p : FVec F S16 .f32) (l : S16.Idx) : gapV p l = FloatOps.sitofp .f32 (hi1 (p l) - lo1 (p l)) := by
  unfold gapV; rw [sitoV_at, subiV_at, hiV_at, loV_at]
theorem addV_at (a b : FVec F S16 .f32) (l : S16.Idx) : addf a b l = FloatOps.addf (a l) (b l) := rfl
theorem mulV_at' (a b : FVec F S16 .f32) (l : S16.Idx) : mulf a b l = FloatOps.mulf (a l) (b l) := rfl

theorem blendV_at (xp yp zp A B C D E G H I : FVec F S16 .f32) (l : S16.Idx) :
    blendV xp yp zp A B C D E G H I l = blend1 (xp l) (yp l) (zp l) (A l) (B l) (C l) (D l) (E l) (G l) (H l) (I l) := by
  unfold blend1 blendV
  simp only [addV_at, mulV_at', aboveV_at, belowV_at, gapV_at]

/-- A number clipped to the image. -/
def clip1 (v : BitVec 32) : BitVec 32 := clipV (fun _ => v) ln0

theorem clip1_lt (v : BitVec 32) : (clip1 v).toNat < 96 := by
  show (IntOp.minsi (IntOp.maxsi v 0#32) 95#32).toNat < 96
  unfold IntOp.minsi IntOp.maxsi
  simp only [BitVec.slt, decide_eq_true_eq]
  rw [show (0#32).toInt = 0 from rfl, show (95#32).toInt = 95 from rfl]
  by_cases h : (0 : Int) < v.toInt
  · rw [if_pos h]
    by_cases h' : v.toInt < 95
    · rw [if_pos h']; rw [BitVec.toInt_eq_toNat_cond] at h h'; split at h <;> simp_all <;> omega
    · rw [if_neg h']; decide
  · rw [if_neg h]; decide

theorem lo1_lt (p : F .f32) : (lo1 p).toNat < 96 := clip1_lt (floV (fun _ => p) ln0)
theorem hi1_lt (p : F .f32) : (hi1 p).toNat < 96 := clip1_lt (addi (floV (fun _ => p)) (broadcast S16 1#32) ln0)

/-! ## One output element -/

/-- The grid line a word names. -/
abbrev gl (v : BitVec 32) : Fin 96 := Fin.ofNat 96 v.toNat

theorem gl_val {v : BitVec 32} (h : v.toNat < 96) : (gl v).val = v.toNat := Nat.mod_eq_of_lt h

/-- Coefficient `n` of axis `u`. -/
abbrev cfi (u : Fin 3) (n : Fin 4) : Fin 16 := ⟨4 * u.val + n.val, by omega⟩

/-- A lattice point. -/
abbrev lat1 (lat : FVec F S112 .f32) (j : Fin 96) : F .f32 := lat (ix1 (⟨j.val, by omega⟩ : Fin 112))

/-- The pixel coordinate along axis `u` of point (`a`, `k`, `j`) of image `b`. -/
def crd (cf : FVec F S4x16 .f32) (lat : FVec F S112 .f32) (b : Fin 4) (u : Fin 3) (a k j : Fin 96) : F .f32 :=
  pix1 (sum1 (mul1 (lat1 lat j) (cf (ix2 b (cfi u 0)))) (Scalar.mulf (cf (ix2 b (cfi u 1))) (lat1 lat a))
    (Scalar.mulf (cf (ix2 b (cfi u 2))) (lat1 lat k)) (cf (ix2 b (cfi u 3))))

/-- The sample of image `b`, channel `c` at a pixel coordinate. -/
def samp (x : FVec F S4x96x96x2x96 .f32) (b : Fin 4) (c : Fin 2) (xp yp zp : F .f32) : F .f32 :=
  blend1 xp yp zp
    (x (ix5 b (gl (lo1 zp)) (gl (lo1 yp)) c (gl (lo1 xp)))) (x (ix5 b (gl (lo1 zp)) (gl (hi1 yp)) c (gl (lo1 xp))))
    (x (ix5 b (gl (lo1 zp)) (gl (lo1 yp)) c (gl (hi1 xp)))) (x (ix5 b (gl (lo1 zp)) (gl (hi1 yp)) c (gl (hi1 xp))))
    (x (ix5 b (gl (hi1 zp)) (gl (lo1 yp)) c (gl (lo1 xp)))) (x (ix5 b (gl (hi1 zp)) (gl (hi1 yp)) c (gl (lo1 xp))))
    (x (ix5 b (gl (hi1 zp)) (gl (lo1 yp)) c (gl (hi1 xp)))) (x (ix5 b (gl (hi1 zp)) (gl (hi1 yp)) c (gl (hi1 xp))))

/-- The result's element at image `b`, first coordinate `a`, second `j`, channel `c`, third coordinate `k`. -/
def outAt (x : FVec F S4x96x96x2x96 .f32) (cf : FVec F S4x16 .f32) (lat : FVec F S112 .f32) (b : Fin 4) (a j : Fin 96) (c : Fin 2) (k : Fin 96) : F .f32 :=
  samp x b c (crd cf lat b 0 a k j) (crd cf lat b 1 a k j) (crd cf lat b 2 a k j)

abbrev idB (p : S36864x2x96.Idx) : Fin 4 := ⟨(p 0).val / 9216, by have h : (p 0).val < 36864 := (p 0).isLt; omega⟩
abbrev idA (p : S36864x2x96.Idx) : Fin 96 := ⟨(p 0).val / 96 % 96, by omega⟩
abbrev idJ (p : S36864x2x96.Idx) : Fin 96 := ⟨(p 0).val % 96, by omega⟩

/-- The whole result. -/
def outV5 (x : FVec F S4x96x96x2x96 .f32) (cf : FVec F S4x16 .f32) (lat : FVec F S112 .f32) : FVec F S36864x2x96 .f32 :=
  fun p => outAt x cf lat (idB p) (idA p) (idJ p) (p 1) (p 2)

/-- The item an element of the result belongs to: image, eight first coordinates, sixteen third. -/
def itemOf (p : S36864x2x96.Idx) : Fin 288 :=
  ⟨(idB p).val * 72 + (idA p).val / 8 * 6 + (p 2).val / 16, by
    have h2 : (p 2).val < 96 := (p 2).isLt
    have h1 := (idB p).isLt; have h3 := (idA p).isLt; omega⟩

/-! ## The band -/

/-- The band from grid line `zb` of the first axis and `yb` of the second, of image `b`: twenty rows a slab. -/
def bandV (x : FVec F S4x96x96x2x96 .f32) (b : Fin 4) (zb yb : Nat) : FVec F S560x2x96 .f32 :=
  fun p => x (ix5 b (Fin.ofNat 96 (zb + (p 0).val / 20)) (Fin.ofNat 96 (yb + (p 0).val % 20)) (p 1) (p 2))

/-- A grid line pair lies in the band. -/
structure InBand (z y zb yb : BitVec 32) : Prop where
  z0 : zb.toNat ≤ z.toNat
  z1 : z.toNat < zb.toNat + 28
  y0 : yb.toNat ≤ y.toNat
  y1 : y.toNat < yb.toNat + 20
  zlt : z.toNat < 96
  ylt : y.toNat < 96

/-- The band row of a grid line pair. -/
def row1 (z y zb yb : BitVec 32) : BitVec 32 := (z - zb) * 20#32 + (y - yb)

theorem rowV_at (z y zb yb : IVec S16 32) (l : S16.Idx) : rowV z y zb yb l = row1 (z l) (y l) (zb l) (yb l) := rfl

theorem row1_toNat {z y zb yb : BitVec 32} (h : InBand z y zb yb) :
    (row1 z y zb yb).toNat = (z.toNat - zb.toNat) * 20 + (y.toNat - yb.toNat) := by
  obtain ⟨h0, h1, h2, h3, h4, h5⟩ := h
  have e1 : (z - zb).toNat = z.toNat - zb.toNat := BitVec.toNat_sub_of_le (by simpa [BitVec.le_def] using h0)
  have e2 : (y - yb).toNat = y.toNat - yb.toNat := BitVec.toNat_sub_of_le (by simpa [BitVec.le_def] using h2)
  unfold row1
  rw [BitVec.toNat_add, BitVec.toNat_mul, e1, e2]
  simp only [BitVec.toNat_ofNat]
  omega

theorem row1_lt {z y zb yb : BitVec 32} (h : InBand z y zb yb) : (row1 z y zb yb).toNat < 560 := by
  rw [row1_toNat h]; obtain ⟨h0, h1, h2, h3, -, -⟩ := h; omega

/-- What a gather reads off the band. -/
theorem bandV_at (x : FVec F S4x96x96x2x96 .f32) (b : Fin 4) {z y zb yb : BitVec 32} (h : InBand z y zb yb) (c : Fin 2) (w : Fin 96)
    (p : S560x2x96.Idx) (h0 : (p 0).val = (row1 z y zb yb).toNat) (h1 : p 1 = c) (h2 : p 2 = w) :
    bandV x b zb.toNat yb.toNat p = x (ix5 b (gl z) (gl y) c w) := by
  unfold bandV
  rw [h1, h2, h0, row1_toNat h]
  obtain ⟨g0, g1, g2, g3, g4, g5⟩ := h
  have e1 : zb.toNat + ((z.toNat - zb.toNat) * 20 + (y.toNat - yb.toNat)) / 20 = z.toNat := by omega
  have e2 : yb.toNat + ((z.toNat - zb.toNat) * 20 + (y.toNat - yb.toNat)) % 20 = y.toNat := by omega
  rw [e1, e2]

/-- The step's check, at grid lines in the band. -/
theorem bandOk_of {z y zb yb xl xh : IVec S16 32} (h : ∀ l, InBand (z l) (y l) (zb l) (yb l)) (hl : ∀ l, (xl l).toNat < 96)
    (hh : ∀ l, (xh l).toNat < 96) : bandOk c0V c1V xl xh (rowV z y zb yb) := by
  have h0 : ∀ l, (rowV z y zb yb l).toNat < 560 := fun l => row1_lt (h l)
  refine ⟨?_, ?_, ?_, ?_⟩ <;> intro a l <;> fin_cases a
  all_goals first | exact h0 l | exact hl l | exact hh l | exact (by decide : (0#32).toNat < 2) | exact (by decide : (1#32).toNat < 2)

/-! ## A scatter -/

/-- What a scatter leaves at one element: `t`, when every lane that names it carries `t`, and either some lane names it
    or it held `t` before. -/
theorem storeIdx_at {s : Shape} {d : Fin 1 → Nat} (f : Vec F s .f32) (idxs : Fin s.rank → IVec ⟨1, d⟩ 32) (v : Vec F ⟨1, d⟩ .f32)
    (h : ∀ a x, (idxs a x).toNat < s.size a) (j : s.Idx) (t : F .f32)
    (hv : ∀ x, (∀ a, (j a).val = (idxs a x).toNat) → v x = t)
    (hf : (∃ x, ∀ a, (j a).val = (idxs a x).toNat) ∨ f j = t) :
    storeIdx (F := F) (e := .f32) f idxs v (fun _ => 1#1) false h j = t := by
  have key : ∀ (step : Vec F s .f32 → Fin (d 0) → Vec F s .f32),
      (∀ g k, (∀ a, (j a).val = (idxs a (Shape.ofLane k)).toNat) → step g k j = v (Shape.ofLane k)) →
      (∀ g k, ¬ (∀ a, (j a).val = (idxs a (Shape.ofLane k)).toNat) → step g k j = g j) →
      ∀ (l : List (Fin (d 0))) (g : Vec F s .f32), ((∃ k ∈ l, ∀ a, (j a).val = (idxs a (Shape.ofLane k)).toNat) ∨ g j = t) →
      l.foldl step g j = t := by
    intro step h1 h2 l
    induction l with
    | nil =>
      intro g hg; rcases hg with ⟨k, hk, -⟩ | hg
      · exact absurd hk (List.not_mem_nil)
      · exact hg
    | cons k l ih =>
      intro g hg
      refine ih _ ?_
      by_cases hk : ∀ a, (j a).val = (idxs a (Shape.ofLane k)).toNat
      · right; rw [h1 g k hk]; exact hv _ hk
      · rcases hg with ⟨k', hk', e⟩ | hg
        · rcases List.mem_cons.mp hk' with rfl | hk'
          · exact absurd e hk
          · exact .inl ⟨k', hk', e⟩
        · right; rw [h2 g k hk]; exact hg
  unfold storeIdx
  refine key _ (fun g k hk => ?_) (fun g k hk => ?_) (List.finRange (d 0)) f ?_
  · exact if_pos hk
  · exact if_neg hk
  rcases hf with ⟨x, hx⟩ | hf
  · refine .inl ⟨x 0, List.mem_finRange _, ?_⟩
    have : Shape.ofLane (x 0) = x := by funext a; rw [Fin.eq_zero a]; rfl
    rw [this]; exact hx
  · exact .inr hf

end Cert.KernelIdeal.Stn
-- ==== Proof.Base.lean ====
/-
  The sampling kernel as the launch theorem sees it: its configuration, the resource algebra (handshake rounds and the
  counters of the copies), the threads and the memory a task holds.
-/
module

public import proofs.«01_k».proof.Proof.Spec
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Batch
public import Idealize.ShloMosaic.Lib.Scf
public import Idealize.ShloMosaic.Lib.Tactic

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EC : UEmb Counters (MT nD τ sig (HIx 1) (Elt F) ℕ UU ℕ) :=
  (UEmb.inr : UEmb Counters UU).trans (uEmb (nD := nD) (sig := sig) (Ix := HIx 1) (Val := Elt F) (Name := ℕ) (U := UU) (Lvl := ℕ))

instance EH_landsIn : (EH : Emb UH 𝕄).LandsIn (upEmb : UEmb _ 𝕄) := by unfold EH; infer_instance
instance EC_landsIn : (EC : UEmb Counters 𝕄).LandsIn (upEmb : UEmb _ 𝕄) := by unfold EC; infer_instance

/-! ## Threads and memory -/

abbrev cV (L : grid0.Coords) : Fin τ.nSC := (L 0).castLE hcore0
abbrev jV (L : grid0.Coords) : Fin τ.nSub := (L 1).castLE hsub0
/-- The vector subcore that runs task `i` on device `d`. -/
abbrev thr (d : Dev nD) (i : grid0.Coords) : Thread nD τ := V d (cV i) (jV i)

variable [FloatOps F]

/-- The weakest precondition of a task's program. -/
abbrev WP (d : Dev nD) (i : grid0.Coords) {α : Type} (p : TProg (F := F) i α) (Q : α → sProp 𝕄) : sProp 𝕄 :=
  wp frame (wpE (defs₀ (F := F)) 𝒱₀ (thr d i) none) Set.univ p Q

variable (d : Dev nD) (i : grid0.Coords)

abbrev pB (f : Vec F S560x2x96 .f32) : sProp 𝕄 := (thr d i).loc cc0_scratch4 ↦{fullShare} f
abbrev pO (f : Vec F S96x2x16 .f32) : sProp 𝕄 := (thr d i).loc cc0_scratch5 ↦{fullShare} f
abbrev pJ (f : Vec F S18x16 .f32) : sProp 𝕄 := (thr d i).loc cc0_scratch2 ↦{fullShare} f
abbrev pL (f : Vec F S112 .f32) : sProp 𝕄 := (thr d i).loc cc0_scratch3 ↦{fullShare} f
abbrev pC (f : Vec F S16 .f32) : sProp 𝕄 := (thr d i).loc cc0_scratch1 ↦{fullShare} f
abbrev pP (f : Vec F S9x16 .i32) : sProp 𝕄 := (thr d i).loc cc0_scratch0 ↦{fullShare} f

/-- A check that holds is passed. -/
theorem wp_chk {α : Type} {P : Prop} {dec : Decidable P} {k : PLift P → TProg (F := F) i α} {Q : α → sProp 𝕄} (h : P) :
    WP d i (k ⟨h⟩) Q ⊢ WP d i (.op (.assume P dec) k) Q :=
  Entails.of_eq (wp_assume_of _ _ _ _ h).symm

end Cert.KernelIdeal.Stn
-- ==== Proof.Step.lean ====
/-
  One sampling step: from the band and the block being filled, the checks, the sixteen gathers and the two scatters.
-/
module

public import proofs.«01_k».proof.Proof.Base

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (d : Dev nD) (i : grid0.Coords)

theorem pB_access (f : Vec F S560x2x96 .f32) :
    ((sB.access (.whole S560x2x96)).loc (thr d i) ↦{fullShare} f : sProp 𝕄) = pB d i f := rfl
theorem pO_access (f : Vec F S96x2x16 .f32) :
    ((sO.access (.whole S96x2x16)).loc (thr d i) ↦[(sO.access (.whole S96x2x16)).set]{fullShare} f : sProp 𝕄) = pO d i f := by
  rw [show (sO.access (.whole S96x2x16)).set = Finset.univ from Memref.set_access_whole cc0_scratch5]

/-- A gather out of the band. -/
theorem wp_gather {α : Type} {band : Vec F S560x2x96 .f32} {idxs : Fin 3 → IVec S16 32} {h : ∀ a x, (idxs a x).toNat < S560x2x96.size a}
    {hl : sB.view.Loads} {k : Vec F S16 .f32 → TProg (F := F) i α} {Q : α → sProp 𝕄} :
    pB d i band ⊢ iprop((pB d i band -∗ WP d i (k (loadIdx band idxs h)) Q)
      -∗ WP d i (SparseCore.vectorLoadIdx sB idxs h hl >>= k) Q) :=
by
  have key := SparseCore.wp_vectorLoadIdx (F := F) (defs := defs₀ (F := F)) (Q := Q) 𝒱₀ (thr d i) none Set.univ (base := sB) (idxs := idxs) (h := h)
    (hl := hl) (k := k) (S := Finset.univ) (q := fullShare) (f := band) (Finset.subset_univ _)
  have hr : (sB.access (.whole S560x2x96)).read (Elt F) band = band := Memref.read_access_whole (Elt F) cc0_scratch4 band
  rw [hr] at key
  exact key

/-- A scatter into the block. -/
theorem wp_scatter {α : Type} {ob : Vec F S96x2x16 .f32} {idxs : Fin 3 → IVec S16 32} {v : Vec F S16 .f32} {mask : IVec S16 1}
    {h : ∀ a x, (idxs a x).toNat < S96x2x16.size a}
    {hs : (sO.access (.whole S96x2x16)).Stores Finset.univ} {k : PUnit → TProg (F := F) i α} {Q : α → sProp 𝕄} :
    pO d i ob ⊢ iprop((pO d i (storeIdx (F := F) (e := .f32) ob idxs v mask false h) -∗ WP d i (k ⟨⟩) Q)
      -∗ WP d i (SparseCore.vectorStoreIdx sO idxs v mask false h hs >>= k) Q) := by
  have key := SparseCore.wp_vectorStoreIdx (F := F) (defs := defs₀ (F := F)) (Q := Q) 𝒱₀ (thr d i) none Set.univ (base := sO) (idxs := idxs) (v := v) (mask := mask) (add := false) (h := h)
    (hs := hs) (k := k) (f := ob)
  rw [pO_access] at key
  refine key.trans ?_
  have hw : (sO.access (.whole S96x2x16)).write (Elt F) ob (storeIdx (F := F) (e := .f32) ((sO.access (.whole S96x2x16)).read (Elt F) ob) idxs v mask false h) Finset.univ
      = storeIdx (F := F) (e := .f32) ob idxs v mask false h := by
    have hr : (sO.access (.whole S96x2x16)).read (Elt F) ob = ob := Memref.read_access_whole (Elt F) cc0_scratch5 ob
    rw [hr]; exact Memref.write_access_whole_univ (Elt F) cc0_scratch5 _ _
  rw [hw]; exact Entails.of_eq (by rw [pO_access])

/-- The block after a step. -/
def stepOut (band : Vec F S560x2x96 .f32) (ob : Vec F S96x2x16 .f32) (jv kv : IVec S16 32) (xp yp zp : FVec F S16 .f32) (zb yb : IVec S16 32)
    (h0 : ∀ a x, ((![jv, c0V, kv] : Fin 3 → IVec S16 32) a x).toNat < S96x2x16.size a)
    (h1 : ∀ a x, ((![jv, c1V, kv] : Fin 3 → IVec S16 32) a x).toNat < S96x2x16.size a)
    (ha : bandOk c0V c1V (loV xp) (hiV xp) (rowV (loV zp) (loV yp) zb yb))
    (hb : bandOk c0V c1V (loV xp) (hiV xp) (rowV (loV zp) (hiV yp) zb yb))
    (he : bandOk c0V c1V (loV xp) (hiV xp) (rowV (hiV zp) (loV yp) zb yb))
    (hf : bandOk c0V c1V (loV xp) (hiV xp) (rowV (hiV zp) (hiV yp) zb yb)) : Vec F S96x2x16 .f32 :=
  storeIdx (F := F) (e := .f32)
    (storeIdx (F := F) (e := .f32) ob ![jv, c0V, kv]
      (blendV xp yp zp
        (loadIdx (F := F) (e := .f32) band ![rowV (loV zp) (loV yp) zb yb, c0V, loV xp] ha.1)
        (loadIdx (F := F) (e := .f32) band ![rowV (loV zp) (hiV yp) zb yb, c0V, loV xp] hb.1)
        (loadIdx (F := F) (e := .f32) band ![rowV (loV zp) (loV yp) zb yb, c0V, hiV xp] ha.2.1)
        (loadIdx (F := F) (e := .f32) band ![rowV (loV zp) (hiV yp) zb yb, c0V, hiV xp] hb.2.1)
        (loadIdx (F := F) (e := .f32) band ![rowV (hiV zp) (loV yp) zb yb, c0V, loV xp] he.1)
        (loadIdx (F := F) (e := .f32) band ![rowV (hiV zp) (hiV yp) zb yb, c0V, loV xp] hf.1)
        (loadIdx (F := F) (e := .f32) band ![rowV (hiV zp) (loV yp) zb yb, c0V, hiV xp] he.2.1)
        (loadIdx (F := F) (e := .f32) band ![rowV (hiV zp) (hiV yp) zb yb, c0V, hiV xp] hf.2.1))
      (fun _ => 1#1) false h0)
    ![jv, c1V, kv]
    (blendV xp yp zp
      (loadIdx (F := F) (e := .f32) band ![rowV (loV zp) (loV yp) zb yb, c1V, loV xp] ha.2.2.1)
      (loadIdx (F := F) (e := .f32) band ![rowV (loV zp) (hiV yp) zb yb, c1V, loV xp] hb.2.2.1)
      (loadIdx (F := F) (e := .f32) band ![rowV (loV zp) (loV yp) zb yb, c1V, hiV xp] ha.2.2.2)
      (loadIdx (F := F) (e := .f32) band ![rowV (loV zp) (hiV yp) zb yb, c1V, hiV xp] hb.2.2.2)
      (loadIdx (F := F) (e := .f32) band ![rowV (hiV zp) (loV yp) zb yb, c1V, loV xp] he.2.2.1)
      (loadIdx (F := F) (e := .f32) band ![rowV (hiV zp) (hiV yp) zb yb, c1V, loV xp] hf.2.2.1)
      (loadIdx (F := F) (e := .f32) band ![rowV (hiV zp) (loV yp) zb yb, c1V, hiV xp] he.2.2.2)
      (loadIdx (F := F) (e := .f32) band ![rowV (hiV zp) (hiV yp) zb yb, c1V, hiV xp] hf.2.2.2))
    (fun _ => 1#1) false h1

theorem wp_stepRest {band : Vec F S560x2x96 .f32} {ob : Vec F S96x2x16 .f32} {jv kv : IVec S16 32} {xp yp zp : FVec F S16 .f32} {zb yb : IVec S16 32}
    {h0 : ∀ a x, ((![jv, c0V, kv] : Fin 3 → IVec S16 32) a x).toNat < S96x2x16.size a}
    {h1 : ∀ a x, ((![jv, c1V, kv] : Fin 3 → IVec S16 32) a x).toNat < S96x2x16.size a}
    (ha : bandOk c0V c1V (loV xp) (hiV xp) (rowV (loV zp) (loV yp) zb yb))
    (hb : bandOk c0V c1V (loV xp) (hiV xp) (rowV (loV zp) (hiV yp) zb yb))
    (he : bandOk c0V c1V (loV xp) (hiV xp) (rowV (hiV zp) (loV yp) zb yb))
    (hf : bandOk c0V c1V (loV xp) (hiV xp) (rowV (hiV zp) (hiV yp) zb yb))
    {k : TProg (F := F) i PUnit} {Q : PUnit → sProp 𝕄} :
    iprop(pB d i band ∗ pO d i ob) ⊢ iprop((iprop(pB d i band ∗ pO d i (stepOut band ob jv kv xp yp zp zb yb h0 h1 ha hb he hf)) -∗ WP d i k Q)
      -∗ WP d i (stepRest i jv kv xp yp zp zb yb h0 h1 k) Q) := by
  unfold stepRest
  simp only [Prog.lift, Prog.bind_op, Prog.bind_ret]
  iintro ⟨HB, HO⟩ Hk
  iapply (wp_chk d i ha); iapply (wp_chk d i hb); iapply (wp_chk d i he); iapply (wp_chk d i hf)
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_gather d i) $$ HB; iintro HB
  iapply (wp_scatter d i) $$ HO; iintro HO
  iapply (wp_scatter d i) $$ HO; iintro HO
  iapply Hk
  isplitl [HB]; · iexact HB
  iexact HO

end Cert.KernelIdeal.Stn
-- ==== Proof.Row.lean ====
/-
  What a sampling step leaves in the block: the gathers of a step read the image through the band, so the step's two
  scatters put the result's elements of sixteen output columns where they belong and change nothing else.
-/
module

public import proofs.«01_k».proof.Proof.Step
public import Idealize.ShloMosaic.Lib.Pointwise.Reshape

@[expose] public section

noncomputable section

namespace Cert.KernelIdeal.Stn

open Cert.KernelIdeal Cert.KernelIdeal.Gen
open Idealize.ShloMosaic Idealize.SL.Sem

variable {F : FTy → Type} [FloatOps F]

/-- One gather of a step, read through the band. -/
theorem gat (x : FVec F S4x96x96x2x96 .f32) (b : Fin 4) (z y w cv : IVec S16 32) (zb yb : BitVec 32) (c : Fin 2)
    (h : ∀ a l, ((![rowV z y (broadcast S16 zb) (broadcast S16 yb), cv, w] : Fin 3 → IVec S16 32) a l).toNat < S560x2x96.size a) (l : S16.Idx)
    (hc : (cv l).toNat = c.val) (hin : InBand (z l) (y l) zb yb) (hw : (w l).toNat < 96) :
    loadIdx (F := F) (e := .f32) (bandV x b zb.toNat yb.toNat) ![rowV z y (broadcast S16 zb) (broadcast S16 yb), cv, w] h l
      = x (ix5 b (gl (z l)) (gl (y l)) c (gl (w l))) := by
  refine bandV_at x b hin c (gl (w l)) _ ?_ ?_ ?_
  · rfl
  · exact Fin.ext hc
  · exact Fin.ext (gl_val hw).symm

/-- The band holds every corner of the sixteen points. -/
structure Lanes (yp zp : FVec F S16 .f32) (zb yb : BitVec 32) : Prop where
  ll : ∀ l, InBand (lo1 (zp l)) (lo1 (yp l)) zb yb
  lh : ∀ l, InBand (lo1 (zp l)) (hi1 (yp l)) zb yb
  hl : ∀ l, InBand (hi1 (zp l)) (lo1 (yp l)) zb yb
  hh : ∀ l, InBand (hi1 (zp l)) (hi1 (yp l)) zb yb

section
variable {yp zp : FVec F S16 .f32} {zb yb : BitVec 32} (xp : FVec F S16 .f32) (H : Lanes yp zp zb yb)
include H
theorem Lanes.a : bandOk c0V c1V (loV xp) (hiV xp) (rowV (loV zp) (loV yp) (broadcast S16 zb) (broadcast S16 yb)) :=
  bandOk_of (fun l => H.ll l) (fun l => lo1_lt (xp l)) (fun l => hi1_lt (xp l))
theorem Lanes.b : bandOk c0V c1V (loV xp) (hiV xp) (rowV (loV zp) (hiV yp) (broadcast S16 zb) (broadcast S16 yb)) :=
  bandOk_of (fun l => H.lh l) (fun l => lo1_lt (xp l)) (fun l => hi1_lt (xp l))
theorem Lanes.e : bandOk c0V c1V (loV xp) (hiV xp) (rowV (hiV zp) (loV yp) (broadcast S16 zb) (broadcast S16 yb)) :=
  bandOk_of (fun l => H.hl l) (fun l => lo1_lt (xp l)) (fun l => hi1_lt (xp l))
theorem Lanes.f : bandOk c0V c1V (loV xp) (hiV xp) (rowV (hiV zp) (hiV yp) (broadcast S16 zb) (broadcast S16 yb)) :=
  bandOk_of (fun l => H.hh l) (fun l => lo1_lt (xp l)) (fun l => hi1_lt (xp l))
end

/-- One channel of a step at one lane: the sample. -/
theorem blend_at (x : FVec F S4x96x96x2x96 .f32) (b : Fin 4) {yp zp : FVec F S16 .f32} {zb yb : BitVec 32} (xp : FVec F S16 .f32) (H : Lanes yp zp zb yb)
    (cv : IVec S16 32) (c : Fin 2) (l : S16.Idx) (hc : (cv l).toNat = c.val)
    (h1 h2 h3 h4 h5 h6 h7 h8) :
    blendV xp yp zp
        (loadIdx (F := F) (e := .f32) (bandV x b zb.toNat yb.toNat) ![rowV (loV zp) (loV yp) (broadcast S16 zb) (broadcast S16 yb), cv, loV xp] h1)
        (loadIdx (F := F) (e := .f32) (bandV x b zb.toNat yb.toNat) ![rowV (loV zp) (hiV yp) (broadcast S16 zb) (broadcast S16 yb), cv, loV xp] h2)
        (loadIdx (F := F) (e := .f32) (bandV x b zb.toNat yb.toNat) ![rowV (loV zp) (loV yp) (broadcast S16 zb) (broadcast S16 yb), cv, hiV xp] h3)
        (loadIdx (F := F) (e := .f32) (bandV x b zb.toNat yb.toNat) ![rowV (loV zp) (hiV yp) (broadcast S16 zb) (broadcast S16 yb), cv, hiV xp] h4)
        (loadIdx (F := F) (e := .f32) (bandV x b zb.toNat yb.toNat) ![rowV (hiV zp) (loV yp) (broadcast S16 zb) (broadcast S16 yb), cv, loV xp] h5)
        (loadIdx (F := F) (e := .f32) (bandV x b zb.toNat yb.toNat) ![rowV (hiV zp) (hiV yp) (broadcast S16 zb) (broadcast S16 yb), cv, loV xp] h6)
        (loadIdx (F := F) (e := .f32) (bandV x b zb.toNat yb.toNat) ![rowV (hiV zp) (loV yp) (broadcast S16 zb) (broadcast S16 yb), cv, hiV xp] h7)
        (loadIdx (F := F) (e := .f32) (bandV x b zb.toNat yb.toNat) ![rowV (hiV zp) (hiV yp) (broadcast S16 zb) (broadcast S16 yb), cv, hiV xp] h8) l
      = samp x b c (xp l) (yp l) (zp l) := by
  rw [blendV_at]
  rw [gat x b _ _ _ cv zb yb c h1 l hc (H.ll l) (lo1_lt (xp l)), gat x b _ _ _ cv zb yb c h2 l hc (H.lh l) (lo1_lt (xp l)),
    gat x b _ _ _ cv zb yb c h3 l hc (H.ll l) (hi1_lt (xp l)), gat x b _ _ _ cv zb yb c h4 l hc (H.lh l) (hi1_lt (xp l)),
    gat x b _ _ _ cv zb yb c h5 l hc (H.hl l) (lo1_lt (xp l)), gat x b _ _ _ cv zb yb c h6 l hc (H.hh l) (lo1_lt (xp l)),
    gat x b _ _ _ cv zb yb c h7 l hc (H.hl l) (hi1_lt (xp l)), gat x b _ _ _ cv zb yb c h8 l hc (H.hh l) (hi1_lt (xp l))]
  unfold samp
  simp only [loV_at, hiV_at]

/-- The block after a step, at one element: `t`, when every lane that names it samples `t`, and either some lane names it
    or it held `t` before. -/
theorem stepOut_at (x : FVec F S4x96x96x2x96 .f32) (b : Fin 4) {yp zp : FVec F S16 .f32} {zb yb : BitVec 32} (xp : FVec F S16 .f32) (H : Lanes yp zp zb yb)
    (ob : Vec F S96x2x16 .f32) (jv kv : IVec S16 32)
    (h0 : ∀ a x, ((![jv, c0V, kv] : Fin 3 → IVec S16 32) a x).toNat < S96x2x16.size a)
    (h1 : ∀ a x, ((![jv, c1V, kv] : Fin 3 → IVec S16 32) a x).toNat < S96x2x16.size a)
    (ha hb he hf) (p : S96x2x16.Idx) (t : F .f32)
    (hv : ∀ l, (p 0).val = (jv l).toNat → (p 2).val = (kv l).toNat → samp x b (p 1) (xp l) (yp l) (zp l) = t)
    (hx : (∃ l, (p 0).val = (jv l).toNat ∧ (p 2).val = (kv l).toNat) ∨ ob p = t) :
    stepOut (bandV x b zb.toNat yb.toNat) ob jv kv xp yp zp (broadcast S16 zb) (broadcast S16 yb) h0 h1 ha hb he hf p = t := by
  unfold stepOut
  have hp1 : (p 1).val < 2 := (p 1).isLt
  have n0 : ∀ l, (∀ a, (p a).val = ((![jv, c0V, kv] : Fin 3 → IVec S16 32) a l).toNat) →
      (p 0).val = (jv l).toNat ∧ (p 1).val = 0 ∧ (p 2).val = (kv l).toNat := fun l h => ⟨h 0, h 1, h 2⟩
  have n1 : ∀ l, (∀ a, (p a).val = ((![jv, c1V, kv] : Fin 3 → IVec S16 32) a l).toNat) →
      (p 0).val = (jv l).toNat ∧ (p 1).val = 1 ∧ (p 2).val = (kv l).toNat := fun l h => ⟨h 0, h 1, h 2⟩
  have e0 : (c0V (ln0)).toNat = 0 := rfl
  refine storeIdx_at _ _ _ _ p t (fun l hl => ?_) ?_
  · obtain ⟨i0, i1, i2⟩ := n1 l hl
    rw [blend_at x b xp H c1V (p 1) l i1.symm]
    exact hv l i0 i2
  by_cases hp : (p 1).val = 1
  · rcases hx with ⟨l, g0, g2⟩ | hx
    · refine .inl ⟨l, fun a => ?_⟩
      fin_cases a
      · exact g0
      · exact hp
      · exact g2
    · refine .inr (storeIdx_at _ _ _ _ p t (fun l hl => ?_) (.inr hx))
      obtain ⟨i0, i1, i2⟩ := n0 l hl; omega
  · refine .inr (storeIdx_at _ _ _ _ p t (fun l hl => ?_) ?_)
    · obtain ⟨i0, i1, i2⟩ := n0 l hl
      rw [blend_at x b xp H c0V (p 1) l i1.symm]
      exact hv l i0 i2
    · rcases hx with ⟨l, g0, g2⟩ | hx
      · refine .inl ⟨l, fun a => ?_⟩
        fin_cases a
        · exact g0
        · show (p 1).val = 0; omega
        · exact g2
      · exact .inr hx

/-! ## The row table and the block's target -/

/-- The row table: for each sixteen output columns and each axis, the lattice times the first coefficient. -/
def jT (cf : FVec F S4x16 .f32) (lat : FVec F S112 .f32) (b : Fin 4) : FVec F S18x16 .f32 := fun p =>
  mul1 (lat (ix1 (⟨16 * ((p 0).val / 3) + (p 1).val, by
      have h0 : (p 0).val < 18 := (p 0).isLt
      have h1 : (p 1).val < 16 := (p 1).isLt; omega⟩ : Fin 112)))
    (cf (ix2 b (cfi ⟨(p 0).val % 3, by omega⟩ 0)))

/-- What the block of output row `a` of an item is to hold. -/
def blkT (x : FVec F S4x96x96x2x96 .f32) (cf : FVec F S4x16 .f32) (lat : FVec F S112 .f32) (b : Fin 4) (a : Fin 96) (k0 : Nat) : FVec F S96x2x16 .f32 :=
  fun p => outAt x cf lat b a (p 0) (p 1) (Fin.ofNat 96 (k0 + (p 2).val))

/-- Every corner the points of output row `a` and third coordinate `k` read is in the band. -/
def PtIn (cf : FVec F S4x16 .f32) (lat : FVec F S112 .f32) (b : Fin 4) (zb yb : BitVec 32) (a k : Fin 96) : Prop :=
  ∀ j, InBand (lo1 (crd cf lat b 2 a k j)) (lo1 (crd cf lat b 1 a k j)) zb yb ∧ InBand (lo1 (crd cf lat b 2 a k j)) (hi1 (crd cf lat b 1 a k j)) zb yb
    ∧ InBand (hi1 (crd cf lat b 2 a k j)) (lo1 (crd cf lat b 1 a k j)) zb yb ∧ InBand (hi1 (crd cf lat b 2 a k j)) (hi1 (crd cf lat b 1 a k j)) zb yb

/-- Column `l` of group `q`. -/
abbrev col (q : Fin 6) (l : S16.Idx) : Fin 96 := ⟨16 * q.val + (l 0).val, by have h : (l 0).val < 16 := (l 0).isLt; omega⟩

theorem jvV_toNat (q : Fin 6) (l : S16.Idx) : (jvV (BitVec.ofNat 32 (16 * q.val)) l).toNat = 16 * q.val + (l 0).val := by
  have hl : (l 0).val < 16 := (l 0).isLt
  show (BitVec.ofNat 32 (0 * 16 + (l 0).val) + BitVec.ofNat 32 (16 * q.val)).toNat = _
  rw [BitVec.toNat_add, BitVec.toNat_ofNat, BitVec.toNat_ofNat]
  omega

/-- A lane vector read off row `n` of the row table. -/
theorem row_at (jt : FVec F S18x16 .f32) (n : Fin 18) (l : S16.Idx) :
    shapeCast S16 (sJ.view.readAt (Elt F) (jrow n).toLoadRect jt) shapeCasts_S1x16_S16 l = jt (ix2 n (l 0)) := by
  have e : Shape.reshapeEquiv (s := S1x16) (s' := S16) shapeCasts_S1x16_S16 l = ix2 (0 : Fin 1) (l 0) :=
    Shape.reshapeEquiv_eq_of_vals _ _ _ (0 * 16 + (l 0).val) (l 0).val (rowMajor_val2 _ 16 rfl) (rowMajor_val1 _) (by omega)
  show jt ((jrow n).toLoadRect.idx (Shape.reshapeEquiv (s := S1x16) (s' := S16) shapeCasts_S1x16_S16 l)) = jt _
  rw [e]
  congr 1
  funext a
  apply Fin.ext
  fin_cases a
  · show n.val + 1 * 0 = n.val; omega
  · show 0 + 1 * (l 0).val = (l 0).val; omega

/-! ## One step of the block -/

/-- The block holds its target at every third coordinate below `t` and, at `t`, in the first `q` column groups. -/
def Done (T ob : FVec F S96x2x16 .f32) (t q : Nat) : Prop :=
  ∀ p, ((p 2).val < t ∨ (p 2).val = t ∧ (p 0).val < 16 * q) → ob p = T p

theorem Done.step (x : FVec F S4x96x96x2x96 .f32) (cf : FVec F S4x16 .f32) (lat : FVec F S112 .f32) (b : Fin 4) (a : Fin 96) (k0 t : Nat) (q : Fin 6)
    {xp yp zp : FVec F S16 .f32} {zb yb : BitVec 32} (H : Lanes yp zp zb yb)
    (hx : ∀ l, xp l = crd cf lat b 0 a (Fin.ofNat 96 (k0 + t)) (col q l)) (hy : ∀ l, yp l = crd cf lat b 1 a (Fin.ofNat 96 (k0 + t)) (col q l))
    (hz : ∀ l, zp l = crd cf lat b 2 a (Fin.ofNat 96 (k0 + t)) (col q l))
    (ob : Vec F S96x2x16 .f32) (jv kv : IVec S16 32) (hj : ∀ l, (jv l).toNat = 16 * q.val + (l 0).val) (hk : ∀ l, (kv l).toNat = t)
    (h0 h1 ha hb he hf) (hd : Done (blkT x cf lat b a k0) ob t q.val) :
    Done (blkT x cf lat b a k0)
      (stepOut (bandV x b zb.toNat yb.toNat) ob jv kv xp yp zp (broadcast S16 zb) (broadcast S16 yb) h0 h1 ha hb he hf) t (q.val + 1) := by
  intro p hp
  refine stepOut_at x b xp H ob jv kv h0 h1 ha hb he hf p _ (fun l h0 h2 => ?_) ?_
  · rw [hj] at h0
    rw [hk] at h2
    rw [hx, hy, hz]
    have e : col q l = p 0 := Fin.ext h0.symm
    unfold blkT outAt
    rw [e, h2]
  · rcases hp with hp | ⟨h2, h3⟩
    · exact .inr (hd p (.inl hp))
    · by_cases h : (p 0).val < 16 * q.val
      · exact .inr (hd p (.inr ⟨h2, h⟩))
      · refine .inl ⟨ix1 (⟨(p 0).val - 16 * q.val, by omega⟩ : Fin 16), ?_, ?_⟩
        · rw [hj]; show (p 0).val = 16 * q.val + ((p 0).val - 16 * q.val); omega
        · rw [hk]; exact h2

/-- The lane vectors of a step are the coordinates of its points. -/
theorem crd_at (cf : FVec F S4x16 .f32) (lat : FVec F S112 .f32) (b : Fin 4) (a k : Fin 96) (q : Fin 6) (u : Fin 3) (n : Fin 18) (hn : n.val = 3 * q.val + u.val)
    (l : S16.Idx) :
    pixV (sumV (fun l => jT cf lat b (ix2 n (l 0))) (broadcast S16 (Scalar.mulf (cf (ix2 b (cfi u 1))) (lat1 lat a)))
      (broadcast S16 (Scalar.mulf (cf (ix2 b (cfi u 2))) (lat1 lat k))) (broadcast S16 (cf (ix2 b (cfi u 3))))) l = crd cf lat b u a k (col q l) := by
  have hu := u.isLt
  rw [pixV_at, sumV_at]
  unfold crd
  have e : jT cf lat b (ix2 n (l 0)) = mul1 (lat1 lat (col q l)) (cf (ix2 b (cfi u 0))) := by
    unfold jT
    have e1 : (⟨((ix2 n (l 0) : S18x16.Idx) 0).val % 3, by omega⟩ : Fin 3) = u := Fin.ext (by show n.val % 3 = u.val; omega)
    have e2 : 16 * (((ix2 n (l 0) : S18x16.Idx) 0).val / 3) + ((ix2 n (l 0) : S18x16.Idx) 1).val = 16 * q.val + (l 0).val := by
      show 16 * (n.val / 3) + (l 0).val = _; omega
    rw [e1]
    congr 2
    simp only [e2]
  rw [e]
  rfl

end Cert.KernelIdeal.Stn
-- ==== Proof.Inner.lean ====
/-
  The inner loop: the loads of the row table and of the lattice, a step, and the ninety-six output columns of one output
  row at one third coordinate.
-/
module

public import proofs.«01_k».proof.Proof.Row

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (d : Dev nD) (i : grid0.Coords)

/-- A load of row `n` of the row table. -/
theorem wp_loadRow {jt : FVec F S18x16 .f32} (n : Fin 18) {k : FVec F S16 .f32 → TProg (F := F) i PUnit} {Q : PUnit → sProp 𝕄} :
    pJ d i jt ⊢ iprop((pJ d i jt -∗ WP d i (k (fun l => jt (ix2 n (l 0)))) Q) -∗ WP d i (loadRow i n k) Q) := by
  unfold loadRow
  simp only [Prog.lift, Prog.bind_op, Prog.bind_ret]
  have e : shapeCast S16 (sJ.view.readAt (Elt F) (jrow n).toLoadRect jt) shapeCasts_S1x16_S16 = fun l => jt (ix2 n (l 0)) :=
    funext fun l => row_at jt n l
  have key : pJ d i jt ⊢ iprop((pJ d i jt -∗ WP d i (k (shapeCast S16 (sJ.view.readAt (Elt F) (jrow n).toLoadRect jt) shapeCasts_S1x16_S16)) Q)
      -∗ WP d i (.op (.load sJ (jrow n).toLoadRect (View.loadsAt_vmem h_S1x16)) fun jx => k (shapeCast S16 jx shapeCasts_S1x16_S16)) Q) :=
    wp_load 𝒱₀ (thr d i) none Set.univ (m := sJ) (r := (jrow n).toLoadRect) (k := fun jx => k (shapeCast S16 jx shapeCasts_S1x16_S16)) (S := Finset.univ) (Finset.subset_univ _)
  rw [e] at key
  exact key

/-- A load of sixteen lattice points from `off`. -/
theorem wp_loadLat {lat : FVec F S112 .f32} (off : Fin 1 → Nat) (h : ∀ a, off a + S16.size a ≤ S112.size a) {hl} {k : FVec F S16 .f32 → TProg (F := F) i PUnit} {Q : PUnit → sProp 𝕄} :
    pL d i lat ⊢ iprop((pL d i lat -∗ WP d i (k (fun l => lat (ix1 (⟨off 0 + (l 0).val, by
        have h1 : (l 0).val < 16 := (l 0).isLt
        have h2 : off 0 + 16 ≤ 112 := h 0; omega⟩ : Fin 112)))) Q)
      -∗ WP d i (.op (.load sL (Rect.unit (s := S112) off S16.size h).toLoadRect hl) k) Q) := by
  have key : pL d i lat ⊢ iprop((pL d i lat -∗ WP d i (k (sL.view.readAt (Elt F) (Rect.unit (s := S112) off S16.size h).toLoadRect lat)) Q)
      -∗ WP d i (.op (.load sL (Rect.unit (s := S112) off S16.size h).toLoadRect hl) k) Q) :=
    wp_load 𝒱₀ (thr d i) none Set.univ (m := sL) (S := Finset.univ) (Finset.subset_univ _)
  have e : sL.view.readAt (Elt F) (Rect.unit (s := S112) off S16.size h).toLoadRect lat = fun l => lat (ix1 (⟨off 0 + (l 0).val, by
        have h1 : (l 0).val < 16 := (l 0).isLt
        have h2 : off 0 + 16 ≤ 112 := h 0; omega⟩ : Fin 112)) := by
    funext l
    show lat _ = lat _
    congr 1
    funext a; apply Fin.ext
    obtain rfl : a = 0 := Fin.eq_zero a
    show off 0 + 1 * (l 0).val = off 0 + (l 0).val; omega
  rw [e] at key
  exact key

section Item

variable (x : FVec F S4x96x96x2x96 .f32) (cf : FVec F S4x16 .f32) (lat : FVec F S112 .f32) (b : Fin 4) (zb yb : BitVec 32) (a : Fin 96) (k0 : Nat)

/-- What the steps of an output row hold between them. -/
def RowI (t q : Nat) : sProp 𝕄 :=
  iprop(pJ d i (jT cf lat b) ∗ pB d i (bandV x b zb.toNat yb.toNat) ∗ ∃ ob, iprop(⌜Done (blkT x cf lat b a k0) ob t q⌝ ∗ pO d i ob))

theorem wp_stepR (t : Nat) (q : Fin 6) (hpt : PtIn cf lat b zb yb a (Fin.ofNat 96 (k0 + t))) {xp yp zp : FVec F S16 .f32}
    (ex : ∀ l, xp l = crd cf lat b 0 a (Fin.ofNat 96 (k0 + t)) (col q l)) (ey : ∀ l, yp l = crd cf lat b 1 a (Fin.ofNat 96 (k0 + t)) (col q l))
    (ez : ∀ l, zp l = crd cf lat b 2 a (Fin.ofNat 96 (k0 + t)) (col q l))
    (jv kv : IVec S16 32) (hj : ∀ l, (jv l).toNat = 16 * q.val + (l 0).val) (hk : ∀ l, (kv l).toNat = t)
    {h0 : ∀ a x, ((![jv, c0V, kv] : Fin 3 → IVec S16 32) a x).toNat < S96x2x16.size a}
    {h1 : ∀ a x, ((![jv, c1V, kv] : Fin 3 → IVec S16 32) a x).toNat < S96x2x16.size a} {ob : FVec F S96x2x16 .f32}
    (hd : Done (blkT x cf lat b a k0) ob t q.val) {k : TProg (F := F) i PUnit} {Q : PUnit → sProp 𝕄} :
    iprop(pB d i (bandV x b zb.toNat yb.toNat) ∗ pO d i ob)
      ⊢ iprop((iprop(pB d i (bandV x b zb.toNat yb.toNat) ∗ ∃ ob, iprop(⌜Done (blkT x cf lat b a k0) ob t (q.val + 1)⌝ ∗ pO d i ob)) -∗ WP d i k Q)
        -∗ WP d i (stepRest i jv kv xp yp zp (broadcast S16 zb) (broadcast S16 yb) h0 h1 k) Q) := by
  have H : Lanes yp zp zb yb :=
    ⟨fun l => by rw [ey, ez]; exact (hpt _).1, fun l => by rw [ey, ez]; exact (hpt _).2.1, fun l => by rw [ey, ez]; exact (hpt _).2.2.1,
      fun l => by rw [ey, ez]; exact (hpt _).2.2.2⟩
  iintro HBO Hk
  iapply (wp_stepRest d i (H.a xp) (H.b xp) (H.e xp) (H.f xp)) $$ HBO
  iintro ⟨HB, HO⟩
  iapply Hk
  isplitl [HB]; · iexact HB
  iexists (stepOut (bandV x b zb.toNat yb.toNat) ob jv kv xp yp zp (broadcast S16 zb) (broadcast S16 yb) h0 h1 (H.a xp) (H.b xp) (H.e xp) (H.f xp))
  isplitr [HO]
  · ipureintro
    exact Done.step x cf lat b a k0 t q H ex ey ez ob jv kv hj hk _ _ _ _ _ _ hd
  · iexact HO

theorem wp_stepJ (t : Nat) (q : Fin 6) (m m' : Nat) (hm : q.val = m) (hm' : q.val + 1 = m') (n0 n1 n2 : Fin 18) (hn0 : n0.val = 3 * q.val) (hn1 : n1.val = 3 * q.val + 1) (hn2 : n2.val = 3 * q.val + 2)
    (hpt : PtIn cf lat b zb yb a (Fin.ofNat 96 (k0 + t))) (jv kv : IVec S16 32) (hj : ∀ l, (jv l).toNat = 16 * q.val + (l 0).val) (hk : ∀ l, (kv l).toNat = t)
    {h0 : ∀ a x, ((![jv, c0V, kv] : Fin 3 → IVec S16 32) a x).toNat < S96x2x16.size a}
    {h1 : ∀ a x, ((![jv, c1V, kv] : Fin 3 → IVec S16 32) a x).toNat < S96x2x16.size a} {k : TProg (F := F) i PUnit} {Q : PUnit → sProp 𝕄} :
    RowI d i x cf lat b zb yb a k0 t m ⊢ iprop((RowI d i x cf lat b zb yb a k0 t m' -∗ WP d i k Q)
      -∗ WP d i (stepJ i n0 n1 n2 jv kv (broadcast S16 (Scalar.mulf (cf (ix2 b (cfi 0 1))) (lat1 lat a))) (broadcast S16 (Scalar.mulf (cf (ix2 b (cfi 1 1))) (lat1 lat a)))
        (broadcast S16 (Scalar.mulf (cf (ix2 b (cfi 2 1))) (lat1 lat a)))
        (broadcast S16 (Scalar.mulf (cf (ix2 b (cfi 0 2))) (lat1 lat (Fin.ofNat 96 (k0 + t))))) (broadcast S16 (Scalar.mulf (cf (ix2 b (cfi 1 2))) (lat1 lat (Fin.ofNat 96 (k0 + t)))))
        (broadcast S16 (Scalar.mulf (cf (ix2 b (cfi 2 2))) (lat1 lat (Fin.ofNat 96 (k0 + t)))))
        (broadcast S16 (cf (ix2 b (cfi 0 3)))) (broadcast S16 (cf (ix2 b (cfi 1 3)))) (broadcast S16 (cf (ix2 b (cfi 2 3)))) (broadcast S16 zb) (broadcast S16 yb) h0 h1 k) Q) := by
  subst hm; subst hm'
  unfold stepJ RowI
  have ex := crd_at cf lat b a (Fin.ofNat 96 (k0 + t)) q 0 n0 hn0
  have ey := crd_at cf lat b a (Fin.ofNat 96 (k0 + t)) q 1 n1 hn1
  have ez := crd_at cf lat b a (Fin.ofNat 96 (k0 + t)) q 2 n2 hn2
  iintro ⟨HJ, HB, ⟨%ob, ⟨%hd, HO⟩⟩⟩ Hk
  iapply (wp_loadRow d i n0) $$ HJ; iintro HJ
  iapply (wp_loadRow d i n1) $$ HJ; iintro HJ
  iapply (wp_loadRow d i n2) $$ HJ; iintro HJ
  icombine HB HO as HBO
  iapply (wp_stepR d i x cf lat b zb yb a k0 t q hpt ex ey ez jv kv hj hk hd) $$ HBO
  iintro ⟨HB, HO⟩
  iapply Hk
  isplitl [HJ]; · iexact HJ
  isplitl [HB]; · iexact HB
  iexact HO

theorem t3_lt (t3 : Fin k0_t3_loop.trips) : t3.val < 16 := lt_of_lt_of_eq t3.isLt (by decide)

theorem iv_toNat (t : Nat) (h : t < 2 ^ 32) : (Scf.iv 0#32 1#32 t).toNat = t := by
  unfold Scf.iv
  rw [BitVec.zero_add, BitVec.mul_one, BitVec.toNat_ofNat]; omega

theorem chk9 (kv : IVec S16 32) (hk : ∀ l, (kv l).toNat < 16) :
    k0_chk9 c0V c1V (jvV 0#32) (jvV 16#32) (jvV 32#32) (jvV 48#32) (jvV 64#32) (jvV 80#32) kv := by
  have hj : ∀ (q : Fin 6) (l : S16.Idx), (jvV (BitVec.ofNat 32 (16 * q.val)) l).toNat < 96 := fun q l => by
    have := jvV_toNat q l; have h1 : (l 0).val < 16 := (l 0).isLt; have := q.isLt; omega
  have key : ∀ (q : Fin 6) (c : BitVec 32) (hc : c.toNat < 2),
      ∀ a l, ((![jvV (BitVec.ofNat 32 (16 * q.val)), broadcast S16 c, kv] : Fin 3 → IVec S16 32) a l).toNat < S96x2x16.size a := by
    intro q c hc a l; fin_cases a
    · exact hj q l
    · exact hc
    · exact hk l
  exact ⟨key 0 0#32 (by decide), key 0 1#32 (by decide), key 1 0#32 (by decide), key 1 1#32 (by decide), key 2 0#32 (by decide), key 2 1#32 (by decide),
    key 3 0#32 (by decide), key 3 1#32 (by decide), key 4 0#32 (by decide), key 4 1#32 (by decide), key 5 0#32 (by decide), key 5 1#32 (by decide)⟩

theorem wp_body3 (v25 : BitVec 32) (hw1 : k0_chk1 v25) (hv : v25.toNat = k0) (hk0 : k0 + 16 ≤ 96) (t3 : Fin k0_t3_loop.trips)
    (hpt : PtIn cf lat b zb yb a (Fin.ofNat 96 (k0 + t3.val))) {Q : PUnit → sProp 𝕄} :
    iprop(pL d i lat ∗ RowI d i x cf lat b zb yb a k0 t3.val 0) ⊢ iprop((iprop(pL d i lat ∗ RowI d i x cf lat b zb yb a k0 t3.val 6) -∗ Q ⟨⟩)
      -∗ WP d i (body3 i v25 hw1 (broadcast S16 (Scalar.mulf (cf (ix2 b (cfi 0 1))) (lat1 lat a))) (broadcast S16 (Scalar.mulf (cf (ix2 b (cfi 1 1))) (lat1 lat a)))
        (broadcast S16 (Scalar.mulf (cf (ix2 b (cfi 2 1))) (lat1 lat a))) (cf (ix2 b (cfi 0 2))) (cf (ix2 b (cfi 1 2))) (cf (ix2 b (cfi 2 2)))
        (broadcast S16 (cf (ix2 b (cfi 0 3)))) (broadcast S16 (cf (ix2 b (cfi 1 3)))) (broadcast S16 (cf (ix2 b (cfi 2 3)))) (broadcast S16 zb) (broadcast S16 yb) t3) Q) := by
  unfold body3
  simp only [Prog.lift, Prog.bind_op, Prog.bind_ret]
  have h3 := t3_lt t3
  have hiv := iv_toNat t3.val (by omega)
  have hk : ∀ l : S16.Idx, ((broadcast S16 (Scf.iv 0#32 1#32 t3.val) : IVec S16 32) l).toNat = t3.val := fun _ => hiv
  have el : ∀ (h : ∀ a, (k0_off6 v25 t3) a + S16.size a ≤ S112.size a), lane0 (fun l => lat (ix1 (⟨k0_off6 v25 t3 0 + (l 0).val, by
        have h1 : (l 0).val < 16 := (l 0).isLt
        have h2 : k0_off6 v25 t3 0 + 16 ≤ 112 := h 0; omega⟩ : Fin 112))) = lat1 lat (Fin.ofNat 96 (k0 + t3.val)) := by
    intro h
    show lat _ = lat _
    congr 2
    apply Fin.ext
    show (v25 + Scf.iv 0#32 1#32 t3.val).toNat + 0 = (k0 + t3.val) % 96
    rw [BitVec.toNat_add, hiv, hv]; omega
  iintro ⟨HL, HR⟩ Hk
  iapply (wp_loadLat d i (k0_off6 v25 t3) (k0_off6_inb v25 hw1 t3)) $$ HL; iintro HL
  rw [el (k0_off6_inb v25 hw1 t3)]
  iapply (wp_chk d i (chk9 _ (fun l => by rw [hk l]; exact h3)))
  iapply (wp_stepJ d i x cf lat b zb yb a k0 t3.val 0 0 1 rfl rfl 0 1 2 rfl rfl rfl hpt _ _ (jvV_toNat 0) hk) $$ HR; iintro HR
  iapply (wp_stepJ d i x cf lat b zb yb a k0 t3.val 1 1 2 rfl rfl 3 4 5 rfl rfl rfl hpt _ _ (jvV_toNat 1) hk) $$ HR; iintro HR
  iapply (wp_stepJ d i x cf lat b zb yb a k0 t3.val 2 2 3 rfl rfl 6 7 8 rfl rfl rfl hpt _ _ (jvV_toNat 2) hk) $$ HR; iintro HR
  iapply (wp_stepJ d i x cf lat b zb yb a k0 t3.val 3 3 4 rfl rfl 9 10 11 rfl rfl rfl hpt _ _ (jvV_toNat 3) hk) $$ HR; iintro HR
  iapply (wp_stepJ d i x cf lat b zb yb a k0 t3.val 4 4 5 rfl rfl 12 13 14 rfl rfl rfl hpt _ _ (jvV_toNat 4) hk) $$ HR; iintro HR
  iapply (wp_stepJ d i x cf lat b zb yb a k0 t3.val 5 5 6 rfl rfl 15 16 17 rfl rfl rfl hpt _ _ (jvV_toNat 5) hk) $$ HR; iintro HR
  iapply (Entails.of_eq (wp_ret _ _ _ _ _).symm)
  imodintro
  iapply Hk
  isplitl [HL]; · iexact HL
  iexact HR

end Item

end Cert.KernelIdeal.Stn
-- ==== Proof.OutRow.lean ====
/-
  One output row of an item: the loop over its sixteen third coordinates, and the copy of the block it filled into the
  result.
-/
module

public import proofs.«01_k».proof.Proof.Inner

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The part of the result a task owns -/

/-- The elements of the result whose item is one of task `w`'s nine. -/
def reg (w : Fin 32) : Finset S36864x2x96.Idx := Finset.univ.filter fun p => (itemOf p).val / 9 = w.val

theorem mem_reg (w : Fin 32) (p : S36864x2x96.Idx) : p ∈ reg w ↔ (itemOf p).val / 9 = w.val := by simp [reg]

/-- The result holds its final elements at the items before `g` and, at `g`, in the first `t` output rows. -/
def OutOK (Y : FVec F S36864x2x96 .f32) (w : Fin 32) (g t : Nat) (f : FVec F S36864x2x96 .f32) : Prop :=
  ∀ p ∈ reg w, ((itemOf p).val < g ∨ (itemOf p).val = g ∧ (idA p).val % 8 < t) → f p = Y p

/-- The numbers an item's words hold. -/
structure ItemNum (g : Nat) (b : Fin 4) (a0 k0 : Nat) (v21 v23 v25 v32 : BitVec 32) : Prop where
  hg : g < 288
  hb : b.val = g / 72
  ha : a0 = g % 72 / 6 * 8
  hk : k0 = g % 6 * 16
  h21 : v21.toNat = b.val
  h23 : v23.toNat = a0
  h25 : v25.toNat = k0
  h32 : v32.toNat = b.val * 96 + a0

theorem t2_lt (t2 : Fin k0_t2_loop.trips) : t2.val < 8 := lt_of_lt_of_eq t2.isLt (by decide)

section Pure

variable {g : Nat} {b : Fin 4} {a0 k0 : Nat} {v21 v23 v25 v32 : BitVec 32} (N : ItemNum g b a0 k0 v21 v23 v25 v32)
include N

theorem off7_0 (t2 : Fin k0_t2_loop.trips) : k0_off7 v25 v32 t2 0 = (b.val * 96 + a0 + t2.val) * 96 := by
  have h2 := t2_lt t2
  have hiv := iv_toNat t2.val (by omega)
  obtain ⟨hg, hb, ha, hk, -, h23, h25, h32⟩ := N
  show (((v32 + Scf.iv 0#32 1#32 t2.val) * 96#32).toNat) = _
  have := b.isLt
  rw [BitVec.toNat_mul, BitVec.toNat_add, hiv, h32]
  simp only [BitVec.toNat_ofNat]
  omega

/-- The rectangle of output row `t2`. -/
theorem mem_oRow (hw30 : k0_chk30 v25 v32) (t2 : Fin k0_t2_loop.trips) (p : S36864x2x96.Idx) :
    p ∈ (oRow v25 v32 hw30 t2).view.set ↔ (itemOf p).val = g ∧ (idA p).val % 8 = t2.val := by
  have h2 := t2_lt t2
  have e : (oRow v25 v32 hw30 t2).view.set = (Rect.unit (s := S36864x2x96) (k0_off7 v25 v32 t2) S96x2x16.size (k0_off7_inb v25 v32 hw30 t2)).set :=
    View.set_slice_whole _ _
  rw [e, Rect.mem_set_unit]
  have o0 := off7_0 N t2
  have p0 : (p 0).val < 36864 := (p 0).isLt
  have p1 : (p 1).val < 2 := (p 1).isLt
  have p2 : (p 2).val < 96 := (p 2).isLt
  obtain ⟨hg, hb, ha, hk, -, h23, h25, h32⟩ := N
  constructor
  · intro h
    have q0 := h 0; have q2 := h 2
    rw [o0] at q0
    have q2' : v25.toNat ≤ (p 2).val ∧ (p 2).val < v25.toNat + 16 := q2
    have q0' : (b.val * 96 + a0 + t2.val) * 96 ≤ (p 0).val ∧ (p 0).val < (b.val * 96 + a0 + t2.val) * 96 + 96 := q0
    show (p 0).val / 9216 * 72 + (p 0).val / 96 % 96 / 8 * 6 + (p 2).val / 16 = g ∧ (p 0).val / 96 % 96 % 8 = t2.val
    omega
  · intro h
    have h' : (p 0).val / 9216 * 72 + (p 0).val / 96 % 96 / 8 * 6 + (p 2).val / 16 = g ∧ (p 0).val / 96 % 96 % 8 = t2.val := h
    intro a
    fin_cases a
    · show k0_off7 v25 v32 t2 0 ≤ (p 0).val ∧ (p 0).val < k0_off7 v25 v32 t2 0 + 96
      rw [o0]; omega
    · show 0 ≤ (p 1).val ∧ (p 1).val < 0 + 2; omega
    · show v25.toNat ≤ (p 2).val ∧ (p 2).val < v25.toNat + 16; omega

theorem oRow_sub (hw30 : k0_chk30 v25 v32) (t2 : Fin k0_t2_loop.trips) (w : Fin 32) (hw : g / 9 = w.val) : (oRow v25 v32 hw30 t2).view.set ⊆ reg w := by
  intro p hp
  rw [mem_reg, ((mem_oRow N hw30 t2 p).mp hp).1]; exact hw

theorem aOf_lt (t2 : Fin k0_t2_loop.trips) : a0 + t2.val < 96 := by
  have h2 := t2_lt t2; obtain ⟨hg, hb, ha, hk, -, h23, h25, h32⟩ := N; omega

/-- The result after an output row is copied out. -/
theorem OutOK.row (x : FVec F S4x96x96x2x96 .f32) (cf : FVec F S4x16 .f32) (lat : FVec F S112 .f32) (hw30 : k0_chk30 v25 v32) (t2 : Fin k0_t2_loop.trips)
    (w : Fin 32) (f : FVec F S36864x2x96 .f32) (ob : FVec F S96x2x16 .f32) (hob : ∀ p, ob p = blkT x cf lat b ⟨a0 + t2.val, aOf_lt N t2⟩ k0 p)
    (h : OutOK (outV5 x cf lat) w g t2.val f) :
    OutOK (outV5 x cf lat) w g (t2.val + 1) ((oRow v25 v32 hw30 t2).view.write (Elt F) f ob Finset.univ) := by
  intro p hp hc
  by_cases hm : p ∈ (oRow v25 v32 hw30 t2).view.set
  · obtain ⟨y, hy⟩ : ∃ y, (oRow v25 v32 hw30 t2).view.emb y = p := by
      have := hm; rw [View.set] at this; simpa using this
    have hm' := (mem_oRow N hw30 t2 p).mp hm
    rw [← hy, View.write_emb, if_pos (Finset.mem_univ _)]
    show ob y = _
    rw [hob y, hy]
    have o0 := off7_0 N t2
    have e0 : (p 0).val = k0_off7 v25 v32 t2 0 + 1 * (y 0).val := by rw [← hy]; rfl
    have e1 : (p 1).val = 0 + 1 * (y 1).val := by rw [← hy]; rfl
    have e2 : (p 2).val = v25.toNat + 1 * (y 2).val := by rw [← hy]; rfl
    have h2 := t2_lt t2
    have y0 : (y 0).val < 96 := (y 0).isLt
    have y2 : (y 2).val < 16 := (y 2).isLt
    rw [o0] at e0
    obtain ⟨hg, hb, ha, hk, -, h23, h25, h32⟩ := N
    have E0 : idB p = b := Fin.ext (by show (p 0).val / 9216 = b.val; omega)
    have E1 : idA p = ⟨a0 + t2.val, by omega⟩ := Fin.ext (by show (p 0).val / 96 % 96 = a0 + t2.val; omega)
    have E2 : idJ p = y 0 := Fin.ext (by show (p 0).val % 96 = _; omega)
    have E3 : p 1 = y 1 := Fin.ext (by omega)
    have E4 : p 2 = Fin.ofNat 96 (k0 + (y 2).val) := Fin.ext (by show (p 2).val = (k0 + (y 2).val) % 96; omega)
    unfold outV5 blkT
    rw [E0, E1, E2, E3, E4]
  · rw [View.write_of_not_mem]
    · refine h p hp ?_
      rcases hc with hc | ⟨hc, hd⟩
      · exact .inl hc
      · refine .inr ⟨hc, ?_⟩
        by_contra hn
        exact hm ((mem_oRow N hw30 t2 p).mpr ⟨hc, by omega⟩)
    · exact hm

end Pure

theorem Done.zero (T ob : FVec F S96x2x16 .f32) : Done T ob 0 0 := by
  intro p hp; omega
theorem Done.next {T ob : FVec F S96x2x16 .f32} {t : Nat} (h : Done T ob t 6) : Done T ob (t + 1) 0 := by
  intro p hp
  have h0 : (p 0).val < 96 := (p 0).isLt
  exact h p (by omega)
theorem Done.all {T ob : FVec F S96x2x16 .f32} (h : Done T ob 16 0) (p : S96x2x16.Idx) : ob p = T p :=
  h p (.inl (p 2).isLt)

/-! ## The output row -/

section Wp

variable (d : Dev nD) (i : grid0.Coords)
variable (x : FVec F S4x96x96x2x96 .f32) (cf : FVec F S4x16 .f32) (lat : FVec F S112 .f32) (w : Fin 32)
variable (O : CellTallies nD τ sig (HIx 1)) (W : Waits sig (HIx 1))

/-- What a task owes, having waited only on its own copies since `W`. -/
def Owe : sProp 𝕄 := iprop(∃ W', ⌜∀ p ∈ W', p ∈ W ∨ p.2 = none⌝ ∗ owes (thr d i) O W')

/-- The part of the result the task owns. -/
abbrev pOut (f : FVec F S36864x2x96 .f32) : sProp 𝕄 := (thr d i).loc main_v212_scv ↦[reg w]{fullShare} f

/-- What an item holds between its output rows. -/
def RowsI (b : Fin 4) (zb yb : BitVec 32) (g t : Nat) : sProp 𝕄 :=
  iprop(levAts (K (F := F)).L (K (F := F)).lev ∗ pL d i lat ∗ pJ d i (jT cf lat b) ∗ pB d i (bandV x b zb.toNat yb.toNat) ∗ (∃ ob, pO d i ob)
    ∗ (∃ f, iprop(⌜OutOK (outV5 x cf lat) w g t f⌝ ∗ pOut d i w f)) ∗ semVal (thr d i, SemLoc.dma cc0_scoped3.sem) 0 ∗ Owe d i O W)

theorem owe_insert (sm : SemLoc sig) {W' : Waits sig (HIx 1)} (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

theorem wp_body2 (hO : ∀ g, O g none = 0) {g : Nat} {b : Fin 4} {a0 k0 : Nat} {v21 v23 v25 v32 zb yb : BitVec 32} (N : ItemNum g b a0 k0 v21 v23 v25 v32) (hw : g / 9 = w.val)
    (hw4 : k0_chk4 v23) (hw1 : k0_chk1 v25) (hw30 : k0_chk30 v25 v32) (t2 : Fin k0_t2_loop.trips)
    (hpt : ∀ t3 < 16, PtIn cf lat b zb yb ⟨a0 + t2.val, aOf_lt N t2⟩ (Fin.ofNat 96 (k0 + t3))) (acc : PUnit) :
    RowsI d i x cf lat w O W b zb yb g t2.val
      ⊢ WP d i (body2 i v23 v25 v32 hw4 hw1 hw30 (cf (ix2 b (cfi 0 1))) (cf (ix2 b (cfi 1 1))) (cf (ix2 b (cfi 2 1))) (cf (ix2 b (cfi 0 2))) (cf (ix2 b (cfi 1 2)))
          (cf (ix2 b (cfi 2 2))) (broadcast S16 (cf (ix2 b (cfi 0 3)))) (broadcast S16 (cf (ix2 b (cfi 1 3)))) (broadcast S16 (cf (ix2 b (cfi 2 3))))
          (broadcast S16 zb) (broadcast S16 yb) t2) fun _ => RowsI d i x cf lat w O W b zb yb g (t2.val + 1) := by
  have h2 := t2_lt t2
  have hiv := iv_toNat t2.val (by omega)
  have hk0 : k0 + 16 ≤ 96 := by obtain ⟨hg, hb, ha, hk, -, h23, h25, h32⟩ := N; omega
  have el : ∀ (h : ∀ a, (k0_off5 v23 t2) a + S16.size a ≤ S112.size a), lane0 (fun l => lat (ix1 (⟨k0_off5 v23 t2 0 + (l 0).val, by
        have h1 : (l 0).val < 16 := (l 0).isLt
        have h2 : k0_off5 v23 t2 0 + 16 ≤ 112 := h 0; omega⟩ : Fin 112))) = lat1 lat ⟨a0 + t2.val, aOf_lt N t2⟩ := by
    intro h
    show lat _ = lat _
    congr 2
    apply Fin.ext
    show (v23 + Scf.iv 0#32 1#32 t2.val).toNat + 0 = a0 + t2.val
    have := aOf_lt N t2
    rw [BitVec.toNat_add, hiv, N.h23]; omega
  unfold body2 RowsI Owe
  simp only [Prog.lift, Prog.bind_op, Prog.bind_ret]
  iintro ⟨#Hlv, HL, HJ, HB, ⟨%ob, HOb⟩, ⟨%f, ⟨%hf, HF⟩⟩, Hs, ⟨%W', %hW', HO⟩⟩
  iapply (wp_loadLat d i (k0_off5 v23 t2) (k0_off5_inb v23 hw4 t2)) $$ HL; iintro HL
  rw [el (k0_off5_inb v23 hw4 t2)]
  ihave HI : iprop(pL d i lat ∗ RowI d i x cf lat b zb yb ⟨a0 + t2.val, aOf_lt N t2⟩ k0 0 0) $$ [HL HJ HB HOb]
  · isplitl [HL]; · iexact HL
    unfold RowI
    isplitl [HJ]; · iexact HJ
    isplitl [HB]; · iexact HB
    iexists ob
    isplitr; · ipureintro; exact Done.zero _ _
    iexact HOb
  iapply (Scf.wp_for_bind frame (wpE (defs₀ (F := F)) 𝒱₀ (thr d i) none) Set.univ _ _ _ k0_t3_ok PUnit.unit _
    (fun t _ => iprop(pL d i lat ∗ RowI d i x cf lat b zb yb ⟨a0 + t2.val, aOf_lt N t2⟩ k0 t 0)) ?hb) $$ HI
  case hb =>
    intro t3 _
    iintro HI
    iapply (wp_body3 d i x cf lat b zb yb ⟨a0 + t2.val, aOf_lt N t2⟩ k0 v25 hw1 N.h25 hk0 t3 (hpt t3.val (t3_lt t3))) $$ HI
    iintro ⟨HL, HR⟩
    isplitl [HL]; · iexact HL
    unfold RowI
    icases HR with ⟨HJ, HB, ⟨%ob, ⟨%hd, HO⟩⟩⟩
    isplitl [HJ]; · iexact HJ
    isplitl [HB]; · iexact HB
    iexists ob
    isplitr; · ipureintro; exact hd.next
    iexact HO
  iintro %u HI
  unfold RowI
  icases HI with ⟨HL, HJ, HB, ⟨%ob', ⟨%hd, HOb⟩⟩⟩
  have hd' : Done (blkT x cf lat b ⟨a0 + t2.val, aOf_lt N t2⟩ k0) ob' 16 0 := hd
  ihave HOb' := (Entails.of_eq (show (pO d i ob' : sProp 𝕄) = (sO.view.loc (thr d i) ↦[sO.view.set]{fullShare} ob') by rw [show sO.view.set = Finset.univ from View.set_whole _])) $$ HOb
  iapply (Transfers.wp_dmaLocal EC 𝒱₀ (thr d i) none (src := sO) (dst := oRow v25 v32 hw30 t2) (sm := .dma cc0_scoped3.sem) (q := fullShare) (fs := ob') (Sd := reg w) (fd := f)
    none _ rfl (View.dmaCredit_pos _ (by decide)) (oRow_sub N hw30 t2 w hw)) $$ [HOb' HF Hs]
  · isplitl [HOb']; · iexact HOb'
    isplitl [HF]; · iexact HF
    iexact Hs
  iintro Hfl
  iapply (Transfers.wp_waitLocalO EC 𝒱₀ (thr d i) none none rfl) $$ [Hfl HO]
  · isplitl [Hfl]; · iexact Hfl
    isplitl [HO]; · iexact HO
    iapply ((K (F := F)).mayWait_none (SemLoc.dma cc0_scoped3.sem) hO); iexact Hlv
  iintro ⟨⟨HF, HOb⟩, Hs, HO⟩
  iapply (Entails.of_eq (wp_ret _ _ _ _ _).symm)
  imodintro
  isplitr; · iexact Hlv
  isplitl [HL]; · iexact HL
  isplitl [HJ]; · iexact HJ
  isplitl [HB]; · iexact HB
  isplitl [HOb]
  · iexists ob'
    iapply (Entails.of_eq (show (sO.view.loc (thr d i) ↦[sO.view.set]{fullShare} ob' : sProp 𝕄) = pO d i ob' by rw [show sO.view.set = Finset.univ from View.set_whole _])) $$ HOb
  isplitl [HF]
  · iexists ((oRow v25 v32 hw30 t2).view.write (Elt F) f ob' Finset.univ)
    isplitr
    · ipureintro; exact OutOK.row N x cf lat hw30 t2 w f ob' hd'.all hf
    · iexact HF
  isplitl [Hs]; · iexact Hs
  iexists (insert (SemLoc.dma cc0_scoped3.sem, (none : HIx 1)) W')
  isplitr; · ipureintro; exact owe_insert W _ hW'
  iexact HO

end Wp

end Cert.KernelIdeal.Stn
-- ==== Proof.Band.lean ====
/-
  The band of an item: its twenty-eight slabs, copied from the image together on one semaphore and waited for one by one.
-/
module

public import proofs.«01_k».proof.Proof.OutRow

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The slabs of the band -/

theorem mem_bDst (r : Fin 28) (p : S560x2x96.Idx) : p ∈ (bDst r).view.set ↔ (p 0).val / 20 = r.val := by
  have e : (bDst r).view.set = (Rect.unit (s := S560x2x96) ![20 * r.val, 0, 0] S20x2x96.size (brow_inb r)).set := View.set_slice_whole _ _
  rw [e, Rect.mem_set_unit]
  have p1 : (p 1).val < 2 := (p 1).isLt
  have p2 : (p 2).val < 96 := (p 2).isLt
  constructor
  · intro h
    have q0 : 20 * r.val ≤ (p 0).val ∧ (p 0).val < 20 * r.val + 20 := h 0
    omega
  · intro h a
    fin_cases a
    · show 20 * r.val ≤ (p 0).val ∧ (p 0).val < 20 * r.val + 20; omega
    · show 0 ≤ (p 1).val ∧ (p 1).val < 0 + 2; omega
    · show 0 ≤ (p 2).val ∧ (p 2).val < 0 + 96; omega

/-- The elements of slab `r`. -/
def slabSet (r : Fin 28) : Finset S560x2x96.Idx := (bDst r).view.set

theorem slab_disjoint : ∀ t ∈ (Finset.univ : Finset (Fin 28)), ∀ t' ∈ (Finset.univ : Finset (Fin 28)), t ≠ t' →
    Disjoint (slabSet t) (slabSet t') := by
  intro t _ t' _ h
  rw [Finset.disjoint_left]
  intro p h1 h2
  exact h (Fin.ext (((mem_bDst t p).mp h1).symm.trans ((mem_bDst t' p).mp h2)))

theorem slab_cover : (Finset.univ : Finset (Fin 28)).biUnion slabSet = Finset.univ := by
  refine Finset.eq_univ_iff_forall.mpr fun p => Finset.mem_biUnion.mpr ?_
  have p0 : (p 0).val < 560 := (p 0).isLt
  have hr : (p 0).val / 20 < 28 := by omega
  have hm : p ∈ slabSet ⟨(p 0).val / 20, hr⟩ := (mem_bDst ⟨(p 0).val / 20, hr⟩ p).mpr rfl
  exact ⟨⟨(p 0).val / 20, hr⟩, Finset.mem_univ _, hm⟩

/-- The numbers of a band: image, first grid lines. -/
structure BandNum (b : Fin 4) (v21 zb yb : BitVec 32) : Prop where
  h21 : v21.toNat = b.val
  hz : zb.toNat ≤ 68
  hy : yb.toNat ≤ 76

/-- What a slab's copy reads off the image. -/
theorem bSrc_read (x : FVec F S4x96x96x2x96 .f32) {b : Fin 4} {v21 zb yb : BitVec 32} (N : BandNum b v21 zb yb) (hw3 : k0_chk3 v21 zb yb) (r : Fin 28) (y : S20x2x96.Idx) :
    (bSrc v21 zb yb hw3 r).view.read (Elt F) x y = bandV x b zb.toNat yb.toNat ((bDst r).view.emb y) := by
  obtain ⟨h21, hz, hy⟩ := N
  have y0 : (y 0).val < 20 := (y 0).isLt
  have y1 : (y 1).val < 2 := (y 1).isLt
  have y2 : (y 2).val < 96 := (y 2).isLt
  have e : Shape.reshapeEquiv squeezes_S1x1x20x2x96_S20x2x96.numel_eq y
      = (ix5 (0 : Fin 1) (0 : Fin 1) (y 0) (y 1) (y 2) : S1x1x20x2x96.Idx) := by
    refine Shape.reshapeEquiv_eq_of_vals _ _ _ ((y 0).val * 192 + (y 1).val * 96 + (y 2).val) ((y 0).val * 192 + (y 1).val * 96 + (y 2).val) ?_ ?_ rfl
    · exact (rowMajor_val5 _ 3840 3840 192 96 rfl rfl rfl rfl).trans (by show 0 * 3840 + 0 * 3840 + (y 0).val * 192 + (y 1).val * 96 + (y 2).val = _; omega)
    · exact rowMajor_val3 y 192 96 rfl rfl
  show x ((Rect.unit (s := S4x96x96x2x96) (k0_off4 v21 zb yb (BitVec.ofNat 32 r.val)) S1x1x20x2x96.size (k0_off4_inb v21 zb yb hw3 r)).emb
    (Shape.reshapeEquiv squeezes_S1x1x20x2x96_S20x2x96.numel_eq y)) = _
  rw [e]
  have d0 : ((bDst r).view.emb y 0).val = 20 * r.val + 1 * (y 0).val := rfl
  have d1 : ((bDst r).view.emb y 1).val = 0 + 1 * (y 1).val := rfl
  have d2 : ((bDst r).view.emb y 2).val = 0 + 1 * (y 2).val := rfl
  have hr := r.isLt
  have hzr : (zb + BitVec.ofNat 32 r.val).toNat = zb.toNat + r.val := by
    rw [BitVec.toNat_add, BitVec.toNat_ofNat]; omega
  unfold bandV
  congr 1
  funext a; apply Fin.ext
  fin_cases a
  · show v21.toNat + 1 * 0 = b.val; omega
  · show (zb + BitVec.ofNat 32 r.val).toNat + 1 * 0 = (zb.toNat + ((bDst r).view.emb y 0).val / 20) % 96
    rw [hzr, d0]; omega
  · show yb.toNat + 1 * (y 0).val = (yb.toNat + ((bDst r).view.emb y 0).val % 20) % 96
    rw [d0]; omega
  · show 0 + 1 * (y 1).val = ((bDst r).view.emb y 1).val
    rw [d1]
  · show 0 + 1 * (y 2).val = ((bDst r).view.emb y 2).val
    rw [d2]

section Wp

variable (d : Dev nD) (i : grid0.Coords)
variable (x : FVec F S4x96x96x2x96 .f32) (qx : PosShare TreeShare)
variable (O : CellTallies nD τ sig (HIx 1)) (W : Waits sig (HIx 1))
variable {b : Fin 4} {v21 zb yb : BitVec 32} (hw3 : k0_chk3 v21 zb yb)

/-- The image, at a share. -/
abbrev pX (q : PosShare TreeShare) : sProp 𝕄 := (thr d i).loc main_v211_scv ↦{q} x

/-- Slab `r` of the image, at its own share, and slab `r` of the band. -/
def srcP (r : Fin 28) : sProp 𝕄 := (thr d i).loc main_v211_scv ↦[(bSrc v21 zb yb hw3 r).view.set]{shareTok qx 28 r} x
def dstP (f : FVec F S560x2x96 .f32) (r : Fin 28) : sProp 𝕄 := (thr d i).loc cc0_scratch4 ↦[(bDst r).view.set]{fullShare} f
/-- What the image keeps while slab `r` is being copied. -/
def keepP (r : Fin 28) : sProp 𝕄 := (thr d i).loc main_v211_scv ↦[Finset.univ \ (bSrc v21 zb yb hw3 r).view.set]{shareTok qx 28 r} x

theorem pX_deal : pX d i x qx ⊢ iprop(((thr d i).loc main_v211_scv ↦{shareDrop qx 28} x) ∗ bigSep Finset.univ (srcP d i x qx hw3) ∗ bigSep Finset.univ (keepP d i x qx hw3)) := by
  refine (pointsTo_toks_split qx 28).trans (sep_mono_r ?_)
  rw [← bigSep_sep']
  exact bigSep_mono fun r _ => (pointsTo_split_subset (Finset.subset_univ _)).1

theorem pX_back : iprop(((thr d i).loc main_v211_scv ↦{shareDrop qx 28} x) ∗ bigSep Finset.univ (srcP d i x qx hw3) ∗ bigSep Finset.univ (keepP d i x qx hw3)) ⊢ pX d i x qx := by
  refine (sep_mono_r ?_).trans (pointsTo_toks_join qx 28)
  rw [← bigSep_sep']
  exact bigSep_mono fun r _ => (pointsTo_split_subset (Finset.subset_univ _)).2

theorem pB_slabs (f : FVec F S560x2x96 .f32) : pB d i f = bigSep Finset.univ (fun r : Fin 28 => (thr d i).loc cc0_scratch4 ↦[slabSet r]{fullShare} f) := by
  rw [← pointsTo_biUnion Finset.univ (ℓ := (thr d i).loc cc0_scratch4) slabSet slab_disjoint, slab_cover]

theorem pB_dst (f : FVec F S560x2x96 .f32) : pB d i f = bigSep Finset.univ (dstP d i f) := pB_slabs d i f

/-- What the copy of a slab delivers: the slab of the band, and the image's back. -/
def delP (b : Fin 4) (r : Fin 28) : sProp 𝕄 := iprop(dstP d i (bandV x b zb.toNat yb.toNat) r ∗ srcP d i x qx hw3 r)

instance delP_storable (r : Fin 28) : Storable (upEmb : UEmb _ 𝕄) (delP d i x qx hw3 b r) := by
  unfold delP dstP srcP; infer_instance

def slabN : ℕ := (bDst 0).view.dmaCredit

theorem slabN_pos : 0 < slabN := View.dmaCredit_pos _ (by decide)
theorem slab_amount (r : Fin 28) : (bDst r).view.amount (.dma cc0_scratch6.sem) = slabN := rfl
theorem slab_credit (r : Fin 28) : (bDst r).view.dmaCredit = slabN := rfl
attribute [irreducible] slabN

theorem delP_of (N : BandNum b v21 zb yb) (fb : FVec F S560x2x96 .f32) (r : Fin 28) :
    iprop(((bDst r).view.loc (thr d i) ↦[(bDst r).view.set]{fullShare} ((bDst r).view.write (Elt F) fb ((bSrc v21 zb yb hw3 r).view.read (Elt F) x) Finset.univ))
      ∗ ((bSrc v21 zb yb hw3 r).view.loc (thr d i) ↦[(bSrc v21 zb yb hw3 r).view.set]{shareTok qx 28 r} x)) ⊢ delP d i x qx hw3 b r := by
  unfold delP dstP srcP
  refine sep_mono (Entails.of_eq ?_) .rfl
  refine pointsTo_congr fun p hp => ?_
  obtain ⟨y, hy⟩ : ∃ y, (bDst r).view.emb y = p := by
    have := hp; rw [View.set] at this; simpa using this
  rw [← hy, View.write_emb, if_pos (Finset.mem_univ _)]
  exact bSrc_read x N hw3 r y

abbrev BAT (b : Fin 4) (j u : ℕ) : sProp 𝕄 := Batch EC (thr d i) (SemLoc.dma cc0_scratch6.sem) none slabN (delP d i x qx hw3 b) j u

theorem wp_copyB (N : BandNum b v21 zb yb) (fb : FVec F S560x2x96 .f32) (j : ℕ) (hj : j < 28) {hsrc hdst hsem} {k : PUnit.{1} → TProg (F := F) i PUnit} {Q : PUnit → sProp 𝕄} :
    iprop(srcP d i x qx hw3 ⟨j, hj⟩ ∗ dstP d i fb ⟨j, hj⟩ ∗ BAT d i x qx hw3 b j 0)
      ⊢ iprop((BAT d i x qx hw3 b (j + 1) 0 -∗ WP d i (k ⟨⟩) Q)
        -∗ WP d i (.op (.enqueueDma (bSrc v21 zb yb hw3 ⟨j, hj⟩) (.here (bDst ⟨j, hj⟩)) (.dma cc0_scratch6.sem) hsrc hdst hsem) k) Q) :=
  wp_dmaBatch EC 𝒱₀ (thr d i) none (src := bSrc v21 zb yb hw3 ⟨j, hj⟩) (dst := bDst ⟨j, hj⟩) (via := .same) (sm := .dma cc0_scratch6.sem) (q := shareTok qx 28 ⟨j, hj⟩) (fs := x)
    (Sd := (bDst ⟨j, hj⟩).view.set) (fd := fb) (D := delP d i x qx hw3 b) (j := j) (u := 0) none slabN (slab_amount _) (Finset.Subset.refl _) hj (Nat.zero_le _)
    (delP_of d i x qx hw3 N fb ⟨j, hj⟩)

theorem wp_waitB (r : Fin 28) (u : ℕ) (hu : u + slabN < slabN * 28) {W' : Waits sig (HIx 1)} {hsrc hdst} {k : PUnit.{1} → TProg (F := F) i PUnit} {Q : PUnit → sProp 𝕄} :
    iprop(BAT d i x qx hw3 b 28 u ∗ owes (thr d i) O W' ∗ MayWait (thr d i) (.dma cc0_scratch6.sem) none O)
      ⊢ iprop((iprop(BAT d i x qx hw3 b 28 (u + slabN) ∗ owes (thr d i) O (insert (SemLoc.dma cc0_scratch6.sem, none) W')) -∗ WP d i (k ⟨⟩) Q)
        -∗ WP d i (.op (.waitDma2 cc0_scratch6.sem (bSrc v21 zb yb hw3 r) (bDst r) hsrc hdst) k) Q) :=
  wp_waitBatchO EC 𝒱₀ (thr d i) none (srcw := bSrc v21 zb yb hw3 r) (dstw := bDst r) none (slab_credit r) (D := delP d i x qx hw3 b) hu

theorem wp_waitBLast (r : Fin 28) (u : ℕ) (hu : u + slabN = slabN * 28) {W' : Waits sig (HIx 1)} {hsrc hdst} {k : PUnit.{1} → TProg (F := F) i PUnit} {Q : PUnit → sProp 𝕄} :
    iprop(BAT d i x qx hw3 b 28 u ∗ owes (thr d i) O W' ∗ MayWait (thr d i) (.dma cc0_scratch6.sem) none O)
      ⊢ iprop((iprop(bigSep Finset.univ (delP d i x qx hw3 b) ∗ semVal (thr d i, SemLoc.dma cc0_scratch6.sem) 0 ∗ owes (thr d i) O (insert (SemLoc.dma cc0_scratch6.sem, none) W')) -∗ WP d i (k ⟨⟩) Q)
        -∗ WP d i (.op (.waitDma2 cc0_scratch6.sem (bSrc v21 zb yb hw3 r) (bDst r) hsrc hdst) k) Q) :=
  wp_waitBatchLastO EC 𝒱₀ (thr d i) none (srcw := bSrc v21 zb yb hw3 r) (dstw := bDst r) none (slab_credit r) slabN_pos (D := delP d i x qx hw3 b) hu

theorem wp_issue (N : BandNum b v21 zb yb) (fb : FVec F S560x2x96 .f32) {k : TProg (F := F) i PUnit} {Q : PUnit → sProp 𝕄} :
    ∀ (m j : ℕ), j + m = 28 → ∀ (l : List (Fin 28)), (l = (List.finRange 28).drop j) →
    iprop(bigSep (pending j) (srcP d i x qx hw3) ∗ bigSep (pending j) (dstP d i fb) ∗ BAT d i x qx hw3 b j 0)
      ⊢ iprop((BAT d i x qx hw3 b 28 0 -∗ WP d i k Q) -∗ WP d i (issue i v21 zb yb hw3 l k) Q) := by
  intro m
  induction m with
  | zero =>
    intro j hj l hl
    obtain rfl : j = 28 := by omega
    have : l = [] := by rw [hl]; rfl
    subst this
    iintro ⟨-, -, HB⟩ Hk
    unfold issue
    iapply Hk $$ HB
  | succ m ih =>
    intro j hj l hl
    have hj' : j < 28 := by omega
    have : l = ⟨j, hj'⟩ :: (List.finRange 28).drop (j + 1) := by
      rw [hl, List.drop_eq_getElem_cons (by simpa using hj')]; simp
    subst this
    rw [bigSep_pending_step _ j hj', bigSep_pending_step _ j hj']
    iintro ⟨⟨Hs, HS⟩, ⟨Hd, HD⟩, HB⟩ Hk
    unfold issue
    iapply (wp_copyB d i x qx hw3 N fb j hj') $$ [Hs Hd HB]
    · isplitl [Hs]; · iexact Hs
      isplitl [Hd]; · iexact Hd
      iexact HB
    iintro HB
    iapply (ih (j + 1) (by omega) _ rfl) $$ [HS HD HB] Hk
    isplitl [HS]; · iexact HS
    isplitl [HD]; · iexact HD
    iexact HB

theorem wp_await (hO : ∀ g, O g none = 0) {k : TProg (F := F) i PUnit} {Q : PUnit → sProp 𝕄} :
    ∀ (m j : ℕ), j + (m + 1) = 28 → ∀ (l : List (Fin 28)), (l = (List.finRange 28).drop j) →
    iprop(levAts (K (F := F)).L (K (F := F)).lev ∗ BAT d i x qx hw3 b 28 (j * slabN) ∗ Owe d i O W)
      ⊢ iprop((iprop(bigSep Finset.univ (delP d i x qx hw3 b) ∗ semVal (thr d i, SemLoc.dma cc0_scratch6.sem) 0 ∗ Owe d i O W) -∗ WP d i k Q)
        -∗ WP d i (await i v21 zb yb hw3 l k) Q) := by
  intro m
  induction m with
  | zero =>
    intro j hj l hl
    obtain rfl : j = 27 := by omega
    have : l = [27] := by rw [hl]; rfl
    subst this
    unfold Owe
    iintro ⟨#Hlv, HB, ⟨%W', %hW', HO⟩⟩ Hk
    unfold await await
    iapply (wp_waitBLast d i x qx O hw3 27 (27 * slabN) (by omega)) $$ [HB HO]
    · isplitl [HB]; · iexact HB
      isplitl [HO]; · iexact HO
      iapply ((K (F := F)).mayWait_none (SemLoc.dma cc0_scratch6.sem) hO); iexact Hlv
    iintro ⟨HD, Hs, HO⟩
    iapply Hk
    isplitl [HD]; · iexact HD
    isplitl [Hs]; · iexact Hs
    iexists (insert (SemLoc.dma cc0_scratch6.sem, (none : HIx 1)) W')
    isplitr; · ipureintro; exact owe_insert W _ hW'
    iexact HO
  | succ m ih =>
    intro j hj l hl
    have hj' : j < 28 := by omega
    have : l = ⟨j, hj'⟩ :: (List.finRange 28).drop (j + 1) := by
      rw [hl, List.drop_eq_getElem_cons (by simpa using hj')]; simp
    subst this
    have hp := slabN_pos
    have hu : j * slabN + slabN < slabN * 28 := by
      have : (j + 1) * slabN < 28 * slabN := Nat.mul_lt_mul_of_pos_right (by omega) hp
      rw [Nat.add_mul, Nat.one_mul] at this; rw [Nat.mul_comm slabN 28]; exact this
    iintro ⟨#Hlv, HB, HO⟩ Hk
    unfold Owe
    icases HO with ⟨%W', %hW', HO⟩
    unfold await
    iapply (wp_waitB d i x qx O hw3 ⟨j, hj'⟩ (j * slabN) hu) $$ [HB HO]
    · isplitl [HB]; · iexact HB
      isplitl [HO]; · iexact HO
      iapply ((K (F := F)).mayWait_none (SemLoc.dma cc0_scratch6.sem) hO); iexact Hlv
    iintro ⟨HB, HO⟩
    have e : (j + 1) * slabN = j * slabN + slabN := by rw [Nat.add_mul, Nat.one_mul]
    have ih' := ih (j + 1) (by omega) _ rfl
    rw [e] at ih'
    unfold Owe at ih'
    iapply ih' $$ [HB HO] Hk
    isplitr; · iexact Hlv
    isplitl [HB]; · iexact HB
    iexists (insert (SemLoc.dma cc0_scratch6.sem, (none : HIx 1)) W')
    isplitr; · ipureintro; exact owe_insert W _ hW'
    iexact HO

end Wp

end Cert.KernelIdeal.Stn
-- ==== Proof.Table.lean ====
/-
  The row table of an item: for each group of sixteen output columns, the lattice times the leading coefficient of each
  axis, row by row.
-/
module

public import proofs.«01_k».proof.Proof.Inner

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The row table holds its final rows below `n`. -/
def Rows (cf : FVec F S4x16 .f32) (lat : FVec F S112 .f32) (b : Fin 4) (n : Nat) (f : FVec F S18x16 .f32) : Prop :=
  ∀ p, (p 0).val < n → f p = jT cf lat b p

theorem Rows.all {cf : FVec F S4x16 .f32} {lat : FVec F S112 .f32} {b : Fin 4} {f : FVec F S18x16 .f32} (h : Rows cf lat b 18 f) : f = jT cf lat b :=
  funext fun p => h p (p 0).isLt

theorem mem_jrow (n : Fin 18) (p : S18x16.Idx) : p ∈ (sJ.access (jrow n)).set ↔ (p 0).val = n.val := by
  have e : (sJ.access (jrow n)).set = (jrow n).set := View.set_slice_whole _ _
  rw [e, Rect.mem_set_unit]
  have p1 : (p 1).val < 16 := (p 1).isLt
  constructor
  · intro h
    have q0 : n.val ≤ (p 0).val ∧ (p 0).val < n.val + 1 := h 0
    omega
  · intro h a
    fin_cases a
    · show n.val ≤ (p 0).val ∧ (p 0).val < n.val + 1; omega
    · show 0 ≤ (p 1).val ∧ (p 1).val < 0 + 16; omega

/-- Storing a row's final lanes. -/
theorem Rows.put {cf : FVec F S4x16 .f32} {lat : FVec F S112 .f32} {b : Fin 4} {f : FVec F S18x16 .f32} (n : Fin 18) {v : FVec F S16 .f32}
    (hv : ∀ l, v l = jT cf lat b (ix2 n (l 0))) (h : Rows cf lat b n.val f) :
    Rows cf lat b (n.val + 1) ((sJ.access (jrow n)).write (Elt F) f (shapeCast S1x16 v shapeCasts_S16_S1x16) Finset.univ) := by
  intro p hp
  by_cases hm : p ∈ (sJ.access (jrow n)).set
  · have h0 := (mem_jrow n p).mp hm
    obtain ⟨y, hy⟩ : ∃ y, (sJ.access (jrow n)).emb y = p := by
      have := hm; rw [View.set] at this; simpa using this
    have e : Shape.reshapeEquiv (s := S16) (s' := S1x16) shapeCasts_S16_S1x16 y = ix1 (y 1) :=
      Shape.reshapeEquiv_eq_of_vals _ _ _ (y 1).val ((y 0).val * 16 + (y 1).val) (rowMajor_val1 _) (rowMajor_val2 _ 16 rfl) (by
        have : (y 0).val < 1 := (y 0).isLt
        omega)
    have e1 : (p 1).val = 0 + 1 * (y 1).val := by rw [← hy]; rfl
    have ep : p = ix2 n (y 1) := by
      funext a; apply Fin.ext
      fin_cases a
      · exact h0
      · show (p 1).val = (y 1).val; omega
    rw [← hy, View.write_emb, if_pos (Finset.mem_univ _), hy]
    show v (Shape.reshapeEquiv (s := S16) (s' := S1x16) shapeCasts_S16_S1x16 y) = _
    rw [e, ep]
    exact hv (ix1 (y 1))
  · rw [View.write_of_not_mem]
    · exact h p (by
        have : (p 0).val ≠ n.val := fun e => hm ((mem_jrow n p).mpr e)
        omega)
    · exact hm

variable (d : Dev nD) (i : grid0.Coords)

theorem wp_loadJ {jt : FVec F S18x16 .f32} (n : Fin 18) {hl} {k : Vec F S1x16 .f32 → TProg (F := F) i PUnit} {Q : PUnit → sProp 𝕄} :
    pJ d i jt ⊢ iprop((pJ d i jt -∗ WP d i (k (sJ.view.readAt (Elt F) (jrow n).toLoadRect jt)) Q) -∗ WP d i (.op (.load sJ (jrow n).toLoadRect hl) k) Q) :=
  wp_load 𝒱₀ (thr d i) none Set.univ (m := sJ) (r := (jrow n).toLoadRect) (S := Finset.univ) (Finset.subset_univ _)

theorem wp_storeJ {jt : FVec F S18x16 .f32} (n : Fin 18) {hx hm} {v : Vec F S1x16 .f32} {k : PUnit.{1} → TProg (F := F) i PUnit} {Q : PUnit → sProp 𝕄} :
    pJ d i jt ⊢ iprop((pJ d i ((sJ.access (jrow n)).write (Elt F) jt v Finset.univ) -∗ WP d i (k ⟨⟩) Q) -∗ WP d i (.op (.store sJ (jrow n) v Finset.univ hx hm) k) Q) :=
  wp_store 𝒱₀ (thr d i) none Set.univ (m := sJ) (r := jrow n) (Mk := Finset.univ) (S := Finset.univ) (Finset.subset_univ _)

/-- A row of the row table, stored. -/
theorem wp_putRow {f : FVec F S18x16 .f32} (n : Fin 18) (lv : FVec F S16 .f32) (t : F .f32) {k : PUnit.{1} → TProg (F := F) i PUnit} {Q : PUnit → sProp 𝕄} :
    pJ d i f ⊢ iprop((pJ d i ((sJ.access (jrow n)).write (Elt F) f (shapeCast S1x16 (mulf lv (broadcast S16 t)) shapeCasts_S16_S1x16) Finset.univ) -∗ WP d i (k ⟨⟩) Q)
      -∗ WP d i (putRow i n lv t >>= k) Q) := by
  unfold putRow
  simp only [Prog.lift, Prog.bind_op, Prog.bind_ret]
  iintro HJ Hk
  iapply (wp_loadJ d i n) $$ HJ; iintro HJ
  iapply (wp_storeJ d i n) $$ HJ
  iexact Hk

section Grp

variable (cf : FVec F S4x16 .f32) (lat : FVec F S112 .f32) (b : Fin 4)

/-- The lattice points of column group `q`. -/
abbrev latG (q : Fin 6) : FVec F S16 .f32 := fun l => lat (ix1 (⟨(![16 * q.val] : Fin 1 → Nat) 0 + (l 0).val, by
  have h1 : (l 0).val < 16 := (l 0).isLt
  have h2 : (![16 * q.val] : Fin 1 → Nat) 0 + 16 ≤ 112 := lgrp_inb q 0
  omega⟩ : Fin 112))

theorem lane_jT (n : Fin 18) (q : Fin 6) (u : Fin 3) (hn : n.val = 3 * q.val + u.val) (l : S16.Idx) :
    mulf (latG lat q) (broadcast S16 (cf (ix2 b (cfi u 0)))) l = jT cf lat b (ix2 n (l 0)) := by
  have e3 : n.val / 3 = q.val := by omega
  have e4 : n.val % 3 = u.val := by omega
  rw [mulV_at]
  show mul1 (lat _) (cf _) = mul1 (lat _) (cf _)
  congr 2
  · congr 1
    apply Fin.ext
    show 16 * q.val + (l 0).val = 16 * (n.val / 3) + (l 0).val
    omega
  · congr 1
    apply Fin.ext
    show 4 * u.val + 0 = 4 * (n.val % 3) + 0
    omega

/-- The three rows of a column group. -/
theorem wp_putGrp (q : Fin 6) (n0 n1 n2 : Fin 18) (m m' : Nat) (hm : 3 * q.val = m) (hm' : 3 * q.val + 3 = m') (h0 : n0.val = 3 * q.val) (h1 : n1.val = 3 * q.val + 1) (h2 : n2.val = 3 * q.val + 2)
    {k : PUnit.{1} → TProg (F := F) i PUnit} {Q : PUnit → sProp 𝕄} :
    iprop(pL d i lat ∗ ∃ f, iprop(⌜Rows cf lat b m f⌝ ∗ pJ d i f))
      ⊢ iprop((iprop(pL d i lat ∗ ∃ f, iprop(⌜Rows cf lat b m' f⌝ ∗ pJ d i f)) -∗ WP d i (k ⟨⟩) Q)
        -∗ WP d i (putGrp i q n0 n1 n2 (cf (ix2 b (cfi 0 0))) (cf (ix2 b (cfi 1 0))) (cf (ix2 b (cfi 2 0))) >>= k) Q) := by
  subst hm; subst hm'
  unfold putGrp
  simp only [Prog.lift, Prog.bind_op, Prog.bind_ret, bind_assoc]
  iintro ⟨HL, ⟨%f, ⟨%hf, HJ⟩⟩⟩ Hk
  iapply (wp_loadLat d i ![16 * q.val] (lgrp_inb q)) $$ HL; iintro HL
  iapply (wp_putRow d i n0) $$ HJ; iintro HJ
  iapply (wp_putRow d i n1) $$ HJ; iintro HJ
  iapply (wp_putRow d i n2) $$ HJ; iintro HJ
  iapply Hk
  isplitl [HL]; · iexact HL
  iexists ((sJ.access (jrow n2)).write (Elt F) ((sJ.access (jrow n1)).write (Elt F) ((sJ.access (jrow n0)).write (Elt F) f (shapeCast S1x16 (mulf (latG lat q) (broadcast S16 (cf (ix2 b (cfi 0 0))))) shapeCasts_S16_S1x16) Finset.univ) (shapeCast S1x16 (mulf (latG lat q) (broadcast S16 (cf (ix2 b (cfi 1 0))))) shapeCasts_S16_S1x16) Finset.univ) (shapeCast S1x16 (mulf (latG lat q) (broadcast S16 (cf (ix2 b (cfi 2 0))))) shapeCasts_S16_S1x16) Finset.univ)
  isplitr [HJ]
  rotate_left
  · iexact HJ
  ipureintro
  have g0 := Rows.put n0 (lane_jT cf lat b n0 q 0 h0) (f := f) (by rw [h0]; exact hf)
  rw [show n0.val + 1 = n1.val by omega] at g0
  have g1 := Rows.put n1 (lane_jT cf lat b n1 q 1 h1) g0
  rw [show n1.val + 1 = n2.val by omega] at g1
  have g2 := Rows.put n2 (lane_jT cf lat b n2 q 2 h2) g1
  rw [show n2.val + 1 = 3 * q.val + 3 by omega] at g2
  exact g2

end Grp

end Cert.KernelIdeal.Stn
-- ==== Proof.Item.lean ====
/-
  One item of a task: its words, its coefficients, the band and the row table, and its eight output rows.
-/
module

public import proofs.«01_k».proof.Proof.Band
public import proofs.«01_k».proof.Proof.Table

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The words of an item -/

theorem t1_lt (t1 : Fin k0_t1_loop.trips) : t1.val < 9 := lt_of_lt_of_eq t1.isLt (by decide)

theorem word_at (n : Fin 16) (pm : IVec S9x16 32) (t1 : Fin k0_t1_loop.trips) :
    word (F := F) n (sP.view.readAt (Elt F) (Rect.unit (s := S9x16) (k0_off2 t1) S1x16.size (k0_off2_inb t1)).toLoadRect pm) = pm (ix2 (⟨t1.val, t1_lt t1⟩ : Fin 9) n) := by
  have hiv := iv_toNat t1.val (by have := t1_lt t1; omega)
  have e : Shape.reshapeEquiv (s := S1x16) (s' := S16) shapeCasts_S1x16_S16 (ix1 n) = ix2 (0 : Fin 1) n :=
    Shape.reshapeEquiv_eq_of_vals _ _ _ (0 * 16 + n.val) n.val (rowMajor_val2 _ 16 rfl) (rowMajor_val1 _) (by omega)
  have e0 : word (F := F) n (sP.view.readAt (Elt F) (Rect.unit (s := S9x16) (k0_off2 t1) S1x16.size (k0_off2_inb t1)).toLoadRect pm)
      = pm ((Rect.unit (s := S9x16) (k0_off2 t1) S1x16.size (k0_off2_inb t1)).toLoadRect.idx (Shape.reshapeEquiv (s := S1x16) (s' := S16) shapeCasts_S1x16_S16 (ix1 n))) := by
    unfold word
    show pm _ = pm _
    congr 2
  rw [e0, e]
  congr 1
  funext a; apply Fin.ext
  fin_cases a
  · show (Scf.iv 0#32 1#32 t1.val).toNat + 1 * 0 = t1.val
    rw [hiv]; omega
  · show 0 + 1 * n.val = n.val; omega

theorem lane_at (n : Fin 16) (v : FVec F S16 .f32) : lane n v = v (ix1 n) := by
  unfold lane
  show v _ = v _
  congr 1
  funext a; apply Fin.ext
  fin_cases a
  show n.val + 0 = n.val; omega

/-- The checks of an item pass. -/
theorem chk2_of {b : Fin 4} {v21 : BitVec 32} (h : v21.toNat = b.val) : k0_chk2 v21 := by
  intro a; have := b.isLt
  fin_cases a
  · show v21.toNat + 1 ≤ 4; omega
  · show 0 + 16 ≤ 16; omega

section Pure
variable {g : Nat} {b : Fin 4} {a0 k0 : Nat} {v21 v23 v25 v32 : BitVec 32} (N : ItemNum g b a0 k0 v21 v23 v25 v32)
include N

theorem chk4_of : k0_chk4 v23 := by
  intro t2 a
  have h2 := t2_lt t2
  have hiv := iv_toNat t2.val (by omega)
  have ha := aOf_lt N t2
  obtain rfl : a = 0 := Fin.eq_zero a
  show (v23 + Scf.iv 0#32 1#32 t2.val).toNat + 16 ≤ 112
  rw [BitVec.toNat_add, hiv, N.h23]; omega

theorem chk1_of : k0_chk1 v25 := by
  have hk : k0 + 16 ≤ 96 ∧ 16 ∣ k0 := by obtain ⟨hg, hb, ha, hk, -, h23, h25, h32⟩ := N; omega
  refine ⟨?_, ?_⟩
  · show 16 ∣ v25.toNat
    rw [N.h25]; exact hk.2
  · intro t3 a
    have h3 := t3_lt t3
    have hiv := iv_toNat t3.val (by omega)
    obtain rfl : a = 0 := Fin.eq_zero a
    show (v25 + Scf.iv 0#32 1#32 t3.val).toNat + 16 ≤ 112
    rw [BitVec.toNat_add, hiv, N.h25]; omega

theorem chk30_of : k0_chk30 v25 v32 := by
  have hk : k0 + 16 ≤ 96 := by obtain ⟨hg, hb, ha, hk, -, h23, h25, h32⟩ := N; omega
  intro t2 a
  have ha := aOf_lt N t2
  have o := off7_0 N t2
  have hb := b.isLt
  fin_cases a
  · show k0_off7 v25 v32 t2 0 + 96 ≤ 36864
    rw [o]; omega
  · show 0 + 2 ≤ 2; omega
  · show v25.toNat + 16 ≤ 96
    rw [N.h25]; omega

end Pure

theorem chk3_of {b : Fin 4} {v21 zb yb : BitVec 32} (N : BandNum b v21 zb yb) : k0_chk3 v21 zb yb := by
  obtain ⟨h21, hz, hy⟩ := N
  intro r a
  have hb := b.isLt
  have hr := r.isLt
  have hzr : (zb + BitVec.ofNat 32 r.val).toNat = zb.toNat + r.val := by
    rw [BitVec.toNat_add, BitVec.toNat_ofNat]; omega
  fin_cases a
  · show v21.toNat + 1 ≤ 4; omega
  · show (zb + BitVec.ofNat 32 r.val).toNat + 1 ≤ 96; omega
  · show yb.toNat + 20 ≤ 96; omega
  · show 0 + 2 ≤ 2; omega
  · show 0 + 96 ≤ 96; omega

/-- An item's coefficients, read off the coefficient table. -/
theorem cSrc_read (cf : FVec F S4x16 .f32) {b : Fin 4} {v21 : BitVec 32} (h : v21.toNat = b.val) (hw2 : k0_chk2 v21) (l : S16.Idx) :
    (cSrc v21 hw2).view.read (Elt F) cf l = cf (ix2 b (l 0)) := by
  have e : Shape.reshapeEquiv squeezes_S1x16_S16.numel_eq l = (ix2 (0 : Fin 1) (l 0) : S1x16.Idx) :=
    Shape.reshapeEquiv_eq_of_vals _ _ _ (0 * 16 + (l 0).val) (l 0).val (rowMajor_val2 _ 16 rfl) (rowMajor_val1 _) (by omega)
  show cf ((Rect.unit (s := S4x16) (k0_off3 v21) S1x16.size (k0_off3_inb v21 hw2)).emb (Shape.reshapeEquiv squeezes_S1x16_S16.numel_eq l)) = _
  rw [e]
  congr 1
  funext a; apply Fin.ext
  fin_cases a
  · show v21.toNat + 1 * 0 = b.val; omega
  · show 0 + 1 * (l 0).val = (l 0).val; omega

theorem OutOK.next {Y : FVec F S36864x2x96 .f32} {w : Fin 32} {g : Nat} {f : FVec F S36864x2x96 .f32} (h : OutOK Y w g 8 f) : OutOK Y w (g + 1) 0 f := by
  intro p hp hc
  exact h p hp (by omega)

theorem OutOK.all {Y : FVec F S36864x2x96 .f32} {w : Fin 32} {f : FVec F S36864x2x96 .f32} (h : OutOK Y w (9 * w.val + 9) 0 f) : ∀ p ∈ reg w, f p = Y p := by
  intro p hp
  have := (mem_reg w p).mp hp
  exact h p hp (by omega)

theorem OutOK.start (Y : FVec F S36864x2x96 .f32) (w : Fin 32) (f : FVec F S36864x2x96 .f32) : OutOK Y w (9 * w.val) 0 f := by
  intro p hp hc
  have := (mem_reg w p).mp hp
  omega

/-! ## The item -/

/-- The words a task holds name its nine items, their bands the first grid lines `zb`, `yb`. -/
structure Words (w : Fin 32) (zb yb : Nat → BitVec 32) (pm : IVec S9x16 32) : Prop where
  w0 : ∀ t : Fin 9, (pm (ix2 t 0)).toNat = (9 * w.val + t.val) / 72
  w1 : ∀ t : Fin 9, (pm (ix2 t 1)).toNat = (9 * w.val + t.val) % 72 / 6 * 8
  w2 : ∀ t : Fin 9, (pm (ix2 t 2)).toNat = (9 * w.val + t.val) % 6 * 16
  w3 : ∀ t : Fin 9, pm (ix2 t 3) = zb (9 * w.val + t.val)
  w4 : ∀ t : Fin 9, pm (ix2 t 4) = yb (9 * w.val + t.val)
  w5 : ∀ t : Fin 9, (pm (ix2 t 5)).toNat = (9 * w.val + t.val) / 72 * 96 + (9 * w.val + t.val) % 72 / 6 * 8

/-- Every item's sampling points lie in its band. -/
structure Hyp (cf : FVec F S4x16 .f32) (lat : FVec F S112 .f32) (zb yb : Nat → BitVec 32) : Prop where
  hz : ∀ g < 288, (zb g).toNat ≤ 68
  hy : ∀ g < 288, (yb g).toNat ≤ 76
  pt : ∀ (g : Nat) (hg : g < 288) (u : Fin 8) (v : Fin 16), PtIn cf lat ⟨g / 72, by omega⟩ (zb g) (yb g) (Fin.ofNat 96 (g % 72 / 6 * 8 + u.val)) (Fin.ofNat 96 (g % 6 * 16 + v.val))

section Wp

variable (d : Dev nD) (i : grid0.Coords)
variable (x : FVec F S4x96x96x2x96 .f32) (cf : FVec F S4x16 .f32) (lat : FVec F S112 .f32) (w : Fin 32) (qx qc : PosShare TreeShare)
variable (O : CellTallies nD τ sig (HIx 1)) (W : Waits sig (HIx 1)) (zb yb : Nat → BitVec 32) (pm : IVec S9x16 32)

/-- The coefficient table, at a share. -/
abbrev pCo : sProp 𝕄 := (thr d i).loc main_v4_scv ↦{qc} cf

/-- What a task holds between its items. -/
def ItemI (g : Nat) : sProp 𝕄 :=
  iprop(levAts (K (F := F)).L (K (F := F)).lev ∗ pP d i pm ∗ pL d i lat ∗ (∃ c, pC d i c) ∗ (∃ j, pJ d i j) ∗ (∃ f, pB d i f) ∗ (∃ ob, pO d i ob)
    ∗ pX d i x qx ∗ pCo d i cf qc ∗ (∃ f, iprop(⌜OutOK (outV5 x cf lat) w g 0 f⌝ ∗ pOut d i w f))
    ∗ semVal (thr d i, SemLoc.dma cc0_scratch6.sem) 0 ∗ semVal (thr d i, SemLoc.dma cc0_scoped2.sem) 0 ∗ semVal (thr d i, SemLoc.dma cc0_scoped3.sem) 0 ∗ Owe d i O W)

theorem wp_loadP (t1 : Fin k0_t1_loop.trips) {hl} {k : Vec F S1x16 .i32 → TProg (F := F) i PUnit} {Q : PUnit → sProp 𝕄} :
    pP d i pm ⊢ iprop((pP d i pm -∗ WP d i (k (sP.view.readAt (Elt F) (Rect.unit (s := S9x16) (k0_off2 t1) S1x16.size (k0_off2_inb t1)).toLoadRect pm)) Q)
      -∗ WP d i (.op (.load sP (Rect.unit (s := S9x16) (k0_off2 t1) S1x16.size (k0_off2_inb t1)).toLoadRect hl) k) Q) :=
  wp_load 𝒱₀ (thr d i) none Set.univ (m := sP) (r := (Rect.unit (s := S9x16) (k0_off2 t1) S1x16.size (k0_off2_inb t1)).toLoadRect) (S := Finset.univ) (Finset.subset_univ _)

/-- The load of an item's coefficients. -/
theorem wp_loadC (c : FVec F S16 .f32) {hl} {k : Vec F S16 .f32 → TProg (F := F) i PUnit} {Q : PUnit → sProp 𝕄} :
    pC d i c ⊢ iprop((pC d i c -∗ WP d i (k c) Q) -∗ WP d i (.op (.load sC (Rect.unit (s := S16) ![0] S16.size inb_S16_S16_0).toLoadRect hl) k) Q) := by
  have key : pC d i c ⊢ iprop((pC d i c -∗ WP d i (k (sC.view.readAt (Elt F) (Rect.unit (s := S16) ![0] S16.size inb_S16_S16_0).toLoadRect c)) Q)
      -∗ WP d i (.op (.load sC (Rect.unit (s := S16) ![0] S16.size inb_S16_S16_0).toLoadRect hl) k) Q) :=
    wp_load 𝒱₀ (thr d i) none Set.univ (m := sC) (r := (Rect.unit (s := S16) ![0] S16.size inb_S16_S16_0).toLoadRect) (S := Finset.univ) (Finset.subset_univ _)
  have e : sC.view.readAt (Elt F) (Rect.unit (s := S16) ![0] S16.size inb_S16_S16_0).toLoadRect c = c := by
    funext l
    show c _ = c _
    congr 1
    funext a; apply Fin.ext
    obtain rfl : a = 0 := Fin.eq_zero a
    show 0 + 1 * (l 0).val = (l 0).val; omega
  rw [e] at key
  exact key

/-- The copy of an item's coefficients, issued and waited for. -/
theorem wp_coefs (hO : ∀ g, O g none = 0) {b : Fin 4} {v21 : BitVec 32} (h : v21.toNat = b.val) (hw2 : k0_chk2 v21) (c0 : FVec F S16 .f32) {h1 h2 h3 h4 h5} {k : TProg (F := F) i PUnit} {Q : PUnit → sProp 𝕄} :
    iprop(levAts (K (F := F)).L (K (F := F)).lev ∗ pCo d i cf qc ∗ pC d i c0 ∗ semVal (thr d i, SemLoc.dma cc0_scoped2.sem) 0 ∗ Owe d i O W)
      ⊢ iprop((iprop(pCo d i cf qc ∗ pC d i (fun l => cf (ix2 b (l 0))) ∗ semVal (thr d i, SemLoc.dma cc0_scoped2.sem) 0 ∗ Owe d i O W) -∗ WP d i k Q)
        -∗ WP d i (.op (.enqueueDma (cSrc v21 hw2) (.here sC) (.dma cc0_scoped2.sem) h1 h2 h3) fun _ => .op (.waitDma2 cc0_scoped2.sem (cSrc v21 hw2) sC h4 h5) fun _ => k) Q) := by
  unfold Owe
  iintro ⟨#Hlv, HC, Hc, Hs, ⟨%W', %hW', HO⟩⟩ Hk
  ihave HC' := (pointsTo_split_subset (ℓ := (thr d i).loc main_v4_scv) (q := qc) (f := cf) (Finset.subset_univ (cSrc v21 hw2).view.set)).1 $$ HC
  icases HC' with ⟨HC1, HC2⟩
  iapply (Transfers.wp_dmaLocal EC 𝒱₀ (thr d i) none (src := cSrc v21 hw2) (dst := sC) (sm := .dma cc0_scoped2.sem) (q := qc) (fs := cf) (Sd := Finset.univ) (fd := c0)
    none _ rfl (View.dmaCredit_pos _ (by decide)) (Finset.subset_univ _)) $$ [HC1 Hc Hs]
  · isplitl [HC1]; · iexact HC1
    isplitl [Hc]; · iexact Hc
    iexact Hs
  iintro Hfl
  iapply (Transfers.wp_waitLocalO EC 𝒱₀ (thr d i) none none rfl) $$ [Hfl HO]
  · isplitl [Hfl]; · iexact Hfl
    isplitl [HO]; · iexact HO
    iapply ((K (F := F)).mayWait_none (SemLoc.dma cc0_scoped2.sem) hO); iexact Hlv
  iintro ⟨⟨Hc, HC1⟩, Hs, HO⟩
  iapply Hk
  isplitl [HC1 HC2]
  · iapply (pointsTo_split_subset (ℓ := (thr d i).loc main_v4_scv) (q := qc) (f := cf) (Finset.subset_univ (cSrc v21 hw2).view.set)).2
    isplitl [HC1]; · iexact HC1
    iexact HC2
  isplitl [Hc]
  · have e : sC.view.write (Elt F) c0 ((cSrc v21 hw2).view.read (Elt F) cf) Finset.univ = fun l => cf (ix2 b (l 0)) :=
      (View.write_whole_univ cc0_scratch1 c0 _).trans (funext fun l => cSrc_read cf h hw2 l)
    iapply (Entails.of_eq (congrArg (fun f => (pC d i f : sProp 𝕄)) e)) $$ Hc
  isplitl [Hs]; · iexact Hs
  iexists (insert (SemLoc.dma cc0_scoped2.sem, (none : HIx 1)) W')
  isplitr; · ipureintro; exact owe_insert W _ hW'
  iexact HO

end Wp

end Cert.KernelIdeal.Stn
-- ==== Proof.Body1.lean ====
/-
  A task: its words and its lattice copied in, then its nine items.
-/
module

public import proofs.«01_k».proof.Proof.Item

@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

section Wp

variable (d : Dev nD) (i : grid0.Coords)
variable (x : FVec F S4x96x96x2x96 .f32) (cf : FVec F S4x16 .f32) (lat : FVec F S112 .f32) (w : Fin 32) (qx qc : PosShare TreeShare)
variable (O : CellTallies nD τ sig (HIx 1)) (W : Waits sig (HIx 1)) (zb yb : Nat → BitVec 32) (pm : IVec S9x16 32)

/-- The bands of the copies issued for an item, between the issue and the waits. -/
theorem wp_band_in {b : Fin 4} {v21 z y : BitVec 32} (N : BandNum b v21 z y) (hw3 : k0_chk3 v21 z y) (fb : FVec F S560x2x96 .f32) {k : TProg (F := F) i PUnit} {Q : PUnit → sProp 𝕄} :
    iprop(pX d i x qx ∗ pB d i fb ∗ semVal (thr d i, SemLoc.dma cc0_scratch6.sem) 0)
      ⊢ iprop((iprop(((thr d i).loc main_v211_scv ↦{shareDrop qx 28} x) ∗ bigSep Finset.univ (keepP d i x qx hw3) ∗ BAT d i x qx hw3 b 28 0) -∗ WP d i k Q)
        -∗ WP d i (issue i v21 z y hw3 slabs k) Q) := by
  iintro ⟨HX, HB, Hs⟩ Hk
  imod (batch_alloc' EC (thr d i) (sm := SemLoc.dma cc0_scratch6.sem) none slabN (delP d i x qx hw3 b) (E := Set.univ)) $$ Hs with HBat
  ihave HX' := (pX_deal d i x qx hw3) $$ HX
  icases HX' with ⟨HXd, HXs, HXk⟩
  ihave HXs' := (Entails.of_eq (bigSep_pending_zero (srcP d i x qx hw3))) $$ HXs
  ihave HB' := (Entails.of_eq ((pB_dst d i fb).trans (bigSep_pending_zero (dstP d i fb)))) $$ HB
  iapply (wp_issue d i x qx hw3 N fb 28 0 rfl slabs (by decide)) $$ [HXs' HB' HBat]
  · isplitl [HXs']; · iexact HXs'
    isplitl [HB']; · iexact HB'
    iexact HBat
  iintro HBat
  iapply Hk
  isplitl [HXd]; · iexact HXd
  isplitl [HXk]; · iexact HXk
  iexact HBat

theorem wp_band_out (hO : ∀ g, O g none = 0) {b : Fin 4} {v21 z y : BitVec 32} (hw3 : k0_chk3 v21 z y) {k : TProg (F := F) i PUnit} {Q : PUnit → sProp 𝕄} :
    iprop(levAts (K (F := F)).L (K (F := F)).lev ∗ ((thr d i).loc main_v211_scv ↦{shareDrop qx 28} x) ∗ bigSep Finset.univ (keepP d i x qx hw3) ∗ BAT d i x qx hw3 b 28 0 ∗ Owe d i O W)
      ⊢ iprop((iprop(pX d i x qx ∗ pB d i (bandV x b z.toNat y.toNat) ∗ semVal (thr d i, SemLoc.dma cc0_scratch6.sem) 0 ∗ Owe d i O W) -∗ WP d i k Q)
        -∗ WP d i (await i v21 z y hw3 slabs k) Q) := by
  iintro ⟨#Hlv, HXd, HXk, HBat, HO⟩ Hk
  ihave HBat' := (Entails.of_eq (congrArg (fun u => (BAT d i x qx hw3 b 28 u : sProp 𝕄)) (Nat.zero_mul slabN).symm)) $$ HBat
  iapply (wp_await d i x qx O W hw3 hO 27 0 rfl slabs (by decide)) $$ [HBat' HO]
  · isplitr; · iexact Hlv
    isplitl [HBat']; · iexact HBat'
    iexact HO
  iintro ⟨HD, Hs, HO⟩
  ihave HD' := (Entails.of_eq ((show bigSep Finset.univ (delP d i x qx hw3 b)
    = bigSep Finset.univ (fun r => iprop(dstP d i (bandV x b z.toNat y.toNat) r ∗ srcP d i x qx hw3 r)) from rfl).trans (bigSep_sep' Finset.univ (dstP d i (bandV x b z.toNat y.toNat)) (srcP d i x qx hw3)))) $$ HD
  icases HD' with ⟨HB, HXs⟩
  iapply Hk
  isplitl [HXd HXk HXs]
  · iapply (pX_back d i x qx hw3)
    isplitl [HXd]; · iexact HXd
    isplitl [HXs]; · iexact HXs
    iexact HXk
  isplitl [HB]; · iapply (Entails.of_eq (pB_dst d i (bandV x b z.toNat y.toNat)).symm) $$ HB
  isplitl [Hs]; · iexact Hs
  iexact HO

theorem wp_item (hO : ∀ g, O g none = 0) (hWd : Words w zb yb pm) (t1 : Fin k0_t1_loop.trips) (acc : PUnit) (g : Nat) (b : Fin 4) (eg : 9 * w.val + t1.val = g)
    (hg : g < 288) (hb : b.val = g / 72) (hz : (zb g).toNat ≤ 68) (hy : (yb g).toNat ≤ 76)
    (hpt : ∀ (u : Fin 8) (v : Fin 16), PtIn cf lat b (zb g) (yb g) (Fin.ofNat 96 (g % 72 / 6 * 8 + u.val)) (Fin.ofNat 96 (g % 6 * 16 + v.val))) :
    ItemI d i x cf lat w qx qc O W pm g
      ⊢ WP d i (body1 i t1) fun _ => ItemI d i x cf lat w qx qc O W pm (g + 1) := by
  have ht := t1_lt t1
  have hgw : g / 9 = w.val := by omega
  unfold body1
  simp only [Prog.lift, Prog.bind_op, Prog.bind_ret, bind_assoc]
  unfold ItemI
  iintro ⟨#Hlv, HP, HL, ⟨%c0, HC⟩, ⟨%j0, HJ⟩, ⟨%fb, HB⟩, ⟨%ob, HOb⟩, HX, HCo, ⟨%f, ⟨%hf, HF⟩⟩, Hs6, Hs2, Hs3, HO⟩
  iapply (wp_loadP d i pm t1) $$ HP; iintro HP
  have N : ItemNum g b (g % 72 / 6 * 8) (g % 6 * 16)
      (word (F := F) 0 (sP.view.readAt (Elt F) (Rect.unit (s := S9x16) (k0_off2 t1) S1x16.size (k0_off2_inb t1)).toLoadRect pm))
      (word (F := F) 1 (sP.view.readAt (Elt F) (Rect.unit (s := S9x16) (k0_off2 t1) S1x16.size (k0_off2_inb t1)).toLoadRect pm))
      (word (F := F) 2 (sP.view.readAt (Elt F) (Rect.unit (s := S9x16) (k0_off2 t1) S1x16.size (k0_off2_inb t1)).toLoadRect pm))
      (word (F := F) 5 (sP.view.readAt (Elt F) (Rect.unit (s := S9x16) (k0_off2 t1) S1x16.size (k0_off2_inb t1)).toLoadRect pm)) := by
    refine ⟨hg, hb, rfl, rfl, ?_, ?_, ?_, ?_⟩
    · rw [word_at, hb, ← eg]; exact hWd.w0 ⟨t1.val, ht⟩
    · rw [word_at, ← eg]; exact hWd.w1 ⟨t1.val, ht⟩
    · rw [word_at, ← eg]; exact hWd.w2 ⟨t1.val, ht⟩
    · rw [word_at, hb, ← eg]; exact hWd.w5 ⟨t1.val, ht⟩
  have e3 : word (F := F) 3 (sP.view.readAt (Elt F) (Rect.unit (s := S9x16) (k0_off2 t1) S1x16.size (k0_off2_inb t1)).toLoadRect pm) = zb g := by
    rw [word_at, ← eg]; exact hWd.w3 ⟨t1.val, ht⟩
  have e4 : word (F := F) 4 (sP.view.readAt (Elt F) (Rect.unit (s := S9x16) (k0_off2 t1) S1x16.size (k0_off2_inb t1)).toLoadRect pm) = yb g := by
    rw [word_at, ← eg]; exact hWd.w4 ⟨t1.val, ht⟩
  rw [← e3] at hz hpt
  rw [← e4] at hy hpt
  generalize (sP.view.readAt (Elt F) (Rect.unit (s := S9x16) (k0_off2 t1) S1x16.size (k0_off2_inb t1)).toLoadRect pm) = wd at *
  have BN : BandNum b (word (F := F) 0 wd) (word (F := F) 3 wd) (word (F := F) 4 wd) := ⟨N.h21, hz, hy⟩
  iapply (wp_chk d i (chk2_of N.h21))
  iapply (wp_chk d i (chk4_of N))
  iapply (wp_chk d i (chk1_of N))
  iapply (wp_chk d i (chk3_of BN))
  iapply (wp_chk d i (chk30_of N))
  iapply (wp_coefs d i cf qc O W hO N.h21 (chk2_of N.h21) c0) $$ [HCo HC Hs2 HO]
  · isplitr; · iexact Hlv
    isplitl [HCo]; · iexact HCo
    isplitl [HC]; · iexact HC
    isplitl [Hs2]; · iexact Hs2
    iexact HO
  iintro ⟨HCo, HC, Hs2, HO⟩
  iapply (wp_band_in d i x qx BN (chk3_of BN) fb) $$ [HX HB Hs6]
  · isplitl [HX]; · iexact HX
    isplitl [HB]; · iexact HB
    iexact Hs6
  iintro ⟨HXd, HXk, HBat⟩
  iapply (wp_loadC d i) $$ HC; iintro HC
  simp only [lane_at]
  ihave HT : iprop(pL d i lat ∗ ∃ f, iprop(⌜Rows cf lat b 0 f⌝ ∗ pJ d i f)) $$ [HL HJ]
  · isplitl [HL]; · iexact HL
    iexists j0
    isplitr; · ipureintro; intro p hp; omega
    iexact HJ
  iapply (wp_putGrp d i cf lat b 0 0 1 2 0 3 rfl rfl rfl rfl rfl) $$ HT; iintro HT
  iapply (wp_putGrp d i cf lat b 1 3 4 5 3 6 rfl rfl rfl rfl rfl) $$ HT; iintro HT
  iapply (wp_putGrp d i cf lat b 2 6 7 8 6 9 rfl rfl rfl rfl rfl) $$ HT; iintro HT
  iapply (wp_putGrp d i cf lat b 3 9 10 11 9 12 rfl rfl rfl rfl rfl) $$ HT; iintro HT
  iapply (wp_putGrp d i cf lat b 4 12 13 14 12 15 rfl rfl rfl rfl rfl) $$ HT; iintro HT
  iapply (wp_putGrp d i cf lat b 5 15 16 17 15 18 rfl rfl rfl rfl rfl) $$ HT
  iintro ⟨HL, ⟨%jt, ⟨%hjt, HJ⟩⟩⟩
  obtain rfl := hjt.all
  iapply (wp_band_out d i x qx O W hO (chk3_of BN)) $$ [HXd HXk HBat HO]
  · isplitr; · iexact Hlv
    isplitl [HXd]; · iexact HXd
    isplitl [HXk]; · iexact HXk
    isplitl [HBat]; · iexact HBat
    iexact HO
  iintro ⟨HX, HB, Hs6, HO⟩
  ihave HI : RowsI d i x cf lat w O W b (word (F := F) 3 wd) (word (F := F) 4 wd) g 0 $$ [HL HJ HB HOb HF Hs3 HO]
  · unfold RowsI
    isplitr; · iexact Hlv
    isplitl [HL]; · iexact HL
    isplitl [HJ]; · iexact HJ
    isplitl [HB]; · iexact HB
    isplitl [HOb]; · iexists ob; iexact HOb
    isplitl [HF]
    · iexists f
      isplitr; · ipureintro; exact hf
      iexact HF
    isplitl [Hs3]; · iexact Hs3
    iexact HO
  iapply (Scf.wp_for_bind frame (wpE (defs₀ (F := F)) 𝒱₀ (thr d i) none) Set.univ _ _ _ k0_t2_ok PUnit.unit _
    (fun t _ => RowsI d i x cf lat w O W b (word (F := F) 3 wd) (word (F := F) 4 wd) g t) ?hb) $$ HI
  case hb =>
    intro t2 a
    refine wp_body2 d i x cf lat w O W hO N hgw (chk4_of N) (chk1_of N) (chk30_of N) t2 (fun t3 h3 => ?_) a
    have := hpt ⟨t2.val, t2_lt t2⟩ ⟨t3, h3⟩
    have e : (⟨g % 72 / 6 * 8 + t2.val, aOf_lt N t2⟩ : Fin 96) = Fin.ofNat 96 (g % 72 / 6 * 8 + t2.val) := Fin.ext (Nat.mod_eq_of_lt (aOf_lt N t2)).symm
    rw [e]
    exact this
  iintro %u HI
  unfold RowsI
  icases HI with ⟨-, HL, HJ, HB, HOb, ⟨%f', ⟨%hf', HF⟩⟩, Hs3, HO⟩
  iapply (Entails.of_eq (wp_ret _ _ _ _ _).symm)
  imodintro
  isplitr; · iexact Hlv
  isplitl [HP]; · iexact HP
  isplitl [HL]; · iexact HL
  isplitl [HC]; · iexists (fun l => cf (ix2 b (l 0))); iexact HC
  isplitl [HJ]; · iexists (jT cf lat b); iexact HJ
  isplitl [HB]; · iexists (bandV x b (word (F := F) 3 wd).toNat (word (F := F) 4 wd).toNat); iexact HB
  isplitl [HOb]; · iexact HOb
  isplitl [HX]; · iexact HX
  isplitl [HCo]; · iexact HCo
  isplitl [HF]
  · iexists f'
    isplitr
    · ipureintro
      have h8 : OutOK (outV5 x cf lat) w g 8 f' := hf'
      exact h8.next
    · iexact HF
  isplitl [Hs6]; · iexact Hs6
  isplitl [Hs2]; · iexact Hs2
  isplitl [Hs3]; · iexact Hs3
  iexact HO

theorem wp_body1 (hO : ∀ g, O g none = 0) (hWd : Words w zb yb pm) (hH : Hyp cf lat zb yb) (t1 : Fin k0_t1_loop.trips) (acc : PUnit) :
    ItemI d i x cf lat w qx qc O W pm (9 * w.val + t1.val)
      ⊢ WP d i (body1 i t1) fun _ => ItemI d i x cf lat w qx qc O W pm (9 * w.val + (t1.val + 1)) := by
  have ht := t1_lt t1
  have hwl := w.isLt
  have hg : 9 * w.val + t1.val < 288 := by omega
  exact wp_item d i x cf lat w qx qc O W zb yb pm hO hWd t1 acc _ ⟨(9 * w.val + t1.val) / 72, by omega⟩ rfl hg rfl (hH.hz _ hg) (hH.hy _ hg) (hH.pt _ hg)

end Wp

end Cert.KernelIdeal.Stn
-- ==== Proof.Task.lean ====
/-
  A whole task: its words and the lattice copied in, then its nine items.
-/
module

public import proofs.«01_k».proof.Proof.Body1
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-- The number of a task among the thirty-two: what its words are filed under. -/
def wOf (i : grid0.Coords) : Fin 32 := ⟨2 * (i 1).val + (i 0).val, by
  have h0 : (i 0).val < 2 := (i 0).isLt
  have h1 : (i 1).val < 16 := (i 1).isLt
  omega⟩

/-- A task's words, read off the table of words. -/
theorem pSrc_read (i : grid0.Coords) (ps : IVec S32x9x16 32) (p : S9x16.Idx) :
    (pSrc i).view.read (Elt F) ps p = ps (ix3 (wOf i) (p 0) (p 1)) := by
  have e : Shape.reshapeEquiv squeezes_S1x9x16_S9x16.numel_eq p = (ix3 (0 : Fin 1) (p 0) (p 1) : S1x9x16.Idx) :=
    Shape.reshapeEquiv_eq_of_vals _ _ _ (0 * (9 * 16) + (p 0).val * 16 + (p 1).val) ((p 0).val * 16 + (p 1).val) (rowMajor_val3 _ (9 * 16) 16 rfl rfl) (rowMajor_val2 _ 16 rfl) (by omega)
  have ho := k0_off1_eq i
  show ps ((Rect.unit (s := S32x9x16) (k0_off1 i) S1x9x16.size (k0_off1_inb i)).emb (Shape.reshapeEquiv squeezes_S1x9x16_S9x16.numel_eq p)) = _
  rw [e]
  congr 1
  funext a; apply Fin.ext
  fin_cases a
  · show k0_off1 i 0 + 1 * 0 = 2 * (i 1).val + (i 0).val
    rw [ho]; rfl
  · show k0_off1 i 1 + 1 * (p 0).val = (p 0).val
    rw [ho]; show 0 + 1 * (p 0).val = _; omega
  · show k0_off1 i 2 + 1 * (p 1).val = (p 1).val
    rw [ho]; show 0 + 1 * (p 1).val = _; omega

section Wp

variable (d : Dev nD) (i : grid0.Coords)
variable (x : FVec F S4x96x96x2x96 .f32) (cf : FVec F S4x16 .f32) (lat : FVec F S112 .f32) (ps : IVec S32x9x16 32) (w : Fin 32) (q qx qc : PosShare TreeShare)
variable (O : CellTallies nD τ sig (HIx 1)) (W : Waits sig (HIx 1)) (zb yb : Nat → BitVec 32) (pm : IVec S9x16 32)

abbrev pPs (q : PosShare TreeShare) : sProp 𝕄 := (thr d i).loc main_v210_scv ↦{q} ps
abbrev pLs (q : PosShare TreeShare) : sProp 𝕄 := (thr d i).loc main_v9_scv ↦{q} lat

/-- The words come in. -/
theorem wp_words (hO : ∀ g, O g none = 0) (f0 : IVec S9x16 32) {h1 h2 h3 h4 h5} {k : TProg (F := F) i PUnit} {Q : PUnit → sProp 𝕄} :
    iprop(levAts (K (F := F)).L (K (F := F)).lev ∗ pPs d i ps q ∗ pP d i f0 ∗ semVal (thr d i, SemLoc.dma cc0_scoped0.sem) 0 ∗ Owe d i O W)
      ⊢ iprop((iprop(pPs d i ps q ∗ pP d i (fun p => ps (ix3 (wOf i) (p 0) (p 1))) ∗ semVal (thr d i, SemLoc.dma cc0_scoped0.sem) 0 ∗ Owe d i O W) -∗ WP d i k Q)
        -∗ WP d i (.op (.enqueueDma (pSrc i) (.here sP) (.dma cc0_scoped0.sem) h1 h2 h3) fun _ => .op (.waitDma2 cc0_scoped0.sem (pSrc i) sP h4 h5) fun _ => k) Q) := by
  unfold Owe
  iintro ⟨#Hlv, HC, Hc, Hs, ⟨%W', %hW', HO⟩⟩ Hk
  ihave HC' := (pointsTo_split_subset (ℓ := (thr d i).loc main_v210_scv) (q := q) (f := ps) (Finset.subset_univ (pSrc i).view.set)).1 $$ HC
  icases HC' with ⟨HC1, HC2⟩
  iapply (Transfers.wp_dmaLocal EC 𝒱₀ (thr d i) none (src := pSrc i) (dst := sP) (sm := .dma cc0_scoped0.sem) (q := q) (fs := ps) (Sd := Finset.univ) (fd := f0)
    none _ rfl (View.dmaCredit_pos _ (by decide)) (Finset.subset_univ _)) $$ [HC1 Hc Hs]
  · isplitl [HC1]; · iexact HC1
    isplitl [Hc]; · iexact Hc
    iexact Hs
  iintro Hfl
  iapply (Transfers.wp_waitLocalO EC 𝒱₀ (thr d i) none none rfl) $$ [Hfl HO]
  · isplitl [Hfl]; · iexact Hfl
    isplitl [HO]; · iexact HO
    iapply ((K (F := F)).mayWait_none (SemLoc.dma cc0_scoped0.sem) hO); iexact Hlv
  iintro ⟨⟨Hc, HC1⟩, Hs, HO⟩
  iapply Hk
  isplitl [HC1 HC2]
  · iapply (pointsTo_split_subset (ℓ := (thr d i).loc main_v210_scv) (q := q) (f := ps) (Finset.subset_univ (pSrc i).view.set)).2
    isplitl [HC1]; · iexact HC1
    iexact HC2
  isplitl [Hc]
  · have e : sP.view.write (Elt F) f0 ((pSrc i).view.read (Elt F) ps) Finset.univ = fun p => ps (ix3 (wOf i) (p 0) (p 1)) :=
      (View.write_whole_univ cc0_scratch0 f0 _).trans (funext fun p => pSrc_read i ps p)
    iapply (Entails.of_eq (congrArg (fun f => (pP d i f : sProp 𝕄)) e)) $$ Hc
  isplitl [Hs]; · iexact Hs
  iexists (insert (SemLoc.dma cc0_scoped0.sem, (none : HIx 1)) W')
  isplitr; · ipureintro; exact owe_insert W _ hW'
  iexact HO

/-- The lattice comes in. -/
theorem wp_lattice (hO : ∀ g, O g none = 0) (f0 : FVec F S112 .f32) {h1 h2 h3 h4 h5} {k : TProg (F := F) i PUnit} {Q : PUnit → sProp 𝕄} :
    iprop(levAts (K (F := F)).L (K (F := F)).lev ∗ pLs d i lat q ∗ pL d i f0 ∗ semVal (thr d i, SemLoc.dma cc0_scoped1.sem) 0 ∗ Owe d i O W)
      ⊢ iprop((iprop(pLs d i lat q ∗ pL d i lat ∗ semVal (thr d i, SemLoc.dma cc0_scoped1.sem) 0 ∗ Owe d i O W) -∗ WP d i k Q)
        -∗ WP d i (.op (.enqueueDma aL (.here sL) (.dma cc0_scoped1.sem) h1 h2 h3) fun _ => .op (.waitDma2 cc0_scoped1.sem aL sL h4 h5) fun _ => k) Q) := by
  unfold Owe
  iintro ⟨#Hlv, HC, Hc, Hs, ⟨%W', %hW', HO⟩⟩ Hk
  ihave HC' := (pointsTo_split_subset (ℓ := (thr d i).loc main_v9_scv) (q := q) (f := lat) (Finset.subset_univ aL.view.set)).1 $$ HC
  icases HC' with ⟨HC1, HC2⟩
  iapply (Transfers.wp_dmaLocal EC 𝒱₀ (thr d i) none (src := aL) (dst := sL) (sm := .dma cc0_scoped1.sem) (q := q) (fs := lat) (Sd := Finset.univ) (fd := f0)
    none _ rfl (View.dmaCredit_pos _ (by decide)) (Finset.subset_univ _)) $$ [HC1 Hc Hs]
  · isplitl [HC1]; · iexact HC1
    isplitl [Hc]; · iexact Hc
    iexact Hs
  iintro Hfl
  iapply (Transfers.wp_waitLocalO EC 𝒱₀ (thr d i) none none rfl) $$ [Hfl HO]
  · isplitl [Hfl]; · iexact Hfl
    isplitl [HO]; · iexact HO
    iapply ((K (F := F)).mayWait_none (SemLoc.dma cc0_scoped1.sem) hO); iexact Hlv
  iintro ⟨⟨Hc, HC1⟩, Hs, HO⟩
  iapply Hk
  isplitl [HC1 HC2]
  · iapply (pointsTo_split_subset (ℓ := (thr d i).loc main_v9_scv) (q := q) (f := lat) (Finset.subset_univ aL.view.set)).2
    isplitl [HC1]; · iexact HC1
    iexact HC2
  isplitl [Hc]
  · have e : sL.view.write (Elt F) f0 (aL.view.read (Elt F) lat) Finset.univ = lat :=
      (View.write_whole_univ (Val := Elt F) cc0_scratch3 f0 (aL.view.read (Elt F) lat)).trans (View.read_whole (Val := Elt F) main_v9_scv lat)
    iapply (Entails.of_eq (congrArg (fun f => (pL d i f : sProp 𝕄)) e)) $$ Hc
  isplitl [Hs]; · iexact Hs
  iexists (insert (SemLoc.dma cc0_scoped1.sem, (none : HIx 1)) W')
  isplitr; · ipureintro; exact owe_insert W _ hW'
  iexact HO

/-- The buffers of a task's scratch, whatever they hold. -/
def Scr : sProp 𝕄 := iprop((∃ f, pP d i f) ∗ (∃ f, pC d i f) ∗ (∃ f, pJ d i f) ∗ (∃ f, pL d i f) ∗ (∃ f, pB d i f) ∗ (∃ f, pO d i f))

/-- The semaphores of a task at zero. -/
def Sem0 : sProp 𝕄 :=
  iprop(semVal (thr d i, SemLoc.dma cc0_scratch6.sem) 0 ∗ semVal (thr d i, SemLoc.dma cc0_scoped0.sem) 0 ∗ semVal (thr d i, SemLoc.dma cc0_scoped1.sem) 0
    ∗ semVal (thr d i, SemLoc.dma cc0_scoped2.sem) 0 ∗ semVal (thr d i, SemLoc.dma cc0_scoped3.sem) 0)

theorem wp_task (hO : ∀ g, O g none = 0) (hWd : Words (wOf i) zb yb (fun p => ps (ix3 (wOf i) (p 0) (p 1)))) (hH : Hyp cf lat zb yb) :
    iprop(levAts (K (F := F)).L (K (F := F)).lev ∗ (pPs d i ps q ∗ pLs d i lat q ∗ pX d i x q ∗ pCo d i cf q ∗ (∃ f, pOut d i (wOf i) f)) ∗ Scr d i ∗ Sem0 d i ∗ Owe d i O W)
      ⊢ WP d i (task i) fun _ => iprop((pPs d i ps q ∗ pLs d i lat q ∗ pX d i x q ∗ pCo d i cf q ∗ pOut d i (wOf i) (outV5 x cf lat)) ∗ Scr d i ∗ Sem0 d i ∗ Owe d i O W) := by
  unfold task Scr Sem0
  simp only [Prog.lift, Prog.bind_op, Prog.bind_ret, bind_assoc]
  iintro ⟨#Hlv, ⟨HPs, HLs, HX, HCo, ⟨%fo, HF⟩⟩, ⟨⟨%f0, HP⟩, HC, HJ, ⟨%f3, HL⟩, HB, HOb⟩, ⟨Hs6, Hs0, Hs1, Hs2, Hs3⟩, HO⟩
  iapply (wp_words d i ps q O W hO f0) $$ [HPs HP Hs0 HO]
  · isplitr; · iexact Hlv
    isplitl [HPs]; · iexact HPs
    isplitl [HP]; · iexact HP
    isplitl [Hs0]; · iexact Hs0
    iexact HO
  iintro ⟨HPs, HP, Hs0, HO⟩
  iapply (wp_lattice d i lat q O W hO f3) $$ [HLs HL Hs1 HO]
  · isplitr; · iexact Hlv
    isplitl [HLs]; · iexact HLs
    isplitl [HL]; · iexact HL
    isplitl [Hs1]; · iexact Hs1
    iexact HO
  iintro ⟨HLs, HL, Hs1, HO⟩
  ihave HI : ItemI d i x cf lat (wOf i) q q O W (fun p => ps (ix3 (wOf i) (p 0) (p 1))) (9 * (wOf i).val + 0) $$ [HP HL HC HJ HB HOb HX HCo HF Hs6 Hs2 Hs3 HO]
  · unfold ItemI
    isplitr; · iexact Hlv
    isplitl [HP]; · iexact HP
    isplitl [HL]; · iexact HL
    isplitl [HC]; · iexact HC
    isplitl [HJ]; · iexact HJ
    isplitl [HB]; · iexact HB
    isplitl [HOb]; · iexact HOb
    isplitl [HX]; · iexact HX
    isplitl [HCo]; · iexact HCo
    isplitl [HF]
    · iexists fo
      isplitr; · ipureintro; exact OutOK.start _ _ _
      iexact HF
    isplitl [Hs6]; · iexact Hs6
    isplitl [Hs2]; · iexact Hs2
    isplitl [Hs3]; · iexact Hs3
    iexact HO
  iapply (Scf.wp_for_bind frame (wpE (defs₀ (F := F)) 𝒱₀ (thr d i) none) Set.univ _ _ _ k0_t1_ok PUnit.unit _
    (fun t _ => ItemI d i x cf lat (wOf i) q q O W (fun p => ps (ix3 (wOf i) (p 0) (p 1))) (9 * (wOf i).val + t)) ?hb) $$ HI
  case hb =>
    intro t1 acc
    exact wp_body1 d i x cf lat (wOf i) q q O W zb yb _ hO hWd hH t1 acc
  iintro %u HI
  ihave HI' := (Entails.of_eq (show ItemI d i x cf lat (wOf i) q q O W (fun p => ps (ix3 (wOf i) (p 0) (p 1))) (9 * (wOf i).val + k0_t1_loop.trips)
    = ItemI d i x cf lat (wOf i) q q O W (fun p => ps (ix3 (wOf i) (p 0) (p 1))) (9 * (wOf i).val + 9) by rw [show k0_t1_loop.trips = 9 by decide])) $$ HI
  unfold ItemI
  icases HI' with ⟨-, HP, HL, HC, HJ, HB, HOb, HX, HCo, ⟨%f, %hf, HF⟩, Hs6, Hs2, Hs3, HO⟩
  iapply (Entails.of_eq (wp_ret _ _ _ _ _).symm)
  imodintro
  isplitl [HPs HLs HX HCo HF]
  · isplitl [HPs]; · iexact HPs
    isplitl [HLs]; · iexact HLs
    isplitl [HX]; · iexact HX
    isplitl [HCo]; · iexact HCo
    iapply (Entails.of_eq (pointsTo_congr (ℓ := (thr d i).loc main_v212_scv) (q := fullShare) hf.all)) $$ HF
  isplitl [HP HC HJ HL HB HOb]
  · isplitl [HP]; · iexists _; iexact HP
    isplitl [HC]; · iexact HC
    isplitl [HJ]; · iexact HJ
    isplitl [HL]; · iexists _; iexact HL
    isplitl [HB]; · iexact HB
    iexact HOb
  isplitl [Hs6 Hs0 Hs1 Hs2 Hs3]
  · isplitl [Hs6]; · iexact Hs6
    isplitl [Hs0]; · iexact Hs0
    isplitl [Hs1]; · iexact Hs1
    isplitl [Hs2]; · iexact Hs2
    iexact Hs3
  iexact HO

end Wp

end Cert.KernelIdeal.Stn
-- ==== Proof.HostOps.lean ====
/-
  The host lines before the SparseCore call as lists of operations, one list a stage (a stage ends at a named value:
  the rounded coefficients, the lattice, the item words, …), and `main` as these lists, the call, and the two layout
  lines after it.
-/
module

public import proofs.«01_k».proof.Defs
public import proofs.«01_k».proof.Proof.Gen.KernelIdeal
public import Idealize.ShloMosaic.Lib.StableHlo.Run

@[expose] public section

noncomputable section

namespace Cert.KernelIdeal.Stn

open Cert.KernelIdeal Cert.KernelIdeal.Gen
open Idealize.ShloMosaic Idealize.ShloMosaic.TcCoe Idealize.SL.Sem Idealize.ShloMosaic.StableHlo

variable {F : FTy → Type} [FloatOps F]

abbrev st0 : List (HloOp τ sig (Elt F)) :=
  [ unary main_arg1 main_v0 ((truncf .bf16 · bitsLt_bf16_f32) : (⟨S4x3x4, .f32⟩ : BufTy).Contents (Elt F) → (⟨S4x3x4, .bf16⟩ : BufTy).Contents (Elt F)),
    unary main_v0 main_v1 ((extf .f32 · bitsLt_bf16_f32) : (⟨S4x3x4, .bf16⟩ : BufTy).Contents (Elt F) → (⟨S4x3x4, .f32⟩ : BufTy).Contents (Elt F)),
    reshape main_v1 main_v2 (rfl : (.f32 : EltTy) = .f32) shapeCasts_S4x3x4_S4x12,
    nullary main_cst (constant S_ .f32 0x00000000#32),
    unary main_cst main_v3 (broadcastInDim S4x4 ![] bcast_S_S4x4 : (⟨S_, .f32⟩ : BufTy).Contents (Elt F) → (⟨S4x4, .f32⟩ : BufTy).Contents (Elt F)),
    binary main_v2 main_v3 main_v4 ((fun a b => concatenate S4x16 1 [⟨S4x12, a⟩, ⟨S4x4, b⟩] concatenates_S4x12_S4x4_S4x16_d1) : (⟨S4x12, .f32⟩ : BufTy).Contents (Elt F) → (⟨S4x4, .f32⟩ : BufTy).Contents (Elt F) → (⟨S4x16, .f32⟩ : BufTy).Contents (Elt F)) ]

/-- The buffers stage `st0` writes. -/
abbrev st0W : List (Ref sig .tc) := [main_v0, main_v1, main_v2, main_cst, main_v3, main_v4]

set_option maxRecDepth 8192 in
theorem st0_sub : (st0 : List (HloOp τ sig (Elt F))).Forall fun op => op.bufs ⊆ tcRefs τ sig :=
  ⟨unary_bufs_sub .., unary_bufs_sub .., reshape_bufs_sub .., nullary_bufs_sub .., unary_bufs_sub .., binary_bufs_sub ..⟩

set_option maxRecDepth 8192 in
theorem st0_fresh : (st0 : List (HloOp τ sig (Elt F))).Forall fun op => op.fresh = ∅ :=
  ⟨rfl, rfl, rfl, rfl, rfl, rfl⟩

theorem st0_keep (V : Valuation τ sig (Elt F)) (r : Ref sig .tc) (h : r ∉ st0W) :
    after st0 V (Proc.devRef .tc r) = V (Proc.devRef .tc r) :=
  after_of_writes_sub st0 _ (forall_writes_sub_of_map rfl) h

abbrev st1 : List (HloOp τ sig (Elt F)) :=
  [ nullary main_cst_0 (constant S_ .f32 0xBF800000#32),
    nullary main_cst_1 (constant S_ .f32 0x3F800000#32),
    TRef.unary (TRef.of (T := ⟨S_, .f32⟩) main_cst_0) (TRef.of (T := ⟨S_, .f32⟩) main_call0_v0) id,
    TRef.unary (TRef.of (T := ⟨S_, .f32⟩) main_cst_1) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x42BE0000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S95, .f32⟩) main_call0_v4) (sitofp .f32 (iotaInDim S95 32 0)),
    TRef.nullary (TRef.of (T := ⟨S_, .f32⟩) main_call0_cst_0) (constant S_ .f32 0x42BE0000#32),
    TRef.unary (TRef.of (T := ⟨S_, .f32⟩) main_call0_cst_0) (TRef.of (T := ⟨S95, .f32⟩) main_call0_v5) (broadcastInDim S95 ![] bcast_S_S95),
    TRef.binary (TRef.of (T := ⟨S95, .f32⟩) main_call0_v4) (TRef.of (T := ⟨S95, .f32⟩) main_call0_v5) (TRef.of (T := ⟨S95, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S95, .f32⟩) main_call0_v8) (broadcastInDim S95 ![] bcast_S_S95),
    TRef.binary (TRef.of (T := ⟨S95, .f32⟩) main_call0_v8) (TRef.of (T := ⟨S95, .f32⟩) main_call0_v6) (TRef.of (T := ⟨S95, .f32⟩) main_call0_v9) subf,
    TRef.unary (TRef.of (T := ⟨S1, .f32⟩) main_call0_v7) (TRef.of (T := ⟨S95, .f32⟩) main_call0_v10) (broadcastInDim S95 ![0] bcast_S1_S95_0),
    TRef.binary (TRef.of (T := ⟨S95, .f32⟩) main_call0_v10) (TRef.of (T := ⟨S95, .f32⟩) main_call0_v9) (TRef.of (T := ⟨S95, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S95, .f32⟩) main_call0_v13) (broadcastInDim S95 ![0] bcast_S1_S95_0),
    TRef.binary (TRef.of (T := ⟨S95, .f32⟩) main_call0_v13) (TRef.of (T := ⟨S95, .f32⟩) main_call0_v6) (TRef.of (T := ⟨S95, .f32⟩) main_call0_v14) mulf,
    TRef.binary (TRef.of (T := ⟨S95, .f32⟩) main_call0_v11) (TRef.of (T := ⟨S95, .f32⟩) main_call0_v14) (TRef.of (T := ⟨S95, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S95, .f32⟩) main_call0_v15) (TRef.of (T := ⟨S1, .f32⟩) main_call0_v16) (TRef.of (T := ⟨S96, .f32⟩) main_v5) (fun a b => concatenate S96 0 [⟨S95, a⟩, ⟨S1, b⟩] concatenates_S95_S1_S96_d0),
    unary main_v5 main_v6 ((truncf .bf16 · bitsLt_bf16_f32) : (⟨S96, .f32⟩ : BufTy).Contents (Elt F) → (⟨S96, .bf16⟩ : BufTy).Contents (Elt F)),
    unary main_v6 main_v7 ((extf .f32 · bitsLt_bf16_f32) : (⟨S96, .bf16⟩ : BufTy).Contents (Elt F) → (⟨S96, .f32⟩ : BufTy).Contents (Elt F)),
    nullary main_cst_2 (constant S_ .f32 0x00000000#32),
    unary main_cst_2 main_v8 (broadcastInDim S16 ![] bcast_S_S16 : (⟨S_, .f32⟩ : BufTy).Contents (Elt F) → (⟨S16, .f32⟩ : BufTy).Contents (Elt F)),
    binary main_v7 main_v8 main_v9 ((fun a b => concatenate S112 0 [⟨S96, a⟩, ⟨S16, b⟩] concatenates_S96_S16_S112_d0) : (⟨S96, .f32⟩ : BufTy).Contents (Elt F) → (⟨S16, .f32⟩ : BufTy).Contents (Elt F) → (⟨S112, .f32⟩ : BufTy).Contents (Elt F)) ]

/-- The buffers stage `st1` writes. -/
abbrev st1W : List (Ref sig .tc) := [main_cst_0, main_cst_1, main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v5, main_v6, main_v7, main_cst_2, main_v8, main_v9]

set_option maxRecDepth 8192 in
theorem st1_sub : (st1 : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., unary_bufs_sub .., nullary_bufs_sub .., unary_bufs_sub .., binary_bufs_sub ..⟩

set_option maxRecDepth 8192 in
theorem st1_fresh : (st1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem st1_keep (V : Valuation τ sig (Elt F)) (r : Ref sig .tc) (h : r ∉ st1W) :
    after st1 V (Proc.devRef .tc r) = V (Proc.devRef .tc r) :=
  after_of_writes_sub st1 _ (forall_writes_sub_of_map rfl) h

abbrev st2 : List (HloOp τ sig (Elt F)) :=
  [ nullary main_cst_3 (constant S_ .f32 0x42C00000#32),
    nullary main_cst_4 (constant S_ .f32 0x42BE0000#32),
    binary main_cst_3 main_cst_4 main_v10 (Host.divf : (⟨S_, .f32⟩ : BufTy).Contents (Elt F) → (⟨S_, .f32⟩ : BufTy).Contents (Elt F) → (⟨S_, .f32⟩ : BufTy).Contents (Elt F)) ]

/-- The buffers stage `st2` writes. -/
abbrev st2W : List (Ref sig .tc) := [main_cst_3, main_cst_4, main_v10]

set_option maxRecDepth 8192 in
theorem st2_sub : (st2 : List (HloOp τ sig (Elt F))).Forall fun op => op.bufs ⊆ tcRefs τ sig :=
  ⟨nullary_bufs_sub .., nullary_bufs_sub .., binary_bufs_sub ..⟩

set_option maxRecDepth 8192 in
theorem st2_fresh : (st2 : List (HloOp τ sig (Elt F))).Forall fun op => op.fresh = ∅ :=
  ⟨rfl, rfl, rfl⟩

theorem st2_keep (V : Valuation τ sig (Elt F)) (r : Ref sig .tc) (h : r ∉ st2W) :
    after st2 V (Proc.devRef .tc r) = V (Proc.devRef .tc r) :=
  after_of_writes_sub st2 _ (forall_writes_sub_of_map rfl) h

abbrev st3 : List (HloOp τ sig (Elt F)) :=
  [ unary main_arg1 main_v11 ((extractStridedSlice S4x3x1 ![0, 0, 0] · slices_S4x3x4_S4x3x1_0_0_0) : (⟨S4x3x4, .f32⟩ : BufTy).Contents (Elt F) → (⟨S4x3x1, .f32⟩ : BufTy).Contents (Elt F)),
    reshape main_v11 main_v12 (rfl : (.f32 : EltTy) = .f32) shapeCasts_S4x3x1_S4x3,
    unary main_v10 main_v13 (broadcastInDim S4x3 ![] bcast_S_S4x3 : (⟨S_, .f32⟩ : BufTy).Contents (Elt F) → (⟨S4x3, .f32⟩ : BufTy).Contents (Elt F)),
    binary main_v13 main_v12 main_v14 (mulf : (⟨S4x3, .f32⟩ : BufTy).Contents (Elt F) → (⟨S4x3, .f32⟩ : BufTy).Contents (Elt F) → (⟨S4x3, .f32⟩ : BufTy).Contents (Elt F)),
    unary main_arg1 main_v15 ((extractStridedSlice S4x3x1 ![0, 0, 1] · slices_S4x3x4_S4x3x1_0_0_1) : (⟨S4x3x4, .f32⟩ : BufTy).Contents (Elt F) → (⟨S4x3x1, .f32⟩ : BufTy).Contents (Elt F)),
    reshape main_v15 main_v16 (rfl : (.f32 : EltTy) = .f32) shapeCasts_S4x3x1_S4x3,
    unary main_v10 main_v17 (broadcastInDim S4x3 ![] bcast_S_S4x3 : (⟨S_, .f32⟩ : BufTy).Contents (Elt F) → (⟨S4x3, .f32⟩ : BufTy).Contents (Elt F)),
    binary main_v17 main_v16 main_v18 (mulf : (⟨S4x3, .f32⟩ : BufTy).Contents (Elt F) → (⟨S4x3, .f32⟩ : BufTy).Contents (Elt F) → (⟨S4x3, .f32⟩ : BufTy).Contents (Elt F)),
    unary main_arg1 main_v19 ((extractStridedSlice S4x3x1 ![0, 0, 2] · slices_S4x3x4_S4x3x1_0_0_2) : (⟨S4x3x4, .f32⟩ : BufTy).Contents (Elt F) → (⟨S4x3x1, .f32⟩ : BufTy).Contents (Elt F)),
    reshape main_v19 main_v20 (rfl : (.f32 : EltTy) = .f32) shapeCasts_S4x3x1_S4x3,
    unary main_v10 main_v21 (broadcastInDim S4x3 ![] bcast_S_S4x3 : (⟨S_, .f32⟩ : BufTy).Contents (Elt F) → (⟨S4x3, .f32⟩ : BufTy).Contents (Elt F)),
    binary main_v21 main_v20 main_v22 (mulf : (⟨S4x3, .f32⟩ : BufTy).Contents (Elt F) → (⟨S4x3, .f32⟩ : BufTy).Contents (Elt F) → (⟨S4x3, .f32⟩ : BufTy).Contents (Elt F)),
    unary main_arg1 main_v23 ((extractStridedSlice S4x3x1 ![0, 0, 3] · slices_S4x3x4_S4x3x1_0_0_3) : (⟨S4x3x4, .f32⟩ : BufTy).Contents (Elt F) → (⟨S4x3x1, .f32⟩ : BufTy).Contents (Elt F)),
    reshape main_v23 main_v24 (rfl : (.f32 : EltTy) = .f32) shapeCasts_S4x3x1_S4x3,
    unary main_arg1 main_v25 ((extractStridedSlice S4x3x1 ![0, 0, 0] · slices_S4x3x4_S4x3x1_0_0_0) : (⟨S4x3x4, .f32⟩ : BufTy).Contents (Elt F) → (⟨S4x3x1, .f32⟩ : BufTy).Contents (Elt F)),
    reshape main_v25 main_v26 (rfl : (.f32 : EltTy) = .f32) shapeCasts_S4x3x1_S4x3,
    binary main_v24 main_v26 main_v27 (subf : (⟨S4x3, .f32⟩ : BufTy).Contents (Elt F) → (⟨S4x3, .f32⟩ : BufTy).Contents (Elt F) → (⟨S4x3, .f32⟩ : BufTy).Contents (Elt F)),
    unary main_arg1 main_v28 ((extractStridedSlice S4x3x1 ![0, 0, 1] · slices_S4x3x4_S4x3x1_0_0_1) : (⟨S4x3x4, .f32⟩ : BufTy).Contents (Elt F) → (⟨S4x3x1, .f32⟩ : BufTy).Contents (Elt F)),
    reshape main_v28 main_v29 (rfl : (.f32 : EltTy) = .f32) shapeCasts_S4x3x1_S4x3,
    binary main_v27 main_v29 main_v30 (subf : (⟨S4x3, .f32⟩ : BufTy).Contents (Elt F) → (⟨S4x3, .f32⟩ : BufTy).Contents (Elt F) → (⟨S4x3, .f32⟩ : BufTy).Contents (Elt F)),
    unary main_arg1 main_v31 ((extractStridedSlice S4x3x1 ![0, 0, 2] · slices_S4x3x4_S4x3x1_0_0_2) : (⟨S4x3x4, .f32⟩ : BufTy).Contents (Elt F) → (⟨S4x3x1, .f32⟩ : BufTy).Contents (Elt F)),
    reshape main_v31 main_v32 (rfl : (.f32 : EltTy) = .f32) shapeCasts_S4x3x1_S4x3,
    binary main_v30 main_v32 main_v33 (subf : (⟨S4x3, .f32⟩ : BufTy).Contents (Elt F) → (⟨S4x3, .f32⟩ : BufTy).Contents (Elt F) → (⟨S4x3, .f32⟩ : BufTy).Contents (Elt F)),
    nullary main_cst_5 (constant S_ .f32 0x42400000#32),
    unary main_cst_5 main_v34 (broadcastInDim S4x3 ![] bcast_S_S4x3 : (⟨S_, .f32⟩ : BufTy).Contents (Elt F) → (⟨S4x3, .f32⟩ : BufTy).Contents (Elt F)),
    binary main_v34 main_v33 main_v35 (mulf : (⟨S4x3, .f32⟩ : BufTy).Contents (Elt F) → (⟨S4x3, .f32⟩ : BufTy).Contents (Elt F) → (⟨S4x3, .f32⟩ : BufTy).Contents (Elt F)),
    nullary main_cst_6 (constant S_ .f32 0x42400000#32),
    unary main_cst_6 main_v36 (broadcastInDim S4x3 ![] bcast_S_S4x3 : (⟨S_, .f32⟩ : BufTy).Contents (Elt F) → (⟨S4x3, .f32⟩ : BufTy).Contents (Elt F)),
    binary main_v35 main_v36 main_v37 (addf : (⟨S4x3, .f32⟩ : BufTy).Contents (Elt F) → (⟨S4x3, .f32⟩ : BufTy).Contents (Elt F) → (⟨S4x3, .f32⟩ : BufTy).Contents (Elt F)) ]

/-- The buffers stage `st3` writes. -/
abbrev st3W : List (Ref sig .tc) := [main_v11, main_v12, main_v13, main_v14, main_v15, main_v16, main_v17, main_v18, main_v19, main_v20, main_v21, main_v22, main_v23, main_v24, main_v25, main_v26, main_v27, main_v28, main_v29, main_v30, main_v31, main_v32, main_v33, main_cst_5, main_v34, main_v35, main_cst_6, main_v36, main_v37]

set_option maxRecDepth 8192 in
theorem st3_sub : (st3 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., unary_bufs_sub .., reshape_bufs_sub .., unary_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., binary_bufs_sub .., nullary_bufs_sub .., unary_bufs_sub .., binary_bufs_sub .., nullary_bufs_sub .., unary_bufs_sub .., binary_bufs_sub ..⟩

set_option maxRecDepth 8192 in
theorem st3_fresh : (st3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem st3_keep (V : Valuation τ sig (Elt F)) (r : Ref sig .tc) (h : r ∉ st3W) :
    after st3 V (Proc.devRef .tc r) = V (Proc.devRef .tc r) :=
  after_of_writes_sub st3 _ (forall_writes_sub_of_map rfl) h

abbrev st4 : List (HloOp τ sig (Elt F)) :=
  [ nullary main_v38 (iotaInDim S288 32 0),
    nullary main_c (constantI S_ 32 72#32),
    TRef.unary (TRef.of (T := ⟨S_, .i32⟩) main_c) (TRef.of (T := ⟨S_, .i32⟩) main_call1_v0) id,
    TRef.unary (TRef.of (T := ⟨S_, .i32⟩) main_call1_v0) (TRef.of (T := ⟨S288, .i32⟩) main_call1_v1) (broadcastInDim S288 ![] bcast_S_S288),
    TRef.binary (TRef.of (T := ⟨S288, .i32⟩) main_v38) (TRef.of (T := ⟨S288, .i32⟩) main_call1_v1) (TRef.of (T := ⟨S288, .i32⟩) main_call1_v2) Host.divsi,
    TRef.unary (TRef.of (T := ⟨S288, .i32⟩) main_v38) (TRef.of (T := ⟨S288, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S288, .i32⟩) main_call1_v5) (broadcastInDim S288 ![] bcast_S_S288),
    TRef.binary (TRef.of (T := ⟨S288, .i32⟩) main_call1_v3) (TRef.of (T := ⟨S288, .i32⟩) main_call1_v5) (TRef.of (T := ⟨S288, .i1⟩) main_call1_v6) (cmpi .ne),
    TRef.unary (TRef.of (T := ⟨S_, .i32⟩) main_call1_v0) (TRef.of (T := ⟨S288, .i32⟩) main_call1_v7) (broadcastInDim S288 ![] bcast_S_S288),
    TRef.binary (TRef.of (T := ⟨S288, .i32⟩) main_v38) (TRef.of (T := ⟨S288, .i32⟩) main_call1_v7) (TRef.of (T := ⟨S288, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S288, .i32⟩) main_call1_v9) (broadcastInDim S288 ![] bcast_S_S288),
    TRef.binary (TRef.of (T := ⟨S288, .i32⟩) main_call1_v8) (TRef.of (T := ⟨S288, .i32⟩) main_call1_v9) (TRef.of (T := ⟨S288, .i1⟩) main_call1_v10) (cmpi .ne),
    TRef.binary (TRef.of (T := ⟨S288, .i1⟩) main_call1_v6) (TRef.of (T := ⟨S288, .i1⟩) main_call1_v10) (TRef.of (T := ⟨S288, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S288, .i32⟩) main_call1_v12) (broadcastInDim S288 ![] bcast_S_S288),
    TRef.binary (TRef.of (T := ⟨S288, .i32⟩) main_call1_v2) (TRef.of (T := ⟨S288, .i32⟩) main_call1_v12) (TRef.of (T := ⟨S288, .i32⟩) main_call1_v13) subi,
    TRef.ternary (TRef.of (T := ⟨S288, .i1⟩) main_call1_v11) (TRef.of (T := ⟨S288, .i32⟩) main_call1_v13) (TRef.of (T := ⟨S288, .i32⟩) main_call1_v2) (TRef.of (T := ⟨S288, .i32⟩) main_v39) select ]

/-- The buffers stage `st4` writes. -/
abbrev st4W : List (Ref sig .tc) := [main_v38, main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v39]

set_option maxRecDepth 8192 in
theorem st4_sub : (st4 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

set_option maxRecDepth 8192 in
theorem st4_fresh : (st4 : List (HloOp τ sig (Elt F))).Forall fun op => op.fresh = ∅ :=
  ⟨rfl, rfl, rfl, rfl, rfl, rfl, rfl, rfl, rfl, rfl, rfl, rfl, rfl, rfl, rfl, rfl, rfl, rfl, rfl⟩

theorem st4_keep (V : Valuation τ sig (Elt F)) (r : Ref sig .tc) (h : r ∉ st4W) :
    after st4 V (Proc.devRef .tc r) = V (Proc.devRef .tc r) :=
  after_of_writes_sub st4 _ (forall_writes_sub_of_map rfl) h

abbrev st5 : List (HloOp τ sig (Elt F)) :=
  [ nullary main_c_7 (constantI S_ 32 6#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S288, .i32⟩) main_call2_v1) (broadcastInDim S288 ![] bcast_S_S288),
    TRef.binary (TRef.of (T := ⟨S288, .i32⟩) main_v38) (TRef.of (T := ⟨S288, .i32⟩) main_call2_v1) (TRef.of (T := ⟨S288, .i32⟩) main_call2_v2) Host.divsi,
    TRef.unary (TRef.of (T := ⟨S288, .i32⟩) main_v38) (TRef.of (T := ⟨S288, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S288, .i32⟩) main_call2_v5) (broadcastInDim S288 ![] bcast_S_S288),
    TRef.binary (TRef.of (T := ⟨S288, .i32⟩) main_call2_v3) (TRef.of (T := ⟨S288, .i32⟩) main_call2_v5) (TRef.of (T := ⟨S288, .i1⟩) main_call2_v6) (cmpi .ne),
    TRef.unary (TRef.of (T := ⟨S_, .i32⟩) main_call2_v0) (TRef.of (T := ⟨S288, .i32⟩) main_call2_v7) (broadcastInDim S288 ![] bcast_S_S288),
    TRef.binary (TRef.of (T := ⟨S288, .i32⟩) main_v38) (TRef.of (T := ⟨S288, .i32⟩) main_call2_v7) (TRef.of (T := ⟨S288, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S288, .i32⟩) main_call2_v9) (broadcastInDim S288 ![] bcast_S_S288),
    TRef.binary (TRef.of (T := ⟨S288, .i32⟩) main_call2_v8) (TRef.of (T := ⟨S288, .i32⟩) main_call2_v9) (TRef.of (T := ⟨S288, .i1⟩) main_call2_v10) (cmpi .ne),
    TRef.binary (TRef.of (T := ⟨S288, .i1⟩) main_call2_v6) (TRef.of (T := ⟨S288, .i1⟩) main_call2_v10) (TRef.of (T := ⟨S288, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S288, .i32⟩) main_call2_v12) (broadcastInDim S288 ![] bcast_S_S288),
    TRef.binary (TRef.of (T := ⟨S288, .i32⟩) main_call2_v2) (TRef.of (T := ⟨S288, .i32⟩) main_call2_v12) (TRef.of (T := ⟨S288, .i32⟩) main_call2_v13) subi,
    TRef.ternary (TRef.of (T := ⟨S288, .i1⟩) main_call2_v11) (TRef.of (T := ⟨S288, .i32⟩) main_call2_v13) (TRef.of (T := ⟨S288, .i32⟩) main_call2_v2) (TRef.of (T := ⟨S288, .i32⟩) main_v40) select,
    nullary main_c_8 (constantI S_ 32 12#32),
    TRef.unary (TRef.of (T := ⟨S_, .i32⟩) main_c_8) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S288, .i32⟩) main_call3_v3) (broadcastInDim S288 ![] bcast_S_S288),
    TRef.binary (TRef.of (T := ⟨S288, .i32⟩) main_v40) (TRef.of (T := ⟨S288, .i32⟩) main_call3_v3) (TRef.of (T := ⟨S288, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S288, .i32⟩) main_call3_v5) (broadcastInDim S288 ![] bcast_S_S288),
    TRef.binary (TRef.of (T := ⟨S288, .i32⟩) main_call3_v4) (TRef.of (T := ⟨S288, .i32⟩) main_call3_v5) (TRef.of (T := ⟨S288, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S288, .i32⟩) main_call3_v7) (broadcastInDim S288 ![] bcast_S_S288),
    TRef.binary (TRef.of (T := ⟨S288, .i32⟩) main_call3_v4) (TRef.of (T := ⟨S288, .i32⟩) main_call3_v7) (TRef.of (T := ⟨S288, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S288, .i1⟩) main_call3_v10) (broadcastInDim S288 ![] bcast_S_S288),
    TRef.binary (TRef.of (T := ⟨S288, .i1⟩) main_call3_v8) (TRef.of (T := ⟨S288, .i1⟩) main_call3_v10) (TRef.of (T := ⟨S288, .i1⟩) main_call3_v11) (cmpi .ne),
    TRef.binary (TRef.of (T := ⟨S288, .i1⟩) main_call3_v11) (TRef.of (T := ⟨S288, .i1⟩) main_call3_v6) (TRef.of (T := ⟨S288, .i1⟩) main_call3_v12) andi,
    TRef.unary (TRef.of (T := ⟨S_, .i32⟩) main_call3_v2) (TRef.of (T := ⟨S288, .i32⟩) main_call3_v13) (broadcastInDim S288 ![] bcast_S_S288),
    TRef.binary (TRef.of (T := ⟨S288, .i32⟩) main_call3_v4) (TRef.of (T := ⟨S288, .i32⟩) main_call3_v13) (TRef.of (T := ⟨S288, .i32⟩) main_call3_v14) addi,
    TRef.ternary (TRef.of (T := ⟨S288, .i1⟩) main_call3_v12) (TRef.of (T := ⟨S288, .i32⟩) main_call3_v14) (TRef.of (T := ⟨S288, .i32⟩) main_call3_v4) (TRef.of (T := ⟨S288, .i32⟩) main_v41) select,
    nullary main_c_9 (constantI S_ 32 8#32),
    unary main_c_9 main_v42 (broadcastInDim S288 ![] bcast_S_S288 : (⟨S_, .i32⟩ : BufTy).Contents (Elt F) → (⟨S288, .i32⟩ : BufTy).Contents (Elt F)),
    binary main_v41 main_v42 main_v43 (muli : (⟨S288, .i32⟩ : BufTy).Contents (Elt F) → (⟨S288, .i32⟩ : BufTy).Contents (Elt F) → (⟨S288, .i32⟩ : BufTy).Contents (Elt F)) ]

/-- The buffers stage `st5` writes. -/
abbrev st5W : List (Ref sig .tc) := [main_c_7, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v40, main_c_8, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v41, main_c_9, main_v42, main_v43]

set_option maxRecDepth 8192 in
theorem st5_sub : (st5 : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub ..⟩

set_option maxRecDepth 8192 in
theorem st5_fresh : (st5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem st5_keep (V : Valuation τ sig (Elt F)) (r : Ref sig .tc) (h : r ∉ st5W) :
    after st5 V (Proc.devRef .tc r) = V (Proc.devRef .tc r) :=
  after_of_writes_sub st5 _ (forall_writes_sub_of_map rfl) h

abbrev st6a : List (HloOp τ sig (Elt F)) :=
  [ nullary main_c_10 (constantI S_ 32 6#32),
    TRef.unary (TRef.of (T := ⟨S_, .i32⟩) main_c_10) (TRef.of (T := ⟨S_, .i32⟩) main_call4_v0) id,
    TRef.nullary (TRef.of (T := ⟨S_, .i32⟩) main_call4_c) (constantI S_ 32 0#32),
    TRef.binary (TRef.of (T := ⟨S_, .i32⟩) main_call4_v0) (TRef.of (T := ⟨S_, .i32⟩) main_call4_c) (TRef.of (T := ⟨S_, .i1⟩) main_call4_v1) (cmpi .eq),
    TRef.nullary (TRef.of (T := ⟨S_, .i32⟩) main_call4_c_0) (constantI S_ 32 1#32),
    TRef.ternary (TRef.of (T := ⟨S_, .i1⟩) main_call4_v1) (TRef.of (T := ⟨S_, .i32⟩) main_call4_c_0) (TRef.of (T := ⟨S_, .i32⟩) main_call4_v0) (TRef.of (T := ⟨S_, .i32⟩) main_call4_v2) select,
    TRef.unary (TRef.of (T := ⟨S_, .i32⟩) main_call4_v2) (TRef.of (T := ⟨S288, .i32⟩) main_call4_v3) (broadcastInDim S288 ![] bcast_S_S288),
    TRef.binary (TRef.of (T := ⟨S288, .i32⟩) main_v38) (TRef.of (T := ⟨S288, .i32⟩) main_call4_v3) (TRef.of (T := ⟨S288, .i32⟩) main_call4_v4) Host.remsi,
    TRef.nullary (TRef.of (T := ⟨S_, .i32⟩) main_call4_c_1) (constantI S_ 32 0#32),
    TRef.unary (TRef.of (T := ⟨S_, .i32⟩) main_call4_c_1) (TRef.of (T := ⟨S288, .i32⟩) main_call4_v5) (broadcastInDim S288 ![] bcast_S_S288),
    TRef.binary (TRef.of (T := ⟨S288, .i32⟩) main_call4_v4) (TRef.of (T := ⟨S288, .i32⟩) main_call4_v5) (TRef.of (T := ⟨S288, .i1⟩) main_call4_v6) (cmpi .ne),
    TRef.nullary (TRef.of (T := ⟨S_, .i32⟩) main_call4_c_2) (constantI S_ 32 0#32),
    TRef.unary (TRef.of (T := ⟨S_, .i32⟩) main_call4_c_2) (TRef.of (T := ⟨S288, .i32⟩) main_call4_v7) (broadcastInDim S288 ![] bcast_S_S288),
    TRef.binary (TRef.of (T := ⟨S288, .i32⟩) main_call4_v4) (TRef.of (T := ⟨S288, .i32⟩) main_call4_v7) (TRef.of (T := ⟨S288, .i1⟩) main_call4_v8) (cmpi .slt),
    TRef.nullary (TRef.of (T := ⟨S_, .i32⟩) main_call4_c_3) (constantI S_ 32 0#32),
    TRef.binary (TRef.of (T := ⟨S_, .i32⟩) main_call4_v2) (TRef.of (T := ⟨S_, .i32⟩) main_call4_c_3) (TRef.of (T := ⟨S_, .i1⟩) main_call4_v9) (cmpi .slt),
    TRef.unary (TRef.of (T := ⟨S_, .i1⟩) main_call4_v9) (TRef.of (T := ⟨S288, .i1⟩) main_call4_v10) (broadcastInDim S288 ![] bcast_S_S288),
    TRef.binary (TRef.of (T := ⟨S288, .i1⟩) main_call4_v8) (TRef.of (T := ⟨S288, .i1⟩) main_call4_v10) (TRef.of (T := ⟨S288, .i1⟩) main_call4_v11) (cmpi .ne),
    TRef.binary (TRef.of (T := ⟨S288, .i1⟩) main_call4_v11) (TRef.of (T := ⟨S288, .i1⟩) main_call4_v6) (TRef.of (T := ⟨S288, .i1⟩) main_call4_v12) andi,
    TRef.unary (TRef.of (T := ⟨S_, .i32⟩) main_call4_v2) (TRef.of (T := ⟨S288, .i32⟩) main_call4_v13) (broadcastInDim S288 ![] bcast_S_S288),
    TRef.binary (TRef.of (T := ⟨S288, .i32⟩) main_call4_v4) (TRef.of (T := ⟨S288, .i32⟩) main_call4_v13) (TRef.of (T := ⟨S288, .i32⟩) main_call4_v14) addi,
    TRef.ternary (TRef.of (T := ⟨S288, .i1⟩) main_call4_v12) (TRef.of (T := ⟨S288, .i32⟩) main_call4_v14) (TRef.of (T := ⟨S288, .i32⟩) main_call4_v4) (TRef.of (T := ⟨S288, .i32⟩) main_v44) select,
    nullary main_c_11 (constantI S_ 32 16#32),
    unary main_c_11 main_v45 (broadcastInDim S288 ![] bcast_S_S288 : (⟨S_, .i32⟩ : BufTy).Contents (Elt F) → (⟨S288, .i32⟩ : BufTy).Contents (Elt F)) ]

/-- The buffers stage `st6a` writes. -/
abbrev st6aW : List (Ref sig .tc) := [main_c_10, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v44, main_c_11, main_v45]

set_option maxRecDepth 8192 in
theorem st6a_sub : (st6a : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub ..⟩

set_option maxRecDepth 8192 in
theorem st6a_fresh : (st6a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

theorem st6a_keep (V : Valuation τ sig (Elt F)) (r : Ref sig .tc) (h : r ∉ st6aW) :
    after st6a V (Proc.devRef .tc r) = V (Proc.devRef .tc r) :=
  after_of_writes_sub st6a _ (forall_writes_sub_of_map rfl) h

abbrev st6b : List (HloOp τ sig (Elt F)) :=
  [ binary main_v44 main_v45 main_v46 (muli : (⟨S288, .i32⟩ : BufTy).Contents (Elt F) → (⟨S288, .i32⟩ : BufTy).Contents (Elt F) → (⟨S288, .i32⟩ : BufTy).Contents (Elt F)) ]

/-- The buffers stage `st6b` writes. -/
abbrev st6bW : List (Ref sig .tc) := [main_v46]

theorem st6b_sub : (st6b : List (HloOp τ sig (Elt F))).Forall fun op => op.bufs ⊆ tcRefs τ sig := binary_bufs_sub ..

theorem st6b_fresh : (st6b : List (HloOp τ sig (Elt F))).Forall fun op => op.fresh = ∅ := rfl

theorem st6b_keep (V : Valuation τ sig (Elt F)) (r : Ref sig .tc) (h : r ∉ st6bW) :
    after st6b V (Proc.devRef .tc r) = V (Proc.devRef .tc r) :=
  after_of_writes_sub st6b _ (forall_writes_sub_of_map rfl) h

abbrev st7 : List (HloOp τ sig (Elt F)) :=
  [ unary main_v43 main_v47 (sitofp .f32 : (⟨S288, .i32⟩ : BufTy).Contents (Elt F) → (⟨S288, .f32⟩ : BufTy).Contents (Elt F)),
    unary main_v46 main_v48 (sitofp .f32 : (⟨S288, .i32⟩ : BufTy).Contents (Elt F) → (⟨S288, .f32⟩ : BufTy).Contents (Elt F)),
    nullary main_c_12 (constantI S_ 32 0#32),
    unary main_c_12 main_v49 (broadcastInDim S288 ![] bcast_S_S288 : (⟨S_, .i32⟩ : BufTy).Contents (Elt F) → (⟨S288, .i32⟩ : BufTy).Contents (Elt F)) ]

/-- The buffers stage `st7` writes. -/
abbrev st7W : List (Ref sig .tc) := [main_v47, main_v48, main_c_12, main_v49]

set_option maxRecDepth 8192 in
theorem st7_sub : (st7 : List (HloOp τ sig (Elt F))).Forall fun op => op.bufs ⊆ tcRefs τ sig :=
  ⟨unary_bufs_sub .., unary_bufs_sub .., nullary_bufs_sub .., unary_bufs_sub ..⟩

set_option maxRecDepth 8192 in
theorem st7_fresh : (st7 : List (HloOp τ sig (Elt F))).Forall fun op => op.fresh = ∅ :=
  ⟨rfl, rfl, rfl, rfl⟩

theorem st7_keep (V : Valuation τ sig (Elt F)) (r : Ref sig .tc) (h : r ∉ st7W) :
    after st7 V (Proc.devRef .tc r) = V (Proc.devRef .tc r) :=
  after_of_writes_sub st7 _ (forall_writes_sub_of_map rfl) h

abbrev st8 : List (HloOp τ sig (Elt F)) :=
  [ nullary main_c_13 (constantI S_ 32 0#32),
    unary main_c_13 main_v50 (broadcastInDim S288 ![] bcast_S_S288 : (⟨S_, .i32⟩ : BufTy).Contents (Elt F) → (⟨S288, .i32⟩ : BufTy).Contents (Elt F)),
    binary main_v39 main_v50 main_v51 (cmpi .slt : (⟨S288, .i32⟩ : BufTy).Contents (Elt F) → (⟨S288, .i32⟩ : BufTy).Contents (Elt F) → (⟨S288, .i1⟩ : BufTy).Contents (Elt F)),
    nullary main_c_14 (constantI S_ 32 4#32),
    unary main_c_14 main_v52 (broadcastInDim S288 ![] bcast_S_S288 : (⟨S_, .i32⟩ : BufTy).Contents (Elt F) → (⟨S288, .i32⟩ : BufTy).Contents (Elt F)),
    binary main_v39 main_v52 main_v53 (addi : (⟨S288, .i32⟩ : BufTy).Contents (Elt F) → (⟨S288, .i32⟩ : BufTy).Contents (Elt F) → (⟨S288, .i32⟩ : BufTy).Contents (Elt F)),
    ternary main_v51 main_v53 main_v39 main_v54 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_15 (constantI S_ 32 2#32),
    unary main_c_15 main_v55 (broadcastInDim S288 ![] bcast_S_S288 : (⟨S_, .i32⟩ : BufTy).Contents (Elt F) → (⟨S288, .i32⟩ : BufTy).Contents (Elt F)),
    unary main_v55 main_v56 (id : (⟨S288, .i32⟩ : BufTy).Contents (Elt F) → (⟨S288, .i32⟩ : BufTy).Contents (Elt F)),
    unary main_v54 main_v57 (broadcastInDim S288x1 ![0] bcast_S288_S288x1_0 : (⟨S288, .i32⟩ : BufTy).Contents (Elt F) → (⟨S288x1, .i32⟩ : BufTy).Contents (Elt F)),
    unary main_v56 main_v58 (broadcastInDim S288x1 ![0] bcast_S288_S288x1_0 : (⟨S288, .i32⟩ : BufTy).Contents (Elt F) → (⟨S288x1, .i32⟩ : BufTy).Contents (Elt F)),
    binary main_v57 main_v58 main_v59 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v14 main_v59 main_v60 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st8` writes. -/
abbrev st8W : List (Ref sig .tc) := [main_c_13, main_v50, main_v51, main_c_14, main_v52, main_v53, main_v54, main_c_15, main_v55, main_v56, main_v57, main_v58, main_v59, main_v60]

set_option maxRecDepth 8192 in
theorem st8_sub : (st8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st8_fresh : (st8 : List (HloOp τ sig (Elt F))).Forall fun op => op.fresh = ∅ :=
  ⟨rfl, rfl, rfl, rfl, rfl, rfl, rfl, rfl, rfl, rfl, rfl, rfl, rfl, rfl⟩

theorem st8_keep (V : Valuation τ sig (Elt F)) (r : Ref sig .tc) (h : r ∉ st8W) :
    after st8 V (Proc.devRef .tc r) = V (Proc.devRef .tc r) :=
  after_of_writes_sub st8 _ (forall_writes_sub_of_map rfl) h

abbrev st9 : List (HloOp τ sig (Elt F)) :=
  [ nullary main_c_16 (constantI S_ 32 0#32),
    unary main_c_16 main_v61 (broadcastInDim S288 ![] bcast_S_S288 : (⟨S_, .i32⟩ : BufTy).Contents (Elt F) → (⟨S288, .i32⟩ : BufTy).Contents (Elt F)),
    binary main_v39 main_v61 main_v62 (cmpi .slt : (⟨S288, .i32⟩ : BufTy).Contents (Elt F) → (⟨S288, .i32⟩ : BufTy).Contents (Elt F) → (⟨S288, .i1⟩ : BufTy).Contents (Elt F)),
    nullary main_c_17 (constantI S_ 32 4#32),
    unary main_c_17 main_v63 (broadcastInDim S288 ![] bcast_S_S288 : (⟨S_, .i32⟩ : BufTy).Contents (Elt F) → (⟨S288, .i32⟩ : BufTy).Contents (Elt F)),
    binary main_v39 main_v63 main_v64 (addi : (⟨S288, .i32⟩ : BufTy).Contents (Elt F) → (⟨S288, .i32⟩ : BufTy).Contents (Elt F) → (⟨S288, .i32⟩ : BufTy).Contents (Elt F)),
    ternary main_v62 main_v64 main_v39 main_v65 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_18 (constantI S_ 32 2#32),
    unary main_c_18 main_v66 (broadcastInDim S288 ![] bcast_S_S288 : (⟨S_, .i32⟩ : BufTy).Contents (Elt F) → (⟨S288, .i32⟩ : BufTy).Contents (Elt F)),
    unary main_v66 main_v67 (id : (⟨S288, .i32⟩ : BufTy).Contents (Elt F) → (⟨S288, .i32⟩ : BufTy).Contents (Elt F)),
    unary main_v65 main_v68 (broadcastInDim S288x1 ![0] bcast_S288_S288x1_0 : (⟨S288, .i32⟩ : BufTy).Contents (Elt F) → (⟨S288x1, .i32⟩ : BufTy).Contents (Elt F)),
    unary main_v67 main_v69 (broadcastInDim S288x1 ![0] bcast_S288_S288x1_0 : (⟨S288, .i32⟩ : BufTy).Contents (Elt F) → (⟨S288x1, .i32⟩ : BufTy).Contents (Elt F)),
    binary main_v68 main_v69 main_v70 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v22 main_v70 main_v71 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st9` writes. -/
abbrev st9W : List (Ref sig .tc) := [main_c_16, main_v61, main_v62, main_c_17, main_v63, main_v64, main_v65, main_c_18, main_v66, main_v67, main_v68, main_v69, main_v70, main_v71]

set_option maxRecDepth 8192 in
theorem st9_sub : (st9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st9_fresh : (st9 : List (HloOp τ sig (Elt F))).Forall fun op => op.fresh = ∅ :=
  ⟨rfl, rfl, rfl, rfl, rfl, rfl, rfl, rfl, rfl, rfl, rfl, rfl, rfl, rfl⟩

theorem st9_keep (V : Valuation τ sig (Elt F)) (r : Ref sig .tc) (h : r ∉ st9W) :
    after st9 V (Proc.devRef .tc r) = V (Proc.devRef .tc r) :=
  after_of_writes_sub st9 _ (forall_writes_sub_of_map rfl) h

abbrev st10 : List (HloOp τ sig (Elt F)) :=
  [ nullary main_c_19 (constantI S_ 32 0#32),
    unary main_c_19 main_v72 (broadcastInDim S288 ![] bcast_S_S288 : (⟨S_, .i32⟩ : BufTy).Contents (Elt F) → (⟨S288, .i32⟩ : BufTy).Contents (Elt F)),
    binary main_v39 main_v72 main_v73 (cmpi .slt : (⟨S288, .i32⟩ : BufTy).Contents (Elt F) → (⟨S288, .i32⟩ : BufTy).Contents (Elt F) → (⟨S288, .i1⟩ : BufTy).Contents (Elt F)),
    nullary main_c_20 (constantI S_ 32 4#32),
    unary main_c_20 main_v74 (broadcastInDim S288 ![] bcast_S_S288 : (⟨S_, .i32⟩ : BufTy).Contents (Elt F) → (⟨S288, .i32⟩ : BufTy).Contents (Elt F)),
    binary main_v39 main_v74 main_v75 (addi : (⟨S288, .i32⟩ : BufTy).Contents (Elt F) → (⟨S288, .i32⟩ : BufTy).Contents (Elt F) → (⟨S288, .i32⟩ : BufTy).Contents (Elt F)),
    ternary main_v73 main_v75 main_v39 main_v76 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_21 (constantI S_ 32 2#32),
    unary main_c_21 main_v77 (broadcastInDim S288 ![] bcast_S_S288 : (⟨S_, .i32⟩ : BufTy).Contents (Elt F) → (⟨S288, .i32⟩ : BufTy).Contents (Elt F)),
    unary main_v77 main_v78 (id : (⟨S288, .i32⟩ : BufTy).Contents (Elt F) → (⟨S288, .i32⟩ : BufTy).Contents (Elt F)),
    unary main_v76 main_v79 (broadcastInDim S288x1 ![0] bcast_S288_S288x1_0 : (⟨S288, .i32⟩ : BufTy).Contents (Elt F) → (⟨S288x1, .i32⟩ : BufTy).Contents (Elt F)),
    unary main_v78 main_v80 (broadcastInDim S288x1 ![0] bcast_S288_S288x1_0 : (⟨S288, .i32⟩ : BufTy).Contents (Elt F) → (⟨S288x1, .i32⟩ : BufTy).Contents (Elt F)),
    binary main_v79 main_v80 main_v81 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v18 main_v81 main_v82 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st10` writes. -/
abbrev st10W : List (Ref sig .tc) := [main_c_19, main_v72, main_v73, main_c_20, main_v74, main_v75, main_v76, main_c_21, main_v77, main_v78, main_v79, main_v80, main_v81, main_v82]

set_option maxRecDepth 8192 in
theorem st10_sub : (st10 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st10_fresh : (st10 : List (HloOp τ sig (Elt F))).Forall fun op => op.fresh = ∅ :=
  ⟨rfl, rfl, rfl, rfl, rfl, rfl, rfl, rfl, rfl, rfl, rfl, rfl, rfl, rfl⟩

theorem st10_keep (V : Valuation τ sig (Elt F)) (r : Ref sig .tc) (h : r ∉ st10W) :
    after st10 V (Proc.devRef .tc r) = V (Proc.devRef .tc r) :=
  after_of_writes_sub st10 _ (forall_writes_sub_of_map rfl) h

abbrev st11a : List (HloOp τ sig (Elt F)) :=
  [ nullary main_c_22 (constantI S_ 32 0#32),
    unary main_c_22 main_v83 (broadcastInDim S288 ![] bcast_S_S288 : (⟨S_, .i32⟩ : BufTy).Contents (Elt F) → (⟨S288, .i32⟩ : BufTy).Contents (Elt F)),
    binary main_v39 main_v83 main_v84 (cmpi .slt : (⟨S288, .i32⟩ : BufTy).Contents (Elt F) → (⟨S288, .i32⟩ : BufTy).Contents (Elt F) → (⟨S288, .i1⟩ : BufTy).Contents (Elt F)),
    nullary main_c_23 (constantI S_ 32 4#32),
    unary main_c_23 main_v85 (broadcastInDim S288 ![] bcast_S_S288 : (⟨S_, .i32⟩ : BufTy).Contents (Elt F) → (⟨S288, .i32⟩ : BufTy).Contents (Elt F)),
    binary main_v39 main_v85 main_v86 (addi : (⟨S288, .i32⟩ : BufTy).Contents (Elt F) → (⟨S288, .i32⟩ : BufTy).Contents (Elt F) → (⟨S288, .i32⟩ : BufTy).Contents (Elt F)),
    ternary main_v84 main_v86 main_v39 main_v87 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_24 (constantI S_ 32 2#32),
    unary main_c_24 main_v88 (broadcastInDim S288 ![] bcast_S_S288 : (⟨S_, .i32⟩ : BufTy).Contents (Elt F) → (⟨S288, .i32⟩ : BufTy).Contents (Elt F)),
    unary main_v88 main_v89 (id : (⟨S288, .i32⟩ : BufTy).Contents (Elt F) → (⟨S288, .i32⟩ : BufTy).Contents (Elt F)),
    unary main_v87 main_v90 (broadcastInDim S288x1 ![0] bcast_S288_S288x1_0 : (⟨S288, .i32⟩ : BufTy).Contents (Elt F) → (⟨S288x1, .i32⟩ : BufTy).Contents (Elt F)),
    unary main_v89 main_v91 (broadcastInDim S288x1 ![0] bcast_S288_S288x1_0 : (⟨S288, .i32⟩ : BufTy).Contents (Elt F) → (⟨S288x1, .i32⟩ : BufTy).Contents (Elt F)),
    binary main_v90 main_v91 main_v92 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)) ]

/-- The buffers stage `st11a` writes. -/
abbrev st11aW : List (Ref sig .tc) := [main_c_22, main_v83, main_v84, main_c_23, main_v85, main_v86, main_v87, main_c_24, main_v88, main_v89, main_v90, main_v91, main_v92]

set_option maxRecDepth 8192 in
theorem st11a_sub : (st11a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub ..⟩

set_option maxRecDepth 8192 in
theorem st11a_fresh : (st11a : List (HloOp τ sig (Elt F))).Forall fun op => op.fresh = ∅ :=
  ⟨rfl, rfl, rfl, rfl, rfl, rfl, rfl, rfl, rfl, rfl, rfl, rfl, rfl⟩

theorem st11a_keep (V : Valuation τ sig (Elt F)) (r : Ref sig .tc) (h : r ∉ st11aW) :
    after st11a V (Proc.devRef .tc r) = V (Proc.devRef .tc r) :=
  after_of_writes_sub st11a _ (forall_writes_sub_of_map rfl) h

abbrev st11b : List (HloOp τ sig (Elt F)) :=
  [ binary main_v37 main_v92 main_v93 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st11b` writes. -/
abbrev st11bW : List (Ref sig .tc) := [main_v93]

theorem st11b_sub : (st11b : List (HloOp τ sig (Elt F))).Forall fun op => op.bufs ⊆ tcRefs τ sig := binary_bufs_sub ..

theorem st11b_fresh : (st11b : List (HloOp τ sig (Elt F))).Forall fun op => op.fresh = ∅ := rfl

theorem st11b_keep (V : Valuation τ sig (Elt F)) (r : Ref sig .tc) (h : r ∉ st11bW) :
    after st11b V (Proc.devRef .tc r) = V (Proc.devRef .tc r) :=
  after_of_writes_sub st11b _ (forall_writes_sub_of_map rfl) h

abbrev st12 : List (HloOp τ sig (Elt F)) :=
  [ nullary main_cst_25 (constant S_ .f32 0x42BE0000#32),
    unary main_cst_25 main_v94 (broadcastInDim S288 ![] bcast_S_S288 : (⟨S_, .f32⟩ : BufTy).Contents (Elt F) → (⟨S288, .f32⟩ : BufTy).Contents (Elt F)),
    binary main_v94 main_v60 main_v95 (mulf : (⟨S288, .f32⟩ : BufTy).Contents (Elt F) → (⟨S288, .f32⟩ : BufTy).Contents (Elt F) → (⟨S288, .f32⟩ : BufTy).Contents (Elt F)),
    nullary main_cst_26 (constant S_ .f32 0x00000000#32),
    unary main_cst_26 main_v96 (broadcastInDim S288 ![] bcast_S_S288 : (⟨S_, .f32⟩ : BufTy).Contents (Elt F) → (⟨S288, .f32⟩ : BufTy).Contents (Elt F)),
    binary main_v96 main_v95 main_v97 (minimumf : (⟨S288, .f32⟩ : BufTy).Contents (Elt F) → (⟨S288, .f32⟩ : BufTy).Contents (Elt F) → (⟨S288, .f32⟩ : BufTy).Contents (Elt F)),
    binary main_v93 main_v97 main_v98 (addf : (⟨S288, .f32⟩ : BufTy).Contents (Elt F) → (⟨S288, .f32⟩ : BufTy).Contents (Elt F) → (⟨S288, .f32⟩ : BufTy).Contents (Elt F)),
    binary main_v71 main_v48 main_v99 (mulf : (⟨S288, .f32⟩ : BufTy).Contents (Elt F) → (⟨S288, .f32⟩ : BufTy).Contents (Elt F) → (⟨S288, .f32⟩ : BufTy).Contents (Elt F)),
    nullary main_cst_27 (constant S_ .f32 0x41800000#32),
    unary main_cst_27 main_v100 (broadcastInDim S288 ![] bcast_S_S288 : (⟨S_, .f32⟩ : BufTy).Contents (Elt F) → (⟨S288, .f32⟩ : BufTy).Contents (Elt F)),
    binary main_v48 main_v100 main_v101 (addf : (⟨S288, .f32⟩ : BufTy).Contents (Elt F) → (⟨S288, .f32⟩ : BufTy).Contents (Elt F) → (⟨S288, .f32⟩ : BufTy).Contents (Elt F)),
    nullary main_cst_28 (constant S_ .f32 0x3F800000#32),
    unary main_cst_28 main_v102 (broadcastInDim S288 ![] bcast_S_S288 : (⟨S_, .f32⟩ : BufTy).Contents (Elt F) → (⟨S288, .f32⟩ : BufTy).Contents (Elt F)),
    binary main_v101 main_v102 main_v103 (subf : (⟨S288, .f32⟩ : BufTy).Contents (Elt F) → (⟨S288, .f32⟩ : BufTy).Contents (Elt F) → (⟨S288, .f32⟩ : BufTy).Contents (Elt F)),
    binary main_v71 main_v103 main_v104 (mulf : (⟨S288, .f32⟩ : BufTy).Contents (Elt F) → (⟨S288, .f32⟩ : BufTy).Contents (Elt F) → (⟨S288, .f32⟩ : BufTy).Contents (Elt F)),
    binary main_v99 main_v104 main_v105 (minimumf : (⟨S288, .f32⟩ : BufTy).Contents (Elt F) → (⟨S288, .f32⟩ : BufTy).Contents (Elt F) → (⟨S288, .f32⟩ : BufTy).Contents (Elt F)),
    binary main_v98 main_v105 main_v106 (addf : (⟨S288, .f32⟩ : BufTy).Contents (Elt F) → (⟨S288, .f32⟩ : BufTy).Contents (Elt F) → (⟨S288, .f32⟩ : BufTy).Contents (Elt F)),
    binary main_v82 main_v47 main_v107 (mulf : (⟨S288, .f32⟩ : BufTy).Contents (Elt F) → (⟨S288, .f32⟩ : BufTy).Contents (Elt F) → (⟨S288, .f32⟩ : BufTy).Contents (Elt F)),
    nullary main_cst_29 (constant S_ .f32 0x41000000#32),
    unary main_cst_29 main_v108 (broadcastInDim S288 ![] bcast_S_S288 : (⟨S_, .f32⟩ : BufTy).Contents (Elt F) → (⟨S288, .f32⟩ : BufTy).Contents (Elt F)),
    binary main_v47 main_v108 main_v109 (addf : (⟨S288, .f32⟩ : BufTy).Contents (Elt F) → (⟨S288, .f32⟩ : BufTy).Contents (Elt F) → (⟨S288, .f32⟩ : BufTy).Contents (Elt F)),
    nullary main_cst_30 (constant S_ .f32 0x3F800000#32),
    unary main_cst_30 main_v110 (broadcastInDim S288 ![] bcast_S_S288 : (⟨S_, .f32⟩ : BufTy).Contents (Elt F) → (⟨S288, .f32⟩ : BufTy).Contents (Elt F)),
    binary main_v109 main_v110 main_v111 (subf : (⟨S288, .f32⟩ : BufTy).Contents (Elt F) → (⟨S288, .f32⟩ : BufTy).Contents (Elt F) → (⟨S288, .f32⟩ : BufTy).Contents (Elt F)),
    binary main_v82 main_v111 main_v112 (mulf : (⟨S288, .f32⟩ : BufTy).Contents (Elt F) → (⟨S288, .f32⟩ : BufTy).Contents (Elt F) → (⟨S288, .f32⟩ : BufTy).Contents (Elt F)),
    binary main_v107 main_v112 main_v113 (minimumf : (⟨S288, .f32⟩ : BufTy).Contents (Elt F) → (⟨S288, .f32⟩ : BufTy).Contents (Elt F) → (⟨S288, .f32⟩ : BufTy).Contents (Elt F)),
    binary main_v106 main_v113 main_v114 (addf : (⟨S288, .f32⟩ : BufTy).Contents (Elt F) → (⟨S288, .f32⟩ : BufTy).Contents (Elt F) → (⟨S288, .f32⟩ : BufTy).Contents (Elt F)),
    nullary main_cst_31 (constant S_ .f32 0x3F4CCCCD#32),
    unary main_cst_31 main_v115 (broadcastInDim S288 ![] bcast_S_S288 : (⟨S_, .f32⟩ : BufTy).Contents (Elt F) → (⟨S288, .f32⟩ : BufTy).Contents (Elt F)),
    binary main_v114 main_v115 main_v116 (subf : (⟨S288, .f32⟩ : BufTy).Contents (Elt F) → (⟨S288, .f32⟩ : BufTy).Contents (Elt F) → (⟨S288, .f32⟩ : BufTy).Contents (Elt F)) ]

/-- The buffers stage `st12` writes. -/
abbrev st12W : List (Ref sig .tc) := [main_cst_25, main_v94, main_v95, main_cst_26, main_v96, main_v97, main_v98, main_v99, main_cst_27, main_v100, main_v101, main_cst_28, main_v102, main_v103, main_v104, main_v105, main_v106, main_v107, main_cst_29, main_v108, main_v109, main_cst_30, main_v110, main_v111, main_v112, main_v113, main_v114, main_cst_31, main_v115, main_v116]

set_option maxRecDepth 8192 in
theorem st12_sub : (st12 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub ..⟩

set_option maxRecDepth 8192 in
theorem st12_fresh : (st12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem st12_keep (V : Valuation τ sig (Elt F)) (r : Ref sig .tc) (h : r ∉ st12W) :
    after st12 V (Proc.devRef .tc r) = V (Proc.devRef .tc r) :=
  after_of_writes_sub st12 _ (forall_writes_sub_of_map rfl) h

abbrev st13 : List (HloOp τ sig (Elt F)) :=
  [ unary main_v116 main_v117 (Host.floor : (⟨S288, .f32⟩ : BufTy).Contents (Elt F) → (⟨S288, .f32⟩ : BufTy).Contents (Elt F)),
    nullary main_c_32 (constantI S_ 32 0#32),
    nullary main_c_33 (constantI S_ 32 68#32),
    TRef.unary (TRef.of (T := ⟨S_, .i32⟩) main_c_32) (TRef.of (T := ⟨S_, .f32⟩) main_call5_v0) (sitofp .f32),
    TRef.unary (TRef.of (T := ⟨S_, .f32⟩) main_call5_v0) (TRef.of (T := ⟨S288, .f32⟩) main_call5_v1) (broadcastInDim S288 ![] bcast_S_S288),
    TRef.binary (TRef.of (T := ⟨S288, .f32⟩) main_call5_v1) (TRef.of (T := ⟨S288, .f32⟩) main_v117) (TRef.of (T := ⟨S288, .f32⟩) main_call5_v2) maximumf,
    TRef.unary (TRef.of (T := ⟨S_, .i32⟩) main_c_33) (TRef.of (T := ⟨S_, .f32⟩) main_call5_v3) (sitofp .f32),
    TRef.unary (TRef.of (T := ⟨S_, .f32⟩) main_call5_v3) (TRef.of (T := ⟨S288, .f32⟩) main_call5_v4) (broadcastInDim S288 ![] bcast_S_S288),
    TRef.binary (TRef.of (T := ⟨S288, .f32⟩) main_call5_v4) (TRef.of (T := ⟨S288, .f32⟩) main_call5_v2) (TRef.of (T := ⟨S288, .f32⟩) main_v118) minimumf,
    unary main_v118 main_v119 (fptosi 32 : (⟨S288, .f32⟩ : BufTy).Contents (Elt F) → (⟨S288, .i32⟩ : BufTy).Contents (Elt F)) ]

/-- The buffers stage `st13` writes. -/
abbrev st13W : List (Ref sig .tc) := [main_v117, main_c_32, main_c_33, main_call5_v0, main_call5_v1, main_call5_v2, main_call5_v3, main_call5_v4, main_v118, main_v119]

set_option maxRecDepth 8192 in
theorem st13_sub : (st13 : List (HloOp τ sig (Elt F))).Forall fun op => op.bufs ⊆ tcRefs τ sig :=
  ⟨unary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
theorem st13_fresh : (st13 : List (HloOp τ sig (Elt F))).Forall fun op => op.fresh = ∅ :=
  ⟨rfl, rfl, rfl, rfl, rfl, rfl, rfl, rfl, rfl, rfl⟩

theorem st13_keep (V : Valuation τ sig (Elt F)) (r : Ref sig .tc) (h : r ∉ st13W) :
    after st13 V (Proc.devRef .tc r) = V (Proc.devRef .tc r) :=
  after_of_writes_sub st13 _ (forall_writes_sub_of_map rfl) h

abbrev st14 : List (HloOp τ sig (Elt F)) :=
  [ nullary main_c_34 (constantI S_ 32 0#32),
    unary main_c_34 main_v120 (broadcastInDim S288 ![] bcast_S_S288 : (⟨S_, .i32⟩ : BufTy).Contents (Elt F) → (⟨S288, .i32⟩ : BufTy).Contents (Elt F)),
    binary main_v39 main_v120 main_v121 (cmpi .slt : (⟨S288, .i32⟩ : BufTy).Contents (Elt F) → (⟨S288, .i32⟩ : BufTy).Contents (Elt F) → (⟨S288, .i1⟩ : BufTy).Contents (Elt F)),
    nullary main_c_35 (constantI S_ 32 4#32),
    unary main_c_35 main_v122 (broadcastInDim S288 ![] bcast_S_S288 : (⟨S_, .i32⟩ : BufTy).Contents (Elt F) → (⟨S288, .i32⟩ : BufTy).Contents (Elt F)),
    binary main_v39 main_v122 main_v123 (addi : (⟨S288, .i32⟩ : BufTy).Contents (Elt F) → (⟨S288, .i32⟩ : BufTy).Contents (Elt F) → (⟨S288, .i32⟩ : BufTy).Contents (Elt F)),
    ternary main_v121 main_v123 main_v39 main_v124 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_36 (constantI S_ 32 1#32),
    unary main_c_36 main_v125 (broadcastInDim S288 ![] bcast_S_S288 : (⟨S_, .i32⟩ : BufTy).Contents (Elt F) → (⟨S288, .i32⟩ : BufTy).Contents (Elt F)),
    unary main_v125 main_v126 (id : (⟨S288, .i32⟩ : BufTy).Contents (Elt F) → (⟨S288, .i32⟩ : BufTy).Contents (Elt F)),
    unary main_v124 main_v127 (broadcastInDim S288x1 ![0] bcast_S288_S288x1_0 : (⟨S288, .i32⟩ : BufTy).Contents (Elt F) → (⟨S288x1, .i32⟩ : BufTy).Contents (Elt F)),
    unary main_v126 main_v128 (broadcastInDim S288x1 ![0] bcast_S288_S288x1_0 : (⟨S288, .i32⟩ : BufTy).Contents (Elt F) → (⟨S288x1, .i32⟩ : BufTy).Contents (Elt F)),
    binary main_v127 main_v128 main_v129 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v14 main_v129 main_v130 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st14` writes. -/
abbrev st14W : List (Ref sig .tc) := [main_c_34, main_v120, main_v121, main_c_35, main_v122, main_v123, main_v124, main_c_36, main_v125, main_v126, main_v127, main_v128, main_v129, main_v130]

set_option maxRecDepth 8192 in
theorem st14_sub : (st14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st14_fresh : (st14 : List (HloOp τ sig (Elt F))).Forall fun op => op.fresh = ∅ :=
  ⟨rfl, rfl, rfl, rfl, rfl, rfl, rfl, rfl, rfl, rfl, rfl, rfl, rfl, rfl⟩

theorem st14_keep (V : Valuation τ sig (Elt F)) (r : Ref sig .tc) (h : r ∉ st14W) :
    after st14 V (Proc.devRef .tc r) = V (Proc.devRef .tc r) :=
  after_of_writes_sub st14 _ (forall_writes_sub_of_map rfl) h

abbrev st15a : List (HloOp τ sig (Elt F)) :=
  [ nullary main_c_37 (constantI S_ 32 0#32),
    unary main_c_37 main_v131 (broadcastInDim S288 ![] bcast_S_S288 : (⟨S_, .i32⟩ : BufTy).Contents (Elt F) → (⟨S288, .i32⟩ : BufTy).Contents (Elt F)),
    binary main_v39 main_v131 main_v132 (cmpi .slt : (⟨S288, .i32⟩ : BufTy).Contents (Elt F) → (⟨S288, .i32⟩ : BufTy).Contents (Elt F) → (⟨S288, .i1⟩ : BufTy).Contents (Elt F)),
    nullary main_c_38 (constantI S_ 32 4#32),
    unary main_c_38 main_v133 (broadcastInDim S288 ![] bcast_S_S288 : (⟨S_, .i32⟩ : BufTy).Contents (Elt F) → (⟨S288, .i32⟩ : BufTy).Contents (Elt F)),
    binary main_v39 main_v133 main_v134 (addi : (⟨S288, .i32⟩ : BufTy).Contents (Elt F) → (⟨S288, .i32⟩ : BufTy).Contents (Elt F) → (⟨S288, .i32⟩ : BufTy).Contents (Elt F)),
    ternary main_v132 main_v134 main_v39 main_v135 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_39 (constantI S_ 32 1#32),
    unary main_c_39 main_v136 (broadcastInDim S288 ![] bcast_S_S288 : (⟨S_, .i32⟩ : BufTy).Contents (Elt F) → (⟨S288, .i32⟩ : BufTy).Contents (Elt F)),
    unary main_v136 main_v137 (id : (⟨S288, .i32⟩ : BufTy).Contents (Elt F) → (⟨S288, .i32⟩ : BufTy).Contents (Elt F)) ]

/-- The buffers stage `st15a` writes. -/
abbrev st15aW : List (Ref sig .tc) := [main_c_37, main_v131, main_v132, main_c_38, main_v133, main_v134, main_v135, main_c_39, main_v136, main_v137]

set_option maxRecDepth 8192 in
theorem st15a_sub : (st15a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub ..⟩

set_option maxRecDepth 8192 in
theorem st15a_fresh : (st15a : List (HloOp τ sig (Elt F))).Forall fun op => op.fresh = ∅ :=
  ⟨rfl, rfl, rfl, rfl, rfl, rfl, rfl, rfl, rfl, rfl⟩

theorem st15a_keep (V : Valuation τ sig (Elt F)) (r : Ref sig .tc) (h : r ∉ st15aW) :
    after st15a V (Proc.devRef .tc r) = V (Proc.devRef .tc r) :=
  after_of_writes_sub st15a _ (forall_writes_sub_of_map rfl) h

abbrev st15b : List (HloOp τ sig (Elt F)) :=
  [ unary main_v135 main_v138 (broadcastInDim S288x1 ![0] bcast_S288_S288x1_0 : (⟨S288, .i32⟩ : BufTy).Contents (Elt F) → (⟨S288x1, .i32⟩ : BufTy).Contents (Elt F)),
    unary main_v137 main_v139 (broadcastInDim S288x1 ![0] bcast_S288_S288x1_0 : (⟨S288, .i32⟩ : BufTy).Contents (Elt F) → (⟨S288x1, .i32⟩ : BufTy).Contents (Elt F)),
    binary main_v138 main_v139 main_v140 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v22 main_v140 main_v141 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st15b` writes. -/
abbrev st15bW : List (Ref sig .tc) := [main_v138, main_v139, main_v140, main_v141]

set_option maxRecDepth 8192 in
theorem st15b_sub : (st15b : List (HloOp τ sig (Elt F))).Forall fun op => op.bufs ⊆ tcRefs τ sig :=
  ⟨unary_bufs_sub .., unary_bufs_sub .., binary_bufs_sub .., binary_bufs_sub ..⟩

set_option maxRecDepth 8192 in
theorem st15b_fresh : (st15b : List (HloOp τ sig (Elt F))).Forall fun op => op.fresh = ∅ :=
  ⟨rfl, rfl, rfl, rfl⟩

theorem st15b_keep (V : Valuation τ sig (Elt F)) (r : Ref sig .tc) (h : r ∉ st15bW) :
    after st15b V (Proc.devRef .tc r) = V (Proc.devRef .tc r) :=
  after_of_writes_sub st15b _ (forall_writes_sub_of_map rfl) h

abbrev st16 : List (HloOp τ sig (Elt F)) :=
  [ nullary main_c_40 (constantI S_ 32 0#32),
    unary main_c_40 main_v142 (broadcastInDim S288 ![] bcast_S_S288 : (⟨S_, .i32⟩ : BufTy).Contents (Elt F) → (⟨S288, .i32⟩ : BufTy).Contents (Elt F)),
    binary main_v39 main_v142 main_v143 (cmpi .slt : (⟨S288, .i32⟩ : BufTy).Contents (Elt F) → (⟨S288, .i32⟩ : BufTy).Contents (Elt F) → (⟨S288, .i1⟩ : BufTy).Contents (Elt F)),
    nullary main_c_41 (constantI S_ 32 4#32),
    unary main_c_41 main_v144 (broadcastInDim S288 ![] bcast_S_S288 : (⟨S_, .i32⟩ : BufTy).Contents (Elt F) → (⟨S288, .i32⟩ : BufTy).Contents (Elt F)),
    binary main_v39 main_v144 main_v145 (addi : (⟨S288, .i32⟩ : BufTy).Contents (Elt F) → (⟨S288, .i32⟩ : BufTy).Contents (Elt F) → (⟨S288, .i32⟩ : BufTy).Contents (Elt F)),
    ternary main_v143 main_v145 main_v39 main_v146 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_42 (constantI S_ 32 1#32),
    unary main_c_42 main_v147 (broadcastInDim S288 ![] bcast_S_S288 : (⟨S_, .i32⟩ : BufTy).Contents (Elt F) → (⟨S288, .i32⟩ : BufTy).Contents (Elt F)),
    unary main_v147 main_v148 (id : (⟨S288, .i32⟩ : BufTy).Contents (Elt F) → (⟨S288, .i32⟩ : BufTy).Contents (Elt F)),
    unary main_v146 main_v149 (broadcastInDim S288x1 ![0] bcast_S288_S288x1_0 : (⟨S288, .i32⟩ : BufTy).Contents (Elt F) → (⟨S288x1, .i32⟩ : BufTy).Contents (Elt F)),
    unary main_v148 main_v150 (broadcastInDim S288x1 ![0] bcast_S288_S288x1_0 : (⟨S288, .i32⟩ : BufTy).Contents (Elt F) → (⟨S288x1, .i32⟩ : BufTy).Contents (Elt F)),
    binary main_v149 main_v150 main_v151 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v18 main_v151 main_v152 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st16` writes. -/
abbrev st16W : List (Ref sig .tc) := [main_c_40, main_v142, main_v143, main_c_41, main_v144, main_v145, main_v146, main_c_42, main_v147, main_v148, main_v149, main_v150, main_v151, main_v152]

set_option maxRecDepth 8192 in
theorem st16_sub : (st16 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st16_fresh : (st16 : List (HloOp τ sig (Elt F))).Forall fun op => op.fresh = ∅ :=
  ⟨rfl, rfl, rfl, rfl, rfl, rfl, rfl, rfl, rfl, rfl, rfl, rfl, rfl, rfl⟩

theorem st16_keep (V : Valuation τ sig (Elt F)) (r : Ref sig .tc) (h : r ∉ st16W) :
    after st16 V (Proc.devRef .tc r) = V (Proc.devRef .tc r) :=
  after_of_writes_sub st16 _ (forall_writes_sub_of_map rfl) h

abbrev st17 : List (HloOp τ sig (Elt F)) :=
  [ nullary main_c_43 (constantI S_ 32 0#32),
    unary main_c_43 main_v153 (broadcastInDim S288 ![] bcast_S_S288 : (⟨S_, .i32⟩ : BufTy).Contents (Elt F) → (⟨S288, .i32⟩ : BufTy).Contents (Elt F)),
    binary main_v39 main_v153 main_v154 (cmpi .slt : (⟨S288, .i32⟩ : BufTy).Contents (Elt F) → (⟨S288, .i32⟩ : BufTy).Contents (Elt F) → (⟨S288, .i1⟩ : BufTy).Contents (Elt F)),
    nullary main_c_44 (constantI S_ 32 4#32),
    unary main_c_44 main_v155 (broadcastInDim S288 ![] bcast_S_S288 : (⟨S_, .i32⟩ : BufTy).Contents (Elt F) → (⟨S288, .i32⟩ : BufTy).Contents (Elt F)),
    binary main_v39 main_v155 main_v156 (addi : (⟨S288, .i32⟩ : BufTy).Contents (Elt F) → (⟨S288, .i32⟩ : BufTy).Contents (Elt F) → (⟨S288, .i32⟩ : BufTy).Contents (Elt F)),
    ternary main_v154 main_v156 main_v39 main_v157 (select : (⟨S288, .i1⟩ : BufTy).Contents (Elt F) → (⟨S288, .i32⟩ : BufTy).Contents (Elt F) → (⟨S288, .i32⟩ : BufTy).Contents (Elt F) → (⟨S288, .i32⟩ : BufTy).Contents (Elt F)),
    nullary main_c_45 (constantI S_ 32 1#32),
    unary main_c_45 main_v158 (broadcastInDim S288 ![] bcast_S_S288 : (⟨S_, .i32⟩ : BufTy).Contents (Elt F) → (⟨S288, .i32⟩ : BufTy).Contents (Elt F)),
    unary main_v158 main_v159 (id : (⟨S288, .i32⟩ : BufTy).Contents (Elt F) → (⟨S288, .i32⟩ : BufTy).Contents (Elt F)),
    unary main_v157 main_v160 (broadcastInDim S288x1 ![0] bcast_S288_S288x1_0 : (⟨S288, .i32⟩ : BufTy).Contents (Elt F) → (⟨S288x1, .i32⟩ : BufTy).Contents (Elt F)),
    unary main_v159 main_v161 (broadcastInDim S288x1 ![0] bcast_S288_S288x1_0 : (⟨S288, .i32⟩ : BufTy).Contents (Elt F) → (⟨S288x1, .i32⟩ : BufTy).Contents (Elt F)),
    binary main_v160 main_v161 main_v162 ((fun a b => concatenate S288x2 1 [⟨S288x1, a⟩, ⟨S288x1, b⟩] concatenates_S288x1_S288x1_S288x2_d1) : (⟨S288x1, .i32⟩ : BufTy).Contents (Elt F) → (⟨S288x1, .i32⟩ : BufTy).Contents (Elt F) → (⟨S288x2, .i32⟩ : BufTy).Contents (Elt F)),
    binary main_v37 main_v162 main_v163 ((fun x i => Host.gather gather_S4x3_S288x2_S288_n_01_n_n_01_1_11 x i) : (⟨S4x3, .f32⟩ : BufTy).Contents (Elt F) → (⟨S288x2, .i32⟩ : BufTy).Contents (Elt F) → (⟨S288, .f32⟩ : BufTy).Contents (Elt F)) ]

/-- The buffers stage `st17` writes. -/
abbrev st17W : List (Ref sig .tc) := [main_c_43, main_v153, main_v154, main_c_44, main_v155, main_v156, main_v157, main_c_45, main_v158, main_v159, main_v160, main_v161, main_v162, main_v163]

set_option maxRecDepth 8192 in
theorem st17_sub : (st17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub ..⟩

set_option maxRecDepth 8192 in
theorem st17_fresh : (st17 : List (HloOp τ sig (Elt F))).Forall fun op => op.fresh = ∅ :=
  ⟨rfl, rfl, rfl, rfl, rfl, rfl, rfl, rfl, rfl, rfl, rfl, rfl, rfl, rfl⟩

theorem st17_keep (V : Valuation τ sig (Elt F)) (r : Ref sig .tc) (h : r ∉ st17W) :
    after st17 V (Proc.devRef .tc r) = V (Proc.devRef .tc r) :=
  after_of_writes_sub st17 _ (forall_writes_sub_of_map rfl) h

abbrev st18a : List (HloOp τ sig (Elt F)) :=
  [ nullary main_cst_46 (constant S_ .f32 0x42BE0000#32),
    unary main_cst_46 main_v164 (broadcastInDim S288 ![] bcast_S_S288 : (⟨S_, .f32⟩ : BufTy).Contents (Elt F) → (⟨S288, .f32⟩ : BufTy).Contents (Elt F)),
    binary main_v164 main_v130 main_v165 (mulf : (⟨S288, .f32⟩ : BufTy).Contents (Elt F) → (⟨S288, .f32⟩ : BufTy).Contents (Elt F) → (⟨S288, .f32⟩ : BufTy).Contents (Elt F)),
    nullary main_cst_47 (constant S_ .f32 0x00000000#32),
    unary main_cst_47 main_v166 (broadcastInDim S288 ![] bcast_S_S288 : (⟨S_, .f32⟩ : BufTy).Contents (Elt F) → (⟨S288, .f32⟩ : BufTy).Contents (Elt F)),
    binary main_v166 main_v165 main_v167 (minimumf : (⟨S288, .f32⟩ : BufTy).Contents (Elt F) → (⟨S288, .f32⟩ : BufTy).Contents (Elt F) → (⟨S288, .f32⟩ : BufTy).Contents (Elt F)),
    binary main_v163 main_v167 main_v168 (addf : (⟨S288, .f32⟩ : BufTy).Contents (Elt F) → (⟨S288, .f32⟩ : BufTy).Contents (Elt F) → (⟨S288, .f32⟩ : BufTy).Contents (Elt F)),
    binary main_v141 main_v48 main_v169 (mulf : (⟨S288, .f32⟩ : BufTy).Contents (Elt F) → (⟨S288, .f32⟩ : BufTy).Contents (Elt F) → (⟨S288, .f32⟩ : BufTy).Contents (Elt F)),
    nullary main_cst_48 (constant S_ .f32 0x41800000#32),
    unary main_cst_48 main_v170 (broadcastInDim S288 ![] bcast_S_S288 : (⟨S_, .f32⟩ : BufTy).Contents (Elt F) → (⟨S288, .f32⟩ : BufTy).Contents (Elt F)),
    binary main_v48 main_v170 main_v171 (addf : (⟨S288, .f32⟩ : BufTy).Contents (Elt F) → (⟨S288, .f32⟩ : BufTy).Contents (Elt F) → (⟨S288, .f32⟩ : BufTy).Contents (Elt F)),
    nullary main_cst_49 (constant S_ .f32 0x3F800000#32),
    unary main_cst_49 main_v172 (broadcastInDim S288 ![] bcast_S_S288 : (⟨S_, .f32⟩ : BufTy).Contents (Elt F) → (⟨S288, .f32⟩ : BufTy).Contents (Elt F)),
    binary main_v171 main_v172 main_v173 (subf : (⟨S288, .f32⟩ : BufTy).Contents (Elt F) → (⟨S288, .f32⟩ : BufTy).Contents (Elt F) → (⟨S288, .f32⟩ : BufTy).Contents (Elt F)),
    binary main_v141 main_v173 main_v174 (mulf : (⟨S288, .f32⟩ : BufTy).Contents (Elt F) → (⟨S288, .f32⟩ : BufTy).Contents (Elt F) → (⟨S288, .f32⟩ : BufTy).Contents (Elt F)),
    binary main_v169 main_v174 main_v175 (minimumf : (⟨S288, .f32⟩ : BufTy).Contents (Elt F) → (⟨S288, .f32⟩ : BufTy).Contents (Elt F) → (⟨S288, .f32⟩ : BufTy).Contents (Elt F)),
    binary main_v168 main_v175 main_v176 (addf : (⟨S288, .f32⟩ : BufTy).Contents (Elt F) → (⟨S288, .f32⟩ : BufTy).Contents (Elt F) → (⟨S288, .f32⟩ : BufTy).Contents (Elt F)),
    binary main_v152 main_v47 main_v177 (mulf : (⟨S288, .f32⟩ : BufTy).Contents (Elt F) → (⟨S288, .f32⟩ : BufTy).Contents (Elt F) → (⟨S288, .f32⟩ : BufTy).Contents (Elt F)),
    nullary main_cst_50 (constant S_ .f32 0x41000000#32),
    unary main_cst_50 main_v178 (broadcastInDim S288 ![] bcast_S_S288 : (⟨S_, .f32⟩ : BufTy).Contents (Elt F) → (⟨S288, .f32⟩ : BufTy).Contents (Elt F)),
    binary main_v47 main_v178 main_v179 (addf : (⟨S288, .f32⟩ : BufTy).Contents (Elt F) → (⟨S288, .f32⟩ : BufTy).Contents (Elt F) → (⟨S288, .f32⟩ : BufTy).Contents (Elt F)),
    nullary main_cst_51 (constant S_ .f32 0x3F800000#32),
    unary main_cst_51 main_v180 (broadcastInDim S288 ![] bcast_S_S288 : (⟨S_, .f32⟩ : BufTy).Contents (Elt F) → (⟨S288, .f32⟩ : BufTy).Contents (Elt F)),
    binary main_v179 main_v180 main_v181 (subf : (⟨S288, .f32⟩ : BufTy).Contents (Elt F) → (⟨S288, .f32⟩ : BufTy).Contents (Elt F) → (⟨S288, .f32⟩ : BufTy).Contents (Elt F)),
    binary main_v152 main_v181 main_v182 (mulf : (⟨S288, .f32⟩ : BufTy).Contents (Elt F) → (⟨S288, .f32⟩ : BufTy).Contents (Elt F) → (⟨S288, .f32⟩ : BufTy).Contents (Elt F)),
    binary main_v177 main_v182 main_v183 (minimumf : (⟨S288, .f32⟩ : BufTy).Contents (Elt F) → (⟨S288, .f32⟩ : BufTy).Contents (Elt F) → (⟨S288, .f32⟩ : BufTy).Contents (Elt F)),
    binary main_v176 main_v183 main_v184 (addf : (⟨S288, .f32⟩ : BufTy).Contents (Elt F) → (⟨S288, .f32⟩ : BufTy).Contents (Elt F) → (⟨S288, .f32⟩ : BufTy).Contents (Elt F)),
    nullary main_cst_52 (constant S_ .f32 0x3F4CCCCD#32) ]

/-- The buffers stage `st18a` writes. -/
abbrev st18aW : List (Ref sig .tc) := [main_cst_46, main_v164, main_v165, main_cst_47, main_v166, main_v167, main_v168, main_v169, main_cst_48, main_v170, main_v171, main_cst_49, main_v172, main_v173, main_v174, main_v175, main_v176, main_v177, main_cst_50, main_v178, main_v179, main_cst_51, main_v180, main_v181, main_v182, main_v183, main_v184, main_cst_52]

set_option maxRecDepth 8192 in
theorem st18a_sub : (st18a : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub ..⟩

set_option maxRecDepth 8192 in
theorem st18a_fresh : (st18a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem st18a_keep (V : Valuation τ sig (Elt F)) (r : Ref sig .tc) (h : r ∉ st18aW) :
    after st18a V (Proc.devRef .tc r) = V (Proc.devRef .tc r) :=
  after_of_writes_sub st18a _ (forall_writes_sub_of_map rfl) h

abbrev st18b : List (HloOp τ sig (Elt F)) :=
  [ unary main_cst_52 main_v185 (broadcastInDim S288 ![] bcast_S_S288 : (⟨S_, .f32⟩ : BufTy).Contents (Elt F) → (⟨S288, .f32⟩ : BufTy).Contents (Elt F)),
    binary main_v184 main_v185 main_v186 (subf : (⟨S288, .f32⟩ : BufTy).Contents (Elt F) → (⟨S288, .f32⟩ : BufTy).Contents (Elt F) → (⟨S288, .f32⟩ : BufTy).Contents (Elt F)) ]

/-- The buffers stage `st18b` writes. -/
abbrev st18bW : List (Ref sig .tc) := [main_v185, main_v186]

set_option maxRecDepth 8192 in
theorem st18b_sub : (st18b : List (HloOp τ sig (Elt F))).Forall fun op => op.bufs ⊆ tcRefs τ sig :=
  ⟨unary_bufs_sub .., binary_bufs_sub ..⟩

set_option maxRecDepth 8192 in
theorem st18b_fresh : (st18b : List (HloOp τ sig (Elt F))).Forall fun op => op.fresh = ∅ :=
  ⟨rfl, rfl⟩

theorem st18b_keep (V : Valuation τ sig (Elt F)) (r : Ref sig .tc) (h : r ∉ st18bW) :
    after st18b V (Proc.devRef .tc r) = V (Proc.devRef .tc r) :=
  after_of_writes_sub st18b _ (forall_writes_sub_of_map rfl) h

abbrev st19 : List (HloOp τ sig (Elt F)) :=
  [ unary main_v186 main_v187 (Host.floor : (⟨S288, .f32⟩ : BufTy).Contents (Elt F) → (⟨S288, .f32⟩ : BufTy).Contents (Elt F)),
    nullary main_c_53 (constantI S_ 32 0#32),
    nullary main_c_54 (constantI S_ 32 76#32),
    TRef.unary (TRef.of (T := ⟨S_, .i32⟩) main_c_53) (TRef.of (T := ⟨S_, .f32⟩) main_call6_v0) (sitofp .f32),
    TRef.unary (TRef.of (T := ⟨S_, .f32⟩) main_call6_v0) (TRef.of (T := ⟨S288, .f32⟩) main_call6_v1) (broadcastInDim S288 ![] bcast_S_S288),
    TRef.binary (TRef.of (T := ⟨S288, .f32⟩) main_call6_v1) (TRef.of (T := ⟨S288, .f32⟩) main_v187) (TRef.of (T := ⟨S288, .f32⟩) main_call6_v2) maximumf,
    TRef.unary (TRef.of (T := ⟨S_, .i32⟩) main_c_54) (TRef.of (T := ⟨S_, .f32⟩) main_call6_v3) (sitofp .f32),
    TRef.unary (TRef.of (T := ⟨S_, .f32⟩) main_call6_v3) (TRef.of (T := ⟨S288, .f32⟩) main_call6_v4) (broadcastInDim S288 ![] bcast_S_S288),
    TRef.binary (TRef.of (T := ⟨S288, .f32⟩) main_call6_v4) (TRef.of (T := ⟨S288, .f32⟩) main_call6_v2) (TRef.of (T := ⟨S288, .f32⟩) main_v188) minimumf,
    unary main_v188 main_v189 (fptosi 32 : (⟨S288, .f32⟩ : BufTy).Contents (Elt F) → (⟨S288, .i32⟩ : BufTy).Contents (Elt F)) ]

/-- The buffers stage `st19` writes. -/
abbrev st19W : List (Ref sig .tc) := [main_v187, main_c_53, main_c_54, main_call6_v0, main_call6_v1, main_call6_v2, main_call6_v3, main_call6_v4, main_v188, main_v189]

set_option maxRecDepth 8192 in
theorem st19_sub : (st19 : List (HloOp τ sig (Elt F))).Forall fun op => op.bufs ⊆ tcRefs τ sig :=
  ⟨unary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
theorem st19_fresh : (st19 : List (HloOp τ sig (Elt F))).Forall fun op => op.fresh = ∅ :=
  ⟨rfl, rfl, rfl, rfl, rfl, rfl, rfl, rfl, rfl, rfl⟩

theorem st19_keep (V : Valuation τ sig (Elt F)) (r : Ref sig .tc) (h : r ∉ st19W) :
    after st19 V (Proc.devRef .tc r) = V (Proc.devRef .tc r) :=
  after_of_writes_sub st19 _ (forall_writes_sub_of_map rfl) h

abbrev st20 : List (HloOp τ sig (Elt F)) :=
  [ nullary main_c_55 (constantI S_ 32 96#32),
    unary main_c_55 main_v190 (broadcastInDim S288 ![] bcast_S_S288 : (⟨S_, .i32⟩ : BufTy).Contents (Elt F) → (⟨S288, .i32⟩ : BufTy).Contents (Elt F)),
    binary main_v39 main_v190 main_v191 (muli : (⟨S288, .i32⟩ : BufTy).Contents (Elt F) → (⟨S288, .i32⟩ : BufTy).Contents (Elt F) → (⟨S288, .i32⟩ : BufTy).Contents (Elt F)),
    binary main_v191 main_v43 main_v192 (addi : (⟨S288, .i32⟩ : BufTy).Contents (Elt F) → (⟨S288, .i32⟩ : BufTy).Contents (Elt F) → (⟨S288, .i32⟩ : BufTy).Contents (Elt F)) ]

/-- The buffers stage `st20` writes. -/
abbrev st20W : List (Ref sig .tc) := [main_c_55, main_v190, main_v191, main_v192]

set_option maxRecDepth 8192 in
theorem st20_sub : (st20 : List (HloOp τ sig (Elt F))).Forall fun op => op.bufs ⊆ tcRefs τ sig :=
  ⟨nullary_bufs_sub .., unary_bufs_sub .., binary_bufs_sub .., binary_bufs_sub ..⟩

set_option maxRecDepth 8192 in
theorem st20_fresh : (st20 : List (HloOp τ sig (Elt F))).Forall fun op => op.fresh = ∅ :=
  ⟨rfl, rfl, rfl, rfl⟩

theorem st20_keep (V : Valuation τ sig (Elt F)) (r : Ref sig .tc) (h : r ∉ st20W) :
    after st20 V (Proc.devRef .tc r) = V (Proc.devRef .tc r) :=
  after_of_writes_sub st20 _ (forall_writes_sub_of_map rfl) h

abbrev st21 : List (HloOp τ sig (Elt F)) :=
  [ unary main_v39 main_v193 (broadcastInDim S288x1 ![0] bcast_S288_S288x1_0 : (⟨S288, .i32⟩ : BufTy).Contents (Elt F) → (⟨S288x1, .i32⟩ : BufTy).Contents (Elt F)),
    unary main_v43 main_v194 (broadcastInDim S288x1 ![0] bcast_S288_S288x1_0 : (⟨S288, .i32⟩ : BufTy).Contents (Elt F) → (⟨S288x1, .i32⟩ : BufTy).Contents (Elt F)),
    unary main_v46 main_v195 (broadcastInDim S288x1 ![0] bcast_S288_S288x1_0 : (⟨S288, .i32⟩ : BufTy).Contents (Elt F) → (⟨S288x1, .i32⟩ : BufTy).Contents (Elt F)),
    unary main_v119 main_v196 (broadcastInDim S288x1 ![0] bcast_S288_S288x1_0 : (⟨S288, .i32⟩ : BufTy).Contents (Elt F) → (⟨S288x1, .i32⟩ : BufTy).Contents (Elt F)),
    unary main_v189 main_v197 (broadcastInDim S288x1 ![0] bcast_S288_S288x1_0 : (⟨S288, .i32⟩ : BufTy).Contents (Elt F) → (⟨S288x1, .i32⟩ : BufTy).Contents (Elt F)),
    unary main_v192 main_v198 (broadcastInDim S288x1 ![0] bcast_S288_S288x1_0 : (⟨S288, .i32⟩ : BufTy).Contents (Elt F) → (⟨S288x1, .i32⟩ : BufTy).Contents (Elt F)),
    unary main_v49 main_v199 (broadcastInDim S288x1 ![0] bcast_S288_S288x1_0 : (⟨S288, .i32⟩ : BufTy).Contents (Elt F) → (⟨S288x1, .i32⟩ : BufTy).Contents (Elt F)),
    unary main_v49 main_v200 (broadcastInDim S288x1 ![0] bcast_S288_S288x1_0 : (⟨S288, .i32⟩ : BufTy).Contents (Elt F) → (⟨S288x1, .i32⟩ : BufTy).Contents (Elt F)),
    unary main_v49 main_v201 (broadcastInDim S288x1 ![0] bcast_S288_S288x1_0 : (⟨S288, .i32⟩ : BufTy).Contents (Elt F) → (⟨S288x1, .i32⟩ : BufTy).Contents (Elt F)),
    unary main_v49 main_v202 (broadcastInDim S288x1 ![0] bcast_S288_S288x1_0 : (⟨S288, .i32⟩ : BufTy).Contents (Elt F) → (⟨S288x1, .i32⟩ : BufTy).Contents (Elt F)),
    unary main_v49 main_v203 (broadcastInDim S288x1 ![0] bcast_S288_S288x1_0 : (⟨S288, .i32⟩ : BufTy).Contents (Elt F) → (⟨S288x1, .i32⟩ : BufTy).Contents (Elt F)),
    unary main_v49 main_v204 (broadcastInDim S288x1 ![0] bcast_S288_S288x1_0 : (⟨S288, .i32⟩ : BufTy).Contents (Elt F) → (⟨S288x1, .i32⟩ : BufTy).Contents (Elt F)),
    unary main_v49 main_v205 (broadcastInDim S288x1 ![0] bcast_S288_S288x1_0 : (⟨S288, .i32⟩ : BufTy).Contents (Elt F) → (⟨S288x1, .i32⟩ : BufTy).Contents (Elt F)),
    unary main_v49 main_v206 (broadcastInDim S288x1 ![0] bcast_S288_S288x1_0 : (⟨S288, .i32⟩ : BufTy).Contents (Elt F) → (⟨S288x1, .i32⟩ : BufTy).Contents (Elt F)),
    unary main_v49 main_v207 (broadcastInDim S288x1 ![0] bcast_S288_S288x1_0 : (⟨S288, .i32⟩ : BufTy).Contents (Elt F) → (⟨S288x1, .i32⟩ : BufTy).Contents (Elt F)),
    unary main_v49 main_v208 (broadcastInDim S288x1 ![0] bcast_S288_S288x1_0 : (⟨S288, .i32⟩ : BufTy).Contents (Elt F) → (⟨S288x1, .i32⟩ : BufTy).Contents (Elt F)),
    nary ![main_v193, main_v194, main_v195, main_v196, main_v197, main_v198, main_v199, main_v200, main_v201, main_v202, main_v203, main_v204, main_v205, main_v206, main_v207, main_v208] main_v209 (fun u => (concatenate S288x16 1 [⟨S288x1, (u 0 : (⟨S288x1, .i32⟩ : BufTy).Contents (Elt F))⟩, ⟨S288x1, (u 1 : (⟨S288x1, .i32⟩ : BufTy).Contents (Elt F))⟩, ⟨S288x1, (u 2 : (⟨S288x1, .i32⟩ : BufTy).Contents (Elt F))⟩, ⟨S288x1, (u 3 : (⟨S288x1, .i32⟩ : BufTy).Contents (Elt F))⟩, ⟨S288x1, (u 4 : (⟨S288x1, .i32⟩ : BufTy).Contents (Elt F))⟩, ⟨S288x1, (u 5 : (⟨S288x1, .i32⟩ : BufTy).Contents (Elt F))⟩, ⟨S288x1, (u 6 : (⟨S288x1, .i32⟩ : BufTy).Contents (Elt F))⟩, ⟨S288x1, (u 7 : (⟨S288x1, .i32⟩ : BufTy).Contents (Elt F))⟩, ⟨S288x1, (u 8 : (⟨S288x1, .i32⟩ : BufTy).Contents (Elt F))⟩, ⟨S288x1, (u 9 : (⟨S288x1, .i32⟩ : BufTy).Contents (Elt F))⟩, ⟨S288x1, (u 10 : (⟨S288x1, .i32⟩ : BufTy).Contents (Elt F))⟩, ⟨S288x1, (u 11 : (⟨S288x1, .i32⟩ : BufTy).Contents (Elt F))⟩, ⟨S288x1, (u 12 : (⟨S288x1, .i32⟩ : BufTy).Contents (Elt F))⟩, ⟨S288x1, (u 13 : (⟨S288x1, .i32⟩ : BufTy).Contents (Elt F))⟩, ⟨S288x1, (u 14 : (⟨S288x1, .i32⟩ : BufTy).Contents (Elt F))⟩, ⟨S288x1, (u 15 : (⟨S288x1, .i32⟩ : BufTy).Contents (Elt F))⟩] concatenates_S288x1_S288x1_S288x1_S288x1_S288x1_S288x1_S288x1_S288x1_S288x1_S288x1_S288x1_S288x1_S288x1_S288x1_S288x1_S288x1_S288x16_d1 : (⟨S288x16, .i32⟩ : BufTy).Contents (Elt F))),
    reshape main_v209 main_v210 (rfl : (.i32 : EltTy) = .i32) shapeCasts_S288x16_S32x9x16 ]

/-- The buffers stage `st21` writes. -/
abbrev st21W : List (Ref sig .tc) := [main_v193, main_v194, main_v195, main_v196, main_v197, main_v198, main_v199, main_v200, main_v201, main_v202, main_v203, main_v204, main_v205, main_v206, main_v207, main_v208, main_v209, main_v210]

set_option maxRecDepth 8192 in
theorem st21_sub : (st21 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub ..⟩

set_option maxRecDepth 8192 in
theorem st21_fresh : (st21 : List (HloOp τ sig (Elt F))).Forall fun op => op.fresh = ∅ :=
  ⟨rfl, rfl, rfl, rfl, rfl, rfl, rfl, rfl, rfl, rfl, rfl, rfl, rfl, rfl, rfl, rfl, rfl, rfl⟩

theorem st21_keep (V : Valuation τ sig (Elt F)) (r : Ref sig .tc) (h : r ∉ st21W) :
    after st21 V (Proc.devRef .tc r) = V (Proc.devRef .tc r) :=
  after_of_writes_sub st21 _ (forall_writes_sub_of_map rfl) h

abbrev st22 : List (HloOp τ sig (Elt F)) :=
  [ unary main_arg0 main_v211 ((transpose S4x96x96x2x96 [0, 1, 2, 4, 3] · transposes_S4x96x96x96x2_S4x96x96x2x96_0_1_2_4_3) : (⟨S4x96x96x96x2, .f32⟩ : BufTy).Contents (Elt F) → (⟨S4x96x96x2x96, .f32⟩ : BufTy).Contents (Elt F)) ]

/-- The buffers stage `st22` writes. -/
abbrev st22W : List (Ref sig .tc) := [main_v211]

theorem st22_sub : (st22 : List (HloOp τ sig (Elt F))).Forall fun op => op.bufs ⊆ tcRefs τ sig := unary_bufs_sub ..

theorem st22_fresh : (st22 : List (HloOp τ sig (Elt F))).Forall fun op => op.fresh = ∅ := rfl

theorem st22_keep (V : Valuation τ sig (Elt F)) (r : Ref sig .tc) (h : r ∉ st22W) :
    after st22 V (Proc.devRef .tc r) = V (Proc.devRef .tc r) :=
  after_of_writes_sub st22 _ (forall_writes_sub_of_map rfl) h

abbrev ops0 : List (HloOp τ sig (Elt F)) := st0 ++ st1 ++ st2 ++ st3 ++ st4 ++ st5 ++ st6a

abbrev ops1 : List (HloOp τ sig (Elt F)) := st6b ++ st7 ++ st8 ++ st9 ++ st10 ++ st11a

abbrev ops2 : List (HloOp τ sig (Elt F)) := st11b ++ st12 ++ st13 ++ st14 ++ st15a

abbrev ops3 : List (HloOp τ sig (Elt F)) := st15b ++ st16 ++ st17 ++ st18a

abbrev ops4 : List (HloOp τ sig (Elt F)) := st18b ++ st19 ++ st20 ++ st21 ++ st22

abbrev opsT : List (HloOp τ sig (Elt F)) :=
  [ reshape main_v212 main_v213 (rfl : (.f32 : EltTy) = .f32) shapeCasts_S36864x2x96_S4x96x96x2x96,
    unary main_v213 main_v214 ((transpose S4x96x96x96x2 [0, 1, 2, 4, 3] · transposes_S4x96x96x2x96_S4x96x96x96x2_0_1_2_4_3) : (⟨S4x96x96x2x96, .f32⟩ : BufTy).Contents (Elt F) → (⟨S4x96x96x96x2, .f32⟩ : BufTy).Contents (Elt F)) ]

abbrev opsTW : List (Ref sig .tc) := [main_v213, main_v214]

theorem opsT_keep (V : Valuation τ sig (Elt F)) (r : Ref sig .tc) (h : r ∉ opsTW) :
    after opsT V (Proc.devRef .tc r) = V (Proc.devRef .tc r) :=
  after_of_writes_sub opsT _ (forall_writes_sub_of_map rfl) h

/-- What follows the host lines: the SparseCore call and the two layout lines. -/
def tailK (d : Dev nD) : Prog (TpuEff nD τ sig (Elt F) (SparseCore.Sig (Pipeline.Sig Λ₀ (Fin 0) fun p => (pcfgs (F := F) p).Adm) 1) .tc) PUnit := do
  sc.run d 0
  seq opsT

set_option maxRecDepth 65536 in
theorem main_part0_eq (d : Dev nD) : main_part0 (F := F) d = seq ops0 := rfl

set_option maxRecDepth 65536 in
theorem main_part1_eq (d : Dev nD) : main_part1 (F := F) d = seq ops1 := rfl

set_option maxRecDepth 65536 in
theorem main_part2_eq (d : Dev nD) : main_part2 (F := F) d = seq ops2 := rfl

set_option maxRecDepth 65536 in
theorem main_part3_eq (d : Dev nD) : main_part3 (F := F) d = seq ops3 := rfl

set_option maxRecDepth 65536 in
theorem main_part4_eq (d : Dev nD) : main_part4 (F := F) d = (seq ops4 >>= fun _ => tailK d) := rfl

abbrev opsAll : List (HloOp τ sig (Elt F)) := ops0 ++ (ops1 ++ (ops2 ++ (ops3 ++ ops4)))

theorem main_eq (d : Dev nD) : main (F := F) d = (seq opsAll >>= fun _ => tailK d) := by
  simp only [opsAll, seq_append ops0, seq_append ops1, seq_append ops2, seq_append ops3, ← main_part0_eq d, ← main_part1_eq d, ← main_part2_eq d, ← main_part3_eq d]
  rw [show main (F := F) d = (main_part0 d >>= fun _ => main_part1 d >>= fun _ => main_part2 d >>= fun _ => main_part3 d >>= fun _ => main_part4 d) from rfl, main_part4_eq d]
  simp only [bind_assoc]

theorem forall_append {α : Type _} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem opsAll_sub : (opsAll : List (HloOp τ sig (Elt F))).Forall fun op => op.bufs ⊆ tcRefs τ sig :=
  forall_append (forall_append (forall_append (forall_append (forall_append (forall_append (forall_append st0_sub st1_sub) st2_sub) st3_sub) st4_sub) st5_sub) st6a_sub) (forall_append (forall_append (forall_append (forall_append (forall_append (forall_append st6b_sub st7_sub) st8_sub) st9_sub) st10_sub) st11a_sub) (forall_append (forall_append (forall_append (forall_append (forall_append st11b_sub st12_sub) st13_sub) st14_sub) st15a_sub) (forall_append (forall_append (forall_append (forall_append st15b_sub st16_sub) st17_sub) st18a_sub) (forall_append (forall_append (forall_append (forall_append st18b_sub st19_sub) st20_sub) st21_sub) st22_sub))))

theorem opsAll_fresh : (opsAll : List (HloOp τ sig (Elt F))).Forall fun op => op.fresh = ∅ :=
  forall_append (forall_append (forall_append (forall_append (forall_append (forall_append (forall_append st0_fresh st1_fresh) st2_fresh) st3_fresh) st4_fresh) st5_fresh) st6a_fresh) (forall_append (forall_append (forall_append (forall_append (forall_append (forall_append st6b_fresh st7_fresh) st8_fresh) st9_fresh) st10_fresh) st11a_fresh) (forall_append (forall_append (forall_append (forall_append (forall_append st11b_fresh st12_fresh) st13_fresh) st14_fresh) st15a_fresh) (forall_append (forall_append (forall_append (forall_append st15b_fresh st16_fresh) st17_fresh) st18a_fresh) (forall_append (forall_append (forall_append (forall_append st18b_fresh st19_fresh) st20_fresh) st21_fresh) st22_fresh))))

end Cert.KernelIdeal.Stn
-- ==== Proof.HostVal.lean ====
/-
  What the host lines before the SparseCore call compute, as functions of the two arguments: the rounded coefficients,
  the rounded lattice, the item words (which image, which block of output points, where its band begins) and the image
  with its last two axes exchanged.
-/
module

public import proofs.«01_k».proof.Proof.HostOps

@[expose] public section

noncomputable section

namespace Cert.KernelIdeal.Stn

open Cert.KernelIdeal Cert.KernelIdeal.Gen
open Idealize.ShloMosaic Idealize.ShloMosaic.TcCoe Idealize.SL.Sem Idealize.ShloMosaic.StableHlo

variable {F : FTy → Type} [FloatOps F]

/-! ## The functions -/

/-- One float constant at every position of a shape. -/
abbrev bcF (s : Shape) (h : S_.BroadcastsInDim s (![] : Fin 0 → Fin s.rank)) (w : BitVec 32) : FVec F s .f32 :=
  broadcastInDim s ![] h (constant (F := F) S_ .f32 w)
/-- One integer at every item. -/
abbrev bcI (w : BitVec 32) : IVec S288 32 := broadcastInDim S288 ![] bcast_S_S288 (constantI S_ 32 w)

/-- The coefficients, rounded to bfloat16, four zeros appended to each image's twelve. -/
def coefsV (θ : FVec F S4x3x4 .f32) : FVec F S4x16 .f32 :=
  concatenate S4x16 1 [⟨S4x12, shapeCast S4x12 (extf .f32 (truncf .bf16 θ bitsLt_bf16_f32) bitsLt_bf16_f32) shapeCasts_S4x3x4_S4x12⟩,
    ⟨S4x4, bcF S4x4 bcast_S_S4x4 0x00000000#32⟩] concatenates_S4x12_S4x4_S4x16_d1

/-- The steps `i / 95`. -/
def stepV : FVec F S95 .f32 := Host.divf (sitofp .f32 (iotaInDim S95 32 0)) (bcF S95 bcast_S_S95 0x42BE0000#32)

/-- The ninety-six equally spaced points from −1 to 1. -/
def linV : FVec F S96 .f32 :=
  concatenate S96 0 [⟨S95, addf
      (mulf (broadcastInDim S95 ![0] bcast_S1_S95_0 (shapeCast S1 (id (constant (F := F) S_ .f32 0xBF800000#32)) shapeCasts_S_S1))
        (subf (bcF S95 bcast_S_S95 0x3F800000#32) stepV))
      (mulf (broadcastInDim S95 ![0] bcast_S1_S95_0 (shapeCast S1 (id (constant (F := F) S_ .f32 0x3F800000#32)) shapeCasts_S_S1)) stepV)⟩,
    ⟨S1, broadcastInDim S1 ![] bcast_S_S1 (id (constant (F := F) S_ .f32 0x3F800000#32))⟩] concatenates_S95_S1_S96_d0

/-- The lattice, rounded to bfloat16, sixteen zeros appended. -/
def latV : FVec F S112 .f32 :=
  concatenate S112 0 [⟨S96, extf .f32 (truncf .bf16 (linV (F := F)) bitsLt_bf16_f32) bitsLt_bf16_f32⟩, ⟨S16, bcF S16 bcast_S_S16 0x00000000#32⟩]
    concatenates_S96_S16_S112_d0

/-- The quotient 96 / 95. -/
def scV : FVec F S_ .f32 := Host.divf (constant S_ .f32 0x42C00000#32) (constant S_ .f32 0x42BE0000#32)

def col0V (θ : FVec F S4x3x4 .f32) : FVec F S4x3 .f32 := shapeCast S4x3 (extractStridedSlice S4x3x1 ![0, 0, 0] θ slices_S4x3x4_S4x3x1_0_0_0) shapeCasts_S4x3x1_S4x3
def col1V (θ : FVec F S4x3x4 .f32) : FVec F S4x3 .f32 := shapeCast S4x3 (extractStridedSlice S4x3x1 ![0, 0, 1] θ slices_S4x3x4_S4x3x1_0_0_1) shapeCasts_S4x3x1_S4x3
def col2V (θ : FVec F S4x3x4 .f32) : FVec F S4x3 .f32 := shapeCast S4x3 (extractStridedSlice S4x3x1 ![0, 0, 2] θ slices_S4x3x4_S4x3x1_0_0_2) shapeCasts_S4x3x1_S4x3
def col3V (θ : FVec F S4x3x4 .f32) : FVec F S4x3 .f32 := shapeCast S4x3 (extractStridedSlice S4x3x1 ![0, 0, 3] θ slices_S4x3x4_S4x3x1_0_0_3) shapeCasts_S4x3x1_S4x3

/-- The slopes and the offset of the pixel coordinates, an image and an axis each. -/
def alV (θ : FVec F S4x3x4 .f32) : FVec F S4x3 .f32 := mulf (broadcastInDim S4x3 ![] bcast_S_S4x3 (scV (F := F))) (col0V θ)
def gaV (θ : FVec F S4x3x4 .f32) : FVec F S4x3 .f32 := mulf (broadcastInDim S4x3 ![] bcast_S_S4x3 (scV (F := F))) (col1V θ)
def beV (θ : FVec F S4x3x4 .f32) : FVec F S4x3 .f32 := mulf (broadcastInDim S4x3 ![] bcast_S_S4x3 (scV (F := F))) (col2V θ)
def deV (θ : FVec F S4x3x4 .f32) : FVec F S4x3 .f32 :=
  addf (mulf (bcF S4x3 bcast_S_S4x3 0x42400000#32) (subf (subf (subf (col3V θ) (col0V θ)) (col1V θ)) (col2V θ))) (bcF S4x3 bcast_S_S4x3 0x42400000#32)

/-- Integer division rounding down, and its remainder, item by item. -/
def fdivI (g : IVec S288 32) (n : IVec S_ 32) : IVec S288 32 :=
  select (andi (cmpi .ne (signi g) (broadcastInDim S288 ![] bcast_S_S288 (signi (id n))))
      (cmpi .ne (Host.remsi g (broadcastInDim S288 ![] bcast_S_S288 (id n))) (bcI 0#32)))
    (subi (Host.divsi g (broadcastInDim S288 ![] bcast_S_S288 (id n))) (bcI 1#32))
    (Host.divsi g (broadcastInDim S288 ![] bcast_S_S288 (id n)))
def remN (n : IVec S_ 32) : IVec S_ 32 := select (cmpi .eq (id n) (constantI S_ 32 0#32)) (constantI S_ 32 1#32) (id n)
def remI (g : IVec S288 32) (n : IVec S_ 32) : IVec S288 32 :=
  select (andi (cmpi .ne (cmpi .slt (Host.remsi g (broadcastInDim S288 ![] bcast_S_S288 (remN n))) (bcI 0#32))
        (broadcastInDim S288 ![] bcast_S_S288 (cmpi .slt (remN n) (constantI S_ 32 0#32))))
      (cmpi .ne (Host.remsi g (broadcastInDim S288 ![] bcast_S_S288 (remN n))) (bcI 0#32)))
    (addi (Host.remsi g (broadcastInDim S288 ![] bcast_S_S288 (remN n))) (broadcastInDim S288 ![] bcast_S_S288 (remN n)))
    (Host.remsi g (broadcastInDim S288 ![] bcast_S_S288 (remN n)))

/-- The items, and of each item the image, the first output row and the first third coordinate. -/
def gI : IVec S288 32 := iotaInDim S288 32 0
def bI : IVec S288 32 := fdivI gI (constantI S_ 32 72#32)
def a0I : IVec S288 32 := muli (remI (fdivI gI (constantI S_ 32 6#32)) (constantI S_ 32 12#32)) (bcI 8#32)
def k0I : IVec S288 32 := muli (remI gI (constantI S_ 32 6#32)) (bcI 16#32)
def srowI : IVec S288 32 := addi (muli bI (bcI 96#32)) a0I

abbrev colI (v : IVec S288 32) : IVec S288x1 32 := broadcastInDim S288x1 ![0] bcast_S288_S288x1_0 v

/-- Every item's image and axis `u`, as gather indices; and the gather. -/
def idxI (b : IVec S288 32) (u : BitVec 32) : IVec S288x2 32 :=
  concatenate S288x2 1 [⟨S288x1, colI (select (cmpi .slt b (bcI 0#32)) (addi b (bcI 4#32)) b)⟩, ⟨S288x1, colI (id (bcI u))⟩]
    concatenates_S288x1_S288x1_S288x2_d1
def gatV (x : FVec F S4x3 .f32) (b : IVec S288 32) (u : BitVec 32) : FVec F S288 .f32 :=
  Host.gather gather_S4x3_S288x2_S288_n_01_n_n_01_1_11 x (idxI b u)

abbrev bc288 (w : BitVec 32) : FVec F S288 .f32 := bcF S288 bcast_S_S288 w

/-- A bound below which no pixel coordinate of the item lies, less a margin. -/
def mnV (al be ga de a0f k0f : FVec F S288 .f32) : FVec F S288 .f32 :=
  subf (addf (addf (addf de (minimumf (bc288 0x00000000#32) (mulf (bc288 0x42BE0000#32) al)))
      (minimumf (mulf be k0f) (mulf be (subf (addf k0f (bc288 0x41800000#32)) (bc288 0x3F800000#32)))))
      (minimumf (mulf ga a0f) (mulf ga (subf (addf a0f (bc288 0x41000000#32)) (bc288 0x3F800000#32)))))
    (bc288 0x3F4CCCCD#32)
/-- Its floor, clipped so that a band beginning there stays in the image. -/
def loI (m : FVec F S288 .f32) (w : BitVec 32) : IVec S288 32 :=
  fptosi 32 (minimumf (broadcastInDim S288 ![] bcast_S_S288 (sitofp (F := F) .f32 (constantI S_ 32 w)))
    (maximumf (broadcastInDim S288 ![] bcast_S_S288 (sitofp (F := F) .f32 (constantI S_ 32 0#32))) (Host.floor m)))

def mnU (θ : FVec F S4x3x4 .f32) (u : BitVec 32) : FVec F S288 .f32 :=
  mnV (gatV (alV θ) bI u) (gatV (beV θ) bI u) (gatV (gaV θ) bI u) (gatV (deV θ) bI u) (sitofp .f32 a0I) (sitofp .f32 k0I)
/-- Where the item's band begins, along the first and the second axis. -/
def zb0I (θ : FVec F S4x3x4 .f32) : IVec S288 32 := loI (mnU θ 2#32) 68#32
def yb0I (θ : FVec F S4x3x4 .f32) : IVec S288 32 := loI (mnU θ 1#32) 76#32

/-- Sixteen columns side by side. -/
def cols16 (a b c d e f z : IVec S288 32) : IVec S288x16 32 :=
  concatenate S288x16 1 [⟨S288x1, colI a⟩, ⟨S288x1, colI b⟩, ⟨S288x1, colI c⟩, ⟨S288x1, colI d⟩, ⟨S288x1, colI e⟩, ⟨S288x1, colI f⟩,
    ⟨S288x1, colI z⟩, ⟨S288x1, colI z⟩, ⟨S288x1, colI z⟩, ⟨S288x1, colI z⟩, ⟨S288x1, colI z⟩, ⟨S288x1, colI z⟩, ⟨S288x1, colI z⟩, ⟨S288x1, colI z⟩,
    ⟨S288x1, colI z⟩, ⟨S288x1, colI z⟩]
    concatenates_S288x1_S288x1_S288x1_S288x1_S288x1_S288x1_S288x1_S288x1_S288x1_S288x1_S288x1_S288x1_S288x1_S288x1_S288x1_S288x1_S288x16_d1

/-- The item words. -/
def paramsV (θ : FVec F S4x3x4 .f32) : IVec S32x9x16 32 :=
  shapeCast S32x9x16 (cols16 bI a0I k0I (zb0I θ) (yb0I θ) srowI (bcI 0#32)) shapeCasts_S288x16_S32x9x16

/-- The image, its last two axes exchanged. -/
def x1V (x : FVec F S4x96x96x96x2 .f32) : FVec F S4x96x96x2x96 .f32 :=
  transpose S4x96x96x2x96 [0, 1, 2, 4, 3] x transposes_S4x96x96x96x2_S4x96x96x2x96_0_1_2_4_3
/-- The result from what the SparseCore wrote. -/
def outV (y : FVec F S36864x2x96 .f32) : FVec F S4x96x96x96x2 .f32 :=
  transpose S4x96x96x96x2 [0, 1, 2, 4, 3] (shapeCast S4x96x96x2x96 y shapeCasts_S36864x2x96_S4x96x96x2x96) transposes_S4x96x96x2x96_S4x96x96x96x2_0_1_2_4_3

/-! ## The stages compute them -/

set_option maxRecDepth 8192 in
set_option maxHeartbeats 2000000 in
theorem at_v4 (V : Valuation τ sig (Elt F)) : after st0 V (no_index (Proc.devRef .tc main_v4)) = coefsV (V (Proc.devRef .tc main_arg1)) := by
  simp only [st0, TRef.binary, TRef.nullary, TRef.ternary, TRef.reshape, TRef.unary, TRef.toBuf, TRef.ofBuf, cast_eq]
  after_results_simp
  all_goals rfl

set_option maxRecDepth 8192 in
set_option maxHeartbeats 2000000 in
theorem at_v9 (V : Valuation τ sig (Elt F)) : after st1 V (no_index (Proc.devRef .tc main_v9)) = latV := by
  simp only [st1, TRef.binary, TRef.nullary, TRef.ternary, TRef.reshape, TRef.unary, TRef.toBuf, TRef.ofBuf, cast_eq]
  after_results_simp
  all_goals rfl

set_option maxRecDepth 8192 in
set_option maxHeartbeats 2000000 in
theorem at_v10 (V : Valuation τ sig (Elt F)) : after st2 V (no_index (Proc.devRef .tc main_v10)) = scV := by
  simp only [st2, TRef.binary, TRef.nullary, TRef.ternary, TRef.reshape, TRef.unary, TRef.toBuf, TRef.ofBuf, cast_eq]
  after_results_simp
  all_goals rfl

set_option maxRecDepth 8192 in
set_option maxHeartbeats 2000000 in
theorem at_v14 (V : Valuation τ sig (Elt F)) : after st3 V (no_index (Proc.devRef .tc main_v14)) = mulf (broadcastInDim S4x3 ![] bcast_S_S4x3 (V (Proc.devRef .tc main_v10))) (col0V (V (Proc.devRef .tc main_arg1))) := by
  simp only [st3, TRef.binary, TRef.nullary, TRef.ternary, TRef.reshape, TRef.unary, TRef.toBuf, TRef.ofBuf, cast_eq]
  after_results_simp
  all_goals rfl

set_option maxRecDepth 8192 in
set_option maxHeartbeats 2000000 in
theorem at_v18 (V : Valuation τ sig (Elt F)) : after st3 V (no_index (Proc.devRef .tc main_v18)) = mulf (broadcastInDim S4x3 ![] bcast_S_S4x3 (V (Proc.devRef .tc main_v10))) (col1V (V (Proc.devRef .tc main_arg1))) := by
  simp only [st3, TRef.binary, TRef.nullary, TRef.ternary, TRef.reshape, TRef.unary, TRef.toBuf, TRef.ofBuf, cast_eq]
  after_results_simp
  all_goals rfl

set_option maxRecDepth 8192 in
set_option maxHeartbeats 2000000 in
theorem at_v22 (V : Valuation τ sig (Elt F)) : after st3 V (no_index (Proc.devRef .tc main_v22)) = mulf (broadcastInDim S4x3 ![] bcast_S_S4x3 (V (Proc.devRef .tc main_v10))) (col2V (V (Proc.devRef .tc main_arg1))) := by
  simp only [st3, TRef.binary, TRef.nullary, TRef.ternary, TRef.reshape, TRef.unary, TRef.toBuf, TRef.ofBuf, cast_eq]
  after_results_simp
  all_goals rfl

set_option maxRecDepth 8192 in
set_option maxHeartbeats 2000000 in
theorem at_v37 (V : Valuation τ sig (Elt F)) : after st3 V (no_index (Proc.devRef .tc main_v37)) = deV (V (Proc.devRef .tc main_arg1)) := by
  simp only [st3, TRef.binary, TRef.nullary, TRef.ternary, TRef.reshape, TRef.unary, TRef.toBuf, TRef.ofBuf, cast_eq]
  after_results_simp
  all_goals rfl

set_option maxRecDepth 8192 in
set_option maxHeartbeats 2000000 in
theorem at_v38 (V : Valuation τ sig (Elt F)) : after st4 V (no_index (Proc.devRef .tc main_v38)) = gI := by
  simp only [st4, TRef.binary, TRef.nullary, TRef.ternary, TRef.reshape, TRef.unary, TRef.toBuf, TRef.ofBuf, cast_eq]
  after_results_simp
  all_goals rfl

set_option maxRecDepth 8192 in
set_option maxHeartbeats 2000000 in
theorem at_v39 (V : Valuation τ sig (Elt F)) : after st4 V (no_index (Proc.devRef .tc main_v39)) = bI := by
  simp only [st4, TRef.binary, TRef.nullary, TRef.ternary, TRef.reshape, TRef.unary, TRef.toBuf, TRef.ofBuf, cast_eq]
  after_results_simp
  all_goals rfl

set_option maxRecDepth 8192 in
set_option maxHeartbeats 2000000 in
theorem at_v43 (V : Valuation τ sig (Elt F)) : after st5 V (no_index (Proc.devRef .tc main_v43)) = muli (remI (fdivI (V (Proc.devRef .tc main_v38)) (constantI S_ 32 6#32)) (constantI S_ 32 12#32)) (bcI 8#32) := by
  simp only [st5, TRef.binary, TRef.nullary, TRef.ternary, TRef.reshape, TRef.unary, TRef.toBuf, TRef.ofBuf, cast_eq]
  after_results_simp
  all_goals rfl

set_option maxRecDepth 8192 in
set_option maxHeartbeats 2000000 in
theorem at_v46 (V : Valuation τ sig (Elt F)) : after st6b (after st6a V) (no_index (Proc.devRef .tc main_v46)) = muli (remI (V (Proc.devRef .tc main_v38)) (constantI S_ 32 6#32)) (bcI 16#32) := by
  simp only [st6a, st6b, TRef.binary, TRef.nullary, TRef.ternary, TRef.reshape, TRef.unary, TRef.toBuf, TRef.ofBuf, cast_eq]
  after_results_simp
  all_goals rfl

set_option maxRecDepth 8192 in
set_option maxHeartbeats 2000000 in
theorem at_v47 (V : Valuation τ sig (Elt F)) : after st7 V (no_index (Proc.devRef .tc main_v47)) = sitofp .f32 (V (Proc.devRef .tc main_v43)) := by
  simp only [st7, TRef.binary, TRef.nullary, TRef.ternary, TRef.reshape, TRef.unary, TRef.toBuf, TRef.ofBuf, cast_eq]
  after_results_simp
  all_goals rfl

set_option maxRecDepth 8192 in
set_option maxHeartbeats 2000000 in
theorem at_v48 (V : Valuation τ sig (Elt F)) : after st7 V (no_index (Proc.devRef .tc main_v48)) = sitofp .f32 (V (Proc.devRef .tc main_v46)) := by
  simp only [st7, TRef.binary, TRef.nullary, TRef.ternary, TRef.reshape, TRef.unary, TRef.toBuf, TRef.ofBuf, cast_eq]
  after_results_simp
  all_goals rfl

set_option maxRecDepth 8192 in
set_option maxHeartbeats 2000000 in
theorem at_v49 (V : Valuation τ sig (Elt F)) : after st7 V (no_index (Proc.devRef .tc main_v49)) = bcI 0#32 := by
  simp only [st7, TRef.binary, TRef.nullary, TRef.ternary, TRef.reshape, TRef.unary, TRef.toBuf, TRef.ofBuf, cast_eq]
  after_results_simp
  all_goals rfl

set_option maxRecDepth 8192 in
set_option maxHeartbeats 2000000 in
theorem at_v60 (V : Valuation τ sig (Elt F)) : after st8 V (no_index (Proc.devRef .tc main_v60)) = gatV (V (Proc.devRef .tc main_v14)) (V (Proc.devRef .tc main_v39)) 2#32 := by
  simp only [st8, TRef.binary, TRef.nullary, TRef.ternary, TRef.reshape, TRef.unary, TRef.toBuf, TRef.ofBuf, cast_eq]
  after_results_simp
  all_goals rfl

set_option maxRecDepth 8192 in
set_option maxHeartbeats 2000000 in
theorem at_v71 (V : Valuation τ sig (Elt F)) : after st9 V (no_index (Proc.devRef .tc main_v71)) = gatV (V (Proc.devRef .tc main_v22)) (V (Proc.devRef .tc main_v39)) 2#32 := by
  simp only [st9, TRef.binary, TRef.nullary, TRef.ternary, TRef.reshape, TRef.unary, TRef.toBuf, TRef.ofBuf, cast_eq]
  after_results_simp
  all_goals rfl

set_option maxRecDepth 8192 in
set_option maxHeartbeats 2000000 in
theorem at_v82 (V : Valuation τ sig (Elt F)) : after st10 V (no_index (Proc.devRef .tc main_v82)) = gatV (V (Proc.devRef .tc main_v18)) (V (Proc.devRef .tc main_v39)) 2#32 := by
  simp only [st10, TRef.binary, TRef.nullary, TRef.ternary, TRef.reshape, TRef.unary, TRef.toBuf, TRef.ofBuf, cast_eq]
  after_results_simp
  all_goals rfl

set_option maxRecDepth 8192 in
set_option maxHeartbeats 2000000 in
theorem at_v93 (V : Valuation τ sig (Elt F)) : after st11b (after st11a V) (no_index (Proc.devRef .tc main_v93)) = gatV (V (Proc.devRef .tc main_v37)) (V (Proc.devRef .tc main_v39)) 2#32 := by
  simp only [st11a, st11b, TRef.binary, TRef.nullary, TRef.ternary, TRef.reshape, TRef.unary, TRef.toBuf, TRef.ofBuf, cast_eq]
  after_results_simp
  all_goals rfl

set_option maxRecDepth 8192 in
set_option maxHeartbeats 2000000 in
theorem at_v130 (V : Valuation τ sig (Elt F)) : after st14 V (no_index (Proc.devRef .tc main_v130)) = gatV (V (Proc.devRef .tc main_v14)) (V (Proc.devRef .tc main_v39)) 1#32 := by
  simp only [st14, TRef.binary, TRef.nullary, TRef.ternary, TRef.reshape, TRef.unary, TRef.toBuf, TRef.ofBuf, cast_eq]
  after_results_simp
  all_goals rfl

set_option maxRecDepth 8192 in
set_option maxHeartbeats 2000000 in
theorem at_v141 (V : Valuation τ sig (Elt F)) : after st15b (after st15a V) (no_index (Proc.devRef .tc main_v141)) = gatV (V (Proc.devRef .tc main_v22)) (V (Proc.devRef .tc main_v39)) 1#32 := by
  simp only [st15a, st15b, TRef.binary, TRef.nullary, TRef.ternary, TRef.reshape, TRef.unary, TRef.toBuf, TRef.ofBuf, cast_eq]
  after_results_simp
  all_goals rfl

set_option maxRecDepth 8192 in
set_option maxHeartbeats 2000000 in
theorem at_v152 (V : Valuation τ sig (Elt F)) : after st16 V (no_index (Proc.devRef .tc main_v152)) = gatV (V (Proc.devRef .tc main_v18)) (V (Proc.devRef .tc main_v39)) 1#32 := by
  simp only [st16, TRef.binary, TRef.nullary, TRef.ternary, TRef.reshape, TRef.unary, TRef.toBuf, TRef.ofBuf, cast_eq]
  after_results_simp
  all_goals rfl

set_option maxRecDepth 8192 in
set_option maxHeartbeats 2000000 in
theorem at_v163 (V : Valuation τ sig (Elt F)) : after st17 V (no_index (Proc.devRef .tc main_v163)) = gatV (V (Proc.devRef .tc main_v37)) (V (Proc.devRef .tc main_v39)) 1#32 := by
  simp only [st17, TRef.binary, TRef.nullary, TRef.ternary, TRef.reshape, TRef.unary, TRef.toBuf, TRef.ofBuf, cast_eq]
  after_results_simp
  all_goals rfl

set_option maxRecDepth 8192 in
set_option maxHeartbeats 2000000 in
theorem at_v116 (V : Valuation τ sig (Elt F)) : after st12 V (no_index (Proc.devRef .tc main_v116)) = mnV (V (Proc.devRef .tc main_v60)) (V (Proc.devRef .tc main_v71)) (V (Proc.devRef .tc main_v82)) (V (Proc.devRef .tc main_v93)) (V (Proc.devRef .tc main_v47)) (V (Proc.devRef .tc main_v48)) := by
  simp only [st12, TRef.binary, TRef.nullary, TRef.ternary, TRef.reshape, TRef.unary, TRef.toBuf, TRef.ofBuf, cast_eq]
  after_results_simp
  all_goals rfl

set_option maxRecDepth 8192 in
set_option maxHeartbeats 2000000 in
theorem at_v186 (V : Valuation τ sig (Elt F)) : after st18b (after st18a V) (no_index (Proc.devRef .tc main_v186)) = mnV (V (Proc.devRef .tc main_v130)) (V (Proc.devRef .tc main_v141)) (V (Proc.devRef .tc main_v152)) (V (Proc.devRef .tc main_v163)) (V (Proc.devRef .tc main_v47)) (V (Proc.devRef .tc main_v48)) := by
  simp only [st18a, st18b, TRef.binary, TRef.nullary, TRef.ternary, TRef.reshape, TRef.unary, TRef.toBuf, TRef.ofBuf, cast_eq]
  after_results_simp
  all_goals rfl

set_option maxRecDepth 8192 in
set_option maxHeartbeats 2000000 in
theorem at_v119 (V : Valuation τ sig (Elt F)) : after st13 V (no_index (Proc.devRef .tc main_v119)) = loI (V (Proc.devRef .tc main_v116)) 68#32 := by
  simp only [st13, TRef.binary, TRef.nullary, TRef.ternary, TRef.reshape, TRef.unary, TRef.toBuf, TRef.ofBuf, cast_eq]
  after_results_simp
  all_goals rfl

set_option maxRecDepth 8192 in
set_option maxHeartbeats 2000000 in
theorem at_v189 (V : Valuation τ sig (Elt F)) : after st19 V (no_index (Proc.devRef .tc main_v189)) = loI (V (Proc.devRef .tc main_v186)) 76#32 := by
  simp only [st19, TRef.binary, TRef.nullary, TRef.ternary, TRef.reshape, TRef.unary, TRef.toBuf, TRef.ofBuf, cast_eq]
  after_results_simp
  all_goals rfl

set_option maxRecDepth 8192 in
set_option maxHeartbeats 2000000 in
theorem at_v192 (V : Valuation τ sig (Elt F)) : after st20 V (no_index (Proc.devRef .tc main_v192)) = addi (muli (V (Proc.devRef .tc main_v39)) (bcI 96#32)) (V (Proc.devRef .tc main_v43)) := by
  simp only [st20, TRef.binary, TRef.nullary, TRef.ternary, TRef.reshape, TRef.unary, TRef.toBuf, TRef.ofBuf, cast_eq]
  after_results_simp
  all_goals rfl

set_option maxRecDepth 8192 in
set_option maxHeartbeats 2000000 in
theorem at_v210 (V : Valuation τ sig (Elt F)) : after st21 V (no_index (Proc.devRef .tc main_v210)) = shapeCast S32x9x16 (cols16 (V (Proc.devRef .tc main_v39)) (V (Proc.devRef .tc main_v43)) (V (Proc.devRef .tc main_v46)) (V (Proc.devRef .tc main_v119)) (V (Proc.devRef .tc main_v189)) (V (Proc.devRef .tc main_v192)) (V (Proc.devRef .tc main_v49))) shapeCasts_S288x16_S32x9x16 := by
  simp only [st21, TRef.binary, TRef.nullary, TRef.ternary, TRef.reshape, TRef.unary, TRef.toBuf, TRef.ofBuf, cast_eq]
  after_results_simp
  all_goals rfl

set_option maxRecDepth 8192 in
set_option maxHeartbeats 2000000 in
theorem at_v211 (V : Valuation τ sig (Elt F)) : after st22 V (no_index (Proc.devRef .tc main_v211)) = x1V (V (Proc.devRef .tc main_arg0)) := by
  simp only [st22, TRef.binary, TRef.nullary, TRef.ternary, TRef.reshape, TRef.unary, TRef.toBuf, TRef.ofBuf, cast_eq]
  after_results_simp
  all_goals rfl

theorem tail_v214 (V : Valuation τ sig (Elt F)) : after opsT V (Proc.devRef .tc main_v214) = outV (V (Proc.devRef .tc main_v212)) := by
  simp only [opsT]
  after_results_simp
  all_goals rfl

end Cert.KernelIdeal.Stn
-- ==== Proof.Words.lean ====
/-
  The table of words at one item: its five words, column by column.
-/
module

public import proofs.«01_k».proof.Proof.Item
public import proofs.«01_k».proof.Proof.HostVal
public import Idealize.ShloMosaic.Lib.Pipeline.Value
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## The integer columns of the table of words -/

theorem divmod_at : ∀ g : Fin 288, (bI (ix1 g)).toNat = g.val / 72 ∧ (a0I (ix1 g)).toNat = g.val % 72 / 6 * 8 ∧ (k0I (ix1 g)).toNat = g.val % 6 * 16
    ∧ (srowI (ix1 g)).toNat = g.val / 72 * 96 + g.val % 72 / 6 * 8 := by decide +kernel

section Cols

variable (a b c d e f z : IVec S288 32) (g : Fin 288)

theorem colI_at (v : IVec S288 32) : colI v (ix2 g (0 : Fin 1)) = v (ix1 g) := by
  unfold colI broadcastInDim
  congr 1
  funext a; apply Fin.ext
  fin_cases a
  rfl

theorem pre_at : ∀ k : Fin 16, (((List.replicate 16 S288x1).take k.val).map fun s => if h : s.rank = S288x16.rank then s.size ((1 : Fin 2).cast h.symm) else 0).sum = k.val := by
  decide

theorem cols_at (k : Fin 16) (v : IVec S288 32) (hk : [(⟨S288x1, colI a⟩ : (s : Shape) × (s.Idx → BitVec 32)), ⟨S288x1, colI b⟩, ⟨S288x1, colI c⟩, ⟨S288x1, colI d⟩, ⟨S288x1, colI e⟩, ⟨S288x1, colI f⟩,
    ⟨S288x1, colI z⟩, ⟨S288x1, colI z⟩, ⟨S288x1, colI z⟩, ⟨S288x1, colI z⟩, ⟨S288x1, colI z⟩, ⟨S288x1, colI z⟩, ⟨S288x1, colI z⟩, ⟨S288x1, colI z⟩,
    ⟨S288x1, colI z⟩, ⟨S288x1, colI z⟩][k.val] = ⟨S288x1, colI v⟩) : cols16 a b c d e f z (ix2 g k) = v (ix1 g) := by
  refine (concatenate_apply_piece (t := S288x16) (1 : Fin 2) _ _ (ix2 g k) k.val (by show k.val < 16; exact k.isLt) S288x1 (colI v) hk rfl k.val ?_ (ix2 g (0 : Fin 1)) ?_ ?_).trans (colI_at g v)
  · rw [List.map_take]; exact pre_at k
  · intro b hb
    fin_cases b
    · rfl
    · exact absurd rfl hb
  · show k.val + 0 = k.val; omega

end Cols

/-- Row `t` of task `w`'s words is row `9 w + t` of the columns. -/
theorem params_at (θ : FVec F S4x3x4 .f32) (w : Fin 32) (t : Fin 9) (k : Fin 16) (hg : 9 * w.val + t.val < 288) :
    paramsV θ (ix3 w t k) = cols16 bI a0I k0I (zb0I θ) (yb0I θ) srowI (bcI 0#32) (ix2 (⟨9 * w.val + t.val, hg⟩ : Fin 288) k) := by
  have e : Shape.reshapeEquiv (s := S288x16) (s' := S32x9x16) shapeCasts_S288x16_S32x9x16 (ix3 w t k) = ix2 (⟨9 * w.val + t.val, hg⟩ : Fin 288) k :=
    Shape.reshapeEquiv_eq_of_vals _ _ _ ((9 * w.val + t.val) * 16 + k.val) (w.val * (9 * 16) + t.val * 16 + k.val) (rowMajor_val2 _ 16 rfl) (rowMajor_val3 _ (9 * 16) 16 rfl rfl) (by omega)
  show cols16 bI a0I k0I (zb0I θ) (yb0I θ) srowI (bcI 0#32) (Shape.reshapeEquiv (s := S288x16) (s' := S32x9x16) shapeCasts_S288x16_S32x9x16 (ix3 w t k)) = _
  rw [e]

/-- The band's first slab and first row of item `g`, of the table of coefficients the host computes them from. -/
def zbN (θ : FVec F S4x3x4 .f32) (g : Nat) : BitVec 32 := zb0I θ (ix1 (Fin.ofNat 288 g))
def ybN (θ : FVec F S4x3x4 .f32) (g : Nat) : BitVec 32 := yb0I θ (ix1 (Fin.ofNat 288 g))

theorem ofNat_288 {g : Nat} (h : g < 288) : Fin.ofNat 288 g = ⟨g, h⟩ := Fin.ext (Nat.mod_eq_of_lt h)

theorem words_of (θ : FVec F S4x3x4 .f32) (w : Fin 32) : Words w (zbN θ) (ybN θ) (fun p => paramsV θ (ix3 w (p 0) (p 1))) := by
  have hg : ∀ t : Fin 9, 9 * w.val + t.val < 288 := fun t => by have := w.isLt; have := t.isLt; omega
  refine ⟨?_, ?_, ?_, ?_, ?_, ?_⟩ <;> intro t
  · show (paramsV θ (ix3 w t 0)).toNat = _
    rw [params_at θ w t 0 (hg t), cols_at _ _ _ _ _ _ _ _ 0 _ rfl]; exact (divmod_at _).1
  · show (paramsV θ (ix3 w t 1)).toNat = _
    rw [params_at θ w t 1 (hg t), cols_at _ _ _ _ _ _ _ _ 1 _ rfl]; exact (divmod_at _).2.1
  · show (paramsV θ (ix3 w t 2)).toNat = _
    rw [params_at θ w t 2 (hg t), cols_at _ _ _ _ _ _ _ _ 2 _ rfl]; exact (divmod_at _).2.2.1
  · show paramsV θ (ix3 w t 3) = _
    rw [params_at θ w t 3 (hg t), cols_at _ _ _ _ _ _ _ _ 3 _ rfl, zbN, ofNat_288 (hg t)]
  · show paramsV θ (ix3 w t 4) = _
    rw [params_at θ w t 4 (hg t), cols_at _ _ _ _ _ _ _ _ 4 _ rfl, ybN, ofNat_288 (hg t)]
  · show (paramsV θ (ix3 w t 5)).toNat = _
    rw [params_at θ w t 5 (hg t), cols_at _ _ _ _ _ _ _ _ 5 _ rfl]; exact (divmod_at _).2.2.2

end Cert.KernelIdeal.Stn
-- ==== Proof.BodyEq.lean ====
/-
  The printed body of the SparseCore task is the rewritten one (`body_eq`). The six steps of the innermost body are
  compared one by one, each for an arbitrary remainder of the program; the loops and the copies around them unfold.
-/
module

public import proofs.«01_k».proof.Proof.Body

@[expose] public section

noncomputable section

namespace Cert.KernelIdeal.Stn

open Cert.KernelIdeal Cert.KernelIdeal.Gen
open Idealize.ShloMosaic Idealize.SL.Sem

universe v

variable {F : FTy → Type} [FloatOps F]

/-! ## The printed parts on the buffers the kernel gives them -/

abbrev q1 (i : grid0.Coords) := k0_part1 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q2 (i : grid0.Coords) := k0_part2 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q3 (i : grid0.Coords) := k0_part3 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q4 (i : grid0.Coords) := k0_part4 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q5 (i : grid0.Coords) := k0_part5 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q6 (i : grid0.Coords) := k0_part6 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q7 (i : grid0.Coords) := k0_part7 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q8 (i : grid0.Coords) := k0_part8 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q9 (i : grid0.Coords) := k0_part9 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q10 (i : grid0.Coords) := k0_part10 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q11 (i : grid0.Coords) := k0_part11 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q12 (i : grid0.Coords) := k0_part12 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q13 (i : grid0.Coords) := k0_part13 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q14 (i : grid0.Coords) := k0_part14 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q15 (i : grid0.Coords) := k0_part15 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q16 (i : grid0.Coords) := k0_part16 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q17 (i : grid0.Coords) := k0_part17 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q18 (i : grid0.Coords) := k0_part18 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q19 (i : grid0.Coords) := k0_part19 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3
abbrev q20 (i : grid0.Coords) := k0_part20 (F := F) i aX (Memref.isWhole_whole _) aC (Memref.isWhole_whole _) aP (Memref.isWhole_whole _) aL (Memref.isWhole_whole _) aO (Memref.isWhole_whole _) sP (Memref.isWhole_whole _) sC (Memref.isWhole_whole _) sJ (Memref.isWhole_whole _) sL (Memref.isWhole_whole _) sB (Memref.isWhole_whole _) sO (Memref.isWhole_whole _) cc0_scratch6 cc0_scoped0 cc0_scoped1 cc0_scoped2 cc0_scoped3

variable (i : grid0.Coords)

/-- Step 1 of the innermost body as printed, then on. -/
def pr1 (v25 : BitVec 32) (hw1 : k0_chk1 v25) (tx ty tz : F .f32) (s3x s3y s3z sax say saz : FVec F S16 .f32) (zb yb : IVec S16 32) (t3 : Fin k0_t3_loop.trips) (K : ∀ (v526 v528 v530 : FVec F S16 .f32) (v531 : IVec S16 32), k0_chk9 c0V c1V (jvV 0#32) (jvV 16#32) (jvV 32#32) (jvV 48#32) (jvV 64#32) (jvV 80#32) v531 → FVec F S16 .f32 → FVec F S16 .f32 → FVec F S16 .f32 → F .f32 → TProg (F := F) i PUnit) : TProg (F := F) i PUnit := do
  let ⟨v526, v528, v530, v531, k0_hw9, v552, v558, v560, cst_605⟩ ← q1 i c0V c1V (jvV 0#32) (jvV 16#32) (jvV 32#32) (jvV 48#32) (jvV 64#32) (jvV 80#32) v25 hw1 v25 tx ty tz s3x s3y s3z sax say saz 0#32 1#32 t3
  let ⟨v564, v583, v589, v593, v599, v603, v605, c0_i32_619⟩ ← q2 i v552 v558 v560 cst_605
  let ⟨v634, k0_hw5, v635, k0_hw6, v636, k0_hw7, v637, k0_hw8, v638, v639, v640, v641, v642, v643, v644, v645, v656, v658⟩ ← q3 i c0V c1V zb yb v552 v558 v564 v583 v589 v593 v599 v603 v605 c0_i32_619
  let ⟨v696, v701, v706, cst_629⟩ ← q4 i c0V c1V (jvV 0#32) (jvV 16#32) (jvV 32#32) (jvV 48#32) (jvV 64#32) (jvV 80#32) s3x s3y s3z sax say saz v526 v528 v530 v531 k0_hw9 v583 v589 v634 k0_hw5 v635 k0_hw6 v636 k0_hw7 v637 k0_hw8 v638 v639 v640 v641 v642 v643 v644 v645 v656 v658
  K v526 v528 v530 v531 k0_hw9 v696 v701 v706 cst_629

/-- Step 2 of the innermost body as printed, then on. -/
def pr2 (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (v696 v701 v706 : FVec F S16 .f32) (cst_629 : F .f32) (K : FVec F S1x16 .f32 → TProg (F := F) i PUnit) : TProg (F := F) i PUnit := do
  let ⟨v712, v718, v724, v735, v739, v743, v749, v751, c95_i32_644⟩ ← q5 i v696 v701 v706 cst_629
  let ⟨v771, v773, v782, v783, v784, v785, v794, k0_hw10, v795, k0_hw11, v796, k0_hw12, v797, k0_hw13⟩ ← q6 i c0V c1V zb yb v712 v718 v724 v735 v739 v743 v749 v751 c95_i32_644
  let v853_ld ← q7 i c0V c1V (jvV 0#32) (jvV 16#32) (jvV 32#32) (jvV 48#32) (jvV 64#32) (jvV 80#32) v531 k0_hw9 v743 v749 v771 v773 v782 v783 v784 v785 v794 k0_hw10 v795 k0_hw11 v796 k0_hw12 v797 k0_hw13
  K v853_ld

/-- Step 3 of the innermost body as printed, then on. -/
def pr3 (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (v853_ld : FVec F S1x16 .f32) (K : FVec F S16 .f32 → FVec F S16 .f32 → FVec F S16 .f32 → F .f32 → TProg (F := F) i PUnit) : TProg (F := F) i PUnit := do
  let ⟨v872, v878, v884, v887, v891, v895, v897⟩ ← q8 i s3x s3y s3z sax say saz v526 v528 v530 v853_ld
  let ⟨v903, v909, v913, v919, v923, v929, v931, v933, v935, v937, v939, v941, v942⟩ ← q9 i v872 v878 v884 v887 v891 v895 v897
  let ⟨v955, k0_hw15, v956, k0_hw16, v957, k0_hw17, v961, v962, v963, v964, v965, v988, v996⟩ ← q10 i c0V c1V zb yb v903 v909 v913 v919 v923 v929 v931 v933 v935 v937 v939 v941 v942
  let ⟨v1026, v1032, v1038, cst_699⟩ ← q11 i c0V c1V (jvV 0#32) (jvV 16#32) (jvV 32#32) (jvV 48#32) (jvV 64#32) (jvV 80#32) s3x s3y s3z sax say saz v526 v528 v530 v531 k0_hw9 v903 v909 v955 k0_hw15 v956 k0_hw16 v957 k0_hw17 v961 v962 v963 v964 v965 v988 v996
  K v1026 v1032 v1038 cst_699

/-- Step 4 of the innermost body as printed, then on. -/
def pr4 (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (v1026 v1032 v1038 : FVec F S16 .f32) (cst_699 : F .f32) (K : FVec F S16 .f32 → FVec F S16 .f32 → FVec F S16 .f32 → TProg (F := F) i PUnit) : TProg (F := F) i PUnit := do
  let ⟨v1044, v1059, v1063, v1069, v1073, v1079, v1083, c1_i32_714⟩ ← q12 i v1026 v1032 v1038 cst_699
  let ⟨v1114, k0_hw18, v1115, k0_hw19, v1116, k0_hw20, v1117, k0_hw21, v1118, v1119, v1120, v1121, v1122, v1123, v1124, v1125, v1133, v1135⟩ ← q13 i c0V c1V zb yb v1032 v1038 v1044 v1059 v1063 v1069 v1073 v1079 v1083 c1_i32_714
  let ⟨v1176, v1181, v1184⟩ ← q14 i c0V c1V (jvV 0#32) (jvV 16#32) (jvV 32#32) (jvV 48#32) (jvV 64#32) (jvV 80#32) s3x s3y sax say saz v526 v528 v531 k0_hw9 v1063 v1069 v1114 k0_hw18 v1115 k0_hw19 v1116 k0_hw20 v1117 k0_hw21 v1118 v1119 v1120 v1121 v1122 v1123 v1124 v1125 v1133 v1135
  K v1176 v1181 v1184

/-- Step 5 of the innermost body as printed, then on. -/
def pr5 (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (v1176 v1181 v1184 : FVec F S16 .f32) (K : BitVec 32 → TProg (F := F) i PUnit) : TProg (F := F) i PUnit := do
  let ⟨v1192, v1198, v1204, v1215, v1219, v1223, v1229, c0_i32_739⟩ ← q15 i s3z v530 v1176 v1181 v1184
  let ⟨v1251, v1253, v1262, v1263, v1264, v1265, v1271, v1273, v1274, k0_hw22, v1275, k0_hw23, v1276⟩ ← q16 i c0V c1V zb yb v1192 v1198 v1204 v1215 v1219 v1223 v1229 c0_i32_739
  let c15_i32_751 ← q17 i c0V c1V (jvV 0#32) (jvV 16#32) (jvV 32#32) (jvV 48#32) (jvV 64#32) (jvV 80#32) v531 k0_hw9 v1223 v1229 v1251 v1253 v1262 v1263 v1264 v1265 v1271 v1273 v1274 k0_hw22 v1275 k0_hw23 v1276
  K c15_i32_751

/-- Step 6 of the innermost body as printed, then on. -/
def pr6 (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (c15_i32_751 : BitVec 32) (K : PUnit.{1} → TProg (F := F) i PUnit) : TProg (F := F) i PUnit := do
  let ⟨v1352, v1358, v1364, v1366, v1367, v1371, v1374⟩ ← q18 i s3x s3y s3z sax say saz v526 v528 v530 c15_i32_751
  let ⟨v1383, v1389, v1393, v1399, v1403, v1409, v1411, v1413, v1415, v1417, v1419⟩ ← q19 i v1352 v1358 v1364 v1366 v1367 v1371 v1374
  let ⟨v1434, k0_hw26, v1435, k0_hw27, v1436, k0_hw28, v1437, k0_hw29, v1440, v1441, v1442, v1443, v1444, v1445, v1468, v1473⟩ ← q20 i c0V c1V zb yb v1364 v1383 v1389 v1393 v1399 v1403 v1409 v1411 v1413 v1415 v1417 v1419
  let v1474 : Vec F S16 .f32 ← SparseCore.vectorLoadIdx sB ![v1434, c1V, v1389] (k0_idx101_inb c0V c1V v1383 v1389 v1434 k0_hw26) (View.loads_vmem h_S560x2x96)
  have v1475 : FVec F S16 .f32 := mulf v1440 v1474
  have v1476 : FVec F S16 .f32 := addf v1473 v1475
  let v1477 : Vec F S16 .f32 ← SparseCore.vectorLoadIdx sB ![v1435, c1V, v1389] (k0_idx102_inb c0V c1V v1383 v1389 v1435 k0_hw27) (View.loads_vmem h_S560x2x96)
  have v1478 : FVec F S16 .f32 := mulf v1441 v1477
  have v1479 : FVec F S16 .f32 := addf v1476 v1478
  let v1480 : Vec F S16 .f32 ← SparseCore.vectorLoadIdx sB ![v1436, c1V, v1383] (k0_idx103_inb c0V c1V v1383 v1389 v1436 k0_hw28) (View.loads_vmem h_S560x2x96)
  have v1481 : FVec F S16 .f32 := mulf v1442 v1480
  have v1482 : FVec F S16 .f32 := addf v1479 v1481
  let v1483 : Vec F S16 .f32 ← SparseCore.vectorLoadIdx sB ![v1437, c1V, v1383] (k0_idx104_inb c0V c1V v1383 v1389 v1437 k0_hw29) (View.loads_vmem h_S560x2x96)
  have v1484 : FVec F S16 .f32 := mulf v1443 v1483
  have v1485 : FVec F S16 .f32 := addf v1482 v1484
  let v1486 : Vec F S16 .f32 ← SparseCore.vectorLoadIdx sB ![v1436, c1V, v1389] (k0_idx105_inb c0V c1V v1383 v1389 v1436 k0_hw28) (View.loads_vmem h_S560x2x96)
  have v1487 : FVec F S16 .f32 := mulf v1444 v1486
  have v1488 : FVec F S16 .f32 := addf v1485 v1487
  let v1489 : Vec F S16 .f32 ← SparseCore.vectorLoadIdx sB ![v1437, c1V, v1389] (k0_idx106_inb c0V c1V v1383 v1389 v1437 k0_hw29) (View.loads_vmem h_S560x2x96)
  have v1490 : FVec F S16 .f32 := mulf v1445 v1489
  have v1491 : FVec F S16 .f32 := addf v1488 v1490
  SparseCore.vectorStoreIdx sO ![(jvV 80#32), c0V, v531] v1468 (fun _ => 1#1) false (k0_idx107_inb c0V c1V (jvV 0#32) (jvV 16#32) (jvV 32#32) (jvV 48#32) (jvV 64#32) (jvV 80#32) v531 k0_hw9) (View.stores_vmem_bits_univ h_S96x2x16 rfl)
  SparseCore.vectorStoreIdx sO ![(jvV 80#32), c1V, v531] v1491 (fun _ => 1#1) false (k0_idx108_inb c0V c1V (jvV 0#32) (jvV 16#32) (jvV 32#32) (jvV 48#32) (jvV 64#32) (jvV 80#32) v531 k0_hw9) (View.stores_vmem_bits_univ h_S96x2x16 rfl)
  K ⟨⟩

set_option maxRecDepth 65536 in
set_option maxHeartbeats 4000000 in
theorem pr1_eq (v25 : BitVec 32) (hw1 : k0_chk1 v25) (tx ty tz : F .f32) (s3x s3y s3z sax say saz : FVec F S16 .f32) (zb yb : IVec S16 32) (t3 : Fin k0_t3_loop.trips)
    (K : ∀ (v526 v528 v530 : FVec F S16 .f32) (v531 : IVec S16 32), k0_chk9 c0V c1V (jvV 0#32) (jvV 16#32) (jvV 32#32) (jvV 48#32) (jvV 64#32) (jvV 80#32) v531 → FVec F S16 .f32 → FVec F S16 .f32 → FVec F S16 .f32 → F .f32 → TProg (F := F) i PUnit) :
    pr1 i v25 hw1 tx ty tz s3x s3y s3z sax say saz zb yb t3 K = (do
      let lv : Vec F S16 .f32 ← Prog.lift (.load sL (Rect.unit (s := S112) (k0_off6 v25 t3) S16.size (k0_off6_inb v25 hw1 t3)).toLoadRect (View.loadsAt_vmem h_S16))
      let v531 : IVec S16 32 := broadcast S16 (Scf.iv 0#32 1#32 t3)
      have k0_hw9 : k0_chk9 c0V c1V (jvV 0#32) (jvV 16#32) (jvV 32#32) (jvV 48#32) (jvV 64#32) (jvV 80#32) v531 := (← Prog.lift (TpuEff.assume (k0_chk9 c0V c1V (jvV 0#32) (jvV 16#32) (jvV 32#32) (jvV 48#32) (jvV 64#32) (jvV 80#32) v531) (k0_chk9.dec _ _ _ _ _ _ _ _ _))).down
      let v526 : FVec F S16 .f32 := broadcast S16 (Scalar.mulf tx (lane0 lv))
      let v528 : FVec F S16 .f32 := broadcast S16 (Scalar.mulf ty (lane0 lv))
      let v530 : FVec F S16 .f32 := broadcast S16 (Scalar.mulf tz (lane0 lv))
      stepJ i 0 1 2 (jvV 0#32) v531 sax say saz v526 v528 v530 s3x s3y s3z zb yb k0_hw9.1 k0_hw9.2.1 <|
        loadRow i 3 fun jx => loadRow i 4 fun jy => loadRow i 5 fun jz =>
          K v526 v528 v530 v531 k0_hw9 (sumV jx sax v526 s3x) (sumV jy say v528 s3y) (sumV jz saz v530 s3z) (Scalar.ofBits .f32 0x3F800000#32)) := rfl

set_option maxRecDepth 65536 in
set_option maxHeartbeats 4000000 in
theorem pr2_eq (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (n0 n1 n2 : FVec F S16 .f32) (K : FVec F S1x16 .f32 → TProg (F := F) i PUnit) :
    pr2 i tx ty tz s3x s3y s3z sax say saz zb yb v526 v528 v530 v531 k0_hw9 n0 n1 n2 (Scalar.ofBits .f32 0x3F800000#32) K
      = stepRest i (jvV 16#32) v531 (pixV n0) (pixV n1) (pixV n2) zb yb k0_hw9.2.2.1 k0_hw9.2.2.2.1 (do
          let ld : Vec F S1x16 .f32 ← Prog.lift (.load sJ (jrow 6).toLoadRect (View.loadsAt_vmem h_S1x16))
          K ld) := rfl

set_option maxRecDepth 65536 in
set_option maxHeartbeats 4000000 in
theorem pr3_eq (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (ld : FVec F S1x16 .f32) (K : FVec F S16 .f32 → FVec F S16 .f32 → FVec F S16 .f32 → F .f32 → TProg (F := F) i PUnit) :
    pr3 i tx ty tz s3x s3y s3z sax say saz zb yb v526 v528 v530 v531 k0_hw9 ld K
      = loadRow i 7 fun jy => loadRow i 8 fun jz =>
          stepRest i (jvV 32#32) v531 (pixV (sumV (shapeCast S16 ld shapeCasts_S1x16_S16) sax v526 s3x)) (pixV (sumV jy say v528 s3y)) (pixV (sumV jz saz v530 s3z)) zb yb k0_hw9.2.2.2.2.1 k0_hw9.2.2.2.2.2.1 <|
          loadRow i 9 fun jx => loadRow i 10 fun jy => loadRow i 11 fun jz =>
            K (sumV jz saz v530 s3z) (pixV (sumV jx sax v526 s3x)) (pixV (sumV jy say v528 s3y)) (Scalar.ofBits .f32 0x3F800000#32) := rfl

set_option maxRecDepth 65536 in
set_option maxHeartbeats 4000000 in
theorem pr4_eq (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (n2 xp yp : FVec F S16 .f32) (K : FVec F S16 .f32 → FVec F S16 .f32 → FVec F S16 .f32 → TProg (F := F) i PUnit) :
    pr4 i tx ty tz s3x s3y s3z sax say saz zb yb v526 v528 v530 v531 k0_hw9 n2 xp yp (Scalar.ofBits .f32 0x3F800000#32) K
      = stepRest i (jvV 48#32) v531 xp yp (pixV n2) zb yb k0_hw9.2.2.2.2.2.2.1 k0_hw9.2.2.2.2.2.2.2.1 (
          loadRow i 12 fun jx => loadRow i 13 fun jy => loadRow i 14 fun jz =>
            K (sumV jx sax v526 s3x) (sumV jy say v528 s3y) (addf jz saz)) := rfl

set_option maxRecDepth 65536 in
set_option maxHeartbeats 4000000 in
theorem pr5_eq (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (n0 n1 m2 : FVec F S16 .f32) (K : BitVec 32 → TProg (F := F) i PUnit) :
    pr5 i tx ty tz s3x s3y s3z sax say saz zb yb v526 v528 v530 v531 k0_hw9 n0 n1 m2 K
      = stepRest i (jvV 64#32) v531 (pixV n0) (pixV n1) (pixV (addf (addf m2 v530) s3z)) zb yb k0_hw9.2.2.2.2.2.2.2.2.1 k0_hw9.2.2.2.2.2.2.2.2.2.1 (K 15#32) := rfl

set_option maxRecDepth 65536 in
set_option maxHeartbeats 4000000 in
theorem pr6_eq (tx ty tz : F .f32) (s3x s3y s3z sax say saz : FVec F S16 .f32) (zb yb : IVec S16 32) (v526 v528 v530 : FVec F S16 .f32) (v531 : IVec S16 32) (k0_hw9 : k0_chk9 c0V c1V (jvV 0#32) (jvV 16#32) (jvV 32#32) (jvV 48#32) (jvV 64#32) (jvV 80#32) v531) (K : PUnit.{1} → TProg (F := F) i PUnit) :
    pr6 i tx ty tz s3x s3y s3z sax say saz zb yb v526 v528 v530 v531 k0_hw9 15#32 K
      = stepJ i 15 16 17 (jvV 80#32) v531 sax say saz v526 v528 v530 s3x s3y s3z zb yb k0_hw9.2.2.2.2.2.2.2.2.2.2.1 k0_hw9.2.2.2.2.2.2.2.2.2.2.2 (K ⟨⟩) := rfl

/-- The innermost body as printed. -/
def prBody (v25 : BitVec 32) (hw1 : k0_chk1 v25) (tx ty tz : F .f32) (s3x s3y s3z sax say saz : FVec F S16 .f32) (zb yb : IVec S16 32) (t3 : Fin k0_t3_loop.trips) : TProg (F := F) i PUnit :=
  pr1 i v25 hw1 tx ty tz s3x s3y s3z sax say saz zb yb t3 fun v526 v528 v530 v531 k0_hw9 v696 v701 v706 cst_629 =>
  pr2 i tx ty tz s3x s3y s3z sax say saz zb yb v526 v528 v530 v531 k0_hw9 v696 v701 v706 cst_629 fun v853_ld =>
  pr3 i tx ty tz s3x s3y s3z sax say saz zb yb v526 v528 v530 v531 k0_hw9 v853_ld fun v1026 v1032 v1038 cst_699 =>
  pr4 i tx ty tz s3x s3y s3z sax say saz zb yb v526 v528 v530 v531 k0_hw9 v1026 v1032 v1038 cst_699 fun v1176 v1181 v1184 =>
  pr5 i tx ty tz s3x s3y s3z sax say saz zb yb v526 v528 v530 v531 k0_hw9 v1176 v1181 v1184 fun c15 =>
  pr6 i tx ty tz s3x s3y s3z sax say saz zb yb v526 v528 v530 v531 k0_hw9 c15 fun _ => pure ⟨⟩

theorem prBody_eq (v25 : BitVec 32) (hw1 : k0_chk1 v25) (tx ty tz : F .f32) (s3x s3y s3z sax say saz : FVec F S16 .f32) (zb yb : IVec S16 32) (t3 : Fin k0_t3_loop.trips) :
    prBody (F := F) i v25 hw1 tx ty tz s3x s3y s3z sax say saz zb yb t3 = body3 i v25 hw1 sax say saz tx ty tz s3x s3y s3z zb yb t3 := by
  unfold prBody
  rw [pr1_eq]
  simp only [pr2_eq, pr3_eq, pr4_eq, pr5_eq, pr6_eq]
  rfl

theorem op_congr {E : Type → Type v} {α β : Type} {e : E β} {k k' : β → Prog E α} (h : ∀ x, k x = k' x) :
    Prog.op e k = Prog.op e k' := congrArg (Prog.op e) (funext h)

theorem bind_congr' {E : Type → Type v} {α β : Type} {p p' : Prog E β} {k k' : β → Prog E α} (hp : p = p') (h : ∀ x, k x = k' x) :
    (p >>= k) = (p' >>= k') := by rw [hp, funext h]

theorem for_congr {E : Type → Type v} {L : Scf.Loop 32} (ok : L.OK) {b b' : Fin L.trips → PUnit → Prog E PUnit}
    (h : ∀ x y, b x y = b' x y) : Scf.Loop.for L ok ⟨⟩ b = Scf.Loop.for L ok ⟨⟩ b' := by
  rw [show b = b' from funext fun x => funext (h x)]

set_option smartUnfolding false in
set_option maxRecDepth 65536 in
set_option maxHeartbeats 40000000 in
theorem body_eq : printed (F := F) i = task i := by
  iterate 4 refine op_congr fun _ => ?_
  refine bind_congr' (p := Scf.Loop.for k0_t1_loop k0_t1_ok PUnit.unit _) (p' := Scf.Loop.for k0_t1_loop k0_t1_ok PUnit.unit _) ?_ fun _ => ?_
  on_goal 2 => rfl
  refine for_congr _ fun t1 _ => ?_
  iterate 8 refine op_congr fun _ => ?_
  iterate 28 refine op_congr fun _ => ?_
  refine op_congr fun cf => ?_
  iterate 42 refine op_congr fun _ => ?_
  iterate 28 refine op_congr fun _ => ?_
  refine bind_congr' (p := Scf.Loop.for k0_t2_loop k0_t2_ok PUnit.unit _) (p' := Scf.Loop.for k0_t2_loop k0_t2_ok PUnit.unit _) ?_ fun _ => ?_
  on_goal 2 => rfl
  refine for_congr _ fun t2 _ => ?_
  refine op_congr fun la => ?_
  refine bind_congr' (p := Scf.Loop.for k0_t3_loop k0_t3_ok PUnit.unit _) (p' := Scf.Loop.for k0_t3_loop k0_t3_ok PUnit.unit _) ?_ fun _ => ?_
  on_goal 2 => rfl
  refine for_congr _ fun t3 _ => ?_
  exact prBody_eq i _ _ _ _ _ _ _ _ _ _ _ _ _ t3

end Cert.KernelIdeal.Stn
-- ==== Proof.Launch.lean ====
/-
  The tasks of the one SparseCore call as the launch theorem asks for them: what each takes and brings back.
-/
module

public import proofs.«01_k».proof.Proof.Task
public import proofs.«01_k».proof.Proof.Words
public import proofs.«01_k».proof.Proof.BodyEq
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## What a task takes and brings back -/

/-- The matrices, the volumes, the coefficients, the words and the result in its tiled layout, from the launch memory. -/
abbrev θM (d : Dev nD) : FVec F S4x3x4 .f32 := m ((SparseCore.T d).loc main_arg1)
abbrev xM (d : Dev nD) : FVec F S4x96x96x2x96 .f32 := x1V (m ((SparseCore.T d).loc main_arg0))
abbrev cfM (d : Dev nD) : FVec F S4x16 .f32 := coefsV (θM m d)
abbrev psM (d : Dev nD) : IVec S32x9x16 32 := paramsV (θM m d)
abbrev laM : FVec F S112 .f32 := latV
abbrev yM (d : Dev nD) : FVec F S36864x2x96 .f32 := outV5 (xM m d) (cfM m d) laM

/-- One of the thirty-two equal read shares of a whole buffer. -/
abbrev shr (w : Fin 32) : PosShare TreeShare := shareTok fullShare 32 w

abbrev rP (d : Dev nD) (q : PosShare TreeShare) : sProp 𝕄 := (SparseCore.T d).loc main_v210 ↦{q} psM m d
abbrev rL (d : Dev nD) (q : PosShare TreeShare) : sProp 𝕄 := (SparseCore.T d).loc main_v9 ↦{q} (laM (F := F))
abbrev rX (d : Dev nD) (q : PosShare TreeShare) : sProp 𝕄 := (SparseCore.T d).loc main_v211 ↦{q} xM m d
abbrev rC (d : Dev nD) (q : PosShare TreeShare) : sProp 𝕄 := (SparseCore.T d).loc main_v4 ↦{q} cfM m d
abbrev rO (d : Dev nD) (w : Fin 32) (f : FVec F S36864x2x96 .f32) : sProp 𝕄 := (SparseCore.T d).loc main_v212 ↦[reg w]{fullShare} f

def tIn (d : Dev nD) (w : Fin 32) : sProp 𝕄 :=
  iprop(rP m d (shr w) ∗ rL d (shr w) ∗ rX m d (shr w) ∗ rC m d (shr w) ∗ ∃ f, rO d w f)
def tOut (d : Dev nD) (w : Fin 32) : sProp 𝕄 :=
  iprop(rP m d (shr w) ∗ rL d (shr w) ∗ rX m d (shr w) ∗ rC m d (shr w) ∗ rO d w (yM m d))

instance tIn_storable (d : Dev nD) (w : Fin 32) : BI.Storable (upEmb : UEmb _ 𝕄) (tIn m d w) := by unfold tIn; infer_instance
instance tOut_storable (d : Dev nD) (w : Fin 32) : BI.Storable (upEmb : UEmb _ 𝕄) (tOut m d w) := by unfold tOut; infer_instance

/-- The number of the task on subcore `s` of SparseCore `c`. -/
def wN (c s : Nat) : Fin 32 := Fin.ofNat 32 (2 * s + c)

/-- The one call: each SparseCore takes what its sixteen tasks take, and brings back what they bring back. -/
def P : (K (F := F)).Pay (nD := nD) (Val := Elt F) (Name := ℕ) (U := UU) where
  st := fun q d c => bigSep Finset.univ fun s : Fin ((K (F := F)).nSub q) => tIn m d (wN c.val s.val)
  dn := fun q d c => bigSep Finset.univ fun s : Fin ((K (F := F)).nSub q) => tOut m d (wN c.val s.val)
  go := fun _ d c s => tIn m d (wN c.val s.val)
  td := fun _ d c s => tOut m d (wN c.val s.val)
  x := fun _ _ => iprop(emp)

instance P_storable : (P (F := F) m).IsStorable where
  st q d c := (inferInstance : BI.Storable (upEmb : UEmb _ 𝕄) (bigSep Finset.univ fun s : Fin ((K (F := F)).nSub q) => tIn m d (wN c.val s.val)))
  dn q d c := (inferInstance : BI.Storable (upEmb : UEmb _ 𝕄) (bigSep Finset.univ fun s : Fin ((K (F := F)).nSub q) => tOut m d (wN c.val s.val)))
  go _ d c s := tIn_storable m d (wN c.val s.val)
  td _ d c s := tOut_storable m d (wN c.val s.val)

/-! ## A task under the launch theorem -/

omit [FloatOps F] in
theorem sepA (A B C : sProp 𝕄) : iprop((A ∗ B) ∗ C) = iprop(A ∗ B ∗ C) := Entails.antisymm sep_assoc sep_assoc'

section Tile

variable (d : Dev nD) (i : grid0.Coords)

abbrev semA : GSem nD τ sig := (thr d i, SemLoc.dma cc0_scratch6.sem)
abbrev sem0 : GSem nD τ sig := (thr d i, SemLoc.dma cc0_scoped0.sem)
abbrev sem1 : GSem nD τ sig := (thr d i, SemLoc.dma cc0_scoped1.sem)
abbrev sem2 : GSem nD τ sig := (thr d i, SemLoc.dma cc0_scoped2.sem)
abbrev sem3 : GSem nD τ sig := (thr d i, SemLoc.dma cc0_scoped3.sem)

/-- The subcore's semaphores beyond the task's five. -/
def semRest : sProp 𝕄 :=
  bigSep (((((SparseCore.Cfg.ownCells (thr d i)).erase (semA d i)).erase (sem0 d i)).erase (sem1 d i)).erase (sem2 d i) |>.erase (sem3 d i)) fun g => semVal g 0

omit [FloatOps F] in
theorem mem_own (s : DmaSem sig) (h : (SemLoc.dma s : SemLoc sig).isScoped .scVector = true) :
    ((thr d i, SemLoc.dma s) : GSem nD τ sig) ∈ SparseCore.Cfg.ownCells (thr d i) := SparseCore.Cfg.mem_ownCells.mpr ⟨rfl, h⟩

omit [FloatOps F] in
theorem sem_ne {a b : DmaSem sig} (h : a ≠ b) : ((thr d i, SemLoc.dma a) : GSem nD τ sig) ≠ (thr d i, SemLoc.dma b) :=
  fun e => h (SemLoc.dma.inj (Prod.mk.inj e).2)

theorem ownSems0_V : (SparseCore.Cfg.ownSems0 (thr d i) : sProp 𝕄) = iprop(Sem0 d i ∗ semRest d i) := by
  have h0 : SparseCore.Cfg.ownSems0 (thr d i) = (iprop(semVal (semA d i) 0 ∗ semVal (sem0 d i) 0 ∗ semVal (sem1 d i) 0 ∗ semVal (sem2 d i) 0 ∗ semVal (sem3 d i) 0 ∗ semRest d i) : sProp 𝕄) := by
    unfold SparseCore.Cfg.ownSems0 semRest
    rw [SparseCore.bigSep_erase' (mem_own d i cc0_scratch6.sem (by decide)),
      SparseCore.bigSep_erase' (Finset.mem_erase.mpr ⟨sem_ne d i (by decide), mem_own d i cc0_scoped0.sem (by decide)⟩),
      SparseCore.bigSep_erase' (Finset.mem_erase.mpr ⟨sem_ne d i (by decide), Finset.mem_erase.mpr ⟨sem_ne d i (by decide), mem_own d i cc0_scoped1.sem (by decide)⟩⟩),
      SparseCore.bigSep_erase' (Finset.mem_erase.mpr ⟨sem_ne d i (by decide), Finset.mem_erase.mpr ⟨sem_ne d i (by decide), Finset.mem_erase.mpr ⟨sem_ne d i (by decide), mem_own d i cc0_scoped2.sem (by decide)⟩⟩⟩),
      SparseCore.bigSep_erase' (Finset.mem_erase.mpr ⟨sem_ne d i (by decide), Finset.mem_erase.mpr ⟨sem_ne d i (by decide), Finset.mem_erase.mpr ⟨sem_ne d i (by decide), Finset.mem_erase.mpr ⟨sem_ne d i (by decide), mem_own d i cc0_scoped3.sem (by decide)⟩⟩⟩⟩)]
    try rfl
  rw [h0]
  unfold Sem0
  simp only [sepA]

abbrev refD (b : Ref sig .scVector) : DevRef τ sig := (Proc.scVector (cV i) (jV i)).devRef b

/-- The subcore's memory beyond the task's six scratch buffers. -/
def bufRest : sProp 𝕄 :=
  bigSep ((((((SparseCore.Cfg.ownRefs (τ := τ) (.scVector (cV i) (jV i))).erase (refD i cc0_scratch0)).erase (refD i cc0_scratch1)).erase (refD i cc0_scratch2)).erase (refD i cc0_scratch3)).erase (refD i cc0_scratch4) |>.erase (refD i cc0_scratch5))
    fun b => iprop(∃ f, ((d, b) : Loc nD τ sig) ↦{fullShare} f)

omit [FloatOps F] in
theorem ref_ne {a b : Ref sig .scVector} (h : a ≠ b) : refD i a ≠ refD i b := fun e => h (Proc.devRef_injective _ e)

theorem ownBufs_V : (SparseCore.Cfg.ownBufs (thr d i) : sProp 𝕄) = iprop(Scr d i ∗ bufRest d i) := by
  have h0 : SparseCore.Cfg.ownBufs (thr d i) = (iprop((∃ f, pP d i f) ∗ (∃ f, pC d i f) ∗ (∃ f, pJ d i f) ∗ (∃ f, pL d i f) ∗ (∃ f, pB d i f) ∗ (∃ f, pO d i f) ∗ bufRest d i) : sProp 𝕄) := by
    unfold SparseCore.Cfg.ownBufs bufRest
    refine (SparseCore.bigSep_erase' (SparseCore.Cfg.mem_ownRefs_of_owner (p := Proc.scVector (cV i) (jV i)) (b := refD i cc0_scratch0) rfl)).trans ?_
    rw [SparseCore.bigSep_erase' (Finset.mem_erase.mpr ⟨ref_ne i (by decide), SparseCore.Cfg.mem_ownRefs_of_owner (p := Proc.scVector (cV i) (jV i)) (b := refD i cc0_scratch1) rfl⟩),
      SparseCore.bigSep_erase' (Finset.mem_erase.mpr ⟨ref_ne i (by decide), Finset.mem_erase.mpr ⟨ref_ne i (by decide), SparseCore.Cfg.mem_ownRefs_of_owner (p := Proc.scVector (cV i) (jV i)) (b := refD i cc0_scratch2) rfl⟩⟩),
      SparseCore.bigSep_erase' (Finset.mem_erase.mpr ⟨ref_ne i (by decide), Finset.mem_erase.mpr ⟨ref_ne i (by decide), Finset.mem_erase.mpr ⟨ref_ne i (by decide), SparseCore.Cfg.mem_ownRefs_of_owner (p := Proc.scVector (cV i) (jV i)) (b := refD i cc0_scratch3) rfl⟩⟩⟩),
      SparseCore.bigSep_erase' (Finset.mem_erase.mpr ⟨ref_ne i (by decide), Finset.mem_erase.mpr ⟨ref_ne i (by decide), Finset.mem_erase.mpr ⟨ref_ne i (by decide), Finset.mem_erase.mpr ⟨ref_ne i (by decide), SparseCore.Cfg.mem_ownRefs_of_owner (p := Proc.scVector (cV i) (jV i)) (b := refD i cc0_scratch4) rfl⟩⟩⟩⟩),
      SparseCore.bigSep_erase' (Finset.mem_erase.mpr ⟨ref_ne i (by decide), Finset.mem_erase.mpr ⟨ref_ne i (by decide), Finset.mem_erase.mpr ⟨ref_ne i (by decide), Finset.mem_erase.mpr ⟨ref_ne i (by decide), Finset.mem_erase.mpr ⟨ref_ne i (by decide), SparseCore.Cfg.mem_ownRefs_of_owner (p := Proc.scVector (cV i) (jV i)) (b := refD i cc0_scratch5) rfl⟩⟩⟩⟩⟩)]
    try rfl
  rw [h0]
  unfold Scr
  simp only [sepA]

theorem tile_body (hF : (K (F := F)).Facts) (hH : Hyp (cfM m d) laM (zbN (θM m d)) (ybN (θM m d))) (O : CellTallies nD τ sig (HIx 1)) (W : Waits sig (HIx 1)) (hO : ∀ g, O g none = 0) :
    iprop(levAts (K (F := F)).L (K (F := F)).lev ∗ emp ∗ tIn m d (wOf i) ∗ scopedBufs (thr d i) ∗ scopedSems0 (thr d i) ∗ owes (thr d i) O W)
      ⊢ WP d i (printed (F := F) i) fun _ => iprop(tOut m d (wOf i) ∗ scopedBufs (thr d i) ∗ scopedSems0 (thr d i) ∗ ∃ W', ⌜∀ p ∈ W', p ∈ W ∨ p.2 = none⌝ ∗ owes (thr d i) O W') := by
  rw [body_eq i, (K (F := F)).scopedBufs_V hF d (cV i) (jV i), SparseCore.Cfg.scopedSems0_V (Val := Elt F) d (cV i) (jV i), ownSems0_V, ownBufs_V]
  unfold tIn tOut
  iintro ⟨#Hlv, -, Hin, ⟨Hscr, Hbr⟩, ⟨Hsem, Hsr⟩, HO⟩
  iapply (wp_wand frame (wpE (defs₀ (F := F)) 𝒱₀ (thr d i) none) Set.univ) $$ [Hin Hscr Hsem HO]
  · iapply (wp_task d i (xM m d) (cfM m d) laM (psM m d) (shr (wOf i)) O W (zbN (θM m d)) (ybN (θM m d)) hO (words_of (θM m d) (wOf i)) hH) $$ [Hin Hscr Hsem HO]
    isplitr; · iexact Hlv
    isplitl [Hin]; · iexact Hin
    isplitl [Hscr]; · iexact Hscr
    isplitl [Hsem]; · iexact Hsem
    unfold Owe
    iexists W
    isplitr; · ipureintro; exact fun p hp => Or.inl hp
    iexact HO
  iintro %u ⟨Hout, Hscr, Hsem, HO⟩
  isplitl [Hout]; · iexact Hout
  isplitl [Hscr Hbr]
  · isplitl [Hscr]; · iexact Hscr
    iexact Hbr
  isplitl [Hsem Hsr]
  · isplitl [Hsem]; · iexact Hsem
    iexact Hsr
  unfold Owe
  iexact HO

end Tile

/-! ## The obligations of the launch theorem -/

def coordsV (c : Fin (grid0.bound 0)) (s : Fin (grid0.bound 1)) : grid0.Coords :=
  fun | 0 => c | 1 => s | ⟨_ + 2, h⟩ => absurd h (Nat.not_lt.2 (Nat.le_add_left _ _))

theorem wOf_coordsV (c : Fin (grid0.bound 0)) (s : Fin (grid0.bound 1)) : wOf (coordsV c s) = wN c.val s.val := by
  have h0 : c.val < 2 := c.isLt
  have h1 : s.val < 16 := s.isLt
  apply Fin.ext
  show 2 * s.val + c.val = (2 * s.val + c.val) % 32
  rw [Nat.mod_eq_of_lt (by omega)]

theorem defs₀_vector (c : Fin τ.nSC) (s : Fin τ.nSub) :
    defs₀ (F := F) (.scVector c s) 0 () = SparseCore.onTile hcore0 hsub0 (fun c s => printed (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hH : ∀ d : Dev nD, Hyp (cfM m d) laM (zbN (θM m d)) (ybN (θM m d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hw : wN c.val i.val = wOf (coordsV ⟨((K (F := F)).core 0 c).val, hc.1⟩ ⟨((K (F := F)).sub 0 i).val, hc.2⟩) := (wOf_coordsV _ _).symm
  have hgo : (P m).go 0 d c i = tIn m d (wOf (coordsV ⟨((K (F := F)).core 0 c).val, hc.1⟩ ⟨((K (F := F)).sub 0 i).val, hc.2⟩)) := congrArg (tIn m d) hw
  have htd : (P m).td 0 d c i = tOut m d (wOf (coordsV ⟨((K (F := F)).core 0 c).val, hc.1⟩ ⟨((K (F := F)).sub 0 i).val, hc.2⟩)) := congrArg (tOut m d) hw
  rw [hgo, htd]
  exact (tile_body m d (coordsV ⟨_, hc.1⟩ ⟨_, hc.2⟩) hF (hH d) O W hO).trans (wp_mono frame _ _ fun _ => obl_post)

theorem vecSplit : (K (F := F)).VecSplit' (P m) 0 := by
  intro d c
  show (bigSep Finset.univ fun s : Fin ((K (F := F)).nSub 0) => tIn m d (wN c.val s.val)) ⊢ |={Set.univ}=> iprop(
      (bigSep Finset.univ fun s : Fin ((K (F := F)).nSub 0) => tIn m d (wN c.val s.val))
      ∗ ((bigSep Finset.univ fun s : Fin ((K (F := F)).nSub 0) => tOut m d (wN c.val s.val)) -∗ (bigSep Finset.univ fun s : Fin ((K (F := F)).nSub 0) => tOut m d (wN c.val s.val))))
  iintro H; imodintro
  isplitl [H]; · iexact H
  iintro H; iexact H

def u₀ : UU := (initOf (K (F := F)).hsCells (K (F := F)).hsToks, 1)

omit [FloatOps F] in
theorem ownU_split (a : UH) (b : Counters) : (ownU (a, b) : sProp 𝕄) ⊢ iprop(BI.own (EH a) ∗ BI.own (EC b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_split _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P m).x q thr)
    = (bigSep Finset.univ fun _ : Thread nD τ => bigSep Finset.univ fun _ : Fin 1 => iprop(emp) : sProp 𝕄) from rfl]
  simp only [bigSep_emp']
  iempintro

end Cert.KernelIdeal.Stn
-- ==== Proof.HostAll.lean ====
/-
  What the host's prologue leaves in the kernel's four inputs, and that it leaves the arguments.
-/
module

public import proofs.«01_k».proof.Proof.HostVal
public import Idealize.ShloMosaic.Lib.Pipeline.Frame

@[expose] public section

noncomputable section

namespace Cert.KernelIdeal.Stn

open Cert.KernelIdeal Cert.KernelIdeal.Gen
open Idealize.ShloMosaic Idealize.ShloMosaic.TcCoe Idealize.SL.Sem Idealize.ShloMosaic.StableHlo

variable {F : FTy → Type} [FloatOps F]

/-! ## All of them -/

set_option maxRecDepth 8192 in
set_option maxHeartbeats 4000000 in
theorem all_v4 (V : Valuation τ sig (Elt F)) : after opsAll V (Proc.devRef .tc main_v4) = coefsV (V (Proc.devRef .tc main_arg1)) := by
  simp (disch := decide) only [opsAll, ops0, ops1, ops2, ops3, ops4, StableHlo.after_append, at_v4, at_v9, at_v10, at_v14, at_v18, at_v22, at_v37, at_v38, at_v39, at_v43, at_v46, at_v47, at_v48, at_v49, at_v60, at_v71, at_v82, at_v93, at_v130, at_v141, at_v152, at_v163, at_v116, at_v186, at_v119, at_v189, at_v192, at_v210, at_v211, st0_keep, st1_keep, st2_keep, st3_keep, st4_keep, st5_keep, st6a_keep, st6b_keep, st7_keep, st8_keep, st9_keep, st10_keep, st11a_keep, st11b_keep, st12_keep, st13_keep, st14_keep, st15a_keep, st15b_keep, st16_keep, st17_keep, st18a_keep, st18b_keep, st19_keep, st20_keep, st21_keep, st22_keep]
  try rfl

set_option maxRecDepth 8192 in
set_option maxHeartbeats 4000000 in
theorem all_v9 (V : Valuation τ sig (Elt F)) : after opsAll V (Proc.devRef .tc main_v9) = latV := by
  simp (disch := decide) only [opsAll, ops0, ops1, ops2, ops3, ops4, StableHlo.after_append, at_v4, at_v9, at_v10, at_v14, at_v18, at_v22, at_v37, at_v38, at_v39, at_v43, at_v46, at_v47, at_v48, at_v49, at_v60, at_v71, at_v82, at_v93, at_v130, at_v141, at_v152, at_v163, at_v116, at_v186, at_v119, at_v189, at_v192, at_v210, at_v211, st0_keep, st1_keep, st2_keep, st3_keep, st4_keep, st5_keep, st6a_keep, st6b_keep, st7_keep, st8_keep, st9_keep, st10_keep, st11a_keep, st11b_keep, st12_keep, st13_keep, st14_keep, st15a_keep, st15b_keep, st16_keep, st17_keep, st18a_keep, st18b_keep, st19_keep, st20_keep, st21_keep, st22_keep]
  try rfl

set_option maxRecDepth 8192 in
set_option maxHeartbeats 4000000 in
theorem all_v210 (V : Valuation τ sig (Elt F)) : after opsAll V (Proc.devRef .tc main_v210) = paramsV (V (Proc.devRef .tc main_arg1)) := by
  simp only [opsAll, ops0, ops1, ops2, ops3, ops4, StableHlo.after_append]
  rw [st22_keep _ main_v210 (by decide), at_v210, st20_keep _ main_v39 (by decide), st20_keep _ main_v43 (by decide), st20_keep _ main_v46 (by decide), st20_keep _ main_v119 (by decide), st20_keep _ main_v189 (by decide), at_v192]
  rw [st20_keep _ main_v49 (by decide), st19_keep _ main_v39 (by decide), st19_keep _ main_v43 (by decide), st19_keep _ main_v46 (by decide), st19_keep _ main_v119 (by decide), at_v189, st19_keep _ main_v49 (by decide), st18b_keep _ main_v39 (by decide)]
  rw [st18b_keep _ main_v43 (by decide), st18b_keep _ main_v46 (by decide), st18b_keep _ main_v119 (by decide), st18b_keep _ main_v49 (by decide), at_v186, st18a_keep _ main_v39 (by decide), st18a_keep _ main_v43 (by decide), st18a_keep _ main_v46 (by decide)]
  rw [st18a_keep _ main_v119 (by decide), st18a_keep _ main_v49 (by decide), st17_keep _ main_v39 (by decide), st17_keep _ main_v43 (by decide), st17_keep _ main_v46 (by decide), st17_keep _ main_v119 (by decide), st17_keep _ main_v49 (by decide), st17_keep _ main_v130 (by decide)]
  rw [st17_keep _ main_v141 (by decide), st17_keep _ main_v152 (by decide), at_v163, st17_keep _ main_v47 (by decide), st17_keep _ main_v48 (by decide), st16_keep _ main_v39 (by decide), st16_keep _ main_v43 (by decide), st16_keep _ main_v46 (by decide)]
  rw [st16_keep _ main_v119 (by decide), st16_keep _ main_v49 (by decide), st16_keep _ main_v130 (by decide), st16_keep _ main_v141 (by decide), at_v152, st16_keep _ main_v47 (by decide), st16_keep _ main_v48 (by decide), st16_keep _ main_v37 (by decide)]
  rw [st15b_keep _ main_v39 (by decide), st15b_keep _ main_v43 (by decide), st15b_keep _ main_v46 (by decide), st15b_keep _ main_v119 (by decide), st15b_keep _ main_v49 (by decide), st15b_keep _ main_v130 (by decide), at_v141, st15b_keep _ main_v47 (by decide)]
  rw [st15b_keep _ main_v48 (by decide), st15b_keep _ main_v37 (by decide), st15b_keep _ main_v18 (by decide), st15a_keep _ main_v39 (by decide), st15a_keep _ main_v43 (by decide), st15a_keep _ main_v46 (by decide), st15a_keep _ main_v119 (by decide), st15a_keep _ main_v49 (by decide)]
  rw [st15a_keep _ main_v130 (by decide), st15a_keep _ main_v47 (by decide), st15a_keep _ main_v48 (by decide), st15a_keep _ main_v37 (by decide), st15a_keep _ main_v18 (by decide), st14_keep _ main_v39 (by decide), st14_keep _ main_v43 (by decide), st14_keep _ main_v46 (by decide)]
  rw [st14_keep _ main_v119 (by decide), st14_keep _ main_v49 (by decide), at_v130, st14_keep _ main_v47 (by decide), st14_keep _ main_v48 (by decide), st14_keep _ main_v37 (by decide), st14_keep _ main_v18 (by decide), st14_keep _ main_v22 (by decide)]
  rw [st13_keep _ main_v39 (by decide), st13_keep _ main_v43 (by decide), st13_keep _ main_v46 (by decide), at_v119, st13_keep _ main_v49 (by decide), st13_keep _ main_v47 (by decide), st13_keep _ main_v48 (by decide), st13_keep _ main_v37 (by decide)]
  rw [st13_keep _ main_v18 (by decide), st13_keep _ main_v22 (by decide), st13_keep _ main_v14 (by decide), st12_keep _ main_v39 (by decide), st12_keep _ main_v43 (by decide), st12_keep _ main_v46 (by decide), st12_keep _ main_v49 (by decide), st12_keep _ main_v47 (by decide)]
  rw [st12_keep _ main_v48 (by decide), st12_keep _ main_v37 (by decide), st12_keep _ main_v18 (by decide), st12_keep _ main_v22 (by decide), st12_keep _ main_v14 (by decide), at_v116, st11b_keep _ main_v39 (by decide), st11b_keep _ main_v43 (by decide)]
  rw [st11b_keep _ main_v46 (by decide), st11b_keep _ main_v49 (by decide), st11b_keep _ main_v47 (by decide), st11b_keep _ main_v48 (by decide), st11b_keep _ main_v37 (by decide), st11b_keep _ main_v18 (by decide), st11b_keep _ main_v22 (by decide), st11b_keep _ main_v14 (by decide)]
  rw [st11b_keep _ main_v60 (by decide), st11b_keep _ main_v71 (by decide), st11b_keep _ main_v82 (by decide), at_v93, st11a_keep _ main_v39 (by decide), st11a_keep _ main_v43 (by decide), st11a_keep _ main_v46 (by decide), st11a_keep _ main_v49 (by decide)]
  rw [st11a_keep _ main_v47 (by decide), st11a_keep _ main_v48 (by decide), st11a_keep _ main_v37 (by decide), st11a_keep _ main_v18 (by decide), st11a_keep _ main_v22 (by decide), st11a_keep _ main_v14 (by decide), st11a_keep _ main_v60 (by decide), st11a_keep _ main_v71 (by decide)]
  rw [st11a_keep _ main_v82 (by decide), st10_keep _ main_v39 (by decide), st10_keep _ main_v43 (by decide), st10_keep _ main_v46 (by decide), st10_keep _ main_v49 (by decide), st10_keep _ main_v47 (by decide), st10_keep _ main_v48 (by decide), st10_keep _ main_v37 (by decide)]
  rw [st10_keep _ main_v18 (by decide), st10_keep _ main_v22 (by decide), st10_keep _ main_v14 (by decide), st10_keep _ main_v60 (by decide), st10_keep _ main_v71 (by decide), at_v82, st9_keep _ main_v39 (by decide), st9_keep _ main_v43 (by decide)]
  rw [st9_keep _ main_v46 (by decide), st9_keep _ main_v49 (by decide), st9_keep _ main_v47 (by decide), st9_keep _ main_v48 (by decide), st9_keep _ main_v37 (by decide), st9_keep _ main_v18 (by decide), st9_keep _ main_v22 (by decide), st9_keep _ main_v14 (by decide)]
  rw [st9_keep _ main_v60 (by decide), at_v71, st8_keep _ main_v39 (by decide), st8_keep _ main_v43 (by decide), st8_keep _ main_v46 (by decide), st8_keep _ main_v49 (by decide), st8_keep _ main_v47 (by decide), st8_keep _ main_v48 (by decide)]
  rw [st8_keep _ main_v37 (by decide), st8_keep _ main_v18 (by decide), st8_keep _ main_v22 (by decide), st8_keep _ main_v14 (by decide), at_v60, st7_keep _ main_v39 (by decide), st7_keep _ main_v43 (by decide), st7_keep _ main_v46 (by decide)]
  rw [at_v49, at_v47, at_v48, st7_keep _ main_v37 (by decide), st7_keep _ main_v18 (by decide), st7_keep _ main_v22 (by decide), st7_keep _ main_v14 (by decide), st6b_keep _ main_v39 (by decide)]
  rw [st6b_keep _ main_v43 (by decide), at_v46, st6b_keep _ main_v37 (by decide), st6b_keep _ main_v18 (by decide), st6b_keep _ main_v22 (by decide), st6b_keep _ main_v14 (by decide), st6a_keep _ main_v39 (by decide), st6a_keep _ main_v43 (by decide)]
  rw [st6a_keep _ main_v37 (by decide), st6a_keep _ main_v18 (by decide), st6a_keep _ main_v22 (by decide), st6a_keep _ main_v14 (by decide), st5_keep _ main_v39 (by decide), at_v43, st5_keep _ main_v37 (by decide), st5_keep _ main_v18 (by decide)]
  rw [st5_keep _ main_v22 (by decide), st5_keep _ main_v14 (by decide), st5_keep _ main_v38 (by decide), at_v39, st4_keep _ main_v37 (by decide), st4_keep _ main_v18 (by decide), st4_keep _ main_v22 (by decide), st4_keep _ main_v14 (by decide)]
  rw [at_v38, at_v37, at_v18, at_v22, at_v14, st2_keep _ main_arg1 (by decide), at_v10, st1_keep _ main_arg1 (by decide)]
  rw [st0_keep _ main_arg1 (by decide)]
  simp only [paramsV, zb0I, yb0I, mnU, srowI, k0I, a0I, alV, beV, gaV]

set_option maxRecDepth 8192 in
set_option maxHeartbeats 4000000 in
theorem all_v211 (V : Valuation τ sig (Elt F)) : after opsAll V (Proc.devRef .tc main_v211) = x1V (V (Proc.devRef .tc main_arg0)) := by
  simp (disch := decide) only [opsAll, ops0, ops1, ops2, ops3, ops4, StableHlo.after_append, at_v4, at_v9, at_v10, at_v14, at_v18, at_v22, at_v37, at_v38, at_v39, at_v43, at_v46, at_v47, at_v48, at_v49, at_v60, at_v71, at_v82, at_v93, at_v130, at_v141, at_v152, at_v163, at_v116, at_v186, at_v119, at_v189, at_v192, at_v210, at_v211, st0_keep, st1_keep, st2_keep, st3_keep, st4_keep, st5_keep, st6a_keep, st6b_keep, st7_keep, st8_keep, st9_keep, st10_keep, st11a_keep, st11b_keep, st12_keep, st13_keep, st14_keep, st15a_keep, st15b_keep, st16_keep, st17_keep, st18a_keep, st18b_keep, st19_keep, st20_keep, st21_keep, st22_keep]
  try rfl

set_option maxRecDepth 8192 in
set_option maxHeartbeats 4000000 in
theorem all_arg0 (V : Valuation τ sig (Elt F)) : after opsAll V (Proc.devRef .tc main_arg0) = V (Proc.devRef .tc main_arg0) := by
  simp (disch := decide) only [opsAll, ops0, ops1, ops2, ops3, ops4, StableHlo.after_append, at_v4, at_v9, at_v10, at_v14, at_v18, at_v22, at_v37, at_v38, at_v39, at_v43, at_v46, at_v47, at_v48, at_v49, at_v60, at_v71, at_v82, at_v93, at_v130, at_v141, at_v152, at_v163, at_v116, at_v186, at_v119, at_v189, at_v192, at_v210, at_v211, st0_keep, st1_keep, st2_keep, st3_keep, st4_keep, st5_keep, st6a_keep, st6b_keep, st7_keep, st8_keep, st9_keep, st10_keep, st11a_keep, st11b_keep, st12_keep, st13_keep, st14_keep, st15a_keep, st15b_keep, st16_keep, st17_keep, st18a_keep, st18b_keep, st19_keep, st20_keep, st21_keep, st22_keep]
  try rfl

set_option maxRecDepth 8192 in
set_option maxHeartbeats 4000000 in
theorem all_arg1 (V : Valuation τ sig (Elt F)) : after opsAll V (Proc.devRef .tc main_arg1) = V (Proc.devRef .tc main_arg1) := by
  simp (disch := decide) only [opsAll, ops0, ops1, ops2, ops3, ops4, StableHlo.after_append, at_v4, at_v9, at_v10, at_v14, at_v18, at_v22, at_v37, at_v38, at_v39, at_v43, at_v46, at_v47, at_v48, at_v49, at_v60, at_v71, at_v82, at_v93, at_v130, at_v141, at_v152, at_v163, at_v116, at_v186, at_v119, at_v189, at_v192, at_v210, at_v211, st0_keep, st1_keep, st2_keep, st3_keep, st4_keep, st5_keep, st6a_keep, st6b_keep, st7_keep, st8_keep, st9_keep, st10_keep, st11a_keep, st11b_keep, st12_keep, st13_keep, st14_keep, st15a_keep, st15b_keep, st16_keep, st17_keep, st18a_keep, st18b_keep, st19_keep, st20_keep, st21_keep, st22_keep]
  try rfl

end Cert.KernelIdeal.Stn
-- ==== Proof.Run.lean ====
/-
  The whole program: the host lines, the SparseCore call, the two layout lines; what it leaves in memory.
-/
module

public import proofs.«01_k».proof.Proof.Launch
public import proofs.«01_k».proof.Proof.HostAll
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

open Idealize.ShloMosaic.StableHlo

variable (m : (ℓ : Loc nD τ sig) → Buf (Elt F) ℓ) (ρ : Dev nD → PrngReg)

/-! ## The result and its thirty-two parts -/

omit [FloatOps F] in
theorem reg_disjoint : ∀ w ∈ (Finset.univ : Finset (Fin 32)), ∀ v ∈ (Finset.univ : Finset (Fin 32)), w ≠ v → Disjoint (reg w) (reg v) := by
  intro w _ v _ h
  refine Finset.disjoint_left.mpr fun p h1 h2 => h (Fin.ext ?_)
  rw [mem_reg] at h1 h2; omega

omit [FloatOps F] in
theorem reg_cover : (Finset.univ : Finset (Fin 32)).biUnion reg = Finset.univ := by
  refine Finset.eq_univ_iff_forall.mpr fun p => ?_
  have h := (itemOf p).isLt
  exact Finset.mem_biUnion.mpr ⟨⟨(itemOf p).val / 9, by omega⟩, Finset.mem_univ _, (mem_reg _ _).mpr rfl⟩

theorem out_parts (d : Dev nD) (f : FVec F S36864x2x96 .f32) :
    ((SparseCore.T d).loc main_v212 ↦{fullShare} f : sProp 𝕄) = bigSep Finset.univ fun w : Fin 32 => rO d w f := by
  rw [← pointsTo_biUnion Finset.univ (ℓ := (SparseCore.T d).loc main_v212) reg reg_disjoint, reg_cover]; try rfl

/-- The pairs of a SparseCore and a subcore, as the thirty-two tasks. -/
def pairs : Fin 2 × Fin 16 ↪ Fin 32 := ⟨fun e => wN e.1.val e.2.val, by
  rintro ⟨c, s⟩ ⟨c', s'⟩ e
  have e' : (2 * s.val + c.val) % 32 = (2 * s'.val + c'.val) % 32 := congrArg Fin.val e
  have h1 := c.isLt; have h2 := c'.isLt; have h3 := s.isLt; have h4 := s'.isLt
  have : c.val = c'.val := by omega
  have : s.val = s'.val := by omega
  exact Prod.ext (Fin.ext (by assumption)) (Fin.ext (by assumption))⟩

theorem pairs_univ : (Finset.univ : Finset (Fin 2 × Fin 16)).map pairs = Finset.univ := by
  refine Finset.eq_univ_iff_forall.mpr fun w => Finset.mem_map.mpr ?_
  have h := w.isLt
  refine ⟨(⟨w.val % 2, by omega⟩, ⟨w.val / 2, by omega⟩), Finset.mem_univ _, Fin.ext ?_⟩
  show (2 * (w.val / 2) + w.val % 2) % 32 = w.val
  omega

theorem cores_eq (Φ : Fin 32 → sProp 𝕄) :
    (bigSep Finset.univ fun c : Fin ((K (F := F)).nCore 0) => bigSep Finset.univ fun s : Fin ((K (F := F)).nSub 0) => Φ (wN c.val s.val)) = bigSep Finset.univ Φ := by
  have h1 : (bigSep (Finset.univ : Finset (Fin 2 × Fin 16)) fun e => Φ (wN e.1.val e.2.val)) = bigSep Finset.univ fun c : Fin 2 => bigSep Finset.univ fun s : Fin 16 => Φ (wN c.val s.val) :=
    (congrArg (fun S => bigSep S fun e : Fin 2 × Fin 16 => Φ (wN e.1.val e.2.val)) (Finset.univ_product_univ (α := Fin 2) (β := Fin 16)).symm).trans
      (SparseCore.bigSep_product Finset.univ Finset.univ fun e : Fin 2 × Fin 16 => Φ (wN e.1.val e.2.val))
  have h2 : bigSep ((Finset.univ : Finset (Fin 2 × Fin 16)).map pairs) Φ = bigSep Finset.univ fun e : Fin 2 × Fin 16 => Φ (wN e.1.val e.2.val) := BI.bigSep_map pairs
  rw [pairs_univ] at h2
  exact h1.symm.trans h2.symm

/-- The five buffers the tasks use. -/
def Five (d : Dev nD) (f : FVec F S36864x2x96 .f32) : sProp 𝕄 :=
  iprop(rP m d fullShare ∗ rL d fullShare ∗ rX m d fullShare ∗ rC m d fullShare ∗ ((SparseCore.T d).loc main_v212 ↦{fullShare} f))

/-- What is left of the four the tasks read while they run. -/
def Left (d : Dev nD) : sProp 𝕄 :=
  iprop(rP m d (shareDrop fullShare 32) ∗ rL d (shareDrop fullShare 32) ∗ rX m d (shareDrop fullShare 32) ∗ rC m d (shareDrop fullShare 32))

theorem deal (d : Dev nD) (f : FVec F S36864x2x96 .f32) : Five m d f ⊢ iprop(Left m d ∗ bigSep Finset.univ (tIn m d)) := by
  have e : bigSep Finset.univ (tIn m d) = (iprop((bigSep Finset.univ fun w => rP m d (shr w)) ∗ (bigSep Finset.univ fun w => rL d (shr w)) ∗ (bigSep Finset.univ fun w => rX m d (shr w))
      ∗ (bigSep Finset.univ fun w => rC m d (shr w)) ∗ bigSep Finset.univ fun w : Fin 32 => iprop(∃ f, rO d w f)) : sProp 𝕄) := by
    rw [show bigSep Finset.univ (tIn m d) = (bigSep Finset.univ fun w => iprop(rP m d (shr w) ∗ rL d (shr w) ∗ rX m d (shr w) ∗ rC m d (shr w) ∗ ∃ f, rO d w f) : sProp 𝕄) from rfl,
      bigSep_sep', bigSep_sep', bigSep_sep', bigSep_sep']
  rw [e]
  unfold Five Left
  iintro ⟨HP, HL, HX, HC, HO⟩
  ihave HP' := (Transfers.pointsTo_toks_split (ℓ := (SparseCore.T d).loc main_v210) (S := Finset.univ) (f := psM m d) fullShare 32) $$ HP
  ihave HL' := (Transfers.pointsTo_toks_split (ℓ := (SparseCore.T d).loc main_v9) (S := Finset.univ) (f := laM (F := F)) fullShare 32) $$ HL
  ihave HX' := (Transfers.pointsTo_toks_split (ℓ := (SparseCore.T d).loc main_v211) (S := Finset.univ) (f := xM m d) fullShare 32) $$ HX
  ihave HC' := (Transfers.pointsTo_toks_split (ℓ := (SparseCore.T d).loc main_v4) (S := Finset.univ) (f := cfM m d) fullShare 32) $$ HC
  icases HP' with ⟨HP1, HP2⟩
  icases HL' with ⟨HL1, HL2⟩
  icases HX' with ⟨HX1, HX2⟩
  icases HC' with ⟨HC1, HC2⟩
  ihave HO' := (Entails.of_eq (out_parts d f)) $$ HO
  isplitl [HP1 HL1 HX1 HC1]
  · isplitl [HP1]; · iexact HP1
    isplitl [HL1]; · iexact HL1
    isplitl [HX1]; · iexact HX1
    iexact HC1
  isplitl [HP2]; · iexact HP2
  isplitl [HL2]; · iexact HL2
  isplitl [HX2]; · iexact HX2
  isplitl [HC2]; · iexact HC2
  have hm : (bigSep Finset.univ fun w : Fin 32 => (rO d w f : sProp 𝕄)) ⊢ bigSep Finset.univ fun w : Fin 32 => iprop(∃ f, rO d w f) :=
    bigSep_mono fun w _ => by
      show (rO d w f : sProp 𝕄) ⊢ iprop(∃ f, rO d w f)
      iintro H
      iexists f
      iexact H
  iapply hm
  iexact HO'

theorem gather (d : Dev nD) : iprop(Left m d ∗ bigSep Finset.univ (tOut m d)) ⊢ Five m d (yM m d) := by
  have e : bigSep Finset.univ (tOut m d) = (iprop((bigSep Finset.univ fun w => rP m d (shr w)) ∗ (bigSep Finset.univ fun w => rL d (shr w)) ∗ (bigSep Finset.univ fun w => rX m d (shr w))
      ∗ (bigSep Finset.univ fun w => rC m d (shr w)) ∗ bigSep Finset.univ fun w : Fin 32 => rO d w (yM m d)) : sProp 𝕄) := by
    rw [show bigSep Finset.univ (tOut m d) = (bigSep Finset.univ fun w => iprop(rP m d (shr w) ∗ rL d (shr w) ∗ rX m d (shr w) ∗ rC m d (shr w) ∗ rO d w (yM m d)) : sProp 𝕄) from rfl,
      bigSep_sep', bigSep_sep', bigSep_sep', bigSep_sep']
  rw [e]
  unfold Five Left
  iintro ⟨⟨HP1, HL1, HX1, HC1⟩, HP2, HL2, HX2, HC2, HO⟩
  isplitl [HP1 HP2]
  · iapply (Transfers.pointsTo_toks_join (ℓ := (SparseCore.T d).loc main_v210) (S := Finset.univ) (f := psM m d) fullShare 32)
    isplitl [HP1]; · iexact HP1
    iexact HP2
  isplitl [HL1 HL2]
  · iapply (Transfers.pointsTo_toks_join (ℓ := (SparseCore.T d).loc main_v9) (S := Finset.univ) (f := laM (F := F)) fullShare 32)
    isplitl [HL1]; · iexact HL1
    iexact HL2
  isplitl [HX1 HX2]
  · iapply (Transfers.pointsTo_toks_join (ℓ := (SparseCore.T d).loc main_v211) (S := Finset.univ) (f := xM m d) fullShare 32)
    isplitl [HX1]; · iexact HX1
    iexact HX2
  isplitl [HC1 HC2]
  · iapply (Transfers.pointsTo_toks_join (ℓ := (SparseCore.T d).loc main_v4) (S := Finset.univ) (f := cfM m d) fullShare 32)
    isplitl [HC1]; · iexact HC1
    iexact HC2
  iapply (Entails.of_eq (out_parts d (yM m d)).symm)
  iexact HO

/-! ## The host lines around the call -/

abbrev V0 (d : Dev nD) : Valuation τ sig (Elt F) := fun b => m ((d, b) : Loc nD τ sig)
abbrev V1 (d : Dev nD) : Valuation τ sig (Elt F) := after opsAll (V0 m d)
def V2 (d : Dev nD) : Valuation τ sig (Elt F) := Function.update (V1 m d) (Proc.devRef .tc main_v212) (yM m d)
abbrev V3 (d : Dev nD) : Valuation τ sig (Elt F) := after opsT (V2 m d)

theorem unscopedBufs_held (d : Dev nD) (W : Valuation τ sig (Elt F)) :
    (unscopedBufs d (fun b => W (Proc.devRef .tc b)) : sProp 𝕄) = held (d.tc : Thread nD τ) (tcRefs τ sig) W := by
  have h : (Finset.univ.filter fun b : Ref sig .tc => ¬ b.isScoped) = Finset.univ := by decide
  unfold unscopedBufs held tcRefs
  rw [h, BI.bigSep_map]
  rfl

abbrev five : List (DevRef τ sig) := [Proc.devRef .tc main_v210, Proc.devRef .tc main_v9, Proc.devRef .tc main_v211, Proc.devRef .tc main_v4, Proc.devRef .tc main_v212]
abbrev three : List (DevRef τ sig) := [Proc.devRef .tc main_arg0, Proc.devRef .tc main_arg1, Proc.devRef .tc main_v214]
abbrev fiveS : Finset (DevRef τ sig) := {Proc.devRef .tc main_v210, Proc.devRef .tc main_v9, Proc.devRef .tc main_v211, Proc.devRef .tc main_v4, Proc.devRef .tc main_v212}
abbrev threeS : Finset (DevRef τ sig) := {Proc.devRef .tc main_arg0, Proc.devRef .tc main_arg1, Proc.devRef .tc main_v214}

theorem fiveS_sub : fiveS ⊆ tcRefs τ sig := by
  intro b hb
  simp only [fiveS, Finset.mem_insert, Finset.mem_singleton] at hb
  rcases hb with rfl | rfl | rfl | rfl | rfl <;> exact devRef_mem_tcRefs _
theorem threeS_sub : threeS ⊆ tcRefs τ sig := by
  intro b hb
  simp only [threeS, Finset.mem_insert, Finset.mem_singleton] at hb
  rcases hb with rfl | rfl | rfl <;> exact devRef_mem_tcRefs _

theorem held_five (d : Dev nD) (W : Valuation τ sig (Elt F)) : (held (d.tc : Thread nD τ) fiveS W : sProp 𝕄)
    = iprop(((SparseCore.T d).loc main_v210 ↦{fullShare} W (Proc.devRef .tc main_v210)) ∗ ((SparseCore.T d).loc main_v9 ↦{fullShare} W (Proc.devRef .tc main_v9))
      ∗ ((SparseCore.T d).loc main_v211 ↦{fullShare} W (Proc.devRef .tc main_v211)) ∗ ((SparseCore.T d).loc main_v4 ↦{fullShare} W (Proc.devRef .tc main_v4))
      ∗ ((SparseCore.T d).loc main_v212 ↦{fullShare} W (Proc.devRef .tc main_v212))) := by
  unfold held
  rw [bigSep_eq_bigSepL_of_eq five (by decide) (by decide)]
  rfl

theorem held_three (d : Dev nD) (W : Valuation τ sig (Elt F)) : (held (d.tc : Thread nD τ) threeS W : sProp 𝕄)
    = iprop(((SparseCore.T d).loc main_arg0 ↦{fullShare} W (Proc.devRef .tc main_arg0)) ∗ ((SparseCore.T d).loc main_arg1 ↦{fullShare} W (Proc.devRef .tc main_arg1))
      ∗ ((SparseCore.T d).loc main_v214 ↦{fullShare} W (Proc.devRef .tc main_v214))) := by
  unfold held
  rw [bigSep_eq_bigSepL_of_eq three (by decide) (by decide)]
  rfl

theorem opsT_sub : (opsT : List (HloOp τ sig (Elt F))).Forall fun op => op.bufs ⊆ tcRefs τ sig := ⟨reshape_bufs_sub .., unary_bufs_sub ..⟩
theorem opsT_fresh : (opsT : List (HloOp τ sig (Elt F))).Forall fun op => op.fresh = ∅ := ⟨rfl, rfl⟩

theorem V1_v210 (d : Dev nD) : V1 m d (Proc.devRef .tc main_v210) = psM m d := all_v210 _
theorem V1_v9 (d : Dev nD) : V1 m d (Proc.devRef .tc main_v9) = laM := all_v9 _
theorem V1_v211 (d : Dev nD) : V1 m d (Proc.devRef .tc main_v211) = xM m d := all_v211 _
theorem V1_v4 (d : Dev nD) : V1 m d (Proc.devRef .tc main_v4) = cfM m d := all_v4 _

theorem held_in (d : Dev nD) : (held (d.tc : Thread nD τ) (tcRefs τ sig) (V1 m d) : sProp 𝕄)
    = iprop(Five m d (V1 m d (Proc.devRef .tc main_v212)) ∗ held (d.tc : Thread nD τ) (tcRefs τ sig \ fiveS) (V1 m d)) := by
  rw [held_sub_split _ fiveS_sub, held_five, V1_v210, V1_v9, V1_v211, V1_v4]
  rfl

theorem V2_other (d : Dev nD) {b : Ref sig .tc} (h : b ≠ main_v212) : V2 m d (Proc.devRef .tc b) = V1 m d (Proc.devRef .tc b) :=
  Function.update_of_ne (devRef_ne_of_ne h) _ _
theorem V2_same (d : Dev nD) : V2 m d (Proc.devRef .tc main_v212) = yM m d := Function.update_self _ _ _

theorem held_out (d : Dev nD) : (held (d.tc : Thread nD τ) (tcRefs τ sig) (V2 m d) : sProp 𝕄)
    = iprop(Five m d (yM m d) ∗ held (d.tc : Thread nD τ) (tcRefs τ sig \ fiveS) (V1 m d)) := by
  rw [held_sub_split _ fiveS_sub, held_five, V2_same, V2_other m d (b := main_v210) (by decide), V2_other m d (b := main_v9) (by decide), V2_other m d (b := main_v211) (by decide),
    V2_other m d (b := main_v4) (by decide), V1_v210, V1_v9, V1_v211, V1_v4,
    held_congr (S := tcRefs τ sig \ fiveS) (V := V2 m d) (V' := V1 m d) _ fun b hb => Function.update_of_ne (fun e => (Finset.mem_sdiff.mp hb).2 (by rw [e]; simp [fiveS])) _ _]
  rfl

/-- The program's result. -/
abbrev resM (d : Dev nD) : FVec F S4x96x96x96x2 .f32 := outV (yM m d)

/-- The buffers at the end. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_v214 ↦{fullShare} resM m d))

theorem held_end (d : Dev nD) : (held (d.tc : Thread nD τ) (tcRefs τ sig) (V3 m d) : sProp 𝕄) = iprop(FIN m d ∗ held (d.tc : Thread nD τ) (tcRefs τ sig \ threeS) (V3 m d)) := by
  have h0 : V3 m d (Proc.devRef .tc main_arg0) = m ((SparseCore.T d).loc main_arg0) :=
    (opsT_keep _ main_arg0 (by decide)).trans ((V2_other m d (b := main_arg0) (by decide)).trans (all_arg0 _))
  have h1 : V3 m d (Proc.devRef .tc main_arg1) = m ((SparseCore.T d).loc main_arg1) :=
    (opsT_keep _ main_arg1 (by decide)).trans ((V2_other m d (b := main_arg1) (by decide)).trans (all_arg1 _))
  have h2 : V3 m d (Proc.devRef .tc main_v214) = resM m d := (tail_v214 _).trans (congrArg outV (V2_same m d))
  rw [held_sub_split _ threeS_sub, held_three, h0, h1, h2]

theorem dn_eq (d : Dev nD) : (bigSep Finset.univ fun c : Fin ((K (F := F)).nCore 0) => (P m).dn 0 d c) = bigSep Finset.univ (tOut m d) := cores_eq _
theorem st_eq (d : Dev nD) : (bigSep Finset.univ fun c : Fin ((K (F := F)).nCore 0) => (P m).st 0 d c) = bigSep Finset.univ (tIn m d) := cores_eq _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, HB, Hts, -⟩, -⟩
  ihave HB' := (Entails.of_eq (unscopedBufs_held d (V0 m d))) $$ HB
  iapply (wp_seq (defs := (K (F := F)).defs (D (F := F))) 𝒱 none Set.univ d (tcRefs τ sig) _ opsAll (List.forall_iff_forall_mem.mp opsAll_sub) (List.forall_iff_forall_mem.mp opsAll_fresh) (V0 m d)) $$ [Hb HB']
  · isplitl [Hb]; · iexact Hb
    iexact HB'
  iintro ⟨Hb, HB⟩
  ihave HB' := (Entails.of_eq (held_in m d)) $$ HB
  icases HB' with ⟨HF, HR⟩
  ihave HF' := (deal m d _) $$ HF
  icases HF' with ⟨HLeft, HT⟩
  unfold tailK
  simp only [wp_bind]
  iapply ((K (F := F)).wp_run (D (F := F)) 𝒱 (EH := EH) (P := P m) κ d 0) $$ [Hst HT Hb HR HLeft Hts]
  isplitr; · iexact Hctx
  isplitl [Hst]; · iexact Hst
  isplitl [HT]
  · iapply (Entails.of_eq (st_eq m d).symm)
    iexact HT
  iintro ⟨Hst, Hdn⟩
  ihave Hdn' := (Entails.of_eq (dn_eq m d)) $$ Hdn
  ihave HF := (gather m d) $$ [HLeft Hdn']
  · isplitl [HLeft]; · iexact HLeft
    iexact Hdn'
  ihave HB := (Entails.of_eq (held_out m d).symm) $$ [HF HR]
  · isplitl [HF]; · iexact HF
    iexact HR
  rw [← bind_pure (seq opsT)]
  iapply (wp_seq (defs := (K (F := F)).defs (D (F := F))) 𝒱 none Set.univ d (tcRefs τ sig) _ opsT (List.forall_iff_forall_mem.mp opsT_sub) (List.forall_iff_forall_mem.mp opsT_fresh) (V2 m d)) $$ [Hb HB]
  · isplitl [Hb]; · iexact Hb
    iexact HB
  iintro ⟨Hb, HB⟩
  ihave HB' := (Entails.of_eq (held_end m d)) $$ HB
  icases HB' with ⟨HFin, -⟩
  iapply (Entails.of_eq (wp_ret _ _ _ _ _).symm)
  imodintro
  isplitl [Hst]; · iexact Hst
  isplitl [HFin]; · iexact HFin
  isplitl [Hb]; · iexact Hb
  iexact Hts

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v214) = resM m d

theorem hfin (d : Dev nD) (s' : Phys nD τ sig (Elt F)) : iprop(FIN m d ∗ SI s') ⊢ (⌜fq m d s'⌝ : sProp 𝕄) := by
  iintro ⟨⟨H0, H1, H2⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v214) (I := Finset.univ) (q := fullShare) (f := resM m d)) $$ [HSI H2]
  · isplitl [HSI] <;> iassumption
  icases H with %h2
  ipureintro; exact ⟨funext fun i => h0 i (Finset.mem_univ i), funext fun i => h1 i (Finset.mem_univ i), funext fun i => h2 i (Finset.mem_univ i)⟩

theorem run_main [∀ e, Nonempty (Elt F e)] (hH : ∀ d : Dev nD, Hyp (cfM m d) laM (zbN (θM m d)) (ybN (θM m d))) :
    θ_run (Cert.KernelIdeal.defs (F := F)) (Cert.KernelIdeal.threads (F := F)) ⟨m, fun _ => 0, ρ⟩ fun r =>
      (∀ d : Dev nD, r.2.mem (d.tc.loc main_arg0) = m (d.tc.loc main_arg0) ∧ r.2.mem (d.tc.loc main_arg1) = m (d.tc.loc main_arg1) ∧ r.2.mem (d.tc.loc main_v214) = resM m d)
        ∧ r.2.sem = fun _ => 0 :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hH)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.KernelIdeal.Stn
-- ==== Proof.Check.lean ====
/-
  The check that every corner an item reads lies in its band, point by point, and what the proof takes from it.
-/
module

public import proofs.«01_k».proof.Proof.Words
public import proofs.«01_k».proof.Proof.Gen.Pre_in_band
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## Reading the broadcasts and the reshapes of the check -/

abbrev B4 : Shape := ⟨4, ![4, 96, 96, 96]⟩
abbrev B4a : Shape := ⟨4, ![4, 96, 1, 96]⟩
abbrev B4b : Shape := ⟨4, ![4, 1, 96, 1]⟩
abbrev B4c : Shape := ⟨4, ![4, 1, 1, 96]⟩
abbrev B4d : Shape := ⟨4, ![4, 96, 1, 1]⟩
abbrev B4e : Shape := ⟨4, ![4, 1, 1, 1]⟩
abbrev B4f : Shape := ⟨4, ![4, 96, 96, 1]⟩
abbrev B2 : Shape := ⟨2, ![4, 96]⟩
abbrev B21 : Shape := ⟨2, ![1, 96]⟩
abbrev B22 : Shape := ⟨2, ![4, 1]⟩
abbrev B1 : Shape := ⟨1, ![4]⟩

section Reads

variable {α : Type}

theorem bc_a (h : B4a.BroadcastsInDim B4 ![0, 1, 2, 3]) (x : B4a.Idx → α) (b : Fin 4) (a k j : Fin 96) :
    broadcastInDim B4 ![0, 1, 2, 3] h x (ix4 b a k j) = x (ix4 b a (0 : Fin 1) j) := by
  unfold broadcastInDim; congr 1; funext t; apply Fin.ext; fin_cases t <;> rfl
theorem bc_b (h : B4b.BroadcastsInDim B4 ![0, 1, 2, 3]) (x : B4b.Idx → α) (b : Fin 4) (a k j : Fin 96) :
    broadcastInDim B4 ![0, 1, 2, 3] h x (ix4 b a k j) = x (ix4 b (0 : Fin 1) k (0 : Fin 1)) := by
  unfold broadcastInDim; congr 1; funext t; apply Fin.ext; fin_cases t <;> rfl
theorem bc_c (h : B4c.BroadcastsInDim B4a ![0, 1, 2, 3]) (x : B4c.Idx → α) (b : Fin 4) (a : Fin 96) (j : Fin 96) :
    broadcastInDim B4a ![0, 1, 2, 3] h x (ix4 b a (0 : Fin 1) j) = x (ix4 b (0 : Fin 1) (0 : Fin 1) j) := by
  unfold broadcastInDim; congr 1; funext t; apply Fin.ext; fin_cases t <;> rfl
theorem bc_d (h : B4d.BroadcastsInDim B4a ![0, 1, 2, 3]) (x : B4d.Idx → α) (b : Fin 4) (a : Fin 96) (j : Fin 96) :
    broadcastInDim B4a ![0, 1, 2, 3] h x (ix4 b a (0 : Fin 1) j) = x (ix4 b a (0 : Fin 1) (0 : Fin 1)) := by
  unfold broadcastInDim; congr 1; funext t; apply Fin.ext; fin_cases t <;> rfl
theorem bc_e (h : B4e.BroadcastsInDim B4 ![0, 1, 2, 3]) (x : B4e.Idx → α) (b : Fin 4) (a k j : Fin 96) :
    broadcastInDim B4 ![0, 1, 2, 3] h x (ix4 b a k j) = x (ix4 b (0 : Fin 1) (0 : Fin 1) (0 : Fin 1)) := by
  unfold broadcastInDim; congr 1; funext t; apply Fin.ext; fin_cases t <;> rfl
theorem bc_f (h : B4f.BroadcastsInDim B4 ![0, 1, 2, 3]) (x : B4f.Idx → α) (b : Fin 4) (a k j : Fin 96) :
    broadcastInDim B4 ![0, 1, 2, 3] h x (ix4 b a k j) = x (ix4 b a k (0 : Fin 1)) := by
  unfold broadcastInDim; congr 1; funext t; apply Fin.ext; fin_cases t <;> rfl
theorem bc_2c (h : B2.BroadcastsInDim B4c ![0, 3]) (x : B2.Idx → α) (b : Fin 4) (j : Fin 96) :
    broadcastInDim B4c ![0, 3] h x (ix4 b (0 : Fin 1) (0 : Fin 1) j) = x (ix2 b j) := by
  unfold broadcastInDim; congr 1; funext t; apply Fin.ext; fin_cases t <;> rfl
theorem bc_2d (h : B2.BroadcastsInDim B4d ![0, 1]) (x : B2.Idx → α) (b : Fin 4) (j : Fin 96) :
    broadcastInDim B4d ![0, 1] h x (ix4 b j (0 : Fin 1) (0 : Fin 1)) = x (ix2 b j) := by
  unfold broadcastInDim; congr 1; funext t; apply Fin.ext; fin_cases t <;> rfl
theorem bc_2b (h : B2.BroadcastsInDim B4b ![0, 2]) (x : B2.Idx → α) (b : Fin 4) (j : Fin 96) :
    broadcastInDim B4b ![0, 2] h x (ix4 b (0 : Fin 1) j (0 : Fin 1)) = x (ix2 b j) := by
  unfold broadcastInDim; congr 1; funext t; apply Fin.ext; fin_cases t <;> rfl
theorem bc_1e (h : B1.BroadcastsInDim B4e ![0]) (x : B1.Idx → α) (b : Fin 4) :
    broadcastInDim B4e ![0] h x (ix4 b (0 : Fin 1) (0 : Fin 1) (0 : Fin 1)) = x (ix1 b) := by
  unfold broadcastInDim; congr 1; funext t; apply Fin.ext; fin_cases t; rfl
theorem bc_21 (h : B21.BroadcastsInDim B2 ![0, 1]) (x : B21.Idx → α) (b : Fin 4) (j : Fin 96) :
    broadcastInDim B2 ![0, 1] h x (ix2 b j) = x (ix2 (0 : Fin 1) j) := by
  unfold broadcastInDim; congr 1; funext t; apply Fin.ext; fin_cases t <;> rfl
theorem bc_22 (h : B22.BroadcastsInDim B2 ![0, 1]) (x : B22.Idx → α) (b : Fin 4) (j : Fin 96) :
    broadcastInDim B2 ![0, 1] h x (ix2 b j) = x (ix2 b (0 : Fin 1)) := by
  unfold broadcastInDim; congr 1; funext t; apply Fin.ext; fin_cases t <;> rfl
theorem bc_121 (h : S96.BroadcastsInDim B21 ![1]) (x : S96.Idx → α) (j : Fin 96) :
    broadcastInDim B21 ![1] h x (ix2 (0 : Fin 1) j) = x (ix1 j) := by
  unfold broadcastInDim; congr 1; funext t; apply Fin.ext; fin_cases t; rfl
theorem sl_cf (n : Fin 16) (h : S4x16.Slices ![0, n.val] B22) (x : S4x16.Idx → α) (b : Fin 4) :
    extractStridedSlice B22 ![0, n.val] x h (ix2 b (0 : Fin 1)) = x (ix2 b n) := by
  unfold extractStridedSlice; congr 1; funext t; apply Fin.ext; fin_cases t
  · show 0 + b.val = b.val; omega
  · rfl
theorem rs_1 (h : B22.ShapeCasts B1) (x : B22.Idx → α) (b : Fin 4) : shapeCast B1 x h (ix1 b) = x (ix2 b (0 : Fin 1)) := by
  show x (Shape.reshapeEquiv h (ix1 b)) = _
  rw [Shape.reshapeEquiv_eq_of_vals (s := B22) (s' := B1) h (ix1 b) (ix2 b (0 : Fin 1)) (b.val * 1 + 0) b.val (Shape.rowMajor_val_two _) (Shape.rowMajor_val_one _) (by omega)]
theorem sl_lat (h : S112.Slices ![0] S96) (x : S112.Idx → α) (j : Fin 96) :
    extractStridedSlice S96 ![0] x h (ix1 j) = x (ix1 (⟨j.val, by omega⟩ : Fin 112)) := by
  unfold extractStridedSlice; congr 1; funext t; apply Fin.ext; fin_cases t
  show 0 + j.val = j.val; omega

end Reads

/-! ## The coordinate, as the check computes it -/

/-- The products of one coefficient of each image and the lattice, and of the lattice and one coefficient. -/
def latTimes (l : FVec F S96 .f32) (cf : FVec F S4x16 .f32) (n : Nat) (h : S4x16.Slices ![0, n] B22) : FVec F B2 .f32 :=
  mulf (broadcastInDim B2 ![0, 1] Cert.Pre_in_band.Gen.bcast_S1x96_S4x96_0_1 (broadcastInDim B21 ![1] Cert.Pre_in_band.Gen.bcast_S96_S1x96_1 l))
    (broadcastInDim B2 ![0, 1] Cert.Pre_in_band.Gen.bcast_S4x1_S4x96_0_1 (extractStridedSlice B22 ![0, n] cf h))
def timesLat (l : FVec F S96 .f32) (cf : FVec F S4x16 .f32) (n : Nat) (h : S4x16.Slices ![0, n] B22) : FVec F B2 .f32 :=
  mulf (broadcastInDim B2 ![0, 1] Cert.Pre_in_band.Gen.bcast_S4x1_S4x96_0_1 (extractStridedSlice B22 ![0, n] cf h))
    (broadcastInDim B2 ![0, 1] Cert.Pre_in_band.Gen.bcast_S1x96_S4x96_0_1 (broadcastInDim B21 ![1] Cert.Pre_in_band.Gen.bcast_S96_S1x96_1 l))

theorem latTimes_at (l : FVec F S96 .f32) (cf : FVec F S4x16 .f32) (n : Fin 16) (h : S4x16.Slices ![0, n.val] B22) (b : Fin 4) (j : Fin 96) :
    latTimes l cf n.val h (ix2 b j) = FloatOps.mulf (l (ix1 j)) (cf (ix2 b n)) := by
  unfold latTimes
  rw [show ∀ x y : FVec F B2 .f32, mulf x y (ix2 b j) = FloatOps.mulf (x (ix2 b j)) (y (ix2 b j)) from fun _ _ => rfl]
  rw [bc_21, bc_121, bc_22, sl_cf]
theorem timesLat_at (l : FVec F S96 .f32) (cf : FVec F S4x16 .f32) (n : Fin 16) (h : S4x16.Slices ![0, n.val] B22) (b : Fin 4) (j : Fin 96) :
    timesLat l cf n.val h (ix2 b j) = FloatOps.mulf (cf (ix2 b n)) (l (ix1 j)) := by
  unfold timesLat
  rw [show ∀ x y : FVec F B2 .f32, mulf x y (ix2 b j) = FloatOps.mulf (x (ix2 b j)) (y (ix2 b j)) from fun _ _ => rfl]
  rw [bc_21, bc_121, bc_22, sl_cf]

abbrev bcB4 (w : BitVec 32) : FVec F B4 .f32 := broadcastInDim B4 ![] Cert.Pre_in_band.Gen.bcast_S_S4x96x96x96 (constant (F := F) S_ .f32 w)

/-- The pixel coordinate along one axis at every point. -/
def coordT (l : FVec F S96 .f32) (cf : FVec F S4x16 .f32) (n0 n1 n2 n3 : Nat) (h0 : S4x16.Slices ![0, n0] B22) (h1 : S4x16.Slices ![0, n1] B22) (h2 : S4x16.Slices ![0, n2] B22)
    (h3 : S4x16.Slices ![0, n3] B22) : FVec F B4 .f32 :=
  mulf (mulf (addf (addf (addf
    (broadcastInDim B4 ![0, 1, 2, 3] Cert.Pre_in_band.Gen.bcast_S4x96x1x96_S4x96x96x96_0_1_2_3 (addf
      (broadcastInDim B4a ![0, 1, 2, 3] Cert.Pre_in_band.Gen.bcast_S4x1x1x96_S4x96x1x96_0_1_2_3 (broadcastInDim B4c ![0, 3] Cert.Pre_in_band.Gen.bcast_S4x96_S4x1x1x96_0_3 (latTimes l cf n0 h0)))
      (broadcastInDim B4a ![0, 1, 2, 3] Cert.Pre_in_band.Gen.bcast_S4x96x1x1_S4x96x1x96_0_1_2_3 (broadcastInDim B4d ![0, 1] Cert.Pre_in_band.Gen.bcast_S4x96_S4x96x1x1_0_1 (timesLat l cf n1 h1)))))
    (broadcastInDim B4 ![0, 1, 2, 3] Cert.Pre_in_band.Gen.bcast_S4x1x96x1_S4x96x96x96_0_1_2_3 (broadcastInDim B4b ![0, 2] Cert.Pre_in_band.Gen.bcast_S4x96_S4x1x96x1_0_2 (timesLat l cf n2 h2))))
    (broadcastInDim B4 ![0, 1, 2, 3] Cert.Pre_in_band.Gen.bcast_S4x1x1x1_S4x96x96x96_0_1_2_3 (broadcastInDim B4e ![0] Cert.Pre_in_band.Gen.bcast_S4_S4x1x1x1_0
      (shapeCast B1 (extractStridedSlice B22 ![0, n3] cf h3) Cert.Pre_in_band.Gen.shapeCasts_S4x1_S4))))
    (bcB4 0x3F800000#32)) (bcB4 0x3F000000#32)) (bcB4 0x42C00000#32)

theorem coordT_at (hs : ∀ x y : F .f32, Scalar.mulf x y = FloatOps.mulf x y) (lat : FVec F S112 .f32) (cf : FVec F S4x16 .f32) (n0 n1 n2 n3 : Fin 16) (h0 : S4x16.Slices ![0, n0.val] B22) (h1 : S4x16.Slices ![0, n1.val] B22)
    (h2 : S4x16.Slices ![0, n2.val] B22) (h3 : S4x16.Slices ![0, n3.val] B22) (hl : S112.Slices ![0] S96) (b : Fin 4) (a k j : Fin 96) :
    coordT (extractStridedSlice S96 ![0] lat hl) cf n0.val n1.val n2.val n3.val h0 h1 h2 h3 (ix4 b a k j)
      = pix1 (sum1 (mul1 (lat1 lat j) (cf (ix2 b n0))) (Scalar.mulf (cf (ix2 b n1)) (lat1 lat a)) (Scalar.mulf (cf (ix2 b n2)) (lat1 lat k)) (cf (ix2 b n3))) := by
  unfold coordT
  have eA : ∀ (x y : FVec F B4 .f32) i, addf x y i = FloatOps.addf (x i) (y i) := fun _ _ _ => rfl
  have eM : ∀ (x y : FVec F B4 .f32) i, mulf x y i = FloatOps.mulf (x i) (y i) := fun _ _ _ => rfl
  have eC : ∀ (w : BitVec 32) i, bcB4 (F := F) w i = FloatOps.ofBits .f32 w := fun _ _ => rfl
  simp only [eA, eM, eC]
  rw [bc_a, bc_b, bc_e, bc_2b, bc_1e, rs_1, sl_cf, timesLat_at, sl_lat]
  rw [show ∀ x y : FVec F B4a .f32, addf x y (ix4 b a (0 : Fin 1) j) = FloatOps.addf (x (ix4 b a (0 : Fin 1) j)) (y (ix4 b a (0 : Fin 1) j)) from fun _ _ => rfl, bc_c, bc_d, bc_2c, bc_2d,
    latTimes_at, timesLat_at, sl_lat, sl_lat, hs, hs]
  rfl

/-! ## An item's word at every point of the item -/

abbrev C3 : Shape := ⟨3, ![4, 12, 6]⟩
abbrev C4 : Shape := ⟨4, ![4, 12, 8, 6]⟩
abbrev C3a : Shape := ⟨3, ![4, 96, 6]⟩
abbrev C4a : Shape := ⟨4, ![4, 96, 6, 16]⟩
abbrev C3b : Shape := ⟨3, ![4, 96, 96]⟩
abbrev C2 : Shape := ⟨2, ![32, 9]⟩
abbrev C31 : Shape := ⟨3, ![32, 9, 1]⟩

/-- Item of a point. -/
abbrev gOf (b : Fin 4) (a k : Fin 96) : Nat := b.val * 72 + a.val / 8 * 6 + k.val / 16

def spread (v : IVec C2 32) : IVec B4f 32 :=
  broadcastInDim B4f ![0, 1, 2] Cert.Pre_in_band.Gen.bcast_S4x96x96_S4x96x96x1_0_1_2
    (shapeCast C3b (broadcastInDim C4a ![0, 1, 2] Cert.Pre_in_band.Gen.bcast_S4x96x6_S4x96x6x16_0_1_2
      (shapeCast C3a (broadcastInDim C4 ![0, 1, 3] Cert.Pre_in_band.Gen.bcast_S4x12x6_S4x12x8x6_0_1_3
        (shapeCast C3 v Cert.Pre_in_band.Gen.shapeCasts_S32x9_S4x12x6)) Cert.Pre_in_band.Gen.shapeCasts_S4x12x8x6_S4x96x6)) Cert.Pre_in_band.Gen.shapeCasts_S4x96x6x16_S4x96x96)

theorem spread_at (v : IVec C2 32) (b : Fin 4) (a k : Fin 96) (w : Fin 32) (t : Fin 9) (hw : 9 * w.val + t.val = gOf b a k) :
    spread v (ix4 b a k (0 : Fin 1)) = v (ix2 w t) := by
  have ha := a.isLt; have hk := k.isLt
  have s1 : ∀ x : IVec C3b 32, broadcastInDim B4f ![0, 1, 2] Cert.Pre_in_band.Gen.bcast_S4x96x96_S4x96x96x1_0_1_2 x (ix4 b a k (0 : Fin 1)) = x (ix3 b a k) := by
    intro x; unfold broadcastInDim; congr 1; funext t; apply Fin.ext; fin_cases t <;> rfl
  have s2 : ∀ x : IVec C4a 32, shapeCast C3b x Cert.Pre_in_band.Gen.shapeCasts_S4x96x6x16_S4x96x96 (ix3 b a k) = x (ix4 b a (⟨k.val / 16, by omega⟩ : Fin 6) (⟨k.val % 16, by omega⟩ : Fin 16)) := by
    intro x
    refine congrArg x (Shape.reshapeEquiv_eq_of_vals (s := C4a) (s' := C3b) _ _ _ (((b.val * 96 + a.val) * 6 + k.val / 16) * 16 + k.val % 16) ((b.val * 96 + a.val) * 96 + k.val) (Shape.rowMajor_val_four _) (Shape.rowMajor_val_three _) (by omega))
  have s3 : ∀ (x : IVec C3a 32) (q : Fin 6) (r : Fin 16), broadcastInDim C4a ![0, 1, 2] Cert.Pre_in_band.Gen.bcast_S4x96x6_S4x96x6x16_0_1_2 x (ix4 b a q r) = x (ix3 b a q) := by
    intro x q r; unfold broadcastInDim; congr 1; funext t; apply Fin.ext; fin_cases t <;> rfl
  have s4 : ∀ (x : IVec C4 32) (q : Fin 6), shapeCast C3a x Cert.Pre_in_band.Gen.shapeCasts_S4x12x8x6_S4x96x6 (ix3 b a q) = x (ix4 b (⟨a.val / 8, by omega⟩ : Fin 12) (⟨a.val % 8, by omega⟩ : Fin 8) q) := by
    intro x q
    refine congrArg x (Shape.reshapeEquiv_eq_of_vals (s := C4) (s' := C3a) _ _ _ (((b.val * 12 + a.val / 8) * 8 + a.val % 8) * 6 + q.val) ((b.val * 96 + a.val) * 6 + q.val) (Shape.rowMajor_val_four _) (Shape.rowMajor_val_three _) (by omega))
  have s5 : ∀ (x : IVec C3 32) (p : Fin 12) (r : Fin 8) (q : Fin 6), broadcastInDim C4 ![0, 1, 3] Cert.Pre_in_band.Gen.bcast_S4x12x6_S4x12x8x6_0_1_3 x (ix4 b p r q) = x (ix3 b p q) := by
    intro x p r q; unfold broadcastInDim; congr 1; funext t; apply Fin.ext; fin_cases t <;> rfl
  have s6 : ∀ (p : Fin 12) (q : Fin 6), 9 * w.val + t.val = b.val * 72 + p.val * 6 + q.val → shapeCast C3 v Cert.Pre_in_band.Gen.shapeCasts_S32x9_S4x12x6 (ix3 b p q) = v (ix2 w t) := by
    intro p q e
    refine congrArg v (Shape.reshapeEquiv_eq_of_vals (s := C2) (s' := C3) _ _ _ (w.val * 9 + t.val) ((b.val * 12 + p.val) * 6 + q.val) (Shape.rowMajor_val_two _) (Shape.rowMajor_val_three _) (by omega))
  unfold spread
  rw [s1, s2, s3, s4, s5, s6 _ _ hw]

/-- A column of the table of words. -/
def colW (ps : IVec S32x9x16 32) (n : Nat) (h : S32x9x16.Slices ![0, 0, n] C31) : IVec C2 32 :=
  shapeCast C2 (extractStridedSlice C31 ![0, 0, n] ps h) Cert.Pre_in_band.Gen.shapeCasts_S32x9x1_S32x9

theorem colW_at (ps : IVec S32x9x16 32) (n : Fin 16) (h : S32x9x16.Slices ![0, 0, n.val] C31) (w : Fin 32) (t : Fin 9) : colW ps n.val h (ix2 w t) = ps (ix3 w t n) := by
  have s1 : ∀ x : IVec C31 32, shapeCast C2 x Cert.Pre_in_band.Gen.shapeCasts_S32x9x1_S32x9 (ix2 w t) = x (ix3 w t (0 : Fin 1)) := by
    intro x
    refine congrArg x (Shape.reshapeEquiv_eq_of_vals (s := C31) (s' := C2) _ _ _ ((w.val * 9 + t.val) * 1 + 0) (w.val * 9 + t.val) (Shape.rowMajor_val_three _) (Shape.rowMajor_val_two _) (by omega))
  unfold colW
  rw [s1]
  unfold extractStridedSlice; congr 1; funext t'; apply Fin.ext; fin_cases t'
  · show 0 + w.val = w.val; omega
  · show 0 + t.val = t.val; omega
  · rfl

/-! ## The check -/

abbrev bcI4 (w : BitVec 32) : IVec B4 32 := broadcastInDim B4 ![] Cert.Pre_in_band.Gen.bcast_S_S4x96x96x96 (constantI S_ 32 w)
abbrev bcIf (w : BitVec 32) : IVec B4f 32 := broadcastInDim B4f ![] Cert.Pre_in_band.Gen.bcast_S_S4x96x96x1 (constantI S_ 32 w)
abbrev upI {n : Nat} (x : IVec B4f n) : IVec B4 n := broadcastInDim B4 ![0, 1, 2, 3] Cert.Pre_in_band.Gen.bcast_S4x96x96x1_S4x96x96x96_0_1_2_3 x

def floT (p : FVec F B4 .f32) : IVec B4 32 := subi (fptosi 32 p) (extui 32 (cmpf .ogt (sitofp .f32 (fptosi 32 p)) p) natLt_1_32)
def clipT (v : IVec B4 32) : IVec B4 32 := minsi (maxsi v (bcI4 0#32)) (bcI4 95#32)
def loT (p : FVec F B4 .f32) : IVec B4 32 := clipT (floT p)
def hiT (p : FVec F B4 .f32) : IVec B4 32 := clipT (addi (floT p) (bcI4 1#32))

theorem loT_at (p : FVec F B4 .f32) (i : B4.Idx) : loT p i = lo1 (p i) := rfl
theorem hiT_at (p : FVec F B4 .f32) (i : B4.Idx) : hiT p i = hi1 (p i) := rfl

/-- One axis of the check: the least line, and the two lines of every point against it. -/
def insideT (lo : IVec B4f 32) (c0 c1 : IVec B4 32) (m w : BitVec 32) : IVec B4 1 :=
  andi (andi (andi (andi (upI (andi (cmpi .sge lo (bcIf 0#32)) (cmpi .sle lo (bcIf m)))) (cmpi .sge c0 (upI lo))) (cmpi .slt c0 (upI (addi lo (bcIf w))))) (cmpi .sge c1 (upI lo)))
    (cmpi .slt c1 (upI (addi lo (bcIf w))))

/-- One axis of the check at a point. -/
def inside1 (lo c0 c1 m w : BitVec 32) : BitVec 1 :=
  IntOp.andi (IntOp.andi (IntOp.andi (IntOp.andi (IntOp.andi (IntOp.cmpi .sge lo 0#32) (IntOp.cmpi .sle lo m)) (IntOp.cmpi .sge c0 lo)) (IntOp.cmpi .slt c0 (lo + w))) (IntOp.cmpi .sge c1 lo))
    (IntOp.cmpi .slt c1 (lo + w))

theorem insideT_at (lo : IVec B4f 32) (c0 c1 : IVec B4 32) (m w : BitVec 32) (b : Fin 4) (a k j : Fin 96) :
    insideT lo c0 c1 m w (ix4 b a k j) = inside1 (lo (ix4 b a k (0 : Fin 1))) (c0 (ix4 b a k j)) (c1 (ix4 b a k j)) m w := by
  show IntOp.andi (IntOp.andi (IntOp.andi (IntOp.andi (upI _ (ix4 b a k j)) (IntOp.cmpi .sge (c0 (ix4 b a k j)) (upI lo (ix4 b a k j)))) (IntOp.cmpi .slt (c0 (ix4 b a k j)) (upI (addi lo (bcIf w)) (ix4 b a k j))))
    (IntOp.cmpi .sge (c1 (ix4 b a k j)) (upI lo (ix4 b a k j)))) (IntOp.cmpi .slt (c1 (ix4 b a k j)) (upI (addi lo (bcIf w)) (ix4 b a k j))) = _
  simp only [bc_f]
  rfl

theorem inside1_iff {lo c0 c1 m w : BitVec 32} (hm : m.toNat ≤ 96) (hw : w.toNat ≤ 96) (h0 : c0.toNat < 96) (h1 : c1.toNat < 96) (e : inside1 lo c0 c1 m w = 1#1) :
    lo.toNat ≤ m.toNat ∧ lo.toNat ≤ c0.toNat ∧ c0.toNat < lo.toNat + w.toNat ∧ lo.toNat ≤ c1.toNat ∧ c1.toNat < lo.toNat + w.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have hl : lo.toNat < 2 ^ 32 := lo.isLt
  unfold inside1 at e
  simp only [IntOp.cmpi, andi_ofBool, ofBool_eq_one, Bool.and_eq_true, BitVec.sle_eq_decide, BitVec.slt_eq_decide,
    decide_eq_true_eq, BitVec.toInt_eq_toNat_cond, BitVec.toNat_ofNat, BitVec.toNat_add, Nat.reducePow, Nat.reduceMod] at e
  omega

/-- The whole check, of the coefficients, the lattice and the table of words. -/
def checkT (cf : FVec F S4x16 .f32) (lat : FVec F S112 .f32) (ps : IVec S32x9x16 32) : IVec B4 1 :=
  andi
    (insideT (spread (colW ps 3 Cert.Pre_in_band.Gen.slices_S32x9x16_S32x9x1_0_0_3))
      (loT (coordT (extractStridedSlice S96 ![0] lat Cert.Pre_in_band.Gen.slices_S112_S96_0) cf 8 9 10 11 Cert.Pre_in_band.Gen.slices_S4x16_S4x1_0_8 Cert.Pre_in_band.Gen.slices_S4x16_S4x1_0_9 Cert.Pre_in_band.Gen.slices_S4x16_S4x1_0_10 Cert.Pre_in_band.Gen.slices_S4x16_S4x1_0_11))
      (hiT (coordT (extractStridedSlice S96 ![0] lat Cert.Pre_in_band.Gen.slices_S112_S96_0) cf 8 9 10 11 Cert.Pre_in_band.Gen.slices_S4x16_S4x1_0_8 Cert.Pre_in_band.Gen.slices_S4x16_S4x1_0_9 Cert.Pre_in_band.Gen.slices_S4x16_S4x1_0_10 Cert.Pre_in_band.Gen.slices_S4x16_S4x1_0_11))
      68#32 28#32)
    (insideT (spread (colW ps 4 Cert.Pre_in_band.Gen.slices_S32x9x16_S32x9x1_0_0_4))
      (loT (coordT (extractStridedSlice S96 ![0] lat Cert.Pre_in_band.Gen.slices_S112_S96_0) cf 4 5 6 7 Cert.Pre_in_band.Gen.slices_S4x16_S4x1_0_4 Cert.Pre_in_band.Gen.slices_S4x16_S4x1_0_5 Cert.Pre_in_band.Gen.slices_S4x16_S4x1_0_6 Cert.Pre_in_band.Gen.slices_S4x16_S4x1_0_7))
      (hiT (coordT (extractStridedSlice S96 ![0] lat Cert.Pre_in_band.Gen.slices_S112_S96_0) cf 4 5 6 7 Cert.Pre_in_band.Gen.slices_S4x16_S4x1_0_4 Cert.Pre_in_band.Gen.slices_S4x16_S4x1_0_5 Cert.Pre_in_band.Gen.slices_S4x16_S4x1_0_6 Cert.Pre_in_band.Gen.slices_S4x16_S4x1_0_7))
      76#32 20#32)

set_option maxRecDepth 65536 in
set_option maxHeartbeats 4000000 in
theorem fn_eq (x : FVec F S4x96x96x96x2 .f32) (θ : FVec F S4x3x4 .f32) : Cert.Pre_in_band.fn (F := F) x θ = checkT (coefsV θ) latV (paramsV θ) := rfl

/-- The check at a point. -/
theorem check_at (hs : ∀ x y : F .f32, Scalar.mulf x y = FloatOps.mulf x y) (cf : FVec F S4x16 .f32) (lat : FVec F S112 .f32) (ps : IVec S32x9x16 32) (b : Fin 4) (a k j : Fin 96) (w : Fin 32) (t : Fin 9) (hw : 9 * w.val + t.val = gOf b a k) :
    checkT cf lat ps (ix4 b a k j) = IntOp.andi
      (inside1 (ps (ix3 w t 3)) (lo1 (crd cf lat b 2 a k j)) (hi1 (crd cf lat b 2 a k j)) 68#32 28#32)
      (inside1 (ps (ix3 w t 4)) (lo1 (crd cf lat b 1 a k j)) (hi1 (crd cf lat b 1 a k j)) 76#32 20#32) := by
  unfold checkT
  show IntOp.andi (insideT _ _ _ _ _ (ix4 b a k j)) (insideT _ _ _ _ _ (ix4 b a k j)) = _
  rw [insideT_at, insideT_at, loT_at, hiT_at, loT_at, hiT_at, spread_at _ b a k w t hw, spread_at _ b a k w t hw]
  rw [show ∀ h, colW ps 3 h (ix2 w t) = ps (ix3 w t 3) from fun h => colW_at ps 3 h w t, show ∀ h, colW ps 4 h (ix2 w t) = ps (ix3 w t 4) from fun h => colW_at ps 4 h w t]
  rw [show ∀ h0 h1 h2 h3 hl, coordT (extractStridedSlice S96 ![0] lat hl) cf 8 9 10 11 h0 h1 h2 h3 (ix4 b a k j) = crd cf lat b 2 a k j from fun h0 h1 h2 h3 hl => coordT_at hs lat cf 8 9 10 11 h0 h1 h2 h3 hl b a k j,
    show ∀ h0 h1 h2 h3 hl, coordT (extractStridedSlice S96 ![0] lat hl) cf 4 5 6 7 h0 h1 h2 h3 (ix4 b a k j) = crd cf lat b 1 a k j from fun h0 h1 h2 h3 hl => coordT_at hs lat cf 4 5 6 7 h0 h1 h2 h3 hl b a k j]

/-- What the check gives at one point, of the bands the host computes. -/
theorem point_of_check (hs : ∀ x y : F .f32, Scalar.mulf x y = FloatOps.mulf x y) (θ : FVec F S4x3x4 .f32) (h : ∀ i, checkT (coefsV θ) latV (paramsV θ) i = 1#1) (g : Nat) (hg : g < 288) (b : Fin 4) (a k j : Fin 96) (hw : g = gOf b a k) :
    inside1 (zbN θ g) (lo1 (crd (coefsV θ) latV b 2 a k j)) (hi1 (crd (coefsV θ) latV b 2 a k j)) 68#32 28#32 = 1#1
      ∧ inside1 (ybN θ g) (lo1 (crd (coefsV θ) latV b 1 a k j)) (hi1 (crd (coefsV θ) latV b 1 a k j)) 76#32 20#32 = 1#1 := by
  have e := h (ix4 b a k j)
  rw [check_at hs (coefsV θ) latV (paramsV θ) b a k j (⟨g / 9, by omega⟩ : Fin 32) (⟨g % 9, by omega⟩ : Fin 9) (by show 9 * (g / 9) + g % 9 = _; omega)] at e
  have hz : paramsV θ (ix3 (⟨g / 9, by omega⟩ : Fin 32) (⟨g % 9, by omega⟩ : Fin 9) 3) = zbN θ g :=
    ((words_of θ (⟨g / 9, by omega⟩ : Fin 32)).w3 (⟨g % 9, by omega⟩ : Fin 9)).trans (congrArg (zbN θ) (by show 9 * (g / 9) + g % 9 = g; omega))
  have hy : paramsV θ (ix3 (⟨g / 9, by omega⟩ : Fin 32) (⟨g % 9, by omega⟩ : Fin 9) 4) = ybN θ g :=
    ((words_of θ (⟨g / 9, by omega⟩ : Fin 32)).w4 (⟨g % 9, by omega⟩ : Fin 9)).trans (congrArg (ybN θ) (by show 9 * (g / 9) + g % 9 = g; omega))
  rw [hz, hy] at e
  have split : ∀ p q : BitVec 1, IntOp.andi p q = 1#1 → p = 1#1 ∧ q = 1#1 := by decide
  exact split _ _ e

theorem hyp_of_check (hs : ∀ x y : F .f32, Scalar.mulf x y = FloatOps.mulf x y) (θ : FVec F S4x3x4 .f32) (h : ∀ i, checkT (coefsV θ) latV (paramsV θ) i = 1#1) : Hyp (coefsV θ) latV (zbN θ) (ybN θ) := by
  have P : ∀ (g : Nat) (hg : g < 288) (b : Fin 4) (a k j : Fin 96) (hw : g = gOf b a k), _ ∧ _ := fun g hg b a k j hw =>
    And.intro (inside1_iff (by decide) (by decide) (lo1_lt _) (hi1_lt _) (point_of_check hs θ h g hg b a k j hw).1)
      (inside1_iff (by decide) (by decide) (lo1_lt _) (hi1_lt _) (point_of_check hs θ h g hg b a k j hw).2)
  have e28 : (28#32).toNat = 28 := rfl
  have e20 : (20#32).toNat = 20 := rfl
  have A : ∀ (g : Nat) (hg : g < 288) (u : Fin 8) (v : Fin 16), g = gOf (⟨g / 72, by omega⟩ : Fin 4) (Fin.ofNat 96 (g % 72 / 6 * 8 + u.val)) (Fin.ofNat 96 (g % 6 * 16 + v.val)) := by
    intro g hg u v
    show g = g / 72 * 72 + (g % 72 / 6 * 8 + u.val) % 96 / 8 * 6 + (g % 6 * 16 + v.val) % 96 / 16
    have := u.isLt; have := v.isLt; omega
  refine ⟨fun g hg => ?_, fun g hg => ?_, fun g hg u v j => ?_⟩
  · exact (P g hg _ _ _ 0 (A g hg 0 0)).1.1
  · exact (P g hg _ _ _ 0 (A g hg 0 0)).2.1
  · obtain ⟨⟨-, a1, a2, a3, a4⟩, -, b1, b2, b3, b4⟩ := P g hg _ _ _ j (A g hg u v)
    rw [e28] at a2 a4; rw [e20] at b2 b4
    exact ⟨⟨a1, a2, b1, b2, lo1_lt _, lo1_lt _⟩, ⟨a1, a2, b3, b4, lo1_lt _, hi1_lt _⟩, ⟨a3, a4, b1, b2, hi1_lt _, lo1_lt _⟩, ⟨a3, a4, b3, b4, hi1_lt _, hi1_lt _⟩⟩

end Cert.KernelIdeal.Stn
-- ==== Proof.Frame.lean ====
/-
  The kernel at the machine's own floats.
-/
module

public import proofs.«01_k».proof.Proof.Run
public import proofs.«01_k».proof.Proof.Check
public import proofs.«01_k».proof.Defs
public import proofs.«01_k».proof.Proof.Gen.Kernel
@[expose] public section

noncomputable section

namespace Cert.KernelIdeal.Stn

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

theorem mulf_bits : ∀ x y : Bits .f32, Scalar.mulf x y = FloatOps.mulf x y := fun _ _ => rfl

theorem frame_bits (m : (ℓ : Loc nD τ sig) → Buf (Elt Bits) ℓ) (g : Dev nD → PrngReg)
    (hpre : ∀ d : Dev nD, Cert.Pre_in_band.fn (F := Bits) (m ((SparseCore.T d).loc main_arg0)) (m ((SparseCore.T d).loc main_arg1)) = fun _ => 1#1) :
    θ_run (Cert.KernelIdeal.defs (F := Bits)) (Cert.KernelIdeal.threads (F := Bits)) ⟨m, fun _ => 0, g⟩ fun r =>
      (∀ d : Dev nD, r.2.mem (d.tc.loc main_arg0) = m (d.tc.loc main_arg0) ∧ r.2.mem (d.tc.loc main_arg1) = m (d.tc.loc main_arg1)) ∧ r.2.sem = fun _ => 0 :=
  (θ_run (Cert.KernelIdeal.defs (F := Bits)) (Cert.KernelIdeal.threads (F := Bits)) _).mono (fun _ h => ⟨fun c => ⟨(h.1 c).1, (h.1 c).2.1⟩, h.2⟩)
    (run_main (F := Bits) m g fun d => hyp_of_check mulf_bits _ fun i => (congrFun (fn_eq (F := Bits) (m ((SparseCore.T d).loc main_arg0)) _) i).symm.trans (congrFun (hpre d) i))

theorem mulf_ideal : ∀ x y : Ideal .f32, Scalar.mulf x y = FloatOps.mulf x y := fun _ _ => rfl

/-- The same program over the extended reals. -/
theorem frame_ideal : Cert.quiescent_KernelIdeal := fun m g hpre =>
  (θ_run (Cert.KernelIdeal.defs (F := Ideal)) (Cert.KernelIdeal.threads (F := Ideal)) _).mono (fun _ h => ⟨fun c => ⟨(h.1 c).1, (h.1 c).2.1⟩, h.2⟩)
    (run_main (F := Ideal) m g fun d => hyp_of_check mulf_ideal _ fun i => (congrFun (fn_eq (F := Ideal) (m ((SparseCore.T d).loc main_arg0)) _) i).symm.trans (congrFun (hpre d) i))

set_option maxRecDepth 65536 in
set_option maxHeartbeats 8000000 in
/-- The kernel as it is, at the machine's own floats: it runs, its arguments are unchanged and every counter is back at zero. -/
theorem frame_kernel : Cert.quiescent_Kernel := fun m g hpre => frame_bits m g hpre

end Cert.KernelIdeal.Stn
-- ==== Proof.Flo.lean ====
/-
  Over the extended reals: the task's floor, a truncation corrected where it is above, is the reference's.
-/
module

public import proofs.«01_k».proof.Proof.Spec
public import Idealize.ShloMosaic.PureOps.Ideal.Laws
public import Idealize.ShloMosaic.Lib.IdealHost

@[expose] public section

noncomputable section

namespace Cert.KernelIdeal.Stn

open Cert.KernelIdeal Cert.KernelIdeal.Gen
open Idealize.ShloMosaic

/-- The task's floor at one lane. -/
def flo1 {F : FTy → Type} [FloatOps F] (p : F .f32) : BitVec 32 := floV (fun _ => p) ln0

theorem lo1_flo {F : FTy → Type} [FloatOps F] (p : F .f32) : lo1 p = clip1 (flo1 p) := rfl
theorem hi1_flo {F : FTy → Type} [FloatOps F] (p : F .f32) : hi1 p = clip1 (flo1 p + 1#32) := rfl

/-- The truncation corrected, with its operations named. -/
theorem flo1_eq (p : Ideal .f32) : flo1 p = Ideal.fptosi 32 p - (Ideal.cmp .ogt ((((Ideal.fptosi 32 p).toInt : ℝ) : EReal)) p).setWidth 32 := rfl

theorem clamped_real (r : ℝ) : Ideal.fptosi 32 ((r : ℝ) : EReal) = BitVec.ofInt 32 (max (-2147483648) (min 2147483647 (if 0 ≤ r then ⌊r⌋ else ⌈r⌉))) := by
  unfold Ideal.fptosi
  rfl

theorem toInt_ofInt32 {t : Int} (h0 : -2147483648 ≤ t) (h1 : t ≤ 2147483647) : (BitVec.ofInt 32 t).toInt = t := by
  rw [BitVec.toInt_ofInt]
  exact Int.bmod_eq_of_le (by omega) (by omega)

/-- From −2³¹ up, the corrected truncation is the floor. -/
theorem flo1_real (r : ℝ) (h : -2147483648 ≤ r) : flo1 (F := Ideal) ((r : ℝ) : EReal) = Ideal.fptosi 32 (((⌊r⌋ : ℤ) : ℝ) : EReal) := by
  rw [flo1_eq]
  have hfl : (-2147483648 : ℤ) ≤ ⌊r⌋ := by rw [Int.le_floor]; exact_mod_cast h
  have hce : ⌊r⌋ ≤ ⌈r⌉ := Int.floor_le_ceil r
  have hce1 : ⌈r⌉ ≤ ⌊r⌋ + 1 := Int.ceil_le_floor_add_one r
  have hR : Ideal.fptosi 32 (((⌊r⌋ : ℤ) : ℝ) : EReal) = BitVec.ofInt 32 (min 2147483647 ⌊r⌋) := by
    rw [clamped_real, Int.floor_intCast, Int.ceil_intCast, ite_self]
    congr 1; omega
  rw [hR]
  by_cases h0 : 0 ≤ r
  · have hL : Ideal.fptosi 32 ((r : ℝ) : EReal) = BitVec.ofInt 32 (min 2147483647 ⌊r⌋) := by
      rw [clamped_real, if_pos h0]; congr 1; omega
    rw [hL, toInt_ofInt32 (by omega) (by omega)]
    have : ¬ ((r : ℝ) : EReal) < (((min 2147483647 ⌊r⌋ : ℤ) : ℝ) : EReal) := by
      rw [EReal.coe_lt_coe_iff, not_lt]
      refine le_trans ?_ (Int.floor_le r)
      exact_mod_cast min_le_right _ _
    show _ - (BitVec.ofBool (decide _)).setWidth 32 = _
    rw [decide_eq_false this]
    simp
  · have hneg : r < 0 := not_le.mp h0
    have hc0 : ⌈r⌉ ≤ 0 := by rw [Int.ceil_le]; exact_mod_cast hneg.le
    have hL : Ideal.fptosi 32 ((r : ℝ) : EReal) = BitVec.ofInt 32 ⌈r⌉ := by
      rw [clamped_real, if_neg h0]; congr 1; omega
    rw [hL, toInt_ofInt32 (by omega) (by omega)]
    rw [show min 2147483647 ⌊r⌋ = ⌊r⌋ by omega]
    show _ - (BitVec.ofBool (decide _)).setWidth 32 = _
    by_cases hi : r < (⌈r⌉ : ℝ)
    · rw [decide_eq_true (EReal.coe_lt_coe_iff.mpr hi)]
      have : ⌈r⌉ = ⌊r⌋ + 1 := by
        have : ⌊r⌋ < ⌈r⌉ := by
          rw [Int.lt_ceil]
          rcases lt_or_eq_of_le (Int.floor_le r) with h | h
          · exact h
          · exfalso; rw [← h, Int.ceil_intCast] at hi; exact lt_irrefl _ hi
        omega
      rw [this]
      show BitVec.ofInt 32 (⌊r⌋ + 1) - 1#32 = _
      rw [BitVec.ofInt_add]
      show BitVec.ofInt 32 ⌊r⌋ + 1#32 - 1#32 = _
      rw [BitVec.add_sub_cancel]
    · have hn : ¬ ((r : ℝ) : EReal) < (((⌈r⌉ : ℤ) : ℝ) : EReal) := by rw [EReal.coe_lt_coe_iff]; exact hi
      rw [decide_eq_false hn]
      have : ⌈r⌉ = ⌊r⌋ := by
        have h1 : r = (⌈r⌉ : ℝ) := le_antisymm (Int.le_ceil r) (not_lt.mp hi)
        conv_rhs => rw [h1]
        rw [Int.floor_intCast]
      rw [this]; simp

theorem flo1_ideal (p : EReal) (h : ((-2147483648 : ℝ) : EReal) ≤ p) : flo1 (F := Ideal) p = Ideal.fptosi 32 (Ideal.liftRound Int.floor p) := by
  induction p with
  | bot => exact absurd h (by simp)
  | top =>
    rw [flo1_eq]
    show Ideal.fptosi 32 ⊤ - (BitVec.ofBool (decide _)).setWidth 32 = Ideal.fptosi 32 ⊤
    rw [decide_eq_false (by simp)]
    simp
  | coe r => exact flo1_real r (EReal.coe_le_coe_iff.mp h)

end Cert.KernelIdeal.Stn
-- ==== Proof.Range.lean ====
/-
  The second precondition: the check of the bands, and that no first pixel coordinate is below −2³¹. What it gives over
  the extended reals at every point: the item bands hold, and none of the three pixel coordinates is below −2³¹.
-/
module

public import proofs.«01_k».proof.Proof.Check
public import proofs.«01_k».proof.Proof.Flo
public import proofs.«01_k».proof.Pre_in_range

@[expose] public section

noncomputable section

namespace Cert.KernelIdeal.Stn

open Cert.KernelIdeal Cert.KernelIdeal.Gen
open Idealize.ShloMosaic

variable {F : FTy → Type} [FloatOps F]

set_option maxRecDepth 8192 in
/-- What the predicate's program states of its shapes. -/
instance rangeFacts : Cert.Pre_in_range.Facts := by
  constructor <;> decide

/-- The second check: the first, and the bound of the first pixel coordinate. -/
def rangeT (cf : FVec F S4x16 .f32) (lat : FVec F S112 .f32) (ps : IVec S32x9x16 32) : IVec B4 1 :=
  andi (checkT cf lat ps)
    (cmpf .oge (coordT (extractStridedSlice S96 ![0] lat Cert.Pre_in_band.Gen.slices_S112_S96_0) cf 0 1 2 3 rangeFacts.slices_S4x16_S4x1_0_0 rangeFacts.slices_S4x16_S4x1_0_1
      rangeFacts.slices_S4x16_S4x1_0_2 rangeFacts.slices_S4x16_S4x1_0_3) (bcB4 0xCF000000#32))

set_option maxRecDepth 65536 in
set_option maxHeartbeats 4000000 in
theorem range_fn_eq (x : FVec F S4x96x96x96x2 .f32) (θ : FVec F S4x3x4 .f32) : Cert.Pre_in_range.fn (F := F) x θ = rangeT (coefsV θ) latV (paramsV θ) := rfl

theorem range_split (θ : FVec F S4x3x4 .f32) (h : ∀ i, rangeT (coefsV θ) latV (paramsV θ) i = 1#1) (i : B4.Idx) :
    checkT (coefsV θ) latV (paramsV θ) i = 1#1
      ∧ cmpf .oge (coordT (extractStridedSlice S96 ![0] latV Cert.Pre_in_band.Gen.slices_S112_S96_0) (coefsV θ) 0 1 2 3 rangeFacts.slices_S4x16_S4x1_0_0 rangeFacts.slices_S4x16_S4x1_0_1
        rangeFacts.slices_S4x16_S4x1_0_2 rangeFacts.slices_S4x16_S4x1_0_3) (bcB4 0xCF000000#32) i = 1#1 := by
  have split : ∀ p q : BitVec 1, IntOp.andi p q = 1#1 → p = 1#1 ∧ q = 1#1 := by decide
  exact split _ _ (h i)

/-! ## Over the extended reals -/

/-- Below −2³¹ the corrected truncation wraps to the largest integer. -/
theorem flo1_low (p : EReal) (h : p < ((-2147483648 : ℝ) : EReal)) : flo1 (F := Ideal) p = 2147483647#32 := by
  have hf : Ideal.fptosi 32 p = BitVec.ofInt 32 (-2147483648) := by
    induction p with
    | bot => rfl
    | top => exact absurd h (not_lt.mpr le_top)
    | coe r =>
      have hr : r < -2147483648 := EReal.coe_lt_coe_iff.mp h
      have hc : ⌈r⌉ ≤ (-2147483648 : ℤ) := by rw [Int.ceil_le]; push_cast; exact hr.le
      rw [clamped_real, if_neg (by linarith)]
      congr 1; omega
  rw [flo1_eq, hf, toInt_ofInt32 (by omega) (by omega)]
  show _ - (BitVec.ofBool (decide _)).setWidth 32 = _
  rw [decide_eq_true (by push_cast; exact h)]
  decide

/-- So the two grid lines are the last and the first. -/
theorem low_lines (p : EReal) (h : p < ((-2147483648 : ℝ) : EReal)) : (lo1 (F := Ideal) p).toNat = 95 ∧ (hi1 (F := Ideal) p).toNat = 0 := by
  rw [lo1_flo, hi1_flo, flo1_low p h]
  decide

/-- The bound, as the check compares with it. -/
theorem bound_ideal : FloatOps.ofBits (F := Ideal) .f32 0xCF000000#32 = ((-2147483648 : ℝ) : EReal) := by
  show Ideal.ofBits .f32 0xCF000000#32 = _
  simp [Ideal.ofBits, Ideal.ieee, -EReal.coe_mul]
  norm_num

theorem mul_ideal : ∀ x y : Ideal .f32, Scalar.mulf x y = FloatOps.mulf x y := fun _ _ => rfl

/-- No pixel coordinate is below −2³¹: the first by the check's bound, the others since their bands could not hold both grid lines. -/
theorem crd_ge (θ : FVec Ideal S4x3x4 .f32) (h : ∀ i, rangeT (coefsV θ) latV (paramsV θ) i = 1#1) (b : Fin 4) (u : Fin 3) (a k j : Fin 96) :
    ((-2147483648 : ℝ) : EReal) ≤ crd (coefsV θ) latV b u a k j := by
  have hg : gOf b a k < 288 := by
    show b.val * 72 + a.val / 8 * 6 + k.val / 16 < 288
    have := b.isLt; have := a.isLt; have := k.isLt; omega
  obtain ⟨hz, hy⟩ := point_of_check mul_ideal θ (fun i => (range_split θ h i).1) (gOf b a k) hg b a k j rfl
  have iz := inside1_iff (by decide) (by decide) (lo1_lt _) (hi1_lt _) hz
  have iy := inside1_iff (by decide) (by decide) (lo1_lt _) (hi1_lt _) hy
  rw [show (28#32).toNat = 28 from rfl] at iz
  rw [show (20#32).toNat = 20 from rfl] at iy
  refine not_lt.mp fun hl => ?_
  obtain ⟨l0, l1⟩ := low_lines _ hl
  fin_cases u
  · have e := (range_split θ h (ix4 b a k j)).2
    rw [show ∀ (x y : FVec Ideal B4 .f32) i, cmpf .oge x y i = FloatOps.cmpf .oge (x i) (y i) from fun _ _ _ => rfl] at e
    rw [show ∀ h0 h1 h2 h3 hl, coordT (extractStridedSlice S96 ![0] latV hl) (coefsV θ) 0 1 2 3 h0 h1 h2 h3 (ix4 b a k j) = crd (coefsV θ) latV b 0 a k j from
      fun h0 h1 h2 h3 hl => coordT_at mul_ideal latV (coefsV θ) 0 1 2 3 h0 h1 h2 h3 hl b a k j,
      show ∀ (w : BitVec 32) i, bcB4 (F := Ideal) w i = FloatOps.ofBits .f32 w from fun _ _ => rfl, bound_ideal] at e
    replace e : BitVec.ofBool (decide (((-2147483648 : ℝ) : EReal) ≤ crd (coefsV θ) latV b 0 a k j)) = 1#1 := e
    replace hl : crd (coefsV θ) latV b 0 a k j < ((-2147483648 : ℝ) : EReal) := hl
    rw [decide_eq_false (not_le.mpr hl)] at e
    exact absurd e (by decide)
  · replace l0 : (lo1 (crd (coefsV θ) latV b 1 a k j)).toNat = 95 := l0
    replace l1 : (hi1 (crd (coefsV θ) latV b 1 a k j)).toNat = 0 := l1
    rw [l0, l1] at iy; omega
  · replace l0 : (lo1 (crd (coefsV θ) latV b 2 a k j)).toNat = 95 := l0
    replace l1 : (hi1 (crd (coefsV θ) latV b 2 a k j)).toNat = 0 := l1
    rw [l0, l1] at iz; omega

end Cert.KernelIdeal.Stn
-- ==== Proof.Read.lean ====
/-
  How the reference's shapes are read: the flat list of points, the lattice laid out beside it, and the take of a corner.
-/
module

public import proofs.«01_k».proof.Proof.Gen.ReferenceIdeal
public import Idealize.ShloMosaic.Lib.Pointwise.Index
public import Idealize.ShloMosaic.Lib.Pipeline.Value
public import Idealize.ShloMosaic.Lib.StackMember
public import Idealize.ShloMosaic.Lib.Pointwise.Reshape

@[expose] public section

set_option maxRecDepth 8192

noncomputable section

namespace Cert.ReferenceIdeal.Rd

open Cert.ReferenceIdeal Cert.ReferenceIdeal.Gen
open Idealize.ShloMosaic

/-! ## Points -/

/-- A point's place in the flat list, and its place within its image. -/
def pt (b : Fin 4) (a j k : Fin 96) : Fin 3538944 :=
  ⟨((b.val * 96 + a.val) * 96 + j.val) * 96 + k.val, by have := b.isLt; have := a.isLt; have := j.isLt; have := k.isLt; omega⟩
def pq (a j k : Fin 96) : Fin 884736 := ⟨(a.val * 96 + j.val) * 96 + k.val, by have := a.isLt; have := j.isLt; have := k.isLt; omega⟩

theorem pt_surj (p : Fin 3538944) : ∃ b a j k, p = pt b a j k := by
  have h := p.isLt
  refine ⟨⟨p.val / 884736, by omega⟩, ⟨p.val / 9216 % 96, by omega⟩, ⟨p.val / 96 % 96, by omega⟩, ⟨p.val % 96, by omega⟩, Fin.ext ?_⟩
  show p.val = ((p.val / 884736 * 96 + p.val / 9216 % 96) * 96 + p.val / 96 % 96) * 96 + p.val % 96
  omega

section Reads

variable {α : Type}

theorem cast_out (h : S3538944x2.ShapeCasts S4x96x96x96x2) (x : S3538944x2.Idx → α) (b : Fin 4) (a j k : Fin 96) (c : Fin 2) :
    shapeCast S4x96x96x96x2 x h (ix5 b a j k c) = x (ix2 (pt b a j k) c) :=
  congrArg x (Shape.reshapeEquiv_eq_of_vals (s := S3538944x2) (s' := S4x96x96x96x2) _ _ _ ((((b.val * 96 + a.val) * 96 + j.val) * 96 + k.val) * 2 + c.val)
    ((((b.val * 96 + a.val) * 96 + j.val) * 96 + k.val) * 2 + c.val) (Shape.rowMajor_val_two _) (Shape.rowMajor_val_five _) rfl)

theorem cast_in (h : S4x96x96x96x2.ShapeCasts S3538944x2) (x : S4x96x96x96x2.Idx → α) (b : Fin 4) (a j k : Fin 96) (c : Fin 2) :
    shapeCast S3538944x2 x h (ix2 (pt b a j k) c) = x (ix5 b a j k c) :=
  congrArg x (Shape.reshapeEquiv_eq_of_vals (s := S4x96x96x96x2) (s' := S3538944x2) _ _ _ ((((b.val * 96 + a.val) * 96 + j.val) * 96 + k.val) * 2 + c.val)
    ((((b.val * 96 + a.val) * 96 + j.val) * 96 + k.val) * 2 + c.val) (Shape.rowMajor_val_five _) (Shape.rowMajor_val_two _) rfl)

theorem cast_pt (h : S4x884736.ShapeCasts S3538944) (x : S4x884736.Idx → α) (b : Fin 4) (a j k : Fin 96) :
    shapeCast S3538944 x h (ix1 (pt b a j k)) = x (ix2 b (pq a j k)) :=
  congrArg x (Shape.reshapeEquiv_eq_of_vals (s := S4x884736) (s' := S3538944) _ _ _ (b.val * 884736 + ((a.val * 96 + j.val) * 96 + k.val))
    (((b.val * 96 + a.val) * 96 + j.val) * 96 + k.val) (Shape.rowMajor_val_two _) (Shape.rowMajor_val_one _) (by omega))

theorem cast_mid (h : S4x1x884736.ShapeCasts S4x884736) (x : S4x1x884736.Idx → α) (b : Fin 4) (q : Fin 884736) :
    shapeCast S4x884736 x h (ix2 b q) = x (ix3 b (0 : Fin 1) q) :=
  congrArg x (Shape.reshapeEquiv_eq_of_vals (s := S4x1x884736) (s' := S4x884736) _ _ _ ((b.val * 1 + 0) * 884736 + q.val)
    (b.val * 884736 + q.val) (Shape.rowMajor_val_three _) (Shape.rowMajor_val_two _) (by omega))

theorem slice_u (u : Fin 3) (h : S4x3x884736.Slices ![0, u.val, 0] S4x1x884736) (x : S4x3x884736.Idx → α) (b : Fin 4) (q : Fin 884736) :
    extractStridedSlice S4x1x884736 ![0, u.val, 0] x h (ix3 b (0 : Fin 1) q) = x (ix3 b u q) := by
  unfold extractStridedSlice; congr 1; funext t; apply Fin.ext; fin_cases t
  · show 0 + b.val = b.val; omega
  · rfl
  · show 0 + q.val = q.val; omega

theorem bc_pt1 (h : S3538944.BroadcastsInDim S3538944x1 ![0]) (x : S3538944.Idx → α) (p : Fin 3538944) (z : Fin 1) :
    broadcastInDim S3538944x1 ![0] h x (ix2 p z) = x (ix1 p) := by
  unfold broadcastInDim; congr 1; funext t; apply Fin.ext; fin_cases t; rfl
theorem bc_pt2 (h : S3538944.BroadcastsInDim S3538944x2 ![0]) (x : S3538944.Idx → α) (p : Fin 3538944) (c : Fin 2) :
    broadcastInDim S3538944x2 ![0] h x (ix2 p c) = x (ix1 p) := by
  unfold broadcastInDim; congr 1; funext t; apply Fin.ext; fin_cases t; rfl
theorem bc_pt12 (h : S3538944x1.BroadcastsInDim S3538944x2 ![0, 1]) (x : S3538944x1.Idx → α) (p : Fin 3538944) (c : Fin 2) :
    broadcastInDim S3538944x2 ![0, 1] h x (ix2 p c) = x (ix2 p (0 : Fin 1)) := by
  unfold broadcastInDim; congr 1; funext t; apply Fin.ext; fin_cases t <;> rfl
theorem bc_img (h : S4.BroadcastsInDim S4x884736 ![0]) (x : S4.Idx → α) (b : Fin 4) (q : Fin 884736) :
    broadcastInDim S4x884736 ![0] h x (ix2 b q) = x (ix1 b) := by
  unfold broadcastInDim; congr 1; funext t; apply Fin.ext; fin_cases t; rfl

/-! ## The grid -/

theorem grid_flat (h0 : S3538944.ShapeCasts S1x3538944) (h1 : S1x3538944.BroadcastsInDim S4x3538944 ![0, 1]) (h2 : S4x3538944.ShapeCasts S14155776)
    (h3 : S14155776.ShapeCasts S4x4x884736) (g : S3538944.Idx → α) (b c : Fin 4) (q : Fin 884736) :
    shapeCast S4x4x884736 (shapeCast S14155776 (broadcastInDim S4x3538944 ![0, 1] h1 (shapeCast S1x3538944 g h0)) h2) h3 (ix3 b c q)
      = g (ix1 (⟨c.val * 884736 + q.val, by have := c.isLt; have := q.isLt; omega⟩ : Fin 3538944)) := by
  have hb := b.isLt; have hc := c.isLt; have hq := q.isLt
  have s1 : ∀ x : S14155776.Idx → α, shapeCast S4x4x884736 x h3 (ix3 b c q) = x (ix1 (⟨(b.val * 4 + c.val) * 884736 + q.val, by omega⟩ : Fin 14155776)) := fun x =>
    congrArg x (Shape.reshapeEquiv_eq_of_vals (s := S14155776) (s' := S4x4x884736) _ _ _ ((b.val * 4 + c.val) * 884736 + q.val) ((b.val * 4 + c.val) * 884736 + q.val)
      (Shape.rowMajor_val_one _) (Shape.rowMajor_val_three _) rfl)
  have s2 : ∀ x : S4x3538944.Idx → α, shapeCast S14155776 x h2 (ix1 (⟨(b.val * 4 + c.val) * 884736 + q.val, by omega⟩ : Fin 14155776))
      = x (ix2 b (⟨c.val * 884736 + q.val, by omega⟩ : Fin 3538944)) := fun x =>
    congrArg x (Shape.reshapeEquiv_eq_of_vals (s := S4x3538944) (s' := S14155776) _ _ _ (b.val * 3538944 + (c.val * 884736 + q.val)) ((b.val * 4 + c.val) * 884736 + q.val)
      (Shape.rowMajor_val_two _) (Shape.rowMajor_val_one _) (by omega))
  have s3 : ∀ (x : S1x3538944.Idx → α) (r : Fin 3538944), broadcastInDim S4x3538944 ![0, 1] h1 x (ix2 b r) = x (ix2 (0 : Fin 1) r) := by
    intro x r; unfold broadcastInDim; congr 1; funext t; apply Fin.ext; fin_cases t <;> rfl
  have s4 : ∀ r : Fin 3538944, shapeCast S1x3538944 g h0 (ix2 (0 : Fin 1) r) = g (ix1 r) := fun r =>
    congrArg g (Shape.reshapeEquiv_eq_of_vals (s := S3538944) (s' := S1x3538944) _ _ _ r.val (0 * 3538944 + r.val) (Shape.rowMajor_val_one _) (Shape.rowMajor_val_two _) (by omega))
  rw [s1, s2, s3, s4]

/-- Four lists end to end, read in one of them. -/
theorem four_at (g0 g1 g2 g3 : S884736.Idx → α) (h : Shape.Concatenates [S884736, S884736, S884736, S884736] S3538944 0) (c : Fin 4) (q : Fin 884736) (r : Fin 3538944)
    (hr : c.val * 884736 + q.val = r.val) (g : S884736.Idx → α) (hg : [(⟨S884736, g0⟩ : (s : Shape) × (s.Idx → α)), ⟨S884736, g1⟩, ⟨S884736, g2⟩, ⟨S884736, g3⟩][c.val] = ⟨S884736, g⟩) :
    concatenate S3538944 0 [⟨S884736, g0⟩, ⟨S884736, g1⟩, ⟨S884736, g2⟩, ⟨S884736, g3⟩] h (ix1 r) = g (ix1 q) := by
  refine concatenate_apply_piece (t := S3538944) (0 : Fin 1) _ _ (ix1 r) c.val (by show c.val < 4; exact c.isLt) S884736 g hg rfl (c.val * 884736) ?_ (ix1 q) ?_ ?_
  · fin_cases c <;> simp [Shape.ofLane]
  · intro b hb
    fin_cases b
    exact absurd rfl hb
  · exact hr

/-- One coordinate of the lattice at every point. -/
theorem lat_j (h0 : S96.BroadcastsInDim S96x96x96 ![1]) (h1 : S96x96x96.ShapeCasts S884736) (l : S96.Idx → α) (a j k : Fin 96) :
    shapeCast S884736 (broadcastInDim S96x96x96 ![1] h0 l) h1 (ix1 (pq a j k)) = l (ix1 j) := by
  refine (congrArg (broadcastInDim S96x96x96 ![1] h0 l) (Shape.reshapeEquiv_eq_of_vals (s := S96x96x96) (s' := S884736) h1 (ix1 (pq a j k)) (ix3 a j k) ((a.val * 96 + j.val) * 96 + k.val) ((a.val * 96 + j.val) * 96 + k.val)
    (Shape.rowMajor_val_three _) (Shape.rowMajor_val_one _) rfl)).trans ?_
  unfold broadcastInDim; congr 1; funext t; apply Fin.ext; fin_cases t; rfl
theorem lat_a (h0 : S96.BroadcastsInDim S96x96x96 ![0]) (h1 : S96x96x96.ShapeCasts S884736) (l : S96.Idx → α) (a j k : Fin 96) :
    shapeCast S884736 (broadcastInDim S96x96x96 ![0] h0 l) h1 (ix1 (pq a j k)) = l (ix1 a) := by
  refine (congrArg (broadcastInDim S96x96x96 ![0] h0 l) (Shape.reshapeEquiv_eq_of_vals (s := S96x96x96) (s' := S884736) h1 (ix1 (pq a j k)) (ix3 a j k) ((a.val * 96 + j.val) * 96 + k.val) ((a.val * 96 + j.val) * 96 + k.val)
    (Shape.rowMajor_val_three _) (Shape.rowMajor_val_one _) rfl)).trans ?_
  unfold broadcastInDim; congr 1; funext t; apply Fin.ext; fin_cases t; rfl
theorem lat_k (h0 : S96.BroadcastsInDim S96x96x96 ![2]) (h1 : S96x96x96.ShapeCasts S884736) (l : S96.Idx → α) (a j k : Fin 96) :
    shapeCast S884736 (broadcastInDim S96x96x96 ![2] h0 l) h1 (ix1 (pq a j k)) = l (ix1 k) := by
  refine (congrArg (broadcastInDim S96x96x96 ![2] h0 l) (Shape.reshapeEquiv_eq_of_vals (s := S96x96x96) (s' := S884736) h1 (ix1 (pq a j k)) (ix3 a j k) ((a.val * 96 + j.val) * 96 + k.val) ((a.val * 96 + j.val) * 96 + k.val)
    (Shape.rowMajor_val_three _) (Shape.rowMajor_val_one _) rfl)).trans ?_
  unfold broadcastInDim; congr 1; funext t; apply Fin.ext; fin_cases t; rfl

/-! ## The take -/

/-- A row taken at an index in range. -/
theorem gather_row (x : S3538944x2.Idx → α) (idx : IVec S3538944x1 32) (p r : Fin 3538944) (c : Fin 2) (h : (idx (ix2 p (0 : Fin 1))).toInt.toNat = r.val) :
    Host.gather gather_S3538944x2_S3538944x1_S3538944x2_1_0_n_n_0_1_12 x idx (ix2 p c) = x (ix2 r c) := by
  unfold Host.gather
  congr 1
  have hr := r.isLt
  have hi : gather_S3538944x2_S3538944x1_S3538944x2_1_0_n_n_0_1_12.siIdx (ix2 p c) ⟨0, by show 0 < 1; omega⟩ = ix2 p (0 : Fin 1) := by
    funext b; apply Fin.ext; fin_cases b <;> rfl
  funext a
  apply Fin.ext
  fin_cases a
  · have hm : (0 : Fin 2) ∈ gather_S3538944x2_S3538944x1_S3538944x2_1_0_n_n_0_1_12.startIndexMap := List.mem_singleton.mpr rfl
    have hs : gather_S3538944x2_S3538944x1_S3538944x2_1_0_n_n_0_1_12.start (ix2 p c) idx 0 = r.val := by
      unfold GatherDims.start
      rw [dif_pos hm]
      show min (idx (gather_S3538944x2_S3538944x1_S3538944x2_1_0_n_n_0_1_12.siIdx (ix2 p c) ⟨0, _⟩)).toInt.toNat (3538944 - 1) = r.val
      rw [hi, h]; omega
    show gather_S3538944x2_S3538944x1_S3538944x2_1_0_n_n_0_1_12.start (ix2 p c) idx 0 + gather_S3538944x2_S3538944x1_S3538944x2_1_0_n_n_0_1_12.batchCoord (ix2 p c) 0
      + gather_S3538944x2_S3538944x1_S3538944x2_1_0_n_n_0_1_12.offCoord (ix2 p c) 0 = r.val
    rw [hs]; rfl
  · show gather_S3538944x2_S3538944x1_S3538944x2_1_0_n_n_0_1_12.start (ix2 p c) idx 1 + gather_S3538944x2_S3538944x1_S3538944x2_1_0_n_n_0_1_12.batchCoord (ix2 p c) 1
      + gather_S3538944x2_S3538944x1_S3538944x2_1_0_n_n_0_1_12.offCoord (ix2 p c) 1 = c.val
    have hn : ¬ (1 : Fin 2) ∈ gather_S3538944x2_S3538944x1_S3538944x2_1_0_n_n_0_1_12.startIndexMap := by decide
    have hs : gather_S3538944x2_S3538944x1_S3538944x2_1_0_n_n_0_1_12.start (ix2 p c) idx 1 = 0 := by
      unfold GatherDims.start
      rw [dif_neg hn]
    have ho : gather_S3538944x2_S3538944x1_S3538944x2_1_0_n_n_0_1_12.offCoord (ix2 p c) 1 = c.val := by rfl
    have hb : gather_S3538944x2_S3538944x1_S3538944x2_1_0_n_n_0_1_12.batchCoord (ix2 p c) 1 = 0 := by rfl
    rw [hs, ho, hb, Nat.zero_add]

theorem foldl_ones {β : Type} (f : β → BitVec 1) (hf : ∀ n, f n = 1#1) (l : List β) : l.foldl (fun r n => IntOp.andi r (f n)) 1#1 = 1#1 := by
  induction l with
  | nil => rfl
  | cons n l ih => rw [List.foldl_cons, hf, show IntOp.andi 1#1 1#1 = 1#1 from rfl]; exact ih

/-- The index as the take states it: a negative one would count from the end. -/
def wrapT (w : IVec S3538944 32) : IVec S3538944x1 32 :=
  broadcastInDim S3538944x1 ![0] bcast_S3538944_S3538944x1_0 (select (cmpi .slt w (broadcastInDim S3538944 ![] bcast_S_S3538944 (constantI S_ 32 0#32)))
    (addi w (broadcastInDim S3538944 ![] bcast_S_S3538944 (constantI S_ 32 3538944#32))) w)

theorem wrapT_at (w : IVec S3538944 32) (p : Fin 3538944) (z : Fin 1) (h : (w (ix1 p)).toNat < 3538944) : wrapT w (ix2 p z) = w (ix1 p) := by
  unfold wrapT
  rw [bc_pt1]
  show (if IntOp.cmpi .slt (w (ix1 p)) 0#32 = 1#1 then _ else w (ix1 p)) = w (ix1 p)
  rw [if_neg]
  show ¬ BitVec.ofBool ((w (ix1 p)).slt 0#32) = 1#1
  rw [show (w (ix1 p)).slt 0#32 = false by
    rw [BitVec.slt_eq_decide, BitVec.toInt_eq_toNat_cond, if_pos (by omega)]
    simp]
  decide

/-- The take: rows of the flat image, not-a-number where an index is out of range. -/
def takeT {F : FTy → Type} [FloatOps F] (x : FVec F S3538944x2 .f32) (w : IVec S3538944 32) : FVec F S3538944x2 .f32 :=
  select (broadcastInDim S3538944x2 ![0] bcast_S3538944_S3538944x2_0 (Host.reduce IntOp.andi
      (andi (cmpi .sge (wrapT w) (broadcastInDim S3538944x1 ![] bcast_S_S3538944x1 (constantI S_ 32 0#32)))
        (cmpi .sle (wrapT w) (broadcastInDim S3538944x1 ![0, 1] bcast_S1x1_S3538944x1_0_1 (broadcastInDim S1x1 ![1] bcast_S1_S1x1_1 (constantI S1 32 3538943#32)))))
      (constantI S_ 1 1#1) reducesTo_S3538944x1_S3538944_d1 h_S_))
    (Host.gather gather_S3538944x2_S3538944x1_S3538944x2_1_0_n_n_0_1_12 x (wrapT w)) (broadcastInDim S3538944x2 ![] bcast_S_S3538944x2 (constant S_ .f32 0x7FC00000#32))

theorem takeT_at {F : FTy → Type} [FloatOps F] (x : FVec F S3538944x2 .f32) (w : IVec S3538944 32) (hw : ∀ p : Fin 3538944, (w (ix1 p)).toNat < 3538944) (p r : Fin 3538944) (c : Fin 2)
    (hr : (w (ix1 p)).toNat = r.val) : takeT x w (ix2 p c) = x (ix2 r c) := by
  have hone : ∀ i : S3538944x1.Idx, andi (cmpi .sge (wrapT w) (broadcastInDim S3538944x1 ![] bcast_S_S3538944x1 (constantI S_ 32 0#32)))
        (cmpi .sle (wrapT w) (broadcastInDim S3538944x1 ![0, 1] bcast_S1x1_S3538944x1_0_1 (broadcastInDim S1x1 ![1] bcast_S1_S1x1_1 (constantI S1 32 3538943#32)))) i = 1#1 := by
    intro i
    obtain ⟨q, z, rfl⟩ : ∃ (q : Fin 3538944) (z : Fin 1), i = ix2 q z := ⟨i 0, i 1, eq_ix2 i⟩
    show IntOp.andi (BitVec.ofBool ((0#32).sle (wrapT w (ix2 q z)))) (BitVec.ofBool ((wrapT w (ix2 q z)).sle 3538943#32)) = 1#1
    have h := hw q
    rw [wrapT_at w q z h]
    have e : (w (ix1 q)).toInt = (w (ix1 q)).toNat := by rw [BitVec.toInt_eq_toNat_cond, if_pos (by omega)]
    rw [show (0#32).sle (w (ix1 q)) = true by rw [BitVec.sle_eq_decide, e]; simp, show (w (ix1 q)).sle 3538943#32 = true by
      rw [BitVec.sle_eq_decide, e, decide_eq_true_eq, show (3538943#32).toInt = 3538943 from rfl]; omega]
    decide
  have hmask : broadcastInDim S3538944x2 ![0] bcast_S3538944_S3538944x2_0 (Host.reduce IntOp.andi
      (andi (cmpi .sge (wrapT w) (broadcastInDim S3538944x1 ![] bcast_S_S3538944x1 (constantI S_ 32 0#32)))
        (cmpi .sle (wrapT w) (broadcastInDim S3538944x1 ![0, 1] bcast_S1x1_S3538944x1_0_1 (broadcastInDim S1x1 ![1] bcast_S1_S1x1_1 (constantI S1 32 3538943#32)))))
      (constantI S_ 1 1#1) reducesTo_S3538944x1_S3538944_d1 h_S_) (ix2 p c) = 1#1 := by
    rw [bc_pt2]
    unfold Host.reduce
    exact foldl_ones (fun n => _) (fun n => hone _) _
  have eS : ∀ (m : IVec S3538944x2 1) (u v : FVec F S3538944x2 .f32) i, select m u v i = if m i = 1#1 then u i else v i := fun _ _ _ _ => rfl
  unfold takeT
  rw [eS, if_pos hmask]
  refine gather_row x (wrapT w) p r c ?_
  rw [wrapT_at w p 0 (hw p), ← hr, BitVec.toInt_eq_toNat_cond, if_pos (by have := hw p; omega)]
  rfl

end Reads

end Cert.ReferenceIdeal.Rd
-- ==== Proof.Ref.lean ====
/-
  The reference's result as one function of the image and of the three pixel coordinates of every point, and that
  function read at one point and channel.
-/
module

public import proofs.«01_k».proof.Proof.Read
public import proofs.«01_k».proof.Proof.Gen.ReferenceIdeal.Run

@[expose] public section

noncomputable section

namespace Cert.ReferenceIdeal.Rd

open Cert.ReferenceIdeal Cert.ReferenceIdeal.Gen
open Idealize.ShloMosaic Idealize.ShloMosaic.TcCoe Idealize.SL.Sem Idealize.ShloMosaic.StableHlo

variable {F : FTy → Type} [FloatOps F]

/-! ## The reference in pieces -/

abbrev bF (w : BitVec 32) : FVec F S3538944 .f32 := broadcastInDim S3538944 ![] bcast_S_S3538944 (constant (F := F) S_ .f32 w)
abbrev bI (w : BitVec 32) : IVec S3538944 32 := broadcastInDim S3538944 ![] bcast_S_S3538944 (constantI S_ 32 w)
abbrev bJ (w : BitVec 32) : IVec S3538944 32 := broadcastInDim S3538944 ![] bcast_S_S3538944 (id (constantI S_ 32 w))

/-- A pixel coordinate from one in [−1, 1]. -/
def pixT (n : FVec F S3538944 .f32) : FVec F S3538944 .f32 := mulf (mulf (bF 0x3F000000#32) (addf n (bF 0x3F800000#32))) (bF 0x42C00000#32)
/-- The grid lines around a pixel coordinate, clipped to the image. -/
def flT (p : FVec F S3538944 .f32) : IVec S3538944 32 := fptosi 32 (Host.floor p)
def clT (v : IVec S3538944 32) : IVec S3538944 32 := minsi (bJ 95#32) (maxsi (bJ 0#32) v)
def lowT (p : FVec F S3538944 .f32) : IVec S3538944 32 := clT (flT p)
def uppT (p : FVec F S3538944 .f32) : IVec S3538944 32 := clT (addi (flT p) (bI 1#32))
/-- Where an image begins in the flat list. -/
def baseT : IVec S3538944 32 :=
  shapeCast S3538944 (broadcastInDim S4x884736 ![0] bcast_S4_S4x884736_0 (muli (iotaInDim S4 32 0) (broadcastInDim S4 ![] bcast_S_S4 (constantI S_ 32 884736#32)))) shapeCasts_S4x884736_S3538944
/-- A corner's place in the flat list. -/
def cornT (x y z : IVec S3538944 32) : IVec S3538944 32 :=
  addi (addi (addi baseT (muli y (bI 96#32))) (muli (muli z (bI 96#32)) (bI 96#32))) x
/-- A corner weighted by a product of three distances. -/
def termT (xf : FVec F S3538944x2 .f32) (u v w : FVec F S3538944 .f32) (x y z : IVec S3538944 32) : FVec F S3538944x2 .f32 :=
  mulf (broadcastInDim S3538944x2 ![0, 1] bcast_S3538944x1_S3538944x2_0_1 (broadcastInDim S3538944x1 ![0] bcast_S3538944_S3538944x1_0 (mulf (mulf u v) w)))
    (takeT xf (cornT x y z))

/-- The distance up to the upper grid line, down to the lower one, and between the two. -/
def abvT (p : FVec F S3538944 .f32) : FVec F S3538944 .f32 := subf (sitofp .f32 (uppT p)) p
def blwT (p : FVec F S3538944 .f32) : FVec F S3538944 .f32 := subf p (sitofp .f32 (lowT p))
def spnT (p : FVec F S3538944 .f32) : FVec F S3538944 .f32 := subf (sitofp .f32 (uppT p)) (sitofp .f32 (lowT p))

/-- The samples of every point. -/
def sampT (xf : FVec F S3538944x2 .f32) (xp yp zp : FVec F S3538944 .f32) : FVec F S3538944x2 .f32 :=
  addf (addf (addf (addf (addf (addf (addf
    (termT xf (abvT xp) (abvT yp) (abvT zp) (lowT xp) (lowT yp) (lowT zp))
    (termT xf (abvT xp) (blwT yp) (abvT zp) (lowT xp) (uppT yp) (lowT zp)))
    (termT xf (blwT xp) (abvT yp) (abvT zp) (uppT xp) (lowT yp) (lowT zp)))
    (termT xf (blwT xp) (blwT yp) (abvT zp) (uppT xp) (uppT yp) (lowT zp)))
    (termT xf (abvT xp) (abvT yp) (spnT zp) (lowT xp) (lowT yp) (uppT zp)))
    (termT xf (abvT xp) (blwT yp) (spnT zp) (lowT xp) (uppT yp) (uppT zp)))
    (termT xf (blwT xp) (abvT yp) (spnT zp) (uppT xp) (lowT yp) (uppT zp)))
    (termT xf (blwT xp) (blwT yp) (spnT zp) (uppT xp) (uppT yp) (uppT zp))

/-- The lattice's equally spaced points. -/
def spacedT : FVec F S96 .f32 :=
  concatenate S96 0 [⟨S95, addf
      (mulf (broadcastInDim S95 ![0] bcast_S1_S95_0 (shapeCast S1 (id (constant (F := F) S_ .f32 0xBF800000#32)) shapeCasts_S_S1))
        (subf (broadcastInDim S95 ![] bcast_S_S95 (constant S_ .f32 0x3F800000#32)) (Host.divf (sitofp .f32 (iotaInDim S95 32 0)) (broadcastInDim S95 ![] bcast_S_S95 (constant S_ .f32 0x42BE0000#32)))))
      (mulf (broadcastInDim S95 ![0] bcast_S1_S95_0 (shapeCast S1 (id (constant (F := F) S_ .f32 0x3F800000#32)) shapeCasts_S_S1))
        (Host.divf (sitofp .f32 (iotaInDim S95 32 0)) (broadcastInDim S95 ![] bcast_S_S95 (constant S_ .f32 0x42BE0000#32))))⟩,
    ⟨S1, broadcastInDim S1 ![] bcast_S_S1 (id (constant (F := F) S_ .f32 0x3F800000#32))⟩] concatenates_S95_S1_S96_d0

/-- The homogeneous coordinates of every point of the lattice. -/
def homT : FVec F S3538944 .f32 :=
  concatenate S3538944 0 [⟨S884736, shapeCast S884736 (broadcastInDim S96x96x96 ![1] bcast_S96_S96x96x96_1 spacedT) shapeCasts_S96x96x96_S884736⟩,
    ⟨S884736, shapeCast S884736 (broadcastInDim S96x96x96 ![0] bcast_S96_S96x96x96_0 spacedT) shapeCasts_S96x96x96_S884736⟩,
    ⟨S884736, shapeCast S884736 (broadcastInDim S96x96x96 ![2] bcast_S96_S96x96x96_2 spacedT) shapeCasts_S96x96x96_S884736⟩,
    ⟨S884736, broadcastInDim S884736 ![] bcast_S_S884736 (constant S_ .f32 0x3F800000#32)⟩] concatenates_S884736_S884736_S884736_S884736_S3538944_d0
def gridT : FVec F S4x4x884736 .f32 :=
  shapeCast S4x4x884736 (shapeCast S14155776 (broadcastInDim S4x3538944 ![0, 1] bcast_S1x3538944_S4x3538944_0_1 (shapeCast S1x3538944 (homT (F := F)) shapeCasts_S3538944_S1x3538944))
    shapeCasts_S4x3538944_S14155776) shapeCasts_S14155776_S4x4x884736
/-- The transformed lattice. -/
def movedT (θ : FVec F S4x3x4 .f32) : FVec F S4x3x884736 .f32 := Host.dotGeneral dot_S4x3x4_S4x4x884736_S4x3x884736_2_1_1_2_0_0 none θ gridT
def axisT (θ : FVec F S4x3x4 .f32) (u : Nat) (h : S4x3x884736.Slices ![0, u, 0] S4x1x884736) : FVec F S3538944 .f32 :=
  pixT (shapeCast S3538944 (shapeCast S4x884736 (extractStridedSlice S4x1x884736 ![0, u, 0] (movedT θ) h) shapeCasts_S4x1x884736_S4x884736) shapeCasts_S4x884736_S3538944)

def axX (θ : FVec F S4x3x4 .f32) := axisT θ 0 slices_S4x3x884736_S4x1x884736_0_0_0
def axY (θ : FVec F S4x3x4 .f32) := axisT θ 1 slices_S4x3x884736_S4x1x884736_0_1_0
def axZ (θ : FVec F S4x3x4 .f32) := axisT θ 2 slices_S4x3x884736_S4x1x884736_0_2_0

/-- The whole reference. -/
def refT (x : FVec F S4x96x96x96x2 .f32) (θ : FVec F S4x3x4 .f32) : FVec F S4x96x96x96x2 .f32 :=
  shapeCast S4x96x96x96x2 (sampT (shapeCast S3538944x2 x shapeCasts_S4x96x96x96x2_S3538944x2) (axX θ) (axY θ) (axZ θ)) shapeCasts_S3538944x2_S4x96x96x96x2

/-! ## The reference is the pieces -/

section Pieces

variable (V : Valuation τ sig (Elt F))

abbrev argX : FVec F S4x96x96x96x2 .f32 := V (Proc.devRef .tc main_arg0)
abbrev argT : FVec F S4x3x4 .f32 := V (Proc.devRef .tc main_arg1)

theorem v15_eq : Value.res_main_v15 V = movedT (argT V) := rfl
theorem v30_eq : Value.res_main_v30 V = axX (argT V) := by
  unfold Value.res_main_v30; rw [v15_eq]; rfl
theorem v36_eq : Value.res_main_v36 V = axY (argT V) := by
  unfold Value.res_main_v36; rw [v15_eq]; rfl
theorem v42_eq : Value.res_main_v42 V = axZ (argT V) := by
  unfold Value.res_main_v42; rw [v15_eq]; rfl
theorem v44_eq : Value.res_main_v44 V = flT (axX (argT V)) := by
  unfold Value.res_main_v44; rw [v30_eq]; rfl
theorem v48_eq : Value.res_main_v48 V = flT (axY (argT V)) := by
  unfold Value.res_main_v48; rw [v36_eq]; rfl
theorem v52_eq : Value.res_main_v52 V = flT (axZ (argT V)) := by
  unfold Value.res_main_v52; rw [v42_eq]; rfl
theorem v55_eq : Value.res_main_v55 V = lowT (axX (argT V)) := by
  unfold Value.res_main_v55; rw [v44_eq]; rfl
theorem v56_eq : Value.res_main_v56 V = uppT (axX (argT V)) := by
  unfold Value.res_main_v56; rw [v44_eq]; rfl
theorem v57_eq : Value.res_main_v57 V = lowT (axY (argT V)) := by
  unfold Value.res_main_v57; rw [v48_eq]; rfl
theorem v58_eq : Value.res_main_v58 V = uppT (axY (argT V)) := by
  unfold Value.res_main_v58; rw [v48_eq]; rfl
theorem v59_eq : Value.res_main_v59 V = lowT (axZ (argT V)) := by
  unfold Value.res_main_v59; rw [v52_eq]; rfl
theorem v60_eq : Value.res_main_v60 V = uppT (axZ (argT V)) := by
  unfold Value.res_main_v60; rw [v52_eq]; rfl
theorem v98_eq : Value.res_main_v98 V = cornT (lowT (axX (argT V))) (lowT (axY (argT V))) (lowT (axZ (argT V))) := by
  unfold Value.res_main_v98 Value.res_main_v73; rw [v55_eq, v57_eq, v59_eq]; rfl
theorem v99_eq : Value.res_main_v99 V = cornT (lowT (axX (argT V))) (uppT (axY (argT V))) (lowT (axZ (argT V))) := by
  unfold Value.res_main_v99 Value.res_main_v81; rw [v55_eq, v58_eq, v59_eq]; rfl
theorem v100_eq : Value.res_main_v100 V = cornT (uppT (axX (argT V))) (lowT (axY (argT V))) (lowT (axZ (argT V))) := by
  unfold Value.res_main_v100 Value.res_main_v73; rw [v56_eq, v57_eq, v59_eq]; rfl
theorem v101_eq : Value.res_main_v101 V = cornT (uppT (axX (argT V))) (uppT (axY (argT V))) (lowT (axZ (argT V))) := by
  unfold Value.res_main_v101 Value.res_main_v81; rw [v56_eq, v58_eq, v59_eq]; rfl
theorem v102_eq : Value.res_main_v102 V = cornT (lowT (axX (argT V))) (lowT (axY (argT V))) (uppT (axZ (argT V))) := by
  unfold Value.res_main_v102 Value.res_main_v89; rw [v55_eq, v57_eq, v60_eq]; rfl
theorem v103_eq : Value.res_main_v103 V = cornT (lowT (axX (argT V))) (uppT (axY (argT V))) (uppT (axZ (argT V))) := by
  unfold Value.res_main_v103 Value.res_main_v97; rw [v55_eq, v58_eq, v60_eq]; rfl
theorem v104_eq : Value.res_main_v104 V = cornT (uppT (axX (argT V))) (lowT (axY (argT V))) (uppT (axZ (argT V))) := by
  unfold Value.res_main_v104 Value.res_main_v89; rw [v56_eq, v57_eq, v60_eq]; rfl
theorem v105_eq : Value.res_main_v105 V = cornT (uppT (axX (argT V))) (uppT (axY (argT V))) (uppT (axZ (argT V))) := by
  unfold Value.res_main_v105 Value.res_main_v97; rw [v56_eq, v58_eq, v60_eq]; rfl
theorem c9_eq : Value.res_main_call9_v5 V = wrapT (cornT (lowT (axX (argT V))) (lowT (axY (argT V))) (lowT (axZ (argT V)))) := by
  unfold Value.res_main_call9_v5; rw [v98_eq]; rfl
theorem c10_eq : Value.res_main_call10_v5 V = wrapT (cornT (lowT (axX (argT V))) (uppT (axY (argT V))) (lowT (axZ (argT V)))) := by
  unfold Value.res_main_call10_v5; rw [v99_eq]; rfl
theorem c11_eq : Value.res_main_call11_v5 V = wrapT (cornT (uppT (axX (argT V))) (lowT (axY (argT V))) (lowT (axZ (argT V)))) := by
  unfold Value.res_main_call11_v5; rw [v100_eq]; rfl
theorem c12_eq : Value.res_main_call12_v5 V = wrapT (cornT (uppT (axX (argT V))) (uppT (axY (argT V))) (lowT (axZ (argT V)))) := by
  unfold Value.res_main_call12_v5; rw [v101_eq]; rfl
theorem c13_eq : Value.res_main_call13_v5 V = wrapT (cornT (lowT (axX (argT V))) (lowT (axY (argT V))) (uppT (axZ (argT V)))) := by
  unfold Value.res_main_call13_v5; rw [v102_eq]; rfl
theorem c14_eq : Value.res_main_call14_v5 V = wrapT (cornT (lowT (axX (argT V))) (uppT (axY (argT V))) (uppT (axZ (argT V)))) := by
  unfold Value.res_main_call14_v5; rw [v103_eq]; rfl
theorem c15_eq : Value.res_main_call15_v5 V = wrapT (cornT (uppT (axX (argT V))) (lowT (axY (argT V))) (uppT (axZ (argT V)))) := by
  unfold Value.res_main_call15_v5; rw [v104_eq]; rfl
theorem c16_eq : Value.res_main_call16_v5 V = wrapT (cornT (uppT (axX (argT V))) (uppT (axY (argT V))) (uppT (axZ (argT V)))) := by
  unfold Value.res_main_call16_v5; rw [v105_eq]; rfl
theorem v115_eq : Value.res_main_v115 V = sitofp .f32 (lowT (axX (argT V))) := by
  unfold Value.res_main_v115; rw [v55_eq]
theorem v116_eq : Value.res_main_v116 V = sitofp .f32 (uppT (axX (argT V))) := by
  unfold Value.res_main_v116; rw [v56_eq]
theorem v117_eq : Value.res_main_v117 V = sitofp .f32 (lowT (axY (argT V))) := by
  unfold Value.res_main_v117; rw [v57_eq]
theorem v118_eq : Value.res_main_v118 V = sitofp .f32 (uppT (axY (argT V))) := by
  unfold Value.res_main_v118; rw [v58_eq]
theorem v119_eq : Value.res_main_v119 V = sitofp .f32 (lowT (axZ (argT V))) := by
  unfold Value.res_main_v119; rw [v59_eq]
theorem v120_eq : Value.res_main_v120 V = sitofp .f32 (uppT (axZ (argT V))) := by
  unfold Value.res_main_v120; rw [v60_eq]

end Pieces

set_option maxHeartbeats 2000000 in
/-- The reference runs to its end and leaves `refT` of its arguments. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192) = refT (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      unfold Value.res_main_v182
      rw [c9_eq, c10_eq, c11_eq, c12_eq, c13_eq, c14_eq, c15_eq, c16_eq, v115_eq, v116_eq, v117_eq, v118_eq, v119_eq, v120_eq, v30_eq, v36_eq, v42_eq]
      rfl), (h c).2⟩) (Value.run m ρ)

/-! ## At a point -/

theorem clT_lt (v : IVec S3538944 32) (i : S3538944.Idx) : (clT v i).toNat < 96 := by
  show (IntOp.minsi 95#32 (IntOp.maxsi 0#32 (v i))).toNat < 96
  generalize v i = w
  unfold IntOp.minsi IntOp.maxsi
  simp only [BitVec.slt, decide_eq_true_eq]
  rw [show (0#32).toInt = 0 from rfl, show (95#32).toInt = 95 from rfl]
  by_cases h : w.toInt < 0
  · rw [if_pos h]; decide
  · rw [if_neg h]
    by_cases h' : 95 < w.toInt
    · rw [if_pos h']; decide
    · rw [if_neg h']; rw [BitVec.toInt_eq_toNat_cond] at h h'; split at h <;> simp_all <;> omega

theorem lowT_lt (p : FVec F S3538944 .f32) (i : S3538944.Idx) : (lowT p i).toNat < 96 := clT_lt _ i
theorem uppT_lt (p : FVec F S3538944 .f32) (i : S3538944.Idx) : (uppT p i).toNat < 96 := clT_lt _ i

/-- The grid line a word names. -/
abbrev gln (v : BitVec 32) : Fin 96 := Fin.ofNat 96 v.toNat

theorem baseT_at (b : Fin 4) (a j k : Fin 96) : baseT (ix1 (pt b a j k)) = BitVec.ofNat 32 b.val * 884736#32 := by
  unfold baseT
  rw [cast_pt, bc_img]
  rfl

theorem cornT_at (x y z : IVec S3538944 32) (hx : ∀ i, (x i).toNat < 96) (hy : ∀ i, (y i).toNat < 96) (hz : ∀ i, (z i).toNat < 96) (b : Fin 4) (a j k : Fin 96) :
    (cornT x y z (ix1 (pt b a j k))).toNat
      = (pt b (gln (z (ix1 (pt b a j k)))) (gln (y (ix1 (pt b a j k)))) (gln (x (ix1 (pt b a j k))))).val := by
  have h1 := hx (ix1 (pt b a j k)); have h2 := hy (ix1 (pt b a j k)); have h3 := hz (ix1 (pt b a j k)); have h4 := b.isLt
  show (baseT (ix1 (pt b a j k)) + y (ix1 (pt b a j k)) * 96#32 + z (ix1 (pt b a j k)) * 96#32 * 96#32 + x (ix1 (pt b a j k))).toNat
    = ((b.val * 96 + (z (ix1 (pt b a j k))).toNat % 96) * 96 + (y (ix1 (pt b a j k))).toNat % 96) * 96 + (x (ix1 (pt b a j k))).toNat % 96
  rw [baseT_at]
  generalize x (ix1 (pt b a j k)) = xw at *
  generalize y (ix1 (pt b a j k)) = yw at *
  generalize z (ix1 (pt b a j k)) = zw at *
  have e0 : (BitVec.ofNat 32 b.val * 884736#32).toNat = b.val * 884736 := by
    rw [BitVec.toNat_mul, BitVec.toNat_ofNat, BitVec.toNat_ofNat]; omega
  have e1 : (yw * 96#32).toNat = yw.toNat * 96 := by rw [BitVec.toNat_mul, BitVec.toNat_ofNat]; omega
  have e2 : (zw * 96#32).toNat = zw.toNat * 96 := by rw [BitVec.toNat_mul, BitVec.toNat_ofNat]; omega
  have e3 : (zw * 96#32 * 96#32).toNat = zw.toNat * 9216 := by rw [BitVec.toNat_mul, e2, BitVec.toNat_ofNat]; omega
  have e4 : (BitVec.ofNat 32 b.val * 884736#32 + yw * 96#32).toNat = b.val * 884736 + yw.toNat * 96 := by
    rw [BitVec.toNat_add, e0, e1]; exact Nat.mod_eq_of_lt (by omega)
  have e5 : (BitVec.ofNat 32 b.val * 884736#32 + yw * 96#32 + zw * 96#32 * 96#32).toNat = b.val * 884736 + yw.toNat * 96 + zw.toNat * 9216 := by
    rw [BitVec.toNat_add, e4, e3]; exact Nat.mod_eq_of_lt (by omega)
  rw [BitVec.toNat_add, e5, Nat.mod_eq_of_lt h1, Nat.mod_eq_of_lt h2, Nat.mod_eq_of_lt h3, Nat.mod_eq_of_lt (by omega)]
  omega

theorem cornT_lt (x y z : IVec S3538944 32) (hx : ∀ i, (x i).toNat < 96) (hy : ∀ i, (y i).toNat < 96) (hz : ∀ i, (z i).toNat < 96) (p : Fin 3538944) :
    (cornT x y z (ix1 p)).toNat < 3538944 := by
  obtain ⟨b, a, j, k, rfl⟩ := pt_surj p
  rw [cornT_at x y z hx hy hz]
  exact Fin.isLt _

theorem termT_at (x : FVec F S4x96x96x96x2 .f32) (u v w : FVec F S3538944 .f32) (xw yw zw : IVec S3538944 32) (hx : ∀ i, (xw i).toNat < 96) (hy : ∀ i, (yw i).toNat < 96) (hz : ∀ i, (zw i).toNat < 96)
    (b : Fin 4) (a j k : Fin 96) (c : Fin 2) :
    termT (shapeCast S3538944x2 x shapeCasts_S4x96x96x96x2_S3538944x2) u v w xw yw zw (ix2 (pt b a j k) c)
      = FloatOps.mulf (FloatOps.mulf (FloatOps.mulf (u (ix1 (pt b a j k))) (v (ix1 (pt b a j k)))) (w (ix1 (pt b a j k))))
        (x (ix5 b (gln (zw (ix1 (pt b a j k)))) (gln (yw (ix1 (pt b a j k)))) (gln (xw (ix1 (pt b a j k)))) c)) := by
  have eM : ∀ (x y : FVec F S3538944x2 .f32) i, mulf x y i = FloatOps.mulf (x i) (y i) := fun _ _ _ => rfl
  have eN : ∀ (x y : FVec F S3538944 .f32) i, mulf x y i = FloatOps.mulf (x i) (y i) := fun _ _ _ => rfl
  unfold termT
  rw [eM, bc_pt12, bc_pt1, eN, eN, takeT_at _ _ (cornT_lt xw yw zw hx hy hz) _ _ c (cornT_at xw yw zw hx hy hz b a j k), cast_in]

theorem sampT_at (x : FVec F S4x96x96x96x2 .f32) (xp yp zp : FVec F S3538944 .f32) (b : Fin 4) (a j k : Fin 96) (c : Fin 2) (p q r : F .f32)
    (hp : xp (ix1 (pt b a j k)) = p) (hq : yp (ix1 (pt b a j k)) = q) (hr : zp (ix1 (pt b a j k)) = r) (xl xh yl yh zl zh : BitVec 32)
    (hxl : lowT xp (ix1 (pt b a j k)) = xl) (hxh : uppT xp (ix1 (pt b a j k)) = xh) (hyl : lowT yp (ix1 (pt b a j k)) = yl) (hyh : uppT yp (ix1 (pt b a j k)) = yh)
    (hzl : lowT zp (ix1 (pt b a j k)) = zl) (hzh : uppT zp (ix1 (pt b a j k)) = zh) :
    sampT (shapeCast S3538944x2 x shapeCasts_S4x96x96x96x2_S3538944x2) xp yp zp (ix2 (pt b a j k) c)
      = FloatOps.addf (FloatOps.addf (FloatOps.addf (FloatOps.addf (FloatOps.addf (FloatOps.addf (FloatOps.addf
        (FloatOps.mulf (FloatOps.mulf (FloatOps.mulf (FloatOps.subf (FloatOps.sitofp .f32 xh) p) (FloatOps.subf (FloatOps.sitofp .f32 yh) q)) (FloatOps.subf (FloatOps.sitofp .f32 zh) r)) (x (ix5 b (gln zl) (gln yl) (gln xl) c)))
        (FloatOps.mulf (FloatOps.mulf (FloatOps.mulf (FloatOps.subf (FloatOps.sitofp .f32 xh) p) (FloatOps.subf q (FloatOps.sitofp .f32 yl))) (FloatOps.subf (FloatOps.sitofp .f32 zh) r)) (x (ix5 b (gln zl) (gln yh) (gln xl) c))))
        (FloatOps.mulf (FloatOps.mulf (FloatOps.mulf (FloatOps.subf p (FloatOps.sitofp .f32 xl)) (FloatOps.subf (FloatOps.sitofp .f32 yh) q)) (FloatOps.subf (FloatOps.sitofp .f32 zh) r)) (x (ix5 b (gln zl) (gln yl) (gln xh) c))))
        (FloatOps.mulf (FloatOps.mulf (FloatOps.mulf (FloatOps.subf p (FloatOps.sitofp .f32 xl)) (FloatOps.subf q (FloatOps.sitofp .f32 yl))) (FloatOps.subf (FloatOps.sitofp .f32 zh) r)) (x (ix5 b (gln zl) (gln yh) (gln xh) c))))
        (FloatOps.mulf (FloatOps.mulf (FloatOps.mulf (FloatOps.subf (FloatOps.sitofp .f32 xh) p) (FloatOps.subf (FloatOps.sitofp .f32 yh) q)) (FloatOps.subf (FloatOps.sitofp .f32 zh) (FloatOps.sitofp .f32 zl))) (x (ix5 b (gln zh) (gln yl) (gln xl) c))))
        (FloatOps.mulf (FloatOps.mulf (FloatOps.mulf (FloatOps.subf (FloatOps.sitofp .f32 xh) p) (FloatOps.subf q (FloatOps.sitofp .f32 yl))) (FloatOps.subf (FloatOps.sitofp .f32 zh) (FloatOps.sitofp .f32 zl))) (x (ix5 b (gln zh) (gln yh) (gln xl) c))))
        (FloatOps.mulf (FloatOps.mulf (FloatOps.mulf (FloatOps.subf p (FloatOps.sitofp .f32 xl)) (FloatOps.subf (FloatOps.sitofp .f32 yh) q)) (FloatOps.subf (FloatOps.sitofp .f32 zh) (FloatOps.sitofp .f32 zl))) (x (ix5 b (gln zh) (gln yl) (gln xh) c))))
        (FloatOps.mulf (FloatOps.mulf (FloatOps.mulf (FloatOps.subf p (FloatOps.sitofp .f32 xl)) (FloatOps.subf q (FloatOps.sitofp .f32 yl))) (FloatOps.subf (FloatOps.sitofp .f32 zh) (FloatOps.sitofp .f32 zl))) (x (ix5 b (gln zh) (gln yh) (gln xh) c))) := by
  have eA : ∀ (x y : FVec F S3538944x2 .f32) i, addf x y i = FloatOps.addf (x i) (y i) := fun _ _ _ => rfl
  have eU : ∀ (p : FVec F S3538944 .f32) i, abvT p i = FloatOps.subf (FloatOps.sitofp .f32 (uppT p i)) (p i) := fun _ _ => rfl
  have eL : ∀ (p : FVec F S3538944 .f32) i, blwT p i = FloatOps.subf (p i) (FloatOps.sitofp .f32 (lowT p i)) := fun _ _ => rfl
  have eS : ∀ (p : FVec F S3538944 .f32) i, spnT p i = FloatOps.subf (FloatOps.sitofp .f32 (uppT p i)) (FloatOps.sitofp .f32 (lowT p i)) := fun _ _ => rfl
  unfold sampT
  simp only [eA]
  rw [termT_at x _ _ _ _ _ _ (lowT_lt xp) (lowT_lt yp) (lowT_lt zp), termT_at x _ _ _ _ _ _ (lowT_lt xp) (uppT_lt yp) (lowT_lt zp),
    termT_at x _ _ _ _ _ _ (uppT_lt xp) (lowT_lt yp) (lowT_lt zp), termT_at x _ _ _ _ _ _ (uppT_lt xp) (uppT_lt yp) (lowT_lt zp),
    termT_at x _ _ _ _ _ _ (lowT_lt xp) (lowT_lt yp) (uppT_lt zp), termT_at x _ _ _ _ _ _ (lowT_lt xp) (uppT_lt yp) (uppT_lt zp),
    termT_at x _ _ _ _ _ _ (uppT_lt xp) (lowT_lt yp) (uppT_lt zp), termT_at x _ _ _ _ _ _ (uppT_lt xp) (uppT_lt yp) (uppT_lt zp)]
  rw [eU, eU, eU, eL, eL, eS, hxl, hxh, hyl, hyh, hzl, hzh, hp, hq, hr]

end Cert.ReferenceIdeal.Rd
-- ==== Proof.Value.lean ====
/-
  Over the extended reals, the result the kernel leaves is the reference's, wherever no pixel coordinate is below −2³¹.
-/
module

public import proofs.«01_k».proof.Proof.Ref
public import proofs.«01_k».proof.Proof.Flo
public import proofs.«01_k».proof.Proof.HostVal
public import Idealize.ShloMosaic.Lib.Pointwise.Reshape
public import Idealize.ShloMosaic.Lib.StackMember

@[expose] public section

set_option maxRecDepth 8192

noncomputable section

namespace Cert.KernelIdeal.Stn

open Cert.KernelIdeal Cert.KernelIdeal.Gen
open Idealize.ShloMosaic
open Cert.ReferenceIdeal.Rd

/-! ## The arguments -/

theorem coefs_at (θ : FVec Ideal S4x3x4 .f32) (b : Fin 4) (u : Fin 3) (n : Fin 4) : coefsV θ (ix2 b (cfi u n)) = θ (ix3 b u n) := by
  have hu := u.isLt; have hn := n.isLt
  unfold coefsV
  refine (concatenate_apply_piece (t := S4x16) (1 : Fin 2) _ _ (ix2 b (cfi u n)) 0 (by show 0 < 2; omega) S4x12 _ rfl rfl 0 rfl (ix2 b (⟨4 * u.val + n.val, by omega⟩ : Fin 12)) ?_ ?_).trans ?_
  · intro c hc
    fin_cases c
    · rfl
    · exact absurd rfl hc
  · show 0 + (4 * u.val + n.val) = 4 * u.val + n.val; omega
  · exact congrArg θ (Shape.reshapeEquiv_eq_of_vals (s := S4x3x4) (s' := S4x12) _ _ _ ((b.val * 3 + u.val) * 4 + n.val) (b.val * 12 + (4 * u.val + n.val))
      (Shape.rowMajor_val_three _) (Shape.rowMajor_val_two _) (by omega))

theorem lat_at (j : Fin 96) : lat1 (latV (F := Ideal)) j = linV (F := Ideal) (ix1 j) := by
  unfold lat1 latV
  refine (concatenate_apply_piece (t := S112) (0 : Fin 1) _ _ (ix1 (⟨j.val, by omega⟩ : Fin 112)) 0 (by show 0 < 2; omega) S96 _ rfl rfl 0 rfl (ix1 j) ?_ ?_).trans ?_
  · intro c hc
    fin_cases c
    exact absurd rfl hc
  · show 0 + j.val = j.val; omega
  · rfl

theorem spaced_eq : spacedT (F := Ideal) = linV (F := Ideal) := rfl

/-! ## The pixel coordinates -/

theorem grid_at (b c : Fin 4) (a j k : Fin 96) : gridT (F := Ideal) (ix3 b c (pq a j k))
    = (![linV (F := Ideal) (ix1 j), linV (F := Ideal) (ix1 a), linV (F := Ideal) (ix1 k), (1 : EReal)] : Fin 4 → EReal) c := by
  unfold gridT
  rw [grid_flat]
  unfold homT
  have one : (broadcastInDim Cert.ReferenceIdeal.S884736 ![] Cert.ReferenceIdeal.Gen.bcast_S_S884736 (constant (F := Ideal) Cert.ReferenceIdeal.S_ .f32 0x3F800000#32)) (ix1 (pq a j k)) = (1 : EReal) := by
    show Ideal.ofBits .f32 0x3F800000#32 = _
    exact Ideal.ofBits_one_f32
  fin_cases c
  · exact (four_at _ _ _ _ _ 0 (pq a j k) _ rfl _ rfl).trans ((lat_j _ _ _ a j k).trans (congrFun spaced_eq _))
  · exact (four_at _ _ _ _ _ 1 (pq a j k) _ rfl _ rfl).trans ((lat_a _ _ _ a j k).trans (congrFun spaced_eq _))
  · exact (four_at _ _ _ _ _ 2 (pq a j k) _ rfl _ rfl).trans ((lat_k _ _ _ a j k).trans (congrFun spaced_eq _))
  · exact (four_at _ _ _ _ _ 3 (pq a j k) _ rfl _ rfl).trans one

theorem moved_at (θ : FVec Ideal S4x3x4 .f32) (b : Fin 4) (u : Fin 3) (a j k : Fin 96) :
    movedT θ (ix3 b u (pq a j k)) = (θ (ix3 b u 0) : EReal) * linV (F := Ideal) (ix1 j) + (θ (ix3 b u 1) : EReal) * linV (F := Ideal) (ix1 a)
      + (θ (ix3 b u 2) : EReal) * linV (F := Ideal) (ix1 k) + (θ (ix3 b u 3) : EReal) := by
  refine (StackMember.dotGeneral_stack_apply (G := 4) (m := 3) (n := 884736) (k := 4) (φ₁ := .f32) (φ₂ := .f32)
    Cert.ReferenceIdeal.Gen.dot_S4x3x4_S4x4x884736_S4x3x884736_2_1_1_2_0_0_wf none θ (gridT (F := Ideal)) b u (pq a j k)).trans ?_
  rw [Fin.sum_univ_four]
  refine congr (congrArg HAdd.hAdd (congr (congrArg HAdd.hAdd (congr (congrArg HAdd.hAdd ?_) ?_)) ?_)) ?_
  · exact congrArg (fun t : EReal => (θ (ix3 b u 0) : EReal) * t) (grid_at b 0 a j k)
  · exact congrArg (fun t : EReal => (θ (ix3 b u 1) : EReal) * t) (grid_at b 1 a j k)
  · exact congrArg (fun t : EReal => (θ (ix3 b u 2) : EReal) * t) (grid_at b 2 a j k)
  · exact (congrArg (fun t : EReal => (θ (ix3 b u 3) : EReal) * t) (grid_at b 3 a j k)).trans (mul_one _)

/-- The kernel's order of the same sums and products. -/
theorem crd_ideal (cf : FVec Ideal S4x16 .f32) (lat : FVec Ideal S112 .f32) (b : Fin 4) (u : Fin 3) (a k j : Fin 96) :
    crd cf lat b u a k j = ((((lat1 lat j : EReal) * (cf (ix2 b (cfi u 0)) : EReal) + (cf (ix2 b (cfi u 1)) : EReal) * (lat1 lat a : EReal)
      + (cf (ix2 b (cfi u 2)) : EReal) * (lat1 lat k : EReal) + (cf (ix2 b (cfi u 3)) : EReal)) + Ideal.ofBits .f32 0x3F800000#32) * Ideal.ofBits .f32 0x3F000000#32) * Ideal.ofBits .f32 0x42C00000#32 := rfl

theorem pix_ideal (n : FVec Ideal Cert.ReferenceIdeal.S3538944 .f32) (p : Fin 3538944) :
    pixT n (ix1 p) = ((Ideal.ofBits .f32 0x3F000000#32 : EReal) * ((n (ix1 p) : EReal) + Ideal.ofBits .f32 0x3F800000#32)) * Ideal.ofBits .f32 0x42C00000#32 := rfl

theorem axis_at (θ : FVec Ideal S4x3x4 .f32) (u : Fin 3) (h : Cert.ReferenceIdeal.S4x3x884736.Slices ![0, u.val, 0] Cert.ReferenceIdeal.S4x1x884736) (b : Fin 4) (a j k : Fin 96) :
    axisT θ u.val h (ix1 (pt b a j k)) = crd (coefsV θ) latV b u a k j := by
  unfold axisT
  rw [pix_ideal, cast_pt, cast_mid, slice_u u h, moved_at, crd_ideal, coefs_at, coefs_at, coefs_at, coefs_at, lat_at, lat_at, lat_at,
    mul_comm (Ideal.ofBits .f32 0x3F000000#32 : EReal), mul_comm (θ (ix3 b u 0) : EReal)]

/-! ## The grid lines -/

theorem cl_eq (v : IVec Cert.ReferenceIdeal.S3538944 32) (i : Cert.ReferenceIdeal.S3538944.Idx) : clT v i = clip1 (v i) := by
  show IntOp.minsi 95#32 (IntOp.maxsi 0#32 (v i)) = IntOp.minsi (IntOp.maxsi (v i) 0#32) 95#32
  generalize v i = w
  unfold IntOp.minsi IntOp.maxsi
  simp only [BitVec.slt, decide_eq_true_eq]
  rw [show (0#32).toInt = 0 from rfl, show (95#32).toInt = 95 from rfl]
  by_cases h1 : w.toInt < 0
  · rw [if_pos h1, if_neg (show ¬ 0 < w.toInt by omega)]; decide
  · rw [if_neg h1]
    by_cases h2 : 0 < w.toInt
    · rw [if_pos h2]
      by_cases h3 : 95 < w.toInt
      · rw [if_pos h3, if_neg (show ¬ w.toInt < 95 by omega)]
      · rw [if_neg h3]
        by_cases h4 : w.toInt < 95
        · rw [if_pos h4]
        · rw [if_neg h4]; exact BitVec.eq_of_toInt_eq (by show w.toInt = 95; omega)
    · obtain rfl : w = 0#32 := BitVec.eq_of_toInt_eq (by show w.toInt = 0; omega)
      decide

theorem low_eq (p : FVec Ideal Cert.ReferenceIdeal.S3538944 .f32) (i : Cert.ReferenceIdeal.S3538944.Idx) (r : Ideal .f32) (hr : p i = r) (h : ((-2147483648 : ℝ) : EReal) ≤ r) :
    lowT p i = lo1 r := by
  subst hr
  unfold lowT
  rw [cl_eq, lo1_flo, flo1_ideal _ h]
  rfl
theorem upp_eq (p : FVec Ideal Cert.ReferenceIdeal.S3538944 .f32) (i : Cert.ReferenceIdeal.S3538944.Idx) (r : Ideal .f32) (hr : p i = r) (h : ((-2147483648 : ℝ) : EReal) ≤ r) :
    uppT p i = hi1 r := by
  subst hr
  unfold uppT
  rw [cl_eq, hi1_flo, flo1_ideal _ h]
  rfl

/-! ## The samples -/

theorem mulf_assoc (x y z : Ideal .f32) : FloatOps.mulf x (FloatOps.mulf y z) = FloatOps.mulf (FloatOps.mulf x y) z := (mul_assoc (x : EReal) y z).symm

/-- The distance of two grid lines, as a difference of numbers. -/
theorem gap_eq (v w : BitVec 32) (hv : v.toNat < 96) (hw : w.toNat < 96) :
    FloatOps.sitofp (F := Ideal) .f32 (v - w) = FloatOps.subf (FloatOps.sitofp .f32 v) (FloatOps.sitofp .f32 w) := by
  have e : (v - w).toInt = v.toInt - w.toInt := by
    rw [BitVec.toInt_sub, BitVec.toInt_eq_toNat_cond, BitVec.toInt_eq_toNat_cond, if_pos (by omega), if_pos (by omega)]
    exact Int.bmod_eq_of_le (by omega) (by omega)
  show ((((v - w).toInt : ℝ)) : EReal) = (((v.toInt : ℝ)) : EReal) - (((w.toInt : ℝ)) : EReal)
  rw [e, ← EReal.coe_sub]
  push_cast
  rfl

theorem x1_at (x : FVec Ideal S4x96x96x96x2 .f32) (b : Fin 4) (z y w : Fin 96) (c : Fin 2) : x1V x (ix5 b z y c w) = x (ix5 b z y w c) := by
  unfold x1V transpose
  congr 1; funext t; apply Fin.ext; fin_cases t <;> rfl

theorem out_at (y : FVec Ideal S36864x2x96 .f32) (b : Fin 4) (a j k : Fin 96) (c : Fin 2) :
    outV y (ix5 b a j k c) = y (ix3 (⟨(b.val * 96 + a.val) * 96 + j.val, by have := b.isLt; have := a.isLt; have := j.isLt; omega⟩ : Fin 36864) c k) := by
  unfold outV
  have e : ∀ v : FVec Ideal S4x96x96x2x96 .f32, transpose S4x96x96x96x2 [0, 1, 2, 4, 3] v transposes_S4x96x96x2x96_S4x96x96x96x2_0_1_2_4_3 (ix5 b a j k c) = v (ix5 b a j c k) := by
    intro v; unfold transpose; congr 1; funext t; apply Fin.ext; fin_cases t <;> rfl
  rw [e]
  exact congrArg y (Shape.reshapeEquiv_eq_of_vals (s := S36864x2x96) (s' := S4x96x96x2x96) _ _ _ ((((b.val * 96 + a.val) * 96 + j.val) * 2 + c.val) * 96 + k.val)
    ((((b.val * 96 + a.val) * 96 + j.val) * 2 + c.val) * 96 + k.val) (Shape.rowMajor_val_three _) (Shape.rowMajor_val_five _) rfl)

theorem outV5_at (x : FVec Ideal S4x96x96x2x96 .f32) (cf : FVec Ideal S4x16 .f32) (lat : FVec Ideal S112 .f32) (b : Fin 4) (a j k : Fin 96) (c : Fin 2) (h : (b.val * 96 + a.val) * 96 + j.val < 36864) :
    outV5 x cf lat (ix3 (⟨(b.val * 96 + a.val) * 96 + j.val, h⟩ : Fin 36864) c k) = outAt x cf lat b a j c k := by
  have hb := b.isLt; have ha := a.isLt; have hj := j.isLt
  have e1 : idB (ix3 (⟨(b.val * 96 + a.val) * 96 + j.val, h⟩ : Fin 36864) c k) = b := Fin.ext (by show ((b.val * 96 + a.val) * 96 + j.val) / 9216 = b.val; omega)
  have e2 : idA (ix3 (⟨(b.val * 96 + a.val) * 96 + j.val, h⟩ : Fin 36864) c k) = a := Fin.ext (by show ((b.val * 96 + a.val) * 96 + j.val) / 96 % 96 = a.val; omega)
  have e3 : idJ (ix3 (⟨(b.val * 96 + a.val) * 96 + j.val, h⟩ : Fin 36864) c k) = j := Fin.ext (by show ((b.val * 96 + a.val) * 96 + j.val) % 96 = j.val; omega)
  unfold outV5
  rw [e1, e2, e3]
  rfl

/-- One sample, its products associated as the reference's. -/
theorem samp_ideal (x : FVec Ideal S4x96x96x96x2 .f32) (xf : FVec Ideal S4x96x96x2x96 .f32) (hx : ∀ b z y w c, xf (ix5 b z y c w) = x (ix5 b z y w c)) (b : Fin 4) (c : Fin 2) (p q r : Ideal .f32) :
    samp xf b c p q r
      = FloatOps.addf (FloatOps.addf (FloatOps.addf (FloatOps.addf (FloatOps.addf (FloatOps.addf (FloatOps.addf
        (FloatOps.mulf (FloatOps.mulf (FloatOps.mulf (FloatOps.subf (FloatOps.sitofp .f32 (hi1 p)) p) (FloatOps.subf (FloatOps.sitofp .f32 (hi1 q)) q)) (FloatOps.subf (FloatOps.sitofp .f32 (hi1 r)) r)) (x (ix5 b (gl (lo1 r)) (gl (lo1 q)) (gl (lo1 p)) c)))
        (FloatOps.mulf (FloatOps.mulf (FloatOps.mulf (FloatOps.subf (FloatOps.sitofp .f32 (hi1 p)) p) (FloatOps.subf q (FloatOps.sitofp .f32 (lo1 q)))) (FloatOps.subf (FloatOps.sitofp .f32 (hi1 r)) r)) (x (ix5 b (gl (lo1 r)) (gl (hi1 q)) (gl (lo1 p)) c))))
        (FloatOps.mulf (FloatOps.mulf (FloatOps.mulf (FloatOps.subf p (FloatOps.sitofp .f32 (lo1 p))) (FloatOps.subf (FloatOps.sitofp .f32 (hi1 q)) q)) (FloatOps.subf (FloatOps.sitofp .f32 (hi1 r)) r)) (x (ix5 b (gl (lo1 r)) (gl (lo1 q)) (gl (hi1 p)) c))))
        (FloatOps.mulf (FloatOps.mulf (FloatOps.mulf (FloatOps.subf p (FloatOps.sitofp .f32 (lo1 p))) (FloatOps.subf q (FloatOps.sitofp .f32 (lo1 q)))) (FloatOps.subf (FloatOps.sitofp .f32 (hi1 r)) r)) (x (ix5 b (gl (lo1 r)) (gl (hi1 q)) (gl (hi1 p)) c))))
        (FloatOps.mulf (FloatOps.mulf (FloatOps.mulf (FloatOps.subf (FloatOps.sitofp .f32 (hi1 p)) p) (FloatOps.subf (FloatOps.sitofp .f32 (hi1 q)) q)) (FloatOps.subf (FloatOps.sitofp .f32 (hi1 r)) (FloatOps.sitofp .f32 (lo1 r)))) (x (ix5 b (gl (hi1 r)) (gl (lo1 q)) (gl (lo1 p)) c))))
        (FloatOps.mulf (FloatOps.mulf (FloatOps.mulf (FloatOps.subf (FloatOps.sitofp .f32 (hi1 p)) p) (FloatOps.subf q (FloatOps.sitofp .f32 (lo1 q)))) (FloatOps.subf (FloatOps.sitofp .f32 (hi1 r)) (FloatOps.sitofp .f32 (lo1 r)))) (x (ix5 b (gl (hi1 r)) (gl (hi1 q)) (gl (lo1 p)) c))))
        (FloatOps.mulf (FloatOps.mulf (FloatOps.mulf (FloatOps.subf p (FloatOps.sitofp .f32 (lo1 p))) (FloatOps.subf (FloatOps.sitofp .f32 (hi1 q)) q)) (FloatOps.subf (FloatOps.sitofp .f32 (hi1 r)) (FloatOps.sitofp .f32 (lo1 r)))) (x (ix5 b (gl (hi1 r)) (gl (lo1 q)) (gl (hi1 p)) c))))
        (FloatOps.mulf (FloatOps.mulf (FloatOps.mulf (FloatOps.subf p (FloatOps.sitofp .f32 (lo1 p))) (FloatOps.subf q (FloatOps.sitofp .f32 (lo1 q)))) (FloatOps.subf (FloatOps.sitofp .f32 (hi1 r)) (FloatOps.sitofp .f32 (lo1 r)))) (x (ix5 b (gl (hi1 r)) (gl (hi1 q)) (gl (hi1 p)) c))) := by
  unfold samp blend1 blendV
  simp only [addV_at, mulV_at', aboveV_at, belowV_at, gapV_at]
  rw [gap_eq _ _ (hi1_lt r) (lo1_lt r)]
  simp only [mulf_assoc, hx]

/-- The kernel's result is the reference's. -/
theorem value_eq (x : FVec Ideal S4x96x96x96x2 .f32) (θ : FVec Ideal S4x3x4 .f32)
    (h : ∀ (b : Fin 4) (u : Fin 3) (a k j : Fin 96), ((-2147483648 : ℝ) : EReal) ≤ crd (coefsV θ) latV b u a k j) :
    outV (outV5 (x1V x) (coefsV θ) latV) = refT x θ := by
  funext i
  obtain ⟨b, a, j, k, c, rfl⟩ : ∃ (b : Fin 4) (a j k : Fin 96) (c : Fin 2), i = ix5 b a j k c :=
    ⟨i 0, i 1, i 2, i 3, i 4, by funext t; fin_cases t <;> rfl⟩
  have hX : axX θ (ix1 (pt b a j k)) = crd (coefsV θ) latV b 0 a k j := axis_at θ 0 _ b a j k
  have hY : axY θ (ix1 (pt b a j k)) = crd (coefsV θ) latV b 1 a k j := axis_at θ 1 _ b a j k
  have hZ : axZ θ (ix1 (pt b a j k)) = crd (coefsV θ) latV b 2 a k j := axis_at θ 2 _ b a j k
  rw [out_at, outV5_at]
  unfold outAt refT
  rw [samp_ideal x (x1V x) (fun b z y w c => x1_at x b z y w c), cast_out]
  exact (sampT_at x (axX θ) (axY θ) (axZ θ) b a j k c _ _ _ hX hY hZ _ _ _ _ _ _ (low_eq _ _ _ hX (h b 0 a k j)) (upp_eq _ _ _ hX (h b 0 a k j))
    (low_eq _ _ _ hY (h b 1 a k j)) (upp_eq _ _ _ hY (h b 1 a k j)) (low_eq _ _ _ hZ (h b 2 a k j)) (upp_eq _ _ _ hZ (h b 2 a k j))).symm

end Cert.KernelIdeal.Stn
-- ==== Proof.lean ====
/-
  The proof of `Cert.Claim`: the facts that the programs and the precondition state, and then the claims in order.
-/
module

public import proofs.«01_k».proof.Defs
public import proofs.«01_k».proof.Proof.Frame
public import proofs.«01_k».proof.Proof.Range
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_band
public import Idealize.ShloMosaic.Adequacy
public import Idealize.ShloMosaic.Init

@[expose] public section

noncomputable section

namespace Cert.Proof

open Idealize.ShloMosaic Idealize.SL.Sem

/-- The reference runs: its arguments are unchanged, and it has no semaphore. -/
theorem frame_reference : Cert.quiescent_ReferenceIdeal :=
  fun m ρ _ => (θ_run Cert.ReferenceIdeal.defs _ _).mono (fun r h => ⟨fun c => (h c).2, sem_eq_zero_of_no_sems (by decide) r.2⟩) (Cert.ReferenceIdeal.Value.run (F := Ideal) m ρ)

theorem frame_reference_range : Cert.quiescent_ReferenceIdeal_pre_in_range :=
  fun m ρ _ => frame_reference m ρ trivial

open Cert.KernelIdeal.Stn in
/-- What the second precondition gives of a launch. -/
theorem range_of (m : (ℓ : Loc Cert.KernelIdeal.nD Cert.KernelIdeal.τ Cert.KernelIdeal.sig) → Buf (Elt Ideal) ℓ) (h : Cert.Pre_KernelIdeal_in_range m) (d : Dev Cert.KernelIdeal.nD) :
    ∀ i, rangeT (coefsV (θM m d)) latV (paramsV (θM m d)) i = 1#1 :=
  fun i => (congrFun (range_fn_eq (F := Ideal) (m ((SparseCore.T d).loc Cert.KernelIdeal.main_arg0)) _) i).symm.trans (congrFun (h d) i)

open Cert.KernelIdeal.Stn in
/-- The kernel over the extended reals, under the second precondition. -/
theorem run_range (m : (ℓ : Loc Cert.KernelIdeal.nD Cert.KernelIdeal.τ Cert.KernelIdeal.sig) → Buf (Elt Ideal) ℓ) (g : Dev Cert.KernelIdeal.nD → PrngReg) (h : Cert.Pre_KernelIdeal_in_range m) :
    θ_run (Cert.KernelIdeal.defs (F := Ideal)) (Cert.KernelIdeal.threads (F := Ideal)) ⟨m, fun _ => 0, g⟩ fun r =>
      (∀ d : Dev Cert.KernelIdeal.nD, r.2.mem (d.tc.loc Cert.KernelIdeal.main_arg0) = m (d.tc.loc Cert.KernelIdeal.main_arg0)
        ∧ r.2.mem (d.tc.loc Cert.KernelIdeal.main_arg1) = m (d.tc.loc Cert.KernelIdeal.main_arg1) ∧ r.2.mem (d.tc.loc Cert.KernelIdeal.main_v214) = resM m d)
        ∧ r.2.sem = fun _ => 0 :=
  run_main (F := Ideal) m g fun d => hyp_of_check mul_ideal _ fun i => (range_split (θM m d) (range_of m h d) i).1

theorem frame_ideal_range : Cert.quiescent_KernelIdeal_pre_in_range := fun m g h =>
  (θ_run (Cert.KernelIdeal.defs (F := Ideal)) (Cert.KernelIdeal.threads (F := Ideal)) _).mono (fun _ e => ⟨fun c => ⟨(e.1 c).1, (e.1 c).2.1⟩, e.2⟩) (run_range m g h)

open Cert.KernelIdeal.Stn in
/-- The kernel and the reference leave the same result. -/
theorem algebraic : Cert.algebraic_KernelIdeal_ReferenceIdeal_pre_in_range := by
  intro m g m' g' h hargs
  refine ⟨fun c => resM m c, ?_, ?_⟩
  · exact (θ_run (Cert.KernelIdeal.defs (F := Ideal)) (Cert.KernelIdeal.threads (F := Ideal)) _).mono (fun _ e c => ⟨(e.1 c).2.2, (e.1 c).1, (e.1 c).2.1⟩) (run_range m g h)
  · refine (θ_run (Cert.ReferenceIdeal.defs (F := Ideal)) _ _).mono (fun r e c => ⟨(e c).1.trans ?_, (e c).2⟩) (Cert.ReferenceIdeal.Rd.run_ref (F := Ideal) m' g')
    refine Eq.trans ?_ (value_eq (m ((SparseCore.T c).loc Cert.KernelIdeal.main_arg0)) (θM m c) fun b u a k j => crd_ge (θM m c) (range_of m h c) b u a k j).symm
    exact congr (congrArg (Cert.ReferenceIdeal.Rd.refT (F := Ideal)) (hargs c).1) (hargs c).2

theorem claim : Cert.Claim :=
  ⟨Cert.Kernel.Gen.facts, Cert.KernelIdeal.Gen.facts, Cert.ReferenceIdeal.Gen.facts, Cert.Pre_in_band.Gen.facts, Cert.KernelIdeal.Stn.rangeFacts,
    Cert.KernelIdeal.Stn.frame_kernel, Cert.KernelIdeal.Stn.frame_ideal, frame_ideal_range, frame_reference, frame_reference_range, trivial, algebraic⟩

end Cert.Proof

end
